-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2.2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2.2.2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2.2.2.2.2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))).2.2.2.2.2.2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2.2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2.2.2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2.2.2.2.2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))).2.2.2.2.2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)) (v4 : (c : Dev Cert.KernelIdeal.nD) → Buf (Elt Ideal) ((c.tc : Thread Cert.KernelIdeal.nD Cert.KernelIdeal.τ).loc Cert.KernelIdeal.main_v65_4)) (v5 : (c : Dev Cert.KernelIdeal.nD) → Buf (Elt Ideal) ((c.tc : Thread Cert.KernelIdeal.nD Cert.KernelIdeal.τ).loc Cert.KernelIdeal.main_v65_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_v65_4) = v4 c
          ∧ r.2.mem ((c.tc : Thread Cert.KernelIdeal.nD Cert.KernelIdeal.τ).loc Cert.KernelIdeal.main_v65_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v13) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v49) = v0 c
          ∧ r.2.mem ((c.tc : Thread Cert.Reference16Ideal.nD Cert.Reference16Ideal.τ).loc Cert.Reference16Ideal.main_v93) = v1 c
          ∧ r.2.mem ((c.tc : Thread Cert.Reference16Ideal.nD Cert.Reference16Ideal.τ).loc Cert.Reference16Ideal.main_v33) = v2 c
          ∧ r.2.mem ((c.tc : Thread Cert.Reference16Ideal.nD Cert.Reference16Ideal.τ).loc Cert.Reference16Ideal.main_v77) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v50) = v0 c
          ∧ r.2.mem ((c.tc : Thread Cert.Reference17Ideal.nD Cert.Reference17Ideal.τ).loc Cert.Reference17Ideal.main_v34) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v35) = v1 c
          ∧ r.2.mem ((c.tc : Thread Cert.Reference21Ideal.nD Cert.Reference21Ideal.τ).loc Cert.Reference21Ideal.main_v36) = v2 c
          ∧ r.2.mem ((c.tc : Thread Cert.Reference21Ideal.nD Cert.Reference21Ideal.τ).loc Cert.Reference21Ideal.main_v33) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v17) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite3 : Cert.Pre_finite3.Facts) (hPre_finite16 : Cert.Pre_finite16.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8704x1024 : Shape := ⟨2, ![8704, 1024]⟩
abbrev S8704x128 : Shape := ⟨2, ![8704, 128]⟩
abbrev S2176x128 : Shape := ⟨2, ![2176, 128]⟩
abbrev S_ : Shape := ⟨0, ![]⟩

class Facts : Prop where
  bitsLt_bf16_f32 : FTy.bits .bf16 < FTy.bits .f32
  bcast_S_S8704x1024 : S_.BroadcastsInDim S8704x1024 (![] : Fin 0 → Fin S8704x1024.rank)
  bcast_S_S8704x128 : S_.BroadcastsInDim S8704x128 (![] : Fin 0 → Fin S8704x128.rank)
  bcast_S_S2176x128 : S_.BroadcastsInDim S2176x128 (![] : Fin 0 → Fin S2176x128.rank)

variable [Facts]

def fn_part1 {F : FTy → Type} [FloatOps F] (main_arg6 : FVec F S8704x1024 .bf16) (main_arg7 : FVec F S2176x128 .f32) (main_arg8 : FVec F S2176x128 .f32) (main_v3 : IVec S8704x1024 1) (main_v6 : IVec S8704x1024 1) (main_v9 : IVec S8704x1024 1) (main_v13 : IVec S8704x1024 1) (main_v17 : IVec S8704x128 1) (main_v18 : FVec F S8704x1024 .f32) : IVec S8704x1024 1 × IVec S8704x1024 1 × IVec S8704x1024 1 × IVec S8704x1024 1 × IVec S8704x128 1 × IVec S8704x1024 1 × IVec S8704x1024 1 × IVec S2176x128 1 × IVec S2176x128 1 :=
  let main_v19 : FVec F S8704x1024 .f32 := Host.absf main_v18
  let main_cst_4 : FVec F S_ .f32 := constant S_ .f32 0x7F800000#32
  let main_v20 : FVec F S8704x1024 .f32 := broadcastInDim S8704x1024 ![] bcast_S_S8704x1024 main_cst_4
  let main_v21 : IVec S8704x1024 1 := cmpf .olt main_v19 main_v20
  let main_v22 : FVec F S8704x1024 .f32 := (extf .f32 · bitsLt_bf16_f32) main_arg6
  let main_v23 : FVec F S8704x1024 .f32 := Host.absf main_v22
  let main_cst_5 : FVec F S_ .f32 := constant S_ .f32 0x7F800000#32
  let main_v24 : FVec F S8704x1024 .f32 := broadcastInDim S8704x1024 ![] bcast_S_S8704x1024 main_cst_5
  let main_v25 : IVec S8704x1024 1 := cmpf .olt main_v23 main_v24
  let main_v26 : FVec F S2176x128 .f32 := Host.absf main_arg7
  let main_cst_6 : FVec F S_ .f32 := constant S_ .f32 0x7F800000#32
  let main_v27 : FVec F S2176x128 .f32 := broadcastInDim S2176x128 ![] bcast_S_S2176x128 main_cst_6
  let main_v28 : IVec S2176x128 1 := cmpf .olt main_v26 main_v27
  let main_v29 : FVec F S2176x128 .f32 := Host.absf main_arg8
  let main_cst_7 : FVec F S_ .f32 := constant S_ .f32 0x7F800000#32
  let main_v30 : FVec F S2176x128 .f32 := broadcastInDim S2176x128 ![] bcast_S_S2176x128 main_cst_7
  let main_v31 : IVec S2176x128 1 := cmpf .olt main_v29 main_v30
  (main_v3, main_v6, main_v9, main_v13, main_v17, main_v21, main_v25, main_v28, main_v31)

def fn {F : FTy → Type} [FloatOps F] (main_arg0 : FVec F S8704x1024 .bf16) (main_arg1 : FVec F S8704x1024 .f32) (main_arg2 : FVec F S8704x1024 .f32) (main_arg3 : FVec F S8704x1024 .bf16) (main_arg4 : FVec F S8704x128 .bf16) (main_arg5 : FVec F S8704x1024 .bf16) (main_arg6 : FVec F S8704x1024 .bf16) (main_arg7 : FVec F S2176x128 .f32) (main_arg8 : FVec F S2176x128 .f32) : IVec S8704x1024 1 × IVec S8704x1024 1 × IVec S8704x1024 1 × IVec S8704x1024 1 × IVec S8704x128 1 × IVec S8704x1024 1 × IVec S8704x1024 1 × IVec S2176x128 1 × IVec S2176x128 1 :=
  let main_v0 : FVec F S8704x1024 .f32 := (extf .f32 · bitsLt_bf16_f32) main_arg0
  let main_v1 : FVec F S8704x1024 .f32 := Host.absf main_v0
  let main_cst : FVec F S_ .f32 := constant S_ .f32 0x7F800000#32
  let main_v2 : FVec F S8704x1024 .f32 := broadcastInDim S8704x1024 ![] bcast_S_S8704x1024 main_cst
  let main_v3 : IVec S8704x1024 1 := cmpf .olt main_v1 main_v2
  let main_v4 : FVec F S8704x1024 .f32 := Host.absf main_arg1
  let main_cst_0 : FVec F S_ .f32 := constant S_ .f32 0x7F800000#32
  let main_v5 : FVec F S8704x1024 .f32 := broadcastInDim S8704x1024 ![] bcast_S_S8704x1024 main_cst_0
  let main_v6 : IVec S8704x1024 1 := cmpf .olt main_v4 main_v5
  let main_v7 : FVec F S8704x1024 .f32 := Host.absf main_arg2
  let main_cst_1 : FVec F S_ .f32 := constant S_ .f32 0x7F800000#32
  let main_v8 : FVec F S8704x1024 .f32 := broadcastInDim S8704x1024 ![] bcast_S_S8704x1024 main_cst_1
  let main_v9 : IVec S8704x1024 1 := cmpf .olt main_v7 main_v8
  let main_v10 : FVec F S8704x1024 .f32 := (extf .f32 · bitsLt_bf16_f32) main_arg3
  let main_v11 : FVec F S8704x1024 .f32 := Host.absf main_v10
  let main_cst_2 : FVec F S_ .f32 := constant S_ .f32 0x7F800000#32
  let main_v12 : FVec F S8704x1024 .f32 := broadcastInDim S8704x1024 ![] bcast_S_S8704x1024 main_cst_2
  let main_v13 : IVec S8704x1024 1 := cmpf .olt main_v11 main_v12
  let main_v14 : FVec F S8704x128 .f32 := (extf .f32 · bitsLt_bf16_f32) main_arg4
  let main_v15 : FVec F S8704x128 .f32 := Host.absf main_v14
  let main_cst_3 : FVec F S_ .f32 := constant S_ .f32 0x7F800000#32
  let main_v16 : FVec F S8704x128 .f32 := broadcastInDim S8704x128 ![] bcast_S_S8704x128 main_cst_3
  let main_v17 : IVec S8704x128 1 := cmpf .olt main_v15 main_v16
  let main_v18 : FVec F S8704x1024 .f32 := (extf .f32 · bitsLt_bf16_f32) main_arg5
  fn_part1 (F := F) main_arg6 main_arg7 main_arg8 main_v3 main_v6 main_v9 main_v13 main_v17 main_v18
-- ==== Pre_finite16.lean ====
abbrev S8704x2816 : Shape := ⟨2, ![8704, 2816]⟩
abbrev S1024x5632 : Shape := ⟨2, ![1024, 5632]⟩
abbrev S8704x1024 : Shape := ⟨2, ![8704, 1024]⟩
abbrev S1x1024 : Shape := ⟨2, ![1, 1024]⟩
abbrev S_ : Shape := ⟨0, ![]⟩

class Facts : Prop where
  bitsLt_bf16_f32 : FTy.bits .bf16 < FTy.bits .f32
  bcast_S_S8704x2816 : S_.BroadcastsInDim S8704x2816 (![] : Fin 0 → Fin S8704x2816.rank)
  bcast_S_S1024x5632 : S_.BroadcastsInDim S1024x5632 (![] : Fin 0 → Fin S1024x5632.rank)
  bcast_S_S8704x1024 : S_.BroadcastsInDim S8704x1024 (![] : Fin 0 → Fin S8704x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v3 : IVec S8704x2816 1) (main_v7 : IVec S8704x2816 1) (main_v11 : IVec S1024x5632 1) (main_v14 : IVec S8704x1024 1) (main_v17 : IVec S8704x1024 1) (main_v18 : FVec F S8704x1024 .f32) : IVec S8704x2816 1 × IVec S8704x2816 1 × IVec S1024x5632 1 × IVec S8704x1024 1 × IVec S8704x1024 1 × IVec S8704x1024 1 × IVec S1x1024 1 × IVec S1x1024 1 :=
  let main_cst_4 : FVec F S_ .f32 := constant S_ .f32 0x7F800000#32
  let main_v19 : FVec F S8704x1024 .f32 := broadcastInDim S8704x1024 ![] bcast_S_S8704x1024 main_cst_4
  let main_v20 : IVec S8704x1024 1 := cmpf .olt main_v18 main_v19
  let main_v21 : FVec F S1x1024 .f32 := Host.absf main_arg6
  let main_cst_5 : FVec F S_ .f32 := constant S_ .f32 0x7F800000#32
  let main_v22 : FVec F S1x1024 .f32 := broadcastInDim S1x1024 ![] bcast_S_S1x1024 main_cst_5
  let main_v23 : IVec S1x1024 1 := cmpf .olt main_v21 main_v22
  let main_v24 : FVec F S1x1024 .f32 := Host.absf main_arg7
  let main_cst_6 : FVec F S_ .f32 := constant S_ .f32 0x7F800000#32
  let main_v25 : FVec F S1x1024 .f32 := broadcastInDim S1x1024 ![] bcast_S_S1x1024 main_cst_6
  let main_v26 : IVec S1x1024 1 := cmpf .olt main_v24 main_v25
  (main_v3, main_v7, main_v11, main_v14, main_v17, main_v20, main_v23, main_v26)

def fn {F : FTy → Type} [FloatOps F] (main_arg0 : FVec F S8704x2816 .bf16) (main_arg1 : FVec F S8704x2816 .bf16) (main_arg2 : FVec F S1024x5632 .bf16) (main_arg3 : FVec F S8704x1024 .f32) (main_arg4 : FVec F S8704x1024 .f32) (main_arg5 : FVec F S8704x1024 .f32) (main_arg6 : FVec F S1x1024 .f32) (main_arg7 : FVec F S1x1024 .f32) : IVec S8704x2816 1 × IVec S8704x2816 1 × IVec S1024x5632 1 × IVec S8704x1024 1 × IVec S8704x1024 1 × IVec S8704x1024 1 × IVec S1x1024 1 × IVec S1x1024 1 :=
  let main_v0 : FVec F S8704x2816 .f32 := (extf .f32 · bitsLt_bf16_f32) main_arg0
  let main_v1 : FVec F S8704x2816 .f32 := Host.absf main_v0
  let main_cst : FVec F S_ .f32 := constant S_ .f32 0x7F800000#32
  let main_v2 : FVec F S8704x2816 .f32 := broadcastInDim S8704x2816 ![] bcast_S_S8704x2816 main_cst
  let main_v3 : IVec S8704x2816 1 := cmpf .olt main_v1 main_v2
  let main_v4 : FVec F S8704x2816 .f32 := (extf .f32 · bitsLt_bf16_f32) main_arg1
  let main_v5 : FVec F S8704x2816 .f32 := Host.absf main_v4
  let main_cst_0 : FVec F S_ .f32 := constant S_ .f32 0x7F800000#32
  let main_v6 : FVec F S8704x2816 .f32 := broadcastInDim S8704x2816 ![] bcast_S_S8704x2816 main_cst_0
  let main_v7 : IVec S8704x2816 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S8704x1024 .f32 := Host.absf main_arg3
  let main_cst_2 : FVec F S_ .f32 := constant S_ .f32 0x7F800000#32
  let main_v13 : FVec F S8704x1024 .f32 := broadcastInDim S8704x1024 ![] bcast_S_S8704x1024 main_cst_2
  let main_v14 : IVec S8704x1024 1 := cmpf .olt main_v12 main_v13
  let main_v15 : FVec F S8704x1024 .f32 := Host.absf main_arg4
  let main_cst_3 : FVec F S_ .f32 := constant S_ .f32 0x7F800000#32
  let main_v16 : FVec F S8704x1024 .f32 := broadcastInDim S8704x1024 ![] bcast_S_S8704x1024 main_cst_3
  let main_v17 : IVec S8704x1024 1 := cmpf .olt main_v15 main_v16
  let main_v18 : FVec F S8704x1024 .f32 := Host.absf main_arg5
  fn_part1 (F := F) main_arg6 main_arg7 main_v3 main_v7 main_v11 main_v14 main_v17 main_v18
-- ==== Pre_finite17.lean ====
abbrev S8704x4096 : Shape := ⟨2, ![8704, 4096]⟩
abbrev S8704x1024 : Shape := ⟨2, ![8704, 1024]⟩
abbrev S8704x2048 : Shape := ⟨2, ![8704, 2048]⟩
abbrev S1024x7168 : Shape := ⟨2, ![1024, 7168]⟩
abbrev S1x1024 : Shape := ⟨2, ![1, 1024]⟩
abbrev S_ : Shape := ⟨0, ![]⟩

class Facts : Prop where
  bitsLt_bf16_f32 : FTy.bits .bf16 < FTy.bits .f32
  bcast_S_S8704x4096 : S_.BroadcastsInDim S8704x4096 (![] : Fin 0 → Fin S8704x4096.rank)
  bcast_S_S8704x1024 : S_.BroadcastsInDim S8704x1024 (![] : Fin 0 → Fin S8704x1024.rank)
  bcast_S_S8704x2048 : S_.BroadcastsInDim S8704x2048 (![] : Fin 0 → Fin S8704x2048.rank)
  bcast_S_S1024x7168 : S_.BroadcastsInDim S1024x7168 (![] : Fin 0 → Fin S1024x7168.rank)
  bcast_S_S1x1024 : S_.BroadcastsInDim S1x1024 (![] : Fin 0 → Fin S1x1024.rank)

variable [Facts]

def fn_part1 {F : FTy → Type} [FloatOps F] (main_arg6 : FVec F S1x1024 .f32) (main_v3 : IVec S8704x4096 1) (main_v7 : IVec S8704x1024 1) (main_v11 : IVec S8704x2048 1) (main_v15 : IVec S1024x7168 1) (main_v18 : IVec S8704x1024 1) : IVec S8704x4096 1 × IVec S8704x1024 1 × IVec S8704x2048 1 × IVec S1024x7168 1 × IVec S8704x1024 1 × IVec S1x1024 1 :=
  let main_v19 : FVec F S1x1024 .f32 := Host.absf main_arg6
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  (main_v3, main_v7, main_v11, main_v15, main_v18, main_v21)

def fn {F : FTy → Type} [FloatOps F] (main_arg0 : FVec F S8704x4096 .bf16) (main_arg1 : FVec F S8704x1024 .bf16) (main_arg2 : FVec F S8704x2048 .bf16) (main_arg3 : FVec F S1024x7168 .bf16) (main_arg4 : FVec F S8704x1024 .f32) (main_arg5 : FVec F S8704x1024 .f32) (main_arg6 : FVec F S1x1024 .f32) : IVec S8704x4096 1 × IVec S8704x1024 1 × IVec S8704x2048 1 × IVec S1024x7168 1 × IVec S8704x1024 1 × IVec S1x1024 1 :=
  let main_v0 : FVec F S8704x4096 .f32 := (extf .f32 · bitsLt_bf16_f32) main_arg0
  let main_v1 : FVec F S8704x4096 .f32 := Host.absf main_v0
  let main_cst : FVec F S_ .f32 := constant S_ .f32 0x7F800000#32
  let main_v2 : FVec F S8704x4096 .f32 := broadcastInDim S8704x4096 ![] bcast_S_S8704x4096 main_cst
  let main_v3 : IVec S8704x4096 1 := cmpf .olt main_v1 main_v2
  let main_v4 : FVec F S8704x1024 .f32 := (extf .f32 · bitsLt_bf16_f32) main_arg1
  let main_v5 : FVec F S8704x1024 .f32 := Host.absf main_v4
  let main_cst_0 : FVec F S_ .f32 := constant S_ .f32 0x7F800000#32
  let main_v6 : FVec F S8704x1024 .f32 := broadcastInDim S8704x1024 ![] bcast_S_S8704x1024 main_cst_0
  let main_v7 : IVec S8704x1024 1 := cmpf .olt main_v5 main_v6
  let main_v8 : FVec F S8704x2048 .f32 := (extf .f32 · bitsLt_bf16_f32) main_arg2
  let main_v9 : FVec F S8704x2048 .f32 := Host.absf main_v8
  let main_cst_1 : FVec F S_ .f32 := constant S_ .f32 0x7F800000#32
  let main_v10 : FVec F S8704x2048 .f32 := broadcastInDim S8704x2048 ![] bcast_S_S8704x2048 main_cst_1
  let main_v11 : IVec S8704x2048 1 := cmpf .olt main_v9 main_v10
  let main_v12 : FVec F S1024x7168 .f32 := (extf .f32 · bitsLt_bf16_f32) main_arg3
  let main_v13 : FVec F S1024x7168 .f32 := Host.absf main_v12
  let main_cst_2 : FVec F S_ .f32 := constant S_ .f32 0x7F800000#32
  let main_v14 : FVec F S1024x7168 .f32 := broadcastInDim S1024x7168 ![] bcast_S_S1024x7168 main_cst_2
  let main_v15 : IVec S1024x7168 1 := cmpf .olt main_v13 main_v14
  let main_v16 : FVec F S8704x1024 .f32 := Host.absf main_arg4
  let main_cst_3 : FVec F S_ .f32 := constant S_ .f32 0x7F800000#32
  let main_v17 : FVec F S8704x1024 .f32 := broadcastInDim S8704x1024 ![] bcast_S_S8704x1024 main_cst_3
  let main_v18 : IVec S8704x1024 1 := cmpf .olt main_v16 main_v17
  fn_part1 (F := F) main_arg6 main_v3 main_v7 main_v11 main_v15 main_v18
-- ==== Pre_finite2.lean ====
abbrev S8704x2816 : Shape := ⟨2, ![8704, 2816]⟩
abbrev S2816x1024 : Shape := ⟨2, ![2816, 1024]⟩
abbrev S8704x1024 : Shape := ⟨2, ![8704, 1024]⟩
abbrev S_ : Shape := ⟨0, ![]⟩

class Facts : Prop where
  bcast_S_S8704x2816 : S_.BroadcastsInDim S8704x2816 (![] : Fin 0 → Fin S8704x2816.rank)
  bitsLt_bf16_f32 : FTy.bits .bf16 < FTy.bits .f32
  bcast_S_S2816x1024 : S_.BroadcastsInDim S2816x1024 (![] : Fin 0 → Fin S2816x1024.rank)
  bcast_S_S8704x1024 : S_.BroadcastsInDim S8704x1024 (![] : Fin 0 → Fin S8704x1024.rank)

variable [Facts]

def fn {F : FTy → Type} [FloatOps F] (main_arg0 : FVec F S8704x2816 .f32) (main_arg1 : FVec F S8704x2816 .f32) (main_arg2 : FVec F S2816x1024 .bf16) (main_arg3 : FVec F S8704x1024 .bf16) : IVec S8704x2816 1 × IVec S8704x2816 1 × IVec S2816x1024 1 × IVec S8704x1024 1 :=
  let main_v0 : FVec F S8704x2816 .f32 := Host.absf main_arg0
  let main_cst : FVec F S_ .f32 := constant S_ .f32 0x7F800000#32
  let main_v1 : FVec F S8704x2816 .f32 := broadcastInDim S8704x2816 ![] bcast_S_S8704x2816 main_cst
  let main_v2 : IVec S8704x2816 1 := cmpf .olt main_v0 main_v1
  let main_v3 : FVec F S8704x2816 .f32 := Host.absf main_arg1
  let main_cst_0 : FVec F S_ .f32 := constant S_ .f32 0x7F800000#32
  let main_v4 : FVec F S8704x2816 .f32 := broadcastInDim S8704x2816 ![] bcast_S_S8704x2816 main_cst_0
  let main_v5 : IVec S8704x2816 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S8704x1024 .f32 := (extf .f32 · bitsLt_bf16_f32) main_arg3
  let main_v11 : FVec F S8704x1024 .f32 := Host.absf main_v10
  let main_cst_2 : FVec F S_ .f32 := constant S_ .f32 0x7F800000#32
  let main_v12 : FVec F S8704x1024 .f32 := broadcastInDim S8704x1024 ![] bcast_S_S8704x1024 main_cst_2
  let main_v13 : IVec S8704x1024 1 := cmpf .olt main_v11 main_v12
  (main_v2, main_v5, main_v9, main_v13)
-- ==== Pre_finite3.lean ====
abbrev S8704x1024 : Shape := ⟨2, ![8704, 1024]⟩
abbrev S1024x5632 : Shape := ⟨2, ![1024, 5632]⟩
abbrev S_ : Shape := ⟨0, ![]⟩

class Facts : Prop where
  bitsLt_bf16_f32 : FTy.bits .bf16 < FTy.bits .f32
  bcast_S_S8704x1024 : S_.BroadcastsInDim S8704x1024 (![] : Fin 0 → Fin S8704x1024.rank)
  bcast_S_S1024x5632 : S_.BroadcastsInDim S1024x5632 (![] : Fin 0 → Fin S1024x5632.rank)

variable [Facts]

def fn {F : FTy → Type} [FloatOps F] (main_arg0 : FVec F S8704x1024 .bf16) (main_arg1 : FVec F S1024x5632 .bf16) : IVec S8704x1024 1 × IVec S1024x5632 1 :=
  let main_v0 : FVec F S8704x1024 .f32 := (extf .f32 · bitsLt_bf16_f32) main_arg0
  let main_v1 : FVec F S8704x1024 .f32 := Host.absf main_v0
  let main_cst : FVec F S_ .f32 := constant S_ .f32 0x7F800000#32
  let main_v2 : FVec F S8704x1024 .f32 := broadcastInDim S8704x1024 ![] bcast_S_S8704x1024 main_cst
  let main_v3 : IVec S8704x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  (main_v3, main_v7)
-- ==== Kernel.lean ====
abbrev S8704x1024 : Shape := ⟨2, ![8704, 1024]⟩
abbrev S8704x128 : Shape := ⟨2, ![8704, 128]⟩
abbrev S2176x128 : Shape := ⟨2, ![2176, 128]⟩
abbrev S4x2176x8x128 : Shape := ⟨4, ![4, 2176, 8, 128]⟩
abbrev S1x2176x1x128 : Shape := ⟨4, ![1, 2176, 1, 128]⟩
abbrev S4x2176x8x256 : Shape := ⟨4, ![4, 2176, 8, 256]⟩
abbrev S8704x2048 : Shape := ⟨2, ![8704, 2048]⟩
abbrev S4x2176x128 : Shape := ⟨3, ![4, 2176, 128]⟩
abbrev S4x8x2176x2176 : Shape := ⟨4, ![4, 8, 2176, 2176]⟩
abbrev S4x2176x2176x8 : Shape := ⟨4, ![4, 2176, 2176, 8]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S1x1x2176x2176 : Shape := ⟨4, ![1, 1, 2176, 2176]⟩
abbrev S_ : Shape := ⟨0, ![]⟩
abbrev S4x8x2176 : Shape := ⟨3, ![4, 8, 2176]⟩
abbrev S4x8x2176x1 : Shape := ⟨4, ![4, 8, 2176, 1]⟩
abbrev S4x8x128x2176 : Shape := ⟨4, ![4, 8, 128, 2176]⟩
abbrev S4x2176x8x1 : Shape := ⟨4, ![4, 2176, 8, 1]⟩
abbrev S2176x256 : Shape := ⟨2, ![2176, 256]⟩
abbrev S256x2176 : Shape := ⟨2, ![256, 2176]⟩
abbrev S8x128 : Shape := ⟨2, ![8, 128]⟩
abbrev S8x2176 : Shape := ⟨2, ![8, 2176]⟩
abbrev S256x256 : Shape := ⟨2, ![256, 256]⟩
abbrev S256x128 : Shape := ⟨2, ![256, 128]⟩
abbrev S1x256 : Shape := ⟨2, ![1, 256]⟩
abbrev S512x256 : Shape := ⟨2, ![512, 256]⟩
abbrev S512x128 : Shape := ⟨2, ![512, 128]⟩
abbrev S256x512 : Shape := ⟨2, ![256, 512]⟩
abbrev S768x256 : Shape := ⟨2, ![768, 256]⟩
abbrev S768x128 : Shape := ⟨2, ![768, 128]⟩
abbrev S256x768 : Shape := ⟨2, ![256, 768]⟩
abbrev S1024x256 : Shape := ⟨2, ![1024, 256]⟩
abbrev S1024x128 : Shape := ⟨2, ![1024, 128]⟩
abbrev S256x1024 : Shape := ⟨2, ![256, 1024]⟩
abbrev S128x256 : Shape := ⟨2, ![128, 256]⟩
abbrev S128x128 : Shape := ⟨2, ![128, 128]⟩
abbrev S1x128 : Shape := ⟨2, ![1, 128]⟩

abbrev nBuf : Space → Nat
  | .hbm => 87
  | .vmem => 30
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S8704x1024, .f32⟩
  | .hbm, ⟨3, _⟩ => ⟨S8704x1024, .bf16⟩
  | .hbm, ⟨4, _⟩ => ⟨S8704x128, .bf16⟩
  | .hbm, ⟨5, _⟩ => ⟨S8704x1024, .bf16⟩
  | .hbm, ⟨6, _⟩ => ⟨S8704x1024, .bf16⟩
  | .hbm, ⟨7, _⟩ => ⟨S2176x128, .f32⟩
  | .hbm, ⟨8, _⟩ => ⟨S2176x128, .f32⟩
  | .hbm, ⟨9, _⟩ => ⟨S4x2176x8x128, .f32⟩
  | .hbm, ⟨10, _⟩ => ⟨S1x2176x1x128, .f32⟩
  | .hbm, ⟨11, _⟩ => ⟨S4x2176x8x128, .f32⟩
  | .hbm, ⟨12, _⟩ => ⟨S4x2176x8x128, .f32⟩
  | .hbm, ⟨13, _⟩ => ⟨S4x2176x8x128, .f32⟩
  | .hbm, ⟨14, _⟩ => ⟨S1x2176x1x128, .f32⟩
  | .hbm, ⟨15, _⟩ => ⟨S4x2176x8x128, .f32⟩
  | .hbm, ⟨16, _⟩ => ⟨S4x2176x8x128, .f32⟩
  | .hbm, ⟨17, _⟩ => ⟨S4x2176x8x128, .f32⟩
  | .hbm, ⟨18, _⟩ => ⟨S8704x1024, .f32⟩
  | .hbm, ⟨19, _⟩ => ⟨S4x2176x8x128, .f32⟩
  | .hbm, ⟨20, _⟩ => ⟨S4x2176x8x256, .f32⟩
  | .hbm, ⟨21, _⟩ => ⟨S8704x2048, .f32⟩
  | .hbm, ⟨22, _⟩ => ⟨S8704x2048, .bf16⟩
  | .hbm, ⟨23, _⟩ => ⟨S8704x2048, .bf16⟩
  | .hbm, ⟨24, _⟩ => ⟨S8704x1024, .f32⟩
  | .hbm, ⟨25, _⟩ => ⟨S4x2176x8x128, .f32⟩
  | .hbm, ⟨26, _⟩ => ⟨S4x2176x8x128, .f32⟩
  | .hbm, ⟨27, _⟩ => ⟨S4x2176x8x128, .f32⟩
  | .hbm, ⟨28, _⟩ => ⟨S8704x1024, .f32⟩
  | .hbm, ⟨29, _⟩ => ⟨S4x2176x8x128, .f32⟩
  | .hbm, ⟨30, _⟩ => ⟨S8704x128, .f32⟩
  | .hbm, ⟨31, _⟩ => ⟨S4x2176x128, .f32⟩
  | .hbm, ⟨32, _⟩ => ⟨S1x2176x1x128, .f32⟩
  | .hbm, ⟨33, _⟩ => ⟨S4x2176x8x128, .f32⟩
  | .hbm, ⟨34, _⟩ => ⟨S4x2176x8x128, .f32⟩
  | .hbm, ⟨35, _⟩ => ⟨S1x2176x1x128, .f32⟩
  | .hbm, ⟨36, _⟩ => ⟨S4x2176x8x128, .f32⟩
  | .hbm, ⟨37, _⟩ => ⟨S4x2176x8x128, .f32⟩
  | .hbm, ⟨38, _⟩ => ⟨S4x2176x8x128, .f32⟩
  | .hbm, ⟨39, _⟩ => ⟨S4x8x2176x2176, .f32⟩
  | .hbm, ⟨40, _⟩ => ⟨S4x2176x2176x8, .f32⟩
  | .hbm, ⟨41, _⟩ => ⟨S4x8x2176x2176, .f32⟩
  | .hbm, ⟨42, _⟩ => ⟨S4x8x2176x2176, .f32⟩
  | .hbm, ⟨43, _⟩ => ⟨S2176, .i32⟩
  | .hbm, ⟨44, _⟩ => ⟨S1x2176, .i32⟩
  | .hbm, ⟨45, _⟩ => ⟨S2176, .i32⟩
  | .hbm, ⟨46, _⟩ => ⟨S2176x1, .i32⟩
  | .hbm, ⟨47, _⟩ => ⟨S2176x2176, .i32⟩
  | .hbm, ⟨48, _⟩ => ⟨S2176x2176, .i32⟩
  | .hbm, ⟨49, _⟩ => ⟨S2176x2176, .i1⟩
  | .hbm, ⟨50, _⟩ => ⟨S1x1x2176x2176, .i1⟩
  | .hbm, ⟨51, _⟩ => ⟨S_, .f32⟩
  | .hbm, ⟨52, _⟩ => ⟨S4x8x2176x2176, .f32⟩
  | .hbm, ⟨53, _⟩ => ⟨S4x8x2176x2176, .f32⟩
  | .hbm, ⟨54, _⟩ => ⟨S_, .f32⟩
  | .hbm, ⟨55, _⟩ => ⟨S_, .f32⟩
  | .hbm, ⟨56, _⟩ => ⟨S4x8x2176x2176, .i1⟩
  | .hbm, ⟨57, _⟩ => ⟨S4x8x2176x2176, .f32⟩
  | .hbm, ⟨58, _⟩ => ⟨S4x8x2176x2176, .f32⟩
  | .hbm, ⟨59, _⟩ => ⟨S_, .f32⟩
  | .hbm, ⟨60, _⟩ => ⟨S4x8x2176, .f32⟩
  | .hbm, ⟨61, _⟩ => ⟨S4x8x2176x1, .f32⟩
  | .hbm, ⟨62, _⟩ => ⟨S4x8x2176x2176, .f32⟩
  | .hbm, ⟨63, _⟩ => ⟨S4x8x2176x2176, .f32⟩
  | .hbm, ⟨64, _⟩ => ⟨S4x8x2176x2176, .f32⟩
  | .hbm, ⟨65, _⟩ => ⟨S_, .f32⟩
  | .hbm, ⟨66, _⟩ => ⟨S4x8x2176, .f32⟩
  | .hbm, ⟨67, _⟩ => ⟨S4x8x2176x1, .f32⟩
  | .hbm, ⟨68, _⟩ => ⟨S4x8x2176x2176, .f32⟩
  | .hbm, ⟨69, _⟩ => ⟨S4x8x2176x2176, .f32⟩
  | .hbm, ⟨70, _⟩ => ⟨S8704x1024, .f32⟩
  | .hbm, ⟨71, _⟩ => ⟨S4x2176x8x128, .f32⟩
  | .hbm, ⟨72, _⟩ => ⟨S4x8x128x2176, .f32⟩
  | .hbm, ⟨73, _⟩ => ⟨S4x2176x8x128, .f32⟩
  | .hbm, ⟨74, _⟩ => ⟨S8704x1024, .f32⟩
  | .hbm, ⟨75, _⟩ => ⟨S8704x1024, .bf16⟩
  | .hbm, ⟨76, _⟩ => ⟨S4x8x2176x1, .f32⟩
  | .hbm, ⟨77, _⟩ => ⟨S4x8x2176x1, .f32⟩
  | .hbm, ⟨78, _⟩ => ⟨S4x2176x8x1, .f32⟩
  | .hbm, ⟨79, _⟩ => ⟨S4x2176x8x128, .f32⟩
  | .hbm, ⟨80, _⟩ => ⟨S8704x1024, .f32⟩
  | .hbm, ⟨81, _⟩ => ⟨S8704x1024, .bf16⟩
  | .hbm, ⟨82, _⟩ => ⟨S8704x1024, .bf16⟩
  | .hbm, ⟨83, _⟩ => ⟨S8704x1024, .bf16⟩
  | .hbm, ⟨84, _⟩ => ⟨S8704x1024, .bf16⟩
  | .hbm, ⟨85, _⟩ => ⟨S8704x128, .f32⟩
  | .hbm, ⟨86, _⟩ => ⟨S8704x1024, .bf16⟩
  | .local _ .vmem, ⟨0, _⟩ => ⟨S2176x256, .bf16⟩
  | .local _ .vmem, ⟨1, _⟩ => ⟨S2176x256, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S2176x128, .bf16⟩
  | .local _ .vmem, ⟨9, _⟩ => ⟨S2176x128, .bf16⟩
  | .local _ .vmem, ⟨10, _⟩ => ⟨S2176x128, .bf16⟩
  | .local _ .vmem, ⟨11, _⟩ => ⟨S2176x128, .bf16⟩
  | .local _ .vmem, ⟨12, _⟩ => ⟨S2176x128, .f32⟩
  | .local _ .vmem, ⟨13, _⟩ => ⟨S2176x128, .f32⟩
  | .local _ .vmem, ⟨14, _⟩ => ⟨S2176x128, .f32⟩
  | .local _ .vmem, ⟨15, _⟩ => ⟨S2176x128, .f32⟩
  | .local _ .vmem, ⟨16, _⟩ => ⟨S2176x128, .bf16⟩
  | .local _ .vmem, ⟨17, _⟩ => ⟨S2176x128, .bf16⟩
  | .local _ .vmem, ⟨18, _⟩ => ⟨S2176x128, .bf16⟩
  | .local _ .vmem, ⟨19, _⟩ => ⟨S2176x128, .bf16⟩
  | .local _ .vmem, ⟨20, _⟩ => ⟨S2176x128, .bf16⟩
  | .local _ .vmem, ⟨21, _⟩ => ⟨S2176x128, .bf16⟩
  | .local _ .vmem, ⟨22, _⟩ => ⟨S2176x128, .bf16⟩
  | .local _ .vmem, ⟨23, _⟩ => ⟨S2176x128, .bf16⟩
  | .local _ .vmem, ⟨24, _⟩ => ⟨S2176x128, .f32⟩
  | .local _ .vmem, ⟨25, _⟩ => ⟨S2176x128, .f32⟩
  | .local _ .vmem, ⟨26, _⟩ => ⟨S2176x128, .bf16⟩
  | .local _ .vmem, ⟨27, _⟩ => ⟨S2176x128, .bf16⟩
  | .local _ .vmem, ⟨28, _⟩ => ⟨S2176x256, .f32⟩
  | .local _ .vmem, ⟨29, _⟩ => ⟨S2176x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst : Ref sig .tc := ⟨.hbm, 51, rfl⟩
abbrev main_v42 : Ref sig .tc := ⟨.hbm, 52, rfl⟩
abbrev main_v43 : Ref sig .tc := ⟨.hbm, 53, rfl⟩
abbrev main_cst_0 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65_0 : Ref sig .tc := ⟨.hbm, 81, rfl⟩
abbrev main_v65_1 : Ref sig .tc := ⟨.hbm, 82, rfl⟩
abbrev main_v65_2 : Ref sig .tc := ⟨.hbm, 83, rfl⟩
abbrev main_v65_3 : Ref sig .tc := ⟨.hbm, 84, rfl⟩
abbrev main_v65_4 : Ref sig .tc := ⟨.hbm, 85, rfl⟩
abbrev main_v65_5 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2176x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2176x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2176x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2176x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2176x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2176x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8704x1024 : Shape := ⟨2, ![8704, 1024]⟩
abbrev S8704x128 : Shape := ⟨2, ![8704, 128]⟩
abbrev S2176x128 : Shape := ⟨2, ![2176, 128]⟩
abbrev S4x2176x8x128 : Shape := ⟨4, ![4, 2176, 8, 128]⟩
abbrev S4x2176x128 : Shape := ⟨3, ![4, 2176, 128]⟩
abbrev S1x2176x1x128 : Shape := ⟨4, ![1, 2176, 1, 128]⟩
abbrev S4x8x2176x2176 : Shape := ⟨4, ![4, 8, 2176, 2176]⟩
abbrev S4x2176x2176x8 : Shape := ⟨4, ![4, 2176, 2176, 8]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S1x1x2176x2176 : Shape := ⟨4, ![1, 1, 2176, 2176]⟩
abbrev S_ : Shape := ⟨0, ![]⟩
abbrev S4x8x2176 : Shape := ⟨3, ![4, 8, 2176]⟩
abbrev S4x8x2176x1 : Shape := ⟨4, ![4, 8, 2176, 1]⟩
abbrev S4x8x128x2176 : Shape := ⟨4, ![4, 8, 128, 2176]⟩
abbrev S4x8x2176x128 : Shape := ⟨4, ![4, 8, 2176, 128]⟩

abbrev nBuf : Space → Nat
  | .hbm => 136
  | .vmem => 0
  | .smem => 0
  | _ => 0

abbrev hbmTy0_0 (i : Nat) : BufTy := match i % 128 with
  | 0 => ⟨S8704x1024, .bf16⟩
  | 1 => ⟨S8704x1024, .f32⟩
  | 2 => ⟨S8704x1024, .f32⟩
  | 3 => ⟨S8704x1024, .bf16⟩
  | 4 => ⟨S8704x128, .bf16⟩
  | 5 => ⟨S8704x1024, .bf16⟩
  | 6 => ⟨S8704x1024, .bf16⟩
  | 7 => ⟨S2176x128, .f32⟩
  | 8 => ⟨S2176x128, .f32⟩
  | 9 => ⟨S8704x1024, .f32⟩
  | 10 => ⟨S4x2176x8x128, .f32⟩
  | 11 => ⟨S4x2176x8x128, .f32⟩
  | 12 => ⟨S4x2176x8x128, .f32⟩
  | 13 => ⟨S8704x1024, .f32⟩
  | 14 => ⟨S4x2176x8x128, .f32⟩
  | 15 => ⟨S8704x128, .f32⟩
  | 16 => ⟨S4x2176x128, .f32⟩
  | 17 => ⟨S8704x1024, .f32⟩
  | 18 => ⟨S4x2176x8x128, .f32⟩
  | 19 => ⟨S1x2176x1x128, .f32⟩
  | 20 => ⟨S4x2176x8x128, .f32⟩
  | 21 => ⟨S4x2176x8x128, .f32⟩
  | 22 => ⟨S1x2176x1x128, .f32⟩
  | 23 => ⟨S4x2176x8x128, .f32⟩
  | 24 => ⟨S4x2176x8x128, .f32⟩
  | 25 => ⟨S4x2176x8x128, .f32⟩
  | 26 => ⟨S4x8x2176x2176, .f32⟩
  | 27 => ⟨S4x2176x2176x8, .f32⟩
  | 28 => ⟨S4x8x2176x2176, .f32⟩
  | 29 => ⟨S4x8x2176x2176, .f32⟩
  | 30 => ⟨S2176, .i32⟩
  | 31 => ⟨S1x2176, .i32⟩
  | 32 => ⟨S2176, .i32⟩
  | 33 => ⟨S2176x1, .i32⟩
  | 34 => ⟨S2176x2176, .i32⟩
  | 35 => ⟨S2176x2176, .i32⟩
  | 36 => ⟨S2176x2176, .i1⟩
  | 37 => ⟨S1x1x2176x2176, .i1⟩
  | 38 => ⟨S_, .f32⟩
  | 39 => ⟨S4x8x2176x2176, .f32⟩
  | 40 => ⟨S4x8x2176x2176, .f32⟩
  | 41 => ⟨S_, .f32⟩
  | 42 => ⟨S_, .f32⟩
  | 43 => ⟨S4x8x2176x2176, .i1⟩
  | 44 => ⟨S4x8x2176x2176, .f32⟩
  | 45 => ⟨S4x8x2176x2176, .f32⟩
  | 46 => ⟨S_, .f32⟩
  | 47 => ⟨S4x8x2176x2176, .f32⟩
  | 48 => ⟨S_, .f32⟩
  | 49 => ⟨S4x8x2176, .f32⟩
  | 50 => ⟨S4x8x2176x1, .f32⟩
  | 51 => ⟨S4x8x2176x2176, .f32⟩
  | 52 => ⟨S4x8x2176x2176, .i1⟩
  | 53 => ⟨S4x8x2176x2176, .f32⟩
  | 54 => ⟨S_, .f32⟩
  | 55 => ⟨S4x8x2176, .f32⟩
  | 56 => ⟨S_, .f32⟩
  | 57 => ⟨S4x8x2176, .f32⟩
  | 58 => ⟨S4x8x2176, .f32⟩
  | 59 => ⟨S_, .f32⟩
  | 60 => ⟨S4x8x2176, .f32⟩
  | 61 => ⟨S4x8x2176, .i1⟩
  | 62 => ⟨S_, .f32⟩
  | 63 => ⟨S4x8x2176, .f32⟩
  | 64 => ⟨S4x8x2176, .i1⟩
  | 65 => ⟨S_, .f32⟩
  | 66 => ⟨S4x8x2176, .f32⟩
  | 67 => ⟨S_, .f32⟩
  | 68 => ⟨S4x8x2176, .f32⟩
  | 69 => ⟨S_, .f32⟩
  | 70 => ⟨S4x8x2176, .f32⟩
  | 71 => ⟨S4x8x2176, .f32⟩
  | 72 => ⟨S4x8x2176, .f32⟩
  | 73 => ⟨S4x8x2176x1, .f32⟩
  | 74 => ⟨S4x8x2176x2176, .f32⟩
  | 75 => ⟨S4x8x2176x2176, .f32⟩
  | 76 => ⟨S4x8x2176x2176, .f32⟩
  | 77 => ⟨S_, .f32⟩
  | 78 => ⟨S4x8x2176, .f32⟩
  | 79 => ⟨S4x8x2176x1, .f32⟩
  | 80 => ⟨S4x8x2176x2176, .f32⟩
  | 81 => ⟨S4x8x2176x2176, .f32⟩
  | 82 => ⟨S4x8x2176x1, .f32⟩
  | 83 => ⟨S_, .f32⟩
  | 84 => ⟨S4x8x2176x1, .f32⟩
  | 85 => ⟨S4x8x2176x1, .f32⟩
  | 86 => ⟨S4x8x128x2176, .f32⟩
  | 87 => ⟨S4x2176x8x128, .f32⟩
  | 88 => ⟨S8704x1024, .f32⟩
  | 89 => ⟨S4x2176x8x128, .f32⟩
  | 90 => ⟨S4x8x128x2176, .f32⟩
  | 91 => ⟨S4x8x2176x2176, .f32⟩
  | 92 => ⟨S4x8x128x2176, .f32⟩
  | 93 => ⟨S4x2176x8x128, .f32⟩
  | 94 => ⟨S4x8x2176x2176, .f32⟩
  | 95 => ⟨S4x8x2176x2176, .f32⟩
  | 96 => ⟨S4x8x2176x2176, .f32⟩
  | 97 => ⟨S_, .f32⟩
  | 98 => ⟨S4x8x2176, .f32⟩
  | 99 => ⟨S4x8x2176x1, .f32⟩
  | 100 => ⟨S4x8x2176x1, .f32⟩
  | 101 => ⟨S4x8x2176x2176, .f32⟩
  | 102 => ⟨S4x8x2176x2176, .f32⟩
  | 103 => ⟨S_, .f32⟩
  | 104 => ⟨S4x8x2176, .f32⟩
  | 105 => ⟨S4x8x2176x2176, .f32⟩
  | 106 => ⟨S4x8x2176x2176, .f32⟩
  | 107 => ⟨S4x8x2176x2176, .f32⟩
  | 108 => ⟨S_, .f32⟩
  | 109 => ⟨S4x8x2176x2176, .f32⟩
  | 110 => ⟨S4x8x2176x2176, .f32⟩
  | 111 => ⟨S_, .f32⟩
  | 112 => ⟨S4x8x2176x2176, .f32⟩
  | 113 => ⟨S4x8x2176x2176, .f32⟩
  | 114 => ⟨S4x2176x2176x8, .f32⟩
  | 115 => ⟨S4x2176x8x128, .f32⟩
  | 116 => ⟨S4x2176x128, .f32⟩
  | 117 => ⟨S4x8x2176x128, .f32⟩
  | 118 => ⟨S4x2176x8x128, .f32⟩
  | 119 => ⟨S4x8x2176x128, .f32⟩
  | 120 => ⟨S4x2176x8x128, .f32⟩
  | 121 => ⟨S4x2176x8x128, .f32⟩
  | 122 => ⟨S4x2176x8x128, .f32⟩
  | 123 => ⟨S4x2176x8x128, .f32⟩
  | 124 => ⟨S4x2176x8x128, .f32⟩
  | 125 => ⟨S8704x1024, .f32⟩
  | 126 => ⟨S8704x1024, .bf16⟩
  | 127 => ⟨S8704x1024, .f32⟩
  | _ => ⟨S8704x1024, .bf16⟩

abbrev hbmTy0_1 (i : Nat) : BufTy := match i % 128 with
  | 0 => ⟨S8704x1024, .bf16⟩
  | 1 => ⟨S8704x1024, .f32⟩
  | 2 => ⟨S8704x1024, .bf16⟩
  | 3 => ⟨S8704x1024, .f32⟩
  | 4 => ⟨S8704x1024, .bf16⟩
  | 5 => ⟨S8704x128, .f32⟩
  | 6 => ⟨S8704x1024, .f32⟩
  | 7 => ⟨S8704x1024, .bf16⟩
  | _ => ⟨S8704x1024, .bf16⟩

abbrev hbmTy (i : Nat) : BufTy := match i / 128 with
  | 0 => hbmTy0_0 i
  | 1 => hbmTy0_1 i
  | _ => ⟨S8704x1024, .bf16⟩

abbrev bufTy : (tb : Table) → Fin (tcTables nBuf tb) → BufTy
  | .hbm, ⟨i, _⟩ => hbmTy i
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_call0_v0 : Ref sig .tc := ⟨.hbm, 42, rfl⟩
abbrev main_v31_1 : Ref sig .tc := ⟨.hbm, 43, rfl⟩
abbrev main_call0_v2 : Ref sig .tc := ⟨.hbm, 44, rfl⟩
abbrev main_v31_0 : Ref sig .tc := ⟨.hbm, 45, rfl⟩
abbrev main_call0_cst : Ref sig .tc := ⟨.hbm, 46, rfl⟩
abbrev main_v31_2 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call1_cst : Ref sig .tc := ⟨.hbm, 108, rfl⟩
abbrev main_call1_v0 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== Kernel2.lean ====
abbrev S8704x2816 : Shape := ⟨2, ![8704, 2816]⟩
abbrev S2816x1024 : Shape := ⟨2, ![2816, 1024]⟩
abbrev S8704x1024 : Shape := ⟨2, ![8704, 1024]⟩
abbrev S_ : Shape := ⟨0, ![]⟩
abbrev S1088x1024 : Shape := ⟨2, ![1088, 1024]⟩
abbrev S1408x1024 : Shape := ⟨2, ![1408, 1024]⟩
abbrev S1088x1408 : Shape := ⟨2, ![1088, 1408]⟩

abbrev nBuf : Space → Nat
  | .hbm => 26
  | .vmem => 12
  | .smem => 0
  | _ => 0

abbrev bufTy : (tb : Table) → Fin (tcTables nBuf tb) → BufTy
  | .hbm, ⟨0, _⟩ => ⟨S8704x2816, .f32⟩
  | .hbm, ⟨1, _⟩ => ⟨S8704x2816, .f32⟩
  | .hbm, ⟨2, _⟩ => ⟨S2816x1024, .bf16⟩
  | .hbm, ⟨3, _⟩ => ⟨S8704x1024, .bf16⟩
  | .hbm, ⟨4, _⟩ => ⟨S8704x2816, .f32⟩
  | .hbm, ⟨5, _⟩ => ⟨S8704x2816, .f32⟩
  | .hbm, ⟨6, _⟩ => ⟨S_, .f32⟩
  | .hbm, ⟨7, _⟩ => ⟨S8704x2816, .f32⟩
  | .hbm, ⟨8, _⟩ => ⟨S8704x2816, .f32⟩
  | .hbm, ⟨9, _⟩ => ⟨S_, .f32⟩
  | .hbm, ⟨10, _⟩ => ⟨S8704x2816, .f32⟩
  | .hbm, ⟨11, _⟩ => ⟨S8704x2816, .f32⟩
  | .hbm, ⟨12, _⟩ => ⟨S_, .f32⟩
  | .hbm, ⟨13, _⟩ => ⟨S8704x2816, .f32⟩
  | .hbm, ⟨14, _⟩ => ⟨S8704x2816, .f32⟩
  | .hbm, ⟨15, _⟩ => ⟨S8704x2816, .f32⟩
  | .hbm, ⟨16, _⟩ => ⟨S_, .f32⟩
  | .hbm, ⟨17, _⟩ => ⟨S8704x2816, .f32⟩
  | .hbm, ⟨18, _⟩ => ⟨S8704x2816, .f32⟩
  | .hbm, ⟨19, _⟩ => ⟨S8704x2816, .f32⟩
  | .hbm, ⟨20, _⟩ => ⟨S8704x2816, .f32⟩
  | .hbm, ⟨21, _⟩ => ⟨S8704x2816, .bf16⟩
  | .hbm, ⟨22, _⟩ => ⟨S8704x2816, .f32⟩
  | .hbm, ⟨23, _⟩ => ⟨S8704x2816, .bf16⟩
  | .hbm, ⟨24, _⟩ => ⟨S8704x2816, .bf16⟩
  | .hbm, ⟨25, _⟩ => ⟨S8704x2816, .bf16⟩
  | .local _ .vmem, ⟨0, _⟩ => ⟨S1088x1024, .bf16⟩
  | .local _ .vmem, ⟨1, _⟩ => ⟨S1088x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1408, .bf16⟩
  | .local _ .vmem, ⟨5, _⟩ => ⟨S1088x1408, .bf16⟩
  | .local _ .vmem, ⟨6, _⟩ => ⟨S1088x1408, .bf16⟩
  | .local _ .vmem, ⟨7, _⟩ => ⟨S1088x1408, .bf16⟩
  | .local _ .vmem, ⟨8, _⟩ => ⟨S1088x1408, .bf16⟩
  | .local _ .vmem, ⟨9, _⟩ => ⟨S1088x1408, .bf16⟩
  | .local _ .vmem, ⟨10, _⟩ => ⟨S1088x1408, .bf16⟩
  | .local _ .vmem, ⟨11, _⟩ => ⟨S1088x1408, .bf16⟩
  | _, _ => ⟨S8704x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8704x2816 : Shape := ⟨2, ![8704, 2816]⟩
abbrev S2816x1024 : Shape := ⟨2, ![2816, 1024]⟩
abbrev S8704x1024 : Shape := ⟨2, ![8704, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8704x2816, .f32⟩
  | .hbm, ⟨1, _⟩ => ⟨S8704x2816, .f32⟩
  | .hbm, ⟨2, _⟩ => ⟨S2816x1024, .bf16⟩
  | .hbm, ⟨3, _⟩ => ⟨S8704x1024, .bf16⟩
  | .hbm, ⟨4, _⟩ => ⟨S2816x1024, .f32⟩
  | .hbm, ⟨5, _⟩ => ⟨S8704x1024, .f32⟩
  | .hbm, ⟨6, _⟩ => ⟨S8704x2816, .f32⟩
  | .hbm, ⟨7, _⟩ => ⟨S8704x2816, .f32⟩
  | .hbm, ⟨8, _⟩ => ⟨S_, .f32⟩
  | .hbm, ⟨9, _⟩ => ⟨S8704x2816, .f32⟩
  | .hbm, ⟨10, _⟩ => ⟨S8704x2816, .f32⟩
  | .hbm, ⟨11, _⟩ => ⟨S_, .f32⟩
  | .hbm, ⟨12, _⟩ => ⟨S8704x2816, .f32⟩
  | .hbm, ⟨13, _⟩ => ⟨S8704x2816, .f32⟩
  | .hbm, ⟨14, _⟩ => ⟨S_, .f32⟩
  | .hbm, ⟨15, _⟩ => ⟨S8704x2816, .f32⟩
  | .hbm, ⟨16, _⟩ => ⟨S8704x2816, .f32⟩
  | .hbm, ⟨17, _⟩ => ⟨S8704x2816, .f32⟩
  | .hbm, ⟨18, _⟩ => ⟨S8704x2816, .f32⟩
  | .hbm, ⟨19, _⟩ => ⟨S8704x2816, .f32⟩
  | .hbm, ⟨20, _⟩ => ⟨S8704x1024, .f32⟩
  | .hbm, ⟨21, _⟩ => ⟨S8704x2816, .f32⟩
  | .hbm, ⟨22, _⟩ => ⟨S8704x2816, .f32⟩
  | .hbm, ⟨23, _⟩ => ⟨S8704x2816, .f32⟩
  | .hbm, ⟨24, _⟩ => ⟨S8704x2816, .f32⟩
  | .hbm, ⟨25, _⟩ => ⟨S8704x2816, .f32⟩
  | .hbm, ⟨26, _⟩ => ⟨S8704x2816, .f32⟩
  | .hbm, ⟨27, _⟩ => ⟨S8704x2816, .f32⟩
  | .hbm, ⟨28, _⟩ => ⟨S8704x2816, .bf16⟩
  | .hbm, ⟨29, _⟩ => ⟨S8704x2816, .bf16⟩
  | _, _ => ⟨S8704x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S8704x1024 : Shape := ⟨2, ![8704, 1024]⟩
abbrev S1024x5632 : Shape := ⟨2, ![1024, 5632]⟩
abbrev S8704x2816 : Shape := ⟨2, ![8704, 2816]⟩
abbrev S1088x1024 : Shape := ⟨2, ![1088, 1024]⟩
abbrev S1024x1408 : Shape := ⟨2, ![1024, 1408]⟩
abbrev S1088x1408 : Shape := ⟨2, ![1088, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S1024x5632, .bf16⟩
  | .hbm, ⟨2, _⟩ => ⟨S8704x2816, .bf16⟩
  | .hbm, ⟨3, _⟩ => ⟨S8704x2816, .bf16⟩
  | .hbm, ⟨4, _⟩ => ⟨S8704x2816, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1088x1408, .bf16⟩
  | .local _ .vmem, ⟨7, _⟩ => ⟨S1088x1408, .bf16⟩
  | .local _ .vmem, ⟨8, _⟩ => ⟨S1088x1408, .bf16⟩
  | .local _ .vmem, ⟨9, _⟩ => ⟨S1088x1408, .bf16⟩
  | .local _ .vmem, ⟨10, _⟩ => ⟨S1088x1408, .bf16⟩
  | .local _ .vmem, ⟨11, _⟩ => ⟨S1088x1408, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8704x1024 : Shape := ⟨2, ![8704, 1024]⟩
abbrev S1024x5632 : Shape := ⟨2, ![1024, 5632]⟩
abbrev S8704x5632 : Shape := ⟨2, ![8704, 5632]⟩
abbrev S8704x2816 : Shape := ⟨2, ![8704, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x5632, .bf16⟩
  | .hbm, ⟨2, _⟩ => ⟨S8704x1024, .f32⟩
  | .hbm, ⟨3, _⟩ => ⟨S1024x5632, .f32⟩
  | .hbm, ⟨4, _⟩ => ⟨S8704x5632, .f32⟩
  | .hbm, ⟨5, _⟩ => ⟨S8704x2816, .f32⟩
  | .hbm, ⟨6, _⟩ => ⟨S8704x2816, .f32⟩
  | .hbm, ⟨7, _⟩ => ⟨S8704x2816, .f32⟩
  | .hbm, ⟨8, _⟩ => ⟨S8704x2816, .f32⟩
  | .hbm, ⟨9, _⟩ => ⟨S_, .f32⟩
  | .hbm, ⟨10, _⟩ => ⟨S8704x2816, .f32⟩
  | .hbm, ⟨11, _⟩ => ⟨S8704x2816, .f32⟩
  | .hbm, ⟨12, _⟩ => ⟨S_, .f32⟩
  | .hbm, ⟨13, _⟩ => ⟨S8704x2816, .f32⟩
  | .hbm, ⟨14, _⟩ => ⟨S8704x2816, .f32⟩
  | .hbm, ⟨15, _⟩ => ⟨S_, .f32⟩
  | .hbm, ⟨16, _⟩ => ⟨S8704x2816, .f32⟩
  | .hbm, ⟨17, _⟩ => ⟨S8704x2816, .f32⟩
  | .hbm, ⟨18, _⟩ => ⟨S8704x2816, .f32⟩
  | .hbm, ⟨19, _⟩ => ⟨S8704x2816, .f32⟩
  | .hbm, ⟨20, _⟩ => ⟨S8704x2816, .f32⟩
  | .hbm, ⟨21, _⟩ => ⟨S_, .f32⟩
  | .hbm, ⟨22, _⟩ => ⟨S8704x2816, .f32⟩
  | .hbm, ⟨23, _⟩ => ⟨S8704x2816, .f32⟩
  | .hbm, ⟨24, _⟩ => ⟨S8704x2816, .f32⟩
  | .hbm, ⟨25, _⟩ => ⟨S8704x2816, .f32⟩
  | .hbm, ⟨26, _⟩ => ⟨S8704x2816, .f32⟩
  | .hbm, ⟨27, _⟩ => ⟨S8704x2816, .f32⟩
  | .hbm, ⟨28, _⟩ => ⟨S8704x2816, .f32⟩
  | .hbm, ⟨29, _⟩ => ⟨S8704x2816, .bf16⟩
  | .hbm, ⟨30, _⟩ => ⟨S8704x2816, .bf16⟩
  | .hbm, ⟨31, _⟩ => ⟨S8704x2816, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel4.lean ====
abbrev S8704x1024 : Shape := ⟨2, ![8704, 1024]⟩
abbrev S8704x2816 : Shape := ⟨2, ![8704, 2816]⟩
abbrev S1024x2816 : Shape := ⟨2, ![1024, 2816]⟩
abbrev S1088x1024 : Shape := ⟨2, ![1088, 1024]⟩
abbrev S1088x2816 : Shape := ⟨2, ![1088, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S8704x2816, .bf16⟩
  | .hbm, ⟨2, _⟩ => ⟨S1024x2816, .f32⟩
  | .local _ .vmem, ⟨0, _⟩ => ⟨S1088x1024, .bf16⟩
  | .local _ .vmem, ⟨1, _⟩ => ⟨S1088x1024, .bf16⟩
  | .local _ .vmem, ⟨2, _⟩ => ⟨S1088x2816, .bf16⟩
  | .local _ .vmem, ⟨3, _⟩ => ⟨S1088x2816, .bf16⟩
  | .local _ .vmem, ⟨4, _⟩ => ⟨S1024x2816, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8704x1024 : Shape := ⟨2, ![8704, 1024]⟩
abbrev S8704x2816 : Shape := ⟨2, ![8704, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x2816, .bf16⟩
  | .hbm, ⟨2, _⟩ => ⟨S8704x1024, .f32⟩
  | .hbm, ⟨3, _⟩ => ⟨S8704x2816, .f32⟩
  | .hbm, ⟨4, _⟩ => ⟨S_, .f32⟩
  | .hbm, ⟨5, _⟩ => ⟨S1024x2816, .f32⟩
  | .hbm, ⟨6, _⟩ => ⟨S8704x2816, .f32⟩
  | .hbm, ⟨7, _⟩ => ⟨S2816x1024, .f32⟩
  | .hbm, ⟨8, _⟩ => ⟨S1024x2816, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8704x2816 : Shape := ⟨2, ![8704, 2816]⟩
abbrev S8704x1024 : Shape := ⟨2, ![8704, 1024]⟩
abbrev S2816x1024 : Shape := ⟨2, ![2816, 1024]⟩
abbrev S1088x1408 : Shape := ⟨2, ![1088, 1408]⟩
abbrev S1088x1024 : Shape := ⟨2, ![1088, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2816, .bf16⟩
  | .hbm, ⟨1, _⟩ => ⟨S8704x1024, .bf16⟩
  | .hbm, ⟨2, _⟩ => ⟨S2816x1024, .bf16⟩
  | .local _ .vmem, ⟨0, _⟩ => ⟨S1088x1408, .bf16⟩
  | .local _ .vmem, ⟨1, _⟩ => ⟨S1088x1408, .bf16⟩
  | .local _ .vmem, ⟨2, _⟩ => ⟨S1088x1024, .bf16⟩
  | .local _ .vmem, ⟨3, _⟩ => ⟨S1088x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8704x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8704x2816 : Shape := ⟨2, ![8704, 2816]⟩
abbrev S8704x1024 : Shape := ⟨2, ![8704, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8704x2816, .bf16⟩
  | .hbm, ⟨1, _⟩ => ⟨S8704x1024, .bf16⟩
  | .hbm, ⟨2, _⟩ => ⟨S8704x2816, .f32⟩
  | .hbm, ⟨3, _⟩ => ⟨S8704x1024, .f32⟩
  | .hbm, ⟨4, _⟩ => ⟨S_, .f32⟩
  | .hbm, ⟨5, _⟩ => ⟨S2816x1024, .f32⟩
  | .hbm, ⟨6, _⟩ => ⟨S8704x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8704x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8704x1024 : Shape := ⟨2, ![8704, 1024]⟩
abbrev S1024x7168 : Shape := ⟨2, ![1024, 7168]⟩
abbrev S8704x7168 : Shape := ⟨2, ![8704, 7168]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x7168, .bf16⟩
  | .hbm, ⟨2, _⟩ => ⟨S8704x7168, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8704x1024 : Shape := ⟨2, ![8704, 1024]⟩
abbrev S1024x7168 : Shape := ⟨2, ![1024, 7168]⟩
abbrev S8704x7168 : Shape := ⟨2, ![8704, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x7168, .bf16⟩
  | .hbm, ⟨2, _⟩ => ⟨S8704x1024, .f32⟩
  | .hbm, ⟨3, _⟩ => ⟨S1024x7168, .f32⟩
  | .hbm, ⟨4, _⟩ => ⟨S8704x7168, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8704x1024 : Shape := ⟨2, ![8704, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .f32⟩
  | .hbm, ⟨4, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8704x256 : Shape := ⟨2, ![8704, 256]⟩
abbrev S256x2048 : Shape := ⟨2, ![256, 2048]⟩
abbrev S8704x2048 : Shape := ⟨2, ![8704, 2048]⟩
abbrev S1088x256 : Shape := ⟨2, ![1088, 256]⟩
abbrev S256x1024 : Shape := ⟨2, ![256, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x256, .bf16⟩
  | .hbm, ⟨1, _⟩ => ⟨S256x2048, .bf16⟩
  | .hbm, ⟨2, _⟩ => ⟨S8704x2048, .bf16⟩
  | .local _ .vmem, ⟨0, _⟩ => ⟨S1088x256, .bf16⟩
  | .local _ .vmem, ⟨1, _⟩ => ⟨S1088x256, .bf16⟩
  | .local _ .vmem, ⟨2, _⟩ => ⟨S256x1024, .bf16⟩
  | .local _ .vmem, ⟨3, _⟩ => ⟨S256x1024, .bf16⟩
  | .local _ .vmem, ⟨4, _⟩ => ⟨S1088x1024, .bf16⟩
  | .local _ .vmem, ⟨5, _⟩ => ⟨S1088x1024, .bf16⟩
  | _, _ => ⟨S8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8704x256 : Shape := ⟨2, ![8704, 256]⟩
abbrev S256x2048 : Shape := ⟨2, ![256, 2048]⟩
abbrev S8704x2048 : Shape := ⟨2, ![8704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8704x256, .bf16⟩
  | .hbm, ⟨1, _⟩ => ⟨S256x2048, .bf16⟩
  | .hbm, ⟨2, _⟩ => ⟨S8704x256, .f32⟩
  | .hbm, ⟨3, _⟩ => ⟨S256x2048, .f32⟩
  | .hbm, ⟨4, _⟩ => ⟨S8704x2048, .f32⟩
  | .hbm, ⟨5, _⟩ => ⟨S8704x2048, .bf16⟩
  | _, _ => ⟨S8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .f32⟩
  | .hbm, ⟨4, _⟩ => ⟨S_, .f32⟩
  | .hbm, ⟨5, _⟩ => ⟨S8704x1024, .f32⟩
  | .hbm, ⟨6, _⟩ => ⟨S8704x1024, .f32⟩
  | .hbm, ⟨7, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .f32⟩
  | .hbm, ⟨4, _⟩ => ⟨S_, .f32⟩
  | .hbm, ⟨5, _⟩ => ⟨S8704x1024, .f32⟩
  | .hbm, ⟨6, _⟩ => ⟨S8704x1024, .f32⟩
  | .hbm, ⟨7, _⟩ => ⟨S8704x1024, .f32⟩
  | .hbm, ⟨8, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8704x1024 : Shape := ⟨2, ![8704, 1024]⟩
abbrev S8704x4096 : Shape := ⟨2, ![8704, 4096]⟩
abbrev S1024x4096 : Shape := ⟨2, ![1024, 4096]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x4096, .bf16⟩
  | .hbm, ⟨2, _⟩ => ⟨S1024x4096, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .f32⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8704x1024 : Shape := ⟨2, ![8704, 1024]⟩
abbrev S8704x4096 : Shape := ⟨2, ![8704, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x4096, .bf16⟩
  | .hbm, ⟨2, _⟩ => ⟨S8704x1024, .f32⟩
  | .hbm, ⟨3, _⟩ => ⟨S8704x4096, .f32⟩
  | .hbm, ⟨4, _⟩ => ⟨S_, .f32⟩
  | .hbm, ⟨5, _⟩ => ⟨S1024x4096, .f32⟩
  | .hbm, ⟨6, _⟩ => ⟨S8704x4096, .f32⟩
  | .hbm, ⟨7, _⟩ => ⟨S4096x1024, .f32⟩
  | .hbm, ⟨8, _⟩ => ⟨S1024x4096, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .f32⟩
  | .hbm, ⟨3, _⟩ => ⟨S8704x1024, .f32⟩
  | .hbm, ⟨4, _⟩ => ⟨S_, .f32⟩
  | .hbm, ⟨5, _⟩ => ⟨S1024x1024, .f32⟩
  | .hbm, ⟨6, _⟩ => ⟨S8704x1024, .f32⟩
  | .hbm, ⟨7, _⟩ => ⟨S1024x1024, .f32⟩
  | .hbm, ⟨8, _⟩ => ⟨S1024x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8704x1024 : Shape := ⟨2, ![8704, 1024]⟩
abbrev S8704x2048 : Shape := ⟨2, ![8704, 2048]⟩
abbrev S1024x2048 : Shape := ⟨2, ![1024, 2048]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x2048, .bf16⟩
  | .hbm, ⟨2, _⟩ => ⟨S1024x2048, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .f32⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8704x1024 : Shape := ⟨2, ![8704, 1024]⟩
abbrev S8704x2048 : Shape := ⟨2, ![8704, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x2048, .bf16⟩
  | .hbm, ⟨2, _⟩ => ⟨S8704x1024, .f32⟩
  | .hbm, ⟨3, _⟩ => ⟨S8704x2048, .f32⟩
  | .hbm, ⟨4, _⟩ => ⟨S_, .f32⟩
  | .hbm, ⟨5, _⟩ => ⟨S1024x2048, .f32⟩
  | .hbm, ⟨6, _⟩ => ⟨S8704x2048, .f32⟩
  | .hbm, ⟨7, _⟩ => ⟨S2048x1024, .f32⟩
  | .hbm, ⟨8, _⟩ => ⟨S1024x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .f32⟩
  | .hbm, ⟨3, _⟩ => ⟨S8704x1024, .f32⟩
  | .hbm, ⟨4, _⟩ => ⟨S_, .f32⟩
  | .hbm, ⟨5, _⟩ => ⟨S1024x1024, .f32⟩
  | .hbm, ⟨6, _⟩ => ⟨S8704x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8704x256 : Shape := ⟨2, ![8704, 256]⟩
abbrev S8704x1024 : Shape := ⟨2, ![8704, 1024]⟩
abbrev S256x1024 : Shape := ⟨2, ![256, 1024]⟩
abbrev S1088x256 : Shape := ⟨2, ![1088, 256]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x256, .bf16⟩
  | .hbm, ⟨1, _⟩ => ⟨S8704x1024, .bf16⟩
  | .hbm, ⟨2, _⟩ => ⟨S256x1024, .f32⟩
  | .local _ .vmem, ⟨0, _⟩ => ⟨S1088x256, .bf16⟩
  | .local _ .vmem, ⟨1, _⟩ => ⟨S1088x256, .bf16⟩
  | .local _ .vmem, ⟨2, _⟩ => ⟨S1088x1024, .bf16⟩
  | .local _ .vmem, ⟨3, _⟩ => ⟨S1088x1024, .bf16⟩
  | .local _ .vmem, ⟨4, _⟩ => ⟨S256x1024, .f32⟩
  | _, _ => ⟨S8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8704x256 : Shape := ⟨2, ![8704, 256]⟩
abbrev S8704x1024 : Shape := ⟨2, ![8704, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8704x256, .bf16⟩
  | .hbm, ⟨1, _⟩ => ⟨S8704x1024, .bf16⟩
  | .hbm, ⟨2, _⟩ => ⟨S8704x256, .f32⟩
  | .hbm, ⟨3, _⟩ => ⟨S8704x1024, .f32⟩
  | .hbm, ⟨4, _⟩ => ⟨S_, .f32⟩
  | .hbm, ⟨5, _⟩ => ⟨S256x1024, .f32⟩
  | .hbm, ⟨6, _⟩ => ⟨S8704x1024, .f32⟩
  | .hbm, ⟨7, _⟩ => ⟨S1024x256, .f32⟩
  | .hbm, ⟨8, _⟩ => ⟨S256x1024, .f32⟩
  | _, _ => ⟨S8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8704x2816 : Shape := ⟨2, ![8704, 2816]⟩
abbrev S1024x5632 : Shape := ⟨2, ![1024, 5632]⟩
abbrev S8704x1024 : Shape := ⟨2, ![8704, 1024]⟩
abbrev S1x1024 : Shape := ⟨2, ![1, 1024]⟩
abbrev S8x1024 : Shape := ⟨2, ![8, 1024]⟩
abbrev S544x1408 : Shape := ⟨2, ![544, 1408]⟩
abbrev S1024x1408 : Shape := ⟨2, ![1024, 1408]⟩
abbrev S544x1024 : Shape := ⟨2, ![544, 1024]⟩
abbrev S272x1024 : Shape := ⟨2, ![272, 1024]⟩
abbrev S272 : Shape := ⟨1, ![272]⟩
abbrev S272x1 : Shape := ⟨2, ![272, 1]⟩
abbrev S34x8x1024 : Shape := ⟨3, ![34, 8, 1024]⟩

abbrev nBuf : Space → Nat
  | .hbm => 12
  | .vmem => 21
  | .smem => 0
  | _ => 0

abbrev bufTy : (tb : Table) → Fin (tcTables nBuf tb) → BufTy
  | .hbm, ⟨0, _⟩ => ⟨S8704x2816, .bf16⟩
  | .hbm, ⟨1, _⟩ => ⟨S8704x2816, .bf16⟩
  | .hbm, ⟨2, _⟩ => ⟨S1024x5632, .bf16⟩
  | .hbm, ⟨3, _⟩ => ⟨S8704x1024, .f32⟩
  | .hbm, ⟨4, _⟩ => ⟨S8704x1024, .f32⟩
  | .hbm, ⟨5, _⟩ => ⟨S8704x1024, .f32⟩
  | .hbm, ⟨6, _⟩ => ⟨S1x1024, .f32⟩
  | .hbm, ⟨7, _⟩ => ⟨S1x1024, .f32⟩
  | .hbm, ⟨8, _⟩ => ⟨S8704x1024, .f32⟩
  | .hbm, ⟨9, _⟩ => ⟨S8704x1024, .bf16⟩
  | .hbm, ⟨10, _⟩ => ⟨S8x1024, .f32⟩
  | .hbm, ⟨11, _⟩ => ⟨S8x1024, .f32⟩
  | .local _ .vmem, ⟨0, _⟩ => ⟨S544x1408, .bf16⟩
  | .local _ .vmem, ⟨1, _⟩ => ⟨S544x1408, .bf16⟩
  | .local _ .vmem, ⟨2, _⟩ => ⟨S544x1408, .bf16⟩
  | .local _ .vmem, ⟨3, _⟩ => ⟨S544x1408, .bf16⟩
  | .local _ .vmem, ⟨4, _⟩ => ⟨S1024x1408, .bf16⟩
  | .local _ .vmem, ⟨5, _⟩ => ⟨S1024x1408, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S1x1024, .f32⟩
  | .local _ .vmem, ⟨13, _⟩ => ⟨S1x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S8x1024, .f32⟩
  | .local _ .vmem, ⟨19, _⟩ => ⟨S8x1024, .f32⟩
  | .local _ .vmem, ⟨20, _⟩ => ⟨S544x1024, .f32⟩
  | _, _ => ⟨S8704x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨3, ![1, 16, 4], ![false, false, false]⟩

def k0_cond5 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_8 : BitVec 32 := 0#32
  let v20 : BitVec 1 := Scalar.cmpi .ne v19 c0_i32_8
  v20

def k0_cond4 (i : grid0.Coords) : BitVec 1 :=
  let arg2 : BitVec 32 := BitVec.ofNat 32 (i 2).val
  let c0_i32_5 : BitVec 32 := 0#32
  let v13 : BitVec 1 := Scalar.cmpi .eq arg2 c0_i32_5
  let arg1 : BitVec 32 := BitVec.ofNat 32 (i 1).val
  let c0_i32_6 : BitVec 32 := 0#32
  let v14 : BitVec 1 := Scalar.cmpi .eq arg1 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S544x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== Reference16Ideal.lean ====
abbrev S8704x2816 : Shape := ⟨2, ![8704, 2816]⟩
abbrev S1024x5632 : Shape := ⟨2, ![1024, 5632]⟩
abbrev S8704x1024 : Shape := ⟨2, ![8704, 1024]⟩
abbrev S1x1024 : Shape := ⟨2, ![1, 1024]⟩
abbrev S1x1x1x1024 : Shape := ⟨4, ![1, 1, 1, 1024]⟩
abbrev S8x1x1x1024 : Shape := ⟨4, ![8, 1, 1, 1024]⟩
abbrev S8x1024 : Shape := ⟨2, ![8, 1024]⟩
abbrev S1088x8x1024 : Shape := ⟨3, ![1088, 8, 1024]⟩
abbrev S_ : Shape := ⟨0, ![]⟩
abbrev S1088x8 : Shape := ⟨2, ![1088, 8]⟩
abbrev S1088x8x1 : Shape := ⟨3, ![1088, 8, 1]⟩
abbrev S1x8x1024 : Shape := ⟨3, ![1, 8, 1024]⟩
abbrev S8704x5632 : Shape := ⟨2, ![8704, 5632]⟩

abbrev nBuf : Space → Nat
  | .hbm => 120
  | .vmem => 0
  | .smem => 0
  | _ => 0

abbrev bufTy : (tb : Table) → Fin (tcTables nBuf tb) → BufTy
  | .hbm, ⟨0, _⟩ => ⟨S8704x2816, .bf16⟩
  | .hbm, ⟨1, _⟩ => ⟨S8704x2816, .bf16⟩
  | .hbm, ⟨2, _⟩ => ⟨S1024x5632, .bf16⟩
  | .hbm, ⟨3, _⟩ => ⟨S8704x1024, .f32⟩
  | .hbm, ⟨4, _⟩ => ⟨S8704x1024, .f32⟩
  | .hbm, ⟨5, _⟩ => ⟨S8704x1024, .f32⟩
  | .hbm, ⟨6, _⟩ => ⟨S1x1024, .f32⟩
  | .hbm, ⟨7, _⟩ => ⟨S1x1024, .f32⟩
  | .hbm, ⟨8, _⟩ => ⟨S8704x2816, .f32⟩
  | .hbm, ⟨9, _⟩ => ⟨S8704x2816, .f32⟩
  | .hbm, ⟨10, _⟩ => ⟨S1024x5632, .f32⟩
  | .hbm, ⟨11, _⟩ => ⟨S1x1x1x1024, .f32⟩
  | .hbm, ⟨12, _⟩ => ⟨S8x1x1x1024, .f32⟩
  | .hbm, ⟨13, _⟩ => ⟨S8x1024, .f32⟩
  | .hbm, ⟨14, _⟩ => ⟨S1088x8x1024, .f32⟩
  | .hbm, ⟨15, _⟩ => ⟨S1088x8x1024, .f32⟩
  | .hbm, ⟨16, _⟩ => ⟨S_, .f32⟩
  | .hbm, ⟨17, _⟩ => ⟨S1088x8, .f32⟩
  | .hbm, ⟨18, _⟩ => ⟨S1088x8x1, .f32⟩
  | .hbm, ⟨19, _⟩ => ⟨S_, .f32⟩
  | .hbm, ⟨20, _⟩ => ⟨S1088x8x1, .f32⟩
  | .hbm, ⟨21, _⟩ => ⟨S1088x8x1, .f32⟩
  | .hbm, ⟨22, _⟩ => ⟨S_, .f32⟩
  | .hbm, ⟨23, _⟩ => ⟨S1088x8x1, .f32⟩
  | .hbm, ⟨24, _⟩ => ⟨S1088x8x1, .f32⟩
  | .hbm, ⟨25, _⟩ => ⟨S1088x8x1, .f32⟩
  | .hbm, ⟨26, _⟩ => ⟨S1088x8x1, .f32⟩
  | .hbm, ⟨27, _⟩ => ⟨S_, .f32⟩
  | .hbm, ⟨28, _⟩ => ⟨S1088x8x1, .f32⟩
  | .hbm, ⟨29, _⟩ => ⟨S1088x8x1, .f32⟩
  | .hbm, ⟨30, _⟩ => ⟨S1088x8x1024, .f32⟩
  | .hbm, ⟨31, _⟩ => ⟨S1088x8x1024, .f32⟩
  | .hbm, ⟨32, _⟩ => ⟨S1x8x1024, .f32⟩
  | .hbm, ⟨33, _⟩ => ⟨S1088x8x1024, .f32⟩
  | .hbm, ⟨34, _⟩ => ⟨S1088x8x1024, .f32⟩
  | .hbm, ⟨35, _⟩ => ⟨S8704x1024, .f32⟩
  | .hbm, ⟨36, _⟩ => ⟨S8704x5632, .f32⟩
  | .hbm, ⟨37, _⟩ => ⟨S8704x5632, .f32⟩
  | .hbm, ⟨38, _⟩ => ⟨S8704x1024, .f32⟩
  | .hbm, ⟨39, _⟩ => ⟨S1088x8x1024, .f32⟩
  | .hbm, ⟨40, _⟩ => ⟨S1088x8x1024, .f32⟩
  | .hbm, ⟨41, _⟩ => ⟨S_, .f32⟩
  | .hbm, ⟨42, _⟩ => ⟨S8x1024, .f32⟩
  | .hbm, ⟨43, _⟩ => ⟨S1x8x1024, .f32⟩
  | .hbm, ⟨44, _⟩ => ⟨S1088x8x1024, .f32⟩
  | .hbm, ⟨45, _⟩ => ⟨S1088x8x1024, .f32⟩
  | .hbm, ⟨46, _⟩ => ⟨S_, .f32⟩
  | .hbm, ⟨47, _⟩ => ⟨S8x1024, .f32⟩
  | .hbm, ⟨48, _⟩ => ⟨S1088x8x1024, .f32⟩
  | .hbm, ⟨49, _⟩ => ⟨S_, .f32⟩
  | .hbm, ⟨50, _⟩ => ⟨S1088x8, .f32⟩
  | .hbm, ⟨51, _⟩ => ⟨S1088x8x1, .f32⟩
  | .hbm, ⟨52, _⟩ => ⟨S1088x8x1024, .f32⟩
  | .hbm, ⟨53, _⟩ => ⟨S1088x8x1024, .f32⟩
  | .hbm, ⟨54, _⟩ => ⟨S1088x8x1, .f32⟩
  | .hbm, ⟨55, _⟩ => ⟨S_, .f32⟩
  | .hbm, ⟨56, _⟩ => ⟨S1088x8x1, .f32⟩
  | .hbm, ⟨57, _⟩ => ⟨S1088x8x1, .f32⟩
  | .hbm, ⟨58, _⟩ => ⟨S_, .f32⟩
  | .hbm, ⟨59, _⟩ => ⟨S1088x8, .f32⟩
  | .hbm, ⟨60, _⟩ => ⟨S1088x8x1024, .f32⟩
  | .hbm, ⟨61, _⟩ => ⟨S1088x8x1024, .f32⟩
  | .hbm, ⟨62, _⟩ => ⟨S1088x8x1024, .f32⟩
  | .hbm, ⟨63, _⟩ => ⟨S1088x8x1024, .f32⟩
  | .hbm, ⟨64, _⟩ => ⟨S1088x8x1024, .f32⟩
  | .hbm, ⟨65, _⟩ => ⟨S8704x1024, .f32⟩
  | .hbm, ⟨66, _⟩ => ⟨S8704x1024, .f32⟩
  | .hbm, ⟨67, _⟩ => ⟨S1x1x1x1024, .f32⟩
  | .hbm, ⟨68, _⟩ => ⟨S8x1x1x1024, .f32⟩
  | .hbm, ⟨69, _⟩ => ⟨S8x1024, .f32⟩
  | .hbm, ⟨70, _⟩ => ⟨S1088x8x1024, .f32⟩
  | .hbm, ⟨71, _⟩ => ⟨S1088x8x1024, .f32⟩
  | .hbm, ⟨72, _⟩ => ⟨S_, .f32⟩
  | .hbm, ⟨73, _⟩ => ⟨S1088x8, .f32⟩
  | .hbm, ⟨74, _⟩ => ⟨S1088x8x1, .f32⟩
  | .hbm, ⟨75, _⟩ => ⟨S_, .f32⟩
  | .hbm, ⟨76, _⟩ => ⟨S1088x8x1, .f32⟩
  | .hbm, ⟨77, _⟩ => ⟨S1088x8x1, .f32⟩
  | .hbm, ⟨78, _⟩ => ⟨S_, .f32⟩
  | .hbm, ⟨79, _⟩ => ⟨S1088x8x1, .f32⟩
  | .hbm, ⟨80, _⟩ => ⟨S1088x8x1, .f32⟩
  | .hbm, ⟨81, _⟩ => ⟨S1088x8x1, .f32⟩
  | .hbm, ⟨82, _⟩ => ⟨S1088x8x1, .f32⟩
  | .hbm, ⟨83, _⟩ => ⟨S_, .f32⟩
  | .hbm, ⟨84, _⟩ => ⟨S1088x8x1, .f32⟩
  | .hbm, ⟨85, _⟩ => ⟨S1088x8x1, .f32⟩
  | .hbm, ⟨86, _⟩ => ⟨S1088x8x1024, .f32⟩
  | .hbm, ⟨87, _⟩ => ⟨S1088x8x1024, .f32⟩
  | .hbm, ⟨88, _⟩ => ⟨S1x8x1024, .f32⟩
  | .hbm, ⟨89, _⟩ => ⟨S1088x8x1024, .f32⟩
  | .hbm, ⟨90, _⟩ => ⟨S1088x8x1024, .f32⟩
  | .hbm, ⟨91, _⟩ => ⟨S8704x1024, .f32⟩
  | .hbm, ⟨92, _⟩ => ⟨S1088x8x1024, .f32⟩
  | .hbm, ⟨93, _⟩ => ⟨S1088x8x1024, .f32⟩
  | .hbm, ⟨94, _⟩ => ⟨S_, .f32⟩
  | .hbm, ⟨95, _⟩ => ⟨S8x1024, .f32⟩
  | .hbm, ⟨96, _⟩ => ⟨S1x8x1024, .f32⟩
  | .hbm, ⟨97, _⟩ => ⟨S1088x8x1024, .f32⟩
  | .hbm, ⟨98, _⟩ => ⟨S1088x8x1024, .f32⟩
  | .hbm, ⟨99, _⟩ => ⟨S_, .f32⟩
  | .hbm, ⟨100, _⟩ => ⟨S8x1024, .f32⟩
  | .hbm, ⟨101, _⟩ => ⟨S1088x8x1024, .f32⟩
  | .hbm, ⟨102, _⟩ => ⟨S_, .f32⟩
  | .hbm, ⟨103, _⟩ => ⟨S1088x8, .f32⟩
  | .hbm, ⟨104, _⟩ => ⟨S1088x8x1, .f32⟩
  | .hbm, ⟨105, _⟩ => ⟨S1088x8x1024, .f32⟩
  | .hbm, ⟨106, _⟩ => ⟨S1088x8x1024, .f32⟩
  | .hbm, ⟨107, _⟩ => ⟨S1088x8x1, .f32⟩
  | .hbm, ⟨108, _⟩ => ⟨S_, .f32⟩
  | .hbm, ⟨109, _⟩ => ⟨S1088x8x1, .f32⟩
  | .hbm, ⟨110, _⟩ => ⟨S1088x8x1, .f32⟩
  | .hbm, ⟨111, _⟩ => ⟨S_, .f32⟩
  | .hbm, ⟨112, _⟩ => ⟨S1088x8, .f32⟩
  | .hbm, ⟨113, _⟩ => ⟨S1088x8x1024, .f32⟩
  | .hbm, ⟨114, _⟩ => ⟨S1088x8x1024, .f32⟩
  | .hbm, ⟨115, _⟩ => ⟨S1088x8x1024, .f32⟩
  | .hbm, ⟨116, _⟩ => ⟨S1088x8x1024, .f32⟩
  | .hbm, ⟨117, _⟩ => ⟨S1088x8x1024, .f32⟩
  | .hbm, ⟨118, _⟩ => ⟨S8704x1024, .f32⟩
  | .hbm, ⟨119, _⟩ => ⟨S8704x1024, .bf16⟩
  | _, _ => ⟨S8704x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_15 : Ref sig .tc := ⟨.hbm, 108, rfl⟩
abbrev main_v84 : Ref sig .tc := ⟨.hbm, 109, rfl⟩
abbrev main_v85 : Ref sig .tc := ⟨.hbm, 110, rfl⟩
abbrev main_cst_16 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩

abbrev nD : Nat := 1
abbrev τ : Topo := Topo.v7x

variable {F : FTy → Type} [FloatOps F]
-- ==== Kernel17.lean ====
abbrev S8704x4096 : Shape := ⟨2, ![8704, 4096]⟩
abbrev S8704x1024 : Shape := ⟨2, ![8704, 1024]⟩
abbrev S8704x2048 : Shape := ⟨2, ![8704, 2048]⟩
abbrev S1024x7168 : Shape := ⟨2, ![1024, 7168]⟩
abbrev S1x1024 : Shape := ⟨2, ![1, 1024]⟩
abbrev S8x1024 : Shape := ⟨2, ![8, 1024]⟩
abbrev S1088x1024 : Shape := ⟨2, ![1088, 1024]⟩
abbrev S1024x1024 : Shape := ⟨2, ![1024, 1024]⟩
abbrev S272x1024 : Shape := ⟨2, ![272, 1024]⟩
abbrev S272 : Shape := ⟨1, ![272]⟩
abbrev S272x1 : Shape := ⟨2, ![272, 1]⟩
abbrev S34x8x1024 : Shape := ⟨3, ![34, 8, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8704x4096, .bf16⟩
  | .hbm, ⟨1, _⟩ => ⟨S8704x1024, .bf16⟩
  | .hbm, ⟨2, _⟩ => ⟨S8704x2048, .bf16⟩
  | .hbm, ⟨3, _⟩ => ⟨S1024x7168, .bf16⟩
  | .hbm, ⟨4, _⟩ => ⟨S8704x1024, .f32⟩
  | .hbm, ⟨5, _⟩ => ⟨S8704x1024, .f32⟩
  | .hbm, ⟨6, _⟩ => ⟨S1x1024, .f32⟩
  | .hbm, ⟨7, _⟩ => ⟨S8704x1024, .f32⟩
  | .hbm, ⟨8, _⟩ => ⟨S8x1024, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1x1024, .f32⟩
  | .local _ .vmem, ⟨13, _⟩ => ⟨S1088x1024, .f32⟩
  | .local _ .vmem, ⟨14, _⟩ => ⟨S1088x1024, .f32⟩
  | .local _ .vmem, ⟨15, _⟩ => ⟨S8x1024, .f32⟩
  | .local _ .vmem, ⟨16, _⟩ => ⟨S1088x1024, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![1, 8, 7], ![false, false, false]⟩

def k0_cond6 (i : grid0.Coords) : BitVec 1 :=
  let arg2 : BitVec 32 := BitVec.ofNat 32 (i 2).val
  let c6_i32 : BitVec 32 := 6#32
  let v23 : BitVec 1 := Scalar.cmpi .eq arg2 c6_i32
  let v24 : BitVec 32 := Scalar.extui v23
  let c0_i32_10 : BitVec 32 := 0#32
  let v25 : BitVec 1 := Scalar.cmpi .ne v24 c0_i32_10
  v25

def k0_cond5 (i : grid0.Coords) : BitVec 1 :=
  let arg2 : BitVec 32 := BitVec.ofNat 32 (i 2).val
  let c0_i32_7 : BitVec 32 := 0#32
  let v18 : BitVec 1 := Scalar.cmpi .eq arg2 c0_i32_7
  let arg1 : BitVec 32 := BitVec.ofNat 32 (i 1).val
  let c0_i32_8 : BitVec 32 := 0#32
  let v19 : BitVec 1 := Scalar.cmpi .eq arg1 c0_i32_8
  let v20 : BitVec 1 := Scalar.andi v18 v19
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1088x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference17Ideal.lean ====
abbrev S8704x4096 : Shape := ⟨2, ![8704, 4096]⟩
abbrev S8704x1024 : Shape := ⟨2, ![8704, 1024]⟩
abbrev S8704x2048 : Shape := ⟨2, ![8704, 2048]⟩
abbrev S1024x7168 : Shape := ⟨2, ![1024, 7168]⟩
abbrev S1x1024 : Shape := ⟨2, ![1, 1024]⟩
abbrev S1x1x1x1024 : Shape := ⟨4, ![1, 1, 1, 1024]⟩
abbrev S8x1x1x1024 : Shape := ⟨4, ![8, 1, 1, 1024]⟩
abbrev S8x1024 : Shape := ⟨2, ![8, 1024]⟩
abbrev S1088x8x1024 : Shape := ⟨3, ![1088, 8, 1024]⟩
abbrev S_ : Shape := ⟨0, ![]⟩
abbrev S1088x8 : Shape := ⟨2, ![1088, 8]⟩
abbrev S1088x8x1 : Shape := ⟨3, ![1088, 8, 1]⟩
abbrev S1x8x1024 : Shape := ⟨3, ![1, 8, 1024]⟩
abbrev S8704x7168 : Shape := ⟨2, ![8704, 7168]⟩

abbrev nBuf : Space → Nat
  | .hbm => 67
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S8704x1024, .bf16⟩
  | .hbm, ⟨2, _⟩ => ⟨S8704x2048, .bf16⟩
  | .hbm, ⟨3, _⟩ => ⟨S1024x7168, .bf16⟩
  | .hbm, ⟨4, _⟩ => ⟨S8704x1024, .f32⟩
  | .hbm, ⟨5, _⟩ => ⟨S8704x1024, .f32⟩
  | .hbm, ⟨6, _⟩ => ⟨S1x1024, .f32⟩
  | .hbm, ⟨7, _⟩ => ⟨S8704x4096, .f32⟩
  | .hbm, ⟨8, _⟩ => ⟨S8704x1024, .f32⟩
  | .hbm, ⟨9, _⟩ => ⟨S8704x2048, .f32⟩
  | .hbm, ⟨10, _⟩ => ⟨S1024x7168, .f32⟩
  | .hbm, ⟨11, _⟩ => ⟨S1x1x1x1024, .f32⟩
  | .hbm, ⟨12, _⟩ => ⟨S8x1x1x1024, .f32⟩
  | .hbm, ⟨13, _⟩ => ⟨S8x1024, .f32⟩
  | .hbm, ⟨14, _⟩ => ⟨S1088x8x1024, .f32⟩
  | .hbm, ⟨15, _⟩ => ⟨S1088x8x1024, .f32⟩
  | .hbm, ⟨16, _⟩ => ⟨S_, .f32⟩
  | .hbm, ⟨17, _⟩ => ⟨S1088x8, .f32⟩
  | .hbm, ⟨18, _⟩ => ⟨S1088x8x1, .f32⟩
  | .hbm, ⟨19, _⟩ => ⟨S_, .f32⟩
  | .hbm, ⟨20, _⟩ => ⟨S1088x8x1, .f32⟩
  | .hbm, ⟨21, _⟩ => ⟨S1088x8x1, .f32⟩
  | .hbm, ⟨22, _⟩ => ⟨S_, .f32⟩
  | .hbm, ⟨23, _⟩ => ⟨S1088x8x1, .f32⟩
  | .hbm, ⟨24, _⟩ => ⟨S1088x8x1, .f32⟩
  | .hbm, ⟨25, _⟩ => ⟨S1088x8x1, .f32⟩
  | .hbm, ⟨26, _⟩ => ⟨S1088x8x1, .f32⟩
  | .hbm, ⟨27, _⟩ => ⟨S_, .f32⟩
  | .hbm, ⟨28, _⟩ => ⟨S1088x8x1, .f32⟩
  | .hbm, ⟨29, _⟩ => ⟨S1088x8x1, .f32⟩
  | .hbm, ⟨30, _⟩ => ⟨S1088x8x1024, .f32⟩
  | .hbm, ⟨31, _⟩ => ⟨S1088x8x1024, .f32⟩
  | .hbm, ⟨32, _⟩ => ⟨S1x8x1024, .f32⟩
  | .hbm, ⟨33, _⟩ => ⟨S1088x8x1024, .f32⟩
  | .hbm, ⟨34, _⟩ => ⟨S1088x8x1024, .f32⟩
  | .hbm, ⟨35, _⟩ => ⟨S8704x1024, .f32⟩
  | .hbm, ⟨36, _⟩ => ⟨S8704x7168, .f32⟩
  | .hbm, ⟨37, _⟩ => ⟨S8704x7168, .f32⟩
  | .hbm, ⟨38, _⟩ => ⟨S8704x1024, .f32⟩
  | .hbm, ⟨39, _⟩ => ⟨S1088x8x1024, .f32⟩
  | .hbm, ⟨40, _⟩ => ⟨S1088x8x1024, .f32⟩
  | .hbm, ⟨41, _⟩ => ⟨S_, .f32⟩
  | .hbm, ⟨42, _⟩ => ⟨S8x1024, .f32⟩
  | .hbm, ⟨43, _⟩ => ⟨S1x8x1024, .f32⟩
  | .hbm, ⟨44, _⟩ => ⟨S1088x8x1024, .f32⟩
  | .hbm, ⟨45, _⟩ => ⟨S1088x8x1024, .f32⟩
  | .hbm, ⟨46, _⟩ => ⟨S_, .f32⟩
  | .hbm, ⟨47, _⟩ => ⟨S8x1024, .f32⟩
  | .hbm, ⟨48, _⟩ => ⟨S1088x8x1024, .f32⟩
  | .hbm, ⟨49, _⟩ => ⟨S_, .f32⟩
  | .hbm, ⟨50, _⟩ => ⟨S1088x8, .f32⟩
  | .hbm, ⟨51, _⟩ => ⟨S1088x8x1, .f32⟩
  | .hbm, ⟨52, _⟩ => ⟨S1088x8x1024, .f32⟩
  | .hbm, ⟨53, _⟩ => ⟨S1088x8x1024, .f32⟩
  | .hbm, ⟨54, _⟩ => ⟨S1088x8x1, .f32⟩
  | .hbm, ⟨55, _⟩ => ⟨S_, .f32⟩
  | .hbm, ⟨56, _⟩ => ⟨S1088x8x1, .f32⟩
  | .hbm, ⟨57, _⟩ => ⟨S1088x8x1, .f32⟩
  | .hbm, ⟨58, _⟩ => ⟨S_, .f32⟩
  | .hbm, ⟨59, _⟩ => ⟨S1088x8, .f32⟩
  | .hbm, ⟨60, _⟩ => ⟨S1088x8x1024, .f32⟩
  | .hbm, ⟨61, _⟩ => ⟨S1088x8x1024, .f32⟩
  | .hbm, ⟨62, _⟩ => ⟨S1088x8x1024, .f32⟩
  | .hbm, ⟨63, _⟩ => ⟨S1088x8x1024, .f32⟩
  | .hbm, ⟨64, _⟩ => ⟨S1088x8x1024, .f32⟩
  | .hbm, ⟨65, _⟩ => ⟨S8704x1024, .f32⟩
  | .hbm, ⟨66, _⟩ => ⟨S8704x1024, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel19.lean ====
abbrev S8704x1024 : Shape := ⟨2, ![8704, 1024]⟩
abbrev S256x3072 : Shape := ⟨2, ![256, 3072]⟩
abbrev S8704x256 : Shape := ⟨2, ![8704, 256]⟩
abbrev S1088x1024 : Shape := ⟨2, ![1088, 1024]⟩
abbrev S256x1024 : Shape := ⟨2, ![256, 1024]⟩
abbrev S1088x256 : Shape := ⟨2, ![1088, 256]⟩

abbrev nBuf : Space → Nat
  | .hbm => 5
  | .vmem => 11
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S256x3072, .bf16⟩
  | .hbm, ⟨4, _⟩ => ⟨S8704x256, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .bf16⟩
  | .local _ .vmem, ⟨6, _⟩ => ⟨S256x1024, .bf16⟩
  | .local _ .vmem, ⟨7, _⟩ => ⟨S256x1024, .bf16⟩
  | .local _ .vmem, ⟨8, _⟩ => ⟨S1088x256, .f32⟩
  | .local _ .vmem, ⟨9, _⟩ => ⟨S1088x256, .f32⟩
  | .local _ .vmem, ⟨10, _⟩ => ⟨S1088x256, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 3], ![false, false, false]⟩

def k0_cond5 (i : grid0.Coords) : BitVec 1 :=
  let arg2 : BitVec 32 := BitVec.ofNat 32 (i 2).val
  let c2_i32_7 : BitVec 32 := 2#32
  let v18 : BitVec 1 := Scalar.cmpi .eq arg2 c2_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1088x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference19Ideal.lean ====
abbrev S8704x1024 : Shape := ⟨2, ![8704, 1024]⟩
abbrev S256x3072 : Shape := ⟨2, ![256, 3072]⟩
abbrev S8704x3072 : Shape := ⟨2, ![8704, 3072]⟩
abbrev S_ : Shape := ⟨0, ![]⟩
abbrev S8704x256 : Shape := ⟨2, ![8704, 256]⟩

abbrev nBuf : Space → Nat
  | .hbm => 13
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S256x3072, .bf16⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S8704x3072, .f32⟩
  | .hbm, ⟨8, _⟩ => ⟨S_, .f32⟩
  | .hbm, ⟨9, _⟩ => ⟨S8704x256, .f32⟩
  | .hbm, ⟨10, _⟩ => ⟨S256x3072, .f32⟩
  | .hbm, ⟨11, _⟩ => ⟨S8704x3072, .f32⟩
  | .hbm, ⟨12, _⟩ => ⟨S8704x256, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel20.lean ====
abbrev S8704x1024 : Shape := ⟨2, ![8704, 1024]⟩
abbrev S256x2048 : Shape := ⟨2, ![256, 2048]⟩
abbrev S8704x256 : Shape := ⟨2, ![8704, 256]⟩
abbrev S1088x1024 : Shape := ⟨2, ![1088, 1024]⟩
abbrev S256x1024 : Shape := ⟨2, ![256, 1024]⟩
abbrev S1088x256 : Shape := ⟨2, ![1088, 256]⟩

abbrev nBuf : Space → Nat
  | .hbm => 4
  | .vmem => 9
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S256x2048, .bf16⟩
  | .hbm, ⟨3, _⟩ => ⟨S8704x256, .f32⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S256x1024, .bf16⟩
  | .local _ .vmem, ⟨5, _⟩ => ⟨S256x1024, .bf16⟩
  | .local _ .vmem, ⟨6, _⟩ => ⟨S1088x256, .f32⟩
  | .local _ .vmem, ⟨7, _⟩ => ⟨S1088x256, .f32⟩
  | .local _ .vmem, ⟨8, _⟩ => ⟨S1088x256, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond4 (i : grid0.Coords) : BitVec 1 :=
  let arg2 : BitVec 32 := BitVec.ofNat 32 (i 2).val
  let c1_i32_5 : BitVec 32 := 1#32
  let v13 : BitVec 1 := Scalar.cmpi .eq arg2 c1_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1088x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S8704x1024 : Shape := ⟨2, ![8704, 1024]⟩
abbrev S256x2048 : Shape := ⟨2, ![256, 2048]⟩
abbrev S8704x2048 : Shape := ⟨2, ![8704, 2048]⟩
abbrev S_ : Shape := ⟨0, ![]⟩
abbrev S8704x256 : Shape := ⟨2, ![8704, 256]⟩

abbrev nBuf : Space → Nat
  | .hbm => 11
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S256x2048, .bf16⟩
  | .hbm, ⟨3, _⟩ => ⟨S8704x1024, .f32⟩
  | .hbm, ⟨4, _⟩ => ⟨S8704x1024, .f32⟩
  | .hbm, ⟨5, _⟩ => ⟨S8704x2048, .f32⟩
  | .hbm, ⟨6, _⟩ => ⟨S_, .f32⟩
  | .hbm, ⟨7, _⟩ => ⟨S8704x256, .f32⟩
  | .hbm, ⟨8, _⟩ => ⟨S256x2048, .f32⟩
  | .hbm, ⟨9, _⟩ => ⟨S8704x2048, .f32⟩
  | .hbm, ⟨10, _⟩ => ⟨S8704x256, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S8704x1024 : Shape := ⟨2, ![8704, 1024]⟩
abbrev S1024x1024 : Shape := ⟨2, ![1024, 1024]⟩
abbrev S8704x7168 : Shape := ⟨2, ![8704, 7168]⟩
abbrev S1x2048 : Shape := ⟨2, ![1, 2048]⟩
abbrev S8704x2048 : Shape := ⟨2, ![8704, 2048]⟩
abbrev S8x2048 : Shape := ⟨2, ![8, 2048]⟩
abbrev S544x1024 : Shape := ⟨2, ![544, 1024]⟩
abbrev S544x2048 : Shape := ⟨2, ![544, 2048]⟩
abbrev S272x1024 : Shape := ⟨2, ![272, 1024]⟩
abbrev S1x1024 : Shape := ⟨2, ![1, 1024]⟩
abbrev S272x2048 : Shape := ⟨2, ![272, 2048]⟩
abbrev S34x8x2048 : Shape := ⟨3, ![34, 8, 2048]⟩

abbrev nBuf : Space → Nat
  | .hbm => 10
  | .vmem => 20
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x7168, .f32⟩
  | .hbm, ⟨3, _⟩ => ⟨S8704x1024, .f32⟩
  | .hbm, ⟨4, _⟩ => ⟨S8704x1024, .f32⟩
  | .hbm, ⟨5, _⟩ => ⟨S1x2048, .f32⟩
  | .hbm, ⟨6, _⟩ => ⟨S8704x2048, .bf16⟩
  | .hbm, ⟨7, _⟩ => ⟨S8704x1024, .bf16⟩
  | .hbm, ⟨8, _⟩ => ⟨S8704x1024, .bf16⟩
  | .hbm, ⟨9, _⟩ => ⟨S8x2048, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S1x2048, .f32⟩
  | .local _ .vmem, ⟨12, _⟩ => ⟨S544x2048, .bf16⟩
  | .local _ .vmem, ⟨13, _⟩ => ⟨S544x2048, .bf16⟩
  | .local _ .vmem, ⟨14, _⟩ => ⟨S544x1024, .bf16⟩
  | .local _ .vmem, ⟨15, _⟩ => ⟨S544x1024, .bf16⟩
  | .local _ .vmem, ⟨16, _⟩ => ⟨S544x1024, .bf16⟩
  | .local _ .vmem, ⟨17, _⟩ => ⟨S544x1024, .bf16⟩
  | .local _ .vmem, ⟨18, _⟩ => ⟨S8x2048, .f32⟩
  | .local _ .vmem, ⟨19, _⟩ => ⟨S544x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨3, ![1, 16, 1], ![false, false, false]⟩

def k0_cond4 (i : grid0.Coords) : BitVec 1 :=
  let arg2 : BitVec 32 := BitVec.ofNat 32 (i 2).val
  let c0_i32_6 : BitVec 32 := 0#32
  let v13 : BitVec 1 := Scalar.cmpi .eq arg2 c0_i32_6
  let v14 : BitVec 32 := Scalar.extui v13
  let c0_i32_7 : BitVec 32 := 0#32
  let v15 : BitVec 1 := Scalar.cmpi .ne v14 c0_i32_7
  v15

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg1.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg1.toNat, c6_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference21Ideal.lean ====
abbrev S8704x1024 : Shape := ⟨2, ![8704, 1024]⟩
abbrev S1024x1024 : Shape := ⟨2, ![1024, 1024]⟩
abbrev S8704x7168 : Shape := ⟨2, ![8704, 7168]⟩
abbrev S1x2048 : Shape := ⟨2, ![1, 2048]⟩
abbrev S8704x2048 : Shape := ⟨2, ![8704, 2048]⟩
abbrev S1x1x1x2048 : Shape := ⟨4, ![1, 1, 1, 2048]⟩
abbrev S8x1x1x2048 : Shape := ⟨4, ![8, 1, 1, 2048]⟩
abbrev S8x2048 : Shape := ⟨2, ![8, 2048]⟩
abbrev S1x8x1x2048 : Shape := ⟨4, ![1, 8, 1, 2048]⟩
abbrev S1088x8x1x2048 : Shape := ⟨4, ![1088, 8, 1, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x7168, .f32⟩
  | .hbm, ⟨3, _⟩ => ⟨S8704x1024, .f32⟩
  | .hbm, ⟨4, _⟩ => ⟨S8704x1024, .f32⟩
  | .hbm, ⟨5, _⟩ => ⟨S1x2048, .f32⟩
  | .hbm, ⟨6, _⟩ => ⟨S8704x1024, .f32⟩
  | .hbm, ⟨7, _⟩ => ⟨S1024x1024, .f32⟩
  | .hbm, ⟨8, _⟩ => ⟨S8704x2048, .f32⟩
  | .hbm, ⟨9, _⟩ => ⟨S1x1x1x2048, .f32⟩
  | .hbm, ⟨10, _⟩ => ⟨S8x1x1x2048, .f32⟩
  | .hbm, ⟨11, _⟩ => ⟨S8x2048, .f32⟩
  | .hbm, ⟨12, _⟩ => ⟨S1x8x1x2048, .f32⟩
  | .hbm, ⟨13, _⟩ => ⟨S1088x8x1x2048, .f32⟩
  | .hbm, ⟨14, _⟩ => ⟨S8704x2048, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704x2048, .f32⟩
  | .hbm, ⟨23, _⟩ => ⟨S8704x2048, .f32⟩
  | .hbm, ⟨24, _⟩ => ⟨S_, .f32⟩
  | .hbm, ⟨25, _⟩ => ⟨S8704x2048, .f32⟩
  | .hbm, ⟨26, _⟩ => ⟨S8704x2048, .f32⟩
  | .hbm, ⟨27, _⟩ => ⟨S8704x2048, .f32⟩
  | .hbm, ⟨28, _⟩ => ⟨S8704x1024, .f32⟩
  | .hbm, ⟨29, _⟩ => ⟨S8704x1024, .f32⟩
  | .hbm, ⟨30, _⟩ => ⟨S8704x1024, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x1024, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x2048, .f32⟩
  | .hbm, ⟨40, _⟩ => ⟨S8704x2048, .f32⟩
  | .hbm, ⟨41, _⟩ => ⟨S1088x8x1x2048, .f32⟩
  | .hbm, ⟨42, _⟩ => ⟨S_, .f32⟩
  | .hbm, ⟨43, _⟩ => ⟨S8x2048, .f32⟩
  | .hbm, ⟨44, _⟩ => ⟨S8704x2048, .bf16⟩
  | .hbm, ⟨45, _⟩ => ⟨S8704x1024, .bf16⟩
  | .hbm, ⟨46, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel22.lean ====
abbrev S8704x1024 : Shape := ⟨2, ![8704, 1024]⟩
abbrev S1024x1024 : Shape := ⟨2, ![1024, 1024]⟩
abbrev S8704x7168 : Shape := ⟨2, ![8704, 7168]⟩
abbrev S1x2048 : Shape := ⟨2, ![1, 2048]⟩
abbrev S544x1024 : Shape := ⟨2, ![544, 1024]⟩
abbrev S272x1024 : Shape := ⟨2, ![272, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x7168, .f32⟩
  | .hbm, ⟨3, _⟩ => ⟨S8704x1024, .f32⟩
  | .hbm, ⟨4, _⟩ => ⟨S1x2048, .f32⟩
  | .hbm, ⟨5, _⟩ => ⟨S8704x1024, .f32⟩
  | .hbm, ⟨6, _⟩ => ⟨S8704x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S1x2048, .f32⟩
  | .local _ .vmem, ⟨10, _⟩ => ⟨S544x1024, .f32⟩
  | .local _ .vmem, ⟨11, _⟩ => ⟨S544x1024, .f32⟩
  | .local _ .vmem, ⟨12, _⟩ => ⟨S544x1024, .bf16⟩
  | .local _ .vmem, ⟨13, _⟩ => ⟨S544x1024, .bf16⟩
  | .local _ .vmem, ⟨14, _⟩ => ⟨S544x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![1, 16, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg1.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg1.toNat, c6_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]
-- ==== Reference22Ideal.lean ====
abbrev S8704x1024 : Shape := ⟨2, ![8704, 1024]⟩
abbrev S1024x1024 : Shape := ⟨2, ![1024, 1024]⟩
abbrev S8704x7168 : Shape := ⟨2, ![8704, 7168]⟩
abbrev S1x2048 : Shape := ⟨2, ![1, 2048]⟩
abbrev S8704x2048 : Shape := ⟨2, ![8704, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x7168, .f32⟩
  | .hbm, ⟨3, _⟩ => ⟨S8704x1024, .f32⟩
  | .hbm, ⟨4, _⟩ => ⟨S1x2048, .f32⟩
  | .hbm, ⟨5, _⟩ => ⟨S8704x1024, .f32⟩
  | .hbm, ⟨6, _⟩ => ⟨S1024x1024, .f32⟩
  | .hbm, ⟨7, _⟩ => ⟨S8704x1024, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S_, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704x2048, .f32⟩
  | .hbm, ⟨18, _⟩ => ⟨S8704x2048, .f32⟩
  | .hbm, ⟨19, _⟩ => ⟨S8704x1024, .f32⟩
  | .hbm, ⟨20, _⟩ => ⟨S8704x1024, .f32⟩
  | .hbm, ⟨21, _⟩ => ⟨S8704x1024, .f32⟩
  | .hbm, ⟨22, _⟩ => ⟨S8704x1024, .f32⟩
  | .hbm, ⟨23, _⟩ => ⟨S8704x1024, .f32⟩
  | .hbm, ⟨24, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Ops.lean ====
module

public import proofs.«01_k».proof.Proof.Gen.KernelIdeal.Skeleton
public import Idealize.ShloMosaic.Lib.Pointwise
public import Idealize.ShloMosaic.Lib.WholeRead
public import Idealize.ShloMosaic.Lib.WordCmp
public import Idealize.ShloMosaic.Lib.Pipeline.ReadBack

@[expose] public section

set_option maxRecDepth 16384

noncomputable section

namespace Cert.KernelIdeal.Val

open Idealize.ShloMosaic Idealize.ShloMosaic.TcCoe Idealize.SL.Sem
open Cert.KernelIdeal Cert.KernelIdeal.Gen

/-- A matrix of extended reals whose entries are the reals `f i j`. -/
def Is {a b : ℕ} (x : (⟨2, ![a, b]⟩ : Shape).Idx → EReal) (f : ℕ → ℕ → ℝ) : Prop :=
  ∀ (i : Fin a) (j : Fin b), x (ix2 i j) = ((f i j : ℝ) : EReal)

/-- A matrix that is the real `f i j` on and above the diagonal and minus infinity below. -/
def IsM {a b : ℕ} (x : (⟨2, ![a, b]⟩ : Shape).Idx → EReal) (f : ℕ → ℕ → ℝ) : Prop :=
  ∀ (i : Fin a) (j : Fin b), x (ix2 i j) = if (i : ℕ) ≤ j then ((f i j : ℝ) : EReal) else ⊥

variable {a b : ℕ} {f g : ℕ → ℕ → ℝ}

theorem Is.congr {x : (⟨2, ![a, b]⟩ : Shape).Idx → EReal} (hx : Is x f) (h : ∀ i j, i < a → j < b → f i j = g i j) : Is x g := by
  intro i j
  rw [hx i j, h i j i.2 j.2]

theorem Is.add {x y : FVec Ideal (⟨2, ![a, b]⟩ : Shape) .f32} (hx : Is x f) (hy : Is y g) : Is (addf x y) (fun i j => f i j + g i j) := by
  intro i j
  show x (ix2 i j) + y (ix2 i j) = _
  rw [hx i j, hy i j, EReal.coe_add]

theorem Is.sub {x y : FVec Ideal (⟨2, ![a, b]⟩ : Shape) .f32} (hx : Is x f) (hy : Is y g) : Is (subf x y) (fun i j => f i j - g i j) := by
  intro i j
  show x (ix2 i j) - y (ix2 i j) = _
  rw [hx i j, hy i j, EReal.coe_sub]

theorem Is.mul {x y : FVec Ideal (⟨2, ![a, b]⟩ : Shape) .f32} (hx : Is x f) (hy : Is y g) : Is (mulf x y) (fun i j => f i j * g i j) := by
  intro i j
  show x (ix2 i j) * y (ix2 i j) = _
  rw [hx i j, hy i j, EReal.coe_mul]

theorem Is.exp {x : FVec Ideal (⟨2, ![a, b]⟩ : Shape) .f32} (hx : Is x f) : Is (exp x) (fun i j => Real.exp (f i j)) := by
  intro i j
  show Ideal.exp (x (ix2 i j)) = _
  rw [hx i j]
  rfl

theorem Is.cast {x : FVec Ideal (⟨2, ![a, b]⟩ : Shape) .f32} {p : FTy} (hp) (hx : Is x f) : Is (truncf p x hp) f := hx
theorem Is.ext {p : FTy} {x : FVec Ideal (⟨2, ![a, b]⟩ : Shape) p} (hp) (hx : Is x f) : Is (extf .f32 x hp) f := hx

theorem Is.reshape {x : (⟨2, ![a, b]⟩ : Shape).Idx → EReal} (h) (hx : Is x f) : Is (shapeCast (⟨2, ![a, b]⟩ : Shape) x h) f := by
  rw [shapeCast_id]
  exact hx

theorem Is.fill {v : EReal} {r : ℝ} (hv : v = (r : EReal)) : Is (broadcast (⟨2, ![a, b]⟩ : Shape) v) (fun _ _ => r) := fun _ _ => hv

theorem Is.zero {p : FTy} : Is (constant (F := Ideal) (⟨2, ![a, b]⟩ : Shape) p 0#p.bits) (fun _ _ => 0) := by
  intro i j
  show Ideal.ofBits p 0#p.bits = _
  rw [Ideal.ofBits_zero]
  rfl

theorem Is.slice {a' b' : ℕ} (o0 o1 : ℕ) {x : (⟨2, ![a', b']⟩ : Shape).Idx → EReal} {h} (hx : Is x f) :
    Is (extractStridedSlice (⟨2, ![a, b]⟩ : Shape) ![o0, o1] x h) (fun i j => f (o0 + i) (o1 + j)) := by
  intro i j
  have h0 : o0 + a ≤ a' := h.2 0
  have h1 : o1 + b ≤ b' := h.2 1
  refine Eq.trans (congrArg x ?_) (hx ⟨o0 + i, by omega⟩ ⟨o1 + j, by omega⟩)
  funext k
  fin_cases k <;> rfl

theorem Is.sliceR {a' b' : ℕ} (o0 : ℕ) {x : (⟨2, ![a', b']⟩ : Shape).Idx → EReal} (h) (hx : Is x f) :
    Is (extractStridedSlice (⟨2, ![a, b]⟩ : Shape) ![o0, 0] x h) (fun i j => f (o0 + i) j) :=
  (Is.slice o0 0 (h := h) hx).congr fun i j _ _ => by rw [Nat.zero_add]

theorem Is.sliceC {a' b' : ℕ} (o1 : ℕ) {x : (⟨2, ![a', b']⟩ : Shape).Idx → EReal} (h) (hx : Is x f) :
    Is (extractStridedSlice (⟨2, ![a, b]⟩ : Shape) ![0, o1] x h) (fun i j => f i (o1 + j)) :=
  (Is.slice 0 o1 (h := h) hx).congr fun i j _ _ => by rw [Nat.zero_add]

theorem Is.tr {x : (⟨2, ![a, b]⟩ : Shape).Idx → EReal} (h) (hx : Is x f) :
    Is (transpose (⟨2, ![b, a]⟩ : Shape) [1, 0] x h) (fun i j => f j i) := by
  intro i j
  refine Eq.trans (congrArg x ?_) (hx j i)
  funext k
  fin_cases k <;> rfl

theorem Is.rows {x : (⟨2, ![1, b]⟩ : Shape).Idx → EReal} (h) (hx : Is x f) :
    Is (broadcastTo (⟨2, ![a, b]⟩ : Shape) x h) (fun _ j => f 0 j) := by
  intro i j
  refine Eq.trans (congrArg x ?_) (hx 0 j)
  funext k
  apply Fin.ext
  fin_cases k
  · rfl
  · by_cases hb : b = 1
    · subst hb
      have := j.2
      simp
    · simp [hb]

theorem coe_dot {n : ℕ} (u v : Fin n → ℝ) : (∑ k, (u k : EReal) * (v k : EReal)) = ((∑ k, u k * v k : ℝ) : EReal) := by
  exact (map_sum (⟨⟨Real.toEReal, rfl⟩, EReal.coe_add⟩ : ℝ →+ EReal) (fun k => u k * v k) Finset.univ).symm

theorem S1024x128_S128x128_S1024x128_1_0_0_1_n_n {l : FVec Ideal S1024x128 .bf16} {r : FVec Ideal S128x128 .bf16} (hl : Is l f) (hr : Is r g) :
    Is (matmul dot_S1024x128_S128x128_S1024x128_1_0_0_1_n_n none l r (constant (F := Ideal) S1024x128 .f32 0x00000000#32)) (fun i j => ∑ k : Fin 128, f i k * g k j) := by
  intro i j
  pointwise
  rw [← coe_dot]
  refine Finset.sum_congr rfl fun k _ => ?_
  rw [← hl i k, ← hr k j]

theorem S1024x128_S128x128_S1024x128_1_1_0_0_n_n {l : FVec Ideal S1024x128 .bf16} {r : FVec Ideal S128x128 .bf16} (hl : Is l f) (hr : Is r g) :
    Is (matmul dot_S1024x128_S128x128_S1024x128_1_1_0_0_n_n none l r (constant (F := Ideal) S1024x128 .f32 0x00000000#32)) (fun i j => ∑ k : Fin 128, f i k * g j k) := by
  intro i j
  pointwise
  rw [← coe_dot]
  refine Finset.sum_congr rfl fun k _ => ?_
  rw [← hl i k, ← hr j k]

theorem S1024x128_S128x256_S1024x256_1_0_0_1_n_n {l : FVec Ideal S1024x128 .bf16} {r : FVec Ideal S128x256 .bf16} (hl : Is l f) (hr : Is r g) :
    Is (matmul dot_S1024x128_S128x256_S1024x256_1_0_0_1_n_n none l r (constant (F := Ideal) S1024x256 .f32 0x00000000#32)) (fun i j => ∑ k : Fin 128, f i k * g k j) := by
  intro i j
  pointwise
  rw [← coe_dot]
  refine Finset.sum_congr rfl fun k _ => ?_
  rw [← hl i k, ← hr k j]

theorem S1024x128_S256x128_S1024x256_1_1_0_0_n_n {l : FVec Ideal S1024x128 .bf16} {r : FVec Ideal S256x128 .bf16} (hl : Is l f) (hr : Is r g) :
    Is (matmul dot_S1024x128_S256x128_S1024x256_1_1_0_0_n_n none l r (constant (F := Ideal) S1024x256 .f32 0x00000000#32)) (fun i j => ∑ k : Fin 128, f i k * g j k) := by
  intro i j
  pointwise
  rw [← coe_dot]
  refine Finset.sum_congr rfl fun k _ => ?_
  rw [← hl i k, ← hr j k]

theorem S1024x256_S128x256_S1024x128_1_1_0_0_n_n {l : FVec Ideal S1024x256 .bf16} {r : FVec Ideal S128x256 .bf16} (hl : Is l f) (hr : Is r g) :
    Is (matmul dot_S1024x256_S128x256_S1024x128_1_1_0_0_n_n none l r (constant (F := Ideal) S1024x128 .f32 0x00000000#32)) (fun i j => ∑ k : Fin 256, f i k * g j k) := by
  intro i j
  pointwise
  rw [← coe_dot]
  refine Finset.sum_congr rfl fun k _ => ?_
  rw [← hl i k, ← hr j k]

theorem S1024x256_S256x128_S1024x128_1_0_0_1_n_n {l : FVec Ideal S1024x256 .bf16} {r : FVec Ideal S256x128 .bf16} (hl : Is l f) (hr : Is r g) :
    Is (matmul dot_S1024x256_S256x128_S1024x128_1_0_0_1_n_n none l r (constant (F := Ideal) S1024x128 .f32 0x00000000#32)) (fun i j => ∑ k : Fin 256, f i k * g k j) := by
  intro i j
  pointwise
  rw [← coe_dot]
  refine Finset.sum_congr rfl fun k _ => ?_
  rw [← hl i k, ← hr k j]

theorem S1024x256_S256x256_S1024x256_1_0_0_1_n_n {l : FVec Ideal S1024x256 .bf16} {r : FVec Ideal S256x256 .bf16} (hl : Is l f) (hr : Is r g) :
    Is (matmul dot_S1024x256_S256x256_S1024x256_1_0_0_1_n_n none l r (constant (F := Ideal) S1024x256 .f32 0x00000000#32)) (fun i j => ∑ k : Fin 256, f i k * g k j) := by
  intro i j
  pointwise
  rw [← coe_dot]
  refine Finset.sum_congr rfl fun k _ => ?_
  rw [← hl i k, ← hr k j]

theorem S1024x256_S256x256_S1024x256_1_1_0_0_n_n {l : FVec Ideal S1024x256 .bf16} {r : FVec Ideal S256x256 .bf16} (hl : Is l f) (hr : Is r g) :
    Is (matmul dot_S1024x256_S256x256_S1024x256_1_1_0_0_n_n none l r (constant (F := Ideal) S1024x256 .f32 0x00000000#32)) (fun i j => ∑ k : Fin 256, f i k * g j k) := by
  intro i j
  pointwise
  rw [← coe_dot]
  refine Finset.sum_congr rfl fun k _ => ?_
  rw [← hl i k, ← hr j k]

theorem S128x128_S128x128_S128x128_1_0_0_1_n_n {l : FVec Ideal S128x128 .bf16} {r : FVec Ideal S128x128 .bf16} (hl : Is l f) (hr : Is r g) :
    Is (matmul dot_S128x128_S128x128_S128x128_1_0_0_1_n_n none l r (constant (F := Ideal) S128x128 .f32 0x00000000#32)) (fun i j => ∑ k : Fin 128, f i k * g k j) := by
  intro i j
  pointwise
  rw [← coe_dot]
  refine Finset.sum_congr rfl fun k _ => ?_
  rw [← hl i k, ← hr k j]

theorem S128x128_S128x128_S128x128_1_1_0_0_n_n {l : FVec Ideal S128x128 .bf16} {r : FVec Ideal S128x128 .bf16} (hl : Is l f) (hr : Is r g) :
    Is (matmul dot_S128x128_S128x128_S128x128_1_1_0_0_n_n none l r (constant (F := Ideal) S128x128 .f32 0x00000000#32)) (fun i j => ∑ k : Fin 128, f i k * g j k) := by
  intro i j
  pointwise
  rw [← coe_dot]
  refine Finset.sum_congr rfl fun k _ => ?_
  rw [← hl i k, ← hr j k]

theorem S128x128_S128x256_S128x256_1_0_0_1_n_n {l : FVec Ideal S128x128 .bf16} {r : FVec Ideal S128x256 .bf16} (hl : Is l f) (hr : Is r g) :
    Is (matmul dot_S128x128_S128x256_S128x256_1_0_0_1_n_n none l r (constant (F := Ideal) S128x256 .f32 0x00000000#32)) (fun i j => ∑ k : Fin 128, f i k * g k j) := by
  intro i j
  pointwise
  rw [← coe_dot]
  refine Finset.sum_congr rfl fun k _ => ?_
  rw [← hl i k, ← hr k j]

theorem S128x256_S128x256_S128x128_1_1_0_0_n_n {l : FVec Ideal S128x256 .bf16} {r : FVec Ideal S128x256 .bf16} (hl : Is l f) (hr : Is r g) :
    Is (matmul dot_S128x256_S128x256_S128x128_1_1_0_0_n_n none l r (constant (F := Ideal) S128x128 .f32 0x00000000#32)) (fun i j => ∑ k : Fin 256, f i k * g j k) := by
  intro i j
  pointwise
  rw [← coe_dot]
  refine Finset.sum_congr rfl fun k _ => ?_
  rw [← hl i k, ← hr j k]

theorem S256x1024_S1024x128_S256x128_1_0_0_1_n_n {l : FVec Ideal S256x1024 .bf16} {r : FVec Ideal S1024x128 .bf16} (hl : Is l f) (hr : Is r g) :
    Is (matmul dot_S256x1024_S1024x128_S256x128_1_0_0_1_n_n none l r (constant (F := Ideal) S256x128 .f32 0x00000000#32)) (fun i j => ∑ k : Fin 1024, f i k * g k j) := by
  intro i j
  pointwise
  rw [← coe_dot]
  refine Finset.sum_congr rfl fun k _ => ?_
  rw [← hl i k, ← hr k j]

theorem S256x1024_S1024x256_S256x256_1_0_0_1_n_n {l : FVec Ideal S256x1024 .bf16} {r : FVec Ideal S1024x256 .bf16} (hl : Is l f) (hr : Is r g) :
    Is (matmul dot_S256x1024_S1024x256_S256x256_1_0_0_1_n_n none l r (constant (F := Ideal) S256x256 .f32 0x00000000#32)) (fun i j => ∑ k : Fin 1024, f i k * g k j) := by
  intro i j
  pointwise
  rw [← coe_dot]
  refine Finset.sum_congr rfl fun k _ => ?_
  rw [← hl i k, ← hr k j]

theorem S256x128_S128x128_S256x128_1_0_0_1_n_n {l : FVec Ideal S256x128 .bf16} {r : FVec Ideal S128x128 .bf16} (hl : Is l f) (hr : Is r g) :
    Is (matmul dot_S256x128_S128x128_S256x128_1_0_0_1_n_n none l r (constant (F := Ideal) S256x128 .f32 0x00000000#32)) (fun i j => ∑ k : Fin 128, f i k * g k j) := by
  intro i j
  pointwise
  rw [← coe_dot]
  refine Finset.sum_congr rfl fun k _ => ?_
  rw [← hl i k, ← hr k j]

theorem S256x128_S256x128_S256x256_1_1_0_0_n_n {l : FVec Ideal S256x128 .bf16} {r : FVec Ideal S256x128 .bf16} (hl : Is l f) (hr : Is r g) :
    Is (matmul dot_S256x128_S256x128_S256x256_1_1_0_0_n_n none l r (constant (F := Ideal) S256x256 .f32 0x00000000#32)) (fun i j => ∑ k : Fin 128, f i k * g j k) := by
  intro i j
  pointwise
  rw [← coe_dot]
  refine Finset.sum_congr rfl fun k _ => ?_
  rw [← hl i k, ← hr j k]

theorem S256x256_S256x128_S256x128_1_0_0_1_n_n {l : FVec Ideal S256x256 .bf16} {r : FVec Ideal S256x128 .bf16} (hl : Is l f) (hr : Is r g) :
    Is (matmul dot_S256x256_S256x128_S256x128_1_0_0_1_n_n none l r (constant (F := Ideal) S256x128 .f32 0x00000000#32)) (fun i j => ∑ k : Fin 256, f i k * g k j) := by
  intro i j
  pointwise
  rw [← coe_dot]
  refine Finset.sum_congr rfl fun k _ => ?_
  rw [← hl i k, ← hr k j]

theorem S256x256_S256x256_S256x256_1_0_0_1_n_n {l : FVec Ideal S256x256 .bf16} {r : FVec Ideal S256x256 .bf16} (hl : Is l f) (hr : Is r g) :
    Is (matmul dot_S256x256_S256x256_S256x256_1_0_0_1_n_n none l r (constant (F := Ideal) S256x256 .f32 0x00000000#32)) (fun i j => ∑ k : Fin 256, f i k * g k j) := by
  intro i j
  pointwise
  rw [← coe_dot]
  refine Finset.sum_congr rfl fun k _ => ?_
  rw [← hl i k, ← hr k j]

theorem S256x256_S256x256_S256x256_1_1_0_0_n_n {l : FVec Ideal S256x256 .bf16} {r : FVec Ideal S256x256 .bf16} (hl : Is l f) (hr : Is r g) :
    Is (matmul dot_S256x256_S256x256_S256x256_1_1_0_0_n_n none l r (constant (F := Ideal) S256x256 .f32 0x00000000#32)) (fun i j => ∑ k : Fin 256, f i k * g j k) := by
  intro i j
  pointwise
  rw [← coe_dot]
  refine Finset.sum_congr rfl fun k _ => ?_
  rw [← hl i k, ← hr j k]

theorem S256x512_S512x256_S256x256_1_0_0_1_n_n {l : FVec Ideal S256x512 .bf16} {r : FVec Ideal S512x256 .bf16} (hl : Is l f) (hr : Is r g) :
    Is (matmul dot_S256x512_S512x256_S256x256_1_0_0_1_n_n none l r (constant (F := Ideal) S256x256 .f32 0x00000000#32)) (fun i j => ∑ k : Fin 512, f i k * g k j) := by
  intro i j
  pointwise
  rw [← coe_dot]
  refine Finset.sum_congr rfl fun k _ => ?_
  rw [← hl i k, ← hr k j]

theorem S256x768_S768x256_S256x256_1_0_0_1_n_n {l : FVec Ideal S256x768 .bf16} {r : FVec Ideal S768x256 .bf16} (hl : Is l f) (hr : Is r g) :
    Is (matmul dot_S256x768_S768x256_S256x256_1_0_0_1_n_n none l r (constant (F := Ideal) S256x256 .f32 0x00000000#32)) (fun i j => ∑ k : Fin 768, f i k * g k j) := by
  intro i j
  pointwise
  rw [← coe_dot]
  refine Finset.sum_congr rfl fun k _ => ?_
  rw [← hl i k, ← hr k j]

theorem S512x128_S256x128_S512x256_1_1_0_0_n_n {l : FVec Ideal S512x128 .bf16} {r : FVec Ideal S256x128 .bf16} (hl : Is l f) (hr : Is r g) :
    Is (matmul dot_S512x128_S256x128_S512x256_1_1_0_0_n_n none l r (constant (F := Ideal) S512x256 .f32 0x00000000#32)) (fun i j => ∑ k : Fin 128, f i k * g j k) := by
  intro i j
  pointwise
  rw [← coe_dot]
  refine Finset.sum_congr rfl fun k _ => ?_
  rw [← hl i k, ← hr j k]

theorem S512x256_S256x128_S512x128_1_0_0_1_n_n {l : FVec Ideal S512x256 .bf16} {r : FVec Ideal S256x128 .bf16} (hl : Is l f) (hr : Is r g) :
    Is (matmul dot_S512x256_S256x128_S512x128_1_0_0_1_n_n none l r (constant (F := Ideal) S512x128 .f32 0x00000000#32)) (fun i j => ∑ k : Fin 256, f i k * g k j) := by
  intro i j
  pointwise
  rw [← coe_dot]
  refine Finset.sum_congr rfl fun k _ => ?_
  rw [← hl i k, ← hr k j]

theorem S512x256_S256x256_S512x256_1_0_0_1_n_n {l : FVec Ideal S512x256 .bf16} {r : FVec Ideal S256x256 .bf16} (hl : Is l f) (hr : Is r g) :
    Is (matmul dot_S512x256_S256x256_S512x256_1_0_0_1_n_n none l r (constant (F := Ideal) S512x256 .f32 0x00000000#32)) (fun i j => ∑ k : Fin 256, f i k * g k j) := by
  intro i j
  pointwise
  rw [← coe_dot]
  refine Finset.sum_congr rfl fun k _ => ?_
  rw [← hl i k, ← hr k j]

theorem S512x256_S256x256_S512x256_1_1_0_0_n_n {l : FVec Ideal S512x256 .bf16} {r : FVec Ideal S256x256 .bf16} (hl : Is l f) (hr : Is r g) :
    Is (matmul dot_S512x256_S256x256_S512x256_1_1_0_0_n_n none l r (constant (F := Ideal) S512x256 .f32 0x00000000#32)) (fun i j => ∑ k : Fin 256, f i k * g j k) := by
  intro i j
  pointwise
  rw [← coe_dot]
  refine Finset.sum_congr rfl fun k _ => ?_
  rw [← hl i k, ← hr j k]

theorem S768x128_S256x128_S768x256_1_1_0_0_n_n {l : FVec Ideal S768x128 .bf16} {r : FVec Ideal S256x128 .bf16} (hl : Is l f) (hr : Is r g) :
    Is (matmul dot_S768x128_S256x128_S768x256_1_1_0_0_n_n none l r (constant (F := Ideal) S768x256 .f32 0x00000000#32)) (fun i j => ∑ k : Fin 128, f i k * g j k) := by
  intro i j
  pointwise
  rw [← coe_dot]
  refine Finset.sum_congr rfl fun k _ => ?_
  rw [← hl i k, ← hr j k]

theorem S768x256_S256x128_S768x128_1_0_0_1_n_n {l : FVec Ideal S768x256 .bf16} {r : FVec Ideal S256x128 .bf16} (hl : Is l f) (hr : Is r g) :
    Is (matmul dot_S768x256_S256x128_S768x128_1_0_0_1_n_n none l r (constant (F := Ideal) S768x128 .f32 0x00000000#32)) (fun i j => ∑ k : Fin 256, f i k * g k j) := by
  intro i j
  pointwise
  rw [← coe_dot]
  refine Finset.sum_congr rfl fun k _ => ?_
  rw [← hl i k, ← hr k j]

theorem S768x256_S256x256_S768x256_1_0_0_1_n_n {l : FVec Ideal S768x256 .bf16} {r : FVec Ideal S256x256 .bf16} (hl : Is l f) (hr : Is r g) :
    Is (matmul dot_S768x256_S256x256_S768x256_1_0_0_1_n_n none l r (constant (F := Ideal) S768x256 .f32 0x00000000#32)) (fun i j => ∑ k : Fin 256, f i k * g k j) := by
  intro i j
  pointwise
  rw [← coe_dot]
  refine Finset.sum_congr rfl fun k _ => ?_
  rw [← hl i k, ← hr k j]

theorem S768x256_S256x256_S768x256_1_1_0_0_n_n {l : FVec Ideal S768x256 .bf16} {r : FVec Ideal S256x256 .bf16} (hl : Is l f) (hr : Is r g) :
    Is (matmul dot_S768x256_S256x256_S768x256_1_1_0_0_n_n none l r (constant (F := Ideal) S768x256 .f32 0x00000000#32)) (fun i j => ∑ k : Fin 256, f i k * g j k) := by
  intro i j
  pointwise
  rw [← coe_dot]
  refine Finset.sum_congr rfl fun k _ => ?_
  rw [← hl i k, ← hr j k]

theorem IsM.select {x : FVec Ideal (⟨2, ![a, b]⟩ : Shape) .f32} {h0 h1} (hab : a ≤ 2 ^ 31) (hb : b ≤ 2 ^ 31) {v : EReal} (hv : v = ⊥) (hx : Is x f) :
    IsM (select (cmpi .sle (iota .tc (⟨2, ![a, b]⟩ : Shape) 32 [0] h0) (iota .tc (⟨2, ![a, b]⟩ : Shape) 32 [1] h1)) x (broadcast (⟨2, ![a, b]⟩ : Shape) v)) f := by
  intro i j
  have e0 : iota .tc (⟨2, ![a, b]⟩ : Shape) 32 [0] h0 (ix2 i j) = BitVec.ofNat 32 i := by pointwise
  have e1 : iota .tc (⟨2, ![a, b]⟩ : Shape) 32 [1] h1 (ix2 i j) = BitVec.ofNat 32 j := by pointwise
  show Scalar.select (IntOp.cmpi .sle (iota .tc (⟨2, ![a, b]⟩ : Shape) 32 [0] h0 (ix2 i j)) (iota .tc (⟨2, ![a, b]⟩ : Shape) 32 [1] h1 (ix2 i j))) (x (ix2 i j)) v = _
  rw [e0, e1, WordCmp.cmpi_sle_ofNat (lt_of_lt_of_le i.2 hab) (lt_of_lt_of_le j.2 hb), hx i j, hv]
  by_cases h : (i : ℕ) ≤ j
  · rw [if_pos h, decide_eq_true h]
    rfl
  · rw [if_neg h, decide_eq_false h]
    rfl

theorem IsM.sub {x y : FVec Ideal (⟨2, ![a, b]⟩ : Shape) .f32} (hx : IsM x f) (hy : Is y g) : IsM (subf x y) (fun i j => f i j - g i j) := by
  intro i j
  show x (ix2 i j) - y (ix2 i j) = _
  rw [hx i j, hy i j]
  split_ifs
  · rw [EReal.coe_sub]
  · exact EReal.bot_sub _

theorem IsM.exp {x : FVec Ideal (⟨2, ![a, b]⟩ : Shape) .f32} (hx : IsM x f) : Is (exp x) (fun i j => if i ≤ j then Real.exp (f i j) else 0) := by
  intro i j
  show Ideal.exp (x (ix2 i j)) = _
  rw [hx i j]
  by_cases h : (i : ℕ) ≤ j
  · rw [if_pos h]
    show _ = (((if (i : ℕ) ≤ j then Real.exp (f i j) else 0 : ℝ)) : EReal)
    rw [if_pos h]
    rfl
  · rw [if_neg h]
    show _ = (((if (i : ℕ) ≤ j then Real.exp (f i j) else 0 : ℝ)) : EReal)
    rw [if_neg h]
    rfl

/-- What a list of stores leaves, read as a matrix of reals. -/
def IsC {a b : ℕ} (L : List (View.Piece (Elt Ideal) (⟨2, ![a, b]⟩ : Shape) .f32)) (f : ℕ → ℕ → ℝ) : Prop :=
  Is (a := a) (b := b) (View.canon (Val := Elt Ideal) (s := ⟨2, ![a, b]⟩) (e := .f32) L) f

theorem IsC.fill {p : FVec Ideal (⟨2, ![a, b]⟩ : Shape) .f32} {inb} (hp : Is p f) :
    IsC [⟨Rect.unit (s := (⟨2, ![a, b]⟩ : Shape)) ![0, 0] (⟨2, ![a, b]⟩ : Shape).size inb, p⟩] f := by
  intro i j
  have h0 : ∀ k : Fin (⟨2, ![a, b]⟩ : Shape).rank, (![0, 0] : Fin 2 → ℕ) k = 0 := by
    intro k
    fin_cases k <;> rfl
  exact (congrFun (View.canon_cons_unit_lit (Val := Elt Ideal) (e := .f32) (S := (⟨2, ![a, b]⟩ : Shape)) inb p [] h0) (ix2 i j)).trans (hp i j)

theorem IsC.store {n : ℕ} (c0 : ℕ) {L : List (View.Piece (Elt Ideal) (⟨2, ![a, b]⟩ : Shape) .f32)} {p : FVec Ideal (⟨2, ![n, b]⟩ : Shape) .f32} {inb}
    (hL : IsC L f) (hp : Is p (fun i j => g (c0 + i) j)) :
    IsC (⟨Rect.unit (s := (⟨2, ![a, b]⟩ : Shape)) ![c0, 0] (⟨2, ![n, b]⟩ : Shape).size inb, p⟩ :: L) (fun i j => if c0 ≤ i ∧ i < c0 + n then g i j else f i j) := by
  intro i j
  show (View.canon (Val := Elt Ideal) (s := ⟨2, ![a, b]⟩) (e := .f32) _ (ix2 i j) : EReal) = (((if c0 ≤ (i : ℕ) ∧ (i : ℕ) < c0 + n then g i j else f i j : ℝ)) : EReal)
  by_cases h : c0 ≤ (i : ℕ) ∧ (i : ℕ) < c0 + n
  · rw [if_pos h]
    have e : (ix2 i j : (⟨2, ![a, b]⟩ : Shape).Idx) = (Rect.unit (s := (⟨2, ![a, b]⟩ : Shape)) ![c0, 0] (⟨2, ![n, b]⟩ : Shape).size inb).emb (ix2 (⟨i - c0, by omega⟩ : Fin n) j) := by
      funext k
      apply Fin.ext
      fin_cases k
      · show (i : ℕ) = c0 + 1 * (i - c0)
        omega
      · show (j : ℕ) = 0 + 1 * j
        omega
    rw [e, View.canon_cons_emb]
    refine (hp ⟨i - c0, by omega⟩ j).trans ?_
    show ((g (c0 + (i - c0)) j : ℝ) : EReal) = _
    rw [Nat.add_sub_cancel' h.1]
  · rw [if_neg h, View.canon_cons_of_not_mem]
    · exact hL i j
    · intro hm
      obtain ⟨x, hx⟩ := LoadRect.exists_idx_of_mem _ hm
      apply h
      have e : c0 + 1 * (x 0 : ℕ) = i := congrArg (fun y : (⟨2, ![a, b]⟩ : Shape).Idx => (y 0 : ℕ)) hx
      have l : (x 0 : ℕ) < n := (x 0).2
      omega

theorem IsC.load {n m : ℕ} (o0 o1 : ℕ) {L : List (View.Piece (Elt Ideal) (⟨2, ![a, b]⟩ : Shape) .f32)} (hL : IsC L f)
    {sig : RefSig} {κ : Kind} {sp : Space} {v : View sig κ sp (⟨2, ![a, b]⟩ : Shape) .f32} {inb} :
    Is (a := n) (b := m) (View.readCov (Val := Elt Ideal) v L (Rect.unit (s := (⟨2, ![a, b]⟩ : Shape)) ![o0, o1] (⟨2, ![n, m]⟩ : Shape).size inb).toLoadRect) (fun i j => f (o0 + i) (o1 + j)) := by
  intro i j
  rw [View.readCov_eq_canon']
  have h0 : o0 + n ≤ a := inb 0
  have h1 : o1 + m ≤ b := inb 1
  refine Eq.trans (congrArg (View.canon L) ?_) (hL ⟨o0 + i, by omega⟩ ⟨o1 + j, by omega⟩)
  funext k
  apply Fin.ext
  fin_cases k
  · show o0 + 1 * (i : ℕ) = o0 + i
    omega
  · show o1 + 1 * (j : ℕ) = o1 + j
    omega

theorem Is.load_bf16 {n m : ℕ} (o0 : ℕ) {sig : RefSig} {κ : Kind} {sp : Space} {M : Memref sig κ sp (⟨2, ![a, b]⟩ : Shape) .bf16} {hM : M.IsWhole}
    {x : (⟨2, ![a, b]⟩ : Shape).Idx → Elt Ideal .bf16} {inb} (hx : Is x f) :
    Is (a := n) (b := m) (View.readAt (Elt Ideal) M.view (Rect.unit (s := (⟨2, ![a, b]⟩ : Shape)) ![o0, 0] (⟨2, ![n, m]⟩ : Shape).size inb).toLoadRect (hM.unread x)) (fun i j => f (o0 + i) j) := by
  intro i j
  rw [Memref.IsWhole.readAt_unread]
  have h0 : o0 + n ≤ a := inb 0
  have h1 : 0 + m ≤ b := inb 1
  refine Eq.trans (congrArg x ?_) (hx ⟨o0 + i, by omega⟩ ⟨j, by omega⟩)
  funext k
  apply Fin.ext
  fin_cases k
  · show o0 + 1 * (i : ℕ) = o0 + i
    omega
  · show 0 + 1 * (j : ℕ) = j
    omega

theorem Is.load_f32 {n m : ℕ} (o0 : ℕ) {sig : RefSig} {κ : Kind} {sp : Space} {M : Memref sig κ sp (⟨2, ![a, b]⟩ : Shape) .f32} {hM : M.IsWhole}
    {x : (⟨2, ![a, b]⟩ : Shape).Idx → Elt Ideal .f32} {inb} (hx : Is x f) :
    Is (a := n) (b := m) (View.readAt (Elt Ideal) M.view (Rect.unit (s := (⟨2, ![a, b]⟩ : Shape)) ![o0, 0] (⟨2, ![n, m]⟩ : Shape).size inb).toLoadRect (hM.unread x)) (fun i j => f (o0 + i) j) := by
  intro i j
  rw [Memref.IsWhole.readAt_unread]
  have h0 : o0 + n ≤ a := inb 0
  have h1 : 0 + m ≤ b := inb 1
  refine Eq.trans (congrArg x ?_) (hx ⟨o0 + i, by omega⟩ ⟨j, by omega⟩)
  funext k
  apply Fin.ext
  fin_cases k
  · show o0 + 1 * (i : ℕ) = o0 + i
    omega
  · show 0 + 1 * (j : ℕ) = j
    omega

theorem Is.load0_bf16 {n m : ℕ} {sig : RefSig} {κ : Kind} {sp : Space} {M : Memref sig κ sp (⟨2, ![a, b]⟩ : Shape) .bf16} {hM : M.IsWhole}
    {x : (⟨2, ![a, b]⟩ : Shape).Idx → Elt Ideal .bf16} {inb} (hx : Is x f) :
    Is (a := n) (b := m) (View.readAt (Elt Ideal) M.view (Rect.unit (s := (⟨2, ![a, b]⟩ : Shape)) ![0, 0] (⟨2, ![n, m]⟩ : Shape).size inb).toLoadRect (hM.unread x)) f :=
  (Is.load_bf16 0 hx).congr fun i j _ _ => by rw [Nat.zero_add]

theorem Is.load0_f32 {n m : ℕ} {sig : RefSig} {κ : Kind} {sp : Space} {M : Memref sig κ sp (⟨2, ![a, b]⟩ : Shape) .f32} {hM : M.IsWhole}
    {x : (⟨2, ![a, b]⟩ : Shape).Idx → Elt Ideal .f32} {inb} (hx : Is x f) :
    Is (a := n) (b := m) (View.readAt (Elt Ideal) M.view (Rect.unit (s := (⟨2, ![a, b]⟩ : Shape)) ![0, 0] (⟨2, ![n, m]⟩ : Shape).size inb).toLoadRect (hM.unread x)) f :=
  (Is.load_f32 0 hx).congr fun i j _ _ => by rw [Nat.zero_add]

theorem IsC.loadR {n m : ℕ} (o0 : ℕ) {L : List (View.Piece (Elt Ideal) (⟨2, ![a, b]⟩ : Shape) .f32)} (hL : IsC L f)
    {sig : RefSig} {κ : Kind} {sp : Space} {v : View sig κ sp (⟨2, ![a, b]⟩ : Shape) .f32} {inb} :
    Is (a := n) (b := m) (View.readCov (Val := Elt Ideal) v L (Rect.unit (s := (⟨2, ![a, b]⟩ : Shape)) ![o0, 0] (⟨2, ![n, m]⟩ : Shape).size inb).toLoadRect) (fun i j => f (o0 + i) j) :=
  (IsC.load o0 0 hL).congr fun i j _ _ => by rw [Nat.zero_add]

/-- The matrix of reals `f` as a function of a pair index. -/
def mat {a b : ℕ} (f : ℕ → ℕ → ℝ) : (⟨2, ![a, b]⟩ : Shape).Idx → EReal := fun y => ((f (y 0 : ℕ) (y 1 : ℕ) : ℝ) : EReal)

theorem Is.piece_bf16 {n : ℕ} (o0 : ℕ) {p : (⟨2, ![n, b]⟩ : Shape).Idx → Elt Ideal .bf16} {inb} (hp : Is p (fun i j => f (o0 + i) j)) :
    ∀ x, p x = (mat f : (⟨2, ![a, b]⟩ : Shape).Idx → Elt Ideal .bf16) ((Rect.unit (s := (⟨2, ![a, b]⟩ : Shape)) ![o0, 0] (⟨2, ![n, b]⟩ : Shape).size inb).emb x) := by
  intro x
  obtain ⟨i, j, rfl⟩ : ∃ (i : Fin n) (j : Fin b), x = ix2 i j := ⟨x 0, x 1, eq_ix2 x⟩
  refine (hp i j).trans ?_
  show ((f (o0 + i) j : ℝ) : EReal) = ((f (o0 + 1 * (i : ℕ)) (0 + 1 * (j : ℕ)) : ℝ) : EReal)
  rw [Nat.one_mul, Nat.one_mul, Nat.zero_add]

theorem Is.piece_f32 {n : ℕ} (o0 : ℕ) {p : (⟨2, ![n, b]⟩ : Shape).Idx → Elt Ideal .f32} {inb} (hp : Is p (fun i j => f (o0 + i) j)) :
    ∀ x, p x = (mat f : (⟨2, ![a, b]⟩ : Shape).Idx → Elt Ideal .f32) ((Rect.unit (s := (⟨2, ![a, b]⟩ : Shape)) ![o0, 0] (⟨2, ![n, b]⟩ : Shape).size inb).emb x) := by
  intro x
  obtain ⟨i, j, rfl⟩ : ∃ (i : Fin n) (j : Fin b), x = ix2 i j := ⟨x 0, x 1, eq_ix2 x⟩
  refine (hp i j).trans ?_
  show ((f (o0 + i) j : ℝ) : EReal) = ((f (o0 + 1 * (i : ℕ)) (0 + 1 * (j : ℕ)) : ℝ) : EReal)
  rw [Nat.one_mul, Nat.one_mul, Nat.zero_add]

end Cert.KernelIdeal.Val
-- ==== Proof.Data.lean ====
module

public import proofs.«01_k».proof.Proof.Ops

@[expose] public section

set_option maxRecDepth 16384

noncomputable section

namespace Cert.KernelIdeal.Val

open Idealize.ShloMosaic Idealize.ShloMosaic.TcCoe Idealize.SL.Sem
open Cert.KernelIdeal Cert.KernelIdeal.Gen

/-- The real entries of one head's blocks: query, key, value, output gradient, output, row log-sum, cosine and sine tables. -/
structure Data where
  Q : ℕ → ℕ → ℝ
  K : ℕ → ℕ → ℝ
  V : ℕ → ℕ → ℝ
  DO : ℕ → ℕ → ℝ
  O : ℕ → ℕ → ℝ
  C : ℕ → ℕ → ℝ
  S : ℕ → ℕ → ℝ
  L : ℕ → ℝ

/-- The scale of the scores. -/
def scale : ℝ := (Ideal.ofBits .f32 0x3D93CD3A#32).toReal

theorem scale_coe : (Scalar.ofBits .f32 0x3D93CD3A#32 : Ideal .f32) = (scale : EReal) := by
  show Ideal.ofBits .f32 0x3D93CD3A#32 = (((Ideal.ofBits .f32 0x3D93CD3A#32).toReal : ℝ) : EReal)
  have h : ∃ r : ℝ, Ideal.ofBits .f32 0x3D93CD3A#32 = (r : EReal) := by
    simp only [Ideal.ofBits, Ideal.ieee]
    exact ⟨_, rfl⟩
  obtain ⟨r, hr⟩ := h
  rw [hr, EReal.toReal_coe]

theorem zero_coe : (Scalar.ofBits .f32 0x00000000#32 : Ideal .f32) = ((0 : ℝ) : EReal) := by
  show Ideal.ofBits .f32 0x00000000#32 = _
  rw [Ideal.ofBits_zero_f32]
  rfl

theorem mask_bot : (Named.named κ "mask" 0xF149F2CA#32 : Ideal .f32) = (⊥ : EReal) := rfl

namespace Data
variable (d : Data)

/-- The raw score of key `k` against query `q`. -/
def sr (k q : ℕ) : ℝ := ∑ l : Fin 256, d.K k l * d.Q q l
/-- The probability of key `k` in row `q`, zero above the diagonal. -/
def pr (k q : ℕ) : ℝ := if k ≤ q then Real.exp (d.sr k q * scale - d.L q) else 0
/-- The gradient of the probability. -/
def dp (k q : ℕ) : ℝ := ∑ l : Fin 128, d.V k l * d.DO q l
/-- The row sum of output times its gradient. -/
def D (q : ℕ) : ℝ := ∑ l : Fin 128, d.DO q l * d.O q l
/-- The gradient of the raw score. -/
def ds (k q : ℕ) : ℝ := d.pr k q * (d.dp k q - d.D q) * scale
/-- What `n` queries from `r0` on add to the gradient of the key `k`. -/
def dkT (r0 n k l : ℕ) : ℝ := ∑ j : Fin n, d.ds k (r0 + j) * d.Q (r0 + j) l
/-- What `n` queries from `r0` on add to the gradient of the value `k`. -/
def dvT (r0 n k l : ℕ) : ℝ := ∑ j : Fin n, d.pr k (r0 + j) * d.DO (r0 + j) l
/-- What `n` keys from `c0` on add to the gradient of the query `q`. -/
def dqT (c0 n q l : ℕ) : ℝ := ∑ k : Fin n, d.K (c0 + k) l * d.ds (c0 + k) q

theorem pr_le {k q : ℕ} (h : k ≤ q) : Real.exp (d.sr k q * scale - d.L q) = d.pr k q := (if_pos h).symm

theorem pr_diag (r0 i j : ℕ) : (if i ≤ j then Real.exp (d.sr (r0 + i) (r0 + j) * scale - d.L (r0 + j)) else 0) = d.pr (r0 + i) (r0 + j) := by
  unfold pr
  by_cases h : i ≤ j
  · rw [if_pos h, if_pos (by omega)]
  · rw [if_neg h, if_neg (by omega)]

/-- A running sum `f` after `g` is added to its rows `c0 ≤ i < c0 + n`. -/
def upd (f : ℕ → ℕ → ℝ) (c0 n : ℕ) (g : ℕ → ℕ → ℝ) : ℕ → ℕ → ℝ := fun i j => if c0 ≤ i ∧ i < c0 + n then f i j + g i j else f i j

/-- The gradient of the key `k`. -/
def dk (k l : ℕ) : ℝ := ∑ q : Fin 2176, d.ds k q * d.Q q l
/-- The gradient of the value `k`. -/
def dv (k l : ℕ) : ℝ := ∑ q : Fin 2176, d.pr k q * d.DO q l
/-- The gradient of the query `q`. -/
def dq (q l : ℕ) : ℝ := ∑ k : Fin 2176, d.K k l * d.ds k q

theorem pr_zero {k q : ℕ} (h : q < k) : d.pr k q = 0 := if_neg (by omega)
theorem ds_zero {k q : ℕ} (h : q < k) : d.ds k q = 0 := by rw [ds, d.pr_zero h, zero_mul, zero_mul]

theorem dkT_split (c m n k l : ℕ) : d.dkT c m k l + d.dkT (c + m) n k l = d.dkT c (m + n) k l := by
  unfold dkT
  rw [Fin.sum_univ_add]
  refine congrArg₂ (· + ·) rfl (Finset.sum_congr rfl fun j _ => ?_)
  rw [Fin.val_natAdd, Nat.add_assoc]

theorem dvT_split (c m n k l : ℕ) : d.dvT c m k l + d.dvT (c + m) n k l = d.dvT c (m + n) k l := by
  unfold dvT
  rw [Fin.sum_univ_add]
  refine congrArg₂ (· + ·) rfl (Finset.sum_congr rfl fun j _ => ?_)
  rw [Fin.val_natAdd, Nat.add_assoc]

theorem dqT_split (c m n q l : ℕ) : d.dqT c m q l + d.dqT (c + m) n q l = d.dqT c (m + n) q l := by
  unfold dqT
  rw [Fin.sum_univ_add]
  refine congrArg₂ (· + ·) rfl (Finset.sum_congr rfl fun j _ => ?_)
  rw [Fin.val_natAdd, Nat.add_assoc]

theorem dkT_zero {c n k : ℕ} (l : ℕ) (h : c + n ≤ k) : d.dkT c n k l = 0 :=
  Finset.sum_eq_zero fun j _ => by rw [d.ds_zero (by have := j.2; omega), zero_mul]

theorem dvT_zero {c n k : ℕ} (l : ℕ) (h : c + n ≤ k) : d.dvT c n k l = 0 :=
  Finset.sum_eq_zero fun j _ => by rw [d.pr_zero (by have := j.2; omega), zero_mul]

theorem dqT_zero {c n q : ℕ} (l : ℕ) (h : q < c) : d.dqT c n q l = 0 :=
  Finset.sum_eq_zero fun j _ => by rw [d.ds_zero (by omega), mul_zero]

theorem dkT_all (k l : ℕ) : d.dkT 0 2176 k l = d.dk k l :=
  Finset.sum_congr rfl fun j _ => by rw [Nat.zero_add]

theorem dvT_all (k l : ℕ) : d.dvT 0 2176 k l = d.dv k l :=
  Finset.sum_congr rfl fun j _ => by rw [Nat.zero_add]

theorem dqT_all (q l : ℕ) : d.dqT 0 2176 q l = d.dq q l :=
  Finset.sum_congr rfl fun j _ => by rw [Nat.zero_add]

theorem dqT_full {n q : ℕ} (l m : ℕ) (h : q < n) (hm : n + m = 2176) : d.dqT 0 n q l = d.dq q l := by
  rw [← dqT_all, ← hm, ← dqT_split, d.dqT_zero (c := 0 + n) l (by omega), add_zero]

end Data

theorem pay3_is {f : ℕ → ℕ → ℝ} {v8 v10 : FVec Ideal S2176x128 .bf16} (h8 : Is v8 f) (h10 : Is v10 (fun i j => f i (128 + j))) :
    Is (k0_pay3 (F := Ideal) v8 v10) f := by
  intro i j
  pointwise [k0_pay3]
  by_cases h : (j : ℕ) < 128
  · rw [dif_pos h]
    exact h8 i ⟨j, h⟩
  · rw [dif_neg h]
    refine (h10 i ⟨j - 128, by omega⟩).trans ?_
    show ((f i (128 + (j - 128)) : ℝ) : EReal) = _
    rw [Nat.add_sub_cancel' (by omega)]

theorem word_first : ∀ x : Fin 128, BitVec.setWidth 32 (IntOp.cmpi .eq (BitVec.ofNat 32 (x : ℕ)) 0#32) = if x = 0 then 1#32 else 0#32 := by
  decide +kernel

theorem word_all : ∀ x : Fin 128, BitVec.setWidth 32 (IntOp.cmpi .sge (BitVec.ofNat 32 (x : ℕ)) 0#32) = 1#32 := by
  decide +kernel

theorem word_one : (FloatOps.sitofp .f32 1#32 : Ideal .f32) = ((1 : ℝ) : EReal) := by
  show (((1#32 : BitVec 32).toInt : ℝ) : EReal) = _
  norm_num

theorem word_zero : (FloatOps.sitofp .f32 0#32 : Ideal .f32) = ((0 : ℝ) : EReal) := by
  show (((0#32 : BitVec 32).toInt : ℝ) : EReal) = _
  norm_num

theorem coe_sum {n : ℕ} (u : Fin n → ℝ) : (∑ k, (u k : EReal)) = ((∑ k, u k : ℝ) : EReal) :=
  (map_sum (⟨⟨Real.toEReal, rfl⟩, EReal.coe_add⟩ : ℝ →+ EReal) u Finset.univ).symm

theorem pay5_is {f : ℕ → ℝ} {v16 : FVec Ideal S2176x128 .f32} (h : Is v16 (fun i _ => f i)) :
    Is (k0_pay5 (F := Ideal) v16) (fun _ j => f j) := by
  intro i j
  pointwise [k0_pay5]
  have e : ∀ x : Fin 128, v16 (ix2 j x) = ((f j : ℝ) : EReal) := fun x => h j x
  have w : ∀ x : Fin 128, (FloatOps.sitofp .f32 (BitVec.setWidth 32 (IntOp.cmpi .eq (BitVec.ofNat 32 (x : ℕ)) 0#32)) : Ideal .f32) = (((if x = 0 then 1 else 0 : ℝ)) : EReal) := by
    intro x
    rw [word_first]
    split_ifs
    · exact word_one
    · exact word_zero
  simp only [e, w, ← EReal.coe_sub, ← EReal.coe_mul, coe_sum, ← EReal.coe_add]
  congr 1
  simp

theorem pay8_is {f : ℕ → ℕ → ℝ} {v : FVec Ideal S2176x128 .f32} (h : Is v f) :
    Is (k0_pay8 (F := Ideal) k0_pay6 v) (fun _ j => ∑ l : Fin 128, f j l) := by
  intro i j
  pointwise [k0_pay8, k0_pay6]
  have e : ∀ x : Fin 128, v (ix2 j x) = ((f j x : ℝ) : EReal) := fun x => h j x
  simp only [e, word_all, word_one, ← EReal.coe_sub, ← EReal.coe_mul, coe_sum, ← EReal.coe_add]
  congr 1
  simp

end Cert.KernelIdeal.Val
-- ==== Proof.PayA.lean ====
module

public import proofs.«01_k».proof.Proof.Data

@[expose] public section

set_option maxRecDepth 16384

noncomputable section

namespace Cert.KernelIdeal.Val

open Idealize.ShloMosaic Idealize.ShloMosaic.TcCoe Idealize.SL.Sem
open Cert.KernelIdeal Cert.KernelIdeal.Gen

/-! Each of these is the running sum after one more store. -/

def ak2 (d : Data) : ℕ → ℕ → ℝ := Data.upd (fun _ _ => (0 : ℝ)) 0 256 (d.dkT 0 256)
def ak3 (d : Data) : ℕ → ℕ → ℝ := Data.upd (ak2 d) 0 256 (d.dkT 256 256)
def ak4 (d : Data) : ℕ → ℕ → ℝ := Data.upd (ak3 d) 256 256 (d.dkT 256 256)
def ak5 (d : Data) : ℕ → ℕ → ℝ := Data.upd (ak4 d) 0 512 (d.dkT 512 256)
def ak6 (d : Data) : ℕ → ℕ → ℝ := Data.upd (ak5 d) 512 256 (d.dkT 512 256)
def ak7 (d : Data) : ℕ → ℕ → ℝ := Data.upd (ak6 d) 0 768 (d.dkT 768 256)
def ak8 (d : Data) : ℕ → ℕ → ℝ := Data.upd (ak7 d) 768 256 (d.dkT 768 256)
def ak9 (d : Data) : ℕ → ℕ → ℝ := Data.upd (ak8 d) 0 1024 (d.dkT 1024 256)
def av2 (d : Data) : ℕ → ℕ → ℝ := Data.upd (fun _ _ => (0 : ℝ)) 0 256 (d.dvT 0 256)
def av3 (d : Data) : ℕ → ℕ → ℝ := Data.upd (av2 d) 0 256 (d.dvT 256 256)
def av4 (d : Data) : ℕ → ℕ → ℝ := Data.upd (av3 d) 256 256 (d.dvT 256 256)
def av5 (d : Data) : ℕ → ℕ → ℝ := Data.upd (av4 d) 0 512 (d.dvT 512 256)
def av6 (d : Data) : ℕ → ℕ → ℝ := Data.upd (av5 d) 512 256 (d.dvT 512 256)
def av7 (d : Data) : ℕ → ℕ → ℝ := Data.upd (av6 d) 0 768 (d.dvT 768 256)
def av8 (d : Data) : ℕ → ℕ → ℝ := Data.upd (av7 d) 768 256 (d.dvT 768 256)
def av9 (d : Data) : ℕ → ℕ → ℝ := Data.upd (av8 d) 0 1024 (d.dvT 1024 256)
def ak10 (d : Data) : ℕ → ℕ → ℝ := Data.upd (ak9 d) 1024 256 (d.dkT 1024 256)
def ak11 (d : Data) : ℕ → ℕ → ℝ := Data.upd (ak10 d) 0 1024 (d.dkT 1280 256)
def ak12 (d : Data) : ℕ → ℕ → ℝ := Data.upd (ak11 d) 1024 256 (d.dkT 1280 256)
def ak13 (d : Data) : ℕ → ℕ → ℝ := Data.upd (ak12 d) 1280 256 (d.dkT 1280 256)
def ak14 (d : Data) : ℕ → ℕ → ℝ := Data.upd (ak13 d) 0 1024 (d.dkT 1536 256)
def ak15 (d : Data) : ℕ → ℕ → ℝ := Data.upd (ak14 d) 1024 512 (d.dkT 1536 256)
def ak16 (d : Data) : ℕ → ℕ → ℝ := Data.upd (ak15 d) 1536 256 (d.dkT 1536 256)
def ak17 (d : Data) : ℕ → ℕ → ℝ := Data.upd (ak16 d) 0 1024 (d.dkT 1792 256)
def ak18 (d : Data) : ℕ → ℕ → ℝ := Data.upd (ak17 d) 1024 768 (d.dkT 1792 256)
def ak19 (d : Data) : ℕ → ℕ → ℝ := Data.upd (ak18 d) 1792 256 (d.dkT 1792 256)
def ak20 (d : Data) : ℕ → ℕ → ℝ := Data.upd (ak19 d) 0 1024 (d.dkT 2048 128)
def ak21 (d : Data) : ℕ → ℕ → ℝ := Data.upd (ak20 d) 1024 1024 (d.dkT 2048 128)
def ak22 (d : Data) : ℕ → ℕ → ℝ := Data.upd (ak21 d) 2048 128 (d.dkT 2048 128)
def av10 (d : Data) : ℕ → ℕ → ℝ := Data.upd (av9 d) 1024 256 (d.dvT 1024 256)
def av11 (d : Data) : ℕ → ℕ → ℝ := Data.upd (av10 d) 0 1024 (d.dvT 1280 256)
def av12 (d : Data) : ℕ → ℕ → ℝ := Data.upd (av11 d) 1024 256 (d.dvT 1280 256)
def av13 (d : Data) : ℕ → ℕ → ℝ := Data.upd (av12 d) 1280 256 (d.dvT 1280 256)
def av14 (d : Data) : ℕ → ℕ → ℝ := Data.upd (av13 d) 0 1024 (d.dvT 1536 256)
def av15 (d : Data) : ℕ → ℕ → ℝ := Data.upd (av14 d) 1024 512 (d.dvT 1536 256)
def av16 (d : Data) : ℕ → ℕ → ℝ := Data.upd (av15 d) 1536 256 (d.dvT 1536 256)
def av17 (d : Data) : ℕ → ℕ → ℝ := Data.upd (av16 d) 0 1024 (d.dvT 1792 256)
def av18 (d : Data) : ℕ → ℕ → ℝ := Data.upd (av17 d) 1024 768 (d.dvT 1792 256)
def av19 (d : Data) : ℕ → ℕ → ℝ := Data.upd (av18 d) 1792 256 (d.dvT 1792 256)
def av20 (d : Data) : ℕ → ℕ → ℝ := Data.upd (av19 d) 0 1024 (d.dvT 2048 128)
def av21 (d : Data) : ℕ → ℕ → ℝ := Data.upd (av20 d) 1024 1024 (d.dvT 2048 128)
def av22 (d : Data) : ℕ → ℕ → ℝ := Data.upd (av21 d) 2048 128 (d.dvT 2048 128)
variable (d : Data)

theorem pay1_is :
    Is (k0_pay1 (F := Ideal)) (fun i j => 0) := by
  have h1 := Is.fill (a := 2176) (b := 256) zero_coe
  exact (Is.reshape shapeCasts_S2176x256_S2176x256 h1 :)

theorem pay2_is :
    Is (k0_pay2 (F := Ideal)) (fun i j => 0) := by
  have h3 := Is.fill (a := 2176) (b := 128) zero_coe
  exact (Is.reshape shapeCasts_S2176x128_S2176x128 h3 :)

theorem pay204_is :
    Is (k0_pay204 (F := Ideal)) (fun i j => 0) := by
  exact (Is.fill (a := 2176) (b := 128) zero_coe :)

theorem pay7_is {v30 : Vec Ideal S2176x128 .bf16} (gv30 : Is v30 (fun i j => d.DO i j)) {v32 : Vec Ideal S2176x128 .bf16} (gv32 : Is v32 (fun i j => d.O i j)) :
    Is (k0_pay7 (F := Ideal) v30 v32) (fun i j => d.DO i j * d.O i j) := by
  have h6 := Is.ext bitsLt_bf16_f32 gv30
  have h7 := Is.reshape shapeCasts_S2176x128_S2176x128 gv32
  have h8 := Is.ext bitsLt_bf16_f32 h7
  exact (Is.mul h6 h8 :)

theorem pay9_is {v46 : Vec Ideal S256x256 .bf16} (gv46 : Is v46 (fun i j => d.Q (0 + i) j)) :
    Is (k0_pay9 (F := Ideal) v46) (fun i j => d.Q (0 + i) j) := by
  exact (Is.reshape shapeCasts_S256x256_S256x256 gv46 :)

theorem pay11_is {v11 : FVec Ideal S2176x256 .bf16} (gv11 : Is v11 (fun i j => d.K i j)) {v27 : FVec Ideal S8x2176 .f32} (gv27 : Is v27 (fun i j => d.L j)) {v46 : Vec Ideal S256x256 .bf16} (gv46 : Is v46 (fun i j => d.Q (0 + i) j)) :
    Is (k0_pay11 (F := Ideal) v11 v27 v46) (fun i j => d.pr (0 + i) (0 + j)) := by
  have h15 := Is.sliceC 0 slices_S8x2176_o0_0_S1x256 gv27
  have h16 := Is.sliceR 0 slices_S2176x256_o0_0_S256x256 gv11
  have h18 : Is _ (fun i j => d.sr (0 + i) (0 + j)) := (S256x256_S256x256_S256x256_1_1_0_0_n_n h16 (pay9_is d gv46) :)
  have h20 := Is.mul h18 (Is.fill (a := 256) (b := 256) scale_coe)
  have h21 : IsM _ (fun i j => (d.sr (0 + i) (0 + j)) * scale) := IsM.select (h0 := iota_S256x256_d0_w32) (h1 := iota_S256x256_d1_w32) (by norm_num) (by norm_num) mask_bot h20
  have h22 := Is.rows (a := 256) broadcasts_S1x256_S256x256 h15
  have h23 : IsM _ (fun i j => ((d.sr (0 + i) (0 + j)) * scale) - (d.L (0 + j))) := IsM.sub h21 h22
  have h24 : Is _ (fun i j => d.pr (0 + i) (0 + j)) := (IsM.exp h23).congr fun i j _ _ => d.pr_diag 0 i j
  exact h24

theorem pay12_is {v11 : FVec Ideal S2176x256 .bf16} (gv11 : Is v11 (fun i j => d.K i j)) {v27 : FVec Ideal S8x2176 .f32} (gv27 : Is v27 (fun i j => d.L j)) {v35 : FVec Ideal S2176x128 .f32} (gv35 : Is v35 (fun i j => d.DO i j * d.O i j)) {v46 : Vec Ideal S256x256 .bf16} (gv46 : Is v46 (fun i j => d.Q (0 + i) j)) {v48 : Vec Ideal S256x128 .bf16} (gv48 : Is v48 (fun i j => d.DO (0 + i) j)) {v64 : Vec Ideal S256x128 .bf16} (gv64 : Is v64 (fun i j => d.V (0 + i) j)) :
    Is (k0_pay12 (F := Ideal) v11 v27 k0_pay6 v35 v46 v48 v64) (fun i j => d.ds (0 + i) (0 + j)) := by
  have h10 := Is.sliceC 0 slices_S8x2176_o0_0_S1x256 (pay8_is gv35)
  have h11 := Is.reshape shapeCasts_S256x128_S256x128 gv64
  have h12 : Is _ (fun i j => d.dp (0 + i) (0 + j)) := (S256x128_S256x128_S256x256_1_1_0_0_n_n h11 gv48 :)
  have h13 := Is.rows (a := 256) broadcasts_S1x256_S256x256 h10
  have h14 := Is.sub h12 h13
  have h25 := Is.mul (pay11_is d gv11 gv27 gv46) h14
  have h27 := Is.mul h25 (Is.fill (a := 256) (b := 256) scale_coe)
  exact (Is.cast bitsLt_bf16_f32 h27 :)

theorem pay13_is {v11 : FVec Ideal S2176x256 .bf16} (gv11 : Is v11 (fun i j => d.K i j)) {v27 : FVec Ideal S8x2176 .f32} (gv27 : Is v27 (fun i j => d.L j)) {v35 : FVec Ideal S2176x128 .f32} (gv35 : Is v35 (fun i j => d.DO i j * d.O i j)) {v46 : Vec Ideal S256x256 .bf16} (gv46 : Is v46 (fun i j => d.Q (0 + i) j)) {v48 : Vec Ideal S256x128 .bf16} (gv48 : Is v48 (fun i j => d.DO (0 + i) j)) {v64 : Vec Ideal S256x128 .bf16} (gv64 : Is v64 (fun i j => d.V (0 + i) j)) {v73 : Vec Ideal S256x256 .f32} (gv73 : Is v73 (fun i j => (fun _ _ => (0 : ℝ)) (0 + i) j)) :
    Is (k0_pay13 (F := Ideal) v11 v27 k0_pay6 v35 v46 v48 v64 v73) (fun i j => ((fun _ _ => (0 : ℝ)) (0 + i) j) + (d.dkT 0 256 (0 + i) j)) := by
  have h29 : Is _ (fun i j => d.dkT 0 256 (0 + i) j) := (S256x256_S256x256_S256x256_1_0_0_1_n_n (pay12_is d gv11 gv27 gv35 gv46 gv48 gv64) (pay9_is d gv46) :)
  exact (Is.add gv73 h29 :)

theorem pay14_is {v75 : FVec Ideal S256x256 .f32} (gv75 : Is v75 (fun i j => ((fun _ _ => (0 : ℝ)) (0 + i) j) + (d.dkT 0 256 (0 + i) j))) :
    Is (k0_pay14 (F := Ideal) v75) (fun i j => ((fun _ _ => (0 : ℝ)) (0 + i) j) + (d.dkT 0 256 (0 + i) j)) := by
  exact (Is.reshape shapeCasts_S256x256_S256x256 gv75 :)

theorem pay21_is {v102 : Vec Ideal S256x256 .bf16} (gv102 : Is v102 (fun i j => d.Q (256 + i) j)) :
    Is (k0_pay21 (F := Ideal) v102) (fun i j => d.Q (256 + i) j) := by
  exact (Is.reshape shapeCasts_S256x256_S256x256 gv102 :)

theorem pay22_is {v27 : FVec Ideal S8x2176 .f32} (gv27 : Is v27 (fun i j => d.L j)) :
    Is (k0_pay22 (F := Ideal) v27) (fun i j => d.L (256 + j)) := by
  exact (Is.sliceC 256 slices_S8x2176_o0_256_S1x256 gv27 :)

theorem pay23_is {v45 : FVec Ideal S8x2176 .f32} (gv45 : Is v45 (fun i j => d.D j)) :
    Is (k0_pay23 (F := Ideal) v45) (fun i j => d.D (256 + j)) := by
  exact (Is.sliceC 256 slices_S8x2176_o0_256_S1x256 gv45 :)

theorem pay25_is {v11 : FVec Ideal S2176x256 .bf16} (gv11 : Is v11 (fun i j => d.K i j)) {v102 : Vec Ideal S256x256 .bf16} (gv102 : Is v102 (fun i j => d.Q (256 + i) j)) :
    Is (k0_pay25 (F := Ideal) v11 v102) (fun i j => d.sr (0 + i) (256 + j)) := by
  have h35 := Is.sliceR 0 slices_S2176x256_o0_0_S256x256 gv11
  have h36 : Is _ (fun i j => d.sr (0 + i) (256 + j)) := (S256x256_S256x256_S256x256_1_1_0_0_n_n h35 (pay21_is d gv102) :)
  exact h36

theorem pay26_is {v105 : FVec Ideal S1x256 .f32} (gv105 : Is v105 (fun i j => d.L (256 + j))) {v109 : FVec Ideal S256x256 .f32} (gv109 : Is v109 (fun i j => d.sr (0 + i) (256 + j))) :
    Is (k0_pay26 (F := Ideal) v105 v109) (fun i j => d.pr (0 + i) (256 + j)) := by
  have h41 := Is.fill (a := 256) (b := 256) scale_coe
  have h42 := Is.mul gv109 h41
  have h43 := Is.rows (a := 256) broadcasts_S1x256_S256x256 gv105
  have h44 := Is.sub h42 h43
  have h45 : Is _ (fun i j => d.pr (0 + i) (256 + j)) := (Is.exp h44).congr fun i j _ _ => d.pr_le (by omega)
  exact h45

theorem pay27_is {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v109 : FVec Ideal S256x256 .f32} (gv109 : Is v109 (fun i j => d.sr (0 + i) (256 + j))) {v115 : Vec Ideal S256x128 .bf16} (gv115 : Is v115 (fun i j => d.V (0 + i) j)) :
    Is (k0_pay27 (F := Ideal) v104 v105 v106 v109 v115) (fun i j => d.ds (0 + i) (256 + j)) := by
  have h37 := Is.reshape shapeCasts_S256x128_S256x128 gv115
  have h38 : Is _ (fun i j => d.dp (0 + i) (256 + j)) := (S256x128_S256x128_S256x256_1_1_0_0_n_n h37 gv104 :)
  have h39 := Is.rows (a := 256) broadcasts_S1x256_S256x256 gv106
  have h40 := Is.sub h38 h39
  have h46 := Is.mul (pay26_is d gv105 gv109) h40
  have h48 := Is.mul h46 (Is.fill (a := 256) (b := 256) scale_coe)
  exact (Is.cast bitsLt_bf16_f32 h48 :)

theorem pay28_is {v103 : FVec Ideal S256x256 .bf16} (gv103 : Is v103 (fun i j => d.Q (256 + i) j)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v109 : FVec Ideal S256x256 .f32} (gv109 : Is v109 (fun i j => d.sr (0 + i) (256 + j))) {v115 : Vec Ideal S256x128 .bf16} (gv115 : Is v115 (fun i j => d.V (0 + i) j)) {v124 : Vec Ideal S256x256 .f32} (gv124 : Is v124 (fun i j => (ak2 d) (0 + i) j)) :
    Is (k0_pay28 (F := Ideal) v103 v104 v105 v106 v109 v115 v124) (fun i j => ((ak2 d) (0 + i) j) + (d.dkT 256 256 (0 + i) j)) := by
  have h50 : Is _ (fun i j => d.dkT 256 256 (0 + i) j) := (S256x256_S256x256_S256x256_1_0_0_1_n_n (pay27_is d gv104 gv105 gv106 gv109 gv115) gv103 :)
  have h51 := Is.add gv124 h50
  exact (Is.reshape shapeCasts_S256x256_S256x256 h51 :)

theorem pay31_is {v11 : FVec Ideal S2176x256 .bf16} (gv11 : Is v11 (fun i j => d.K i j)) {v103 : FVec Ideal S256x256 .bf16} (gv103 : Is v103 (fun i j => d.Q (256 + i) j)) :
    IsM (k0_pay31 (F := Ideal) v11 v103) (fun i j => (d.sr (256 + i) (256 + j)) * scale) := by
  have h53 := Is.sliceR 256 slices_S2176x256_o256_0_S256x256 gv11
  have h54 : Is _ (fun i j => d.sr (256 + i) (256 + j)) := (S256x256_S256x256_S256x256_1_1_0_0_n_n h53 gv103 :)
  have h56 := Is.mul h54 (Is.fill (a := 256) (b := 256) scale_coe)
  have h57 : IsM _ (fun i j => (d.sr (256 + i) (256 + j)) * scale) := IsM.select (h0 := iota_S256x256_d0_w32) (h1 := iota_S256x256_d1_w32) (by norm_num) (by norm_num) mask_bot h56
  exact h57

theorem pay32_is {v105 : FVec Ideal S1x256 .f32} (gv105 : Is v105 (fun i j => d.L (256 + j))) {v148 : FVec Ideal S256x256 .f32} (gv148 : IsM v148 (fun i j => (d.sr (256 + i) (256 + j)) * scale)) :
    Is (k0_pay32 (F := Ideal) v105 v148) (fun i j => d.pr (256 + i) (256 + j)) := by
  have h62 := Is.rows (a := 256) broadcasts_S1x256_S256x256 gv105
  have h63 : IsM _ (fun i j => ((d.sr (256 + i) (256 + j)) * scale) - (d.L (256 + j))) := IsM.sub gv148 h62
  have h64 : Is _ (fun i j => d.pr (256 + i) (256 + j)) := (IsM.exp h63).congr fun i j _ _ => d.pr_diag 256 i j
  exact h64

theorem pay33_is {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v148 : FVec Ideal S256x256 .f32} (gv148 : IsM v148 (fun i j => (d.sr (256 + i) (256 + j)) * scale)) {v152 : Vec Ideal S256x128 .bf16} (gv152 : Is v152 (fun i j => d.V (256 + i) j)) :
    Is (k0_pay33 (F := Ideal) v104 v105 v106 v148 v152) (fun i j => d.ds (256 + i) (256 + j)) := by
  have h58 := Is.reshape shapeCasts_S256x128_S256x128 gv152
  have h59 : Is _ (fun i j => d.dp (256 + i) (256 + j)) := (S256x128_S256x128_S256x256_1_1_0_0_n_n h58 gv104 :)
  have h60 := Is.rows (a := 256) broadcasts_S1x256_S256x256 gv106
  have h61 := Is.sub h59 h60
  have h65 := Is.mul (pay32_is d gv105 gv148) h61
  have h67 := Is.mul h65 (Is.fill (a := 256) (b := 256) scale_coe)
  exact (Is.cast bitsLt_bf16_f32 h67 :)

theorem pay34_is {v103 : FVec Ideal S256x256 .bf16} (gv103 : Is v103 (fun i j => d.Q (256 + i) j)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v148 : FVec Ideal S256x256 .f32} (gv148 : IsM v148 (fun i j => (d.sr (256 + i) (256 + j)) * scale)) {v152 : Vec Ideal S256x128 .bf16} (gv152 : Is v152 (fun i j => d.V (256 + i) j)) {v161 : Vec Ideal S256x256 .f32} (gv161 : Is v161 (fun i j => (ak3 d) (256 + i) j)) :
    Is (k0_pay34 (F := Ideal) v103 v104 v105 v106 v148 v152 v161) (fun i j => ((ak3 d) (256 + i) j) + (d.dkT 256 256 (256 + i) j)) := by
  have h69 : Is _ (fun i j => d.dkT 256 256 (256 + i) j) := (S256x256_S256x256_S256x256_1_0_0_1_n_n (pay33_is d gv104 gv105 gv106 gv148 gv152) gv103 :)
  have h70 := Is.add gv161 h69
  exact (Is.reshape shapeCasts_S256x256_S256x256 h70 :)

theorem pay43_is {v45 : FVec Ideal S8x2176 .f32} (gv45 : Is v45 (fun i j => d.D j)) :
    Is (k0_pay43 (F := Ideal) v45) (fun i j => d.D (512 + j)) := by
  exact (Is.sliceC 512 slices_S8x2176_o0_512_S1x256 gv45 :)

theorem pay41_is {v190 : Vec Ideal S256x256 .bf16} (gv190 : Is v190 (fun i j => d.Q (512 + i) j)) :
    Is (k0_pay41 (F := Ideal) v190) (fun i j => d.Q (512 + i) j) := by
  exact (Is.reshape shapeCasts_S256x256_S256x256 gv190 :)

theorem pay42_is {v27 : FVec Ideal S8x2176 .f32} (gv27 : Is v27 (fun i j => d.L j)) :
    Is (k0_pay42 (F := Ideal) v27) (fun i j => d.L (512 + j)) := by
  exact (Is.sliceC 512 slices_S8x2176_o0_512_S1x256 gv27 :)

theorem pay45_is {v11 : FVec Ideal S2176x256 .bf16} (gv11 : Is v11 (fun i j => d.K i j)) {v27 : FVec Ideal S8x2176 .f32} (gv27 : Is v27 (fun i j => d.L j)) {v190 : Vec Ideal S256x256 .bf16} (gv190 : Is v190 (fun i j => d.Q (512 + i) j)) :
    Is (k0_pay45 (F := Ideal) v11 v27 v190) (fun i j => d.pr (0 + i) (512 + j)) := by
  have h77 := Is.sliceR 0 slices_S2176x256_o0_0_S512x256 gv11
  have h79 : Is _ (fun i j => d.sr (0 + i) (512 + j)) := (S512x256_S256x256_S512x256_1_1_0_0_n_n h77 (pay41_is d gv190) :)
  have h81 := Is.mul h79 (Is.fill (a := 512) (b := 256) scale_coe)
  have h83 := Is.rows (a := 512) broadcasts_S1x256_S512x256 (pay42_is d gv27)
  have h84 := Is.sub h81 h83
  have h85 : Is _ (fun i j => d.pr (0 + i) (512 + j)) := (Is.exp h84).congr fun i j _ _ => d.pr_le (by omega)
  exact h85

theorem pay46_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v190 : Vec Ideal S256x256 .bf16} (gv190 : Is v190 (fun i j => d.Q (512 + i) j)) {v192 : Vec Ideal S256x128 .bf16} (gv192 : Is v192 (fun i j => d.DO (512 + i) j)) {v203 : Vec Ideal S512x128 .bf16} (gv203 : Is v203 (fun i j => d.V (0 + i) j)) :
    Is (k0_pay46 (F := Ideal) v11 v27 v45 v190 v192 v203) (fun i j => d.ds (0 + i) (512 + j)) := by
  have h72 := Is.reshape shapeCasts_S512x128_S512x128 gv203
  have h73 : Is _ (fun i j => d.dp (0 + i) (512 + j)) := (S512x128_S256x128_S512x256_1_1_0_0_n_n h72 gv192 :)
  have h75 := Is.rows (a := 512) broadcasts_S1x256_S512x256 (pay43_is d gv45)
  have h76 := Is.sub h73 h75
  have h86 := Is.mul (pay45_is d gv11 gv27 gv190) h76
  have h88 := Is.mul h86 (Is.fill (a := 512) (b := 256) scale_coe)
  exact (Is.cast bitsLt_bf16_f32 h88 :)

theorem pay47_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v190 : Vec Ideal S256x256 .bf16} (gv190 : Is v190 (fun i j => d.Q (512 + i) j)) {v192 : Vec Ideal S256x128 .bf16} (gv192 : Is v192 (fun i j => d.DO (512 + i) j)) {v203 : Vec Ideal S512x128 .bf16} (gv203 : Is v203 (fun i j => d.V (0 + i) j)) {v212 : Vec Ideal S512x256 .f32} (gv212 : Is v212 (fun i j => (ak4 d) (0 + i) j)) :
    Is (k0_pay47 (F := Ideal) v11 v27 v45 v190 v192 v203 v212) (fun i j => ((ak4 d) (0 + i) j) + (d.dkT 512 256 (0 + i) j)) := by
  have h90 : Is _ (fun i j => d.dkT 512 256 (0 + i) j) := (S512x256_S256x256_S512x256_1_0_0_1_n_n (pay46_is d gv11 gv27 gv45 gv190 gv192 gv203) (pay41_is d gv190) :)
  have h91 := Is.add gv212 h90
  exact (Is.reshape shapeCasts_S512x256_S512x256 h91 :)

theorem pay51_is {v11 : FVec Ideal S2176x256 .bf16} (gv11 : Is v11 (fun i j => d.K i j)) {v191 : FVec Ideal S256x256 .bf16} (gv191 : Is v191 (fun i j => d.Q (512 + i) j)) {v193 : FVec Ideal S1x256 .f32} (gv193 : Is v193 (fun i j => d.L (512 + j))) :
    Is (k0_pay51 (F := Ideal) v11 v191 v193) (fun i j => d.pr (512 + i) (512 + j)) := by
  have h97 := Is.sliceR 512 slices_S2176x256_o512_0_S256x256 gv11
  have h98 : Is _ (fun i j => d.sr (512 + i) (512 + j)) := (S256x256_S256x256_S256x256_1_1_0_0_n_n h97 gv191 :)
  have h100 := Is.mul h98 (Is.fill (a := 256) (b := 256) scale_coe)
  have h101 : IsM _ (fun i j => (d.sr (512 + i) (512 + j)) * scale) := IsM.select (h0 := iota_S256x256_d0_w32) (h1 := iota_S256x256_d1_w32) (by norm_num) (by norm_num) mask_bot h100
  have h102 := Is.rows (a := 256) broadcasts_S1x256_S256x256 gv193
  have h103 : IsM _ (fun i j => ((d.sr (512 + i) (512 + j)) * scale) - (d.L (512 + j))) := IsM.sub h101 h102
  have h104 : Is _ (fun i j => d.pr (512 + i) (512 + j)) := (IsM.exp h103).congr fun i j _ _ => d.pr_diag 512 i j
  exact h104

theorem pay52_is {v11 : FVec Ideal S2176x256 .bf16} (gv11 : Is v11 (fun i j => d.K i j)) {v191 : FVec Ideal S256x256 .bf16} (gv191 : Is v191 (fun i j => d.Q (512 + i) j)) {v192 : Vec Ideal S256x128 .bf16} (gv192 : Is v192 (fun i j => d.DO (512 + i) j)) {v193 : FVec Ideal S1x256 .f32} (gv193 : Is v193 (fun i j => d.L (512 + j))) {v194 : FVec Ideal S1x256 .f32} (gv194 : Is v194 (fun i j => d.D (512 + j))) {v240 : Vec Ideal S256x128 .bf16} (gv240 : Is v240 (fun i j => d.V (512 + i) j)) :
    Is (k0_pay52 (F := Ideal) v11 v191 v192 v193 v194 v240) (fun i j => d.ds (512 + i) (512 + j)) := by
  have h93 := Is.reshape shapeCasts_S256x128_S256x128 gv240
  have h94 : Is _ (fun i j => d.dp (512 + i) (512 + j)) := (S256x128_S256x128_S256x256_1_1_0_0_n_n h93 gv192 :)
  have h95 := Is.rows (a := 256) broadcasts_S1x256_S256x256 gv194
  have h96 := Is.sub h94 h95
  have h105 := Is.mul (pay51_is d gv11 gv191 gv193) h96
  have h107 := Is.mul h105 (Is.fill (a := 256) (b := 256) scale_coe)
  exact (Is.cast bitsLt_bf16_f32 h107 :)

theorem pay53_is {v11 : FVec Ideal S2176x256 .bf16} (gv11 : Is v11 (fun i j => d.K i j)) {v191 : FVec Ideal S256x256 .bf16} (gv191 : Is v191 (fun i j => d.Q (512 + i) j)) {v192 : Vec Ideal S256x128 .bf16} (gv192 : Is v192 (fun i j => d.DO (512 + i) j)) {v193 : FVec Ideal S1x256 .f32} (gv193 : Is v193 (fun i j => d.L (512 + j))) {v194 : FVec Ideal S1x256 .f32} (gv194 : Is v194 (fun i j => d.D (512 + j))) {v240 : Vec Ideal S256x128 .bf16} (gv240 : Is v240 (fun i j => d.V (512 + i) j)) {v249 : Vec Ideal S256x256 .f32} (gv249 : Is v249 (fun i j => (ak5 d) (512 + i) j)) :
    Is (k0_pay53 (F := Ideal) v11 v191 v192 v193 v194 v240 v249) (fun i j => ((ak5 d) (512 + i) j) + (d.dkT 512 256 (512 + i) j)) := by
  have h109 : Is _ (fun i j => d.dkT 512 256 (512 + i) j) := (S256x256_S256x256_S256x256_1_0_0_1_n_n (pay52_is d gv11 gv191 gv192 gv193 gv194 gv240) gv191 :)
  have h110 := Is.add gv249 h109
  exact (Is.reshape shapeCasts_S256x256_S256x256 h110 :)

theorem pay61_is {v278 : Vec Ideal S256x256 .bf16} (gv278 : Is v278 (fun i j => d.Q (768 + i) j)) :
    Is (k0_pay61 (F := Ideal) v278) (fun i j => d.Q (768 + i) j) := by
  exact (Is.reshape shapeCasts_S256x256_S256x256 gv278 :)

theorem pay63_is {v45 : FVec Ideal S8x2176 .f32} (gv45 : Is v45 (fun i j => d.D j)) :
    Is (k0_pay63 (F := Ideal) v45) (fun i j => d.D (768 + j)) := by
  exact (Is.sliceC 768 slices_S8x2176_o0_768_S1x256 gv45 :)

theorem pay62_is {v27 : FVec Ideal S8x2176 .f32} (gv27 : Is v27 (fun i j => d.L j)) :
    Is (k0_pay62 (F := Ideal) v27) (fun i j => d.L (768 + j)) := by
  exact (Is.sliceC 768 slices_S8x2176_o0_768_S1x256 gv27 :)

theorem pay65_is {v11 : FVec Ideal S2176x256 .bf16} (gv11 : Is v11 (fun i j => d.K i j)) {v27 : FVec Ideal S8x2176 .f32} (gv27 : Is v27 (fun i j => d.L j)) {v278 : Vec Ideal S256x256 .bf16} (gv278 : Is v278 (fun i j => d.Q (768 + i) j)) :
    Is (k0_pay65 (F := Ideal) v11 v27 v278) (fun i j => d.pr (0 + i) (768 + j)) := by
  have h114 := Is.sliceR 0 slices_S2176x256_o0_0_S768x256 gv11
  have h115 : Is _ (fun i j => d.sr (0 + i) (768 + j)) := (S768x256_S256x256_S768x256_1_1_0_0_n_n h114 (pay61_is d gv278) :)
  have h117 := Is.mul h115 (Is.fill (a := 768) (b := 256) scale_coe)
  have h119 := Is.rows (a := 768) broadcasts_S1x256_S768x256 (pay62_is d gv27)
  have h120 := Is.sub h117 h119
  have h121 : Is _ (fun i j => d.pr (0 + i) (768 + j)) := (Is.exp h120).congr fun i j _ _ => d.pr_le (by omega)
  exact h121

theorem pay66_is {v291 : Vec Ideal S768x128 .bf16} (gv291 : Is v291 (fun i j => d.V (0 + i) j)) :
    Is (k0_pay66 (F := Ideal) v291) (fun i j => d.V (0 + i) j) := by
  exact (Is.reshape shapeCasts_S768x128_S768x128 gv291 :)

theorem pay67_is {v280 : Vec Ideal S256x128 .bf16} (gv280 : Is v280 (fun i j => d.DO (768 + i) j)) {v282 : FVec Ideal S1x256 .f32} (gv282 : Is v282 (fun i j => d.D (768 + j))) {v290 : FVec Ideal S768x256 .f32} (gv290 : Is v290 (fun i j => d.pr (0 + i) (768 + j))) {v292 : FVec Ideal S768x128 .bf16} (gv292 : Is v292 (fun i j => d.V (0 + i) j)) :
    Is (k0_pay67 (F := Ideal) v280 v282 v290 v292) (fun i j => d.ds (0 + i) (768 + j)) := by
  have h123 : Is _ (fun i j => d.dp (0 + i) (768 + j)) := (S768x128_S256x128_S768x256_1_1_0_0_n_n gv292 gv280 :)
  have h124 := Is.rows (a := 768) broadcasts_S1x256_S768x256 gv282
  have h125 := Is.sub h123 h124
  have h126 := Is.mul gv290 h125
  have h128 := Is.mul h126 (Is.fill (a := 768) (b := 256) scale_coe)
  exact (Is.cast bitsLt_bf16_f32 h128 :)

theorem pay68_is {v279 : FVec Ideal S256x256 .bf16} (gv279 : Is v279 (fun i j => d.Q (768 + i) j)) {v280 : Vec Ideal S256x128 .bf16} (gv280 : Is v280 (fun i j => d.DO (768 + i) j)) {v282 : FVec Ideal S1x256 .f32} (gv282 : Is v282 (fun i j => d.D (768 + j))) {v290 : FVec Ideal S768x256 .f32} (gv290 : Is v290 (fun i j => d.pr (0 + i) (768 + j))) {v292 : FVec Ideal S768x128 .bf16} (gv292 : Is v292 (fun i j => d.V (0 + i) j)) {v300 : Vec Ideal S768x256 .f32} (gv300 : Is v300 (fun i j => (ak6 d) (0 + i) j)) :
    Is (k0_pay68 (F := Ideal) v279 v280 v282 v290 v292 v300) (fun i j => ((ak6 d) (0 + i) j) + (d.dkT 768 256 (0 + i) j)) := by
  have h130 : Is _ (fun i j => d.dkT 768 256 (0 + i) j) := (S768x256_S256x256_S768x256_1_0_0_1_n_n (pay67_is d gv280 gv282 gv290 gv292) gv279 :)
  have h131 := Is.add gv300 h130
  exact (Is.reshape shapeCasts_S768x256_S768x256 h131 :)

theorem pay71_is {v11 : FVec Ideal S2176x256 .bf16} (gv11 : Is v11 (fun i j => d.K i j)) {v279 : FVec Ideal S256x256 .bf16} (gv279 : Is v279 (fun i j => d.Q (768 + i) j)) {v281 : FVec Ideal S1x256 .f32} (gv281 : Is v281 (fun i j => d.L (768 + j))) :
    Is (k0_pay71 (F := Ideal) v11 v279 v281) (fun i j => d.pr (768 + i) (768 + j)) := by
  have h133 := Is.sliceR 768 slices_S2176x256_o768_0_S256x256 gv11
  have h134 : Is _ (fun i j => d.sr (768 + i) (768 + j)) := (S256x256_S256x256_S256x256_1_1_0_0_n_n h133 gv279 :)
  have h136 := Is.mul h134 (Is.fill (a := 256) (b := 256) scale_coe)
  have h137 : IsM _ (fun i j => (d.sr (768 + i) (768 + j)) * scale) := IsM.select (h0 := iota_S256x256_d0_w32) (h1 := iota_S256x256_d1_w32) (by norm_num) (by norm_num) mask_bot h136
  have h138 := Is.rows (a := 256) broadcasts_S1x256_S256x256 gv281
  have h139 : IsM _ (fun i j => ((d.sr (768 + i) (768 + j)) * scale) - (d.L (768 + j))) := IsM.sub h137 h138
  have h140 : Is _ (fun i j => d.pr (768 + i) (768 + j)) := (IsM.exp h139).congr fun i j _ _ => d.pr_diag 768 i j
  exact h140

theorem pay72_is {v280 : Vec Ideal S256x128 .bf16} (gv280 : Is v280 (fun i j => d.DO (768 + i) j)) {v328 : Vec Ideal S256x128 .bf16} (gv328 : Is v328 (fun i j => d.V (768 + i) j)) :
    Is (k0_pay72 (F := Ideal) v280 v328) (fun i j => d.dp (768 + i) (768 + j)) := by
  have h141 := Is.reshape shapeCasts_S256x128_S256x128 gv328
  have h142 : Is _ (fun i j => d.dp (768 + i) (768 + j)) := (S256x128_S256x128_S256x256_1_1_0_0_n_n h141 gv280 :)
  exact h142

theorem pay73_is {v282 : FVec Ideal S1x256 .f32} (gv282 : Is v282 (fun i j => d.D (768 + j))) :
    Is (k0_pay73 (F := Ideal) v282) (fun i j => d.D (768 + j)) := by
  exact (Is.rows (a := 256) broadcasts_S1x256_S256x256 gv282 :)

theorem pay74_is {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) :
    Is (k0_pay74 (F := Ideal) v327 v330 v331) (fun i j => d.ds (768 + i) (768 + j)) := by
  have h144 := Is.sub gv330 gv331
  have h145 := Is.mul gv327 h144
  have h147 := Is.mul h145 (Is.fill (a := 256) (b := 256) scale_coe)
  exact (Is.cast bitsLt_bf16_f32 h147 :)

theorem pay75_is {v279 : FVec Ideal S256x256 .bf16} (gv279 : Is v279 (fun i j => d.Q (768 + i) j)) {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) {v337 : Vec Ideal S256x256 .f32} (gv337 : Is v337 (fun i j => (ak7 d) (768 + i) j)) :
    Is (k0_pay75 (F := Ideal) v279 v327 v330 v331 v337) (fun i j => ((ak7 d) (768 + i) j) + (d.dkT 768 256 (768 + i) j)) := by
  have h149 : Is _ (fun i j => d.dkT 768 256 (768 + i) j) := (S256x256_S256x256_S256x256_1_0_0_1_n_n (pay74_is d gv327 gv330 gv331) gv279 :)
  have h150 := Is.add gv337 h149
  exact (Is.reshape shapeCasts_S256x256_S256x256 h150 :)

theorem pay84_is {v45 : FVec Ideal S8x2176 .f32} (gv45 : Is v45 (fun i j => d.D j)) :
    Is (k0_pay84 (F := Ideal) v45) (fun i j => d.D (1024 + j)) := by
  exact (Is.sliceC 1024 slices_S8x2176_o0_1024_S1x256 gv45 :)

theorem pay82_is {v366 : Vec Ideal S256x256 .bf16} (gv366 : Is v366 (fun i j => d.Q (1024 + i) j)) :
    Is (k0_pay82 (F := Ideal) v366) (fun i j => d.Q (1024 + i) j) := by
  exact (Is.reshape shapeCasts_S256x256_S256x256 gv366 :)

theorem pay83_is {v27 : FVec Ideal S8x2176 .f32} (gv27 : Is v27 (fun i j => d.L j)) :
    Is (k0_pay83 (F := Ideal) v27) (fun i j => d.L (1024 + j)) := by
  exact (Is.sliceC 1024 slices_S8x2176_o0_1024_S1x256 gv27 :)

theorem pay86_is {v11 : FVec Ideal S2176x256 .bf16} (gv11 : Is v11 (fun i j => d.K i j)) {v27 : FVec Ideal S8x2176 .f32} (gv27 : Is v27 (fun i j => d.L j)) {v366 : Vec Ideal S256x256 .bf16} (gv366 : Is v366 (fun i j => d.Q (1024 + i) j)) :
    Is (k0_pay86 (F := Ideal) v11 v27 v366) (fun i j => d.pr (0 + i) (1024 + j)) := by
  have h157 := Is.sliceR 0 slices_S2176x256_o0_0_S1024x256 gv11
  have h159 : Is _ (fun i j => d.sr (0 + i) (1024 + j)) := (S1024x256_S256x256_S1024x256_1_1_0_0_n_n h157 (pay82_is d gv366) :)
  have h161 := Is.mul h159 (Is.fill (a := 1024) (b := 256) scale_coe)
  have h163 := Is.rows (a := 1024) broadcasts_S1x256_S1024x256 (pay83_is d gv27)
  have h164 := Is.sub h161 h163
  have h165 : Is _ (fun i j => d.pr (0 + i) (1024 + j)) := (Is.exp h164).congr fun i j _ _ => d.pr_le (by omega)
  exact h165

theorem pay87_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v366 : Vec Ideal S256x256 .bf16} (gv366 : Is v366 (fun i j => d.Q (1024 + i) j)) {v368 : Vec Ideal S256x128 .bf16} (gv368 : Is v368 (fun i j => d.DO (1024 + i) j)) {v379 : Vec Ideal S1024x128 .bf16} (gv379 : Is v379 (fun i j => d.V (0 + i) j)) :
    Is (k0_pay87 (F := Ideal) v11 v27 v45 v366 v368 v379) (fun i j => d.ds (0 + i) (1024 + j)) := by
  have h152 := Is.reshape shapeCasts_S1024x128_S1024x128 gv379
  have h153 : Is _ (fun i j => d.dp (0 + i) (1024 + j)) := (S1024x128_S256x128_S1024x256_1_1_0_0_n_n h152 gv368 :)
  have h155 := Is.rows (a := 1024) broadcasts_S1x256_S1024x256 (pay84_is d gv45)
  have h156 := Is.sub h153 h155
  have h166 := Is.mul (pay86_is d gv11 gv27 gv366) h156
  have h168 := Is.mul h166 (Is.fill (a := 1024) (b := 256) scale_coe)
  exact (Is.cast bitsLt_bf16_f32 h168 :)

theorem pay88_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v366 : Vec Ideal S256x256 .bf16} (gv366 : Is v366 (fun i j => d.Q (1024 + i) j)) {v368 : Vec Ideal S256x128 .bf16} (gv368 : Is v368 (fun i j => d.DO (1024 + i) j)) {v379 : Vec Ideal S1024x128 .bf16} (gv379 : Is v379 (fun i j => d.V (0 + i) j)) {v388 : Vec Ideal S1024x256 .f32} (gv388 : Is v388 (fun i j => (ak8 d) (0 + i) j)) :
    Is (k0_pay88 (F := Ideal) v11 v27 v45 v366 v368 v379 v388) (fun i j => ((ak8 d) (0 + i) j) + (d.dkT 1024 256 (0 + i) j)) := by
  have h170 : Is _ (fun i j => d.dkT 1024 256 (0 + i) j) := (S1024x256_S256x256_S1024x256_1_0_0_1_n_n (pay87_is d gv11 gv27 gv45 gv366 gv368 gv379) (pay82_is d gv366) :)
  have h171 := Is.add gv388 h170
  exact (Is.reshape shapeCasts_S1024x256_S1024x256 h171 :)

theorem pay15_is {v48 : Vec Ideal S256x128 .bf16} (gv48 : Is v48 (fun i j => d.DO (0 + i) j)) {v63 : FVec Ideal S256x256 .f32} (gv63 : Is v63 (fun i j => d.pr (0 + i) (0 + j))) {v79 : Vec Ideal S256x128 .f32} (gv79 : Is v79 (fun i j => (fun _ _ => (0 : ℝ)) (0 + i) j)) :
    Is (k0_pay15 (F := Ideal) v48 v63 v79) (fun i j => ((fun _ _ => (0 : ℝ)) (0 + i) j) + (d.dvT 0 256 (0 + i) j)) := by
  have h173 := Is.cast bitsLt_bf16_f32 gv63
  have h174 : Is _ (fun i j => d.dvT 0 256 (0 + i) j) := (S256x256_S256x128_S256x128_1_0_0_1_n_n h173 gv48 :)
  have h175 := Is.add gv79 h174
  exact (Is.reshape shapeCasts_S256x128_S256x128 h175 :)

theorem pay29_is {v104 : Vec Ideal S256x128 .bf16} (gv104 : Is v104 (fun i j => d.DO (256 + i) j)) {v105 : FVec Ideal S1x256 .f32} (gv105 : Is v105 (fun i j => d.L (256 + j))) {v109 : FVec Ideal S256x256 .f32} (gv109 : Is v109 (fun i j => d.sr (0 + i) (256 + j))) {v130 : Vec Ideal S256x128 .f32} (gv130 : Is v130 (fun i j => (av2 d) (0 + i) j)) :
    Is (k0_pay29 (F := Ideal) v104 v105 v109 v130) (fun i j => ((av2 d) (0 + i) j) + (d.dvT 256 256 (0 + i) j)) := by
  have h177 := Is.cast bitsLt_bf16_f32 (pay26_is d gv105 gv109)
  have h178 : Is _ (fun i j => d.dvT 256 256 (0 + i) j) := (S256x256_S256x128_S256x128_1_0_0_1_n_n h177 gv104 :)
  have h179 := Is.add gv130 h178
  exact (Is.reshape shapeCasts_S256x128_S256x128 h179 :)

theorem pay35_is {v104 : Vec Ideal S256x128 .bf16} (gv104 : Is v104 (fun i j => d.DO (256 + i) j)) {v105 : FVec Ideal S1x256 .f32} (gv105 : Is v105 (fun i j => d.L (256 + j))) {v148 : FVec Ideal S256x256 .f32} (gv148 : IsM v148 (fun i j => (d.sr (256 + i) (256 + j)) * scale)) {v167 : Vec Ideal S256x128 .f32} (gv167 : Is v167 (fun i j => (av3 d) (256 + i) j)) :
    Is (k0_pay35 (F := Ideal) v104 v105 v148 v167) (fun i j => ((av3 d) (256 + i) j) + (d.dvT 256 256 (256 + i) j)) := by
  have h181 := Is.cast bitsLt_bf16_f32 (pay32_is d gv105 gv148)
  have h182 : Is _ (fun i j => d.dvT 256 256 (256 + i) j) := (S256x256_S256x128_S256x128_1_0_0_1_n_n h181 gv104 :)
  have h183 := Is.add gv167 h182
  exact (Is.reshape shapeCasts_S256x128_S256x128 h183 :)

theorem pay48_is {v11 : FVec Ideal S2176x256 .bf16} (gv11 : Is v11 (fun i j => d.K i j)) {v27 : FVec Ideal S8x2176 .f32} (gv27 : Is v27 (fun i j => d.L j)) {v190 : Vec Ideal S256x256 .bf16} (gv190 : Is v190 (fun i j => d.Q (512 + i) j)) :
    Is (k0_pay48 (F := Ideal) v11 v27 v190) (fun i j => d.pr (0 + i) (512 + j)) := by
  exact (Is.cast bitsLt_bf16_f32 (pay45_is d gv11 gv27 gv190) :)

theorem pay49_is {v192 : Vec Ideal S256x128 .bf16} (gv192 : Is v192 (fun i j => d.DO (512 + i) j)) {v218 : Vec Ideal S512x128 .f32} (gv218 : Is v218 (fun i j => (av4 d) (0 + i) j)) {v219 : FVec Ideal S512x256 .bf16} (gv219 : Is v219 (fun i j => d.pr (0 + i) (512 + j))) :
    Is (k0_pay49 (F := Ideal) v192 v218 v219) (fun i j => ((av4 d) (0 + i) j) + (d.dvT 512 256 (0 + i) j)) := by
  have h186 : Is _ (fun i j => d.dvT 512 256 (0 + i) j) := (S512x256_S256x128_S512x128_1_0_0_1_n_n gv219 gv192 :)
  have h187 := Is.add gv218 h186
  exact (Is.reshape shapeCasts_S512x128_S512x128 h187 :)

theorem pay54_is {v11 : FVec Ideal S2176x256 .bf16} (gv11 : Is v11 (fun i j => d.K i j)) {v191 : FVec Ideal S256x256 .bf16} (gv191 : Is v191 (fun i j => d.Q (512 + i) j)) {v192 : Vec Ideal S256x128 .bf16} (gv192 : Is v192 (fun i j => d.DO (512 + i) j)) {v193 : FVec Ideal S1x256 .f32} (gv193 : Is v193 (fun i j => d.L (512 + j))) {v255 : Vec Ideal S256x128 .f32} (gv255 : Is v255 (fun i j => (av5 d) (512 + i) j)) :
    Is (k0_pay54 (F := Ideal) v11 v191 v192 v193 v255) (fun i j => ((av5 d) (512 + i) j) + (d.dvT 512 256 (512 + i) j)) := by
  have h189 := Is.cast bitsLt_bf16_f32 (pay51_is d gv11 gv191 gv193)
  have h190 : Is _ (fun i j => d.dvT 512 256 (512 + i) j) := (S256x256_S256x128_S256x128_1_0_0_1_n_n h189 gv192 :)
  exact (Is.add gv255 h190 :)

theorem pay55_is {v258 : FVec Ideal S256x128 .f32} (gv258 : Is v258 (fun i j => ((av5 d) (512 + i) j) + (d.dvT 512 256 (512 + i) j))) :
    Is (k0_pay55 (F := Ideal) v258) (fun i j => ((av5 d) (512 + i) j) + (d.dvT 512 256 (512 + i) j)) := by
  exact (Is.reshape shapeCasts_S256x128_S256x128 gv258 :)

theorem pay69_is {v280 : Vec Ideal S256x128 .bf16} (gv280 : Is v280 (fun i j => d.DO (768 + i) j)) {v290 : FVec Ideal S768x256 .f32} (gv290 : Is v290 (fun i j => d.pr (0 + i) (768 + j))) {v306 : Vec Ideal S768x128 .f32} (gv306 : Is v306 (fun i j => (av6 d) (0 + i) j)) :
    Is (k0_pay69 (F := Ideal) v280 v290 v306) (fun i j => ((av6 d) (0 + i) j) + (d.dvT 768 256 (0 + i) j)) := by
  have h193 := Is.cast bitsLt_bf16_f32 gv290
  have h194 : Is _ (fun i j => d.dvT 768 256 (0 + i) j) := (S768x256_S256x128_S768x128_1_0_0_1_n_n h193 gv280 :)
  have h195 := Is.add gv306 h194
  exact (Is.reshape shapeCasts_S768x128_S768x128 h195 :)

theorem pay76_is {v280 : Vec Ideal S256x128 .bf16} (gv280 : Is v280 (fun i j => d.DO (768 + i) j)) {v327 : FVec Ideal S256x256 .f32} (gv327 : Is v327 (fun i j => d.pr (768 + i) (768 + j))) {v343 : Vec Ideal S256x128 .f32} (gv343 : Is v343 (fun i j => (av7 d) (768 + i) j)) :
    Is (k0_pay76 (F := Ideal) v280 v327 v343) (fun i j => ((av7 d) (768 + i) j) + (d.dvT 768 256 (768 + i) j)) := by
  have h197 := Is.cast bitsLt_bf16_f32 gv327
  have h198 : Is _ (fun i j => d.dvT 768 256 (768 + i) j) := (S256x256_S256x128_S256x128_1_0_0_1_n_n h197 gv280 :)
  have h199 := Is.add gv343 h198
  exact (Is.reshape shapeCasts_S256x128_S256x128 h199 :)

theorem pay89_is {v11 : FVec Ideal S2176x256 .bf16} (gv11 : Is v11 (fun i j => d.K i j)) {v27 : FVec Ideal S8x2176 .f32} (gv27 : Is v27 (fun i j => d.L j)) {v366 : Vec Ideal S256x256 .bf16} (gv366 : Is v366 (fun i j => d.Q (1024 + i) j)) {v368 : Vec Ideal S256x128 .bf16} (gv368 : Is v368 (fun i j => d.DO (1024 + i) j)) {v394 : Vec Ideal S1024x128 .f32} (gv394 : Is v394 (fun i j => (av8 d) (0 + i) j)) :
    Is (k0_pay89 (F := Ideal) v11 v27 v366 v368 v394) (fun i j => ((av8 d) (0 + i) j) + (d.dvT 1024 256 (0 + i) j)) := by
  have h201 := Is.cast bitsLt_bf16_f32 (pay86_is d gv11 gv27 gv366)
  have h202 : Is _ (fun i j => d.dvT 1024 256 (0 + i) j) := (S1024x256_S256x128_S1024x128_1_0_0_1_n_n h201 gv368 :)
  have h203 := Is.add gv394 h202
  exact (Is.reshape shapeCasts_S1024x128_S1024x128 h203 :)

theorem pay91_is {v11 : FVec Ideal S2176x256 .bf16} (gv11 : Is v11 (fun i j => d.K i j)) {v367 : FVec Ideal S256x256 .bf16} (gv367 : Is v367 (fun i j => d.Q (1024 + i) j)) {v369 : FVec Ideal S1x256 .f32} (gv369 : Is v369 (fun i j => d.L (1024 + j))) :
    Is (k0_pay91 (F := Ideal) v11 v367 v369) (fun i j => d.pr (1024 + i) (1024 + j)) := by
  have h209 := Is.sliceR 1024 slices_S2176x256_o1024_0_S256x256 gv11
  have h210 : Is _ (fun i j => d.sr (1024 + i) (1024 + j)) := (S256x256_S256x256_S256x256_1_1_0_0_n_n h209 gv367 :)
  have h212 := Is.mul h210 (Is.fill (a := 256) (b := 256) scale_coe)
  have h213 : IsM _ (fun i j => (d.sr (1024 + i) (1024 + j)) * scale) := IsM.select (h0 := iota_S256x256_d0_w32) (h1 := iota_S256x256_d1_w32) (by norm_num) (by norm_num) mask_bot h212
  have h214 := Is.rows (a := 256) broadcasts_S1x256_S256x256 gv369
  have h215 : IsM _ (fun i j => ((d.sr (1024 + i) (1024 + j)) * scale) - (d.L (1024 + j))) := IsM.sub h213 h214
  have h216 : Is _ (fun i j => d.pr (1024 + i) (1024 + j)) := (IsM.exp h215).congr fun i j _ _ => d.pr_diag 1024 i j
  exact h216

theorem pay92_is {v11 : FVec Ideal S2176x256 .bf16} (gv11 : Is v11 (fun i j => d.K i j)) {v367 : FVec Ideal S256x256 .bf16} (gv367 : Is v367 (fun i j => d.Q (1024 + i) j)) {v368 : Vec Ideal S256x128 .bf16} (gv368 : Is v368 (fun i j => d.DO (1024 + i) j)) {v369 : FVec Ideal S1x256 .f32} (gv369 : Is v369 (fun i j => d.L (1024 + j))) {v370 : FVec Ideal S1x256 .f32} (gv370 : Is v370 (fun i j => d.D (1024 + j))) {v416 : Vec Ideal S256x128 .bf16} (gv416 : Is v416 (fun i j => d.V (1024 + i) j)) :
    Is (k0_pay92 (F := Ideal) v11 v367 v368 v369 v370 v416) (fun i j => d.ds (1024 + i) (1024 + j)) := by
  have h205 := Is.reshape shapeCasts_S256x128_S256x128 gv416
  have h206 : Is _ (fun i j => d.dp (1024 + i) (1024 + j)) := (S256x128_S256x128_S256x256_1_1_0_0_n_n h205 gv368 :)
  have h207 := Is.rows (a := 256) broadcasts_S1x256_S256x256 gv370
  have h208 := Is.sub h206 h207
  have h217 := Is.mul (pay91_is d gv11 gv367 gv369) h208
  have h219 := Is.mul h217 (Is.fill (a := 256) (b := 256) scale_coe)
  exact (Is.cast bitsLt_bf16_f32 h219 :)

theorem pay93_is {v11 : FVec Ideal S2176x256 .bf16} (gv11 : Is v11 (fun i j => d.K i j)) {v367 : FVec Ideal S256x256 .bf16} (gv367 : Is v367 (fun i j => d.Q (1024 + i) j)) {v368 : Vec Ideal S256x128 .bf16} (gv368 : Is v368 (fun i j => d.DO (1024 + i) j)) {v369 : FVec Ideal S1x256 .f32} (gv369 : Is v369 (fun i j => d.L (1024 + j))) {v370 : FVec Ideal S1x256 .f32} (gv370 : Is v370 (fun i j => d.D (1024 + j))) {v416 : Vec Ideal S256x128 .bf16} (gv416 : Is v416 (fun i j => d.V (1024 + i) j)) {v425 : Vec Ideal S256x256 .f32} (gv425 : Is v425 (fun i j => (ak9 d) (1024 + i) j)) :
    Is (k0_pay93 (F := Ideal) v11 v367 v368 v369 v370 v416 v425) (fun i j => ((ak9 d) (1024 + i) j) + (d.dkT 1024 256 (1024 + i) j)) := by
  have h221 : Is _ (fun i j => d.dkT 1024 256 (1024 + i) j) := (S256x256_S256x256_S256x256_1_0_0_1_n_n (pay92_is d gv11 gv367 gv368 gv369 gv370 gv416) gv367 :)
  have h222 := Is.add gv425 h221
  exact (Is.reshape shapeCasts_S256x256_S256x256 h222 :)

theorem pay101_is {v454 : Vec Ideal S256x256 .bf16} (gv454 : Is v454 (fun i j => d.Q (1280 + i) j)) :
    Is (k0_pay101 (F := Ideal) v454) (fun i j => d.Q (1280 + i) j) := by
  exact (Is.reshape shapeCasts_S256x256_S256x256 gv454 :)

theorem pay103_is {v45 : FVec Ideal S8x2176 .f32} (gv45 : Is v45 (fun i j => d.D j)) :
    Is (k0_pay103 (F := Ideal) v45) (fun i j => d.D (1280 + j)) := by
  exact (Is.sliceC 1280 slices_S8x2176_o0_1280_S1x256 gv45 :)

theorem pay102_is {v27 : FVec Ideal S8x2176 .f32} (gv27 : Is v27 (fun i j => d.L j)) :
    Is (k0_pay102 (F := Ideal) v27) (fun i j => d.L (1280 + j)) := by
  exact (Is.sliceC 1280 slices_S8x2176_o0_1280_S1x256 gv27 :)

theorem pay105_is {v11 : FVec Ideal S2176x256 .bf16} (gv11 : Is v11 (fun i j => d.K i j)) {v27 : FVec Ideal S8x2176 .f32} (gv27 : Is v27 (fun i j => d.L j)) {v454 : Vec Ideal S256x256 .bf16} (gv454 : Is v454 (fun i j => d.Q (1280 + i) j)) :
    Is (k0_pay105 (F := Ideal) v11 v27 v454) (fun i j => d.pr (0 + i) (1280 + j)) := by
  have h230 := Is.sliceR 0 slices_S2176x256_o0_0_S1024x256 gv11
  have h231 : Is _ (fun i j => d.sr (0 + i) (1280 + j)) := (S1024x256_S256x256_S1024x256_1_1_0_0_n_n h230 (pay101_is d gv454) :)
  have h233 := Is.mul h231 (Is.fill (a := 1024) (b := 256) scale_coe)
  have h235 := Is.rows (a := 1024) broadcasts_S1x256_S1024x256 (pay102_is d gv27)
  have h236 := Is.sub h233 h235
  have h237 : Is _ (fun i j => d.pr (0 + i) (1280 + j)) := (Is.exp h236).congr fun i j _ _ => d.pr_le (by omega)
  exact h237

theorem pay106_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v454 : Vec Ideal S256x256 .bf16} (gv454 : Is v454 (fun i j => d.Q (1280 + i) j)) {v456 : Vec Ideal S256x128 .bf16} (gv456 : Is v456 (fun i j => d.DO (1280 + i) j)) {v467 : Vec Ideal S1024x128 .bf16} (gv467 : Is v467 (fun i j => d.V (0 + i) j)) :
    Is (k0_pay106 (F := Ideal) v11 v27 v45 v454 v456 v467) (fun i j => d.ds (0 + i) (1280 + j)) := by
  have h225 := Is.reshape shapeCasts_S1024x128_S1024x128 gv467
  have h226 : Is _ (fun i j => d.dp (0 + i) (1280 + j)) := (S1024x128_S256x128_S1024x256_1_1_0_0_n_n h225 gv456 :)
  have h228 := Is.rows (a := 1024) broadcasts_S1x256_S1024x256 (pay103_is d gv45)
  have h229 := Is.sub h226 h228
  have h238 := Is.mul (pay105_is d gv11 gv27 gv454) h229
  have h240 := Is.mul h238 (Is.fill (a := 1024) (b := 256) scale_coe)
  exact (Is.cast bitsLt_bf16_f32 h240 :)

theorem pay107_is {v455 : FVec Ideal S256x256 .bf16} (gv455 : Is v455 (fun i j => d.Q (1280 + i) j)) {v475 : FVec Ideal S1024x256 .bf16} (gv475 : Is v475 (fun i j => d.ds (0 + i) (1280 + j))) {v476 : Vec Ideal S1024x256 .f32} (gv476 : Is v476 (fun i j => (ak10 d) (0 + i) j)) :
    Is (k0_pay107 (F := Ideal) v455 v475 v476) (fun i j => ((ak10 d) (0 + i) j) + (d.dkT 1280 256 (0 + i) j)) := by
  have h242 : Is _ (fun i j => d.dkT 1280 256 (0 + i) j) := (S1024x256_S256x256_S1024x256_1_0_0_1_n_n gv475 gv455 :)
  have h243 := Is.add gv476 h242
  exact (Is.reshape shapeCasts_S1024x256_S1024x256 h243 :)

theorem pay110_is {v11 : FVec Ideal S2176x256 .bf16} (gv11 : Is v11 (fun i j => d.K i j)) {v455 : FVec Ideal S256x256 .bf16} (gv455 : Is v455 (fun i j => d.Q (1280 + i) j)) {v457 : FVec Ideal S1x256 .f32} (gv457 : Is v457 (fun i j => d.L (1280 + j))) :
    Is (k0_pay110 (F := Ideal) v11 v455 v457) (fun i j => d.pr (1024 + i) (1280 + j)) := by
  have h249 := Is.sliceR 1024 slices_S2176x256_o1024_0_S256x256 gv11
  have h250 : Is _ (fun i j => d.sr (1024 + i) (1280 + j)) := (S256x256_S256x256_S256x256_1_1_0_0_n_n h249 gv455 :)
  have h252 := Is.mul h250 (Is.fill (a := 256) (b := 256) scale_coe)
  have h253 := Is.rows (a := 256) broadcasts_S1x256_S256x256 gv457
  have h254 := Is.sub h252 h253
  have h255 : Is _ (fun i j => d.pr (1024 + i) (1280 + j)) := (Is.exp h254).congr fun i j _ _ => d.pr_le (by omega)
  exact h255

theorem pay111_is {v11 : FVec Ideal S2176x256 .bf16} (gv11 : Is v11 (fun i j => d.K i j)) {v455 : FVec Ideal S256x256 .bf16} (gv455 : Is v455 (fun i j => d.Q (1280 + i) j)) {v456 : Vec Ideal S256x128 .bf16} (gv456 : Is v456 (fun i j => d.DO (1280 + i) j)) {v457 : FVec Ideal S1x256 .f32} (gv457 : Is v457 (fun i j => d.L (1280 + j))) {v458 : FVec Ideal S1x256 .f32} (gv458 : Is v458 (fun i j => d.D (1280 + j))) {v499 : Vec Ideal S256x128 .bf16} (gv499 : Is v499 (fun i j => d.V (1024 + i) j)) :
    Is (k0_pay111 (F := Ideal) v11 v455 v456 v457 v458 v499) (fun i j => d.ds (1024 + i) (1280 + j)) := by
  have h245 := Is.reshape shapeCasts_S256x128_S256x128 gv499
  have h246 : Is _ (fun i j => d.dp (1024 + i) (1280 + j)) := (S256x128_S256x128_S256x256_1_1_0_0_n_n h245 gv456 :)
  have h247 := Is.rows (a := 256) broadcasts_S1x256_S256x256 gv458
  have h248 := Is.sub h246 h247
  have h256 := Is.mul (pay110_is d gv11 gv455 gv457) h248
  have h258 := Is.mul h256 (Is.fill (a := 256) (b := 256) scale_coe)
  exact (Is.cast bitsLt_bf16_f32 h258 :)

theorem pay112_is {v11 : FVec Ideal S2176x256 .bf16} (gv11 : Is v11 (fun i j => d.K i j)) {v455 : FVec Ideal S256x256 .bf16} (gv455 : Is v455 (fun i j => d.Q (1280 + i) j)) {v456 : Vec Ideal S256x128 .bf16} (gv456 : Is v456 (fun i j => d.DO (1280 + i) j)) {v457 : FVec Ideal S1x256 .f32} (gv457 : Is v457 (fun i j => d.L (1280 + j))) {v458 : FVec Ideal S1x256 .f32} (gv458 : Is v458 (fun i j => d.D (1280 + j))) {v499 : Vec Ideal S256x128 .bf16} (gv499 : Is v499 (fun i j => d.V (1024 + i) j)) {v508 : Vec Ideal S256x256 .f32} (gv508 : Is v508 (fun i j => (ak11 d) (1024 + i) j)) :
    Is (k0_pay112 (F := Ideal) v11 v455 v456 v457 v458 v499 v508) (fun i j => ((ak11 d) (1024 + i) j) + (d.dkT 1280 256 (1024 + i) j)) := by
  have h260 : Is _ (fun i j => d.dkT 1280 256 (1024 + i) j) := (S256x256_S256x256_S256x256_1_0_0_1_n_n (pay111_is d gv11 gv455 gv456 gv457 gv458 gv499) gv455 :)
  exact (Is.add gv508 h260 :)

theorem pay113_is {v510 : FVec Ideal S256x256 .f32} (gv510 : Is v510 (fun i j => ((ak11 d) (1024 + i) j) + (d.dkT 1280 256 (1024 + i) j))) :
    Is (k0_pay113 (F := Ideal) v510) (fun i j => ((ak11 d) (1024 + i) j) + (d.dkT 1280 256 (1024 + i) j)) := by
  exact (Is.reshape shapeCasts_S256x256_S256x256 gv510 :)

theorem pay116_is {v11 : FVec Ideal S2176x256 .bf16} (gv11 : Is v11 (fun i j => d.K i j)) {v455 : FVec Ideal S256x256 .bf16} (gv455 : Is v455 (fun i j => d.Q (1280 + i) j)) {v457 : FVec Ideal S1x256 .f32} (gv457 : Is v457 (fun i j => d.L (1280 + j))) :
    Is (k0_pay116 (F := Ideal) v11 v455 v457) (fun i j => d.pr (1280 + i) (1280 + j)) := by
  have h267 := Is.sliceR 1280 slices_S2176x256_o1280_0_S256x256 gv11
  have h268 : Is _ (fun i j => d.sr (1280 + i) (1280 + j)) := (S256x256_S256x256_S256x256_1_1_0_0_n_n h267 gv455 :)
  have h270 := Is.mul h268 (Is.fill (a := 256) (b := 256) scale_coe)
  have h271 : IsM _ (fun i j => (d.sr (1280 + i) (1280 + j)) * scale) := IsM.select (h0 := iota_S256x256_d0_w32) (h1 := iota_S256x256_d1_w32) (by norm_num) (by norm_num) mask_bot h270
  have h272 := Is.rows (a := 256) broadcasts_S1x256_S256x256 gv457
  have h273 : IsM _ (fun i j => ((d.sr (1280 + i) (1280 + j)) * scale) - (d.L (1280 + j))) := IsM.sub h271 h272
  have h274 : Is _ (fun i j => d.pr (1280 + i) (1280 + j)) := (IsM.exp h273).congr fun i j _ _ => d.pr_diag 1280 i j
  exact h274

theorem pay117_is {v11 : FVec Ideal S2176x256 .bf16} (gv11 : Is v11 (fun i j => d.K i j)) {v455 : FVec Ideal S256x256 .bf16} (gv455 : Is v455 (fun i j => d.Q (1280 + i) j)) {v456 : Vec Ideal S256x128 .bf16} (gv456 : Is v456 (fun i j => d.DO (1280 + i) j)) {v457 : FVec Ideal S1x256 .f32} (gv457 : Is v457 (fun i j => d.L (1280 + j))) {v458 : FVec Ideal S1x256 .f32} (gv458 : Is v458 (fun i j => d.D (1280 + j))) {v536 : Vec Ideal S256x128 .bf16} (gv536 : Is v536 (fun i j => d.V (1280 + i) j)) :
    Is (k0_pay117 (F := Ideal) v11 v455 v456 v457 v458 v536) (fun i j => d.ds (1280 + i) (1280 + j)) := by
  have h263 := Is.reshape shapeCasts_S256x128_S256x128 gv536
  have h264 : Is _ (fun i j => d.dp (1280 + i) (1280 + j)) := (S256x128_S256x128_S256x256_1_1_0_0_n_n h263 gv456 :)
  have h265 := Is.rows (a := 256) broadcasts_S1x256_S256x256 gv458
  have h266 := Is.sub h264 h265
  have h275 := Is.mul (pay116_is d gv11 gv455 gv457) h266
  have h277 := Is.mul h275 (Is.fill (a := 256) (b := 256) scale_coe)
  exact (Is.cast bitsLt_bf16_f32 h277 :)

theorem pay118_is {v11 : FVec Ideal S2176x256 .bf16} (gv11 : Is v11 (fun i j => d.K i j)) {v455 : FVec Ideal S256x256 .bf16} (gv455 : Is v455 (fun i j => d.Q (1280 + i) j)) {v456 : Vec Ideal S256x128 .bf16} (gv456 : Is v456 (fun i j => d.DO (1280 + i) j)) {v457 : FVec Ideal S1x256 .f32} (gv457 : Is v457 (fun i j => d.L (1280 + j))) {v458 : FVec Ideal S1x256 .f32} (gv458 : Is v458 (fun i j => d.D (1280 + j))) {v536 : Vec Ideal S256x128 .bf16} (gv536 : Is v536 (fun i j => d.V (1280 + i) j)) {v545 : Vec Ideal S256x256 .f32} (gv545 : Is v545 (fun i j => (ak12 d) (1280 + i) j)) :
    Is (k0_pay118 (F := Ideal) v11 v455 v456 v457 v458 v536 v545) (fun i j => ((ak12 d) (1280 + i) j) + (d.dkT 1280 256 (1280 + i) j)) := by
  have h279 : Is _ (fun i j => d.dkT 1280 256 (1280 + i) j) := (S256x256_S256x256_S256x256_1_0_0_1_n_n (pay117_is d gv11 gv455 gv456 gv457 gv458 gv536) gv455 :)
  have h280 := Is.add gv545 h279
  exact (Is.reshape shapeCasts_S256x256_S256x256 h280 :)

theorem pay125_is {v574 : Vec Ideal S256x256 .bf16} (gv574 : Is v574 (fun i j => d.Q (1536 + i) j)) :
    Is (k0_pay125 (F := Ideal) v574) (fun i j => d.Q (1536 + i) j) := by
  exact (Is.reshape shapeCasts_S256x256_S256x256 gv574 :)

theorem pay127_is {v45 : FVec Ideal S8x2176 .f32} (gv45 : Is v45 (fun i j => d.D j)) :
    Is (k0_pay127 (F := Ideal) v45) (fun i j => d.D (1536 + j)) := by
  exact (Is.sliceC 1536 slices_S8x2176_o0_1536_S1x256 gv45 :)

theorem pay129_is {v11 : FVec Ideal S2176x256 .bf16} (gv11 : Is v11 (fun i j => d.K i j)) {v574 : Vec Ideal S256x256 .bf16} (gv574 : Is v574 (fun i j => d.Q (1536 + i) j)) :
    Is (k0_pay129 (F := Ideal) v11 v574) (fun i j => (d.sr (0 + i) (1536 + j)) * scale) := by
  have h284 := Is.sliceR 0 slices_S2176x256_o0_0_S1024x256 gv11
  have h285 : Is _ (fun i j => d.sr (0 + i) (1536 + j)) := (S1024x256_S256x256_S1024x256_1_1_0_0_n_n h284 (pay125_is d gv574) :)
  have h286 := Is.fill (a := 1024) (b := 256) scale_coe
  exact (Is.mul h285 h286 :)

theorem pay126_is {v27 : FVec Ideal S8x2176 .f32} (gv27 : Is v27 (fun i j => d.L j)) :
    Is (k0_pay126 (F := Ideal) v27) (fun i j => d.L (1536 + j)) := by
  exact (Is.sliceC 1536 slices_S8x2176_o0_1536_S1x256 gv27 :)

theorem pay130_is {v27 : FVec Ideal S8x2176 .f32} (gv27 : Is v27 (fun i j => d.L j)) :
    Is (k0_pay130 (F := Ideal) v27) (fun i j => d.L (1536 + j)) := by
  exact (Is.rows (a := 1024) broadcasts_S1x256_S1024x256 (pay126_is d gv27) :)

theorem pay131_is {v583 : FVec Ideal S1024x256 .f32} (gv583 : Is v583 (fun i j => (d.sr (0 + i) (1536 + j)) * scale)) {v584 : FVec Ideal S1024x256 .f32} (gv584 : Is v584 (fun i j => d.L (1536 + j))) :
    Is (k0_pay131 (F := Ideal) v583 v584) (fun i j => d.pr (0 + i) (1536 + j)) := by
  have h294 := Is.sub gv583 gv584
  have h295 : Is _ (fun i j => d.pr (0 + i) (1536 + j)) := (Is.exp h294).congr fun i j _ _ => d.pr_le (by omega)
  exact h295

theorem pay132_is {v576 : Vec Ideal S256x128 .bf16} (gv576 : Is v576 (fun i j => d.DO (1536 + i) j)) {v578 : FVec Ideal S1x256 .f32} (gv578 : Is v578 (fun i j => d.D (1536 + j))) {v583 : FVec Ideal S1024x256 .f32} (gv583 : Is v583 (fun i j => (d.sr (0 + i) (1536 + j)) * scale)) {v584 : FVec Ideal S1024x256 .f32} (gv584 : Is v584 (fun i j => d.L (1536 + j))) {v587 : Vec Ideal S1024x128 .bf16} (gv587 : Is v587 (fun i j => d.V (0 + i) j)) :
    Is (k0_pay132 (F := Ideal) v576 v578 v583 v584 v587) (fun i j => d.ds (0 + i) (1536 + j)) := by
  have h290 := Is.reshape shapeCasts_S1024x128_S1024x128 gv587
  have h291 : Is _ (fun i j => d.dp (0 + i) (1536 + j)) := (S1024x128_S256x128_S1024x256_1_1_0_0_n_n h290 gv576 :)
  have h292 := Is.rows (a := 1024) broadcasts_S1x256_S1024x256 gv578
  have h293 := Is.sub h291 h292
  have h296 := Is.mul (pay131_is d gv583 gv584) h293
  have h298 := Is.mul h296 (Is.fill (a := 1024) (b := 256) scale_coe)
  exact (Is.cast bitsLt_bf16_f32 h298 :)

theorem pay133_is {v575 : FVec Ideal S256x256 .bf16} (gv575 : Is v575 (fun i j => d.Q (1536 + i) j)) {v576 : Vec Ideal S256x128 .bf16} (gv576 : Is v576 (fun i j => d.DO (1536 + i) j)) {v578 : FVec Ideal S1x256 .f32} (gv578 : Is v578 (fun i j => d.D (1536 + j))) {v583 : FVec Ideal S1024x256 .f32} (gv583 : Is v583 (fun i j => (d.sr (0 + i) (1536 + j)) * scale)) {v584 : FVec Ideal S1024x256 .f32} (gv584 : Is v584 (fun i j => d.L (1536 + j))) {v587 : Vec Ideal S1024x128 .bf16} (gv587 : Is v587 (fun i j => d.V (0 + i) j)) {v596 : Vec Ideal S1024x256 .f32} (gv596 : Is v596 (fun i j => (ak13 d) (0 + i) j)) :
    Is (k0_pay133 (F := Ideal) v575 v576 v578 v583 v584 v587 v596) (fun i j => ((ak13 d) (0 + i) j) + (d.dkT 1536 256 (0 + i) j)) := by
  have h300 : Is _ (fun i j => d.dkT 1536 256 (0 + i) j) := (S1024x256_S256x256_S1024x256_1_0_0_1_n_n (pay132_is d gv576 gv578 gv583 gv584 gv587) gv575 :)
  have h301 := Is.add gv596 h300
  exact (Is.reshape shapeCasts_S1024x256_S1024x256 h301 :)

theorem pay136_is {v11 : FVec Ideal S2176x256 .bf16} (gv11 : Is v11 (fun i j => d.K i j)) {v575 : FVec Ideal S256x256 .bf16} (gv575 : Is v575 (fun i j => d.Q (1536 + i) j)) {v577 : FVec Ideal S1x256 .f32} (gv577 : Is v577 (fun i j => d.L (1536 + j))) :
    Is (k0_pay136 (F := Ideal) v11 v575 v577) (fun i j => d.pr (1024 + i) (1536 + j)) := by
  have h303 := Is.sliceR 1024 slices_S2176x256_o1024_0_S512x256 gv11
  have h304 : Is _ (fun i j => d.sr (1024 + i) (1536 + j)) := (S512x256_S256x256_S512x256_1_1_0_0_n_n h303 gv575 :)
  have h306 := Is.mul h304 (Is.fill (a := 512) (b := 256) scale_coe)
  have h307 := Is.rows (a := 512) broadcasts_S1x256_S512x256 gv577
  have h308 := Is.sub h306 h307
  have h309 : Is _ (fun i j => d.pr (1024 + i) (1536 + j)) := (Is.exp h308).congr fun i j _ _ => d.pr_le (by omega)
  exact h309

theorem pay137_is {v576 : Vec Ideal S256x128 .bf16} (gv576 : Is v576 (fun i j => d.DO (1536 + i) j)) {v619 : Vec Ideal S512x128 .bf16} (gv619 : Is v619 (fun i j => d.V (1024 + i) j)) :
    Is (k0_pay137 (F := Ideal) v576 v619) (fun i j => d.dp (1024 + i) (1536 + j)) := by
  have h310 := Is.reshape shapeCasts_S512x128_S512x128 gv619
  have h311 : Is _ (fun i j => d.dp (1024 + i) (1536 + j)) := (S512x128_S256x128_S512x256_1_1_0_0_n_n h310 gv576 :)
  exact h311

theorem pay138_is {v578 : FVec Ideal S1x256 .f32} (gv578 : Is v578 (fun i j => d.D (1536 + j))) :
    Is (k0_pay138 (F := Ideal) v578) (fun i j => d.D (1536 + j)) := by
  exact (Is.rows (a := 512) broadcasts_S1x256_S512x256 gv578 :)

theorem pay139_is {v618 : FVec Ideal S512x256 .f32} (gv618 : Is v618 (fun i j => d.pr (1024 + i) (1536 + j))) {v621 : FVec Ideal S512x256 .f32} (gv621 : Is v621 (fun i j => d.dp (1024 + i) (1536 + j))) {v622 : FVec Ideal S512x256 .f32} (gv622 : Is v622 (fun i j => d.D (1536 + j))) :
    Is (k0_pay139 (F := Ideal) v618 v621 v622) (fun i j => d.ds (1024 + i) (1536 + j)) := by
  have h313 := Is.sub gv621 gv622
  have h314 := Is.mul gv618 h313
  have h316 := Is.mul h314 (Is.fill (a := 512) (b := 256) scale_coe)
  exact (Is.cast bitsLt_bf16_f32 h316 :)

theorem pay140_is {v575 : FVec Ideal S256x256 .bf16} (gv575 : Is v575 (fun i j => d.Q (1536 + i) j)) {v618 : FVec Ideal S512x256 .f32} (gv618 : Is v618 (fun i j => d.pr (1024 + i) (1536 + j))) {v621 : FVec Ideal S512x256 .f32} (gv621 : Is v621 (fun i j => d.dp (1024 + i) (1536 + j))) {v622 : FVec Ideal S512x256 .f32} (gv622 : Is v622 (fun i j => d.D (1536 + j))) {v628 : Vec Ideal S512x256 .f32} (gv628 : Is v628 (fun i j => (ak14 d) (1024 + i) j)) :
    Is (k0_pay140 (F := Ideal) v575 v618 v621 v622 v628) (fun i j => ((ak14 d) (1024 + i) j) + (d.dkT 1536 256 (1024 + i) j)) := by
  have h318 : Is _ (fun i j => d.dkT 1536 256 (1024 + i) j) := (S512x256_S256x256_S512x256_1_0_0_1_n_n (pay139_is d gv618 gv621 gv622) gv575 :)
  have h319 := Is.add gv628 h318
  exact (Is.reshape shapeCasts_S512x256_S512x256 h319 :)

theorem pay143_is {v11 : FVec Ideal S2176x256 .bf16} (gv11 : Is v11 (fun i j => d.K i j)) {v575 : FVec Ideal S256x256 .bf16} (gv575 : Is v575 (fun i j => d.Q (1536 + i) j)) {v577 : FVec Ideal S1x256 .f32} (gv577 : Is v577 (fun i j => d.L (1536 + j))) :
    Is (k0_pay143 (F := Ideal) v11 v575 v577) (fun i j => d.pr (1536 + i) (1536 + j)) := by
  have h325 := Is.sliceR 1536 slices_S2176x256_o1536_0_S256x256 gv11
  have h326 : Is _ (fun i j => d.sr (1536 + i) (1536 + j)) := (S256x256_S256x256_S256x256_1_1_0_0_n_n h325 gv575 :)
  have h328 := Is.mul h326 (Is.fill (a := 256) (b := 256) scale_coe)
  have h329 : IsM _ (fun i j => (d.sr (1536 + i) (1536 + j)) * scale) := IsM.select (h0 := iota_S256x256_d0_w32) (h1 := iota_S256x256_d1_w32) (by norm_num) (by norm_num) mask_bot h328
  have h330 := Is.rows (a := 256) broadcasts_S1x256_S256x256 gv577
  have h331 : IsM _ (fun i j => ((d.sr (1536 + i) (1536 + j)) * scale) - (d.L (1536 + j))) := IsM.sub h329 h330
  have h332 : Is _ (fun i j => d.pr (1536 + i) (1536 + j)) := (IsM.exp h331).congr fun i j _ _ => d.pr_diag 1536 i j
  exact h332

theorem pay144_is {v11 : FVec Ideal S2176x256 .bf16} (gv11 : Is v11 (fun i j => d.K i j)) {v575 : FVec Ideal S256x256 .bf16} (gv575 : Is v575 (fun i j => d.Q (1536 + i) j)) {v576 : Vec Ideal S256x128 .bf16} (gv576 : Is v576 (fun i j => d.DO (1536 + i) j)) {v577 : FVec Ideal S1x256 .f32} (gv577 : Is v577 (fun i j => d.L (1536 + j))) {v578 : FVec Ideal S1x256 .f32} (gv578 : Is v578 (fun i j => d.D (1536 + j))) {v656 : Vec Ideal S256x128 .bf16} (gv656 : Is v656 (fun i j => d.V (1536 + i) j)) :
    Is (k0_pay144 (F := Ideal) v11 v575 v576 v577 v578 v656) (fun i j => (d.pr (1536 + i) (1536 + j)) * ((d.dp (1536 + i) (1536 + j)) - (d.D (1536 + j)))) := by
  have h321 := Is.reshape shapeCasts_S256x128_S256x128 gv656
  have h322 : Is _ (fun i j => d.dp (1536 + i) (1536 + j)) := (S256x128_S256x128_S256x256_1_1_0_0_n_n h321 gv576 :)
  have h323 := Is.rows (a := 256) broadcasts_S1x256_S256x256 gv578
  have h324 := Is.sub h322 h323
  exact (Is.mul (pay143_is d gv11 gv575 gv577) h324 :)

theorem pay145_is {v661 : FVec Ideal S256x256 .f32} (gv661 : Is v661 (fun i j => (d.pr (1536 + i) (1536 + j)) * ((d.dp (1536 + i) (1536 + j)) - (d.D (1536 + j))))) :
    Is (k0_pay145 (F := Ideal) v661 (Scalar.ofBits .f32 0x3D93CD3A#32)) (fun i j => d.ds (1536 + i) (1536 + j)) := by
  have h334 := Is.fill (a := 256) (b := 256) scale_coe
  have h335 := Is.mul gv661 h334
  exact (Is.cast bitsLt_bf16_f32 h335 :)

theorem pay146_is {v575 : FVec Ideal S256x256 .bf16} (gv575 : Is v575 (fun i j => d.Q (1536 + i) j)) {v661 : FVec Ideal S256x256 .f32} (gv661 : Is v661 (fun i j => (d.pr (1536 + i) (1536 + j)) * ((d.dp (1536 + i) (1536 + j)) - (d.D (1536 + j))))) {v665 : Vec Ideal S256x256 .f32} (gv665 : Is v665 (fun i j => (ak15 d) (1536 + i) j)) :
    Is (k0_pay146 (F := Ideal) v575 v661 (Scalar.ofBits .f32 0x3D93CD3A#32) v665) (fun i j => ((ak15 d) (1536 + i) j) + (d.dkT 1536 256 (1536 + i) j)) := by
  have h337 : Is _ (fun i j => d.dkT 1536 256 (1536 + i) j) := (S256x256_S256x256_S256x256_1_0_0_1_n_n (pay145_is d gv661) gv575 :)
  have h338 := Is.add gv665 h337
  exact (Is.reshape shapeCasts_S256x256_S256x256 h338 :)

theorem pay155_is {v45 : FVec Ideal S8x2176 .f32} (gv45 : Is v45 (fun i j => d.D j)) :
    Is (k0_pay155 (F := Ideal) v45) (fun i j => d.D (1792 + j)) := by
  exact (Is.sliceC 1792 slices_S8x2176_o0_1792_S1x256 gv45 :)

theorem pay153_is {v694 : Vec Ideal S256x256 .bf16} (gv694 : Is v694 (fun i j => d.Q (1792 + i) j)) :
    Is (k0_pay153 (F := Ideal) v694) (fun i j => d.Q (1792 + i) j) := by
  exact (Is.reshape shapeCasts_S256x256_S256x256 gv694 :)

theorem pay154_is {v27 : FVec Ideal S8x2176 .f32} (gv27 : Is v27 (fun i j => d.L j)) :
    Is (k0_pay154 (F := Ideal) v27) (fun i j => d.L (1792 + j)) := by
  exact (Is.sliceC 1792 slices_S8x2176_o0_1792_S1x256 gv27 :)

theorem pay156_is {v11 : FVec Ideal S2176x256 .bf16} (gv11 : Is v11 (fun i j => d.K i j)) {v27 : FVec Ideal S8x2176 .f32} (gv27 : Is v27 (fun i j => d.L j)) {v694 : Vec Ideal S256x256 .bf16} (gv694 : Is v694 (fun i j => d.Q (1792 + i) j)) :
    Is (k0_pay156 (F := Ideal) v11 v27 v694) (fun i j => d.pr (0 + i) (1792 + j)) := by
  have h345 := Is.sliceR 0 slices_S2176x256_o0_0_S1024x256 gv11
  have h347 : Is _ (fun i j => d.sr (0 + i) (1792 + j)) := (S1024x256_S256x256_S1024x256_1_1_0_0_n_n h345 (pay153_is d gv694) :)
  have h349 := Is.mul h347 (Is.fill (a := 1024) (b := 256) scale_coe)
  have h351 := Is.rows (a := 1024) broadcasts_S1x256_S1024x256 (pay154_is d gv27)
  have h352 := Is.sub h349 h351
  have h353 : Is _ (fun i j => d.pr (0 + i) (1792 + j)) := (Is.exp h352).congr fun i j _ _ => d.pr_le (by omega)
  exact h353

theorem pay157_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v694 : Vec Ideal S256x256 .bf16} (gv694 : Is v694 (fun i j => d.Q (1792 + i) j)) {v696 : Vec Ideal S256x128 .bf16} (gv696 : Is v696 (fun i j => d.DO (1792 + i) j)) {v707 : Vec Ideal S1024x128 .bf16} (gv707 : Is v707 (fun i j => d.V (0 + i) j)) :
    Is (k0_pay157 (F := Ideal) v11 v27 v45 v694 v696 v707) (fun i j => d.ds (0 + i) (1792 + j)) := by
  have h340 := Is.reshape shapeCasts_S1024x128_S1024x128 gv707
  have h341 : Is _ (fun i j => d.dp (0 + i) (1792 + j)) := (S1024x128_S256x128_S1024x256_1_1_0_0_n_n h340 gv696 :)
  have h343 := Is.rows (a := 1024) broadcasts_S1x256_S1024x256 (pay155_is d gv45)
  have h344 := Is.sub h341 h343
  have h354 := Is.mul (pay156_is d gv11 gv27 gv694) h344
  have h356 := Is.mul h354 (Is.fill (a := 1024) (b := 256) scale_coe)
  exact (Is.cast bitsLt_bf16_f32 h356 :)

theorem pay158_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v694 : Vec Ideal S256x256 .bf16} (gv694 : Is v694 (fun i j => d.Q (1792 + i) j)) {v696 : Vec Ideal S256x128 .bf16} (gv696 : Is v696 (fun i j => d.DO (1792 + i) j)) {v707 : Vec Ideal S1024x128 .bf16} (gv707 : Is v707 (fun i j => d.V (0 + i) j)) {v716 : Vec Ideal S1024x256 .f32} (gv716 : Is v716 (fun i j => (ak16 d) (0 + i) j)) :
    Is (k0_pay158 (F := Ideal) v11 v27 v45 v694 v696 v707 v716) (fun i j => ((ak16 d) (0 + i) j) + (d.dkT 1792 256 (0 + i) j)) := by
  have h358 : Is _ (fun i j => d.dkT 1792 256 (0 + i) j) := (S1024x256_S256x256_S1024x256_1_0_0_1_n_n (pay157_is d gv11 gv27 gv45 gv694 gv696 gv707) (pay153_is d gv694) :)
  have h359 := Is.add gv716 h358
  exact (Is.reshape shapeCasts_S1024x256_S1024x256 h359 :)

theorem pay161_is {v11 : FVec Ideal S2176x256 .bf16} (gv11 : Is v11 (fun i j => d.K i j)) {v695 : FVec Ideal S256x256 .bf16} (gv695 : Is v695 (fun i j => d.Q (1792 + i) j)) {v697 : FVec Ideal S1x256 .f32} (gv697 : Is v697 (fun i j => d.L (1792 + j))) :
    Is (k0_pay161 (F := Ideal) v11 v695 v697) (fun i j => d.pr (1024 + i) (1792 + j)) := by
  have h365 := Is.sliceR 1024 slices_S2176x256_o1024_0_S768x256 gv11
  have h366 : Is _ (fun i j => d.sr (1024 + i) (1792 + j)) := (S768x256_S256x256_S768x256_1_1_0_0_n_n h365 gv695 :)
  have h368 := Is.mul h366 (Is.fill (a := 768) (b := 256) scale_coe)
  have h369 := Is.rows (a := 768) broadcasts_S1x256_S768x256 gv697
  have h370 := Is.sub h368 h369
  have h371 : Is _ (fun i j => d.pr (1024 + i) (1792 + j)) := (Is.exp h370).congr fun i j _ _ => d.pr_le (by omega)
  exact h371

theorem pay162_is {v11 : FVec Ideal S2176x256 .bf16} (gv11 : Is v11 (fun i j => d.K i j)) {v695 : FVec Ideal S256x256 .bf16} (gv695 : Is v695 (fun i j => d.Q (1792 + i) j)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v739 : Vec Ideal S768x128 .bf16} (gv739 : Is v739 (fun i j => d.V (1024 + i) j)) :
    Is (k0_pay162 (F := Ideal) v11 v695 v696 v697 v698 v739) (fun i j => d.ds (1024 + i) (1792 + j)) := by
  have h361 := Is.reshape shapeCasts_S768x128_S768x128 gv739
  have h362 : Is _ (fun i j => d.dp (1024 + i) (1792 + j)) := (S768x128_S256x128_S768x256_1_1_0_0_n_n h361 gv696 :)
  have h363 := Is.rows (a := 768) broadcasts_S1x256_S768x256 gv698
  have h364 := Is.sub h362 h363
  have h372 := Is.mul (pay161_is d gv11 gv695 gv697) h364
  have h374 := Is.mul h372 (Is.fill (a := 768) (b := 256) scale_coe)
  exact (Is.cast bitsLt_bf16_f32 h374 :)

theorem pay163_is {v11 : FVec Ideal S2176x256 .bf16} (gv11 : Is v11 (fun i j => d.K i j)) {v695 : FVec Ideal S256x256 .bf16} (gv695 : Is v695 (fun i j => d.Q (1792 + i) j)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v739 : Vec Ideal S768x128 .bf16} (gv739 : Is v739 (fun i j => d.V (1024 + i) j)) {v748 : Vec Ideal S768x256 .f32} (gv748 : Is v748 (fun i j => (ak17 d) (1024 + i) j)) :
    Is (k0_pay163 (F := Ideal) v11 v695 v696 v697 v698 v739 v748) (fun i j => ((ak17 d) (1024 + i) j) + (d.dkT 1792 256 (1024 + i) j)) := by
  have h376 : Is _ (fun i j => d.dkT 1792 256 (1024 + i) j) := (S768x256_S256x256_S768x256_1_0_0_1_n_n (pay162_is d gv11 gv695 gv696 gv697 gv698 gv739) gv695 :)
  have h377 := Is.add gv748 h376
  exact (Is.reshape shapeCasts_S768x256_S768x256 h377 :)

theorem pay166_is {v11 : FVec Ideal S2176x256 .bf16} (gv11 : Is v11 (fun i j => d.K i j)) {v695 : FVec Ideal S256x256 .bf16} (gv695 : Is v695 (fun i j => d.Q (1792 + i) j)) :
    Is (k0_pay166 (F := Ideal) v11 v695) (fun i j => (d.sr (1792 + i) (1792 + j)) * scale) := by
  have h379 := Is.sliceR 1792 slices_S2176x256_o1792_0_S256x256 gv11
  have h380 : Is _ (fun i j => d.sr (1792 + i) (1792 + j)) := (S256x256_S256x256_S256x256_1_1_0_0_n_n h379 gv695 :)
  have h381 := Is.fill (a := 256) (b := 256) scale_coe
  exact (Is.mul h380 h381 :)

theorem pay168_is {v697 : FVec Ideal S1x256 .f32} (gv697 : Is v697 (fun i j => d.L (1792 + j))) {v767 : FVec Ideal S256x256 .f32} (gv767 : Is v767 (fun i j => (d.sr (1792 + i) (1792 + j)) * scale)) :
    Is (k0_pay168 (F := Ideal) v697 v767 k0_pay167) (fun i j => d.pr (1792 + i) (1792 + j)) := by
  have h387 : IsM _ (fun i j => (d.sr (1792 + i) (1792 + j)) * scale) := IsM.select (h0 := iota_S256x256_d0_w32) (h1 := iota_S256x256_d1_w32) (by norm_num) (by norm_num) mask_bot gv767
  have h388 := Is.rows (a := 256) broadcasts_S1x256_S256x256 gv697
  have h389 : IsM _ (fun i j => ((d.sr (1792 + i) (1792 + j)) * scale) - (d.L (1792 + j))) := IsM.sub h387 h388
  have h390 : Is _ (fun i j => d.pr (1792 + i) (1792 + j)) := (IsM.exp h389).congr fun i j _ _ => d.pr_diag 1792 i j
  exact h390

theorem pay169_is {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v767 : FVec Ideal S256x256 .f32} (gv767 : Is v767 (fun i j => (d.sr (1792 + i) (1792 + j)) * scale)) {v776 : Vec Ideal S256x128 .bf16} (gv776 : Is v776 (fun i j => d.V (1792 + i) j)) :
    Is (k0_pay169 (F := Ideal) v696 v697 v698 v767 k0_pay167 v776) (fun i j => d.ds (1792 + i) (1792 + j)) := by
  have h383 := Is.reshape shapeCasts_S256x128_S256x128 gv776
  have h384 : Is _ (fun i j => d.dp (1792 + i) (1792 + j)) := (S256x128_S256x128_S256x256_1_1_0_0_n_n h383 gv696 :)
  have h385 := Is.rows (a := 256) broadcasts_S1x256_S256x256 gv698
  have h386 := Is.sub h384 h385
  have h391 := Is.mul (pay168_is d gv697 gv767) h386
  have h393 := Is.mul h391 (Is.fill (a := 256) (b := 256) scale_coe)
  exact (Is.cast bitsLt_bf16_f32 h393 :)

theorem pay170_is {v695 : FVec Ideal S256x256 .bf16} (gv695 : Is v695 (fun i j => d.Q (1792 + i) j)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v767 : FVec Ideal S256x256 .f32} (gv767 : Is v767 (fun i j => (d.sr (1792 + i) (1792 + j)) * scale)) {v776 : Vec Ideal S256x128 .bf16} (gv776 : Is v776 (fun i j => d.V (1792 + i) j)) {v785 : Vec Ideal S256x256 .f32} (gv785 : Is v785 (fun i j => (ak18 d) (1792 + i) j)) :
    Is (k0_pay170 (F := Ideal) v695 v696 v697 v698 v767 k0_pay167 v776 v785) (fun i j => ((ak18 d) (1792 + i) j) + (d.dkT 1792 256 (1792 + i) j)) := by
  have h395 : Is _ (fun i j => d.dkT 1792 256 (1792 + i) j) := (S256x256_S256x256_S256x256_1_0_0_1_n_n (pay169_is d gv696 gv697 gv698 gv767 gv776) gv695 :)
  have h396 := Is.add gv785 h395
  exact (Is.reshape shapeCasts_S256x256_S256x256 h396 :)

end Cert.KernelIdeal.Val
-- ==== Proof.PayB.lean ====
module

public import proofs.«01_k».proof.Proof.PayA

@[expose] public section

set_option maxRecDepth 16384

noncomputable section

namespace Cert.KernelIdeal.Val

open Idealize.ShloMosaic Idealize.ShloMosaic.TcCoe Idealize.SL.Sem
open Cert.KernelIdeal Cert.KernelIdeal.Gen

variable (d : Data)

theorem pay180_is {v45 : FVec Ideal S8x2176 .f32} (gv45 : Is v45 (fun i j => d.D j)) :
    Is (k0_pay180 (F := Ideal) v45) (fun i j => d.D (2048 + j)) := by
  exact (Is.sliceC 2048 slices_S8x2176_o0_2048_S1x128 gv45 :)

theorem pay178_is {v814 : Vec Ideal S128x256 .bf16} (gv814 : Is v814 (fun i j => d.Q (2048 + i) j)) :
    Is (k0_pay178 (F := Ideal) v814) (fun i j => d.Q (2048 + i) j) := by
  exact (Is.reshape shapeCasts_S128x256_S128x256 gv814 :)

theorem pay179_is {v27 : FVec Ideal S8x2176 .f32} (gv27 : Is v27 (fun i j => d.L j)) :
    Is (k0_pay179 (F := Ideal) v27) (fun i j => d.L (2048 + j)) := by
  exact (Is.sliceC 2048 slices_S8x2176_o0_2048_S1x128 gv27 :)

theorem pay182_is {v11 : FVec Ideal S2176x256 .bf16} (gv11 : Is v11 (fun i j => d.K i j)) {v27 : FVec Ideal S8x2176 .f32} (gv27 : Is v27 (fun i j => d.L j)) {v814 : Vec Ideal S128x256 .bf16} (gv814 : Is v814 (fun i j => d.Q (2048 + i) j)) :
    Is (k0_pay182 (F := Ideal) v11 v27 v814) (fun i j => d.pr (0 + i) (2048 + j)) := by
  have h403 := Is.sliceR 0 slices_S2176x256_o0_0_S1024x256 gv11
  have h405 : Is _ (fun i j => d.sr (0 + i) (2048 + j)) := (S1024x256_S128x256_S1024x128_1_1_0_0_n_n h403 (pay178_is d gv814) :)
  have h407 := Is.mul h405 (Is.fill (a := 1024) (b := 128) scale_coe)
  have h409 := Is.rows (a := 1024) broadcasts_S1x128_S1024x128 (pay179_is d gv27)
  have h410 := Is.sub h407 h409
  have h411 : Is _ (fun i j => d.pr (0 + i) (2048 + j)) := (Is.exp h410).congr fun i j _ _ => d.pr_le (by omega)
  exact h411

theorem pay183_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v814 : Vec Ideal S128x256 .bf16} (gv814 : Is v814 (fun i j => d.Q (2048 + i) j)) {v816 : Vec Ideal S128x128 .bf16} (gv816 : Is v816 (fun i j => d.DO (2048 + i) j)) {v827 : Vec Ideal S1024x128 .bf16} (gv827 : Is v827 (fun i j => d.V (0 + i) j)) :
    Is (k0_pay183 (F := Ideal) v11 v27 v45 v814 v816 v827) (fun i j => d.ds (0 + i) (2048 + j)) := by
  have h398 := Is.reshape shapeCasts_S1024x128_S1024x128 gv827
  have h399 : Is _ (fun i j => d.dp (0 + i) (2048 + j)) := (S1024x128_S128x128_S1024x128_1_1_0_0_n_n h398 gv816 :)
  have h401 := Is.rows (a := 1024) broadcasts_S1x128_S1024x128 (pay180_is d gv45)
  have h402 := Is.sub h399 h401
  have h412 := Is.mul (pay182_is d gv11 gv27 gv814) h402
  have h414 := Is.mul h412 (Is.fill (a := 1024) (b := 128) scale_coe)
  exact (Is.cast bitsLt_bf16_f32 h414 :)

theorem pay184_is {v11 : FVec Ideal S2176x256 .bf16} (gv11 : Is v11 (fun i j => d.K i j)) {v27 : FVec Ideal S8x2176 .f32} (gv27 : Is v27 (fun i j => d.L j)) {v45 : FVec Ideal S8x2176 .f32} (gv45 : Is v45 (fun i j => d.D j)) {v814 : Vec Ideal S128x256 .bf16} (gv814 : Is v814 (fun i j => d.Q (2048 + i) j)) {v816 : Vec Ideal S128x128 .bf16} (gv816 : Is v816 (fun i j => d.DO (2048 + i) j)) {v827 : Vec Ideal S1024x128 .bf16} (gv827 : Is v827 (fun i j => d.V (0 + i) j)) {v836 : Vec Ideal S1024x256 .f32} (gv836 : Is v836 (fun i j => (ak19 d) (0 + i) j)) :
    Is (k0_pay184 (F := Ideal) v11 v27 v45 v814 v816 v827 v836) (fun i j => ((ak19 d) (0 + i) j) + (d.dkT 2048 128 (0 + i) j)) := by
  have h416 : Is _ (fun i j => d.dkT 2048 128 (0 + i) j) := (S1024x128_S128x256_S1024x256_1_0_0_1_n_n (pay183_is d gv11 gv27 gv45 gv814 gv816 gv827) (pay178_is d gv814) :)
  have h417 := Is.add gv836 h416
  exact (Is.reshape shapeCasts_S1024x256_S1024x256 h417 :)

theorem pay187_is {v11 : FVec Ideal S2176x256 .bf16} (gv11 : Is v11 (fun i j => d.K i j)) {v815 : FVec Ideal S128x256 .bf16} (gv815 : Is v815 (fun i j => d.Q (2048 + i) j)) {v817 : FVec Ideal S1x128 .f32} (gv817 : Is v817 (fun i j => d.L (2048 + j))) :
    Is (k0_pay187 (F := Ideal) v11 v815 v817) (fun i j => d.pr (1024 + i) (2048 + j)) := by
  have h423 := Is.sliceR 1024 slices_S2176x256_o1024_0_S1024x256 gv11
  have h424 : Is _ (fun i j => d.sr (1024 + i) (2048 + j)) := (S1024x256_S128x256_S1024x128_1_1_0_0_n_n h423 gv815 :)
  have h426 := Is.mul h424 (Is.fill (a := 1024) (b := 128) scale_coe)
  have h427 := Is.rows (a := 1024) broadcasts_S1x128_S1024x128 gv817
  have h428 := Is.sub h426 h427
  have h429 : Is _ (fun i j => d.pr (1024 + i) (2048 + j)) := (Is.exp h428).congr fun i j _ _ => d.pr_le (by omega)
  exact h429

theorem pay188_is {v11 : FVec Ideal S2176x256 .bf16} (gv11 : Is v11 (fun i j => d.K i j)) {v815 : FVec Ideal S128x256 .bf16} (gv815 : Is v815 (fun i j => d.Q (2048 + i) j)) {v816 : Vec Ideal S128x128 .bf16} (gv816 : Is v816 (fun i j => d.DO (2048 + i) j)) {v817 : FVec Ideal S1x128 .f32} (gv817 : Is v817 (fun i j => d.L (2048 + j))) {v818 : FVec Ideal S1x128 .f32} (gv818 : Is v818 (fun i j => d.D (2048 + j))) {v859 : Vec Ideal S1024x128 .bf16} (gv859 : Is v859 (fun i j => d.V (1024 + i) j)) :
    Is (k0_pay188 (F := Ideal) v11 v815 v816 v817 v818 v859) (fun i j => d.ds (1024 + i) (2048 + j)) := by
  have h419 := Is.reshape shapeCasts_S1024x128_S1024x128 gv859
  have h420 : Is _ (fun i j => d.dp (1024 + i) (2048 + j)) := (S1024x128_S128x128_S1024x128_1_1_0_0_n_n h419 gv816 :)
  have h421 := Is.rows (a := 1024) broadcasts_S1x128_S1024x128 gv818
  have h422 := Is.sub h420 h421
  have h430 := Is.mul (pay187_is d gv11 gv815 gv817) h422
  have h432 := Is.mul h430 (Is.fill (a := 1024) (b := 128) scale_coe)
  exact (Is.cast bitsLt_bf16_f32 h432 :)

theorem pay189_is {v11 : FVec Ideal S2176x256 .bf16} (gv11 : Is v11 (fun i j => d.K i j)) {v815 : FVec Ideal S128x256 .bf16} (gv815 : Is v815 (fun i j => d.Q (2048 + i) j)) {v816 : Vec Ideal S128x128 .bf16} (gv816 : Is v816 (fun i j => d.DO (2048 + i) j)) {v817 : FVec Ideal S1x128 .f32} (gv817 : Is v817 (fun i j => d.L (2048 + j))) {v818 : FVec Ideal S1x128 .f32} (gv818 : Is v818 (fun i j => d.D (2048 + j))) {v859 : Vec Ideal S1024x128 .bf16} (gv859 : Is v859 (fun i j => d.V (1024 + i) j)) {v868 : Vec Ideal S1024x256 .f32} (gv868 : Is v868 (fun i j => (ak20 d) (1024 + i) j)) :
    Is (k0_pay189 (F := Ideal) v11 v815 v816 v817 v818 v859 v868) (fun i j => ((ak20 d) (1024 + i) j) + (d.dkT 2048 128 (1024 + i) j)) := by
  have h434 : Is _ (fun i j => d.dkT 2048 128 (1024 + i) j) := (S1024x128_S128x256_S1024x256_1_0_0_1_n_n (pay188_is d gv11 gv815 gv816 gv817 gv818 gv859) gv815 :)
  have h435 := Is.add gv868 h434
  exact (Is.reshape shapeCasts_S1024x256_S1024x256 h435 :)

theorem pay193_is {v11 : FVec Ideal S2176x256 .bf16} (gv11 : Is v11 (fun i j => d.K i j)) {v815 : FVec Ideal S128x256 .bf16} (gv815 : Is v815 (fun i j => d.Q (2048 + i) j)) {v817 : FVec Ideal S1x128 .f32} (gv817 : Is v817 (fun i j => d.L (2048 + j))) :
    Is (k0_pay193 (F := Ideal) v11 v815 v817) (fun i j => d.pr (2048 + i) (2048 + j)) := by
  have h441 := Is.sliceR 2048 slices_S2176x256_o2048_0_S128x256 gv11
  have h442 : Is _ (fun i j => d.sr (2048 + i) (2048 + j)) := (S128x256_S128x256_S128x128_1_1_0_0_n_n h441 gv815 :)
  have h444 := Is.mul h442 (Is.fill (a := 128) (b := 128) scale_coe)
  have h445 : IsM _ (fun i j => (d.sr (2048 + i) (2048 + j)) * scale) := IsM.select (h0 := iota_S128x128_d0_w32) (h1 := iota_S128x128_d1_w32) (by norm_num) (by norm_num) mask_bot h444
  have h446 := Is.rows (a := 128) broadcasts_S1x128_S128x128 gv817
  have h447 : IsM _ (fun i j => ((d.sr (2048 + i) (2048 + j)) * scale) - (d.L (2048 + j))) := IsM.sub h445 h446
  have h448 : Is _ (fun i j => d.pr (2048 + i) (2048 + j)) := (IsM.exp h447).congr fun i j _ _ => d.pr_diag 2048 i j
  exact h448

theorem pay194_is {v11 : FVec Ideal S2176x256 .bf16} (gv11 : Is v11 (fun i j => d.K i j)) {v815 : FVec Ideal S128x256 .bf16} (gv815 : Is v815 (fun i j => d.Q (2048 + i) j)) {v816 : Vec Ideal S128x128 .bf16} (gv816 : Is v816 (fun i j => d.DO (2048 + i) j)) {v817 : FVec Ideal S1x128 .f32} (gv817 : Is v817 (fun i j => d.L (2048 + j))) {v818 : FVec Ideal S1x128 .f32} (gv818 : Is v818 (fun i j => d.D (2048 + j))) {v896 : Vec Ideal S128x128 .bf16} (gv896 : Is v896 (fun i j => d.V (2048 + i) j)) :
    Is (k0_pay194 (F := Ideal) v11 v815 v816 v817 v818 v896) (fun i j => d.ds (2048 + i) (2048 + j)) := by
  have h437 := Is.reshape shapeCasts_S128x128_S128x128 gv896
  have h438 : Is _ (fun i j => d.dp (2048 + i) (2048 + j)) := (S128x128_S128x128_S128x128_1_1_0_0_n_n h437 gv816 :)
  have h439 := Is.rows (a := 128) broadcasts_S1x128_S128x128 gv818
  have h440 := Is.sub h438 h439
  have h449 := Is.mul (pay193_is d gv11 gv815 gv817) h440
  have h451 := Is.mul h449 (Is.fill (a := 128) (b := 128) scale_coe)
  exact (Is.cast bitsLt_bf16_f32 h451 :)

theorem pay195_is {v11 : FVec Ideal S2176x256 .bf16} (gv11 : Is v11 (fun i j => d.K i j)) {v815 : FVec Ideal S128x256 .bf16} (gv815 : Is v815 (fun i j => d.Q (2048 + i) j)) {v816 : Vec Ideal S128x128 .bf16} (gv816 : Is v816 (fun i j => d.DO (2048 + i) j)) {v817 : FVec Ideal S1x128 .f32} (gv817 : Is v817 (fun i j => d.L (2048 + j))) {v818 : FVec Ideal S1x128 .f32} (gv818 : Is v818 (fun i j => d.D (2048 + j))) {v896 : Vec Ideal S128x128 .bf16} (gv896 : Is v896 (fun i j => d.V (2048 + i) j)) {v905 : Vec Ideal S128x256 .f32} (gv905 : Is v905 (fun i j => (ak21 d) (2048 + i) j)) :
    Is (k0_pay195 (F := Ideal) v11 v815 v816 v817 v818 v896 v905) (fun i j => ((ak21 d) (2048 + i) j) + (d.dkT 2048 128 (2048 + i) j)) := by
  have h453 : Is _ (fun i j => d.dkT 2048 128 (2048 + i) j) := (S128x128_S128x256_S128x256_1_0_0_1_n_n (pay194_is d gv11 gv815 gv816 gv817 gv818 gv896) gv815 :)
  have h454 := Is.add gv905 h453
  exact (Is.reshape shapeCasts_S128x256_S128x256 h454 :)

theorem pay94_is {v11 : FVec Ideal S2176x256 .bf16} (gv11 : Is v11 (fun i j => d.K i j)) {v367 : FVec Ideal S256x256 .bf16} (gv367 : Is v367 (fun i j => d.Q (1024 + i) j)) {v368 : Vec Ideal S256x128 .bf16} (gv368 : Is v368 (fun i j => d.DO (1024 + i) j)) {v369 : FVec Ideal S1x256 .f32} (gv369 : Is v369 (fun i j => d.L (1024 + j))) {v431 : Vec Ideal S256x128 .f32} (gv431 : Is v431 (fun i j => (av9 d) (1024 + i) j)) :
    Is (k0_pay94 (F := Ideal) v11 v367 v368 v369 v431) (fun i j => ((av9 d) (1024 + i) j) + (d.dvT 1024 256 (1024 + i) j)) := by
  have h456 := Is.cast bitsLt_bf16_f32 (pay91_is d gv11 gv367 gv369)
  have h457 : Is _ (fun i j => d.dvT 1024 256 (1024 + i) j) := (S256x256_S256x128_S256x128_1_0_0_1_n_n h456 gv368 :)
  have h458 := Is.add gv431 h457
  exact (Is.reshape shapeCasts_S256x128_S256x128 h458 :)

theorem pay108_is {v456 : Vec Ideal S256x128 .bf16} (gv456 : Is v456 (fun i j => d.DO (1280 + i) j)) {v466 : FVec Ideal S1024x256 .f32} (gv466 : Is v466 (fun i j => d.pr (0 + i) (1280 + j))) {v482 : Vec Ideal S1024x128 .f32} (gv482 : Is v482 (fun i j => (av10 d) (0 + i) j)) :
    Is (k0_pay108 (F := Ideal) v456 v466 v482) (fun i j => ((av10 d) (0 + i) j) + (d.dvT 1280 256 (0 + i) j)) := by
  have h460 := Is.cast bitsLt_bf16_f32 gv466
  have h461 : Is _ (fun i j => d.dvT 1280 256 (0 + i) j) := (S1024x256_S256x128_S1024x128_1_0_0_1_n_n h460 gv456 :)
  have h462 := Is.add gv482 h461
  exact (Is.reshape shapeCasts_S1024x128_S1024x128 h462 :)

theorem pay114_is {v456 : Vec Ideal S256x128 .bf16} (gv456 : Is v456 (fun i j => d.DO (1280 + i) j)) {v498 : FVec Ideal S256x256 .f32} (gv498 : Is v498 (fun i j => d.pr (1024 + i) (1280 + j))) {v514 : Vec Ideal S256x128 .f32} (gv514 : Is v514 (fun i j => (av11 d) (1024 + i) j)) :
    Is (k0_pay114 (F := Ideal) v456 v498 v514) (fun i j => ((av11 d) (1024 + i) j) + (d.dvT 1280 256 (1024 + i) j)) := by
  have h464 := Is.cast bitsLt_bf16_f32 gv498
  have h465 : Is _ (fun i j => d.dvT 1280 256 (1024 + i) j) := (S256x256_S256x128_S256x128_1_0_0_1_n_n h464 gv456 :)
  have h466 := Is.add gv514 h465
  exact (Is.reshape shapeCasts_S256x128_S256x128 h466 :)

theorem pay119_is {v456 : Vec Ideal S256x128 .bf16} (gv456 : Is v456 (fun i j => d.DO (1280 + i) j)) {v535 : FVec Ideal S256x256 .f32} (gv535 : Is v535 (fun i j => d.pr (1280 + i) (1280 + j))) {v551 : Vec Ideal S256x128 .f32} (gv551 : Is v551 (fun i j => (av12 d) (1280 + i) j)) :
    Is (k0_pay119 (F := Ideal) v456 v535 v551) (fun i j => ((av12 d) (1280 + i) j) + (d.dvT 1280 256 (1280 + i) j)) := by
  have h468 := Is.cast bitsLt_bf16_f32 gv535
  have h469 : Is _ (fun i j => d.dvT 1280 256 (1280 + i) j) := (S256x256_S256x128_S256x128_1_0_0_1_n_n h468 gv456 :)
  have h470 := Is.add gv551 h469
  exact (Is.reshape shapeCasts_S256x128_S256x128 h470 :)

theorem pay134_is {v576 : Vec Ideal S256x128 .bf16} (gv576 : Is v576 (fun i j => d.DO (1536 + i) j)) {v583 : FVec Ideal S1024x256 .f32} (gv583 : Is v583 (fun i j => (d.sr (0 + i) (1536 + j)) * scale)) {v584 : FVec Ideal S1024x256 .f32} (gv584 : Is v584 (fun i j => d.L (1536 + j))) {v602 : Vec Ideal S1024x128 .f32} (gv602 : Is v602 (fun i j => (av13 d) (0 + i) j)) :
    Is (k0_pay134 (F := Ideal) v576 v583 v584 v602) (fun i j => ((av13 d) (0 + i) j) + (d.dvT 1536 256 (0 + i) j)) := by
  have h472 := Is.cast bitsLt_bf16_f32 (pay131_is d gv583 gv584)
  have h473 : Is _ (fun i j => d.dvT 1536 256 (0 + i) j) := (S1024x256_S256x128_S1024x128_1_0_0_1_n_n h472 gv576 :)
  have h474 := Is.add gv602 h473
  exact (Is.reshape shapeCasts_S1024x128_S1024x128 h474 :)

theorem pay141_is {v576 : Vec Ideal S256x128 .bf16} (gv576 : Is v576 (fun i j => d.DO (1536 + i) j)) {v618 : FVec Ideal S512x256 .f32} (gv618 : Is v618 (fun i j => d.pr (1024 + i) (1536 + j))) {v634 : Vec Ideal S512x128 .f32} (gv634 : Is v634 (fun i j => (av14 d) (1024 + i) j)) :
    Is (k0_pay141 (F := Ideal) v576 v618 v634) (fun i j => ((av14 d) (1024 + i) j) + (d.dvT 1536 256 (1024 + i) j)) := by
  have h476 := Is.cast bitsLt_bf16_f32 gv618
  have h477 : Is _ (fun i j => d.dvT 1536 256 (1024 + i) j) := (S512x256_S256x128_S512x128_1_0_0_1_n_n h476 gv576 :)
  have h478 := Is.add gv634 h477
  exact (Is.reshape shapeCasts_S512x128_S512x128 h478 :)

theorem pay147_is {v576 : Vec Ideal S256x128 .bf16} (gv576 : Is v576 (fun i j => d.DO (1536 + i) j)) {v655 : FVec Ideal S256x256 .f32} (gv655 : Is v655 (fun i j => d.pr (1536 + i) (1536 + j))) {v671 : Vec Ideal S256x128 .f32} (gv671 : Is v671 (fun i j => (av15 d) (1536 + i) j)) :
    Is (k0_pay147 (F := Ideal) v576 v655 v671) (fun i j => ((av15 d) (1536 + i) j) + (d.dvT 1536 256 (1536 + i) j)) := by
  have h480 := Is.cast bitsLt_bf16_f32 gv655
  have h481 : Is _ (fun i j => d.dvT 1536 256 (1536 + i) j) := (S256x256_S256x128_S256x128_1_0_0_1_n_n h480 gv576 :)
  have h482 := Is.add gv671 h481
  exact (Is.reshape shapeCasts_S256x128_S256x128 h482 :)

theorem pay159_is {v11 : FVec Ideal S2176x256 .bf16} (gv11 : Is v11 (fun i j => d.K i j)) {v27 : FVec Ideal S8x2176 .f32} (gv27 : Is v27 (fun i j => d.L j)) {v694 : Vec Ideal S256x256 .bf16} (gv694 : Is v694 (fun i j => d.Q (1792 + i) j)) {v696 : Vec Ideal S256x128 .bf16} (gv696 : Is v696 (fun i j => d.DO (1792 + i) j)) {v722 : Vec Ideal S1024x128 .f32} (gv722 : Is v722 (fun i j => (av16 d) (0 + i) j)) :
    Is (k0_pay159 (F := Ideal) v11 v27 v694 v696 v722) (fun i j => ((av16 d) (0 + i) j) + (d.dvT 1792 256 (0 + i) j)) := by
  have h484 := Is.cast bitsLt_bf16_f32 (pay156_is d gv11 gv27 gv694)
  have h485 : Is _ (fun i j => d.dvT 1792 256 (0 + i) j) := (S1024x256_S256x128_S1024x128_1_0_0_1_n_n h484 gv696 :)
  have h486 := Is.add gv722 h485
  exact (Is.reshape shapeCasts_S1024x128_S1024x128 h486 :)

theorem pay164_is {v11 : FVec Ideal S2176x256 .bf16} (gv11 : Is v11 (fun i j => d.K i j)) {v695 : FVec Ideal S256x256 .bf16} (gv695 : Is v695 (fun i j => d.Q (1792 + i) j)) {v696 : Vec Ideal S256x128 .bf16} (gv696 : Is v696 (fun i j => d.DO (1792 + i) j)) {v697 : FVec Ideal S1x256 .f32} (gv697 : Is v697 (fun i j => d.L (1792 + j))) {v754 : Vec Ideal S768x128 .f32} (gv754 : Is v754 (fun i j => (av17 d) (1024 + i) j)) :
    Is (k0_pay164 (F := Ideal) v11 v695 v696 v697 v754) (fun i j => ((av17 d) (1024 + i) j) + (d.dvT 1792 256 (1024 + i) j)) := by
  have h488 := Is.cast bitsLt_bf16_f32 (pay161_is d gv11 gv695 gv697)
  have h489 : Is _ (fun i j => d.dvT 1792 256 (1024 + i) j) := (S768x256_S256x128_S768x128_1_0_0_1_n_n h488 gv696 :)
  have h490 := Is.add gv754 h489
  exact (Is.reshape shapeCasts_S768x128_S768x128 h490 :)

theorem pay171_is {v696 : Vec Ideal S256x128 .bf16} (gv696 : Is v696 (fun i j => d.DO (1792 + i) j)) {v697 : FVec Ideal S1x256 .f32} (gv697 : Is v697 (fun i j => d.L (1792 + j))) {v767 : FVec Ideal S256x256 .f32} (gv767 : Is v767 (fun i j => (d.sr (1792 + i) (1792 + j)) * scale)) {v791 : Vec Ideal S256x128 .f32} (gv791 : Is v791 (fun i j => (av18 d) (1792 + i) j)) :
    Is (k0_pay171 (F := Ideal) v696 v697 v767 k0_pay167 v791) (fun i j => ((av18 d) (1792 + i) j) + (d.dvT 1792 256 (1792 + i) j)) := by
  have h492 := Is.cast bitsLt_bf16_f32 (pay168_is d gv697 gv767)
  have h493 : Is _ (fun i j => d.dvT 1792 256 (1792 + i) j) := (S256x256_S256x128_S256x128_1_0_0_1_n_n h492 gv696 :)
  have h494 := Is.add gv791 h493
  exact (Is.reshape shapeCasts_S256x128_S256x128 h494 :)

theorem pay185_is {v816 : Vec Ideal S128x128 .bf16} (gv816 : Is v816 (fun i j => d.DO (2048 + i) j)) {v826 : FVec Ideal S1024x128 .f32} (gv826 : Is v826 (fun i j => d.pr (0 + i) (2048 + j))) {v842 : Vec Ideal S1024x128 .f32} (gv842 : Is v842 (fun i j => (av19 d) (0 + i) j)) :
    Is (k0_pay185 (F := Ideal) v816 v826 v842) (fun i j => ((av19 d) (0 + i) j) + (d.dvT 2048 128 (0 + i) j)) := by
  have h496 := Is.cast bitsLt_bf16_f32 gv826
  have h497 : Is _ (fun i j => d.dvT 2048 128 (0 + i) j) := (S1024x128_S128x128_S1024x128_1_0_0_1_n_n h496 gv816 :)
  have h498 := Is.add gv842 h497
  exact (Is.reshape shapeCasts_S1024x128_S1024x128 h498 :)

theorem pay190_is {v11 : FVec Ideal S2176x256 .bf16} (gv11 : Is v11 (fun i j => d.K i j)) {v815 : FVec Ideal S128x256 .bf16} (gv815 : Is v815 (fun i j => d.Q (2048 + i) j)) {v816 : Vec Ideal S128x128 .bf16} (gv816 : Is v816 (fun i j => d.DO (2048 + i) j)) {v817 : FVec Ideal S1x128 .f32} (gv817 : Is v817 (fun i j => d.L (2048 + j))) {v874 : Vec Ideal S1024x128 .f32} (gv874 : Is v874 (fun i j => (av20 d) (1024 + i) j)) :
    Is (k0_pay190 (F := Ideal) v11 v815 v816 v817 v874) (fun i j => ((av20 d) (1024 + i) j) + (d.dvT 2048 128 (1024 + i) j)) := by
  have h500 := Is.cast bitsLt_bf16_f32 (pay187_is d gv11 gv815 gv817)
  have h501 : Is _ (fun i j => d.dvT 2048 128 (1024 + i) j) := (S1024x128_S128x128_S1024x128_1_0_0_1_n_n h500 gv816 :)
  exact (Is.add gv874 h501 :)

theorem pay191_is {v877 : FVec Ideal S1024x128 .f32} (gv877 : Is v877 (fun i j => ((av20 d) (1024 + i) j) + (d.dvT 2048 128 (1024 + i) j))) :
    Is (k0_pay191 (F := Ideal) v877) (fun i j => ((av20 d) (1024 + i) j) + (d.dvT 2048 128 (1024 + i) j)) := by
  exact (Is.reshape shapeCasts_S1024x128_S1024x128 gv877 :)

theorem pay196_is {v11 : FVec Ideal S2176x256 .bf16} (gv11 : Is v11 (fun i j => d.K i j)) {v815 : FVec Ideal S128x256 .bf16} (gv815 : Is v815 (fun i j => d.Q (2048 + i) j)) {v816 : Vec Ideal S128x128 .bf16} (gv816 : Is v816 (fun i j => d.DO (2048 + i) j)) {v817 : FVec Ideal S1x128 .f32} (gv817 : Is v817 (fun i j => d.L (2048 + j))) {v911 : Vec Ideal S128x128 .f32} (gv911 : Is v911 (fun i j => (av21 d) (2048 + i) j)) :
    Is (k0_pay196 (F := Ideal) v11 v815 v816 v817 v911) (fun i j => ((av21 d) (2048 + i) j) + (d.dvT 2048 128 (2048 + i) j)) := by
  have h504 := Is.cast bitsLt_bf16_f32 (pay193_is d gv11 gv815 gv817)
  have h505 : Is _ (fun i j => d.dvT 2048 128 (2048 + i) j) := (S128x128_S128x128_S128x128_1_0_0_1_n_n h504 gv816 :)
  have h506 := Is.add gv911 h505
  exact (Is.reshape shapeCasts_S128x128_S128x128 h506 :)

theorem pay4_is {v8 : Vec Ideal S2176x128 .bf16} (gv8 : Is v8 (fun i j => d.K i j)) {v10 : Vec Ideal S2176x128 .bf16} (gv10 : Is v10 (fun i j => d.K i (128 + j))) :
    Is (k0_pay4 (F := Ideal) v8 v10) (fun i j => d.K j i) := by
  exact (Is.tr transposes_S2176x256_p1_0_S256x2176 (pay3_is gv8 gv10) :)

theorem pay24_is :
    Is (k0_pay24 (F := Ideal)) (fun i j => 0) := by
  exact (Is.fill (a := 256) (b := 256) zero_coe :)

theorem pay30_is {v12 : FVec Ideal S256x2176 .bf16} (gv12 : Is v12 (fun i j => d.K j i)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v107 : FVec Ideal S256x256 .f32} (gv107 : Is v107 (fun i j => 0)) {v109 : FVec Ideal S256x256 .f32} (gv109 : Is v109 (fun i j => d.sr (0 + i) (256 + j))) {v115 : Vec Ideal S256x128 .bf16} (gv115 : Is v115 (fun i j => d.V (0 + i) j)) :
    Is (k0_pay30 (F := Ideal) v12 v104 v105 v106 v107 v109 v115) (fun i j => 0 + (d.dqT 0 256 (256 + j) i)) := by
  have h510 := Is.sliceC 0 slices_S256x2176_o0_0_S256x256 gv12
  have h511 : Is _ (fun i j => d.dqT 0 256 (256 + j) i) := (S256x256_S256x256_S256x256_1_0_0_1_n_n h510 (pay27_is d gv104 gv105 gv106 gv109 gv115) :)
  exact (Is.add gv107 h511 :)

theorem pay36_is {v12 : FVec Ideal S256x2176 .bf16} (gv12 : Is v12 (fun i j => d.K j i)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v139 : FVec Ideal S256x256 .f32} (gv139 : Is v139 (fun i j => 0 + (d.dqT 0 256 (256 + j) i))) {v148 : FVec Ideal S256x256 .f32} (gv148 : IsM v148 (fun i j => (d.sr (256 + i) (256 + j)) * scale)) {v152 : Vec Ideal S256x128 .bf16} (gv152 : Is v152 (fun i j => d.V (256 + i) j)) :
    Is (k0_pay36 (F := Ideal) v12 v104 v105 v106 v139 v148 v152) (fun i j => (0 + (d.dqT 0 256 (256 + i) j)) + (d.dqT 256 256 (256 + i) j)) := by
  have h513 := Is.sliceC 256 slices_S256x2176_o0_256_S256x256 gv12
  have h514 : Is _ (fun i j => d.dqT 256 256 (256 + j) i) := (S256x256_S256x256_S256x256_1_0_0_1_n_n h513 (pay33_is d gv104 gv105 gv106 gv148 gv152) :)
  have h515 := Is.add gv139 h514
  exact (Is.tr transposes_S256x256_p1_0_S256x256 h515 :)

theorem pay37_is {v12 : FVec Ideal S256x2176 .bf16} (gv12 : Is v12 (fun i j => d.K j i)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v139 : FVec Ideal S256x256 .f32} (gv139 : Is v139 (fun i j => 0 + (d.dqT 0 256 (256 + j) i))) {v148 : FVec Ideal S256x256 .f32} (gv148 : IsM v148 (fun i j => (d.sr (256 + i) (256 + j)) * scale)) {v152 : Vec Ideal S256x128 .bf16} (gv152 : Is v152 (fun i j => d.V (256 + i) j)) :
    Is (k0_pay37 (F := Ideal) v12 v104 v105 v106 v139 v148 v152) (fun i j => (0 + (d.dqT 0 256 (256 + i) (128 + j))) + (d.dqT 256 256 (256 + i) (128 + j))) := by
  exact (Is.sliceC 128 slices_S256x256_o0_128_S256x128 (pay36_is d gv12 gv104 gv105 gv106 gv139 gv148 gv152) :)

theorem pay39_is {v12 : FVec Ideal S256x2176 .bf16} (gv12 : Is v12 (fun i j => d.K j i)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v139 : FVec Ideal S256x256 .f32} (gv139 : Is v139 (fun i j => 0 + (d.dqT 0 256 (256 + j) i))) {v148 : FVec Ideal S256x256 .f32} (gv148 : IsM v148 (fun i j => (d.sr (256 + i) (256 + j)) * scale)) {v152 : Vec Ideal S256x128 .bf16} (gv152 : Is v152 (fun i j => d.V (256 + i) j)) {v182 : Vec Ideal S256x128 .f32} (gv182 : Is v182 (fun i j => d.C (256 + i) j)) :
    Is (k0_pay39 (F := Ideal) v12 v104 v105 v106 v139 v148 v152 v182) (fun i j => ((0 + (d.dqT 0 256 (256 + i) (128 + j))) + (d.dqT 256 256 (256 + i) (128 + j))) * (d.C (256 + i) j)) := by
  have h518 := Is.mul (pay37_is d gv12 gv104 gv105 gv106 gv139 gv148 gv152) gv182
  exact (Is.cast bitsLt_bf16_f32 h518 :)

theorem pay44_is :
    Is (k0_pay44 (F := Ideal)) (fun i j => 0) := by
  exact (Is.fill (a := 256) (b := 256) zero_coe :)

theorem pay50_is {v12 : FVec Ideal S256x2176 .bf16} (gv12 : Is v12 (fun i j => d.K j i)) {v195 : FVec Ideal S256x256 .f32} (gv195 : Is v195 (fun i j => 0)) {v211 : FVec Ideal S512x256 .bf16} (gv211 : Is v211 (fun i j => d.ds (0 + i) (512 + j))) :
    Is (k0_pay50 (F := Ideal) v12 v195 v211) (fun i j => 0 + (d.dqT 0 512 (512 + j) i)) := by
  have h521 := Is.sliceC 0 slices_S256x2176_o0_0_S256x512 gv12
  have h522 : Is _ (fun i j => d.dqT 0 512 (512 + j) i) := (S256x512_S512x256_S256x256_1_0_0_1_n_n h521 gv211 :)
  exact (Is.add gv195 h522 :)

theorem pay64_is :
    Is (k0_pay64 (F := Ideal)) (fun i j => 0) := by
  exact (Is.fill (a := 256) (b := 256) zero_coe :)

theorem pay70_is {v12 : FVec Ideal S256x2176 .bf16} (gv12 : Is v12 (fun i j => d.K j i)) {v280 : Vec Ideal S256x128 .bf16} (gv280 : Is v280 (fun i j => d.DO (768 + i) j)) {v282 : FVec Ideal S1x256 .f32} (gv282 : Is v282 (fun i j => d.D (768 + j))) {v283 : FVec Ideal S256x256 .f32} (gv283 : Is v283 (fun i j => 0)) {v290 : FVec Ideal S768x256 .f32} (gv290 : Is v290 (fun i j => d.pr (0 + i) (768 + j))) {v292 : FVec Ideal S768x128 .bf16} (gv292 : Is v292 (fun i j => d.V (0 + i) j)) :
    Is (k0_pay70 (F := Ideal) v12 v280 v282 v283 v290 v292) (fun i j => 0 + (d.dqT 0 768 (768 + j) i)) := by
  have h525 := Is.sliceC 0 slices_S256x2176_o0_0_S256x768 gv12
  have h526 : Is _ (fun i j => d.dqT 0 768 (768 + j) i) := (S256x768_S768x256_S256x256_1_0_0_1_n_n h525 (pay67_is d gv280 gv282 gv290 gv292) :)
  exact (Is.add gv283 h526 :)

theorem pay77_is {v12 : FVec Ideal S256x2176 .bf16} (gv12 : Is v12 (fun i j => d.K j i)) {v315 : FVec Ideal S256x256 .f32} (gv315 : Is v315 (fun i j => 0 + (d.dqT 0 768 (768 + j) i))) {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) :
    Is (k0_pay77 (F := Ideal) v12 v315 v327 v330 v331) (fun i j => (0 + (d.dqT 0 768 (768 + i) j)) + (d.dqT 768 256 (768 + i) j)) := by
  have h528 := Is.sliceC 768 slices_S256x2176_o0_768_S256x256 gv12
  have h529 : Is _ (fun i j => d.dqT 768 256 (768 + j) i) := (S256x256_S256x256_S256x256_1_0_0_1_n_n h528 (pay74_is d gv327 gv330 gv331) :)
  have h530 := Is.add gv315 h529
  exact (Is.tr transposes_S256x256_p1_0_S256x256 h530 :)

theorem pay78_is {v12 : FVec Ideal S256x2176 .bf16} (gv12 : Is v12 (fun i j => d.K j i)) {v315 : FVec Ideal S256x256 .f32} (gv315 : Is v315 (fun i j => 0 + (d.dqT 0 768 (768 + j) i))) {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) :
    Is (k0_pay78 (F := Ideal) v12 v315 v327 v330 v331) (fun i j => (0 + (d.dqT 0 768 (768 + i) (128 + j))) + (d.dqT 768 256 (768 + i) (128 + j))) := by
  exact (Is.sliceC 128 slices_S256x256_o0_128_S256x128 (pay77_is d gv12 gv315 gv327 gv330 gv331) :)

theorem pay81_is {v12 : FVec Ideal S256x2176 .bf16} (gv12 : Is v12 (fun i j => d.K j i)) {v315 : FVec Ideal S256x256 .f32} (gv315 : Is v315 (fun i j => 0 + (d.dqT 0 768 (768 + j) i))) {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) {v362 : Vec Ideal S256x128 .f32} (gv362 : Is v362 (fun i j => d.S (768 + i) j)) :
    Is (k0_pay81 (F := Ideal) v12 v315 v327 v330 v331 v362) (fun i j => ((0 + (d.dqT 0 768 (768 + i) (128 + j))) + (d.dqT 768 256 (768 + i) (128 + j))) * (d.S (768 + i) j)) := by
  have h533 := Is.mul (pay78_is d gv12 gv315 gv327 gv330 gv331) gv362
  exact (Is.cast bitsLt_bf16_f32 h533 :)

theorem pay90_is {v12 : FVec Ideal S256x2176 .bf16} (gv12 : Is v12 (fun i j => d.K j i)) :
    Is (k0_pay90 (F := Ideal) v12) (fun i j => d.K (0 + j) i) := by
  exact (Is.sliceC 0 slices_S256x2176_o0_0_S256x1024 gv12 :)

theorem pay85_is :
    Is (k0_pay85 (F := Ideal)) (fun i j => 0) := by
  exact (Is.fill (a := 256) (b := 256) zero_coe :)

theorem pay95_is {v11 : FVec Ideal S2176x256 .bf16} (gv11 : Is v11 (fun i j => d.K i j)) {v12 : FVec Ideal S256x2176 .bf16} (gv12 : Is v12 (fun i j => d.K j i)) {v367 : FVec Ideal S256x256 .bf16} (gv367 : Is v367 (fun i j => d.Q (1024 + i) j)) {v368 : Vec Ideal S256x128 .bf16} (gv368 : Is v368 (fun i j => d.DO (1024 + i) j)) {v369 : FVec Ideal S1x256 .f32} (gv369 : Is v369 (fun i j => d.L (1024 + j))) {v370 : FVec Ideal S1x256 .f32} (gv370 : Is v370 (fun i j => d.D (1024 + j))) {v371 : FVec Ideal S256x256 .f32} (gv371 : Is v371 (fun i j => 0)) {v387 : FVec Ideal S1024x256 .bf16} (gv387 : Is v387 (fun i j => d.ds (0 + i) (1024 + j))) {v401 : FVec Ideal S256x1024 .bf16} (gv401 : Is v401 (fun i j => d.K (0 + j) i)) {v416 : Vec Ideal S256x128 .bf16} (gv416 : Is v416 (fun i j => d.V (1024 + i) j)) :
    Is (k0_pay95 (F := Ideal) v11 v12 v367 v368 v369 v370 v371 v387 v401 v416) (fun i j => (0 + (d.dqT 0 1024 (1024 + j) i)) + (d.dqT 1024 256 (1024 + j) i)) := by
  have h537 : Is _ (fun i j => d.dqT 0 1024 (1024 + j) i) := (S256x1024_S1024x256_S256x256_1_0_0_1_n_n gv401 gv387 :)
  have h538 := Is.add gv371 h537
  have h539 := Is.sliceC 1024 slices_S256x2176_o0_1024_S256x256 gv12
  have h540 : Is _ (fun i j => d.dqT 1024 256 (1024 + j) i) := (S256x256_S256x256_S256x256_1_0_0_1_n_n h539 (pay92_is d gv11 gv367 gv368 gv369 gv370 gv416) :)
  exact (Is.add h538 h540 :)

theorem pay104_is :
    Is (k0_pay104 (F := Ideal)) (fun i j => 0) := by
  exact (Is.fill (a := 256) (b := 256) zero_coe :)

theorem pay109_is {v12 : FVec Ideal S256x2176 .bf16} (gv12 : Is v12 (fun i j => d.K j i)) {v459 : FVec Ideal S256x256 .f32} (gv459 : Is v459 (fun i j => 0)) {v475 : FVec Ideal S1024x256 .bf16} (gv475 : Is v475 (fun i j => d.ds (0 + i) (1280 + j))) :
    Is (k0_pay109 (F := Ideal) v12 v459 v475) (fun i j => 0 + (d.dqT 0 1024 (1280 + j) i)) := by
  have h543 := Is.sliceC 0 slices_S256x2176_o0_0_S256x1024 gv12
  have h544 : Is _ (fun i j => d.dqT 0 1024 (1280 + j) i) := (S256x1024_S1024x256_S256x256_1_0_0_1_n_n h543 gv475 :)
  exact (Is.add gv459 h544 :)

theorem pay115_is {v12 : FVec Ideal S256x2176 .bf16} (gv12 : Is v12 (fun i j => d.K j i)) {v491 : FVec Ideal S256x256 .f32} (gv491 : Is v491 (fun i j => 0 + (d.dqT 0 1024 (1280 + j) i))) {v507 : FVec Ideal S256x256 .bf16} (gv507 : Is v507 (fun i j => d.ds (1024 + i) (1280 + j))) :
    Is (k0_pay115 (F := Ideal) v12 v491 v507) (fun i j => (0 + (d.dqT 0 1024 (1280 + j) i)) + (d.dqT 1024 256 (1280 + j) i)) := by
  have h546 := Is.sliceC 1024 slices_S256x2176_o0_1024_S256x256 gv12
  have h547 : Is _ (fun i j => d.dqT 1024 256 (1280 + j) i) := (S256x256_S256x256_S256x256_1_0_0_1_n_n h546 gv507 :)
  exact (Is.add gv491 h547 :)

theorem pay128_is :
    Is (k0_pay128 (F := Ideal)) (fun i j => 0) := by
  exact (Is.fill (a := 256) (b := 256) zero_coe :)

theorem pay135_is {v12 : FVec Ideal S256x2176 .bf16} (gv12 : Is v12 (fun i j => d.K j i)) {v576 : Vec Ideal S256x128 .bf16} (gv576 : Is v576 (fun i j => d.DO (1536 + i) j)) {v578 : FVec Ideal S1x256 .f32} (gv578 : Is v578 (fun i j => d.D (1536 + j))) {v579 : FVec Ideal S256x256 .f32} (gv579 : Is v579 (fun i j => 0)) {v583 : FVec Ideal S1024x256 .f32} (gv583 : Is v583 (fun i j => (d.sr (0 + i) (1536 + j)) * scale)) {v584 : FVec Ideal S1024x256 .f32} (gv584 : Is v584 (fun i j => d.L (1536 + j))) {v587 : Vec Ideal S1024x128 .bf16} (gv587 : Is v587 (fun i j => d.V (0 + i) j)) :
    Is (k0_pay135 (F := Ideal) v12 v576 v578 v579 v583 v584 v587) (fun i j => 0 + (d.dqT 0 1024 (1536 + j) i)) := by
  have h550 := Is.sliceC 0 slices_S256x2176_o0_0_S256x1024 gv12
  have h551 : Is _ (fun i j => d.dqT 0 1024 (1536 + j) i) := (S256x1024_S1024x256_S256x256_1_0_0_1_n_n h550 (pay132_is d gv576 gv578 gv583 gv584 gv587) :)
  exact (Is.add gv579 h551 :)

theorem pay142_is {v12 : FVec Ideal S256x2176 .bf16} (gv12 : Is v12 (fun i j => d.K j i)) {v611 : FVec Ideal S256x256 .f32} (gv611 : Is v611 (fun i j => 0 + (d.dqT 0 1024 (1536 + j) i))) {v618 : FVec Ideal S512x256 .f32} (gv618 : Is v618 (fun i j => d.pr (1024 + i) (1536 + j))) {v621 : FVec Ideal S512x256 .f32} (gv621 : Is v621 (fun i j => d.dp (1024 + i) (1536 + j))) {v622 : FVec Ideal S512x256 .f32} (gv622 : Is v622 (fun i j => d.D (1536 + j))) :
    Is (k0_pay142 (F := Ideal) v12 v611 v618 v621 v622) (fun i j => (0 + (d.dqT 0 1024 (1536 + j) i)) + (d.dqT 1024 512 (1536 + j) i)) := by
  have h553 := Is.sliceC 1024 slices_S256x2176_o0_1024_S256x512 gv12
  have h554 : Is _ (fun i j => d.dqT 1024 512 (1536 + j) i) := (S256x512_S512x256_S256x256_1_0_0_1_n_n h553 (pay139_is d gv618 gv621 gv622) :)
  exact (Is.add gv611 h554 :)

theorem pay160_is {v11 : FVec Ideal S2176x256 .bf16} (gv11 : Is v11 (fun i j => d.K i j)) {v12 : FVec Ideal S256x2176 .bf16} (gv12 : Is v12 (fun i j => d.K j i)) {v27 : FVec Ideal S8x2176 .f32} (gv27 : Is v27 (fun i j => d.L j)) {v45 : FVec Ideal S8x2176 .f32} (gv45 : Is v45 (fun i j => d.D j)) {v694 : Vec Ideal S256x256 .bf16} (gv694 : Is v694 (fun i j => d.Q (1792 + i) j)) {v696 : Vec Ideal S256x128 .bf16} (gv696 : Is v696 (fun i j => d.DO (1792 + i) j)) {v707 : Vec Ideal S1024x128 .bf16} (gv707 : Is v707 (fun i j => d.V (0 + i) j)) :
    Is (k0_pay160 (F := Ideal) v11 v12 v27 v45 v694 v696 v707) (fun i j => 0 + (d.dqT 0 1024 (1792 + j) i)) := by
  have h556 := Is.fill (a := 256) (b := 256) zero_coe
  have h557 := Is.sliceC 0 slices_S256x2176_o0_0_S256x1024 gv12
  have h558 : Is _ (fun i j => d.dqT 0 1024 (1792 + j) i) := (S256x1024_S1024x256_S256x256_1_0_0_1_n_n h557 (pay157_is d gv11 gv27 gv45 gv694 gv696 gv707) :)
  exact (Is.add h556 h558 :)

theorem pay165_is {v11 : FVec Ideal S2176x256 .bf16} (gv11 : Is v11 (fun i j => d.K i j)) {v12 : FVec Ideal S256x2176 .bf16} (gv12 : Is v12 (fun i j => d.K j i)) {v695 : FVec Ideal S256x256 .bf16} (gv695 : Is v695 (fun i j => d.Q (1792 + i) j)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v731 : FVec Ideal S256x256 .f32} (gv731 : Is v731 (fun i j => 0 + (d.dqT 0 1024 (1792 + j) i))) {v739 : Vec Ideal S768x128 .bf16} (gv739 : Is v739 (fun i j => d.V (1024 + i) j)) :
    Is (k0_pay165 (F := Ideal) v11 v12 v695 v696 v697 v698 v731 v739) (fun i j => (0 + (d.dqT 0 1024 (1792 + j) i)) + (d.dqT 1024 768 (1792 + j) i)) := by
  have h560 := Is.sliceC 1024 slices_S256x2176_o0_1024_S256x768 gv12
  have h561 : Is _ (fun i j => d.dqT 1024 768 (1792 + j) i) := (S256x768_S768x256_S256x256_1_0_0_1_n_n h560 (pay162_is d gv11 gv695 gv696 gv697 gv698 gv739) :)
  exact (Is.add gv731 h561 :)

theorem pay172_is {v12 : FVec Ideal S256x2176 .bf16} (gv12 : Is v12 (fun i j => d.K j i)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v763 : FVec Ideal S256x256 .f32} (gv763 : Is v763 (fun i j => (0 + (d.dqT 0 1024 (1792 + j) i)) + (d.dqT 1024 768 (1792 + j) i))) {v767 : FVec Ideal S256x256 .f32} (gv767 : Is v767 (fun i j => (d.sr (1792 + i) (1792 + j)) * scale)) {v776 : Vec Ideal S256x128 .bf16} (gv776 : Is v776 (fun i j => d.V (1792 + i) j)) :
    Is (k0_pay172 (F := Ideal) v12 v696 v697 v698 v763 v767 k0_pay167 v776) (fun i j => ((0 + (d.dqT 0 1024 (1792 + i) j)) + (d.dqT 1024 768 (1792 + i) j)) + (d.dqT 1792 256 (1792 + i) j)) := by
  have h563 := Is.sliceC 1792 slices_S256x2176_o0_1792_S256x256 gv12
  have h564 : Is _ (fun i j => d.dqT 1792 256 (1792 + j) i) := (S256x256_S256x256_S256x256_1_0_0_1_n_n h563 (pay169_is d gv696 gv697 gv698 gv767 gv776) :)
  have h565 := Is.add gv763 h564
  exact (Is.tr transposes_S256x256_p1_0_S256x256 h565 :)

theorem pay173_is {v12 : FVec Ideal S256x2176 .bf16} (gv12 : Is v12 (fun i j => d.K j i)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v763 : FVec Ideal S256x256 .f32} (gv763 : Is v763 (fun i j => (0 + (d.dqT 0 1024 (1792 + j) i)) + (d.dqT 1024 768 (1792 + j) i))) {v767 : FVec Ideal S256x256 .f32} (gv767 : Is v767 (fun i j => (d.sr (1792 + i) (1792 + j)) * scale)) {v776 : Vec Ideal S256x128 .bf16} (gv776 : Is v776 (fun i j => d.V (1792 + i) j)) :
    Is (k0_pay173 (F := Ideal) v12 v696 v697 v698 v763 v767 k0_pay167 v776) (fun i j => ((0 + (d.dqT 0 1024 (1792 + i) (128 + j))) + (d.dqT 1024 768 (1792 + i) (128 + j))) + (d.dqT 1792 256 (1792 + i) (128 + j))) := by
  exact (Is.sliceC 128 slices_S256x256_o0_128_S256x128 (pay172_is d gv12 gv696 gv697 gv698 gv763 gv767 gv776) :)

theorem pay175_is {v12 : FVec Ideal S256x2176 .bf16} (gv12 : Is v12 (fun i j => d.K j i)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v763 : FVec Ideal S256x256 .f32} (gv763 : Is v763 (fun i j => (0 + (d.dqT 0 1024 (1792 + j) i)) + (d.dqT 1024 768 (1792 + j) i))) {v767 : FVec Ideal S256x256 .f32} (gv767 : Is v767 (fun i j => (d.sr (1792 + i) (1792 + j)) * scale)) {v776 : Vec Ideal S256x128 .bf16} (gv776 : Is v776 (fun i j => d.V (1792 + i) j)) {v806 : Vec Ideal S256x128 .f32} (gv806 : Is v806 (fun i j => d.C (1792 + i) j)) :
    Is (k0_pay175 (F := Ideal) v12 v696 v697 v698 v763 v767 k0_pay167 v776 v806) (fun i j => (((0 + (d.dqT 0 1024 (1792 + i) (128 + j))) + (d.dqT 1024 768 (1792 + i) (128 + j))) + (d.dqT 1792 256 (1792 + i) (128 + j))) * (d.C (1792 + i) j)) := by
  exact (Is.mul (pay173_is d gv12 gv696 gv697 gv698 gv763 gv767 gv776) gv806 :)

theorem pay181_is :
    Is (k0_pay181 (F := Ideal)) (fun i j => 0) := by
  exact (Is.fill (a := 256) (b := 128) zero_coe :)

theorem pay186_is {v12 : FVec Ideal S256x2176 .bf16} (gv12 : Is v12 (fun i j => d.K j i)) {v819 : FVec Ideal S256x128 .f32} (gv819 : Is v819 (fun i j => 0)) {v835 : FVec Ideal S1024x128 .bf16} (gv835 : Is v835 (fun i j => d.ds (0 + i) (2048 + j))) :
    Is (k0_pay186 (F := Ideal) v12 v819 v835) (fun i j => 0 + (d.dqT 0 1024 (2048 + j) i)) := by
  have h570 := Is.sliceC 0 slices_S256x2176_o0_0_S256x1024 gv12
  have h571 : Is _ (fun i j => d.dqT 0 1024 (2048 + j) i) := (S256x1024_S1024x128_S256x128_1_0_0_1_n_n h570 gv835 :)
  exact (Is.add gv819 h571 :)

theorem pay192_is {v12 : FVec Ideal S256x2176 .bf16} (gv12 : Is v12 (fun i j => d.K j i)) {v851 : FVec Ideal S256x128 .f32} (gv851 : Is v851 (fun i j => 0 + (d.dqT 0 1024 (2048 + j) i))) {v867 : FVec Ideal S1024x128 .bf16} (gv867 : Is v867 (fun i j => d.ds (1024 + i) (2048 + j))) :
    Is (k0_pay192 (F := Ideal) v12 v851 v867) (fun i j => (0 + (d.dqT 0 1024 (2048 + j) i)) + (d.dqT 1024 1024 (2048 + j) i)) := by
  have h573 := Is.sliceC 1024 slices_S256x2176_o0_1024_S256x1024 gv12
  have h574 : Is _ (fun i j => d.dqT 1024 1024 (2048 + j) i) := (S256x1024_S1024x128_S256x128_1_0_0_1_n_n h573 gv867 :)
  exact (Is.add gv851 h574 :)

theorem pay205_is {v943 : Vec Ideal S2176x128 .f32} (gv943 : Is v943 (fun i j => (fun _ _ => (0 : ℝ)) (0 + i) j)) {v945 : Vec Ideal S2176x128 .f32} (gv945 : Is v945 (fun i j => (ak22 d) (0 + i) (128 + j))) :
    Is (k0_pay205 (F := Ideal) v943 v945) (fun i j => ((fun _ _ => (0 : ℝ)) (0 + i) j) + ((ak22 d) (0 + i) (128 + j))) := by
  have h576 := Is.reshape shapeCasts_S2176x128_S2176x128 gv943
  exact (Is.add h576 gv945 :)

theorem pay197_is {v12 : FVec Ideal S256x2176 .bf16} (gv12 : Is v12 (fun i j => d.K j i)) {v883 : FVec Ideal S256x128 .f32} (gv883 : Is v883 (fun i j => (0 + (d.dqT 0 1024 (2048 + j) i)) + (d.dqT 1024 1024 (2048 + j) i))) {v904 : FVec Ideal S128x128 .bf16} (gv904 : Is v904 (fun i j => d.ds (2048 + i) (2048 + j))) :
    Is (k0_pay197 (F := Ideal) v12 v883 v904) (fun i j => ((0 + (d.dqT 0 1024 (2048 + i) j)) + (d.dqT 1024 1024 (2048 + i) j)) + (d.dqT 2048 128 (2048 + i) j)) := by
  have h578 := Is.sliceC 2048 slices_S256x2176_o0_2048_S256x128 gv12
  have h579 : Is _ (fun i j => d.dqT 2048 128 (2048 + j) i) := (S256x128_S128x128_S256x128_1_0_0_1_n_n h578 gv904 :)
  have h580 := Is.add gv883 h579
  exact (Is.tr transposes_S256x128_p1_0_S128x256 h580 :)

theorem pay199_is {v12 : FVec Ideal S256x2176 .bf16} (gv12 : Is v12 (fun i j => d.K j i)) {v883 : FVec Ideal S256x128 .f32} (gv883 : Is v883 (fun i j => (0 + (d.dqT 0 1024 (2048 + j) i)) + (d.dqT 1024 1024 (2048 + j) i))) {v904 : FVec Ideal S128x128 .bf16} (gv904 : Is v904 (fun i j => d.ds (2048 + i) (2048 + j))) :
    Is (k0_pay199 (F := Ideal) v12 v883 v904) (fun i j => ((0 + (d.dqT 0 1024 (2048 + i) (0 + j))) + (d.dqT 1024 1024 (2048 + i) (0 + j))) + (d.dqT 2048 128 (2048 + i) (0 + j))) := by
  have h582 := Is.sliceC 0 slices_S128x256_o0_0_S128x128 (pay197_is d gv12 gv883 gv904)
  exact (Is.cast bitsLt_bf16_f32 h582 :)

theorem pay174_is {v12 : FVec Ideal S256x2176 .bf16} (gv12 : Is v12 (fun i j => d.K j i)) {v696 : Vec Ideal S256x128 .bf16} (gv696 : Is v696 (fun i j => d.DO (1792 + i) j)) {v697 : FVec Ideal S1x256 .f32} (gv697 : Is v697 (fun i j => d.L (1792 + j))) {v698 : FVec Ideal S1x256 .f32} (gv698 : Is v698 (fun i j => d.D (1792 + j))) {v763 : FVec Ideal S256x256 .f32} (gv763 : Is v763 (fun i j => (0 + (d.dqT 0 1024 (1792 + j) i)) + (d.dqT 1024 768 (1792 + j) i))) {v767 : FVec Ideal S256x256 .f32} (gv767 : Is v767 (fun i j => (d.sr (1792 + i) (1792 + j)) * scale)) {v776 : Vec Ideal S256x128 .bf16} (gv776 : Is v776 (fun i j => d.V (1792 + i) j)) :
    Is (k0_pay174 (F := Ideal) v12 v696 v697 v698 v763 v767 k0_pay167 v776) (fun i j => ((0 + (d.dqT 0 1024 (1792 + i) (0 + j))) + (d.dqT 1024 768 (1792 + i) (0 + j))) + (d.dqT 1792 256 (1792 + i) (0 + j))) := by
  have h584 := Is.sliceC 0 slices_S256x256_o0_0_S256x128 (pay172_is d gv12 gv696 gv697 gv698 gv763 gv767 gv776)
  exact (Is.cast bitsLt_bf16_f32 h584 :)

theorem pay148_is {v12 : FVec Ideal S256x2176 .bf16} (gv12 : Is v12 (fun i j => d.K j i)) {v643 : FVec Ideal S256x256 .f32} (gv643 : Is v643 (fun i j => (0 + (d.dqT 0 1024 (1536 + j) i)) + (d.dqT 1024 512 (1536 + j) i))) {v661 : FVec Ideal S256x256 .f32} (gv661 : Is v661 (fun i j => (d.pr (1536 + i) (1536 + j)) * ((d.dp (1536 + i) (1536 + j)) - (d.D (1536 + j))))) :
    Is (k0_pay148 (F := Ideal) v12 v643 v661 (Scalar.ofBits .f32 0x3D93CD3A#32)) (fun i j => ((0 + (d.dqT 0 1024 (1536 + i) j)) + (d.dqT 1024 512 (1536 + i) j)) + (d.dqT 1536 256 (1536 + i) j)) := by
  have h586 := Is.sliceC 1536 slices_S256x2176_o0_1536_S256x256 gv12
  have h587 : Is _ (fun i j => d.dqT 1536 256 (1536 + j) i) := (S256x256_S256x256_S256x256_1_0_0_1_n_n h586 (pay145_is d gv661) :)
  have h588 := Is.add gv643 h587
  exact (Is.tr transposes_S256x256_p1_0_S256x256 h588 :)

theorem pay150_is {v12 : FVec Ideal S256x2176 .bf16} (gv12 : Is v12 (fun i j => d.K j i)) {v643 : FVec Ideal S256x256 .f32} (gv643 : Is v643 (fun i j => (0 + (d.dqT 0 1024 (1536 + j) i)) + (d.dqT 1024 512 (1536 + j) i))) {v661 : FVec Ideal S256x256 .f32} (gv661 : Is v661 (fun i j => (d.pr (1536 + i) (1536 + j)) * ((d.dp (1536 + i) (1536 + j)) - (d.D (1536 + j))))) :
    Is (k0_pay150 (F := Ideal) v12 v643 v661 (Scalar.ofBits .f32 0x3D93CD3A#32)) (fun i j => ((0 + (d.dqT 0 1024 (1536 + i) (0 + j))) + (d.dqT 1024 512 (1536 + i) (0 + j))) + (d.dqT 1536 256 (1536 + i) (0 + j))) := by
  have h590 := Is.sliceC 0 slices_S256x256_o0_0_S256x128 (pay148_is d gv12 gv643 gv661)
  exact (Is.cast bitsLt_bf16_f32 h590 :)

theorem pay120_is {v12 : FVec Ideal S256x2176 .bf16} (gv12 : Is v12 (fun i j => d.K j i)) {v523 : FVec Ideal S256x256 .f32} (gv523 : Is v523 (fun i j => (0 + (d.dqT 0 1024 (1280 + j) i)) + (d.dqT 1024 256 (1280 + j) i))) {v544 : FVec Ideal S256x256 .bf16} (gv544 : Is v544 (fun i j => d.ds (1280 + i) (1280 + j))) :
    Is (k0_pay120 (F := Ideal) v12 v523 v544) (fun i j => ((0 + (d.dqT 0 1024 (1280 + i) j)) + (d.dqT 1024 256 (1280 + i) j)) + (d.dqT 1280 256 (1280 + i) j)) := by
  have h592 := Is.sliceC 1280 slices_S256x2176_o0_1280_S256x256 gv12
  have h593 : Is _ (fun i j => d.dqT 1280 256 (1280 + j) i) := (S256x256_S256x256_S256x256_1_0_0_1_n_n h592 gv544 :)
  have h594 := Is.add gv523 h593
  exact (Is.tr transposes_S256x256_p1_0_S256x256 h594 :)

theorem pay122_is {v12 : FVec Ideal S256x2176 .bf16} (gv12 : Is v12 (fun i j => d.K j i)) {v523 : FVec Ideal S256x256 .f32} (gv523 : Is v523 (fun i j => (0 + (d.dqT 0 1024 (1280 + j) i)) + (d.dqT 1024 256 (1280 + j) i))) {v544 : FVec Ideal S256x256 .bf16} (gv544 : Is v544 (fun i j => d.ds (1280 + i) (1280 + j))) :
    Is (k0_pay122 (F := Ideal) v12 v523 v544) (fun i j => ((0 + (d.dqT 0 1024 (1280 + i) (0 + j))) + (d.dqT 1024 256 (1280 + i) (0 + j))) + (d.dqT 1280 256 (1280 + i) (0 + j))) := by
  have h596 := Is.sliceC 0 slices_S256x256_o0_0_S256x128 (pay120_is d gv12 gv523 gv544)
  exact (Is.cast bitsLt_bf16_f32 h596 :)

theorem pay96_is {v440 : FVec Ideal S256x256 .f32} (gv440 : Is v440 (fun i j => (0 + (d.dqT 0 1024 (1024 + j) i)) + (d.dqT 1024 256 (1024 + j) i))) :
    Is (k0_pay96 (F := Ideal) v440) (fun i j => (0 + (d.dqT 0 1024 (1024 + i) j)) + (d.dqT 1024 256 (1024 + i) j)) := by
  exact (Is.tr transposes_S256x256_p1_0_S256x256 gv440 :)

theorem pay98_is {v440 : FVec Ideal S256x256 .f32} (gv440 : Is v440 (fun i j => (0 + (d.dqT 0 1024 (1024 + j) i)) + (d.dqT 1024 256 (1024 + j) i))) :
    Is (k0_pay98 (F := Ideal) v440) (fun i j => (0 + (d.dqT 0 1024 (1024 + i) (0 + j))) + (d.dqT 1024 256 (1024 + i) (0 + j))) := by
  have h599 := Is.sliceC 0 slices_S256x256_o0_0_S256x128 (pay96_is d gv440)
  exact (Is.cast bitsLt_bf16_f32 h599 :)

theorem pay79_is {v12 : FVec Ideal S256x2176 .bf16} (gv12 : Is v12 (fun i j => d.K j i)) {v315 : FVec Ideal S256x256 .f32} (gv315 : Is v315 (fun i j => 0 + (d.dqT 0 768 (768 + j) i))) {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) :
    Is (k0_pay79 (F := Ideal) v12 v315 v327 v330 v331) (fun i j => (0 + (d.dqT 0 768 (768 + i) (0 + j))) + (d.dqT 768 256 (768 + i) (0 + j))) := by
  have h601 := Is.sliceC 0 slices_S256x256_o0_0_S256x128 (pay77_is d gv12 gv315 gv327 gv330 gv331)
  exact (Is.cast bitsLt_bf16_f32 h601 :)

theorem pay56_is {v12 : FVec Ideal S256x2176 .bf16} (gv12 : Is v12 (fun i j => d.K j i)) {v227 : FVec Ideal S256x256 .f32} (gv227 : Is v227 (fun i j => 0 + (d.dqT 0 512 (512 + j) i))) {v248 : FVec Ideal S256x256 .bf16} (gv248 : Is v248 (fun i j => d.ds (512 + i) (512 + j))) :
    Is (k0_pay56 (F := Ideal) v12 v227 v248) (fun i j => (0 + (d.dqT 0 512 (512 + i) j)) + (d.dqT 512 256 (512 + i) j)) := by
  have h603 := Is.sliceC 512 slices_S256x2176_o0_512_S256x256 gv12
  have h604 : Is _ (fun i j => d.dqT 512 256 (512 + j) i) := (S256x256_S256x256_S256x256_1_0_0_1_n_n h603 gv248 :)
  have h605 := Is.add gv227 h604
  exact (Is.tr transposes_S256x256_p1_0_S256x256 h605 :)

theorem pay58_is {v12 : FVec Ideal S256x2176 .bf16} (gv12 : Is v12 (fun i j => d.K j i)) {v227 : FVec Ideal S256x256 .f32} (gv227 : Is v227 (fun i j => 0 + (d.dqT 0 512 (512 + j) i))) {v248 : FVec Ideal S256x256 .bf16} (gv248 : Is v248 (fun i j => d.ds (512 + i) (512 + j))) :
    Is (k0_pay58 (F := Ideal) v12 v227 v248) (fun i j => (0 + (d.dqT 0 512 (512 + i) (0 + j))) + (d.dqT 512 256 (512 + i) (0 + j))) := by
  have h607 := Is.sliceC 0 slices_S256x256_o0_0_S256x128 (pay56_is d gv12 gv227 gv248)
  exact (Is.cast bitsLt_bf16_f32 h607 :)

theorem pay38_is {v12 : FVec Ideal S256x2176 .bf16} (gv12 : Is v12 (fun i j => d.K j i)) {v104 : Vec Ideal S256x128 .bf16} (gv104 : Is v104 (fun i j => d.DO (256 + i) j)) {v105 : FVec Ideal S1x256 .f32} (gv105 : Is v105 (fun i j => d.L (256 + j))) {v106 : FVec Ideal S1x256 .f32} (gv106 : Is v106 (fun i j => d.D (256 + j))) {v139 : FVec Ideal S256x256 .f32} (gv139 : Is v139 (fun i j => 0 + (d.dqT 0 256 (256 + j) i))) {v148 : FVec Ideal S256x256 .f32} (gv148 : IsM v148 (fun i j => (d.sr (256 + i) (256 + j)) * scale)) {v152 : Vec Ideal S256x128 .bf16} (gv152 : Is v152 (fun i j => d.V (256 + i) j)) :
    Is (k0_pay38 (F := Ideal) v12 v104 v105 v106 v139 v148 v152) (fun i j => (0 + (d.dqT 0 256 (256 + i) (0 + j))) + (d.dqT 256 256 (256 + i) (0 + j))) := by
  have h609 := Is.sliceC 0 slices_S256x256_o0_0_S256x128 (pay36_is d gv12 gv104 gv105 gv106 gv139 gv148 gv152)
  exact (Is.cast bitsLt_bf16_f32 h609 :)

theorem pay10_is :
    Is (k0_pay10 (F := Ideal)) (fun i j => 0) := by
  exact (Is.fill (a := 256) (b := 256) zero_coe :)

theorem pay16_is {v12 : FVec Ideal S256x2176 .bf16} (gv12 : Is v12 (fun i j => d.K j i)) {v51 : FVec Ideal S256x256 .f32} (gv51 : Is v51 (fun i j => 0)) {v72 : FVec Ideal S256x256 .bf16} (gv72 : Is v72 (fun i j => d.ds (0 + i) (0 + j))) :
    Is (k0_pay16 (F := Ideal) v12 v51 v72) (fun i j => 0 + (d.dqT 0 256 (0 + i) j)) := by
  have h612 := Is.sliceC 0 slices_S256x2176_o0_0_S256x256 gv12
  have h613 : Is _ (fun i j => d.dqT 0 256 (0 + j) i) := (S256x256_S256x256_S256x256_1_0_0_1_n_n h612 gv72 :)
  have h614 := Is.add gv51 h613
  exact (Is.tr transposes_S256x256_p1_0_S256x256 h614 :)

theorem pay18_is {v12 : FVec Ideal S256x2176 .bf16} (gv12 : Is v12 (fun i j => d.K j i)) {v51 : FVec Ideal S256x256 .f32} (gv51 : Is v51 (fun i j => 0)) {v72 : FVec Ideal S256x256 .bf16} (gv72 : Is v72 (fun i j => d.ds (0 + i) (0 + j))) :
    Is (k0_pay18 (F := Ideal) v12 v51 v72) (fun i j => 0 + (d.dqT 0 256 (0 + i) (0 + j))) := by
  have h616 := Is.sliceC 0 slices_S256x256_o0_0_S256x128 (pay16_is d gv12 gv51 gv72)
  exact (Is.cast bitsLt_bf16_f32 h616 :)

theorem pay198_is {v12 : FVec Ideal S256x2176 .bf16} (gv12 : Is v12 (fun i j => d.K j i)) {v883 : FVec Ideal S256x128 .f32} (gv883 : Is v883 (fun i j => (0 + (d.dqT 0 1024 (2048 + j) i)) + (d.dqT 1024 1024 (2048 + j) i))) {v904 : FVec Ideal S128x128 .bf16} (gv904 : Is v904 (fun i j => d.ds (2048 + i) (2048 + j))) :
    Is (k0_pay198 (F := Ideal) v12 v883 v904) (fun i j => ((0 + (d.dqT 0 1024 (2048 + i) (128 + j))) + (d.dqT 1024 1024 (2048 + i) (128 + j))) + (d.dqT 2048 128 (2048 + i) (128 + j))) := by
  exact (Is.sliceC 128 slices_S128x256_o0_128_S128x128 (pay197_is d gv12 gv883 gv904) :)

theorem pay200_is {v12 : FVec Ideal S256x2176 .bf16} (gv12 : Is v12 (fun i j => d.K j i)) {v883 : FVec Ideal S256x128 .f32} (gv883 : Is v883 (fun i j => (0 + (d.dqT 0 1024 (2048 + j) i)) + (d.dqT 1024 1024 (2048 + j) i))) {v904 : FVec Ideal S128x128 .bf16} (gv904 : Is v904 (fun i j => d.ds (2048 + i) (2048 + j))) {v926 : Vec Ideal S128x128 .f32} (gv926 : Is v926 (fun i j => d.C (2048 + i) j)) :
    Is (k0_pay200 (F := Ideal) v12 v883 v904 v926) (fun i j => (((0 + (d.dqT 0 1024 (2048 + i) (128 + j))) + (d.dqT 1024 1024 (2048 + i) (128 + j))) + (d.dqT 2048 128 (2048 + i) (128 + j))) * (d.C (2048 + i) j)) := by
  have h619 := Is.mul (pay198_is d gv12 gv883 gv904) gv926
  exact (Is.cast bitsLt_bf16_f32 h619 :)

theorem pay176_is {v807 : FVec Ideal S256x128 .f32} (gv807 : Is v807 (fun i j => (((0 + (d.dqT 0 1024 (1792 + i) (128 + j))) + (d.dqT 1024 768 (1792 + i) (128 + j))) + (d.dqT 1792 256 (1792 + i) (128 + j))) * (d.C (1792 + i) j))) :
    Is (k0_pay176 (F := Ideal) v807) (fun i j => (((0 + (d.dqT 0 1024 (1792 + i) (128 + j))) + (d.dqT 1024 768 (1792 + i) (128 + j))) + (d.dqT 1792 256 (1792 + i) (128 + j))) * (d.C (1792 + i) j)) := by
  exact (Is.cast bitsLt_bf16_f32 gv807 :)

theorem pay149_is {v12 : FVec Ideal S256x2176 .bf16} (gv12 : Is v12 (fun i j => d.K j i)) {v643 : FVec Ideal S256x256 .f32} (gv643 : Is v643 (fun i j => (0 + (d.dqT 0 1024 (1536 + j) i)) + (d.dqT 1024 512 (1536 + j) i))) {v661 : FVec Ideal S256x256 .f32} (gv661 : Is v661 (fun i j => (d.pr (1536 + i) (1536 + j)) * ((d.dp (1536 + i) (1536 + j)) - (d.D (1536 + j))))) :
    Is (k0_pay149 (F := Ideal) v12 v643 v661 (Scalar.ofBits .f32 0x3D93CD3A#32)) (fun i j => ((0 + (d.dqT 0 1024 (1536 + i) (128 + j))) + (d.dqT 1024 512 (1536 + i) (128 + j))) + (d.dqT 1536 256 (1536 + i) (128 + j))) := by
  exact (Is.sliceC 128 slices_S256x256_o0_128_S256x128 (pay148_is d gv12 gv643 gv661) :)

theorem pay151_is {v12 : FVec Ideal S256x2176 .bf16} (gv12 : Is v12 (fun i j => d.K j i)) {v643 : FVec Ideal S256x256 .f32} (gv643 : Is v643 (fun i j => (0 + (d.dqT 0 1024 (1536 + j) i)) + (d.dqT 1024 512 (1536 + j) i))) {v661 : FVec Ideal S256x256 .f32} (gv661 : Is v661 (fun i j => (d.pr (1536 + i) (1536 + j)) * ((d.dp (1536 + i) (1536 + j)) - (d.D (1536 + j))))) {v686 : Vec Ideal S256x128 .f32} (gv686 : Is v686 (fun i j => d.C (1536 + i) j)) :
    Is (k0_pay151 (F := Ideal) v12 v643 v661 (Scalar.ofBits .f32 0x3D93CD3A#32) v686) (fun i j => (((0 + (d.dqT 0 1024 (1536 + i) (128 + j))) + (d.dqT 1024 512 (1536 + i) (128 + j))) + (d.dqT 1536 256 (1536 + i) (128 + j))) * (d.C (1536 + i) j)) := by
  have h623 := Is.mul (pay149_is d gv12 gv643 gv661) gv686
  exact (Is.cast bitsLt_bf16_f32 h623 :)

theorem pay121_is {v12 : FVec Ideal S256x2176 .bf16} (gv12 : Is v12 (fun i j => d.K j i)) {v523 : FVec Ideal S256x256 .f32} (gv523 : Is v523 (fun i j => (0 + (d.dqT 0 1024 (1280 + j) i)) + (d.dqT 1024 256 (1280 + j) i))) {v544 : FVec Ideal S256x256 .bf16} (gv544 : Is v544 (fun i j => d.ds (1280 + i) (1280 + j))) :
    Is (k0_pay121 (F := Ideal) v12 v523 v544) (fun i j => ((0 + (d.dqT 0 1024 (1280 + i) (128 + j))) + (d.dqT 1024 256 (1280 + i) (128 + j))) + (d.dqT 1280 256 (1280 + i) (128 + j))) := by
  exact (Is.sliceC 128 slices_S256x256_o0_128_S256x128 (pay120_is d gv12 gv523 gv544) :)

theorem pay123_is {v12 : FVec Ideal S256x2176 .bf16} (gv12 : Is v12 (fun i j => d.K j i)) {v523 : FVec Ideal S256x256 .f32} (gv523 : Is v523 (fun i j => (0 + (d.dqT 0 1024 (1280 + j) i)) + (d.dqT 1024 256 (1280 + j) i))) {v544 : FVec Ideal S256x256 .bf16} (gv544 : Is v544 (fun i j => d.ds (1280 + i) (1280 + j))) {v566 : Vec Ideal S256x128 .f32} (gv566 : Is v566 (fun i j => d.C (1280 + i) j)) :
    Is (k0_pay123 (F := Ideal) v12 v523 v544 v566) (fun i j => (((0 + (d.dqT 0 1024 (1280 + i) (128 + j))) + (d.dqT 1024 256 (1280 + i) (128 + j))) + (d.dqT 1280 256 (1280 + i) (128 + j))) * (d.C (1280 + i) j)) := by
  have h626 := Is.mul (pay121_is d gv12 gv523 gv544) gv566
  exact (Is.cast bitsLt_bf16_f32 h626 :)

theorem pay97_is {v440 : FVec Ideal S256x256 .f32} (gv440 : Is v440 (fun i j => (0 + (d.dqT 0 1024 (1024 + j) i)) + (d.dqT 1024 256 (1024 + j) i))) :
    Is (k0_pay97 (F := Ideal) v440) (fun i j => (0 + (d.dqT 0 1024 (1024 + i) (128 + j))) + (d.dqT 1024 256 (1024 + i) (128 + j))) := by
  exact (Is.sliceC 128 slices_S256x256_o0_128_S256x128 (pay96_is d gv440) :)

theorem pay99_is {v440 : FVec Ideal S256x256 .f32} (gv440 : Is v440 (fun i j => (0 + (d.dqT 0 1024 (1024 + j) i)) + (d.dqT 1024 256 (1024 + j) i))) {v446 : Vec Ideal S256x128 .f32} (gv446 : Is v446 (fun i j => d.C (1024 + i) j)) :
    Is (k0_pay99 (F := Ideal) v440 v446) (fun i j => ((0 + (d.dqT 0 1024 (1024 + i) (128 + j))) + (d.dqT 1024 256 (1024 + i) (128 + j))) * (d.C (1024 + i) j)) := by
  have h629 := Is.mul (pay97_is d gv440) gv446
  exact (Is.cast bitsLt_bf16_f32 h629 :)

theorem pay80_is {v12 : FVec Ideal S256x2176 .bf16} (gv12 : Is v12 (fun i j => d.K j i)) {v315 : FVec Ideal S256x256 .f32} (gv315 : Is v315 (fun i j => 0 + (d.dqT 0 768 (768 + j) i))) {v327 : FVec Ideal S256x256 .f32} (gv327 : Is v327 (fun i j => d.pr (768 + i) (768 + j))) {v330 : FVec Ideal S256x256 .f32} (gv330 : Is v330 (fun i j => d.dp (768 + i) (768 + j))) {v331 : FVec Ideal S256x256 .f32} (gv331 : Is v331 (fun i j => d.D (768 + j))) {v358 : Vec Ideal S256x128 .f32} (gv358 : Is v358 (fun i j => d.C (768 + i) j)) :
    Is (k0_pay80 (F := Ideal) v12 v315 v327 v330 v331 v358) (fun i j => ((0 + (d.dqT 0 768 (768 + i) (128 + j))) + (d.dqT 768 256 (768 + i) (128 + j))) * (d.C (768 + i) j)) := by
  have h631 := Is.mul (pay78_is d gv12 gv315 gv327 gv330 gv331) gv358
  exact (Is.cast bitsLt_bf16_f32 h631 :)

theorem pay57_is {v12 : FVec Ideal S256x2176 .bf16} (gv12 : Is v12 (fun i j => d.K j i)) {v227 : FVec Ideal S256x256 .f32} (gv227 : Is v227 (fun i j => 0 + (d.dqT 0 512 (512 + j) i))) {v248 : FVec Ideal S256x256 .bf16} (gv248 : Is v248 (fun i j => d.ds (512 + i) (512 + j))) :
    Is (k0_pay57 (F := Ideal) v12 v227 v248) (fun i j => (0 + (d.dqT 0 512 (512 + i) (128 + j))) + (d.dqT 512 256 (512 + i) (128 + j))) := by
  exact (Is.sliceC 128 slices_S256x256_o0_128_S256x128 (pay56_is d gv12 gv227 gv248) :)

theorem pay59_is {v12 : FVec Ideal S256x2176 .bf16} (gv12 : Is v12 (fun i j => d.K j i)) {v227 : FVec Ideal S256x256 .f32} (gv227 : Is v227 (fun i j => 0 + (d.dqT 0 512 (512 + j) i))) {v248 : FVec Ideal S256x256 .bf16} (gv248 : Is v248 (fun i j => d.ds (512 + i) (512 + j))) {v270 : Vec Ideal S256x128 .f32} (gv270 : Is v270 (fun i j => d.C (512 + i) j)) :
    Is (k0_pay59 (F := Ideal) v12 v227 v248 v270) (fun i j => ((0 + (d.dqT 0 512 (512 + i) (128 + j))) + (d.dqT 512 256 (512 + i) (128 + j))) * (d.C (512 + i) j)) := by
  have h634 := Is.mul (pay57_is d gv12 gv227 gv248) gv270
  exact (Is.cast bitsLt_bf16_f32 h634 :)

theorem pay17_is {v12 : FVec Ideal S256x2176 .bf16} (gv12 : Is v12 (fun i j => d.K j i)) {v51 : FVec Ideal S256x256 .f32} (gv51 : Is v51 (fun i j => 0)) {v72 : FVec Ideal S256x256 .bf16} (gv72 : Is v72 (fun i j => d.ds (0 + i) (0 + j))) :
    Is (k0_pay17 (F := Ideal) v12 v51 v72) (fun i j => 0 + (d.dqT 0 256 (0 + i) (128 + j))) := by
  exact (Is.sliceC 128 slices_S256x256_o0_128_S256x128 (pay16_is d gv12 gv51 gv72) :)

theorem pay19_is {v12 : FVec Ideal S256x2176 .bf16} (gv12 : Is v12 (fun i j => d.K j i)) {v51 : FVec Ideal S256x256 .f32} (gv51 : Is v51 (fun i j => 0)) {v72 : FVec Ideal S256x256 .bf16} (gv72 : Is v72 (fun i j => d.ds (0 + i) (0 + j))) {v94 : Vec Ideal S256x128 .f32} (gv94 : Is v94 (fun i j => d.C (0 + i) j)) :
    Is (k0_pay19 (F := Ideal) v12 v51 v72 v94) (fun i j => (0 + (d.dqT 0 256 (0 + i) (128 + j))) * (d.C (0 + i) j)) := by
  have h637 := Is.mul (pay17_is d gv12 gv51 gv72) gv94
  exact (Is.cast bitsLt_bf16_f32 h637 :)

theorem pay201_is {v12 : FVec Ideal S256x2176 .bf16} (gv12 : Is v12 (fun i j => d.K j i)) {v883 : FVec Ideal S256x128 .f32} (gv883 : Is v883 (fun i j => (0 + (d.dqT 0 1024 (2048 + j) i)) + (d.dqT 1024 1024 (2048 + j) i))) {v904 : FVec Ideal S128x128 .bf16} (gv904 : Is v904 (fun i j => d.ds (2048 + i) (2048 + j))) {v930 : Vec Ideal S128x128 .f32} (gv930 : Is v930 (fun i j => d.S (2048 + i) j)) :
    Is (k0_pay201 (F := Ideal) v12 v883 v904 v930) (fun i j => (((0 + (d.dqT 0 1024 (2048 + i) (128 + j))) + (d.dqT 1024 1024 (2048 + i) (128 + j))) + (d.dqT 2048 128 (2048 + i) (128 + j))) * (d.S (2048 + i) j)) := by
  have h639 := Is.mul (pay198_is d gv12 gv883 gv904) gv930
  exact (Is.cast bitsLt_bf16_f32 h639 :)

theorem pay177_is {v802 : FVec Ideal S256x128 .f32} (gv802 : Is v802 (fun i j => ((0 + (d.dqT 0 1024 (1792 + i) (128 + j))) + (d.dqT 1024 768 (1792 + i) (128 + j))) + (d.dqT 1792 256 (1792 + i) (128 + j)))) {v810 : Vec Ideal S256x128 .f32} (gv810 : Is v810 (fun i j => d.S (1792 + i) j)) :
    Is (k0_pay177 (F := Ideal) v802 v810) (fun i j => (((0 + (d.dqT 0 1024 (1792 + i) (128 + j))) + (d.dqT 1024 768 (1792 + i) (128 + j))) + (d.dqT 1792 256 (1792 + i) (128 + j))) * (d.S (1792 + i) j)) := by
  have h641 := Is.mul gv802 gv810
  exact (Is.cast bitsLt_bf16_f32 h641 :)

theorem pay152_is {v12 : FVec Ideal S256x2176 .bf16} (gv12 : Is v12 (fun i j => d.K j i)) {v643 : FVec Ideal S256x256 .f32} (gv643 : Is v643 (fun i j => (0 + (d.dqT 0 1024 (1536 + j) i)) + (d.dqT 1024 512 (1536 + j) i))) {v661 : FVec Ideal S256x256 .f32} (gv661 : Is v661 (fun i j => (d.pr (1536 + i) (1536 + j)) * ((d.dp (1536 + i) (1536 + j)) - (d.D (1536 + j))))) {v690 : Vec Ideal S256x128 .f32} (gv690 : Is v690 (fun i j => d.S (1536 + i) j)) :
    Is (k0_pay152 (F := Ideal) v12 v643 v661 (Scalar.ofBits .f32 0x3D93CD3A#32) v690) (fun i j => (((0 + (d.dqT 0 1024 (1536 + i) (128 + j))) + (d.dqT 1024 512 (1536 + i) (128 + j))) + (d.dqT 1536 256 (1536 + i) (128 + j))) * (d.S (1536 + i) j)) := by
  have h643 := Is.mul (pay149_is d gv12 gv643 gv661) gv690
  exact (Is.cast bitsLt_bf16_f32 h643 :)

theorem pay124_is {v12 : FVec Ideal S256x2176 .bf16} (gv12 : Is v12 (fun i j => d.K j i)) {v523 : FVec Ideal S256x256 .f32} (gv523 : Is v523 (fun i j => (0 + (d.dqT 0 1024 (1280 + j) i)) + (d.dqT 1024 256 (1280 + j) i))) {v544 : FVec Ideal S256x256 .bf16} (gv544 : Is v544 (fun i j => d.ds (1280 + i) (1280 + j))) {v570 : Vec Ideal S256x128 .f32} (gv570 : Is v570 (fun i j => d.S (1280 + i) j)) :
    Is (k0_pay124 (F := Ideal) v12 v523 v544 v570) (fun i j => (((0 + (d.dqT 0 1024 (1280 + i) (128 + j))) + (d.dqT 1024 256 (1280 + i) (128 + j))) + (d.dqT 1280 256 (1280 + i) (128 + j))) * (d.S (1280 + i) j)) := by
  have h645 := Is.mul (pay121_is d gv12 gv523 gv544) gv570
  exact (Is.cast bitsLt_bf16_f32 h645 :)

theorem pay100_is {v440 : FVec Ideal S256x256 .f32} (gv440 : Is v440 (fun i j => (0 + (d.dqT 0 1024 (1024 + j) i)) + (d.dqT 1024 256 (1024 + j) i))) {v450 : Vec Ideal S256x128 .f32} (gv450 : Is v450 (fun i j => d.S (1024 + i) j)) :
    Is (k0_pay100 (F := Ideal) v440 v450) (fun i j => ((0 + (d.dqT 0 1024 (1024 + i) (128 + j))) + (d.dqT 1024 256 (1024 + i) (128 + j))) * (d.S (1024 + i) j)) := by
  have h647 := Is.mul (pay97_is d gv440) gv450
  exact (Is.cast bitsLt_bf16_f32 h647 :)

theorem pay60_is {v12 : FVec Ideal S256x2176 .bf16} (gv12 : Is v12 (fun i j => d.K j i)) {v227 : FVec Ideal S256x256 .f32} (gv227 : Is v227 (fun i j => 0 + (d.dqT 0 512 (512 + j) i))) {v248 : FVec Ideal S256x256 .bf16} (gv248 : Is v248 (fun i j => d.ds (512 + i) (512 + j))) {v274 : Vec Ideal S256x128 .f32} (gv274 : Is v274 (fun i j => d.S (512 + i) j)) :
    Is (k0_pay60 (F := Ideal) v12 v227 v248 v274) (fun i j => ((0 + (d.dqT 0 512 (512 + i) (128 + j))) + (d.dqT 512 256 (512 + i) (128 + j))) * (d.S (512 + i) j)) := by
  have h649 := Is.mul (pay57_is d gv12 gv227 gv248) gv274
  exact (Is.cast bitsLt_bf16_f32 h649 :)

theorem pay40_is {v178 : FVec Ideal S256x128 .f32} (gv178 : Is v178 (fun i j => (0 + (d.dqT 0 256 (256 + i) (128 + j))) + (d.dqT 256 256 (256 + i) (128 + j)))) {v186 : Vec Ideal S256x128 .f32} (gv186 : Is v186 (fun i j => d.S (256 + i) j)) :
    Is (k0_pay40 (F := Ideal) v178 v186) (fun i j => ((0 + (d.dqT 0 256 (256 + i) (128 + j))) + (d.dqT 256 256 (256 + i) (128 + j))) * (d.S (256 + i) j)) := by
  have h651 := Is.mul gv178 gv186
  exact (Is.cast bitsLt_bf16_f32 h651 :)

theorem pay20_is {v12 : FVec Ideal S256x2176 .bf16} (gv12 : Is v12 (fun i j => d.K j i)) {v51 : FVec Ideal S256x256 .f32} (gv51 : Is v51 (fun i j => 0)) {v72 : FVec Ideal S256x256 .bf16} (gv72 : Is v72 (fun i j => d.ds (0 + i) (0 + j))) {v98 : Vec Ideal S256x128 .f32} (gv98 : Is v98 (fun i j => d.S (0 + i) j)) :
    Is (k0_pay20 (F := Ideal) v12 v51 v72 v98) (fun i j => (0 + (d.dqT 0 256 (0 + i) (128 + j))) * (d.S (0 + i) j)) := by
  have h653 := Is.mul (pay17_is d gv12 gv51 gv72) gv98
  exact (Is.cast bitsLt_bf16_f32 h653 :)

theorem pay202_is {v934 : Vec Ideal S2176x128 .f32} (gv934 : Is v934 (fun i j => (ak22 d) (0 + i) j)) :
    Is (k0_pay202 (F := Ideal) v934) (fun i j => (ak22 d) (0 + i) j) := by
  exact (Is.cast bitsLt_bf16_f32 gv934 :)

theorem pay203_is {v937 : Vec Ideal S2176x128 .f32} (gv937 : Is v937 (fun i j => (av22 d) (0 + i) j)) :
    Is (k0_pay203 (F := Ideal) v937) (fun i j => (av22 d) (0 + i) j) := by
  exact (Is.cast bitsLt_bf16_f32 gv937 :)

end Cert.KernelIdeal.Val
-- ==== Proof.Scr.lean ====
module

public import proofs.«01_k».proof.Proof.PayB
public import proofs.«01_k».proof.Proof.Gen.KernelIdeal.Frame.RunA

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Gen.kernelRun0_A.sl

/-- The blocks of one grid point hold the reals of `d`. -/
structure Blocks (d : Data) (x0 : Vec Ideal S2176x256 .bf16) (x1 x2 x3 x4 x5 : Vec Ideal S2176x128 .bf16) (x6 x7 x8 : Vec Ideal S2176x128 .f32) : Prop where
  x0 : Is x0 (fun i j => d.Q i j)
  x1 : Is x1 (fun i j => d.K i j)
  x2 : Is x2 (fun i j => d.K i (128 + j))
  x3 : Is x3 (fun i j => d.V i j)
  x4 : Is x4 (fun i j => d.DO i j)
  x5 : Is x5 (fun i j => d.O i j)
  x6 : Is x6 (fun i _ => d.L i)
  x7 : Is x7 (fun i j => d.C i j)
  x8 : Is x8 (fun i j => d.S i j)

variable {c : Dev nD} {b2 : Memref sig .tc .vmem S2176x256 .bf16} {k2 : b2.IsWhole} {b3 : Memref sig .tc .vmem S2176x128 .bf16} {k3 : b3.IsWhole} {b4 : Memref sig .tc .vmem S2176x128 .bf16} {k4 : b4.IsWhole} {b5 : Memref sig .tc .vmem S2176x128 .bf16} {k5 : b5.IsWhole} {b6 : Memref sig .tc .vmem S2176x128 .bf16} {k6 : b6.IsWhole} {b7 : Memref sig .tc .vmem S2176x128 .bf16} {k7 : b7.IsWhole} {b8 : Memref sig .tc .vmem S2176x128 .f32} {k8 : b8.IsWhole} {b9 : Memref sig .tc .vmem S2176x128 .f32} {k9 : b9.IsWhole} {b10 : Memref sig .tc .vmem S2176x128 .f32} {k10 : b10.IsWhole} {b11 : Memref sig .tc .vmem S2176x128 .bf16} {k11 : b11.IsWhole} {b12 : Memref sig .tc .vmem S2176x128 .bf16} {k12 : b12.IsWhole} {b13 : Memref sig .tc .vmem S2176x128 .bf16} {k13 : b13.IsWhole} {b14 : Memref sig .tc .vmem S2176x128 .bf16} {k14 : b14.IsWhole} {b15 : Memref sig .tc .vmem S2176x128 .f32} {k15 : b15.IsWhole} {b16 : Memref sig .tc .vmem S2176x128 .bf16} {k16 : b16.IsWhole} {b17 : Memref sig .tc .vmem S2176x256 .f32} {k17 : b17.IsWhole} {b18 : Memref sig .tc .vmem S2176x128 .f32} {k18 : b18.IsWhole}
variable {x0 : Vec Ideal S2176x256 .bf16} {x1 x2 x3 x4 x5 : Vec Ideal S2176x128 .bf16} {x6 x7 x8 : Vec Ideal S2176x128 .f32}

theorem HS0_1_is : IsC (HS0_1) (fun _ _ => 0) :=
  IsC.fill pay1_is

theorem HS1_1_is : IsC (HS1_1) (fun _ _ => 0) :=
  IsC.fill pay2_is

theorem H13_1_is : IsC (H13_1) (fun _ _ => 0) :=
  IsC.fill pay204_is

theorem v73_is : Is (v73 (F := Ideal) c b17) (fun i j => (fun _ _ => (0 : ℝ)) (0 + i) j) :=
  IsC.loadR 0 HS0_1_is

theorem v79_is : Is (v79 (F := Ideal) c b18) (fun i j => (fun _ _ => (0 : ℝ)) (0 + i) j) :=
  IsC.loadR 0 HS1_1_is

theorem v943_is : Is (v943 (F := Ideal) c b15) (fun i j => (fun _ _ => (0 : ℝ)) (0 + i) j) :=
  IsC.loadR 0 H13_1_is

/-! The chunks of keys before the end of a tile add up to the whole gradient of the tile's queries. -/

theorem dq_tile0 (d : Data) (j l : ℕ) (h : j < 256) : 0 + (d.dqT 0 256 (0 + j) l) = d.dq (0 + j) l := by
  rw [zero_add]
  exact d.dqT_full l 1920 (by omega) (by norm_num)

theorem dq_tile256 (d : Data) (j l : ℕ) (h : j < 256) : (0 + (d.dqT 0 256 (256 + j) l)) + (d.dqT 256 256 (256 + j) l) = d.dq (256 + j) l := by
  rw [zero_add]
  rw [show d.dqT 256 256 (256 + j) l = d.dqT (0 + 256) 256 (256 + j) l from rfl, d.dqT_split]
  exact d.dqT_full l 1664 (by omega) (by norm_num)

theorem dq_tile512 (d : Data) (j l : ℕ) (h : j < 256) : (0 + (d.dqT 0 512 (512 + j) l)) + (d.dqT 512 256 (512 + j) l) = d.dq (512 + j) l := by
  rw [zero_add]
  rw [show d.dqT 512 256 (512 + j) l = d.dqT (0 + 512) 256 (512 + j) l from rfl, d.dqT_split]
  exact d.dqT_full l 1408 (by omega) (by norm_num)

theorem dq_tile768 (d : Data) (j l : ℕ) (h : j < 256) : (0 + (d.dqT 0 768 (768 + j) l)) + (d.dqT 768 256 (768 + j) l) = d.dq (768 + j) l := by
  rw [zero_add]
  rw [show d.dqT 768 256 (768 + j) l = d.dqT (0 + 768) 256 (768 + j) l from rfl, d.dqT_split]
  exact d.dqT_full l 1152 (by omega) (by norm_num)

theorem dq_tile1024 (d : Data) (j l : ℕ) (h : j < 256) : (0 + (d.dqT 0 1024 (1024 + j) l)) + (d.dqT 1024 256 (1024 + j) l) = d.dq (1024 + j) l := by
  rw [zero_add]
  rw [show d.dqT 1024 256 (1024 + j) l = d.dqT (0 + 1024) 256 (1024 + j) l from rfl, d.dqT_split]
  exact d.dqT_full l 896 (by omega) (by norm_num)

theorem dq_tile1280 (d : Data) (j l : ℕ) (h : j < 256) : ((0 + (d.dqT 0 1024 (1280 + j) l)) + (d.dqT 1024 256 (1280 + j) l)) + (d.dqT 1280 256 (1280 + j) l) = d.dq (1280 + j) l := by
  rw [zero_add]
  rw [show d.dqT 1024 256 (1280 + j) l = d.dqT (0 + 1024) 256 (1280 + j) l from rfl, d.dqT_split]
  rw [show d.dqT 1280 256 (1280 + j) l = d.dqT (0 + 1280) 256 (1280 + j) l from rfl, d.dqT_split]
  exact d.dqT_full l 640 (by omega) (by norm_num)

theorem dq_tile1536 (d : Data) (j l : ℕ) (h : j < 256) : ((0 + (d.dqT 0 1024 (1536 + j) l)) + (d.dqT 1024 512 (1536 + j) l)) + (d.dqT 1536 256 (1536 + j) l) = d.dq (1536 + j) l := by
  rw [zero_add]
  rw [show d.dqT 1024 512 (1536 + j) l = d.dqT (0 + 1024) 512 (1536 + j) l from rfl, d.dqT_split]
  rw [show d.dqT 1536 256 (1536 + j) l = d.dqT (0 + 1536) 256 (1536 + j) l from rfl, d.dqT_split]
  exact d.dqT_full l 384 (by omega) (by norm_num)

theorem dq_tile1792 (d : Data) (j l : ℕ) (h : j < 256) : ((0 + (d.dqT 0 1024 (1792 + j) l)) + (d.dqT 1024 768 (1792 + j) l)) + (d.dqT 1792 256 (1792 + j) l) = d.dq (1792 + j) l := by
  rw [zero_add]
  rw [show d.dqT 1024 768 (1792 + j) l = d.dqT (0 + 1024) 768 (1792 + j) l from rfl, d.dqT_split]
  rw [show d.dqT 1792 256 (1792 + j) l = d.dqT (0 + 1792) 256 (1792 + j) l from rfl, d.dqT_split]
  exact d.dqT_full l 128 (by omega) (by norm_num)

theorem dq_tile2048 (d : Data) (j l : ℕ) (h : j < 128) : ((0 + (d.dqT 0 1024 (2048 + j) l)) + (d.dqT 1024 1024 (2048 + j) l)) + (d.dqT 2048 128 (2048 + j) l) = d.dq (2048 + j) l := by
  rw [zero_add]
  rw [show d.dqT 1024 1024 (2048 + j) l = d.dqT (0 + 1024) 1024 (2048 + j) l from rfl, d.dqT_split]
  rw [show d.dqT 2048 128 (2048 + j) l = d.dqT (0 + 2048) 128 (2048 + j) l from rfl, d.dqT_split]
  exact d.dqT_full l 0 (by omega) (by norm_num)

/-! After the queries of a tile the running sum is the sum over all queries before its end. -/

theorem ak_tile0 (d : Data) : ak2 d = d.dkT 0 256 := by
  funext i l
  have hs := d.dkT_split 0 0 256 i l
  have hz := fun h => d.dkT_zero (c := 0) (n := 256) (k := i) l h
  have h0 : d.dkT 0 0 i l = 0 := Finset.sum_empty
  simp only [ak2, Data.upd]
  simp only [Nat.reduceAdd, Nat.zero_add, Nat.zero_le, true_and] at hs hz ⊢
  rw [h0, zero_add] at hs
  split_ifs <;> first | omega | linarith | (have := hz (by omega); linarith)

theorem av_tile0 (d : Data) : av2 d = d.dvT 0 256 := by
  funext i l
  have hs := d.dvT_split 0 0 256 i l
  have hz := fun h => d.dvT_zero (c := 0) (n := 256) (k := i) l h
  have h0 : d.dvT 0 0 i l = 0 := Finset.sum_empty
  simp only [av2, Data.upd]
  simp only [Nat.reduceAdd, Nat.zero_add, Nat.zero_le, true_and] at hs hz ⊢
  rw [h0, zero_add] at hs
  split_ifs <;> first | omega | linarith | (have := hz (by omega); linarith)

theorem ak_tile256 (d : Data) : ak4 d = d.dkT 0 512 := by
  funext i l
  have hs := d.dkT_split 0 256 256 i l
  have hz := fun h => d.dkT_zero (c := 256) (n := 256) (k := i) l h
  simp only [ak4, ak3, Data.upd, ak_tile0]
  simp only [Nat.reduceAdd, Nat.zero_add, Nat.zero_le, true_and] at hs hz ⊢
  split_ifs <;> first | omega | linarith | (have := hz (by omega); linarith)

theorem av_tile256 (d : Data) : av4 d = d.dvT 0 512 := by
  funext i l
  have hs := d.dvT_split 0 256 256 i l
  have hz := fun h => d.dvT_zero (c := 256) (n := 256) (k := i) l h
  simp only [av4, av3, Data.upd, av_tile0]
  simp only [Nat.reduceAdd, Nat.zero_add, Nat.zero_le, true_and] at hs hz ⊢
  split_ifs <;> first | omega | linarith | (have := hz (by omega); linarith)

theorem ak_tile512 (d : Data) : ak6 d = d.dkT 0 768 := by
  funext i l
  have hs := d.dkT_split 0 512 256 i l
  have hz := fun h => d.dkT_zero (c := 512) (n := 256) (k := i) l h
  simp only [ak6, ak5, Data.upd, ak_tile256]
  simp only [Nat.reduceAdd, Nat.zero_add, Nat.zero_le, true_and] at hs hz ⊢
  split_ifs <;> first | omega | linarith | (have := hz (by omega); linarith)

theorem av_tile512 (d : Data) : av6 d = d.dvT 0 768 := by
  funext i l
  have hs := d.dvT_split 0 512 256 i l
  have hz := fun h => d.dvT_zero (c := 512) (n := 256) (k := i) l h
  simp only [av6, av5, Data.upd, av_tile256]
  simp only [Nat.reduceAdd, Nat.zero_add, Nat.zero_le, true_and] at hs hz ⊢
  split_ifs <;> first | omega | linarith | (have := hz (by omega); linarith)

theorem ak_tile768 (d : Data) : ak8 d = d.dkT 0 1024 := by
  funext i l
  have hs := d.dkT_split 0 768 256 i l
  have hz := fun h => d.dkT_zero (c := 768) (n := 256) (k := i) l h
  simp only [ak8, ak7, Data.upd, ak_tile512]
  simp only [Nat.reduceAdd, Nat.zero_add, Nat.zero_le, true_and] at hs hz ⊢
  split_ifs <;> first | omega | linarith | (have := hz (by omega); linarith)

theorem av_tile768 (d : Data) : av8 d = d.dvT 0 1024 := by
  funext i l
  have hs := d.dvT_split 0 768 256 i l
  have hz := fun h => d.dvT_zero (c := 768) (n := 256) (k := i) l h
  simp only [av8, av7, Data.upd, av_tile512]
  simp only [Nat.reduceAdd, Nat.zero_add, Nat.zero_le, true_and] at hs hz ⊢
  split_ifs <;> first | omega | linarith | (have := hz (by omega); linarith)

theorem ak_tile1024 (d : Data) : ak10 d = d.dkT 0 1280 := by
  funext i l
  have hs := d.dkT_split 0 1024 256 i l
  have hz := fun h => d.dkT_zero (c := 1024) (n := 256) (k := i) l h
  simp only [ak10, ak9, Data.upd, ak_tile768]
  simp only [Nat.reduceAdd, Nat.zero_add, Nat.zero_le, true_and] at hs hz ⊢
  split_ifs <;> first | omega | linarith | (have := hz (by omega); linarith)

theorem av_tile1024 (d : Data) : av10 d = d.dvT 0 1280 := by
  funext i l
  have hs := d.dvT_split 0 1024 256 i l
  have hz := fun h => d.dvT_zero (c := 1024) (n := 256) (k := i) l h
  simp only [av10, av9, Data.upd, av_tile768]
  simp only [Nat.reduceAdd, Nat.zero_add, Nat.zero_le, true_and] at hs hz ⊢
  split_ifs <;> first | omega | linarith | (have := hz (by omega); linarith)

theorem ak_tile1280 (d : Data) : ak13 d = d.dkT 0 1536 := by
  funext i l
  have hs := d.dkT_split 0 1280 256 i l
  have hz := fun h => d.dkT_zero (c := 1280) (n := 256) (k := i) l h
  simp only [ak13, ak12, ak11, Data.upd, ak_tile1024]
  simp only [Nat.reduceAdd, Nat.zero_add, Nat.zero_le, true_and] at hs hz ⊢
  split_ifs <;> first | omega | linarith | (have := hz (by omega); linarith)

theorem av_tile1280 (d : Data) : av13 d = d.dvT 0 1536 := by
  funext i l
  have hs := d.dvT_split 0 1280 256 i l
  have hz := fun h => d.dvT_zero (c := 1280) (n := 256) (k := i) l h
  simp only [av13, av12, av11, Data.upd, av_tile1024]
  simp only [Nat.reduceAdd, Nat.zero_add, Nat.zero_le, true_and] at hs hz ⊢
  split_ifs <;> first | omega | linarith | (have := hz (by omega); linarith)

theorem ak_tile1536 (d : Data) : ak16 d = d.dkT 0 1792 := by
  funext i l
  have hs := d.dkT_split 0 1536 256 i l
  have hz := fun h => d.dkT_zero (c := 1536) (n := 256) (k := i) l h
  simp only [ak16, ak15, ak14, Data.upd, ak_tile1280]
  simp only [Nat.reduceAdd, Nat.zero_add, Nat.zero_le, true_and] at hs hz ⊢
  split_ifs <;> first | omega | linarith | (have := hz (by omega); linarith)

theorem av_tile1536 (d : Data) : av16 d = d.dvT 0 1792 := by
  funext i l
  have hs := d.dvT_split 0 1536 256 i l
  have hz := fun h => d.dvT_zero (c := 1536) (n := 256) (k := i) l h
  simp only [av16, av15, av14, Data.upd, av_tile1280]
  simp only [Nat.reduceAdd, Nat.zero_add, Nat.zero_le, true_and] at hs hz ⊢
  split_ifs <;> first | omega | linarith | (have := hz (by omega); linarith)

theorem ak_tile1792 (d : Data) : ak19 d = d.dkT 0 2048 := by
  funext i l
  have hs := d.dkT_split 0 1792 256 i l
  have hz := fun h => d.dkT_zero (c := 1792) (n := 256) (k := i) l h
  simp only [ak19, ak18, ak17, Data.upd, ak_tile1536]
  simp only [Nat.reduceAdd, Nat.zero_add, Nat.zero_le, true_and] at hs hz ⊢
  split_ifs <;> first | omega | linarith | (have := hz (by omega); linarith)

theorem av_tile1792 (d : Data) : av19 d = d.dvT 0 2048 := by
  funext i l
  have hs := d.dvT_split 0 1792 256 i l
  have hz := fun h => d.dvT_zero (c := 1792) (n := 256) (k := i) l h
  simp only [av19, av18, av17, Data.upd, av_tile1536]
  simp only [Nat.reduceAdd, Nat.zero_add, Nat.zero_le, true_and] at hs hz ⊢
  split_ifs <;> first | omega | linarith | (have := hz (by omega); linarith)

theorem ak_tile2048 (d : Data) : ak22 d = d.dkT 0 2176 := by
  funext i l
  have hs := d.dkT_split 0 2048 128 i l
  have hz := fun h => d.dkT_zero (c := 2048) (n := 128) (k := i) l h
  simp only [ak22, ak21, ak20, Data.upd, ak_tile1792]
  simp only [Nat.reduceAdd, Nat.zero_add, Nat.zero_le, true_and] at hs hz ⊢
  split_ifs <;> first | omega | linarith | (have := hz (by omega); linarith)

theorem av_tile2048 (d : Data) : av22 d = d.dvT 0 2176 := by
  funext i l
  have hs := d.dvT_split 0 2048 128 i l
  have hz := fun h => d.dvT_zero (c := 2048) (n := 128) (k := i) l h
  simp only [av22, av21, av20, Data.upd, av_tile1792]
  simp only [Nat.reduceAdd, Nat.zero_add, Nat.zero_le, true_and] at hs hz ⊢
  split_ifs <;> first | omega | linarith | (have := hz (by omega); linarith)

variable {d : Data} (H : Blocks d x0 x1 x2 x3 x4 x5 x6 x7 x8)
include H

theorem r_is : Is (r c b3 k3 b4 k4 x1 x2) (fun i j => d.K i j) :=
  (pay3_is (Is.load0_bf16 H.x1) (Is.load0_bf16 H.x2))

theorem r_2_is : Is (r_2 c b8 k8 x6) (fun i j => d.L j) :=
  (pay5_is (Is.load0_f32 H.x6))

theorem r_3_is : Is (r_3 c b6 k6 b7 k7 x4 x5) (fun i j => d.DO i j * d.O i j) :=
  (pay7_is d (Is.load0_bf16 H.x4) (Is.load0_bf16 H.x5))

theorem r_8_is : Is (r_8 c b2 k2 b3 k3 b4 k4 b5 k5 b6 k6 b7 k7 b8 k8 b17 x0 x1 x2 x3 x4 x5 x6) (fun i j => ((fun _ _ => (0 : ℝ)) (0 + i) j) + (d.dkT 0 256 (0 + i) j)) :=
  (pay13_is d (r_is H) (r_2_is H) (r_3_is H) (Is.load_bf16 0 H.x0) (Is.load_bf16 0 H.x4) (Is.load_bf16 0 H.x3) v73_is)

theorem HS0_2_is: IsC (HS0_2 c b2 k2 b3 k3 b4 k4 b5 k5 b6 k6 b7 k7 b8 k8 b17 x0 x1 x2 x3 x4 x5 x6) (ak2 d) :=
  IsC.store (g := fun i j => (fun _ _ => (0 : ℝ)) i j + d.dkT 0 256 i j) 0 HS0_1_is (pay14_is d (r_8_is H))

theorem r_9_is : Is (r_9 c b2 k2 x0) (fun i j => d.Q (256 + i) j) :=
  (pay21_is d (Is.load_bf16 256 H.x0))

theorem r_10_is : Is (r_10 c b6 k6 x4) (fun i j => d.DO (256 + i) j) :=
  (Is.load_bf16 256 H.x4)

theorem r_11_is : Is (r_11 c b8 k8 x6) (fun i j => d.L (256 + j)) :=
  (pay22_is d (r_2_is H))

theorem r_4_is : Is (r_4 c b6 k6 b7 k7 x4 x5) (fun i j => d.D j) :=
  (pay8_is (r_3_is H))

theorem r_12_is : Is (r_12 c b6 k6 b7 k7 x4 x5) (fun i j => d.D (256 + j)) :=
  (pay23_is d (r_4_is H))

theorem r_13_is : Is (r_13 c b2 k2 b3 k3 b4 k4 x0 x1 x2) (fun i j => d.sr (0 + i) (256 + j)) :=
  (pay25_is d (r_is H) (Is.load_bf16 256 H.x0))

theorem v124_is : Is (v124 c b2 k2 b3 k3 b4 k4 b5 k5 b6 k6 b7 k7 b8 k8 b17 x0 x1 x2 x3 x4 x5 x6) (fun i j => (ak2 d) (0 + i) j) :=
  IsC.loadR 0 (HS0_2_is H)

theorem HS0_3_is: IsC (HS0_3 c b2 k2 b3 k3 b4 k4 b5 k5 b6 k6 b7 k7 b8 k8 b17 x0 x1 x2 x3 x4 x5 x6) (ak3 d) :=
  IsC.store (g := fun i j => (ak2 d) i j + d.dkT 256 256 i j) 0 (HS0_2_is H) (pay28_is d (r_9_is H) (r_10_is H) (r_11_is H) (r_12_is H) (r_13_is H) (Is.load_bf16 0 H.x3) (v124_is H))

theorem r_15_is : IsM (r_15 c b2 k2 b3 k3 b4 k4 x0 x1 x2) (fun i j => (d.sr (256 + i) (256 + j)) * scale) :=
  (pay31_is d (r_is H) (r_9_is H))

theorem v161_is : Is (v161 c b2 k2 b3 k3 b4 k4 b5 k5 b6 k6 b7 k7 b8 k8 b17 x0 x1 x2 x3 x4 x5 x6) (fun i j => (ak3 d) (256 + i) j) :=
  IsC.loadR 256 (HS0_3_is H)

theorem HS0_4_is: IsC (HS0_4 c b2 k2 b3 k3 b4 k4 b5 k5 b6 k6 b7 k7 b8 k8 b17 x0 x1 x2 x3 x4 x5 x6) (ak4 d) :=
  IsC.store (g := fun i j => (ak3 d) i j + d.dkT 256 256 i j) 256 (HS0_3_is H) (pay34_is d (r_9_is H) (r_10_is H) (r_11_is H) (r_12_is H) (r_15_is H) (Is.load_bf16 256 H.x3) (v161_is H))

theorem v212_is : Is (v212 c b2 k2 b3 k3 b4 k4 b5 k5 b6 k6 b7 k7 b8 k8 b17 x0 x1 x2 x3 x4 x5 x6) (fun i j => (ak4 d) (0 + i) j) :=
  IsC.loadR 0 (HS0_4_is H)

theorem HS0_5_is: IsC (HS0_5 c b2 k2 b3 k3 b4 k4 b5 k5 b6 k6 b7 k7 b8 k8 b17 x0 x1 x2 x3 x4 x5 x6) (ak5 d) :=
  IsC.store (g := fun i j => (ak4 d) i j + d.dkT 512 256 i j) 0 (HS0_4_is H) (pay47_is d (r_is H) (r_2_is H) (r_4_is H) (Is.load_bf16 512 H.x0) (Is.load_bf16 512 H.x4) (Is.load_bf16 0 H.x3) (v212_is H))

theorem r_18_is : Is (r_18 c b2 k2 x0) (fun i j => d.Q (512 + i) j) :=
  (pay41_is d (Is.load_bf16 512 H.x0))

theorem r_19_is : Is (r_19 c b6 k6 x4) (fun i j => d.DO (512 + i) j) :=
  (Is.load_bf16 512 H.x4)

theorem r_20_is : Is (r_20 c b8 k8 x6) (fun i j => d.L (512 + j)) :=
  (pay42_is d (r_2_is H))

theorem r_21_is : Is (r_21 c b6 k6 b7 k7 x4 x5) (fun i j => d.D (512 + j)) :=
  (pay43_is d (r_4_is H))

theorem v249_is : Is (v249 c b2 k2 b3 k3 b4 k4 b5 k5 b6 k6 b7 k7 b8 k8 b17 x0 x1 x2 x3 x4 x5 x6) (fun i j => (ak5 d) (512 + i) j) :=
  IsC.loadR 512 (HS0_5_is H)

theorem HS0_6_is: IsC (HS0_6 c b2 k2 b3 k3 b4 k4 b5 k5 b6 k6 b7 k7 b8 k8 b17 x0 x1 x2 x3 x4 x5 x6) (ak6 d) :=
  IsC.store (g := fun i j => (ak5 d) i j + d.dkT 512 256 i j) 512 (HS0_5_is H) (pay53_is d (r_is H) (r_18_is H) (r_19_is H) (r_20_is H) (r_21_is H) (Is.load_bf16 512 H.x3) (v249_is H))

theorem r_27_is : Is (r_27 c b2 k2 x0) (fun i j => d.Q (768 + i) j) :=
  (pay61_is d (Is.load_bf16 768 H.x0))

theorem r_28_is : Is (r_28 c b6 k6 x4) (fun i j => d.DO (768 + i) j) :=
  (Is.load_bf16 768 H.x4)

theorem r_30_is : Is (r_30 c b6 k6 b7 k7 x4 x5) (fun i j => d.D (768 + j)) :=
  (pay63_is d (r_4_is H))

theorem r_31_is : Is (r_31 c b2 k2 b3 k3 b4 k4 b8 k8 x0 x1 x2 x6) (fun i j => d.pr (0 + i) (768 + j)) :=
  (pay65_is d (r_is H) (r_2_is H) (Is.load_bf16 768 H.x0))

theorem r_32_is : Is (r_32 c b5 k5 x3) (fun i j => d.V (0 + i) j) :=
  (pay66_is d (Is.load_bf16 0 H.x3))

theorem v300_is : Is (v300 c b2 k2 b3 k3 b4 k4 b5 k5 b6 k6 b7 k7 b8 k8 b17 x0 x1 x2 x3 x4 x5 x6) (fun i j => (ak6 d) (0 + i) j) :=
  IsC.loadR 0 (HS0_6_is H)

theorem HS0_7_is: IsC (HS0_7 c b2 k2 b3 k3 b4 k4 b5 k5 b6 k6 b7 k7 b8 k8 b17 x0 x1 x2 x3 x4 x5 x6) (ak7 d) :=
  IsC.store (g := fun i j => (ak6 d) i j + d.dkT 768 256 i j) 0 (HS0_6_is H) (pay68_is d (r_27_is H) (r_28_is H) (r_30_is H) (r_31_is H) (r_32_is H) (v300_is H))

theorem r_29_is : Is (r_29 c b8 k8 x6) (fun i j => d.L (768 + j)) :=
  (pay62_is d (r_2_is H))

theorem r_34_is : Is (r_34 c b2 k2 b3 k3 b4 k4 b8 k8 x0 x1 x2 x6) (fun i j => d.pr (768 + i) (768 + j)) :=
  (pay71_is d (r_is H) (r_27_is H) (r_29_is H))

theorem r_35_is : Is (r_35 c b5 k5 b6 k6 x3 x4) (fun i j => d.dp (768 + i) (768 + j)) :=
  (pay72_is d (r_28_is H) (Is.load_bf16 768 H.x3))

theorem r_36_is : Is (r_36 c b6 k6 b7 k7 x4 x5) (fun i j => d.D (768 + j)) :=
  (pay73_is d (r_30_is H))

theorem v337_is : Is (v337 c b2 k2 b3 k3 b4 k4 b5 k5 b6 k6 b7 k7 b8 k8 b17 x0 x1 x2 x3 x4 x5 x6) (fun i j => (ak7 d) (768 + i) j) :=
  IsC.loadR 768 (HS0_7_is H)

theorem HS0_8_is: IsC (HS0_8 c b2 k2 b3 k3 b4 k4 b5 k5 b6 k6 b7 k7 b8 k8 b17 x0 x1 x2 x3 x4 x5 x6) (ak8 d) :=
  IsC.store (g := fun i j => (ak7 d) i j + d.dkT 768 256 i j) 768 (HS0_7_is H) (pay75_is d (r_27_is H) (r_34_is H) (r_35_is H) (r_36_is H) (v337_is H))

theorem v388_is : Is (v388 c b2 k2 b3 k3 b4 k4 b5 k5 b6 k6 b7 k7 b8 k8 b17 x0 x1 x2 x3 x4 x5 x6) (fun i j => (ak8 d) (0 + i) j) :=
  IsC.loadR 0 (HS0_8_is H)

theorem HS0_9_is: IsC (HS0_9 c b2 k2 b3 k3 b4 k4 b5 k5 b6 k6 b7 k7 b8 k8 b17 x0 x1 x2 x3 x4 x5 x6) (ak9 d) :=
  IsC.store (g := fun i j => (ak8 d) i j + d.dkT 1024 256 i j) 0 (HS0_8_is H) (pay88_is d (r_is H) (r_2_is H) (r_4_is H) (Is.load_bf16 1024 H.x0) (Is.load_bf16 1024 H.x4) (Is.load_bf16 0 H.x3) (v388_is H))

theorem r_5_is : Is (r_5 c b6 k6 x4) (fun i j => d.DO (0 + i) j) :=
  (Is.load_bf16 0 H.x4)

theorem r_6_is : Is (r_6 c b2 k2 b3 k3 b4 k4 b8 k8 x0 x1 x2 x6) (fun i j => d.pr (0 + i) (0 + j)) :=
  (pay11_is d (r_is H) (r_2_is H) (Is.load_bf16 0 H.x0))

theorem HS1_2_is: IsC (HS1_2 c b2 k2 b3 k3 b4 k4 b6 k6 b8 k8 b18 x0 x1 x2 x4 x6) (av2 d) :=
  IsC.store (g := fun i j => (fun _ _ => (0 : ℝ)) i j + d.dvT 0 256 i j) 0 HS1_1_is (pay15_is d (r_5_is H) (r_6_is H) v79_is)

theorem v130_is : Is (v130 c b2 k2 b3 k3 b4 k4 b6 k6 b8 k8 b18 x0 x1 x2 x4 x6) (fun i j => (av2 d) (0 + i) j) :=
  IsC.loadR 0 (HS1_2_is H)

theorem HS1_3_is: IsC (HS1_3 c b2 k2 b3 k3 b4 k4 b6 k6 b8 k8 b18 x0 x1 x2 x4 x6) (av3 d) :=
  IsC.store (g := fun i j => (av2 d) i j + d.dvT 256 256 i j) 0 (HS1_2_is H) (pay29_is d (r_10_is H) (r_11_is H) (r_13_is H) (v130_is H))

theorem v167_is : Is (v167 c b2 k2 b3 k3 b4 k4 b6 k6 b8 k8 b18 x0 x1 x2 x4 x6) (fun i j => (av3 d) (256 + i) j) :=
  IsC.loadR 256 (HS1_3_is H)

theorem HS1_4_is: IsC (HS1_4 c b2 k2 b3 k3 b4 k4 b6 k6 b8 k8 b18 x0 x1 x2 x4 x6) (av4 d) :=
  IsC.store (g := fun i j => (av3 d) i j + d.dvT 256 256 i j) 256 (HS1_3_is H) (pay35_is d (r_10_is H) (r_11_is H) (r_15_is H) (v167_is H))

theorem v218_is : Is (v218 c b2 k2 b3 k3 b4 k4 b6 k6 b8 k8 b18 x0 x1 x2 x4 x6) (fun i j => (av4 d) (0 + i) j) :=
  IsC.loadR 0 (HS1_4_is H)

theorem r_23_is : Is (r_23 c b2 k2 b3 k3 b4 k4 b8 k8 x0 x1 x2 x6) (fun i j => d.pr (0 + i) (512 + j)) :=
  (pay48_is d (r_is H) (r_2_is H) (Is.load_bf16 512 H.x0))

theorem HS1_5_is: IsC (HS1_5 c b2 k2 b3 k3 b4 k4 b6 k6 b8 k8 b18 x0 x1 x2 x4 x6) (av5 d) :=
  IsC.store (g := fun i j => (av4 d) i j + d.dvT 512 256 i j) 0 (HS1_4_is H) (pay49_is d (r_19_is H) (v218_is H) (r_23_is H))

theorem v255_is : Is (v255 c b2 k2 b3 k3 b4 k4 b6 k6 b8 k8 b18 x0 x1 x2 x4 x6) (fun i j => (av5 d) (512 + i) j) :=
  IsC.loadR 512 (HS1_5_is H)

theorem r_26_is : Is (r_26 c b2 k2 b3 k3 b4 k4 b6 k6 b8 k8 b18 x0 x1 x2 x4 x6) (fun i j => ((av5 d) (512 + i) j) + (d.dvT 512 256 (512 + i) j)) :=
  (pay54_is d (r_is H) (r_18_is H) (r_19_is H) (r_20_is H) (v255_is H))

theorem HS1_6_is: IsC (HS1_6 c b2 k2 b3 k3 b4 k4 b6 k6 b8 k8 b18 x0 x1 x2 x4 x6) (av6 d) :=
  IsC.store (g := fun i j => (av5 d) i j + d.dvT 512 256 i j) 512 (HS1_5_is H) (pay55_is d (r_26_is H))

theorem v306_is : Is (v306 c b2 k2 b3 k3 b4 k4 b6 k6 b8 k8 b18 x0 x1 x2 x4 x6) (fun i j => (av6 d) (0 + i) j) :=
  IsC.loadR 0 (HS1_6_is H)

theorem HS1_7_is: IsC (HS1_7 c b2 k2 b3 k3 b4 k4 b6 k6 b8 k8 b18 x0 x1 x2 x4 x6) (av7 d) :=
  IsC.store (g := fun i j => (av6 d) i j + d.dvT 768 256 i j) 0 (HS1_6_is H) (pay69_is d (r_28_is H) (r_31_is H) (v306_is H))

theorem v343_is : Is (v343 c b2 k2 b3 k3 b4 k4 b6 k6 b8 k8 b18 x0 x1 x2 x4 x6) (fun i j => (av7 d) (768 + i) j) :=
  IsC.loadR 768 (HS1_7_is H)

theorem HS1_8_is: IsC (HS1_8 c b2 k2 b3 k3 b4 k4 b6 k6 b8 k8 b18 x0 x1 x2 x4 x6) (av8 d) :=
  IsC.store (g := fun i j => (av7 d) i j + d.dvT 768 256 i j) 768 (HS1_7_is H) (pay76_is d (r_28_is H) (r_34_is H) (v343_is H))

theorem v394_is : Is (v394 c b2 k2 b3 k3 b4 k4 b6 k6 b8 k8 b18 x0 x1 x2 x4 x6) (fun i j => (av8 d) (0 + i) j) :=
  IsC.loadR 0 (HS1_8_is H)

theorem HS1_9_is: IsC (HS1_9 c b2 k2 b3 k3 b4 k4 b6 k6 b8 k8 b18 x0 x1 x2 x4 x6) (av9 d) :=
  IsC.store (g := fun i j => (av8 d) i j + d.dvT 1024 256 i j) 0 (HS1_8_is H) (pay89_is d (r_is H) (r_2_is H) (Is.load_bf16 1024 H.x0) (Is.load_bf16 1024 H.x4) (v394_is H))

theorem r_38_is : Is (r_38 c b2 k2 x0) (fun i j => d.Q (1024 + i) j) :=
  (pay82_is d (Is.load_bf16 1024 H.x0))

theorem r_39_is : Is (r_39 c b6 k6 x4) (fun i j => d.DO (1024 + i) j) :=
  (Is.load_bf16 1024 H.x4)

theorem r_40_is : Is (r_40 c b8 k8 x6) (fun i j => d.L (1024 + j)) :=
  (pay83_is d (r_2_is H))

theorem r_41_is : Is (r_41 c b6 k6 b7 k7 x4 x5) (fun i j => d.D (1024 + j)) :=
  (pay84_is d (r_4_is H))

theorem v425_is : Is (v425 c b2 k2 b3 k3 b4 k4 b5 k5 b6 k6 b7 k7 b8 k8 b17 x0 x1 x2 x3 x4 x5 x6) (fun i j => (ak9 d) (1024 + i) j) :=
  IsC.loadR 1024 (HS0_9_is H)

theorem HS0_10_is: IsC (HS0_10 c b2 k2 b3 k3 b4 k4 b5 k5 b6 k6 b7 k7 b8 k8 b17 x0 x1 x2 x3 x4 x5 x6) (ak10 d) :=
  IsC.store (g := fun i j => (ak9 d) i j + d.dkT 1024 256 i j) 1024 (HS0_9_is H) (pay93_is d (r_is H) (r_38_is H) (r_39_is H) (r_40_is H) (r_41_is H) (Is.load_bf16 1024 H.x3) (v425_is H))

theorem r_45_is : Is (r_45 c b2 k2 x0) (fun i j => d.Q (1280 + i) j) :=
  (pay101_is d (Is.load_bf16 1280 H.x0))

theorem r_50_is : Is (r_50 c b2 k2 b3 k3 b4 k4 b5 k5 b6 k6 b7 k7 b8 k8 x0 x1 x2 x3 x4 x5 x6) (fun i j => d.ds (0 + i) (1280 + j)) :=
  (pay106_is d (r_is H) (r_2_is H) (r_4_is H) (Is.load_bf16 1280 H.x0) (Is.load_bf16 1280 H.x4) (Is.load_bf16 0 H.x3))

theorem v476_is : Is (v476 c b2 k2 b3 k3 b4 k4 b5 k5 b6 k6 b7 k7 b8 k8 b17 x0 x1 x2 x3 x4 x5 x6) (fun i j => (ak10 d) (0 + i) j) :=
  IsC.loadR 0 (HS0_10_is H)

theorem HS0_11_is: IsC (HS0_11 c b2 k2 b3 k3 b4 k4 b5 k5 b6 k6 b7 k7 b8 k8 b17 x0 x1 x2 x3 x4 x5 x6) (ak11 d) :=
  IsC.store (g := fun i j => (ak10 d) i j + d.dkT 1280 256 i j) 0 (HS0_10_is H) (pay107_is d (r_45_is H) (r_50_is H) (v476_is H))

theorem r_46_is : Is (r_46 c b6 k6 x4) (fun i j => d.DO (1280 + i) j) :=
  (Is.load_bf16 1280 H.x4)

theorem r_47_is : Is (r_47 c b8 k8 x6) (fun i j => d.L (1280 + j)) :=
  (pay102_is d (r_2_is H))

theorem r_48_is : Is (r_48 c b6 k6 b7 k7 x4 x5) (fun i j => d.D (1280 + j)) :=
  (pay103_is d (r_4_is H))

theorem v508_is : Is (v508 c b2 k2 b3 k3 b4 k4 b5 k5 b6 k6 b7 k7 b8 k8 b17 x0 x1 x2 x3 x4 x5 x6) (fun i j => (ak11 d) (1024 + i) j) :=
  IsC.loadR 1024 (HS0_11_is H)

theorem r_54_is : Is (r_54 c b2 k2 b3 k3 b4 k4 b5 k5 b6 k6 b7 k7 b8 k8 b17 x0 x1 x2 x3 x4 x5 x6) (fun i j => ((ak11 d) (1024 + i) j) + (d.dkT 1280 256 (1024 + i) j)) :=
  (pay112_is d (r_is H) (r_45_is H) (r_46_is H) (r_47_is H) (r_48_is H) (Is.load_bf16 1024 H.x3) (v508_is H))

theorem HS0_12_is: IsC (HS0_12 c b2 k2 b3 k3 b4 k4 b5 k5 b6 k6 b7 k7 b8 k8 b17 x0 x1 x2 x3 x4 x5 x6) (ak12 d) :=
  IsC.store (g := fun i j => (ak11 d) i j + d.dkT 1280 256 i j) 1024 (HS0_11_is H) (pay113_is d (r_54_is H))

theorem v545_is : Is (v545 c b2 k2 b3 k3 b4 k4 b5 k5 b6 k6 b7 k7 b8 k8 b17 x0 x1 x2 x3 x4 x5 x6) (fun i j => (ak12 d) (1280 + i) j) :=
  IsC.loadR 1280 (HS0_12_is H)

theorem HS0_13_is: IsC (HS0_13 c b2 k2 b3 k3 b4 k4 b5 k5 b6 k6 b7 k7 b8 k8 b17 x0 x1 x2 x3 x4 x5 x6) (ak13 d) :=
  IsC.store (g := fun i j => (ak12 d) i j + d.dkT 1280 256 i j) 1280 (HS0_12_is H) (pay118_is d (r_is H) (r_45_is H) (r_46_is H) (r_47_is H) (r_48_is H) (Is.load_bf16 1280 H.x3) (v545_is H))

theorem r_58_is : Is (r_58 c b2 k2 x0) (fun i j => d.Q (1536 + i) j) :=
  (pay125_is d (Is.load_bf16 1536 H.x0))

theorem r_59_is : Is (r_59 c b6 k6 x4) (fun i j => d.DO (1536 + i) j) :=
  (Is.load_bf16 1536 H.x4)

theorem r_61_is : Is (r_61 c b6 k6 b7 k7 x4 x5) (fun i j => d.D (1536 + j)) :=
  (pay127_is d (r_4_is H))

theorem r_62_is : Is (r_62 c b2 k2 b3 k3 b4 k4 x0 x1 x2) (fun i j => (d.sr (0 + i) (1536 + j)) * scale) :=
  (pay129_is d (r_is H) (Is.load_bf16 1536 H.x0))

theorem r_63_is : Is (r_63 c b8 k8 x6) (fun i j => d.L (1536 + j)) :=
  (pay130_is d (r_2_is H))

theorem v596_is : Is (v596 c b2 k2 b3 k3 b4 k4 b5 k5 b6 k6 b7 k7 b8 k8 b17 x0 x1 x2 x3 x4 x5 x6) (fun i j => (ak13 d) (0 + i) j) :=
  IsC.loadR 0 (HS0_13_is H)

theorem HS0_14_is: IsC (HS0_14 c b2 k2 b3 k3 b4 k4 b5 k5 b6 k6 b7 k7 b8 k8 b17 x0 x1 x2 x3 x4 x5 x6) (ak14 d) :=
  IsC.store (g := fun i j => (ak13 d) i j + d.dkT 1536 256 i j) 0 (HS0_13_is H) (pay133_is d (r_58_is H) (r_59_is H) (r_61_is H) (r_62_is H) (r_63_is H) (Is.load_bf16 0 H.x3) (v596_is H))

theorem r_60_is : Is (r_60 c b8 k8 x6) (fun i j => d.L (1536 + j)) :=
  (pay126_is d (r_2_is H))

theorem r_65_is : Is (r_65 c b2 k2 b3 k3 b4 k4 b8 k8 x0 x1 x2 x6) (fun i j => d.pr (1024 + i) (1536 + j)) :=
  (pay136_is d (r_is H) (r_58_is H) (r_60_is H))

theorem r_66_is : Is (r_66 c b5 k5 b6 k6 x3 x4) (fun i j => d.dp (1024 + i) (1536 + j)) :=
  (pay137_is d (r_59_is H) (Is.load_bf16 1024 H.x3))

theorem r_67_is : Is (r_67 c b6 k6 b7 k7 x4 x5) (fun i j => d.D (1536 + j)) :=
  (pay138_is d (r_61_is H))

theorem v628_is : Is (v628 c b2 k2 b3 k3 b4 k4 b5 k5 b6 k6 b7 k7 b8 k8 b17 x0 x1 x2 x3 x4 x5 x6) (fun i j => (ak14 d) (1024 + i) j) :=
  IsC.loadR 1024 (HS0_14_is H)

theorem HS0_15_is: IsC (HS0_15 c b2 k2 b3 k3 b4 k4 b5 k5 b6 k6 b7 k7 b8 k8 b17 x0 x1 x2 x3 x4 x5 x6) (ak15 d) :=
  IsC.store (g := fun i j => (ak14 d) i j + d.dkT 1536 256 i j) 1024 (HS0_14_is H) (pay140_is d (r_58_is H) (r_65_is H) (r_66_is H) (r_67_is H) (v628_is H))

theorem r_70_is : Is (r_70 c b2 k2 b3 k3 b4 k4 b5 k5 b6 k6 b7 k7 b8 k8 x0 x1 x2 x3 x4 x5 x6) (fun i j => (d.pr (1536 + i) (1536 + j)) * ((d.dp (1536 + i) (1536 + j)) - (d.D (1536 + j)))) :=
  (pay144_is d (r_is H) (r_58_is H) (r_59_is H) (r_60_is H) (r_61_is H) (Is.load_bf16 1536 H.x3))

theorem v665_is : Is (v665 c b2 k2 b3 k3 b4 k4 b5 k5 b6 k6 b7 k7 b8 k8 b17 x0 x1 x2 x3 x4 x5 x6) (fun i j => (ak15 d) (1536 + i) j) :=
  IsC.loadR 1536 (HS0_15_is H)

theorem HS0_16_is: IsC (HS0_16 c b2 k2 b3 k3 b4 k4 b5 k5 b6 k6 b7 k7 b8 k8 b17 x0 x1 x2 x3 x4 x5 x6) (ak16 d) :=
  IsC.store (g := fun i j => (ak15 d) i j + d.dkT 1536 256 i j) 1536 (HS0_15_is H) (pay146_is d (r_58_is H) (r_70_is H) (v665_is H))

theorem v716_is : Is (v716 c b2 k2 b3 k3 b4 k4 b5 k5 b6 k6 b7 k7 b8 k8 b17 x0 x1 x2 x3 x4 x5 x6) (fun i j => (ak16 d) (0 + i) j) :=
  IsC.loadR 0 (HS0_16_is H)

theorem HS0_17_is: IsC (HS0_17 c b2 k2 b3 k3 b4 k4 b5 k5 b6 k6 b7 k7 b8 k8 b17 x0 x1 x2 x3 x4 x5 x6) (ak17 d) :=
  IsC.store (g := fun i j => (ak16 d) i j + d.dkT 1792 256 i j) 0 (HS0_16_is H) (pay158_is d (r_is H) (r_2_is H) (r_4_is H) (Is.load_bf16 1792 H.x0) (Is.load_bf16 1792 H.x4) (Is.load_bf16 0 H.x3) (v716_is H))

theorem r_71_is : Is (r_71 c b2 k2 x0) (fun i j => d.Q (1792 + i) j) :=
  (pay153_is d (Is.load_bf16 1792 H.x0))

theorem r_72_is : Is (r_72 c b6 k6 x4) (fun i j => d.DO (1792 + i) j) :=
  (Is.load_bf16 1792 H.x4)

theorem r_73_is : Is (r_73 c b8 k8 x6) (fun i j => d.L (1792 + j)) :=
  (pay154_is d (r_2_is H))

theorem r_74_is : Is (r_74 c b6 k6 b7 k7 x4 x5) (fun i j => d.D (1792 + j)) :=
  (pay155_is d (r_4_is H))

theorem v748_is : Is (v748 c b2 k2 b3 k3 b4 k4 b5 k5 b6 k6 b7 k7 b8 k8 b17 x0 x1 x2 x3 x4 x5 x6) (fun i j => (ak17 d) (1024 + i) j) :=
  IsC.loadR 1024 (HS0_17_is H)

theorem HS0_18_is: IsC (HS0_18 c b2 k2 b3 k3 b4 k4 b5 k5 b6 k6 b7 k7 b8 k8 b17 x0 x1 x2 x3 x4 x5 x6) (ak18 d) :=
  IsC.store (g := fun i j => (ak17 d) i j + d.dkT 1792 256 i j) 1024 (HS0_17_is H) (pay163_is d (r_is H) (r_71_is H) (r_72_is H) (r_73_is H) (r_74_is H) (Is.load_bf16 1024 H.x3) (v748_is H))

theorem r_77_is : Is (r_77 c b2 k2 b3 k3 b4 k4 x0 x1 x2) (fun i j => (d.sr (1792 + i) (1792 + j)) * scale) :=
  (pay166_is d (r_is H) (r_71_is H))

theorem v785_is : Is (v785 c b2 k2 b3 k3 b4 k4 b5 k5 b6 k6 b7 k7 b8 k8 b17 x0 x1 x2 x3 x4 x5 x6) (fun i j => (ak18 d) (1792 + i) j) :=
  IsC.loadR 1792 (HS0_18_is H)

theorem HS0_19_is: IsC (HS0_19 c b2 k2 b3 k3 b4 k4 b5 k5 b6 k6 b7 k7 b8 k8 b17 x0 x1 x2 x3 x4 x5 x6) (ak19 d) :=
  IsC.store (g := fun i j => (ak18 d) i j + d.dkT 1792 256 i j) 1792 (HS0_18_is H) (pay170_is d (r_71_is H) (r_72_is H) (r_73_is H) (r_74_is H) (r_77_is H) (Is.load_bf16 1792 H.x3) (v785_is H))

theorem v836_is : Is (v836 c b2 k2 b3 k3 b4 k4 b5 k5 b6 k6 b7 k7 b8 k8 b17 x0 x1 x2 x3 x4 x5 x6) (fun i j => (ak19 d) (0 + i) j) :=
  IsC.loadR 0 (HS0_19_is H)

theorem HS0_20_is: IsC (HS0_20 c b2 k2 b3 k3 b4 k4 b5 k5 b6 k6 b7 k7 b8 k8 b17 x0 x1 x2 x3 x4 x5 x6) (ak20 d) :=
  IsC.store (g := fun i j => (ak19 d) i j + d.dkT 2048 128 i j) 0 (HS0_19_is H) (pay184_is d (r_is H) (r_2_is H) (r_4_is H) (Is.load_bf16 2048 H.x0) (Is.load_bf16 2048 H.x4) (Is.load_bf16 0 H.x3) (v836_is H))

theorem r_80_is : Is (r_80 c b2 k2 x0) (fun i j => d.Q (2048 + i) j) :=
  (pay178_is d (Is.load_bf16 2048 H.x0))

theorem r_81_is : Is (r_81 c b6 k6 x4) (fun i j => d.DO (2048 + i) j) :=
  (Is.load_bf16 2048 H.x4)

theorem r_82_is : Is (r_82 c b8 k8 x6) (fun i j => d.L (2048 + j)) :=
  (pay179_is d (r_2_is H))

theorem r_83_is : Is (r_83 c b6 k6 b7 k7 x4 x5) (fun i j => d.D (2048 + j)) :=
  (pay180_is d (r_4_is H))

theorem v868_is : Is (v868 c b2 k2 b3 k3 b4 k4 b5 k5 b6 k6 b7 k7 b8 k8 b17 x0 x1 x2 x3 x4 x5 x6) (fun i j => (ak20 d) (1024 + i) j) :=
  IsC.loadR 1024 (HS0_20_is H)

theorem HS0_21_is: IsC (HS0_21 c b2 k2 b3 k3 b4 k4 b5 k5 b6 k6 b7 k7 b8 k8 b17 x0 x1 x2 x3 x4 x5 x6) (ak21 d) :=
  IsC.store (g := fun i j => (ak20 d) i j + d.dkT 2048 128 i j) 1024 (HS0_20_is H) (pay189_is d (r_is H) (r_80_is H) (r_81_is H) (r_82_is H) (r_83_is H) (Is.load_bf16 1024 H.x3) (v868_is H))

theorem v905_is : Is (v905 c b2 k2 b3 k3 b4 k4 b5 k5 b6 k6 b7 k7 b8 k8 b17 x0 x1 x2 x3 x4 x5 x6) (fun i j => (ak21 d) (2048 + i) j) :=
  IsC.loadR 2048 (HS0_21_is H)

theorem HS0_22_is: IsC (HS0_22 c b2 k2 b3 k3 b4 k4 b5 k5 b6 k6 b7 k7 b8 k8 b17 x0 x1 x2 x3 x4 x5 x6) (ak22 d) :=
  IsC.store (g := fun i j => (ak21 d) i j + d.dkT 2048 128 i j) 2048 (HS0_21_is H) (pay195_is d (r_is H) (r_80_is H) (r_81_is H) (r_82_is H) (r_83_is H) (Is.load_bf16 2048 H.x3) (v905_is H))

theorem v431_is : Is (v431 c b2 k2 b3 k3 b4 k4 b6 k6 b8 k8 b18 x0 x1 x2 x4 x6) (fun i j => (av9 d) (1024 + i) j) :=
  IsC.loadR 1024 (HS1_9_is H)

theorem HS1_10_is: IsC (HS1_10 c b2 k2 b3 k3 b4 k4 b6 k6 b8 k8 b18 x0 x1 x2 x4 x6) (av10 d) :=
  IsC.store (g := fun i j => (av9 d) i j + d.dvT 1024 256 i j) 1024 (HS1_9_is H) (pay94_is d (r_is H) (r_38_is H) (r_39_is H) (r_40_is H) (v431_is H))

theorem r_49_is : Is (r_49 c b2 k2 b3 k3 b4 k4 b8 k8 x0 x1 x2 x6) (fun i j => d.pr (0 + i) (1280 + j)) :=
  (pay105_is d (r_is H) (r_2_is H) (Is.load_bf16 1280 H.x0))

theorem v482_is : Is (v482 c b2 k2 b3 k3 b4 k4 b6 k6 b8 k8 b18 x0 x1 x2 x4 x6) (fun i j => (av10 d) (0 + i) j) :=
  IsC.loadR 0 (HS1_10_is H)

theorem HS1_11_is: IsC (HS1_11 c b2 k2 b3 k3 b4 k4 b6 k6 b8 k8 b18 x0 x1 x2 x4 x6) (av11 d) :=
  IsC.store (g := fun i j => (av10 d) i j + d.dvT 1280 256 i j) 0 (HS1_10_is H) (pay108_is d (r_46_is H) (r_49_is H) (v482_is H))

theorem r_52_is : Is (r_52 c b2 k2 b3 k3 b4 k4 b8 k8 x0 x1 x2 x6) (fun i j => d.pr (1024 + i) (1280 + j)) :=
  (pay110_is d (r_is H) (r_45_is H) (r_47_is H))

theorem v514_is : Is (v514 c b2 k2 b3 k3 b4 k4 b6 k6 b8 k8 b18 x0 x1 x2 x4 x6) (fun i j => (av11 d) (1024 + i) j) :=
  IsC.loadR 1024 (HS1_11_is H)

theorem HS1_12_is: IsC (HS1_12 c b2 k2 b3 k3 b4 k4 b6 k6 b8 k8 b18 x0 x1 x2 x4 x6) (av12 d) :=
  IsC.store (g := fun i j => (av11 d) i j + d.dvT 1280 256 i j) 1024 (HS1_11_is H) (pay114_is d (r_46_is H) (r_52_is H) (v514_is H))

theorem r_56_is : Is (r_56 c b2 k2 b3 k3 b4 k4 b8 k8 x0 x1 x2 x6) (fun i j => d.pr (1280 + i) (1280 + j)) :=
  (pay116_is d (r_is H) (r_45_is H) (r_47_is H))

theorem v551_is : Is (v551 c b2 k2 b3 k3 b4 k4 b6 k6 b8 k8 b18 x0 x1 x2 x4 x6) (fun i j => (av12 d) (1280 + i) j) :=
  IsC.loadR 1280 (HS1_12_is H)

theorem HS1_13_is: IsC (HS1_13 c b2 k2 b3 k3 b4 k4 b6 k6 b8 k8 b18 x0 x1 x2 x4 x6) (av13 d) :=
  IsC.store (g := fun i j => (av12 d) i j + d.dvT 1280 256 i j) 1280 (HS1_12_is H) (pay119_is d (r_46_is H) (r_56_is H) (v551_is H))

theorem v602_is : Is (v602 c b2 k2 b3 k3 b4 k4 b6 k6 b8 k8 b18 x0 x1 x2 x4 x6) (fun i j => (av13 d) (0 + i) j) :=
  IsC.loadR 0 (HS1_13_is H)

theorem HS1_14_is: IsC (HS1_14 c b2 k2 b3 k3 b4 k4 b6 k6 b8 k8 b18 x0 x1 x2 x4 x6) (av14 d) :=
  IsC.store (g := fun i j => (av13 d) i j + d.dvT 1536 256 i j) 0 (HS1_13_is H) (pay134_is d (r_59_is H) (r_62_is H) (r_63_is H) (v602_is H))

theorem v634_is : Is (v634 c b2 k2 b3 k3 b4 k4 b6 k6 b8 k8 b18 x0 x1 x2 x4 x6) (fun i j => (av14 d) (1024 + i) j) :=
  IsC.loadR 1024 (HS1_14_is H)

theorem HS1_15_is: IsC (HS1_15 c b2 k2 b3 k3 b4 k4 b6 k6 b8 k8 b18 x0 x1 x2 x4 x6) (av15 d) :=
  IsC.store (g := fun i j => (av14 d) i j + d.dvT 1536 256 i j) 1024 (HS1_14_is H) (pay141_is d (r_59_is H) (r_65_is H) (v634_is H))

theorem r_69_is : Is (r_69 c b2 k2 b3 k3 b4 k4 b8 k8 x0 x1 x2 x6) (fun i j => d.pr (1536 + i) (1536 + j)) :=
  (pay143_is d (r_is H) (r_58_is H) (r_60_is H))

theorem v671_is : Is (v671 c b2 k2 b3 k3 b4 k4 b6 k6 b8 k8 b18 x0 x1 x2 x4 x6) (fun i j => (av15 d) (1536 + i) j) :=
  IsC.loadR 1536 (HS1_15_is H)

theorem HS1_16_is: IsC (HS1_16 c b2 k2 b3 k3 b4 k4 b6 k6 b8 k8 b18 x0 x1 x2 x4 x6) (av16 d) :=
  IsC.store (g := fun i j => (av15 d) i j + d.dvT 1536 256 i j) 1536 (HS1_15_is H) (pay147_is d (r_59_is H) (r_69_is H) (v671_is H))

theorem v722_is : Is (v722 c b2 k2 b3 k3 b4 k4 b6 k6 b8 k8 b18 x0 x1 x2 x4 x6) (fun i j => (av16 d) (0 + i) j) :=
  IsC.loadR 0 (HS1_16_is H)

theorem HS1_17_is: IsC (HS1_17 c b2 k2 b3 k3 b4 k4 b6 k6 b8 k8 b18 x0 x1 x2 x4 x6) (av17 d) :=
  IsC.store (g := fun i j => (av16 d) i j + d.dvT 1792 256 i j) 0 (HS1_16_is H) (pay159_is d (r_is H) (r_2_is H) (Is.load_bf16 1792 H.x0) (Is.load_bf16 1792 H.x4) (v722_is H))

theorem v754_is : Is (v754 c b2 k2 b3 k3 b4 k4 b6 k6 b8 k8 b18 x0 x1 x2 x4 x6) (fun i j => (av17 d) (1024 + i) j) :=
  IsC.loadR 1024 (HS1_17_is H)

theorem HS1_18_is: IsC (HS1_18 c b2 k2 b3 k3 b4 k4 b6 k6 b8 k8 b18 x0 x1 x2 x4 x6) (av18 d) :=
  IsC.store (g := fun i j => (av17 d) i j + d.dvT 1792 256 i j) 1024 (HS1_17_is H) (pay164_is d (r_is H) (r_71_is H) (r_72_is H) (r_73_is H) (v754_is H))

theorem v791_is : Is (v791 c b2 k2 b3 k3 b4 k4 b6 k6 b8 k8 b18 x0 x1 x2 x4 x6) (fun i j => (av18 d) (1792 + i) j) :=
  IsC.loadR 1792 (HS1_18_is H)

theorem HS1_19_is: IsC (HS1_19 c b2 k2 b3 k3 b4 k4 b6 k6 b8 k8 b18 x0 x1 x2 x4 x6) (av19 d) :=
  IsC.store (g := fun i j => (av18 d) i j + d.dvT 1792 256 i j) 1792 (HS1_18_is H) (pay171_is d (r_72_is H) (r_73_is H) (r_77_is H) (v791_is H))

theorem r_84_is : Is (r_84 c b2 k2 b3 k3 b4 k4 b8 k8 x0 x1 x2 x6) (fun i j => d.pr (0 + i) (2048 + j)) :=
  (pay182_is d (r_is H) (r_2_is H) (Is.load_bf16 2048 H.x0))

theorem v842_is : Is (v842 c b2 k2 b3 k3 b4 k4 b6 k6 b8 k8 b18 x0 x1 x2 x4 x6) (fun i j => (av19 d) (0 + i) j) :=
  IsC.loadR 0 (HS1_19_is H)

theorem HS1_20_is: IsC (HS1_20 c b2 k2 b3 k3 b4 k4 b6 k6 b8 k8 b18 x0 x1 x2 x4 x6) (av20 d) :=
  IsC.store (g := fun i j => (av19 d) i j + d.dvT 2048 128 i j) 0 (HS1_19_is H) (pay185_is d (r_81_is H) (r_84_is H) (v842_is H))

theorem v874_is : Is (v874 c b2 k2 b3 k3 b4 k4 b6 k6 b8 k8 b18 x0 x1 x2 x4 x6) (fun i j => (av20 d) (1024 + i) j) :=
  IsC.loadR 1024 (HS1_20_is H)

theorem r_88_is : Is (r_88 c b2 k2 b3 k3 b4 k4 b6 k6 b8 k8 b18 x0 x1 x2 x4 x6) (fun i j => ((av20 d) (1024 + i) j) + (d.dvT 2048 128 (1024 + i) j)) :=
  (pay190_is d (r_is H) (r_80_is H) (r_81_is H) (r_82_is H) (v874_is H))

theorem HS1_21_is: IsC (HS1_21 c b2 k2 b3 k3 b4 k4 b6 k6 b8 k8 b18 x0 x1 x2 x4 x6) (av21 d) :=
  IsC.store (g := fun i j => (av20 d) i j + d.dvT 2048 128 i j) 1024 (HS1_20_is H) (pay191_is d (r_88_is H))

theorem v911_is : Is (v911 c b2 k2 b3 k3 b4 k4 b6 k6 b8 k8 b18 x0 x1 x2 x4 x6) (fun i j => (av21 d) (2048 + i) j) :=
  IsC.loadR 2048 (HS1_21_is H)

theorem HS1_22_is: IsC (HS1_22 c b2 k2 b3 k3 b4 k4 b6 k6 b8 k8 b18 x0 x1 x2 x4 x6) (av22 d) :=
  IsC.store (g := fun i j => (av21 d) i j + d.dvT 2048 128 i j) 2048 (HS1_21_is H) (pay196_is d (r_is H) (r_80_is H) (r_81_is H) (r_82_is H) (v911_is H))

theorem r_1_is : Is (r_1 c b3 k3 b4 k4 x1 x2) (fun i j => d.K j i) :=
  (pay4_is d (Is.load0_bf16 H.x1) (Is.load0_bf16 H.x2))

theorem r_7_is : Is (r_7 c b2 k2 b3 k3 b4 k4 b5 k5 b6 k6 b7 k7 b8 k8 x0 x1 x2 x3 x4 x5 x6) (fun i j => d.ds (0 + i) (0 + j)) :=
  (pay12_is d (r_is H) (r_2_is H) (r_3_is H) (Is.load_bf16 0 H.x0) (Is.load_bf16 0 H.x4) (Is.load_bf16 0 H.x3))

theorem r_14_is : Is (r_14 c b2 k2 b3 k3 b4 k4 b5 k5 b6 k6 b7 k7 b8 k8 x0 x1 x2 x3 x4 x5 x6) (fun i j => 0 + (d.dqT 0 256 (256 + j) i)) :=
  (pay30_is d (r_1_is H) (r_10_is H) (r_11_is H) (r_12_is H) pay24_is (r_13_is H) (Is.load_bf16 0 H.x3))

theorem r_16_is : Is (r_16 c b2 k2 b3 k3 b4 k4 b5 k5 b6 k6 b7 k7 b8 k8 x0 x1 x2 x3 x4 x5 x6) (fun i j => (0 + (d.dqT 0 256 (256 + i) (128 + j))) + (d.dqT 256 256 (256 + i) (128 + j))) :=
  (pay37_is d (r_1_is H) (r_10_is H) (r_11_is H) (r_12_is H) (r_14_is H) (r_15_is H) (Is.load_bf16 256 H.x3))

theorem r_17_is : Is (r_17 c b2 k2 b3 k3 b4 k4 b5 k5 b6 k6 b7 k7 b8 k8 b9 k9 x0 x1 x2 x3 x4 x5 x6 x7) (fun i j => ((0 + (d.dqT 0 256 (256 + i) (128 + j))) + (d.dqT 256 256 (256 + i) (128 + j))) * (d.C (256 + i) j)) :=
  (pay39_is d (r_1_is H) (r_10_is H) (r_11_is H) (r_12_is H) (r_14_is H) (r_15_is H) (Is.load_bf16 256 H.x3) (Is.load_f32 256 H.x7))

theorem r_22_is : Is (r_22 c b2 k2 b3 k3 b4 k4 b5 k5 b6 k6 b7 k7 b8 k8 x0 x1 x2 x3 x4 x5 x6) (fun i j => d.ds (0 + i) (512 + j)) :=
  (pay46_is d (r_is H) (r_2_is H) (r_4_is H) (Is.load_bf16 512 H.x0) (Is.load_bf16 512 H.x4) (Is.load_bf16 0 H.x3))

theorem r_24_is : Is (r_24 c b2 k2 b3 k3 b4 k4 b5 k5 b6 k6 b7 k7 b8 k8 x0 x1 x2 x3 x4 x5 x6) (fun i j => 0 + (d.dqT 0 512 (512 + j) i)) :=
  (pay50_is d (r_1_is H) pay44_is (r_22_is H))

theorem r_25_is : Is (r_25 c b2 k2 b3 k3 b4 k4 b5 k5 b6 k6 b7 k7 b8 k8 x0 x1 x2 x3 x4 x5 x6) (fun i j => d.ds (512 + i) (512 + j)) :=
  (pay52_is d (r_is H) (r_18_is H) (r_19_is H) (r_20_is H) (r_21_is H) (Is.load_bf16 512 H.x3))

theorem r_33_is : Is (r_33 c b2 k2 b3 k3 b4 k4 b5 k5 b6 k6 b7 k7 b8 k8 x0 x1 x2 x3 x4 x5 x6) (fun i j => 0 + (d.dqT 0 768 (768 + j) i)) :=
  (pay70_is d (r_1_is H) (r_28_is H) (r_30_is H) pay64_is (r_31_is H) (r_32_is H))

theorem r_37_is : Is (r_37 c b2 k2 b3 k3 b4 k4 b5 k5 b6 k6 b7 k7 b8 k8 b10 k10 x0 x1 x2 x3 x4 x5 x6 x8) (fun i j => ((0 + (d.dqT 0 768 (768 + i) (128 + j))) + (d.dqT 768 256 (768 + i) (128 + j))) * (d.S (768 + i) j)) :=
  (pay81_is d (r_1_is H) (r_33_is H) (r_34_is H) (r_35_is H) (r_36_is H) (Is.load_f32 768 H.x8))

theorem r_42_is : Is (r_42 c b2 k2 b3 k3 b4 k4 b5 k5 b6 k6 b7 k7 b8 k8 x0 x1 x2 x3 x4 x5 x6) (fun i j => d.ds (0 + i) (1024 + j)) :=
  (pay87_is d (r_is H) (r_2_is H) (r_4_is H) (Is.load_bf16 1024 H.x0) (Is.load_bf16 1024 H.x4) (Is.load_bf16 0 H.x3))

theorem r_43_is : Is (r_43 c b3 k3 b4 k4 x1 x2) (fun i j => d.K (0 + j) i) :=
  (pay90_is d (r_1_is H))

theorem r_44_is : Is (r_44 c b2 k2 b3 k3 b4 k4 b5 k5 b6 k6 b7 k7 b8 k8 x0 x1 x2 x3 x4 x5 x6) (fun i j => (0 + (d.dqT 0 1024 (1024 + j) i)) + (d.dqT 1024 256 (1024 + j) i)) :=
  (pay95_is d (r_is H) (r_1_is H) (r_38_is H) (r_39_is H) (r_40_is H) (r_41_is H) pay85_is (r_42_is H) (r_43_is H) (Is.load_bf16 1024 H.x3))

theorem r_51_is : Is (r_51 c b2 k2 b3 k3 b4 k4 b5 k5 b6 k6 b7 k7 b8 k8 x0 x1 x2 x3 x4 x5 x6) (fun i j => 0 + (d.dqT 0 1024 (1280 + j) i)) :=
  (pay109_is d (r_1_is H) pay104_is (r_50_is H))

theorem r_53_is : Is (r_53 c b2 k2 b3 k3 b4 k4 b5 k5 b6 k6 b7 k7 b8 k8 x0 x1 x2 x3 x4 x5 x6) (fun i j => d.ds (1024 + i) (1280 + j)) :=
  (pay111_is d (r_is H) (r_45_is H) (r_46_is H) (r_47_is H) (r_48_is H) (Is.load_bf16 1024 H.x3))

theorem r_55_is : Is (r_55 c b2 k2 b3 k3 b4 k4 b5 k5 b6 k6 b7 k7 b8 k8 x0 x1 x2 x3 x4 x5 x6) (fun i j => (0 + (d.dqT 0 1024 (1280 + j) i)) + (d.dqT 1024 256 (1280 + j) i)) :=
  (pay115_is d (r_1_is H) (r_51_is H) (r_53_is H))

theorem r_57_is : Is (r_57 c b2 k2 b3 k3 b4 k4 b5 k5 b6 k6 b7 k7 b8 k8 x0 x1 x2 x3 x4 x5 x6) (fun i j => d.ds (1280 + i) (1280 + j)) :=
  (pay117_is d (r_is H) (r_45_is H) (r_46_is H) (r_47_is H) (r_48_is H) (Is.load_bf16 1280 H.x3))

theorem r_64_is : Is (r_64 c b2 k2 b3 k3 b4 k4 b5 k5 b6 k6 b7 k7 b8 k8 x0 x1 x2 x3 x4 x5 x6) (fun i j => 0 + (d.dqT 0 1024 (1536 + j) i)) :=
  (pay135_is d (r_1_is H) (r_59_is H) (r_61_is H) pay128_is (r_62_is H) (r_63_is H) (Is.load_bf16 0 H.x3))

theorem r_68_is : Is (r_68 c b2 k2 b3 k3 b4 k4 b5 k5 b6 k6 b7 k7 b8 k8 x0 x1 x2 x3 x4 x5 x6) (fun i j => (0 + (d.dqT 0 1024 (1536 + j) i)) + (d.dqT 1024 512 (1536 + j) i)) :=
  (pay142_is d (r_1_is H) (r_64_is H) (r_65_is H) (r_66_is H) (r_67_is H))

theorem r_75_is : Is (r_75 c b2 k2 b3 k3 b4 k4 b5 k5 b6 k6 b7 k7 b8 k8 x0 x1 x2 x3 x4 x5 x6) (fun i j => 0 + (d.dqT 0 1024 (1792 + j) i)) :=
  (pay160_is d (r_is H) (r_1_is H) (r_2_is H) (r_4_is H) (Is.load_bf16 1792 H.x0) (Is.load_bf16 1792 H.x4) (Is.load_bf16 0 H.x3))

theorem r_76_is : Is (r_76 c b2 k2 b3 k3 b4 k4 b5 k5 b6 k6 b7 k7 b8 k8 x0 x1 x2 x3 x4 x5 x6) (fun i j => (0 + (d.dqT 0 1024 (1792 + j) i)) + (d.dqT 1024 768 (1792 + j) i)) :=
  (pay165_is d (r_is H) (r_1_is H) (r_71_is H) (r_72_is H) (r_73_is H) (r_74_is H) (r_75_is H) (Is.load_bf16 1024 H.x3))

theorem r_78_is : Is (r_78 c b2 k2 b3 k3 b4 k4 b5 k5 b6 k6 b7 k7 b8 k8 x0 x1 x2 x3 x4 x5 x6) (fun i j => ((0 + (d.dqT 0 1024 (1792 + i) (128 + j))) + (d.dqT 1024 768 (1792 + i) (128 + j))) + (d.dqT 1792 256 (1792 + i) (128 + j))) :=
  (pay173_is d (r_1_is H) (r_72_is H) (r_73_is H) (r_74_is H) (r_76_is H) (r_77_is H) (Is.load_bf16 1792 H.x3))

theorem r_79_is : Is (r_79 c b2 k2 b3 k3 b4 k4 b5 k5 b6 k6 b7 k7 b8 k8 b9 k9 x0 x1 x2 x3 x4 x5 x6 x7) (fun i j => (((0 + (d.dqT 0 1024 (1792 + i) (128 + j))) + (d.dqT 1024 768 (1792 + i) (128 + j))) + (d.dqT 1792 256 (1792 + i) (128 + j))) * (d.C (1792 + i) j)) :=
  (pay175_is d (r_1_is H) (r_72_is H) (r_73_is H) (r_74_is H) (r_76_is H) (r_77_is H) (Is.load_bf16 1792 H.x3) (Is.load_f32 1792 H.x7))

theorem r_85_is : Is (r_85 c b2 k2 b3 k3 b4 k4 b5 k5 b6 k6 b7 k7 b8 k8 x0 x1 x2 x3 x4 x5 x6) (fun i j => d.ds (0 + i) (2048 + j)) :=
  (pay183_is d (r_is H) (r_2_is H) (r_4_is H) (Is.load_bf16 2048 H.x0) (Is.load_bf16 2048 H.x4) (Is.load_bf16 0 H.x3))

theorem r_86_is : Is (r_86 c b2 k2 b3 k3 b4 k4 b5 k5 b6 k6 b7 k7 b8 k8 x0 x1 x2 x3 x4 x5 x6) (fun i j => 0 + (d.dqT 0 1024 (2048 + j) i)) :=
  (pay186_is d (r_1_is H) pay181_is (r_85_is H))

theorem r_87_is : Is (r_87 c b2 k2 b3 k3 b4 k4 b5 k5 b6 k6 b7 k7 b8 k8 x0 x1 x2 x3 x4 x5 x6) (fun i j => d.ds (1024 + i) (2048 + j)) :=
  (pay188_is d (r_is H) (r_80_is H) (r_81_is H) (r_82_is H) (r_83_is H) (Is.load_bf16 1024 H.x3))

theorem r_89_is : Is (r_89 c b2 k2 b3 k3 b4 k4 b5 k5 b6 k6 b7 k7 b8 k8 x0 x1 x2 x3 x4 x5 x6) (fun i j => (0 + (d.dqT 0 1024 (2048 + j) i)) + (d.dqT 1024 1024 (2048 + j) i)) :=
  (pay192_is d (r_1_is H) (r_86_is H) (r_87_is H))

theorem r_90_is : Is (r_90 c b2 k2 b3 k3 b4 k4 b5 k5 b6 k6 b7 k7 b8 k8 x0 x1 x2 x3 x4 x5 x6) (fun i j => d.ds (2048 + i) (2048 + j)) :=
  (pay194_is d (r_is H) (r_80_is H) (r_81_is H) (r_82_is H) (r_83_is H) (Is.load_bf16 2048 H.x3))

theorem v945_is : Is (v945 c b2 k2 b3 k3 b4 k4 b5 k5 b6 k6 b7 k7 b8 k8 b17 x0 x1 x2 x3 x4 x5 x6) (fun i j => (ak22 d) (0 + i) (128 + j)) :=
  IsC.load 0 128 (HS0_22_is H)

theorem r_91_is : Is (r_91 c b2 k2 b3 k3 b4 k4 b5 k5 b6 k6 b7 k7 b8 k8 b15 b17 x0 x1 x2 x3 x4 x5 x6) (fun i j => ((fun _ _ => (0 : ℝ)) (0 + i) j) + ((ak22 d) (0 + i) (128 + j))) :=
  (pay205_is d v943_is (v945_is H))

theorem v934_is : Is (v934 c b2 k2 b3 k3 b4 k4 b5 k5 b6 k6 b7 k7 b8 k8 b17 x0 x1 x2 x3 x4 x5 x6) (fun i j => (ak22 d) (0 + i) j) :=
  IsC.loadR 0 (HS0_22_is H)

theorem v937_is : Is (v937 c b2 k2 b3 k3 b4 k4 b6 k6 b8 k8 b18 x0 x1 x2 x4 x6) (fun i j => (av22 d) (0 + i) j) :=
  IsC.loadR 0 (HS1_22_is H)

end Cert.KernelIdeal.Val
-- ==== Proof.Outs.lean ====
module

public import proofs.«01_k».proof.Proof.Scr

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Gen.kernelRun0_A.sl

variable {c : Dev nD} {b2 : Memref sig .tc .vmem S2176x256 .bf16} {k2 : b2.IsWhole} {b3 : Memref sig .tc .vmem S2176x128 .bf16} {k3 : b3.IsWhole} {b4 : Memref sig .tc .vmem S2176x128 .bf16} {k4 : b4.IsWhole} {b5 : Memref sig .tc .vmem S2176x128 .bf16} {k5 : b5.IsWhole} {b6 : Memref sig .tc .vmem S2176x128 .bf16} {k6 : b6.IsWhole} {b7 : Memref sig .tc .vmem S2176x128 .bf16} {k7 : b7.IsWhole} {b8 : Memref sig .tc .vmem S2176x128 .f32} {k8 : b8.IsWhole} {b9 : Memref sig .tc .vmem S2176x128 .f32} {k9 : b9.IsWhole} {b10 : Memref sig .tc .vmem S2176x128 .f32} {k10 : b10.IsWhole} {b11 : Memref sig .tc .vmem S2176x128 .bf16} {k11 : b11.IsWhole} {b12 : Memref sig .tc .vmem S2176x128 .bf16} {k12 : b12.IsWhole} {b13 : Memref sig .tc .vmem S2176x128 .bf16} {k13 : b13.IsWhole} {b14 : Memref sig .tc .vmem S2176x128 .bf16} {k14 : b14.IsWhole} {b15 : Memref sig .tc .vmem S2176x128 .f32} {k15 : b15.IsWhole} {b16 : Memref sig .tc .vmem S2176x128 .bf16} {k16 : b16.IsWhole} {b17 : Memref sig .tc .vmem S2176x256 .f32} {k17 : b17.IsWhole} {b18 : Memref sig .tc .vmem S2176x128 .f32} {k18 : b18.IsWhole}
variable {x0 : Vec Ideal S2176x256 .bf16} {x1 x2 x3 x4 x5 : Vec Ideal S2176x128 .bf16} {x6 x7 x8 : Vec Ideal S2176x128 .f32}
variable {d : Data} (H : Blocks d x0 x1 x2 x3 x4 x5 x6 x7 x8)
include H

theorem pieces9 : View.PiecesOf (Val := Elt Ideal) (s := S2176x128) (e := .bf16) (mat (fun i j => d.dq i j))
    [⟨Rect.unit (s := S2176x128) ![2048, 0] (Shape.size S128x128) inb_S2176x128_S128x128_2048_0, k0_pay199 (r_1 c b3 k3 b4 k4 x1 x2) (r_89 c b2 k2 b3 k3 b4 k4 b5 k5 b6 k6 b7 k7 b8 k8 x0 x1 x2 x3 x4 x5 x6) (r_90 c b2 k2 b3 k3 b4 k4 b5 k5 b6 k6 b7 k7 b8 k8 x0 x1 x2 x3 x4 x5 x6)⟩,
      ⟨Rect.unit (s := S2176x128) ![1792, 0] (Shape.size S256x128) inb_S2176x128_S256x128_1792_0, k0_pay174 (r_1 c b3 k3 b4 k4 x1 x2) (r_72 c b6 k6 x4) (r_73 c b8 k8 x6) (r_74 c b6 k6 b7 k7 x4 x5) (r_76 c b2 k2 b3 k3 b4 k4 b5 k5 b6 k6 b7 k7 b8 k8 x0 x1 x2 x3 x4 x5 x6) (r_77 c b2 k2 b3 k3 b4 k4 x0 x1 x2) k0_pay167 (View.readAt (Elt Ideal) (Memref.view b5) (Rect.toLoadRect (Rect.unit ![1792, 0] (Shape.size S256x128) inb_S2176x128_S256x128_1792_0)) (Memref.IsWhole.unread k5 x3))⟩,
      ⟨Rect.unit (s := S2176x128) ![1536, 0] (Shape.size S256x128) inb_S2176x128_S256x128_1536_0, k0_pay150 (r_1 c b3 k3 b4 k4 x1 x2) (r_68 c b2 k2 b3 k3 b4 k4 b5 k5 b6 k6 b7 k7 b8 k8 x0 x1 x2 x3 x4 x5 x6) (r_70 c b2 k2 b3 k3 b4 k4 b5 k5 b6 k6 b7 k7 b8 k8 x0 x1 x2 x3 x4 x5 x6)  (cst_358)  ⟩,
      ⟨Rect.unit (s := S2176x128) ![1280, 0] (Shape.size S256x128) inb_S2176x128_S256x128_1280_0, k0_pay122 (r_1 c b3 k3 b4 k4 x1 x2) (r_55 c b2 k2 b3 k3 b4 k4 b5 k5 b6 k6 b7 k7 b8 k8 x0 x1 x2 x3 x4 x5 x6) (r_57 c b2 k2 b3 k3 b4 k4 b5 k5 b6 k6 b7 k7 b8 k8 x0 x1 x2 x3 x4 x5 x6)⟩,
      ⟨Rect.unit (s := S2176x128) ![1024, 0] (Shape.size S256x128) inb_S2176x128_S256x128_1024_0, k0_pay98 (r_44 c b2 k2 b3 k3 b4 k4 b5 k5 b6 k6 b7 k7 b8 k8 x0 x1 x2 x3 x4 x5 x6)⟩,
      ⟨Rect.unit (s := S2176x128) ![768, 0] (Shape.size S256x128) inb_S2176x128_S256x128_768_0, k0_pay79 (r_1 c b3 k3 b4 k4 x1 x2) (r_33 c b2 k2 b3 k3 b4 k4 b5 k5 b6 k6 b7 k7 b8 k8 x0 x1 x2 x3 x4 x5 x6) (r_34 c b2 k2 b3 k3 b4 k4 b8 k8 x0 x1 x2 x6) (r_35 c b5 k5 b6 k6 x3 x4) (r_36 c b6 k6 b7 k7 x4 x5)⟩,
      ⟨Rect.unit (s := S2176x128) ![512, 0] (Shape.size S256x128) inb_S2176x128_S256x128_512_0, k0_pay58 (r_1 c b3 k3 b4 k4 x1 x2) (r_24 c b2 k2 b3 k3 b4 k4 b5 k5 b6 k6 b7 k7 b8 k8 x0 x1 x2 x3 x4 x5 x6) (r_25 c b2 k2 b3 k3 b4 k4 b5 k5 b6 k6 b7 k7 b8 k8 x0 x1 x2 x3 x4 x5 x6)⟩,
      ⟨Rect.unit (s := S2176x128) ![256, 0] (Shape.size S256x128) inb_S2176x128_S256x128_256_0, k0_pay38 (r_1 c b3 k3 b4 k4 x1 x2) (r_10 c b6 k6 x4) (r_11 c b8 k8 x6) (r_12 c b6 k6 b7 k7 x4 x5) (r_14 c b2 k2 b3 k3 b4 k4 b5 k5 b6 k6 b7 k7 b8 k8 x0 x1 x2 x3 x4 x5 x6) (r_15 c b2 k2 b3 k3 b4 k4 x0 x1 x2) (View.readAt (Elt Ideal) (Memref.view b5) (Rect.toLoadRect (Rect.unit ![256, 0] (Shape.size S256x128) inb_S2176x128_S256x128_256_0)) (Memref.IsWhole.unread k5 x3))⟩,
      ⟨Rect.unit (s := S2176x128) ![0, 0] (Shape.size S256x128) inb_S2176x128_S256x128_0_0, k0_pay18 (r_1 c b3 k3 b4 k4 x1 x2)  (k0_pay10) (r_7 c b2 k2 b3 k3 b4 k4 b5 k5 b6 k6 b7 k7 b8 k8 x0 x1 x2 x3 x4 x5 x6)⟩] :=
  ⟨Is.piece_bf16 (inb := inb_S2176x128_S128x128_2048_0) 2048 (Is.congr (pay199_is d (r_1_is H) (r_89_is H) (r_90_is H)) (fun i j hi _ => (dq_tile2048 d i (0 + j) hi).trans (by rw [Nat.zero_add j]))),
    Is.piece_bf16 (inb := inb_S2176x128_S256x128_1792_0) 1792 (Is.congr (pay174_is d (r_1_is H) (r_72_is H) (r_73_is H) (r_74_is H) (r_76_is H) (r_77_is H) (Is.load_bf16 1792 H.x3)) (fun i j hi _ => (dq_tile1792 d i (0 + j) hi).trans (by rw [Nat.zero_add j]))),
    Is.piece_bf16 (inb := inb_S2176x128_S256x128_1536_0) 1536 (Is.congr (pay150_is d (r_1_is H) (r_68_is H) (r_70_is H)) (fun i j hi _ => (dq_tile1536 d i (0 + j) hi).trans (by rw [Nat.zero_add j]))),
    Is.piece_bf16 (inb := inb_S2176x128_S256x128_1280_0) 1280 (Is.congr (pay122_is d (r_1_is H) (r_55_is H) (r_57_is H)) (fun i j hi _ => (dq_tile1280 d i (0 + j) hi).trans (by rw [Nat.zero_add j]))),
    Is.piece_bf16 (inb := inb_S2176x128_S256x128_1024_0) 1024 (Is.congr (pay98_is d (r_44_is H)) (fun i j hi _ => (dq_tile1024 d i (0 + j) hi).trans (by rw [Nat.zero_add j]))),
    Is.piece_bf16 (inb := inb_S2176x128_S256x128_768_0) 768 (Is.congr (pay79_is d (r_1_is H) (r_33_is H) (r_34_is H) (r_35_is H) (r_36_is H)) (fun i j hi _ => (dq_tile768 d i (0 + j) hi).trans (by rw [Nat.zero_add j]))),
    Is.piece_bf16 (inb := inb_S2176x128_S256x128_512_0) 512 (Is.congr (pay58_is d (r_1_is H) (r_24_is H) (r_25_is H)) (fun i j hi _ => (dq_tile512 d i (0 + j) hi).trans (by rw [Nat.zero_add j]))),
    Is.piece_bf16 (inb := inb_S2176x128_S256x128_256_0) 256 (Is.congr (pay38_is d (r_1_is H) (r_10_is H) (r_11_is H) (r_12_is H) (r_14_is H) (r_15_is H) (Is.load_bf16 256 H.x3)) (fun i j hi _ => (dq_tile256 d i (0 + j) hi).trans (by rw [Nat.zero_add j]))),
    Is.piece_bf16 (inb := inb_S2176x128_S256x128_0_0) 0 (Is.congr (pay18_is d (r_1_is H) pay10_is (r_7_is H)) (fun i j hi _ => (dq_tile0 d i (0 + j) hi).trans (by rw [Nat.zero_add j]))), trivial⟩

theorem pieces10 : View.PiecesOf (Val := Elt Ideal) (s := S2176x128) (e := .bf16) (mat (fun i j => d.dq i (128 + j) * d.C i j))
    [⟨Rect.unit (s := S2176x128) ![2048, 0] (Shape.size S128x128) inb_S2176x128_S128x128_2048_0, k0_pay200 (r_1 c b3 k3 b4 k4 x1 x2) (r_89 c b2 k2 b3 k3 b4 k4 b5 k5 b6 k6 b7 k7 b8 k8 x0 x1 x2 x3 x4 x5 x6) (r_90 c b2 k2 b3 k3 b4 k4 b5 k5 b6 k6 b7 k7 b8 k8 x0 x1 x2 x3 x4 x5 x6) (View.readAt (Elt Ideal) (Memref.view b9) (Rect.toLoadRect (Rect.unit ![2048, 0] (Shape.size S128x128) inb_S2176x128_S128x128_2048_0)) (Memref.IsWhole.unread k9 x7))⟩,
      ⟨Rect.unit (s := S2176x128) ![1792, 0] (Shape.size S256x128) inb_S2176x128_S256x128_1792_0, k0_pay176 (r_79 c b2 k2 b3 k3 b4 k4 b5 k5 b6 k6 b7 k7 b8 k8 b9 k9 x0 x1 x2 x3 x4 x5 x6 x7)⟩,
      ⟨Rect.unit (s := S2176x128) ![1536, 0] (Shape.size S256x128) inb_S2176x128_S256x128_1536_0, k0_pay151 (r_1 c b3 k3 b4 k4 x1 x2) (r_68 c b2 k2 b3 k3 b4 k4 b5 k5 b6 k6 b7 k7 b8 k8 x0 x1 x2 x3 x4 x5 x6) (r_70 c b2 k2 b3 k3 b4 k4 b5 k5 b6 k6 b7 k7 b8 k8 x0 x1 x2 x3 x4 x5 x6)  (cst_358)   (View.readAt (Elt Ideal) (Memref.view b9) (Rect.toLoadRect (Rect.unit ![1536, 0] (Shape.size S256x128) inb_S2176x128_S256x128_1536_0)) (Memref.IsWhole.unread k9 x7))⟩,
      ⟨Rect.unit (s := S2176x128) ![1280, 0] (Shape.size S256x128) inb_S2176x128_S256x128_1280_0, k0_pay123 (r_1 c b3 k3 b4 k4 x1 x2) (r_55 c b2 k2 b3 k3 b4 k4 b5 k5 b6 k6 b7 k7 b8 k8 x0 x1 x2 x3 x4 x5 x6) (r_57 c b2 k2 b3 k3 b4 k4 b5 k5 b6 k6 b7 k7 b8 k8 x0 x1 x2 x3 x4 x5 x6) (View.readAt (Elt Ideal) (Memref.view b9) (Rect.toLoadRect (Rect.unit ![1280, 0] (Shape.size S256x128) inb_S2176x128_S256x128_1280_0)) (Memref.IsWhole.unread k9 x7))⟩,
      ⟨Rect.unit (s := S2176x128) ![1024, 0] (Shape.size S256x128) inb_S2176x128_S256x128_1024_0, k0_pay99 (r_44 c b2 k2 b3 k3 b4 k4 b5 k5 b6 k6 b7 k7 b8 k8 x0 x1 x2 x3 x4 x5 x6) (View.readAt (Elt Ideal) (Memref.view b9) (Rect.toLoadRect (Rect.unit ![1024, 0] (Shape.size S256x128) inb_S2176x128_S256x128_1024_0)) (Memref.IsWhole.unread k9 x7))⟩,
      ⟨Rect.unit (s := S2176x128) ![768, 0] (Shape.size S256x128) inb_S2176x128_S256x128_768_0, k0_pay80 (r_1 c b3 k3 b4 k4 x1 x2) (r_33 c b2 k2 b3 k3 b4 k4 b5 k5 b6 k6 b7 k7 b8 k8 x0 x1 x2 x3 x4 x5 x6) (r_34 c b2 k2 b3 k3 b4 k4 b8 k8 x0 x1 x2 x6) (r_35 c b5 k5 b6 k6 x3 x4) (r_36 c b6 k6 b7 k7 x4 x5) (View.readAt (Elt Ideal) (Memref.view b9) (Rect.toLoadRect (Rect.unit ![768, 0] (Shape.size S256x128) inb_S2176x128_S256x128_768_0)) (Memref.IsWhole.unread k9 x7))⟩,
      ⟨Rect.unit (s := S2176x128) ![512, 0] (Shape.size S256x128) inb_S2176x128_S256x128_512_0, k0_pay59 (r_1 c b3 k3 b4 k4 x1 x2) (r_24 c b2 k2 b3 k3 b4 k4 b5 k5 b6 k6 b7 k7 b8 k8 x0 x1 x2 x3 x4 x5 x6) (r_25 c b2 k2 b3 k3 b4 k4 b5 k5 b6 k6 b7 k7 b8 k8 x0 x1 x2 x3 x4 x5 x6) (View.readAt (Elt Ideal) (Memref.view b9) (Rect.toLoadRect (Rect.unit ![512, 0] (Shape.size S256x128) inb_S2176x128_S256x128_512_0)) (Memref.IsWhole.unread k9 x7))⟩,
      ⟨Rect.unit (s := S2176x128) ![256, 0] (Shape.size S256x128) inb_S2176x128_S256x128_256_0, r_17 c b2 k2 b3 k3 b4 k4 b5 k5 b6 k6 b7 k7 b8 k8 b9 k9 x0 x1 x2 x3 x4 x5 x6 x7⟩,
      ⟨Rect.unit (s := S2176x128) ![0, 0] (Shape.size S256x128) inb_S2176x128_S256x128_0_0, k0_pay19 (r_1 c b3 k3 b4 k4 x1 x2)  (k0_pay10) (r_7 c b2 k2 b3 k3 b4 k4 b5 k5 b6 k6 b7 k7 b8 k8 x0 x1 x2 x3 x4 x5 x6) (View.readAt (Elt Ideal) (Memref.view b9) (Rect.toLoadRect (Rect.unit ![0, 0] (Shape.size S256x128) inb_S2176x128_S256x128_0_0)) (Memref.IsWhole.unread k9 x7))⟩] :=
  ⟨Is.piece_bf16 (inb := inb_S2176x128_S128x128_2048_0) 2048 (Is.congr (pay200_is d (r_1_is H) (r_89_is H) (r_90_is H) (Is.load_f32 2048 H.x7)) (fun i j hi _ => congrArg (· * _) (dq_tile2048 d i (128 + j) hi))),
    Is.piece_bf16 (inb := inb_S2176x128_S256x128_1792_0) 1792 (Is.congr (pay176_is d (r_79_is H)) (fun i j hi _ => congrArg (· * _) (dq_tile1792 d i (128 + j) hi))),
    Is.piece_bf16 (inb := inb_S2176x128_S256x128_1536_0) 1536 (Is.congr (pay151_is d (r_1_is H) (r_68_is H) (r_70_is H) (Is.load_f32 1536 H.x7)) (fun i j hi _ => congrArg (· * _) (dq_tile1536 d i (128 + j) hi))),
    Is.piece_bf16 (inb := inb_S2176x128_S256x128_1280_0) 1280 (Is.congr (pay123_is d (r_1_is H) (r_55_is H) (r_57_is H) (Is.load_f32 1280 H.x7)) (fun i j hi _ => congrArg (· * _) (dq_tile1280 d i (128 + j) hi))),
    Is.piece_bf16 (inb := inb_S2176x128_S256x128_1024_0) 1024 (Is.congr (pay99_is d (r_44_is H) (Is.load_f32 1024 H.x7)) (fun i j hi _ => congrArg (· * _) (dq_tile1024 d i (128 + j) hi))),
    Is.piece_bf16 (inb := inb_S2176x128_S256x128_768_0) 768 (Is.congr (pay80_is d (r_1_is H) (r_33_is H) (r_34_is H) (r_35_is H) (r_36_is H) (Is.load_f32 768 H.x7)) (fun i j hi _ => congrArg (· * _) (dq_tile768 d i (128 + j) hi))),
    Is.piece_bf16 (inb := inb_S2176x128_S256x128_512_0) 512 (Is.congr (pay59_is d (r_1_is H) (r_24_is H) (r_25_is H) (Is.load_f32 512 H.x7)) (fun i j hi _ => congrArg (· * _) (dq_tile512 d i (128 + j) hi))),
    Is.piece_bf16 (inb := inb_S2176x128_S256x128_256_0) 256 (Is.congr (r_17_is H) (fun i j hi _ => congrArg (· * _) (dq_tile256 d i (128 + j) hi))),
    Is.piece_bf16 (inb := inb_S2176x128_S256x128_0_0) 0 (Is.congr (pay19_is d (r_1_is H) pay10_is (r_7_is H) (Is.load_f32 0 H.x7)) (fun i j hi _ => congrArg (· * _) (dq_tile0 d i (128 + j) hi))), trivial⟩

theorem pieces11 : View.PiecesOf (Val := Elt Ideal) (s := S2176x128) (e := .bf16) (mat (fun i j => d.dq i (128 + j) * d.S i j))
    [⟨Rect.unit (s := S2176x128) ![2048, 0] (Shape.size S128x128) inb_S2176x128_S128x128_2048_0, k0_pay201 (r_1 c b3 k3 b4 k4 x1 x2) (r_89 c b2 k2 b3 k3 b4 k4 b5 k5 b6 k6 b7 k7 b8 k8 x0 x1 x2 x3 x4 x5 x6) (r_90 c b2 k2 b3 k3 b4 k4 b5 k5 b6 k6 b7 k7 b8 k8 x0 x1 x2 x3 x4 x5 x6) (View.readAt (Elt Ideal) (Memref.view b10) (Rect.toLoadRect (Rect.unit ![2048, 0] (Shape.size S128x128) inb_S2176x128_S128x128_2048_0)) (Memref.IsWhole.unread k10 x8))⟩,
      ⟨Rect.unit (s := S2176x128) ![1792, 0] (Shape.size S256x128) inb_S2176x128_S256x128_1792_0, k0_pay177 (r_78 c b2 k2 b3 k3 b4 k4 b5 k5 b6 k6 b7 k7 b8 k8 x0 x1 x2 x3 x4 x5 x6) (View.readAt (Elt Ideal) (Memref.view b10) (Rect.toLoadRect (Rect.unit ![1792, 0] (Shape.size S256x128) inb_S2176x128_S256x128_1792_0)) (Memref.IsWhole.unread k10 x8))⟩,
      ⟨Rect.unit (s := S2176x128) ![1536, 0] (Shape.size S256x128) inb_S2176x128_S256x128_1536_0, k0_pay152 (r_1 c b3 k3 b4 k4 x1 x2) (r_68 c b2 k2 b3 k3 b4 k4 b5 k5 b6 k6 b7 k7 b8 k8 x0 x1 x2 x3 x4 x5 x6) (r_70 c b2 k2 b3 k3 b4 k4 b5 k5 b6 k6 b7 k7 b8 k8 x0 x1 x2 x3 x4 x5 x6)  (cst_358)   (View.readAt (Elt Ideal) (Memref.view b10) (Rect.toLoadRect (Rect.unit ![1536, 0] (Shape.size S256x128) inb_S2176x128_S256x128_1536_0)) (Memref.IsWhole.unread k10 x8))⟩,
      ⟨Rect.unit (s := S2176x128) ![1280, 0] (Shape.size S256x128) inb_S2176x128_S256x128_1280_0, k0_pay124 (r_1 c b3 k3 b4 k4 x1 x2) (r_55 c b2 k2 b3 k3 b4 k4 b5 k5 b6 k6 b7 k7 b8 k8 x0 x1 x2 x3 x4 x5 x6) (r_57 c b2 k2 b3 k3 b4 k4 b5 k5 b6 k6 b7 k7 b8 k8 x0 x1 x2 x3 x4 x5 x6) (View.readAt (Elt Ideal) (Memref.view b10) (Rect.toLoadRect (Rect.unit ![1280, 0] (Shape.size S256x128) inb_S2176x128_S256x128_1280_0)) (Memref.IsWhole.unread k10 x8))⟩,
      ⟨Rect.unit (s := S2176x128) ![1024, 0] (Shape.size S256x128) inb_S2176x128_S256x128_1024_0, k0_pay100 (r_44 c b2 k2 b3 k3 b4 k4 b5 k5 b6 k6 b7 k7 b8 k8 x0 x1 x2 x3 x4 x5 x6) (View.readAt (Elt Ideal) (Memref.view b10) (Rect.toLoadRect (Rect.unit ![1024, 0] (Shape.size S256x128) inb_S2176x128_S256x128_1024_0)) (Memref.IsWhole.unread k10 x8))⟩,
      ⟨Rect.unit (s := S2176x128) ![768, 0] (Shape.size S256x128) inb_S2176x128_S256x128_768_0, r_37 c b2 k2 b3 k3 b4 k4 b5 k5 b6 k6 b7 k7 b8 k8 b10 k10 x0 x1 x2 x3 x4 x5 x6 x8⟩,
      ⟨Rect.unit (s := S2176x128) ![512, 0] (Shape.size S256x128) inb_S2176x128_S256x128_512_0, k0_pay60 (r_1 c b3 k3 b4 k4 x1 x2) (r_24 c b2 k2 b3 k3 b4 k4 b5 k5 b6 k6 b7 k7 b8 k8 x0 x1 x2 x3 x4 x5 x6) (r_25 c b2 k2 b3 k3 b4 k4 b5 k5 b6 k6 b7 k7 b8 k8 x0 x1 x2 x3 x4 x5 x6) (View.readAt (Elt Ideal) (Memref.view b10) (Rect.toLoadRect (Rect.unit ![512, 0] (Shape.size S256x128) inb_S2176x128_S256x128_512_0)) (Memref.IsWhole.unread k10 x8))⟩,
      ⟨Rect.unit (s := S2176x128) ![256, 0] (Shape.size S256x128) inb_S2176x128_S256x128_256_0, k0_pay40 (r_16 c b2 k2 b3 k3 b4 k4 b5 k5 b6 k6 b7 k7 b8 k8 x0 x1 x2 x3 x4 x5 x6) (View.readAt (Elt Ideal) (Memref.view b10) (Rect.toLoadRect (Rect.unit ![256, 0] (Shape.size S256x128) inb_S2176x128_S256x128_256_0)) (Memref.IsWhole.unread k10 x8))⟩,
      ⟨Rect.unit (s := S2176x128) ![0, 0] (Shape.size S256x128) inb_S2176x128_S256x128_0_0, k0_pay20 (r_1 c b3 k3 b4 k4 x1 x2)  (k0_pay10) (r_7 c b2 k2 b3 k3 b4 k4 b5 k5 b6 k6 b7 k7 b8 k8 x0 x1 x2 x3 x4 x5 x6) (View.readAt (Elt Ideal) (Memref.view b10) (Rect.toLoadRect (Rect.unit ![0, 0] (Shape.size S256x128) inb_S2176x128_S256x128_0_0)) (Memref.IsWhole.unread k10 x8))⟩] :=
  ⟨Is.piece_bf16 (inb := inb_S2176x128_S128x128_2048_0) 2048 (Is.congr (pay201_is d (r_1_is H) (r_89_is H) (r_90_is H) (Is.load_f32 2048 H.x8)) (fun i j hi _ => congrArg (· * _) (dq_tile2048 d i (128 + j) hi))),
    Is.piece_bf16 (inb := inb_S2176x128_S256x128_1792_0) 1792 (Is.congr (pay177_is d (r_78_is H) (Is.load_f32 1792 H.x8)) (fun i j hi _ => congrArg (· * _) (dq_tile1792 d i (128 + j) hi))),
    Is.piece_bf16 (inb := inb_S2176x128_S256x128_1536_0) 1536 (Is.congr (pay152_is d (r_1_is H) (r_68_is H) (r_70_is H) (Is.load_f32 1536 H.x8)) (fun i j hi _ => congrArg (· * _) (dq_tile1536 d i (128 + j) hi))),
    Is.piece_bf16 (inb := inb_S2176x128_S256x128_1280_0) 1280 (Is.congr (pay124_is d (r_1_is H) (r_55_is H) (r_57_is H) (Is.load_f32 1280 H.x8)) (fun i j hi _ => congrArg (· * _) (dq_tile1280 d i (128 + j) hi))),
    Is.piece_bf16 (inb := inb_S2176x128_S256x128_1024_0) 1024 (Is.congr (pay100_is d (r_44_is H) (Is.load_f32 1024 H.x8)) (fun i j hi _ => congrArg (· * _) (dq_tile1024 d i (128 + j) hi))),
    Is.piece_bf16 (inb := inb_S2176x128_S256x128_768_0) 768 (Is.congr (r_37_is H) (fun i j hi _ => congrArg (· * _) (dq_tile768 d i (128 + j) hi))),
    Is.piece_bf16 (inb := inb_S2176x128_S256x128_512_0) 512 (Is.congr (pay60_is d (r_1_is H) (r_24_is H) (r_25_is H) (Is.load_f32 512 H.x8)) (fun i j hi _ => congrArg (· * _) (dq_tile512 d i (128 + j) hi))),
    Is.piece_bf16 (inb := inb_S2176x128_S256x128_256_0) 256 (Is.congr (pay40_is d (r_16_is H) (Is.load_f32 256 H.x8)) (fun i j hi _ => congrArg (· * _) (dq_tile256 d i (128 + j) hi))),
    Is.piece_bf16 (inb := inb_S2176x128_S256x128_0_0) 0 (Is.congr (pay20_is d (r_1_is H) pay10_is (r_7_is H) (Is.load_f32 0 H.x8)) (fun i j hi _ => congrArg (· * _) (dq_tile0 d i (128 + j) hi))), trivial⟩

theorem pieces12 : View.PiecesOf (Val := Elt Ideal) (s := S2176x128) (e := .bf16) (mat (fun i j => d.dk i j))
    [⟨Rect.unit (s := S2176x128) ![0, 0] (Shape.size S2176x128) inb_S2176x128_S2176x128_0_0, k0_pay202 (v934 c b2 k2 b3 k3 b4 k4 b5 k5 b6 k6 b7 k7 b8 k8 b17 x0 x1 x2 x3 x4 x5 x6)⟩] :=
  ⟨Is.piece_bf16 (inb := inb_S2176x128_S2176x128_0_0) 0 (Is.congr (pay202_is d (v934_is H)) (fun i j _ _ => by rw [ak_tile2048, d.dkT_all])), trivial⟩

theorem pieces14 : View.PiecesOf (Val := Elt Ideal) (s := S2176x128) (e := .bf16) (mat (fun i j => d.dv i j))
    [⟨Rect.unit (s := S2176x128) ![0, 0] (Shape.size S2176x128) inb_S2176x128_S2176x128_0_0, k0_pay203 (v937 c b2 k2 b3 k3 b4 k4 b6 k6 b8 k8 b18 x0 x1 x2 x4 x6)⟩] :=
  ⟨Is.piece_bf16 (inb := inb_S2176x128_S2176x128_0_0) 0 (Is.congr (pay203_is d (v937_is H)) (fun i j _ _ => by rw [av_tile2048, d.dvT_all])), trivial⟩

theorem out13 : Is (r_91 c b2 k2 b3 k3 b4 k4 b5 k5 b6 k6 b7 k7 b8 k8 b15 b17 x0 x1 x2 x3 x4 x5 x6) (fun i j => d.dk i (128 + j)) :=
  (r_91_is H).congr fun i j _ _ => by rw [ak_tile2048, d.dkT_all, zero_add, Nat.zero_add]

end Cert.KernelIdeal.Val
-- ==== Proof.Blk.lean ====
module

public import proofs.«01_k».proof.Proof.Outs
public import proofs.«01_k».proof.Proof.Gen.KernelIdeal.Frame
public import proofs.«01_k».proof.Proof.Gen.KernelIdeal.Frame.RunB

@[expose] public section

set_option maxRecDepth 16384

noncomputable section

namespace Cert.KernelIdeal.Val

open Idealize.ShloMosaic Idealize.ShloMosaic.TcCoe Idealize.SL.Sem
open Cert.KernelIdeal Cert.KernelIdeal.Gen

theorem whole_mem (p : Fin 2176) (q : Fin 128) : (ix2 p q : S2176x128.Idx) ∈ (Rect.unit (s := S2176x128) ![0, 0] (Shape.size S2176x128) inb_S2176x128_S2176x128_0_0).set := by
  rw [Rect.mem_set_unit]
  intro x
  fin_cases x
  · exact ⟨Nat.zero_le _, by have := p.2; show (p : ℕ) < 0 + 2176; omega⟩
  · exact ⟨Nat.zero_le _, by have := q.2; show (q : ℕ) < 0 + 128; omega⟩

theorem pay205_add {g k : ℕ → ℕ → ℝ} {v943 v945 : Vec Ideal S2176x128 .f32} (h3 : Is v943 g) (h5 : Is v945 k) :
    Is (k0_pay205 (F := Ideal) v943 v945) (fun i j => g i j + k i j) := by
  have h : Is _ g := Is.reshape shapeCasts_S2176x128_S2176x128 h3
  exact Is.add h h5

variable {c : Dev nD} {i : grid0.Coords} {b2 : Memref sig .tc .vmem S2176x256 .bf16} {k2 : b2.IsWhole} {b3 : Memref sig .tc .vmem S2176x128 .bf16} {k3 : b3.IsWhole} {b4 : Memref sig .tc .vmem S2176x128 .bf16} {k4 : b4.IsWhole} {b5 : Memref sig .tc .vmem S2176x128 .bf16} {k5 : b5.IsWhole} {b6 : Memref sig .tc .vmem S2176x128 .bf16} {k6 : b6.IsWhole} {b7 : Memref sig .tc .vmem S2176x128 .bf16} {k7 : b7.IsWhole} {b8 : Memref sig .tc .vmem S2176x128 .f32} {k8 : b8.IsWhole} {b9 : Memref sig .tc .vmem S2176x128 .f32} {k9 : b9.IsWhole} {b10 : Memref sig .tc .vmem S2176x128 .f32} {k10 : b10.IsWhole} {b11 : Memref sig .tc .vmem S2176x128 .bf16} {k11 : b11.IsWhole} {b12 : Memref sig .tc .vmem S2176x128 .bf16} {k12 : b12.IsWhole} {b13 : Memref sig .tc .vmem S2176x128 .bf16} {k13 : b13.IsWhole} {b14 : Memref sig .tc .vmem S2176x128 .bf16} {k14 : b14.IsWhole} {b15 : Memref sig .tc .vmem S2176x128 .f32} {k15 : b15.IsWhole} {b16 : Memref sig .tc .vmem S2176x128 .bf16} {k16 : b16.IsWhole} {b17 : Memref sig .tc .vmem S2176x256 .f32} {k17 : b17.IsWhole} {b18 : Memref sig .tc .vmem S2176x128 .f32} {k18 : b18.IsWhole} {x0 : Vec Ideal S2176x256 .bf16} {x1 x2 x3 x4 x5 : Vec Ideal S2176x128 .bf16} {x6 x7 x8 : Vec Ideal S2176x128 .f32} {d : Data}

theorem o9_A (hc0 : cond0_0 i) (H : Blocks d x0 x1 x2 x3 x4 x5 x6 x7 x8) :
    Is (out0_A_9 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8) (fun i j => d.dq i j) := by
  intro p q
  have hp : View.PiecesOf (Val := Elt Ideal) (s := S2176x128) (e := .bf16) (mat (fun i j => d.dq i j)) ((kernelRun0_A (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8).1) := pieces9 H
  have h := View.canon_append_of_piecesOf _ [] _ hp (ix2 p q) (cover0_A_9 ..)
  rw [List.append_nil] at h
  exact (congrFun (View.read_writes_junk_eq_canon VO0_9 _) _).trans h

theorem o10_A (hc0 : cond0_0 i) (H : Blocks d x0 x1 x2 x3 x4 x5 x6 x7 x8) :
    Is (out0_A_10 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8) (fun i j => d.dq i (128 + j) * d.C i j) := by
  intro p q
  have hp : View.PiecesOf (Val := Elt Ideal) (s := S2176x128) (e := .bf16) (mat (fun i j => d.dq i (128 + j) * d.C i j)) ((kernelRun0_A (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8).2.1) := pieces10 H
  have h := View.canon_append_of_piecesOf _ [] _ hp (ix2 p q) (cover0_A_10 ..)
  rw [List.append_nil] at h
  exact (congrFun (View.read_writes_junk_eq_canon VO0_10 _) _).trans h

theorem o11_A (hc0 : cond0_0 i) (H : Blocks d x0 x1 x2 x3 x4 x5 x6 x7 x8) :
    Is (out0_A_11 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8) (fun i j => d.dq i (128 + j) * d.S i j) := by
  intro p q
  have hp : View.PiecesOf (Val := Elt Ideal) (s := S2176x128) (e := .bf16) (mat (fun i j => d.dq i (128 + j) * d.S i j)) ((kernelRun0_A (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8).2.2.1) := pieces11 H
  have h := View.canon_append_of_piecesOf _ [] _ hp (ix2 p q) (cover0_A_11 ..)
  rw [List.append_nil] at h
  exact (congrFun (View.read_writes_junk_eq_canon VO0_11 _) _).trans h

theorem o12_A (hc0 : cond0_0 i) (H : Blocks d x0 x1 x2 x3 x4 x5 x6 x7 x8) :
    Is (out0_A_12 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8) (fun i j => d.dk i j) := by
  intro p q
  have hp : View.PiecesOf (Val := Elt Ideal) (s := S2176x128) (e := .bf16) (mat (fun i j => d.dk i j)) ((kernelRun0_A (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8).2.2.2.1) := pieces12 H
  have h := View.canon_append_of_piecesOf _ [] _ hp (ix2 p q) (cover0_A_12 ..)
  rw [List.append_nil] at h
  exact (congrFun (View.read_writes_junk_eq_canon VO0_12 _) _).trans h

theorem o14_A (hc0 : cond0_0 i) (H : Blocks d x0 x1 x2 x3 x4 x5 x6 x7 x8) :
    Is (out0_A_14 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8) (fun i j => d.dv i j) := by
  intro p q
  have hp : View.PiecesOf (Val := Elt Ideal) (s := S2176x128) (e := .bf16) (mat (fun i j => d.dv i j)) ((kernelRun0_A (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8).2.2.2.2.2.1) := pieces14 H
  have h := View.canon_append_of_piecesOf _ [] _ hp (ix2 p q) (cover0_A_14 ..)
  rw [List.append_nil] at h
  exact (congrFun (View.read_writes_junk_eq_canon VO0_14 _) _).trans h

/-- At a batch's first head the block of the shared rotary key's gradient starts from zero. -/
theorem o13_A (hc0 : cond0_0 i) (H : Blocks d x0 x1 x2 x3 x4 x5 x6 x7 x8) :
    Is (out0_A_13 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8) (fun i j => d.dk i (128 + j)) := by
  intro p q
  have hp : View.PiecesOf (Val := Elt Ideal) (s := S2176x128) (e := .f32) (mat (fun i j => d.dk i (128 + j))) [⟨Rect.unit (s := S2176x128) ![0, 0] (Shape.size S2176x128) inb_S2176x128_S2176x128_0_0, kernelRun0_A.sl.r_91 (F := Ideal) c b2 k2 b3 k3 b4 k4 b5 k5 b6 k6 b7 k7 b8 k8 b15 b17 x0 x1 x2 x3 x4 x5 x6⟩] :=
    ⟨Is.piece_f32 (a := 2176) (b := 128) (n := 2176) (inb := inb_S2176x128_S2176x128_0_0) (f := fun i j => d.dk i (128 + j)) 0 ((out13 H).congr fun i j _ _ => by rw [Nat.zero_add]), trivial⟩
  have hc : ∃ p' ∈ [(⟨Rect.unit (s := S2176x128) ![0, 0] (Shape.size S2176x128) inb_S2176x128_S2176x128_0_0, kernelRun0_A.sl.r_91 (F := Ideal) c b2 k2 b3 k3 b4 k4 b5 k5 b6 k6 b7 k7 b8 k8 b15 b17 x0 x1 x2 x3 x4 x5 x6⟩ : View.Piece (Elt Ideal) S2176x128 .f32)], ix2 p q ∈ p'.1.set :=
    ⟨_, List.mem_singleton.mpr rfl, whole_mem p q⟩
  have h := View.canon_append_of_piecesOf _ kernelRun0_A.sl.H13_1 _ hp (ix2 p q) hc
  exact (congrFun (View.read_writes_junk_eq_canon VO0_13 _) _).trans h

theorem o9_B (hc0 : ¬cond0_0 i) {xo13 : Vec Ideal S2176x128 .f32} (H : Blocks d x0 x1 x2 x3 x4 x5 x6 x7 x8) :
    Is (out0_B_9 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13) (fun i j => d.dq i j) := by
  intro p q
  have hp : View.PiecesOf (Val := Elt Ideal) (s := S2176x128) (e := .bf16) (mat (fun i j => d.dq i j)) ((kernelRun0_B (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13).1) := pieces9 H
  have h := View.canon_append_of_piecesOf _ [] _ hp (ix2 p q) (cover0_B_9 ..)
  rw [List.append_nil] at h
  exact (congrFun (View.read_writes_junk_eq_canon VO0_9 _) _).trans h

theorem o10_B (hc0 : ¬cond0_0 i) {xo13 : Vec Ideal S2176x128 .f32} (H : Blocks d x0 x1 x2 x3 x4 x5 x6 x7 x8) :
    Is (out0_B_10 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13) (fun i j => d.dq i (128 + j) * d.C i j) := by
  intro p q
  have hp : View.PiecesOf (Val := Elt Ideal) (s := S2176x128) (e := .bf16) (mat (fun i j => d.dq i (128 + j) * d.C i j)) ((kernelRun0_B (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13).2.1) := pieces10 H
  have h := View.canon_append_of_piecesOf _ [] _ hp (ix2 p q) (cover0_B_10 ..)
  rw [List.append_nil] at h
  exact (congrFun (View.read_writes_junk_eq_canon VO0_10 _) _).trans h

theorem o11_B (hc0 : ¬cond0_0 i) {xo13 : Vec Ideal S2176x128 .f32} (H : Blocks d x0 x1 x2 x3 x4 x5 x6 x7 x8) :
    Is (out0_B_11 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13) (fun i j => d.dq i (128 + j) * d.S i j) := by
  intro p q
  have hp : View.PiecesOf (Val := Elt Ideal) (s := S2176x128) (e := .bf16) (mat (fun i j => d.dq i (128 + j) * d.S i j)) ((kernelRun0_B (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13).2.2.1) := pieces11 H
  have h := View.canon_append_of_piecesOf _ [] _ hp (ix2 p q) (cover0_B_11 ..)
  rw [List.append_nil] at h
  exact (congrFun (View.read_writes_junk_eq_canon VO0_11 _) _).trans h

theorem o12_B (hc0 : ¬cond0_0 i) {xo13 : Vec Ideal S2176x128 .f32} (H : Blocks d x0 x1 x2 x3 x4 x5 x6 x7 x8) :
    Is (out0_B_12 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13) (fun i j => d.dk i j) := by
  intro p q
  have hp : View.PiecesOf (Val := Elt Ideal) (s := S2176x128) (e := .bf16) (mat (fun i j => d.dk i j)) ((kernelRun0_B (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13).2.2.2.1) := pieces12 H
  have h := View.canon_append_of_piecesOf _ [] _ hp (ix2 p q) (cover0_B_12 ..)
  rw [List.append_nil] at h
  exact (congrFun (View.read_writes_junk_eq_canon VO0_12 _) _).trans h

theorem o14_B (hc0 : ¬cond0_0 i) {xo13 : Vec Ideal S2176x128 .f32} (H : Blocks d x0 x1 x2 x3 x4 x5 x6 x7 x8) :
    Is (out0_B_14 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13) (fun i j => d.dv i j) := by
  intro p q
  have hp : View.PiecesOf (Val := Elt Ideal) (s := S2176x128) (e := .bf16) (mat (fun i j => d.dv i j)) ((kernelRun0_B (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13).2.2.2.2.2.1) := pieces14 H
  have h := View.canon_append_of_piecesOf _ [] _ hp (ix2 p q) (cover0_B_14 ..)
  rw [List.append_nil] at h
  exact (congrFun (View.read_writes_junk_eq_canon VO0_14 _) _).trans h

/-- At a later head it adds that head's gradient to what the heads before it left. -/
theorem o13_B {g : ℕ → ℕ → ℝ} (hc0 : ¬cond0_0 i) {xo13 : Vec Ideal S2176x128 .f32} (hg : Is xo13 g) (H : Blocks d x0 x1 x2 x3 x4 x5 x6 x7 x8) :
    Is (out0_B_13 (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13) (fun i j => g i j + d.dk i (128 + j)) := by
  intro p q
  have hr : Is (kernelRun0_B.sl.r_91 (F := Ideal) c b2 k2 b3 k3 b4 k4 b5 k5 b6 k6 b7 k7 b8 k8 b15 k15 b17 x0 x1 x2 x3 x4 x5 x6 xo13) (fun i j => g i j + ak22 d (0 + i) (128 + j)) :=
    pay205_add (Is.load0_f32 hg) (v945_is H)
  have hp : View.PiecesOf (Val := Elt Ideal) (s := S2176x128) (e := .f32) (mat (fun i j => g i j + d.dk i (128 + j))) ((kernelRun0_B (F := Ideal) c i b2 k2 b3 k3 b4 k4 b5 k5 b6 k6 b7 k7 b8 k8 b9 k9 b10 k10 b11 k11 b12 k12 b13 k13 b14 k14 b15 k15 b16 k16 b17 k17 b18 k18 hc0 x0 x1 x2 x3 x4 x5 x6 x7 x8 xo13).2.2.2.2.1) :=
    ⟨Is.piece_f32 (a := 2176) (b := 128) (n := 2176) (inb := inb_S2176x128_S2176x128_0_0) (f := fun i j => g i j + d.dk i (128 + j)) 0
      (hr.congr fun i j _ _ => by rw [ak_tile2048, d.dkT_all, Nat.zero_add]), trivial⟩
  have h := View.canon_append_of_piecesOf _ [] _ hp (ix2 p q) (cover0_B_13 ..)
  rw [List.append_nil] at h
  exact (congrFun (View.read_writes_junk_eq_canon VO0_13 _) _).trans h

end Cert.KernelIdeal.Val
-- ==== Proof.Arr.lean ====
module

public import proofs.«01_k».proof.Proof.Blk
public import proofs.«01_k».proof.Proof.Gen.KernelIdeal.Value
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal Cert.KernelIdeal.Gen

/-- The call's operand arrays as reals: queries (both parts, head by head), keys beside values, the shared rotary key, the output's
gradient, the output, the rows' log-sums by head, and the two rope tables. -/
structure Ins where
  (Q KV KP DO O L C S : ℕ → ℕ → ℝ)

/-- The reals of head `h` of sequence `b`. -/
def Ins.D (A : Ins) (b h : ℕ) : Data where
  Q q l := A.Q (b * 2176 + q) (h * 256 + l)
  K k l := if l < 128 then A.KV (b * 2176 + k) (h * 128 + l) else A.KP (b * 2176 + k) (l - 128)
  V k l := A.KV (b * 2176 + k) (1024 + h * 128 + l)
  DO q l := A.DO (b * 2176 + q) (h * 128 + l)
  O q l := A.O (b * 2176 + q) (h * 128 + l)
  C q l := A.C q l
  S q l := A.S q l
  L q := A.L (b * 2176 + q) (h * 128)

variable (m : (ℓ : Loc nD τ sig) → Buf (Elt Ideal) ℓ) (c : Dev nD)

/-- The arrays the call is handed hold the reals of `A`. -/
structure Holds (A : Ins) : Prop where
  q : Is (a := 8704) (b := 2048) (V m c main_v13) (fun r l => A.Q r l)
  kv : Is (a := 8704) (b := 2048) (V m c main_v14) (fun r l => A.KV r l)
  kp : Is (a := 8704) (b := 128) (V m c main_arg4) (fun r l => A.KP r l)
  dO : Is (a := 8704) (b := 1024) (V m c main_arg6) (fun r l => A.DO r l)
  o : Is (a := 8704) (b := 1024) (V m c main_v59) (fun r l => A.O r l)
  lse : Is (a := 8704) (b := 1024) (V m c main_v64) (fun r l => A.L r l)
  lanes : ∀ r h j : ℕ, j < 128 → A.L r (h * 128 + j) = A.L r (h * 128)
  ct : Is (a := 2176) (b := 128) (V m c main_arg7) (fun r l => A.C r l)
  st : Is (a := 2176) (b := 128) (V m c main_arg8) (fun r l => A.S r l)

theorem idx : ∀ t : Fin cfg0.N, (win0_0.index t = ![t.val / 8, t.val % 8] ∧ win0_1.index t = ![t.val / 8, t.val % 8] ∧ win0_2.index t = ![t.val / 8, 0]
    ∧ win0_3.index t = ![t.val / 8, 8 + t.val % 8] ∧ win0_4.index t = ![t.val / 8, t.val % 8] ∧ win0_5.index t = ![t.val / 8, t.val % 8]
    ∧ win0_6.index t = ![t.val / 8, t.val % 8] ∧ win0_7.index t = ![0, 0] ∧ win0_8.index t = ![0, 0])
    ∧ (win0_9.index t = ![t.val / 8, t.val % 8] ∧ win0_10.index t = ![t.val / 8, t.val % 8] ∧ win0_11.index t = ![t.val / 8, t.val % 8]
    ∧ win0_12.index t = ![t.val / 8, t.val % 8] ∧ win0_13.index t = ![t.val / 8, 0] ∧ win0_14.index t = ![t.val / 8, t.val % 8]) ∧ t.val < 32 :=
  (by decide +kernel : ∀ t : Fin grid0.N, _)

/-- A block read at an index is its array read where the block lies. -/
theorem at_eq {a b : ℕ} {X : (⟨2, ![a, b]⟩ : Shape).Idx → EReal} {f : ℕ → ℕ → ℝ} (h : Is X f) (y : (⟨2, ![a, b]⟩ : Shape).Idx) {p q : ℕ}
    (e : (y 0 : ℕ) = p ∧ (y 1 : ℕ) = q) : X y = ↑(f p q) := by
  conv_lhs => rw [eq_ix2 y]
  rw [← e.1, ← e.2]
  exact h _ _

theorem lane_add (t j : ℕ) : (8 + t % 8) * 128 + j = 1024 + t % 8 * 128 + j := by omega

variable {m c}

theorem emb0 (t : Fin cfg0.N) (i : Fin 2176) (j : Fin 256) :
    ((((cfg0.win 0).blk t).view.emb (ix2 i j) 0 : Fin _) : ℕ) = t.val / 8 * 2176 + i.val ∧ ((((cfg0.win 0).blk t).view.emb (ix2 i j) 1 : Fin _) : ℕ) = t.val % 8 * 256 + j.val := by
  constructor <;> blk_simp [(idx t).1]

theorem emb1 (t : Fin cfg0.N) (i : Fin 2176) (j : Fin 128) :
    ((((cfg0.win 1).blk t).view.emb (ix2 i j) 0 : Fin _) : ℕ) = t.val / 8 * 2176 + i.val ∧ ((((cfg0.win 1).blk t).view.emb (ix2 i j) 1 : Fin _) : ℕ) = t.val % 8 * 128 + j.val := by
  constructor <;> blk_simp [(idx t).1]

theorem emb2 (t : Fin cfg0.N) (i : Fin 2176) (j : Fin 128) :
    ((((cfg0.win 2).blk t).view.emb (ix2 i j) 0 : Fin _) : ℕ) = t.val / 8 * 2176 + i.val ∧ ((((cfg0.win 2).blk t).view.emb (ix2 i j) 1 : Fin _) : ℕ) = j.val := by
  constructor <;> blk_simp [(idx t).1]

theorem emb3 (t : Fin cfg0.N) (i : Fin 2176) (j : Fin 128) :
    ((((cfg0.win 3).blk t).view.emb (ix2 i j) 0 : Fin _) : ℕ) = t.val / 8 * 2176 + i.val ∧ ((((cfg0.win 3).blk t).view.emb (ix2 i j) 1 : Fin _) : ℕ) = (8 + t.val % 8) * 128 + j.val := by
  constructor <;> blk_simp [(idx t).1]

theorem emb4 (t : Fin cfg0.N) (i : Fin 2176) (j : Fin 128) :
    ((((cfg0.win 4).blk t).view.emb (ix2 i j) 0 : Fin _) : ℕ) = t.val / 8 * 2176 + i.val ∧ ((((cfg0.win 4).blk t).view.emb (ix2 i j) 1 : Fin _) : ℕ) = t.val % 8 * 128 + j.val := by
  constructor <;> blk_simp [(idx t).1]

theorem emb5 (t : Fin cfg0.N) (i : Fin 2176) (j : Fin 128) :
    ((((cfg0.win 5).blk t).view.emb (ix2 i j) 0 : Fin _) : ℕ) = t.val / 8 * 2176 + i.val ∧ ((((cfg0.win 5).blk t).view.emb (ix2 i j) 1 : Fin _) : ℕ) = t.val % 8 * 128 + j.val := by
  constructor <;> blk_simp [(idx t).1]

theorem emb6 (t : Fin cfg0.N) (i : Fin 2176) (j : Fin 128) :
    ((((cfg0.win 6).blk t).view.emb (ix2 i j) 0 : Fin _) : ℕ) = t.val / 8 * 2176 + i.val ∧ ((((cfg0.win 6).blk t).view.emb (ix2 i j) 1 : Fin _) : ℕ) = t.val % 8 * 128 + j.val := by
  constructor <;> blk_simp [(idx t).1]

theorem emb7 (t : Fin cfg0.N) (i : Fin 2176) (j : Fin 128) :
    ((((cfg0.win 7).blk t).view.emb (ix2 i j) 0 : Fin _) : ℕ) = i.val ∧ ((((cfg0.win 7).blk t).view.emb (ix2 i j) 1 : Fin _) : ℕ) = j.val := by
  constructor <;> blk_simp [(idx t).1]

theorem emb8 (t : Fin cfg0.N) (i : Fin 2176) (j : Fin 128) :
    ((((cfg0.win 8).blk t).view.emb (ix2 i j) 0 : Fin _) : ℕ) = i.val ∧ ((((cfg0.win 8).blk t).view.emb (ix2 i j) 1 : Fin _) : ℕ) = j.val := by
  constructor <;> blk_simp [(idx t).1]

theorem emb9 (t : Fin cfg0.N) (i : Fin 2176) (j : Fin 128) :
    ((((cfg0.win 9).blk t).view.emb (ix2 i j) 0 : Fin _) : ℕ) = t.val / 8 * 2176 + i.val ∧ ((((cfg0.win 9).blk t).view.emb (ix2 i j) 1 : Fin _) : ℕ) = t.val % 8 * 128 + j.val := by
  constructor <;> blk_simp [(idx t).2.1]

theorem emb10 (t : Fin cfg0.N) (i : Fin 2176) (j : Fin 128) :
    ((((cfg0.win 10).blk t).view.emb (ix2 i j) 0 : Fin _) : ℕ) = t.val / 8 * 2176 + i.val ∧ ((((cfg0.win 10).blk t).view.emb (ix2 i j) 1 : Fin _) : ℕ) = t.val % 8 * 128 + j.val := by
  constructor <;> blk_simp [(idx t).2.1]

theorem emb11 (t : Fin cfg0.N) (i : Fin 2176) (j : Fin 128) :
    ((((cfg0.win 11).blk t).view.emb (ix2 i j) 0 : Fin _) : ℕ) = t.val / 8 * 2176 + i.val ∧ ((((cfg0.win 11).blk t).view.emb (ix2 i j) 1 : Fin _) : ℕ) = t.val % 8 * 128 + j.val := by
  constructor <;> blk_simp [(idx t).2.1]

theorem emb12 (t : Fin cfg0.N) (i : Fin 2176) (j : Fin 128) :
    ((((cfg0.win 12).blk t).view.emb (ix2 i j) 0 : Fin _) : ℕ) = t.val / 8 * 2176 + i.val ∧ ((((cfg0.win 12).blk t).view.emb (ix2 i j) 1 : Fin _) : ℕ) = t.val % 8 * 128 + j.val := by
  constructor <;> blk_simp [(idx t).2.1]

theorem emb13 (t : Fin cfg0.N) (i : Fin 2176) (j : Fin 128) :
    ((((cfg0.win 13).blk t).view.emb (ix2 i j) 0 : Fin _) : ℕ) = t.val / 8 * 2176 + i.val ∧ ((((cfg0.win 13).blk t).view.emb (ix2 i j) 1 : Fin _) : ℕ) = j.val := by
  constructor <;> blk_simp [(idx t).2.1]

theorem emb14 (t : Fin cfg0.N) (i : Fin 2176) (j : Fin 128) :
    ((((cfg0.win 14).blk t).view.emb (ix2 i j) 0 : Fin _) : ℕ) = t.val / 8 * 2176 + i.val ∧ ((((cfg0.win 14).blk t).view.emb (ix2 i j) 1 : Fin _) : ℕ) = t.val % 8 * 128 + j.val := by
  constructor <;> blk_simp [(idx t).2.1]

theorem rd0 (t : Fin cfg0.N) (X : S8704x2048.Idx → EReal) (y : S2176x256.Idx) : (((cfg0.win 0).blk t).view.read (Elt Ideal) X : S2176x256.Idx → EReal) y = X (((cfg0.win 0).blk t).view.emb y) := rfl

theorem ib0 (t : Fin cfg0.N) : (iblk m c 0 t : S2176x256.Idx → EReal) = (((cfg0.win 0).blk t).view.read (Elt Ideal) (V m c main_v13) : S2176x256.Idx → EReal) := rfl

theorem blk0 {A : Ins} (H : Holds m c A) (t : Fin cfg0.N) : Is (a := 2176) (b := 256) (iblk m c 0 t) (fun i j => (A.D (t.val / 8) (t.val % 8)).Q i j) := by
  intro i j
  rw [ib0, rd0]
  exact (at_eq H.q (((cfg0.win 0).blk t).view.emb (ix2 i j)) (emb0 t i j)).trans (congrArg (fun z : ℝ => (z : EReal)) (rfl))

theorem rd1 (t : Fin cfg0.N) (X : S8704x2048.Idx → EReal) (y : S2176x128.Idx) : (((cfg0.win 1).blk t).view.read (Elt Ideal) X : S2176x128.Idx → EReal) y = X (((cfg0.win 1).blk t).view.emb y) := rfl

theorem ib1 (t : Fin cfg0.N) : (iblk m c 1 t : S2176x128.Idx → EReal) = (((cfg0.win 1).blk t).view.read (Elt Ideal) (V m c main_v14) : S2176x128.Idx → EReal) := rfl

theorem blk1 {A : Ins} (H : Holds m c A) (t : Fin cfg0.N) : Is (a := 2176) (b := 128) (iblk m c 1 t) (fun i j => (A.D (t.val / 8) (t.val % 8)).K i j) := by
  intro i j
  rw [ib1, rd1]
  exact (at_eq H.kv (((cfg0.win 1).blk t).view.emb (ix2 i j)) (emb1 t i j)).trans (congrArg (fun z : ℝ => (z : EReal)) ((if_pos j.2).symm))

theorem rd2 (t : Fin cfg0.N) (X : S8704x128.Idx → EReal) (y : S2176x128.Idx) : (((cfg0.win 2).blk t).view.read (Elt Ideal) X : S2176x128.Idx → EReal) y = X (((cfg0.win 2).blk t).view.emb y) := rfl

theorem ib2 (t : Fin cfg0.N) : (iblk m c 2 t : S2176x128.Idx → EReal) = (((cfg0.win 2).blk t).view.read (Elt Ideal) (V m c main_arg4) : S2176x128.Idx → EReal) := rfl

theorem blk2 {A : Ins} (H : Holds m c A) (t : Fin cfg0.N) : Is (a := 2176) (b := 128) (iblk m c 2 t) (fun i j => (A.D (t.val / 8) (t.val % 8)).K i (128 + j)) := by
  intro i j
  rw [ib2, rd2]
  exact (at_eq H.kp (((cfg0.win 2).blk t).view.emb (ix2 i j)) (emb2 t i j)).trans (congrArg (fun z : ℝ => (z : EReal)) (by
    show A.KP _ _ = if 128 + j.val < 128 then _ else A.KP _ (128 + j.val - 128)
    rw [if_neg (by omega), Nat.add_sub_cancel_left]))

theorem rd3 (t : Fin cfg0.N) (X : S8704x2048.Idx → EReal) (y : S2176x128.Idx) : (((cfg0.win 3).blk t).view.read (Elt Ideal) X : S2176x128.Idx → EReal) y = X (((cfg0.win 3).blk t).view.emb y) := rfl

theorem ib3 (t : Fin cfg0.N) : (iblk m c 3 t : S2176x128.Idx → EReal) = (((cfg0.win 3).blk t).view.read (Elt Ideal) (V m c main_v14) : S2176x128.Idx → EReal) := rfl

theorem blk3 {A : Ins} (H : Holds m c A) (t : Fin cfg0.N) : Is (a := 2176) (b := 128) (iblk m c 3 t) (fun i j => (A.D (t.val / 8) (t.val % 8)).V i j) := by
  intro i j
  rw [ib3, rd3]
  exact (at_eq H.kv (((cfg0.win 3).blk t).view.emb (ix2 i j)) (emb3 t i j)).trans (congrArg (fun z : ℝ => (z : EReal)) (congrArg (A.KV _) (lane_add t.val j.val)))

theorem rd4 (t : Fin cfg0.N) (X : S8704x1024.Idx → EReal) (y : S2176x128.Idx) : (((cfg0.win 4).blk t).view.read (Elt Ideal) X : S2176x128.Idx → EReal) y = X (((cfg0.win 4).blk t).view.emb y) := rfl

theorem ib4 (t : Fin cfg0.N) : (iblk m c 4 t : S2176x128.Idx → EReal) = (((cfg0.win 4).blk t).view.read (Elt Ideal) (V m c main_arg6) : S2176x128.Idx → EReal) := rfl

theorem blk4 {A : Ins} (H : Holds m c A) (t : Fin cfg0.N) : Is (a := 2176) (b := 128) (iblk m c 4 t) (fun i j => (A.D (t.val / 8) (t.val % 8)).DO i j) := by
  intro i j
  rw [ib4, rd4]
  exact (at_eq H.dO (((cfg0.win 4).blk t).view.emb (ix2 i j)) (emb4 t i j)).trans (congrArg (fun z : ℝ => (z : EReal)) (rfl))

theorem rd5 (t : Fin cfg0.N) (X : S8704x1024.Idx → EReal) (y : S2176x128.Idx) : (((cfg0.win 5).blk t).view.read (Elt Ideal) X : S2176x128.Idx → EReal) y = X (((cfg0.win 5).blk t).view.emb y) := rfl

theorem ib5 (t : Fin cfg0.N) : (iblk m c 5 t : S2176x128.Idx → EReal) = (((cfg0.win 5).blk t).view.read (Elt Ideal) (V m c main_v59) : S2176x128.Idx → EReal) := rfl

theorem blk5 {A : Ins} (H : Holds m c A) (t : Fin cfg0.N) : Is (a := 2176) (b := 128) (iblk m c 5 t) (fun i j => (A.D (t.val / 8) (t.val % 8)).O i j) := by
  intro i j
  rw [ib5, rd5]
  exact (at_eq H.o (((cfg0.win 5).blk t).view.emb (ix2 i j)) (emb5 t i j)).trans (congrArg (fun z : ℝ => (z : EReal)) (rfl))

theorem rd6 (t : Fin cfg0.N) (X : S8704x1024.Idx → EReal) (y : S2176x128.Idx) : (((cfg0.win 6).blk t).view.read (Elt Ideal) X : S2176x128.Idx → EReal) y = X (((cfg0.win 6).blk t).view.emb y) := rfl

theorem ib6 (t : Fin cfg0.N) : (iblk m c 6 t : S2176x128.Idx → EReal) = (((cfg0.win 6).blk t).view.read (Elt Ideal) (V m c main_v64) : S2176x128.Idx → EReal) := rfl

theorem blk6 {A : Ins} (H : Holds m c A) (t : Fin cfg0.N) : Is (a := 2176) (b := 128) (iblk m c 6 t) (fun i j => (A.D (t.val / 8) (t.val % 8)).L i) := by
  intro i j
  rw [ib6, rd6]
  exact (at_eq H.lse (((cfg0.win 6).blk t).view.emb (ix2 i j)) (emb6 t i j)).trans (congrArg (fun z : ℝ => (z : EReal)) (H.lanes _ _ _ j.2))

theorem rd7 (t : Fin cfg0.N) (X : S2176x128.Idx → EReal) (y : S2176x128.Idx) : (((cfg0.win 7).blk t).view.read (Elt Ideal) X : S2176x128.Idx → EReal) y = X (((cfg0.win 7).blk t).view.emb y) := rfl

theorem ib7 (t : Fin cfg0.N) : (iblk m c 7 t : S2176x128.Idx → EReal) = (((cfg0.win 7).blk t).view.read (Elt Ideal) (V m c main_arg7) : S2176x128.Idx → EReal) := rfl

theorem blk7 {A : Ins} (H : Holds m c A) (t : Fin cfg0.N) : Is (a := 2176) (b := 128) (iblk m c 7 t) (fun i j => (A.D (t.val / 8) (t.val % 8)).C i j) := by
  intro i j
  rw [ib7, rd7]
  exact (at_eq H.ct (((cfg0.win 7).blk t).view.emb (ix2 i j)) (emb7 t i j)).trans (congrArg (fun z : ℝ => (z : EReal)) (rfl))

theorem rd8 (t : Fin cfg0.N) (X : S2176x128.Idx → EReal) (y : S2176x128.Idx) : (((cfg0.win 8).blk t).view.read (Elt Ideal) X : S2176x128.Idx → EReal) y = X (((cfg0.win 8).blk t).view.emb y) := rfl

theorem ib8 (t : Fin cfg0.N) : (iblk m c 8 t : S2176x128.Idx → EReal) = (((cfg0.win 8).blk t).view.read (Elt Ideal) (V m c main_arg8) : S2176x128.Idx → EReal) := rfl

theorem blk8 {A : Ins} (H : Holds m c A) (t : Fin cfg0.N) : Is (a := 2176) (b := 128) (iblk m c 8 t) (fun i j => (A.D (t.val / 8) (t.val % 8)).S i j) := by
  intro i j
  rw [ib8, rd8]
  exact (at_eq H.st (((cfg0.win 8).blk t).view.emb (ix2 i j)) (emb8 t i j)).trans (congrArg (fun z : ℝ => (z : EReal)) (rfl))

/-- At grid point `t` every block holds the reals of its sequence and head. -/
theorem blocks {A : Ins} (H : Holds m c A) (t : Fin cfg0.N) :
    Blocks (A.D (t.val / 8) (t.val % 8)) (iblk m c 0 t) (iblk m c 1 t) (iblk m c 2 t) (iblk m c 3 t) (iblk m c 4 t) (iblk m c 5 t) (iblk m c 6 t) (iblk m c 7 t) (iblk m c 8 t) where
  x0 := blk0 H t
  x1 := blk1 H t
  x2 := blk2 H t
  x3 := blk3 H t
  x4 := blk4 H t
  x5 := blk5 H t
  x6 := blk6 H t
  x7 := blk7 H t
  x8 := blk8 H t

/-- The real at row `r`, lane `l` of an array of all sequences and heads. -/
def Ins.all (A : Ins) (f : Data → ℕ → ℕ → ℝ) (r l : ℕ) : ℝ := f (A.D (r / 2176) (l / 128)) (r % 2176) (l % 128)

theorem Ins.all_at (A : Ins) (f : Data → ℕ → ℕ → ℝ) (t i j : ℕ) (hi : i < 2176) (hj : j < 128) :
    A.all f (t / 8 * 2176 + i) (t % 8 * 128 + j) = f (A.D (t / 8) (t % 8)) i j := by
  unfold Ins.all
  rw [show (t / 8 * 2176 + i) / 2176 = t / 8 by omega, show (t % 8 * 128 + j) / 128 = t % 8 by omega,
    show (t / 8 * 2176 + i) % 2176 = i by omega, show (t % 8 * 128 + j) % 128 = j by omega]

end Cert.KernelIdeal.Val
-- ==== Proof.RefA.lean ====
module

public import proofs.«01_k».proof.Proof.Gen.ReferenceIdeal.Read
public import proofs.«01_k».proof.Proof.Ops
public import Idealize.ShloMosaic.Lib.IdealHost
public import Idealize.ShloMosaic.Lib.WordCmp
public import Idealize.ShloMosaic.Lib.TwoAxisContraction

@[expose] public section

set_option maxRecDepth 16384

noncomputable section

namespace Cert.ReferenceIdeal.Real

open Idealize.ShloMosaic Idealize.ShloMosaic.TcCoe Idealize.SL.Sem
open Cert.ReferenceIdeal Cert.ReferenceIdeal.Gen Cert.ReferenceIdeal.Read
open Cert.KernelIdeal.Val (Is coe_dot)

/-- The real entries of the nine arguments, and the greatest score of each row. -/
structure Reals where
  QN : ℕ → ℕ → ℝ
  U : ℕ → ℕ → ℝ
  W : ℕ → ℕ → ℝ
  KN : ℕ → ℕ → ℝ
  KP : ℕ → ℕ → ℝ
  VV : ℕ → ℕ → ℝ
  GO : ℕ → ℕ → ℝ
  C : ℕ → ℕ → ℝ
  S : ℕ → ℕ → ℝ
  M : ℕ → ℕ → ℕ → ℝ

/-- The scale of the scores. -/
def scl : ℝ := (Ideal.ofBits .f32 0x3D93CD3A#32).toReal

theorem scl_coe : Ideal.ofBits .f32 0x3D93CD3A#32 = (scl : EReal) := by
  have h : ∃ r : ℝ, Ideal.ofBits .f32 0x3D93CD3A#32 = (r : EReal) := by
    simp only [Ideal.ofBits, Ideal.ieee]
    exact ⟨_, rfl⟩
  obtain ⟨r, hr⟩ := h
  rw [scl, hr, EReal.toReal_coe]

namespace Reals
variable (R : Reals)

def qn (b q h d : ℕ) : ℝ := R.QN (b * 2176 + q) (h * 128 + d)
def kn (b k h d : ℕ) : ℝ := R.KN (b * 2176 + k) (h * 128 + d)
def vv (b k h d : ℕ) : ℝ := R.VV (b * 2176 + k) (h * 128 + d)
def go (b q h d : ℕ) : ℝ := R.GO (b * 2176 + q) (h * 128 + d)
def kp (b k d : ℕ) : ℝ := R.KP (b * 2176 + k) d
/-- The rotated part of a query. -/
def pe (b q h d : ℕ) : ℝ := R.U (b * 2176 + q) (h * 128 + d) * R.C q d + R.W (b * 2176 + q) (h * 128 + d) * R.S q d
/-- The unscaled score. -/
def s0 (b h q k : ℕ) : ℝ := (∑ d : Fin 128, R.qn b q h d * R.kn b k h d) + ∑ d : Fin 128, R.kp b k d * R.pe b q h d
/-- The score. -/
def sc (b h q k : ℕ) : ℝ := R.s0 b h q k * scl
/-- The exponential of a score less its row's greatest, zero behind the mask. -/
def ex (b h q k : ℕ) : ℝ := if k ≤ q then Real.exp (R.sc b h q k - R.M b h q) else 0
/-- The row sum of the exponentials. -/
def l (b h q : ℕ) : ℝ := ∑ k : Fin 2176, R.ex b h q k
/-- The output of the attention. -/
def out (b q h d : ℕ) : ℝ := ∑ k : Fin 2176, R.vv b k h d * (R.ex b h q k / R.l b h q)
/-- The gradient of a probability. -/
def dp (b h q k : ℕ) : ℝ := ∑ d : Fin 128, R.go b q h d * R.vv b k h d
/-- The share of the row sum in the gradient. -/
def ro (b h q : ℕ) : ℝ := ∑ k : Fin 2176, R.dp b h q k * (1 / (R.l b h q * R.l b h q)) * R.ex b h q k
/-- The gradient of an unscaled score. -/
def ds (b h q k : ℕ) : ℝ := (if k ≤ q then (R.dp b h q k / R.l b h q + -R.ro b h q) * R.ex b h q k else 0) * scl
def dqn (b q h d : ℕ) : ℝ := ∑ k : Fin 2176, R.ds b h q k * R.kn b k h d
def dpe (b q h d : ℕ) : ℝ := ∑ k : Fin 2176, R.ds b h q k * R.kp b k d
def dkn (b k h d : ℕ) : ℝ := ∑ q : Fin 2176, R.ds b h q k * R.qn b q h d
def dkp (b k d : ℕ) : ℝ := ∑ q : Fin 2176, ∑ h : Fin 8, R.ds b h q k * R.pe b q h d
def dv (b k h d : ℕ) : ℝ := ∑ q : Fin 2176, R.go b q h d * (R.ex b h q k / R.l b h q)

theorem l_pos (b h q : ℕ) : 0 < R.l b h q := by
  have h0 : ∀ k : Fin 2176, 0 ≤ R.ex b h q k := fun k => by
    unfold ex
    split
    · exact (Real.exp_pos _).le
    · exact le_rfl
  refine Finset.sum_pos' (fun k _ => h0 k) ⟨0, Finset.mem_univ _, ?_⟩
  show 0 < R.ex b h q 0
  rw [ex, if_pos (Nat.zero_le _)]
  exact Real.exp_pos _

end Reals

/-- The nine arguments hold the reals. -/
structure Args (x0 : (⟨S8704x1024, .bf16⟩ : BufTy).Contents (Elt Ideal)) (x1 x2 : (⟨S8704x1024, .f32⟩ : BufTy).Contents (Elt Ideal))
    (x3 : (⟨S8704x1024, .bf16⟩ : BufTy).Contents (Elt Ideal)) (x4 : (⟨S8704x128, .bf16⟩ : BufTy).Contents (Elt Ideal))
    (x5 x6 : (⟨S8704x1024, .bf16⟩ : BufTy).Contents (Elt Ideal)) (x7 x8 : (⟨S2176x128, .f32⟩ : BufTy).Contents (Elt Ideal)) (R : Reals) : Prop where
  a0 : Is (a := 8704) (b := 1024) x0 R.QN
  a1 : Is (a := 8704) (b := 1024) x1 R.U
  a2 : Is (a := 8704) (b := 1024) x2 R.W
  a3 : Is (a := 8704) (b := 1024) x3 R.KN
  a4 : Is (a := 8704) (b := 128) x4 R.KP
  a5 : Is (a := 8704) (b := 1024) x5 R.VV
  a6 : Is (a := 8704) (b := 1024) x6 R.GO
  a7 : Is (a := 2176) (b := 128) x7 R.C
  a8 : Is (a := 2176) (b := 128) x8 R.S

theorem coe_sum {n : ℕ} (u : Fin n → ℝ) : (∑ k, (u k : EReal)) = ((∑ k, u k : ℝ) : EReal) :=
  (map_sum (⟨⟨Real.toEReal, rfl⟩, EReal.coe_add⟩ : ℝ →+ EReal) u Finset.univ).symm

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem Is.at' {a b : ℕ} {x : (⟨2, ![a, b]⟩ : Shape).Idx → EReal} {f : ℕ → ℕ → ℝ} (hx : Is x f) (i : (⟨2, ![a, b]⟩ : Shape).Idx) :
    x i = ((f (i 0).val (i 1).val : ℝ) : EReal) := by
  rw [eq_ix2 i]
  exact hx _ _

variable {x0 : (⟨S8704x1024, .bf16⟩ : BufTy).Contents (Elt Ideal)} {x1 x2 : (⟨S8704x1024, .f32⟩ : BufTy).Contents (Elt Ideal)}
    {x3 : (⟨S8704x1024, .bf16⟩ : BufTy).Contents (Elt Ideal)} {x4 : (⟨S8704x128, .bf16⟩ : BufTy).Contents (Elt Ideal)}
    {x5 x6 : (⟨S8704x1024, .bf16⟩ : BufTy).Contents (Elt Ideal)} {x7 x8 : (⟨S2176x128, .f32⟩ : BufTy).Contents (Elt Ideal)} {R : Reals}

/-- An entry of a matrix of 8704 rows and 1024 columns by batch, row, head and lane. -/
theorem split4 (f : ℕ → ℕ → ℝ) (b q h d : ℕ) (hh : h < 8) (hd : d < 128) :
    f ((((b * 2176 + q) * 8 + h) * 128 + d) / 1024) ((((b * 2176 + q) * 8 + h) * 128 + d) % 1024) = f (b * 2176 + q) (h * 128 + d) := by
  congr 1 <;> omega

theorem r1 (H : Args x0 x1 x2 x3 x4 x5 x6 x7 x8 R) (i : S4x2176x8x128.Idx) :
    val_main_v1 (F := Ideal) x0 i = ((R.qn (i 0).val (i 1).val (i 2).val (i 3).val : ℝ) : EReal) := by
  rw [val_main_v1_apply]
  refine (Is.at' H.a0 _).trans (congrArg _ ?_)
  exact split4 R.QN _ _ _ _ (i 2).isLt (i 3).isLt

theorem r2 (H : Args x0 x1 x2 x3 x4 x5 x6 x7 x8 R) (i : S4x2176x8x128.Idx) :
    val_main_v2 (F := Ideal) x1 i = ((R.U ((i 0).val * 2176 + (i 1).val) ((i 2).val * 128 + (i 3).val) : ℝ) : EReal) := by
  rw [val_main_v2_apply]
  refine (Is.at' H.a1 _).trans (congrArg _ ?_)
  exact split4 R.U _ _ _ _ (i 2).isLt (i 3).isLt

theorem r3 (H : Args x0 x1 x2 x3 x4 x5 x6 x7 x8 R) (i : S4x2176x8x128.Idx) :
    val_main_v3 (F := Ideal) x2 i = ((R.W ((i 0).val * 2176 + (i 1).val) ((i 2).val * 128 + (i 3).val) : ℝ) : EReal) := by
  rw [val_main_v3_apply]
  refine (Is.at' H.a2 _).trans (congrArg _ ?_)
  exact split4 R.W _ _ _ _ (i 2).isLt (i 3).isLt

theorem r5 (H : Args x0 x1 x2 x3 x4 x5 x6 x7 x8 R) (i : S4x2176x8x128.Idx) :
    val_main_v5 (F := Ideal) x3 i = ((R.kn (i 0).val (i 1).val (i 2).val (i 3).val : ℝ) : EReal) := by
  rw [val_main_v5_apply]
  refine (Is.at' H.a3 _).trans (congrArg _ ?_)
  exact split4 R.KN _ _ _ _ (i 2).isLt (i 3).isLt

theorem r7 (H : Args x0 x1 x2 x3 x4 x5 x6 x7 x8 R) (i : S4x2176x128.Idx) :
    val_main_v7 (F := Ideal) x4 i = ((R.kp (i 0).val (i 1).val (i 2).val : ℝ) : EReal) := by
  rw [val_main_v7_apply]
  refine (Is.at' H.a4 _).trans (congrArg _ ?_)
  have h2 : (i 2).val < 128 := (i 2).isLt
  show R.KP ((((i 0).val * 2176 + (i 1).val) * 128 + (i 2).val) / 128) ((((i 0).val * 2176 + (i 1).val) * 128 + (i 2).val) % 128) = R.KP ((i 0).val * 2176 + (i 1).val) (i 2).val
  congr 1 <;> omega

theorem r9 (H : Args x0 x1 x2 x3 x4 x5 x6 x7 x8 R) (i : S4x2176x8x128.Idx) :
    val_main_v9 (F := Ideal) x5 i = ((R.vv (i 0).val (i 1).val (i 2).val (i 3).val : ℝ) : EReal) := by
  rw [val_main_v9_apply]
  refine (Is.at' H.a5 _).trans (congrArg _ ?_)
  exact split4 R.VV _ _ _ _ (i 2).isLt (i 3).isLt

theorem r63 (H : Args x0 x1 x2 x3 x4 x5 x6 x7 x8 R) (i : S4x2176x8x128.Idx) :
    val_main_v63 (F := Ideal) x6 i = ((R.go (i 0).val (i 1).val (i 2).val (i 3).val : ℝ) : EReal) := by
  rw [val_main_v63_apply]
  refine (Is.at' H.a6 _).trans (congrArg _ ?_)
  exact split4 R.GO _ _ _ _ (i 2).isLt (i 3).isLt

theorem r10 (H : Args x0 x1 x2 x3 x4 x5 x6 x7 x8 R) (i : S1x2176x1x128.Idx) :
    val_main_v10 (F := Ideal) x7 i = ((R.C (i 1).val (i 3).val : ℝ) : EReal) := by
  rw [val_main_v10_apply]
  exact Is.at' H.a7 _

theorem r13 (H : Args x0 x1 x2 x3 x4 x5 x6 x7 x8 R) (i : S1x2176x1x128.Idx) :
    val_main_v13 (F := Ideal) x8 i = ((R.S (i 1).val (i 3).val : ℝ) : EReal) := by
  rw [val_main_v13_apply]
  exact Is.at' H.a8 _

theorem r16 (H : Args x0 x1 x2 x3 x4 x5 x6 x7 x8 R) (i : S4x2176x8x128.Idx) :
    val_main_v16 (F := Ideal) x1 x2 x7 x8 i = ((R.pe (i 0).val (i 1).val (i 2).val (i 3).val : ℝ) : EReal) := by
  rw [val_main_v16_apply, val_main_v12_apply, val_main_v15_apply, val_main_v11_apply, val_main_v14_apply, r2 H, r3 H, r10 H, r13 H]
  show ((_ : ℝ) : EReal) * ((_ : ℝ) : EReal) + ((_ : ℝ) : EReal) * ((_ : ℝ) : EReal) = _
  rw [← EReal.coe_mul, ← EReal.coe_mul, ← EReal.coe_add]
  rfl

theorem r17 (H : Args x0 x1 x2 x3 x4 x5 x6 x7 x8 R) (i : S4x8x2176x2176.Idx) :
    val_main_v17 (F := Ideal) x0 x3 i = ((∑ d : Fin 128, R.qn (i 0).val (i 2).val (i 1).val d * R.kn (i 0).val (i 3).val (i 1).val d : ℝ) : EReal) := by
  rw [val_main_v17_apply, ← coe_dot]
  exact Finset.sum_congr rfl fun k _ => by rw [r1 H, r5 H]

theorem r18 (H : Args x0 x1 x2 x3 x4 x5 x6 x7 x8 R) (i : S4x2176x2176x8.Idx) :
    val_main_v18 (F := Ideal) x1 x2 x4 x7 x8 i = ((∑ d : Fin 128, R.kp (i 0).val (i 1).val d * R.pe (i 0).val (i 2).val (i 3).val d : ℝ) : EReal) := by
  rw [val_main_v18_apply, ← coe_dot]
  exact Finset.sum_congr rfl fun k _ => by rw [r7 H, r16 H]

theorem r30 (H : Args x0 x1 x2 x3 x4 x5 x6 x7 x8 R) (i : S4x8x2176x2176.Idx) :
    val_main_v30 (F := Ideal) x0 x1 x2 x3 x4 x7 x8 i = ((R.sc (i 0).val (i 1).val (i 2).val (i 3).val : ℝ) : EReal) := by
  rw [val_main_v30_apply, val_main_v20_apply, val_main_v19_apply, r17 H, r18 H, val_main_v29_apply, val_main_cst_apply]
  show (((_ : ℝ) : EReal) + ((_ : ℝ) : EReal)) * Ideal.ofBits .f32 0x3D93CD3A#32 = _
  rw [scl_coe, ← EReal.coe_add, ← EReal.coe_mul]
  rfl

theorem mask (i : S4x8x2176x2176.Idx) :
    val_main_v31_1 (F := Ideal) i = BitVec.ofBool (decide ((i 3).val ≤ (i 2).val)) := by
  rw [val_main_v31_1_apply, val_main_v28_apply, val_main_v27_apply, val_main_v25_apply, val_main_v26_apply, val_main_v22_apply, val_main_v24_apply, val_main_v21_apply, val_main_v23_apply]
  have h2 : (i 2).val < 2176 := (i 2).isLt
  have h3 : (i 3).val < 2176 := (i 3).isLt
  exact WordCmp.cmpi_sle_ofNat (w := 32) (a := (i 3).val) (b := (i 2).val) (by omega) (by omega)

theorem select_mask (x y : EReal) (p : Prop) [Decidable p] : Scalar.select (BitVec.ofBool (decide p)) x y = if p then x else y := by
  by_cases h : p <;> simp [Scalar.select, h]

theorem neg_inf : Ideal.ofBits .f32 0xFF800000#32 = (⊥ : EReal) := by
  simp [Ideal.ofBits, Ideal.ieee]

theorem zero_bits : Ideal.ofBits .f32 0x00000000#32 = ((0 : ℝ) : EReal) := by
  rw [Ideal.ofBits_zero]
  rfl

theorem r31 (H : Args x0 x1 x2 x3 x4 x5 x6 x7 x8 R) (i : S4x8x2176x2176.Idx) :
    val_main_v31_0 (F := Ideal) x0 x1 x2 x3 x4 x7 x8 i = if (i 3).val ≤ (i 2).val then ((R.sc (i 0).val (i 1).val (i 2).val (i 3).val : ℝ) : EReal) else ⊥ := by
  rw [val_main_v31_0_apply, mask, r30 H, val_main_call0_v2_apply, val_main_call0_v0_apply, val_main_cst_0_apply]
  exact (select_mask _ _ _).trans (by rw [show (FloatOps.ofBits .f32 0xFF800000#32 : Ideal .f32) = (⊥ : EReal) from neg_inf])

/-- The greatest score of a row is finite: the diagonal entry is, and no entry is plus infinity. -/
theorem max_real (H : Args x0 x1 x2 x3 x4 x5 x6 x7 x8 R) (j : S4x8x2176.Idx) :
    ∃ r : ℝ, val_main_v32 (F := Ideal) x0 x1 x2 x3 x4 x7 x8 j = (r : EReal) := by
  have e : val_main_v32 (F := Ideal) x0 x1 x2 x3 x4 x7 x8 j = (Finset.univ.filter fun i => reducesTo_S4x8x2176x2176_S4x8x2176_d3.drop i = j).fold max (⊥ : EReal) (val_main_v31_0 (F := Ideal) x0 x1 x2 x3 x4 x7 x8) := by
    unfold val_main_v32
    refine (Host.reduce_eq_fold (FloatOps.maximumf (F := Ideal) (φ := .f32)) _ _ _ _ j).trans ?_
    rw [val_main_cst_1_apply, show (FloatOps.ofBits .f32 0xFF800000#32 : Ideal .f32) = (⊥ : EReal) from neg_inf]
    rfl
  have ht : val_main_v32 (F := Ideal) x0 x1 x2 x3 x4 x7 x8 j < (⊤ : EReal) := by
    rw [e, Finset.fold_max_lt]
    refine ⟨bot_lt_top, fun i _ => ?_⟩
    rw [r31 H i]
    split
    · exact EReal.coe_lt_top _
    · exact bot_lt_top
  have hb : (⊥ : EReal) < val_main_v32 (F := Ideal) x0 x1 x2 x3 x4 x7 x8 j := by
    rw [e, Finset.lt_fold_max]
    refine Or.inr ⟨ix4 (j 0) (j 1) (j 2) (j 2), ?_, ?_⟩
    · rw [Finset.mem_filter]
      refine ⟨Finset.mem_univ _, ?_⟩
      funext a
      apply Fin.ext
      match a with
      | ⟨0, _⟩ => exact Shape.ReducesTo.drop_apply_val_of_eq reducesTo_S4x8x2176x2176_S4x8x2176_d3 _ 0 0
      | ⟨1, _⟩ => exact Shape.ReducesTo.drop_apply_val_of_eq reducesTo_S4x8x2176x2176_S4x8x2176_d3 _ 1 1
      | ⟨2, _⟩ => exact Shape.ReducesTo.drop_apply_val_of_eq reducesTo_S4x8x2176x2176_S4x8x2176_d3 _ 2 2
    · rw [r31 H]
      exact (EReal.bot_lt_coe _).trans_eq (if_pos (le_refl (j 2).val)).symm
  exact ⟨_, (EReal.coe_toReal ht.ne hb.ne').symm⟩

/-- The greatest scores are the reals named. -/
def Max (x0 : (⟨S8704x1024, .bf16⟩ : BufTy).Contents (Elt Ideal)) (x1 x2 : (⟨S8704x1024, .f32⟩ : BufTy).Contents (Elt Ideal))
    (x3 : (⟨S8704x1024, .bf16⟩ : BufTy).Contents (Elt Ideal)) (x4 : (⟨S8704x128, .bf16⟩ : BufTy).Contents (Elt Ideal))
    (x7 x8 : (⟨S2176x128, .f32⟩ : BufTy).Contents (Elt Ideal)) (R : Reals) : Prop :=
  ∀ j : S4x8x2176.Idx, val_main_v32 (F := Ideal) x0 x1 x2 x3 x4 x7 x8 j = ((R.M (j 0).val (j 1).val (j 2).val : ℝ) : EReal)

/-- Comparing the greatest with minus infinity changes nothing. -/
theorem v39_eq : val_main_v39 (F := Ideal) x0 x1 x2 x3 x4 x7 x8 = val_main_v32 (F := Ideal) x0 x1 x2 x3 x4 x7 x8 := by
  funext j
  rw [val_main_v39_apply, val_main_v38_apply, val_main_cst_3_apply]
  show max (Ideal.ofBits .f32 0xFF800000#32) _ = _
  rw [neg_inf]
  exact max_eq_right bot_le

theorem r52 (H : Args x0 x1 x2 x3 x4 x5 x6 x7 x8 R) (hM : Max x0 x1 x2 x3 x4 x7 x8 R) (i : S4x8x2176x2176.Idx) :
    val_main_v52 (F := Ideal) x0 x1 x2 x3 x4 x7 x8 i = ((R.ex (i 0).val (i 1).val (i 2).val (i 3).val : ℝ) : EReal) := by
  rw [val_main_v52_apply, val_main_v51_apply, val_main_v50_apply, val_main_v49_apply, v39_eq, hM, r31 H, Reals.ex]
  show Ideal.exp ((if (i 3).val ≤ (i 2).val then ((R.sc (i 0).val (i 1).val (i 2).val (i 3).val : ℝ) : EReal) else ⊥) - ((R.M (i 0).val (i 1).val (i 2).val : ℝ) : EReal)) = _
  split
  · rw [← EReal.coe_sub]
    rfl
  · rw [EReal.bot_sub]
    rfl

theorem r53 (H : Args x0 x1 x2 x3 x4 x5 x6 x7 x8 R) (hM : Max x0 x1 x2 x3 x4 x7 x8 R) (i : S4x8x2176.Idx) :
    val_main_v53 (F := Ideal) x0 x1 x2 x3 x4 x7 x8 i = ((R.l (i 0).val (i 1).val (i 2).val : ℝ) : EReal) := by
  have hs : (∑ k : Fin 2176, val_main_v52 (F := Ideal) x0 x1 x2 x3 x4 x7 x8 (idx_main_v53 i k)) = ((R.l (i 0).val (i 1).val (i 2).val : ℝ) : EReal) := by
    rw [Reals.l, ← coe_sum]
    exact Finset.sum_congr rfl fun k _ => by rw [r52 H hM]
  rw [val_main_v53_apply, val_main_cst_9_apply, hs, show (FloatOps.ofBits .f32 0x00000000#32 : Ideal .f32) = ((0 : ℝ) : EReal) from zero_bits, ← EReal.coe_add, zero_add]

theorem r54 (H : Args x0 x1 x2 x3 x4 x5 x6 x7 x8 R) (hM : Max x0 x1 x2 x3 x4 x7 x8 R) (i : S4x8x2176x1.Idx) :
    val_main_v54 (F := Ideal) x0 x1 x2 x3 x4 x7 x8 i = ((R.l (i 0).val (i 1).val (i 2).val : ℝ) : EReal) := by
  rw [val_main_v54_apply, r53 H hM]

theorem r56 (H : Args x0 x1 x2 x3 x4 x5 x6 x7 x8 R) (hM : Max x0 x1 x2 x3 x4 x7 x8 R) (i : S4x8x2176x2176.Idx) :
    val_main_v56 (F := Ideal) x0 x1 x2 x3 x4 x7 x8 i = ((R.ex (i 0).val (i 1).val (i 2).val (i 3).val / R.l (i 0).val (i 1).val (i 2).val : ℝ) : EReal) := by
  rw [val_main_v56_apply, val_main_v55_apply, r54 H hM, r52 H hM]
  exact div_coe _ _ (R.l_pos _ _ _).ne'

theorem r61 (H : Args x0 x1 x2 x3 x4 x5 x6 x7 x8 R) (hM : Max x0 x1 x2 x3 x4 x7 x8 R) (i : S4x2176x8x128.Idx) :
    val_main_v61 (F := Ideal) x0 x1 x2 x3 x4 x5 x7 x8 i = ((R.out (i 0).val (i 1).val (i 2).val (i 3).val : ℝ) : EReal) := by
  rw [val_main_v61_apply, val_main_v60_apply, Reals.out, ← coe_dot]
  exact Finset.sum_congr rfl fun k _ => by rw [r9 H, r56 H hM]

theorem r59 (H : Args x0 x1 x2 x3 x4 x5 x6 x7 x8 R) (hM : Max x0 x1 x2 x3 x4 x7 x8 R) (i : S4x8x2176x1.Idx) :
    val_main_v59 (F := Ideal) x0 x1 x2 x3 x4 x7 x8 i = ((1 / (R.l (i 0).val (i 1).val (i 2).val * R.l (i 0).val (i 1).val (i 2).val) : ℝ) : EReal) := by
  rw [val_main_v59_apply, val_main_v57_apply, val_main_v58_apply, val_main_cst_10_apply, r54 H hM]
  have h1 : (FloatOps.ofBits .f32 0x3F800000#32 : Ideal .f32) = ((1 : ℝ) : EReal) := by
    show Ideal.ofBits .f32 0x3F800000#32 = _
    simp [Ideal.ofBits, Ideal.ieee]
    rw [← EReal.coe_mul, ← EReal.coe_one]
    norm_num
  rw [h1]
  have hl := R.l_pos (i 0).val (i 1).val (i 2).val
  refine Eq.trans ?_ (div_coe 1 _ (mul_pos hl hl).ne')
  rw [EReal.coe_mul]
  rfl

theorem r65 (H : Args x0 x1 x2 x3 x4 x5 x6 x7 x8 R) (i : S4x8x2176x2176.Idx) :
    val_main_v65 (F := Ideal) x5 x6 i = ((R.dp (i 0).val (i 1).val (i 2).val (i 3).val : ℝ) : EReal) := by
  rw [val_main_v65_apply, Reals.dp, ← coe_dot]
  exact Finset.sum_congr rfl fun k _ => by rw [val_main_v64_apply, r63 H, r9 H]

theorem r67 (H : Args x0 x1 x2 x3 x4 x5 x6 x7 x8 R) (hM : Max x0 x1 x2 x3 x4 x7 x8 R) (i : S4x2176x8x128.Idx) :
    val_main_v67 (F := Ideal) x0 x1 x2 x3 x4 x6 x7 x8 i = ((R.dv (i 0).val (i 1).val (i 2).val (i 3).val : ℝ) : EReal) := by
  rw [val_main_v67_apply, val_main_v66_apply, Reals.dv, ← coe_dot]
  exact Finset.sum_congr rfl fun k _ => by rw [val_main_v64_apply, r63 H, r56 H hM]

theorem r70 (H : Args x0 x1 x2 x3 x4 x5 x6 x7 x8 R) (hM : Max x0 x1 x2 x3 x4 x7 x8 R) (i : S4x8x2176x2176.Idx) :
    val_main_v70 (F := Ideal) x0 x1 x2 x3 x4 x5 x6 x7 x8 i = ((R.dp (i 0).val (i 1).val (i 2).val (i 3).val * (1 / (R.l (i 0).val (i 1).val (i 2).val * R.l (i 0).val (i 1).val (i 2).val)) * R.ex (i 0).val (i 1).val (i 2).val (i 3).val : ℝ) : EReal) := by
  rw [val_main_v70_apply, val_main_v69_apply, val_main_v68_apply, r65 H, r59 H hM, r52 H hM, EReal.coe_mul, EReal.coe_mul]
  rfl

theorem r71 (H : Args x0 x1 x2 x3 x4 x5 x6 x7 x8 R) (hM : Max x0 x1 x2 x3 x4 x7 x8 R) (i : S4x8x2176.Idx) :
    val_main_v71 (F := Ideal) x0 x1 x2 x3 x4 x5 x6 x7 x8 i = ((R.ro (i 0).val (i 1).val (i 2).val : ℝ) : EReal) := by
  have hs : (∑ k : Fin 2176, val_main_v70 (F := Ideal) x0 x1 x2 x3 x4 x5 x6 x7 x8 (idx_main_v71 i k)) = ((R.ro (i 0).val (i 1).val (i 2).val : ℝ) : EReal) := by
    rw [Reals.ro, ← coe_sum]
    exact Finset.sum_congr rfl fun k _ => by rw [r70 H hM]
  rw [val_main_v71_apply, val_main_cst_11_apply, hs, show (FloatOps.ofBits .f32 0x00000000#32 : Ideal .f32) = ((0 : ℝ) : EReal) from zero_bits, ← EReal.coe_add, zero_add]

theorem r73 (H : Args x0 x1 x2 x3 x4 x5 x6 x7 x8 R) (hM : Max x0 x1 x2 x3 x4 x7 x8 R) (i : S4x8x2176x1.Idx) :
    val_main_v73 (F := Ideal) x0 x1 x2 x3 x4 x5 x6 x7 x8 i = ((-R.ro (i 0).val (i 1).val (i 2).val : ℝ) : EReal) := by
  rw [val_main_v73_apply, val_main_v72_apply, r71 H hM]
  show -((_ : ℝ) : EReal) = _
  rw [← EReal.coe_neg]
  have h0 : (i 0).val < 4 := (i 0).isLt
  have h1 : (i 1).val < 8 := (i 1).isLt
  have h2 : (i 2).val < 2176 := (i 2).isLt
  have h3 : (i 3).val < 1 := (i 3).isLt
  show ((-R.ro (((((i 0).val * 8 + (i 1).val) * 2176 + (i 2).val) * 1 + (i 3).val) / 17408) (((((i 0).val * 8 + (i 1).val) * 2176 + (i 2).val) * 1 + (i 3).val) / 2176 % 8) (((((i 0).val * 8 + (i 1).val) * 2176 + (i 2).val) * 1 + (i 3).val) % 2176) : ℝ) : EReal) = _
  congr 3 <;> omega

theorem r77 (H : Args x0 x1 x2 x3 x4 x5 x6 x7 x8 R) (hM : Max x0 x1 x2 x3 x4 x7 x8 R) (i : S4x8x2176x2176.Idx) :
    val_main_v77 (F := Ideal) x0 x1 x2 x3 x4 x5 x6 x7 x8 i = ((-R.ro (i 0).val (i 1).val (i 2).val : ℝ) : EReal) := by
  rw [val_main_v77_apply, val_main_v76_apply, val_main_cst_12_apply, Fin.sum_univ_one, r73 H hM]
  refine (congrArg (· + _) zero_bits).trans ?_
  rw [← EReal.coe_add, zero_add]

theorem r82 (H : Args x0 x1 x2 x3 x4 x5 x6 x7 x8 R) (hM : Max x0 x1 x2 x3 x4 x7 x8 R) (i : S4x8x2176x2176.Idx) :
    val_main_v82 (F := Ideal) x0 x1 x2 x3 x4 x5 x6 x7 x8 i = ((R.ds (i 0).val (i 1).val (i 2).val (i 3).val : ℝ) : EReal) := by
  have h79 : val_main_v79 (F := Ideal) x0 x1 x2 x3 x4 x5 x6 x7 x8 i = (((R.dp (i 0).val (i 1).val (i 2).val (i 3).val / R.l (i 0).val (i 1).val (i 2).val + -R.ro (i 0).val (i 1).val (i 2).val) * R.ex (i 0).val (i 1).val (i 2).val (i 3).val : ℝ) : EReal) := by
    rw [val_main_v79_apply, val_main_v78_apply, val_main_v75_apply, val_main_v74_apply, r77 H hM, r65 H, r54 H hM, r52 H hM, EReal.coe_mul, EReal.coe_add,
      ← div_coe _ _ (R.l_pos (i 0).val (i 1).val (i 2).val).ne']
    rfl
  rw [val_main_v82_apply, val_main_v80_apply, mask, h79, val_main_call1_v0_apply, val_main_call1_cst_apply, val_main_v81_apply, val_main_cst_13_apply]
  rw [select_mask, show (FloatOps.ofBits .f32 0x00000000#32 : Ideal .f32) = ((0 : ℝ) : EReal) from zero_bits]
  show _ * Ideal.ofBits .f32 0x3D93CD3A#32 = _
  rw [scl_coe, Reals.ds, EReal.coe_mul]
  split <;> rfl

theorem r83 (H : Args x0 x1 x2 x3 x4 x5 x6 x7 x8 R) (hM : Max x0 x1 x2 x3 x4 x7 x8 R) (i : S4x2176x2176x8.Idx) :
    val_main_v83 (F := Ideal) x0 x1 x2 x3 x4 x5 x6 x7 x8 i = ((R.ds (i 0).val (i 3).val (i 2).val (i 1).val : ℝ) : EReal) := by
  rw [val_main_v83_apply, r82 H hM]

theorem r84 (H : Args x0 x1 x2 x3 x4 x5 x6 x7 x8 R) (hM : Max x0 x1 x2 x3 x4 x7 x8 R) (i : S4x2176x8x128.Idx) :
    val_main_v84 (F := Ideal) x0 x1 x2 x3 x4 x5 x6 x7 x8 i = ((R.dpe (i 0).val (i 1).val (i 2).val (i 3).val : ℝ) : EReal) := by
  rw [val_main_v84_apply, Reals.dpe, ← coe_dot]
  exact Finset.sum_congr rfl fun k _ => by rw [r83 H hM, r7 H]

theorem r87 (H : Args x0 x1 x2 x3 x4 x5 x6 x7 x8 R) (hM : Max x0 x1 x2 x3 x4 x7 x8 R) (i : S4x2176x8x128.Idx) :
    val_main_v87 (F := Ideal) x0 x1 x2 x3 x4 x5 x6 x7 x8 i = ((R.dkn (i 0).val (i 1).val (i 2).val (i 3).val : ℝ) : EReal) := by
  rw [val_main_v87_apply, val_main_v86_apply, Reals.dkn, ← coe_dot]
  exact Finset.sum_congr rfl fun k _ => by rw [r82 H hM, r1 H]

theorem r89 (H : Args x0 x1 x2 x3 x4 x5 x6 x7 x8 R) (hM : Max x0 x1 x2 x3 x4 x7 x8 R) (i : S4x2176x8x128.Idx) :
    val_main_v89 (F := Ideal) x0 x1 x2 x3 x4 x5 x6 x7 x8 i = ((R.dqn (i 0).val (i 1).val (i 2).val (i 3).val : ℝ) : EReal) := by
  rw [val_main_v89_apply, val_main_v88_apply, Reals.dqn, ← coe_dot]
  exact Finset.sum_congr rfl fun k _ => by rw [r82 H hM, r5 H]

/-- The gradient of the shared key part sums over queries and heads. -/
theorem v85_sum (i : S4x2176x128.Idx) :
    val_main_v85 (F := Ideal) x0 x1 x2 x3 x4 x5 x6 x7 x8 i
      = ∑ q : Fin 2176, ∑ h : Fin 8, val_main_v83 (F := Ideal) x0 x1 x2 x3 x4 x5 x6 x7 x8 (ix4 (i 0) (i 1) q h) * val_main_v16 (F := Ideal) x1 x2 x7 x8 (ix4 (i 0) q h (i 2)) := by
  unfold val_main_v85
  generalize val_main_v83 (F := Ideal) x0 x1 x2 x3 x4 x5 x6 x7 x8 = L
  generalize val_main_v16 (F := Ideal) x1 x2 x7 x8 = T
  simp only [Host.dotGeneral]
  let D := dot_S4x2176x2176x8_S4x2176x8x128_S4x2176x128_23_12_1_3_0_0
  have hr : D.contr.rank = 2 := rfl
  have c0 : D.contr.size ⟨0, by rw [hr]; omega⟩ = 2176 := rfl
  have c1 : D.contr.size ⟨1, by rw [hr]; omega⟩ = 8 := rfl
  rw [Ideal.dotGeneral_apply, ← Equiv.sum_comp (ValueIdx.contrEquiv2 D 2176 8 hr c0 c1).symm, Fintype.sum_prod_type]
  refine Finset.sum_congr rfl fun q _ => Finset.sum_congr rfl fun h _ => ?_
  have h0 := ValueIdx.contrEquiv2_symm_val0 D 2176 8 hr c0 c1 (q, h)
  have h1 := ValueIdx.contrEquiv2_symm_val1 D 2176 8 hr c0 c1 (q, h)
  have el : D.lhsIdx i ((ValueIdx.contrEquiv2 D 2176 8 hr c0 c1).symm (q, h)) = ix4 (i 0) (i 1) q h := by
    funext a; apply Fin.ext
    match a with
    | ⟨0, _⟩ => rfl
    | ⟨1, _⟩ => rfl
    | ⟨2, _⟩ => exact h0
    | ⟨3, _⟩ => exact h1
  have er : D.rhsIdx i ((ValueIdx.contrEquiv2 D 2176 8 hr c0 c1).symm (q, h)) = ix4 (i 0) q h (i 2) := by
    funext a; apply Fin.ext
    match a with
    | ⟨0, _⟩ => rfl
    | ⟨1, _⟩ => exact h0
    | ⟨2, _⟩ => exact h1
    | ⟨3, _⟩ => rfl
  exact congrArg₂ (· * ·) (congrArg L el) (congrArg T er)

theorem r85 (H : Args x0 x1 x2 x3 x4 x5 x6 x7 x8 R) (hM : Max x0 x1 x2 x3 x4 x7 x8 R) (i : S4x2176x128.Idx) :
    val_main_v85 (F := Ideal) x0 x1 x2 x3 x4 x5 x6 x7 x8 i = ((R.dkp (i 0).val (i 1).val (i 2).val : ℝ) : EReal) := by
  rw [v85_sum, Reals.dkp, ← coe_sum]
  refine Finset.sum_congr rfl fun q _ => ?_
  rw [← coe_dot]
  refine Finset.sum_congr rfl fun h _ => ?_
  rw [r83 H hM, r16 H]
  rfl

/-- An entry by row and column of what is held by batch, row, head and lane. -/
theorem join4 (f : ℕ → ℕ → ℕ → ℕ → ℝ) (r c : ℕ) (hr : r < 8704) (hc : c < 1024) :
    f ((r * 1024 + c) / 2228224) ((r * 1024 + c) / 1024 % 2176) ((r * 1024 + c) / 128 % 8) ((r * 1024 + c) % 128) = f (r / 2176) (r % 2176) (c / 128) (c % 128) := by
  congr 1 <;> omega

theorem r95 (H : Args x0 x1 x2 x3 x4 x5 x6 x7 x8 R) (hM : Max x0 x1 x2 x3 x4 x7 x8 R) :
    Is (a := 8704) (b := 1024) (val_main_v95 (F := Ideal) x0 x1 x2 x3 x4 x5 x6 x7 x8) (fun r c => R.dqn (r / 2176) (r % 2176) (c / 128) (c % 128)) := by
  intro r c
  rw [val_main_v95_apply, val_main_v94_apply, r89 H hM]
  exact congrArg (fun x : ℝ => (x : EReal)) (join4 R.dqn r c r.2 c.2)

theorem r97 (H : Args x0 x1 x2 x3 x4 x5 x6 x7 x8 R) (hM : Max x0 x1 x2 x3 x4 x7 x8 R) :
    Is (a := 8704) (b := 1024) (val_main_v97 (F := Ideal) x0 x1 x2 x3 x4 x5 x6 x7 x8) (fun r c => R.dpe (r / 2176) (r % 2176) (c / 128) (c % 128) * R.C (r % 2176) (c % 128)) := by
  intro r c
  rw [val_main_v97_apply, val_main_v96_apply, val_main_v93_apply, val_main_v92_apply, r84 H hM, r10 H]
  show ((_ : ℝ) : EReal) * ((_ : ℝ) : EReal) = _
  rw [← EReal.coe_mul]
  exact congrArg (fun x : ℝ => (x : EReal)) (join4 (fun b q h d => R.dpe b q h d * R.C q d) r c r.2 c.2)

theorem r99 (H : Args x0 x1 x2 x3 x4 x5 x6 x7 x8 R) (hM : Max x0 x1 x2 x3 x4 x7 x8 R) :
    Is (a := 8704) (b := 1024) (val_main_v99 (F := Ideal) x0 x1 x2 x3 x4 x5 x6 x7 x8) (fun r c => R.dpe (r / 2176) (r % 2176) (c / 128) (c % 128) * R.S (r % 2176) (c % 128)) := by
  intro r c
  rw [val_main_v99_apply, val_main_v98_apply, val_main_v91_apply, val_main_v90_apply, r84 H hM, r13 H]
  show ((_ : ℝ) : EReal) * ((_ : ℝ) : EReal) = _
  rw [← EReal.coe_mul]
  exact congrArg (fun x : ℝ => (x : EReal)) (join4 (fun b q h d => R.dpe b q h d * R.S q d) r c r.2 c.2)

theorem r101 (H : Args x0 x1 x2 x3 x4 x5 x6 x7 x8 R) (hM : Max x0 x1 x2 x3 x4 x7 x8 R) :
    Is (a := 8704) (b := 1024) (val_main_v101 (F := Ideal) x0 x1 x2 x3 x4 x5 x6 x7 x8) (fun r c => R.dkn (r / 2176) (r % 2176) (c / 128) (c % 128)) := by
  intro r c
  rw [val_main_v101_apply, val_main_v100_apply, r87 H hM]
  exact congrArg (fun x : ℝ => (x : EReal)) (join4 R.dkn r c r.2 c.2)

theorem r104 (H : Args x0 x1 x2 x3 x4 x5 x6 x7 x8 R) (hM : Max x0 x1 x2 x3 x4 x7 x8 R) :
    Is (a := 8704) (b := 1024) (val_main_v104 (F := Ideal) x0 x1 x2 x3 x4 x6 x7 x8) (fun r c => R.dv (r / 2176) (r % 2176) (c / 128) (c % 128)) := by
  intro r c
  rw [val_main_v104_apply, val_main_v103_apply, r67 H hM]
  exact congrArg (fun x : ℝ => (x : EReal)) (join4 R.dv r c r.2 c.2)

theorem r102 (H : Args x0 x1 x2 x3 x4 x5 x6 x7 x8 R) (hM : Max x0 x1 x2 x3 x4 x7 x8 R) :
    Is (a := 8704) (b := 128) (val_main_v102 (F := Ideal) x0 x1 x2 x3 x4 x5 x6 x7 x8) (fun r c => R.dkp (r / 2176) (r % 2176) c) := by
  intro r c
  rw [val_main_v102_apply, r85 H hM]
  refine congrArg (fun x : ℝ => (x : EReal)) ?_
  have hr := r.2
  have hc := c.2
  show R.dkp ((r.val * 128 + c.val) / 278528) ((r.val * 128 + c.val) / 128 % 2176) ((r.val * 128 + c.val) % 128) = _
  congr 1 <;> omega

end Cert.ReferenceIdeal.Real
-- ==== Proof.Hst.lean ====
module

public import proofs.«01_k».proof.Proof.Arr
public import proofs.«01_k».proof.Proof.RefA
public import Idealize.ShloMosaic.Lib.StableHlo.RunRead

@[expose] public section

set_option maxRecDepth 16384

noncomputable section

namespace Cert.KernelIdeal.Val

open Idealize.ShloMosaic Idealize.ShloMosaic.TcCoe Idealize.SL.Sem
open Cert.KernelIdeal Cert.KernelIdeal.Gen
open Cert.ReferenceIdeal.Real (Reals Args Max)

variable (m : (ℓ : Loc nD τ sig) → Buf (Elt Ideal) ℓ) (c : Dev nD)

/-- The contents of the nine arguments. -/
abbrev ar0 : (⟨S8704x1024, .bf16⟩ : BufTy).Contents (Elt Ideal) := m ((c : Thread nD τ).loc main_arg0)
abbrev ar1 : (⟨S8704x1024, .f32⟩ : BufTy).Contents (Elt Ideal) := m ((c : Thread nD τ).loc main_arg1)
abbrev ar2 : (⟨S8704x1024, .f32⟩ : BufTy).Contents (Elt Ideal) := m ((c : Thread nD τ).loc main_arg2)
abbrev ar3 : (⟨S8704x1024, .bf16⟩ : BufTy).Contents (Elt Ideal) := m ((c : Thread nD τ).loc main_arg3)
abbrev ar4 : (⟨S8704x128, .bf16⟩ : BufTy).Contents (Elt Ideal) := m ((c : Thread nD τ).loc main_arg4)
abbrev ar5 : (⟨S8704x1024, .bf16⟩ : BufTy).Contents (Elt Ideal) := m ((c : Thread nD τ).loc main_arg5)
abbrev ar6 : (⟨S8704x1024, .bf16⟩ : BufTy).Contents (Elt Ideal) := m ((c : Thread nD τ).loc main_arg6)
abbrev ar7 : (⟨S2176x128, .f32⟩ : BufTy).Contents (Elt Ideal) := m ((c : Thread nD τ).loc main_arg7)
abbrev ar8 : (⟨S2176x128, .f32⟩ : BufTy).Contents (Elt Ideal) := m ((c : Thread nD τ).loc main_arg8)

/-- What the call is handed, from the reals of the arguments. -/
def ins (R : Reals) : Ins where
  Q r l := if l % 256 < 128 then R.QN r (l / 256 * 128 + l % 256) else R.pe (r / 2176) (r % 2176) (l / 256) (l % 256 - 128)
  KV r l := if l < 1024 then R.KN r l else R.VV r (l - 1024)
  KP := R.KP
  DO := R.GO
  O r l := R.out (r / 2176) (r % 2176) (l / 128) (l % 128)
  L r l := R.M (r / 2176) (l / 128) (r % 2176) + Real.log (R.l (r / 2176) (l / 128) (r % 2176))
  C := R.C
  S := R.S

variable {m c} {R : Reals}

/-- An array of rows by heads by lanes written out row by row. -/
theorem flat (y : S4x2176x8x128.Idx → EReal) (f : ℕ → ℕ → ℕ → ℕ → ℝ) (h) (hy : ∀ i, y i = ((f (i 0).val (i 1).val (i 2).val (i 3).val : ℝ) : EReal)) :
    Is (a := 8704) (b := 1024) (shapeCast S8704x1024 y h) (fun r l => f (r / 2176) (r % 2176) (l / 128) (l % 128)) := by
  intro r l
  have hr := r.2
  have hl := l.2
  have e := shapeCast_apply y h (ix2 r l) (ix4 (⟨r.val / 2176, by omega⟩ : Fin 4) (⟨r.val % 2176, by omega⟩ : Fin 2176) (⟨l.val / 128, by omega⟩ : Fin 8) (⟨l.val % 128, by omega⟩ : Fin 128))
    (by
      rw [Shape.rowMajor_val_two, Shape.rowMajor_val_four]
      show ((r.val / 2176 * 2176 + r.val % 2176) * 8 + l.val / 128) * 128 + l.val % 128 = r.val * 1024 + l.val
      omega)
  rw [e, hy]
  rfl

theorem vq : (V m c main_v13 : S8704x2048.Idx → EReal) = truncf .bf16 (shapeCast S8704x2048 (concatenate S4x2176x8x256 3 [⟨S4x2176x8x128, (Cert.ReferenceIdeal.Read.val_main_v1 (F := Ideal) (ar0 m c) : S4x2176x8x128.Idx → EReal)⟩, ⟨S4x2176x8x128, (Cert.ReferenceIdeal.Read.val_main_v16 (F := Ideal) (ar1 m c) (ar2 m c) (ar7 m c) (ar8 m c) : S4x2176x8x128.Idx → EReal)⟩] concatenates_S4x2176x8x128_S4x2176x8x128_S4x2176x8x256_d3) shapeCasts_S4x2176x8x256_S8704x2048 : FVec Ideal S8704x2048 .f32) bitsLt_bf16_f32 := rfl

/-- The arguments hold the reals. -/
abbrev ArgsOf (m : (ℓ : Loc nD τ sig) → Buf (Elt Ideal) ℓ) (c : Dev nD) (R : Reals) : Prop :=
  Args (ar0 m c) (ar1 m c) (ar2 m c) (ar3 m c) (ar4 m c) (ar5 m c) (ar6 m c) (ar7 m c) (ar8 m c) R
/-- The rows' greatest scores are the reals named. -/
abbrev MaxOf (m : (ℓ : Loc nD τ sig) → Buf (Elt Ideal) ℓ) (c : Dev nD) (R : Reals) : Prop :=
  Max (ar0 m c) (ar1 m c) (ar2 m c) (ar3 m c) (ar4 m c) (ar7 m c) (ar8 m c) R

theorem hq_aux (x y : S4x2176x8x128.Idx → EReal) (f g : ℕ → ℕ → ℕ → ℕ → ℝ) (h1 h2)
    (hx : ∀ i, x i = ((f (i 0).val (i 1).val (i 2).val (i 3).val : ℝ) : EReal)) (hy : ∀ i, y i = ((g (i 0).val (i 1).val (i 2).val (i 3).val : ℝ) : EReal)) :
    Is (a := 8704) (b := 2048) (shapeCast S8704x2048 (concatenate S4x2176x8x256 3 [⟨S4x2176x8x128, x⟩, ⟨S4x2176x8x128, y⟩] h1) h2)
      (fun r l => if l % 256 < 128 then f (r / 2176) (r % 2176) (l / 256) (l % 256) else g (r / 2176) (r % 2176) (l / 256) (l % 256 - 128)) := by
  intro r l
  have hr := r.2
  have hl := l.2
  have e := shapeCast_apply (concatenate S4x2176x8x256 3 [⟨S4x2176x8x128, x⟩, ⟨S4x2176x8x128, y⟩] h1) h2 (ix2 r l) (ix4 (⟨r.val / 2176, by omega⟩ : Fin 4) (⟨r.val % 2176, by omega⟩ : Fin 2176) (⟨l.val / 256, by omega⟩ : Fin 8) (⟨l.val % 256, by omega⟩ : Fin 256))
    (by
      rw [Shape.rowMajor_val_two, Shape.rowMajor_val_four]
      show ((r.val / 2176 * 2176 + r.val % 2176) * 8 + l.val / 256) * 256 + l.val % 256 = r.val * 2048 + l.val
      omega)
  rw [e]
  by_cases hc : l.val % 256 < 128
  · rw [concatenate_pair_apply_left 3 x y h1 _ rfl (ix4 (⟨r.val / 2176, by omega⟩ : Fin 4) (⟨r.val % 2176, by omega⟩ : Fin 2176) (⟨l.val / 256, by omega⟩ : Fin 8) (⟨l.val % 256, hc⟩ : Fin 128))
      (fun b => by match b with | ⟨0, _⟩ => rfl | ⟨1, _⟩ => rfl | ⟨2, _⟩ => rfl | ⟨3, _⟩ => rfl), hx]
    exact congrArg (fun x : ℝ => (x : EReal)) (if_pos hc).symm
  · rw [concatenate_pair_apply_right 3 x y h1 _ rfl rfl (ix4 (⟨r.val / 2176, by omega⟩ : Fin 4) (⟨r.val % 2176, by omega⟩ : Fin 2176) (⟨l.val / 256, by omega⟩ : Fin 8) (⟨l.val % 256 - 128, by omega⟩ : Fin 128))
      (fun b hb => by
        match b, hb with
        | ⟨0, _⟩, _ => rfl
        | ⟨1, _⟩, _ => rfl
        | ⟨2, _⟩, _ => rfl
        | ⟨3, _⟩, hb => exact absurd rfl hb) (by show l.val % 256 - 128 + 128 = l.val % 256; omega), hy]
    exact congrArg (fun x : ℝ => (x : EReal)) (if_neg hc).symm

theorem holds_q (H : ArgsOf m c R) : Is (a := 8704) (b := 2048) (V m c main_v13) (fun r l => (ins R).Q r l) := by
  rw [vq]
  have h := hq_aux _ _ R.qn R.pe concatenates_S4x2176x8x128_S4x2176x8x128_S4x2176x8x256_d3 shapeCasts_S4x2176x8x256_S8704x2048 (Cert.ReferenceIdeal.Real.r1 H) (Cert.ReferenceIdeal.Real.r16 H)
  refine Is.congr (x := shapeCast S8704x2048 _ _) h fun r l _ _ => ?_
  show _ = if l % 256 < 128 then R.QN r (l / 256 * 128 + l % 256) else _
  rw [Reals.qn, show r / 2176 * 2176 + r % 2176 = r by omega]

theorem vkv : (V m c main_v14 : S8704x2048.Idx → EReal) = concatenate S8704x2048 1 [⟨S8704x1024, (ar3 m c : S8704x1024.Idx → EReal)⟩, ⟨S8704x1024, (ar5 m c : S8704x1024.Idx → EReal)⟩] concatenates_S8704x1024_S8704x1024_S8704x2048_d1 := rfl

theorem hkv_aux (x y : S8704x1024.Idx → EReal) (f g : ℕ → ℕ → ℝ) (h1) (hx : Is (a := 8704) (b := 1024) x f) (hy : Is (a := 8704) (b := 1024) y g) :
    Is (a := 8704) (b := 2048) (concatenate S8704x2048 1 [⟨S8704x1024, x⟩, ⟨S8704x1024, y⟩] h1) (fun r l => if l < 1024 then f r l else g r (l - 1024)) := by
  intro r l
  have hl := l.2
  by_cases hc : l.val < 1024
  · rw [concatenate_pair_apply_left 1 x y h1 _ rfl (ix2 r (⟨l.val, hc⟩ : Fin 1024)) (fun b => by match b with | ⟨0, _⟩ => rfl | ⟨1, _⟩ => rfl)]
    exact (hx _ _).trans (congrArg (fun x : ℝ => (x : EReal)) (if_pos hc).symm)
  · rw [concatenate_pair_apply_right 1 x y h1 _ rfl rfl (ix2 r (⟨l.val - 1024, by omega⟩ : Fin 1024))
      (fun b hb => by
        match b, hb with
        | ⟨0, _⟩, _ => rfl
        | ⟨1, _⟩, hb => exact absurd rfl hb) (by show l.val - 1024 + 1024 = l.val; omega)]
    exact (hy _ _).trans (congrArg (fun x : ℝ => (x : EReal)) (if_neg hc).symm)

theorem holds_kv (H : ArgsOf m c R) : Is (a := 8704) (b := 2048) (V m c main_v14) (fun r l => (ins R).KV r l) := by
  rw [vkv]
  exact hkv_aux _ _ _ _ _ H.a3 H.a5

section tail
variable {F : FTy → Type} [FloatOps F]
/-- The row maxima of the masked scores, their exponentials, the sums of these, the output, and the log-sums. -/
def mx (x : FVec F S4x8x2176x2176 .f32) : FVec F S4x8x2176 .f32 := Host.reduce FloatOps.maximumf x (constant S_ .f32 0xFF800000#32) reducesTo_S4x8x2176x2176_S4x8x2176_d3 h_S_
def ep (x : FVec F S4x8x2176x2176 .f32) : FVec F S4x8x2176x2176 .f32 := Host.exp (subf x (broadcastInDim S4x8x2176x2176 ![0, 1, 2, 3] bcast_S4x8x2176x1_S4x8x2176x2176_0_1_2_3 (broadcastInDim S4x8x2176x1 ![0, 1, 2] bcast_S4x8x2176_S4x8x2176x1_0_1_2 (mx x))))
def rs (x : FVec F S4x8x2176x2176 .f32) : FVec F S4x8x2176x1 .f32 := broadcastInDim S4x8x2176x1 ![0, 1, 2] bcast_S4x8x2176_S4x8x2176x1_0_1_2 (Host.reduceAdd (ep x) (constant S_ .f32 0x00000000#32) reducesTo_S4x8x2176x2176_S4x8x2176_d3 h_S_)
def ou (x : FVec F S4x8x2176x2176 .f32) (v : FVec F S4x2176x8x128 .f32) : FVec F S4x2176x8x128 .f32 := transpose S4x2176x8x128 [0, 3, 1, 2] (Host.dotGeneral dot_S4x2176x8x128_S4x8x2176x2176_S4x8x128x2176_1_3_3_2_02_01 none v (Host.divf (ep x) (broadcastInDim S4x8x2176x2176 ![0, 1, 2, 3] bcast_S4x8x2176x1_S4x8x2176x2176_0_1_2_3 (rs x))) : FVec F S4x8x128x2176 .f32) transposes_S4x8x128x2176_S4x2176x8x128_0_3_1_2

def ls (x : FVec F S4x8x2176x2176 .f32) : FVec F S4x2176x8x128 .f32 := broadcastInDim S4x2176x8x128 ![0, 1, 2, 3] bcast_S4x2176x8x1_S4x2176x8x128_0_1_2_3 (transpose S4x2176x8x1 [0, 2, 1, 3] (addf (broadcastInDim S4x8x2176x1 ![0, 1, 2] bcast_S4x8x2176_S4x8x2176x1_0_1_2 (mx x)) (Host.log (rs x))) transposes_S4x8x2176x1_S4x2176x8x1_0_2_1_3)

theorem tail59 (X : Valuation τ sig (Elt F)) : StableHlo.after hostOps0_2 X (Proc.devRef .tc main_v59) = truncf .bf16 (shapeCast S8704x1024 (ou (X (Proc.devRef .tc main_v44)) (shapeCast S4x2176x8x128 (extf .f32 (X (Proc.devRef .tc main_arg5)) bitsLt_bf16_f32) shapeCasts_S8704x1024_S4x2176x8x128)) shapeCasts_S4x2176x8x128_S8704x1024) bitsLt_bf16_f32 := by
  after_reads_simp
  rfl

theorem tail64 (X : Valuation τ sig (Elt F)) : StableHlo.after hostOps0_2 X (Proc.devRef .tc main_v64) = shapeCast S8704x1024 (ls (X (Proc.devRef .tc main_v44))) shapeCasts_S4x2176x8x128_S8704x1024 := by
  after_reads_simp
  rfl
end tail

/-- The masked scores of the reference. -/
abbrev sm (m : (ℓ : Loc nD τ sig) → Buf (Elt Ideal) ℓ) (c : Dev nD) := Cert.ReferenceIdeal.Read.val_main_v31_0 (F := Ideal) (ar0 m c) (ar1 m c) (ar2 m c) (ar3 m c) (ar4 m c) (ar7 m c) (ar8 m c)

/-- The buffers before the last host operations. -/
abbrev W (m : (ℓ : Loc nD τ sig) → Buf (Elt Ideal) ℓ) (c : Dev nD) : Valuation τ sig (Elt Ideal) := StableHlo.after hostOps0_1 (StableHlo.after hostOps0 (fun b => m (c, b)))

theorem W44 : (W m c (Proc.devRef .tc main_v44) : S4x8x2176x2176.Idx → EReal) = sm m c := rfl
theorem W5 : (W m c (Proc.devRef .tc main_arg5) : S8704x1024.Idx → EReal) = ar5 m c := rfl

theorem V_tail (b : Ref sig .tc) : V m c b = StableHlo.after hostOps0_2 (W m c) (Proc.devRef .tc b) := by
  show StableHlo.after (hostOps0 ++ (hostOps0_1 ++ (hostOps0_2 ++ []))) _ _ = _
  rw [StableHlo.after_append, StableHlo.after_append, StableHlo.after_append]
  rfl

theorem mx_eq : mx (F := Ideal) (sm m c) = Cert.ReferenceIdeal.Read.val_main_v32 (F := Ideal) (ar0 m c) (ar1 m c) (ar2 m c) (ar3 m c) (ar4 m c) (ar7 m c) (ar8 m c) := by
  unfold mx Cert.ReferenceIdeal.Read.val_main_v32 Cert.ReferenceIdeal.Read.val_main_cst_1
  rfl
theorem ep_eq : ep (F := Ideal) (sm m c) = Cert.ReferenceIdeal.Read.val_main_v52 (F := Ideal) (ar0 m c) (ar1 m c) (ar2 m c) (ar3 m c) (ar4 m c) (ar7 m c) (ar8 m c) := by
  unfold ep
  rw [mx_eq, ← Cert.ReferenceIdeal.Real.v39_eq]
  rfl
theorem rs_eq : rs (F := Ideal) (sm m c) = Cert.ReferenceIdeal.Read.val_main_v54 (F := Ideal) (ar0 m c) (ar1 m c) (ar2 m c) (ar3 m c) (ar4 m c) (ar7 m c) (ar8 m c) := by
  unfold rs
  rw [ep_eq]
  rfl
theorem ou_eq : ou (F := Ideal) (sm m c) (Cert.ReferenceIdeal.Read.val_main_v9 (F := Ideal) (ar5 m c)) = Cert.ReferenceIdeal.Read.val_main_v61 (F := Ideal) (ar0 m c) (ar1 m c) (ar2 m c) (ar3 m c) (ar4 m c) (ar5 m c) (ar7 m c) (ar8 m c) := by
  unfold ou
  rw [ep_eq, rs_eq]
  rfl

theorem holds_o (H : ArgsOf m c R) (hM : MaxOf m c R) : Is (a := 8704) (b := 1024) (V m c main_v59) (fun r l => (ins R).O r l) := by
  rw [V_tail, tail59]
  have h := flat _ R.out shapeCasts_S4x2176x8x128_S8704x1024 (Cert.ReferenceIdeal.Real.r61 H hM)
  rw [← ou_eq] at h
  exact h

theorem log_coe (x : ℝ) (hx : 0 < x) : Ideal.log (x : EReal) = ((Real.log x : ℝ) : EReal) := by
  show (if x ≤ 0 then ⊥ else ((Real.log x : ℝ) : EReal)) = _
  rw [if_neg (not_le.mpr hx)]

theorem addf_log {S : Shape} (a b : FVec Ideal S .f32) (j : S.Idx) (x y : EReal) (ha : a j = x) (hb : b j = y) : addf a (Host.log b) j = x + Ideal.log y := by
  rw [← ha, ← hb]
  rfl

theorem holds_l (H : ArgsOf m c R) (hM : MaxOf m c R) : Is (a := 8704) (b := 1024) (V m c main_v64) (fun r l => (ins R).L r l) := by
  rw [V_tail, tail64]
  show Is (a := 8704) (b := 1024) (shapeCast S8704x1024 (ls (F := Ideal) (sm m c)) shapeCasts_S4x2176x8x128_S8704x1024) _
  unfold ls
  rw [mx_eq, rs_eq]
  refine flat _ (fun b q h _ => R.M b h q + Real.log (R.l b h q)) _ fun i => ?_
  rw [broadcastInDim_apply _ bcast_S4x2176x8x1_S4x2176x8x128_0_1_2_3 _ i (fun a => match a with | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨0, Nat.one_pos⟩ : S4x2176x8x1.Idx) (fun a => match a with
    | ⟨0, _⟩ => by show (i 0).val = if (4 : Nat) = 1 then 0 else (i 0).val; rw [if_neg (by decide)]
    | ⟨1, _⟩ => by show (i 1).val = if (2176 : Nat) = 1 then 0 else (i 1).val; rw [if_neg (by decide)]
    | ⟨2, _⟩ => by show (i 2).val = if (8 : Nat) = 1 then 0 else (i 2).val; rw [if_neg (by decide)]
    | ⟨3, _⟩ => by show 0 = if (1 : Nat) = 1 then 0 else (i 3).val; rw [if_pos rfl])]
  rw [transpose_apply [0, 2, 1, 3] _ transposes_S4x8x2176x1_S4x2176x8x1_0_2_1_3 _ (fun a => match a with | ⟨0, _⟩ => ⟨(i 0).val, (i 0).isLt⟩ | ⟨1, _⟩ => ⟨(i 2).val, (i 2).isLt⟩ | ⟨2, _⟩ => ⟨(i 1).val, (i 1).isLt⟩ | ⟨3, _⟩ => ⟨0, Nat.one_pos⟩ : S4x8x2176x1.Idx) (fun b => match b with
    | ⟨0, _⟩ => rfl
    | ⟨1, _⟩ => rfl
    | ⟨2, _⟩ => rfl
    | ⟨3, _⟩ => rfl)]
  have ha : ∀ j : S4x8x2176x1.Idx, broadcastInDim S4x8x2176x1 ![0, 1, 2] bcast_S4x8x2176_S4x8x2176x1_0_1_2 (Cert.ReferenceIdeal.Read.val_main_v32 (F := Ideal) (ar0 m c) (ar1 m c) (ar2 m c) (ar3 m c) (ar4 m c) (ar7 m c) (ar8 m c)) j = ((R.M (j 0).val (j 1).val (j 2).val : ℝ) : EReal) := fun j => by
    rw [← Cert.ReferenceIdeal.Real.v39_eq]
    refine (Cert.ReferenceIdeal.Read.val_main_v49_apply (F := Ideal) (ar0 m c) (ar1 m c) (ar2 m c) (ar3 m c) (ar4 m c) (ar7 m c) (ar8 m c) j).trans ?_
    rw [Cert.ReferenceIdeal.Real.v39_eq]
    exact hM _
  refine (addf_log _ _ _ _ _ (ha _) (Cert.ReferenceIdeal.Real.r54 H hM _)).trans ?_
  rw [log_coe _ (R.l_pos _ _ _), ← EReal.coe_add]

theorem holds (H : ArgsOf m c R) (hM : MaxOf m c R) : Holds m c (ins R) where
  q := holds_q H
  kv := holds_kv H
  kp := H.a4
  dO := H.a6
  o := holds_o H hM
  lse := holds_l H hM
  lanes := fun r h j hj => by
    show R.M _ ((h * 128 + j) / 128) _ + Real.log (R.l _ ((h * 128 + j) / 128) _) = R.M _ (h * 128 / 128) _ + Real.log (R.l _ (h * 128 / 128) _)
    rw [show (h * 128 + j) / 128 = h * 128 / 128 by omega]
  ct := H.a7
  st := H.a8

end Cert.KernelIdeal.Val
-- ==== Proof.Fin.lean ====
module

public import proofs.«01_k».proof.Proof.Arr

@[expose] public section

set_option maxRecDepth 16384

noncomputable section

namespace Cert.KernelIdeal.Val

open Idealize.ShloMosaic Idealize.ShloMosaic.TcCoe Idealize.SL.Sem
open Cert.KernelIdeal Cert.KernelIdeal.Gen

variable {m : (ℓ : Loc nD τ sig) → Buf (Elt Ideal) ℓ} {c : Dev nD}

theorem aft9_A {A : Ins} (H : Holds m c A) (t : Fin cfg0.N) (h0 : t.val % 8 = 0) :
    Is (a := 2176) (b := 128) ((dats m 0 c).after 9 t) (fun i j => (fun X i j => X.dq i j) (A.D (t.val / 8) (t.val % 8)) i j) := by
  simp only [after0_9, outsAt0_A m c t h0]
  exact o9_A ((hcond0_0 t).mpr h0) (blocks H t)

theorem aft9_B {A : Ins} (H : Holds m c A) (t : Fin cfg0.N) (h0 : ¬t.val % 8 = 0) :
    Is (a := 2176) (b := 128) ((dats m 0 c).after 9 t) (fun i j => (fun X i j => X.dq i j) (A.D (t.val / 8) (t.val % 8)) i j) := by
  simp only [after0_9, outsAt0_B m c t h0]
  exact o9_B (fun h => h0 ((hcond0_0 t).mp h)) (blocks H t)

theorem fin9 {A : Ins} (H : Holds m c A) : Is (a := 8704) (b := 1024) ((dats m 0 c).arrAt 9 cfg0.N) (A.all (fun X i j => X.dq i j)) := by
  have h : (dats m 0 c).arrAt 9 cfg0.N = (mat (A.all (fun X i j => X.dq i j)) : S8704x1024.Idx → EReal) := by
    refine (dats m 0 c).arrAt_eq_of_covers 9 _ (by decide +kernel) fun t hf y => ?_
    blk_simp
    obtain ⟨i, j, rfl⟩ : ∃ (i : Fin 2176) (j : Fin 128), y = ix2 i j := ⟨y 0, y 1, eq_ix2 y⟩
    have e : (mat (A.all (fun X i j => X.dq i j)) : S8704x1024.Idx → EReal) (((cfg0.win 9).blk t).view.emb (ix2 i j)) = ↑((fun X i j => X.dq i j) (A.D (t.val / 8) (t.val % 8)) i.val j.val : ℝ) := by
      show ((A.all (fun X i j => X.dq i j) ((((cfg0.win 9).blk t).view.emb (ix2 i j) 0 : Fin _) : ℕ) ((((cfg0.win 9).blk t).view.emb (ix2 i j) 1 : Fin _) : ℕ) : ℝ) : EReal) = _
      rw [(emb9 t i j).1, (emb9 t i j).2, A.all_at _ _ _ _ i.2 j.2]
    refine Eq.trans ?_ e.symm
    by_cases h0 : t.val % 8 = 0
    · exact aft9_A H t h0 i j
    · exact aft9_B H t h0 i j
  rw [h]
  exact fun r l => rfl

theorem aft10_A {A : Ins} (H : Holds m c A) (t : Fin cfg0.N) (h0 : t.val % 8 = 0) :
    Is (a := 2176) (b := 128) ((dats m 0 c).after 10 t) (fun i j => (fun X i j => X.dq i (128 + j) * X.C i j) (A.D (t.val / 8) (t.val % 8)) i j) := by
  simp only [after0_10, outsAt0_A m c t h0]
  exact o10_A ((hcond0_0 t).mpr h0) (blocks H t)

theorem aft10_B {A : Ins} (H : Holds m c A) (t : Fin cfg0.N) (h0 : ¬t.val % 8 = 0) :
    Is (a := 2176) (b := 128) ((dats m 0 c).after 10 t) (fun i j => (fun X i j => X.dq i (128 + j) * X.C i j) (A.D (t.val / 8) (t.val % 8)) i j) := by
  simp only [after0_10, outsAt0_B m c t h0]
  exact o10_B (fun h => h0 ((hcond0_0 t).mp h)) (blocks H t)

theorem fin10 {A : Ins} (H : Holds m c A) : Is (a := 8704) (b := 1024) ((dats m 0 c).arrAt 10 cfg0.N) (A.all (fun X i j => X.dq i (128 + j) * X.C i j)) := by
  have h : (dats m 0 c).arrAt 10 cfg0.N = (mat (A.all (fun X i j => X.dq i (128 + j) * X.C i j)) : S8704x1024.Idx → EReal) := by
    refine (dats m 0 c).arrAt_eq_of_covers 10 _ (by decide +kernel) fun t hf y => ?_
    blk_simp
    obtain ⟨i, j, rfl⟩ : ∃ (i : Fin 2176) (j : Fin 128), y = ix2 i j := ⟨y 0, y 1, eq_ix2 y⟩
    have e : (mat (A.all (fun X i j => X.dq i (128 + j) * X.C i j)) : S8704x1024.Idx → EReal) (((cfg0.win 10).blk t).view.emb (ix2 i j)) = ↑((fun X i j => X.dq i (128 + j) * X.C i j) (A.D (t.val / 8) (t.val % 8)) i.val j.val : ℝ) := by
      show ((A.all (fun X i j => X.dq i (128 + j) * X.C i j) ((((cfg0.win 10).blk t).view.emb (ix2 i j) 0 : Fin _) : ℕ) ((((cfg0.win 10).blk t).view.emb (ix2 i j) 1 : Fin _) : ℕ) : ℝ) : EReal) = _
      rw [(emb10 t i j).1, (emb10 t i j).2, A.all_at _ _ _ _ i.2 j.2]
    refine Eq.trans ?_ e.symm
    by_cases h0 : t.val % 8 = 0
    · exact aft10_A H t h0 i j
    · exact aft10_B H t h0 i j
  rw [h]
  exact fun r l => rfl

theorem aft11_A {A : Ins} (H : Holds m c A) (t : Fin cfg0.N) (h0 : t.val % 8 = 0) :
    Is (a := 2176) (b := 128) ((dats m 0 c).after 11 t) (fun i j => (fun X i j => X.dq i (128 + j) * X.S i j) (A.D (t.val / 8) (t.val % 8)) i j) := by
  simp only [after0_11, outsAt0_A m c t h0]
  exact o11_A ((hcond0_0 t).mpr h0) (blocks H t)

theorem aft11_B {A : Ins} (H : Holds m c A) (t : Fin cfg0.N) (h0 : ¬t.val % 8 = 0) :
    Is (a := 2176) (b := 128) ((dats m 0 c).after 11 t) (fun i j => (fun X i j => X.dq i (128 + j) * X.S i j) (A.D (t.val / 8) (t.val % 8)) i j) := by
  simp only [after0_11, outsAt0_B m c t h0]
  exact o11_B (fun h => h0 ((hcond0_0 t).mp h)) (blocks H t)

theorem fin11 {A : Ins} (H : Holds m c A) : Is (a := 8704) (b := 1024) ((dats m 0 c).arrAt 11 cfg0.N) (A.all (fun X i j => X.dq i (128 + j) * X.S i j)) := by
  have h : (dats m 0 c).arrAt 11 cfg0.N = (mat (A.all (fun X i j => X.dq i (128 + j) * X.S i j)) : S8704x1024.Idx → EReal) := by
    refine (dats m 0 c).arrAt_eq_of_covers 11 _ (by decide +kernel) fun t hf y => ?_
    blk_simp
    obtain ⟨i, j, rfl⟩ : ∃ (i : Fin 2176) (j : Fin 128), y = ix2 i j := ⟨y 0, y 1, eq_ix2 y⟩
    have e : (mat (A.all (fun X i j => X.dq i (128 + j) * X.S i j)) : S8704x1024.Idx → EReal) (((cfg0.win 11).blk t).view.emb (ix2 i j)) = ↑((fun X i j => X.dq i (128 + j) * X.S i j) (A.D (t.val / 8) (t.val % 8)) i.val j.val : ℝ) := by
      show ((A.all (fun X i j => X.dq i (128 + j) * X.S i j) ((((cfg0.win 11).blk t).view.emb (ix2 i j) 0 : Fin _) : ℕ) ((((cfg0.win 11).blk t).view.emb (ix2 i j) 1 : Fin _) : ℕ) : ℝ) : EReal) = _
      rw [(emb11 t i j).1, (emb11 t i j).2, A.all_at _ _ _ _ i.2 j.2]
    refine Eq.trans ?_ e.symm
    by_cases h0 : t.val % 8 = 0
    · exact aft11_A H t h0 i j
    · exact aft11_B H t h0 i j
  rw [h]
  exact fun r l => rfl

theorem aft12_A {A : Ins} (H : Holds m c A) (t : Fin cfg0.N) (h0 : t.val % 8 = 0) :
    Is (a := 2176) (b := 128) ((dats m 0 c).after 12 t) (fun i j => (fun X i j => X.dk i j) (A.D (t.val / 8) (t.val % 8)) i j) := by
  simp only [after0_12, outsAt0_A m c t h0]
  exact o12_A ((hcond0_0 t).mpr h0) (blocks H t)

theorem aft12_B {A : Ins} (H : Holds m c A) (t : Fin cfg0.N) (h0 : ¬t.val % 8 = 0) :
    Is (a := 2176) (b := 128) ((dats m 0 c).after 12 t) (fun i j => (fun X i j => X.dk i j) (A.D (t.val / 8) (t.val % 8)) i j) := by
  simp only [after0_12, outsAt0_B m c t h0]
  exact o12_B (fun h => h0 ((hcond0_0 t).mp h)) (blocks H t)

theorem fin12 {A : Ins} (H : Holds m c A) : Is (a := 8704) (b := 1024) ((dats m 0 c).arrAt 12 cfg0.N) (A.all (fun X i j => X.dk i j)) := by
  have h : (dats m 0 c).arrAt 12 cfg0.N = (mat (A.all (fun X i j => X.dk i j)) : S8704x1024.Idx → EReal) := by
    refine (dats m 0 c).arrAt_eq_of_covers 12 _ (by decide +kernel) fun t hf y => ?_
    blk_simp
    obtain ⟨i, j, rfl⟩ : ∃ (i : Fin 2176) (j : Fin 128), y = ix2 i j := ⟨y 0, y 1, eq_ix2 y⟩
    have e : (mat (A.all (fun X i j => X.dk i j)) : S8704x1024.Idx → EReal) (((cfg0.win 12).blk t).view.emb (ix2 i j)) = ↑((fun X i j => X.dk i j) (A.D (t.val / 8) (t.val % 8)) i.val j.val : ℝ) := by
      show ((A.all (fun X i j => X.dk i j) ((((cfg0.win 12).blk t).view.emb (ix2 i j) 0 : Fin _) : ℕ) ((((cfg0.win 12).blk t).view.emb (ix2 i j) 1 : Fin _) : ℕ) : ℝ) : EReal) = _
      rw [(emb12 t i j).1, (emb12 t i j).2, A.all_at _ _ _ _ i.2 j.2]
    refine Eq.trans ?_ e.symm
    by_cases h0 : t.val % 8 = 0
    · exact aft12_A H t h0 i j
    · exact aft12_B H t h0 i j
  rw [h]
  exact fun r l => rfl

theorem aft14_A {A : Ins} (H : Holds m c A) (t : Fin cfg0.N) (h0 : t.val % 8 = 0) :
    Is (a := 2176) (b := 128) ((dats m 0 c).after 14 t) (fun i j => (fun X i j => X.dv i j) (A.D (t.val / 8) (t.val % 8)) i j) := by
  simp only [after0_14, outsAt0_A m c t h0]
  exact o14_A ((hcond0_0 t).mpr h0) (blocks H t)

theorem aft14_B {A : Ins} (H : Holds m c A) (t : Fin cfg0.N) (h0 : ¬t.val % 8 = 0) :
    Is (a := 2176) (b := 128) ((dats m 0 c).after 14 t) (fun i j => (fun X i j => X.dv i j) (A.D (t.val / 8) (t.val % 8)) i j) := by
  simp only [after0_14, outsAt0_B m c t h0]
  exact o14_B (fun h => h0 ((hcond0_0 t).mp h)) (blocks H t)

theorem fin14 {A : Ins} (H : Holds m c A) : Is (a := 8704) (b := 1024) ((dats m 0 c).arrAt 14 cfg0.N) (A.all (fun X i j => X.dv i j)) := by
  have h : (dats m 0 c).arrAt 14 cfg0.N = (mat (A.all (fun X i j => X.dv i j)) : S8704x1024.Idx → EReal) := by
    refine (dats m 0 c).arrAt_eq_of_covers 14 _ (by decide +kernel) fun t hf y => ?_
    blk_simp
    obtain ⟨i, j, rfl⟩ : ∃ (i : Fin 2176) (j : Fin 128), y = ix2 i j := ⟨y 0, y 1, eq_ix2 y⟩
    have e : (mat (A.all (fun X i j => X.dv i j)) : S8704x1024.Idx → EReal) (((cfg0.win 14).blk t).view.emb (ix2 i j)) = ↑((fun X i j => X.dv i j) (A.D (t.val / 8) (t.val % 8)) i.val j.val : ℝ) := by
      show ((A.all (fun X i j => X.dv i j) ((((cfg0.win 14).blk t).view.emb (ix2 i j) 0 : Fin _) : ℕ) ((((cfg0.win 14).blk t).view.emb (ix2 i j) 1 : Fin _) : ℕ) : ℝ) : EReal) = _
      rw [(emb14 t i j).1, (emb14 t i j).2, A.all_at _ _ _ _ i.2 j.2]
    refine Eq.trans ?_ e.symm
    by_cases h0 : t.val % 8 = 0
    · exact aft14_A H t h0 i j
    · exact aft14_B H t h0 i j
  rw [h]
  exact fun r l => rfl

theorem aft13_A {A : Ins} (H : Holds m c A) (t : Fin cfg0.N) (h0 : t.val % 8 = 0) :
    Is (a := 2176) (b := 128) ((outsAt0 m c t.val t.isLt).2.2.2.2.1) (fun i j => (A.D (t.val / 8) (t.val % 8)).dk i (128 + j)) := by
  simp only [outsAt0_A m c t h0]
  exact o13_A ((hcond0_0 t).mpr h0) (blocks H t)

theorem aft13_B {A : Ins} (H : Holds m c A) (t : Fin cfg0.N) (h0 : ¬t.val % 8 = 0) {g : ℕ → ℕ → ℝ}
    (hg : Is (a := 2176) (b := 128) ((outsAt0 m c (t.val - 1) (Nat.lt_of_le_of_lt (Nat.sub_le _ _) t.isLt)).2.2.2.2.1) g) :
    Is (a := 2176) (b := 128) ((outsAt0 m c t.val t.isLt).2.2.2.2.1) (fun i j => g i j + (A.D (t.val / 8) (t.val % 8)).dk i (128 + j)) := by
  simp only [outsAt0_B m c t h0]
  exact o13_B (fun h => h0 ((hcond0_0 t).mp h)) hg (blocks H t)

/-- After the point of sequence `b` and head `h` the shared block holds the sum over the heads up to `h`. -/
theorem aft13 {A : Ins} (H : Holds m c A) (n : ℕ) : ∀ t : Fin cfg0.N, t.val = n →
    Is (a := 2176) (b := 128) ((outsAt0 m c t.val t.isLt).2.2.2.2.1) (fun i j => ∑ h ∈ Finset.range (t.val % 8 + 1), (A.D (t.val / 8) h).dk i (128 + j)) := by
  induction n using Nat.strong_induction_on with
  | _ n ih =>
    intro t ht
    by_cases h0 : t.val % 8 = 0
    · refine (aft13_A H t h0).congr fun i j _ _ => ?_
      rw [h0, Nat.zero_add, Finset.sum_range_one]
    · have hg := ih (t.val - 1) (by omega) ⟨t.val - 1, Nat.lt_of_le_of_lt (Nat.sub_le _ _) t.isLt⟩ rfl
      dsimp only at hg
      refine (aft13_B H t h0 hg).congr fun i j _ _ => ?_
      rw [show (t.val - 1) / 8 = t.val / 8 by omega, show (t.val - 1) % 8 + 1 = t.val % 8 by omega, Finset.sum_range_succ _ (t.val % 8)]

/-- The shared rotary key's gradient: at row `r`, lane `l` the sum over the heads. -/
def Ins.dkp (A : Ins) (r l : ℕ) : ℝ := ∑ h ∈ Finset.range 8, (A.D (r / 2176) h).dk (r % 2176) (128 + l)

theorem fin13 {A : Ins} (H : Holds m c A) : Is (a := 8704) (b := 128) ((dats m 0 c).arrAt 13 cfg0.N) A.dkp := by
  have h : (dats m 0 c).arrAt 13 cfg0.N = (mat A.dkp : S8704x128.Idx → EReal) := by
    refine (dats m 0 c).arrAt_eq_of_covers 13 _ (by decide +kernel) fun t hf y => ?_
    blk_simp
    obtain ⟨i, j, rfl⟩ : ∃ (i : Fin 2176) (j : Fin 128), y = ix2 i j := ⟨y 0, y 1, eq_ix2 y⟩
    have h7 := (flush0_13 t).mp hf
    have e : (mat A.dkp : S8704x128.Idx → EReal) (((cfg0.win 13).blk t).view.emb (ix2 i j)) = ↑(∑ h ∈ Finset.range (t.val % 8 + 1), (A.D (t.val / 8) h).dk i (128 + j) : ℝ) := by
      show ((A.dkp ((((cfg0.win 13).blk t).view.emb (ix2 i j) 0 : Fin _) : ℕ) ((((cfg0.win 13).blk t).view.emb (ix2 i j) 1 : Fin _) : ℕ) : ℝ) : EReal) = _
      rw [(emb13 t i j).1, (emb13 t i j).2, h7]
      have hi := i.2
      unfold Ins.dkp
      rw [show (t.val / 8 * 2176 + i.val) / 2176 = t.val / 8 by omega, show (t.val / 8 * 2176 + i.val) % 2176 = i.val by omega]
    refine Eq.trans ?_ e.symm
    rw [after0_13]
    exact aft13 H t.val t rfl i j
  rw [h]
  exact fun r l => rfl

end Cert.KernelIdeal.Val
-- ==== Proof.Eq.lean ====
/- The call's gradients and the reference's, as real numbers. -/
module
public import proofs.«01_k».proof.Proof.Hst
public import proofs.«01_k».proof.Proof.Fin

@[expose] public section

noncomputable section

set_option maxRecDepth 16384

namespace Cert.KernelIdeal.Val
open Cert.ReferenceIdeal.Real (Reals)

variable (R : Reals) {b h q k l : ℕ}

theorem row_div (b : ℕ) (hq : q < 2176) : (b * 2176 + q) / 2176 = b := by omega
theorem row_mod (b : ℕ) (hq : q < 2176) : (b * 2176 + q) % 2176 = q := by omega
theorem col_div (h : ℕ) (hl : l < 128) : (h * 128 + l) / 128 = h := by omega
theorem col_mod (h : ℕ) (hl : l < 128) : (h * 128 + l) % 128 = l := by omega

theorem Q_lo (hl : l < 128) : ((ins R).D b h).Q q l = R.qn b q h l := by
  show (if (h * 256 + l) % 256 < 128 then R.QN (b * 2176 + q) ((h * 256 + l) / 256 * 128 + (h * 256 + l) % 256) else _) = _
  rw [if_pos (by omega), show (h * 256 + l) / 256 = h by omega, show (h * 256 + l) % 256 = l by omega]
  rfl

theorem Q_hi (hq : q < 2176) (hl : l < 128) : ((ins R).D b h).Q q (128 + l) = R.pe b q h l := by
  show (if (h * 256 + (128 + l)) % 256 < 128 then _ else R.pe ((b * 2176 + q) / 2176) ((b * 2176 + q) % 2176) ((h * 256 + (128 + l)) / 256) ((h * 256 + (128 + l)) % 256 - 128)) = _
  rw [if_neg (by omega), show (h * 256 + (128 + l)) / 256 = h by omega, show (h * 256 + (128 + l)) % 256 - 128 = l by omega, row_div b hq, row_mod b hq]

theorem K_lo (hh : h < 8) (hl : l < 128) : ((ins R).D b h).K k l = R.kn b k h l := by
  show (if l < 128 then (if h * 128 + l < 1024 then R.KN (b * 2176 + k) (h * 128 + l) else _) else _) = _
  rw [if_pos hl, if_pos (by omega)]
  rfl

theorem K_hi (k l : ℕ) : ((ins R).D b h).K k (128 + l) = R.kp b k l := by
  show (if 128 + l < 128 then _ else R.KP (b * 2176 + k) (128 + l - 128)) = _
  rw [if_neg (by omega), Nat.add_sub_cancel_left]
  rfl

theorem V_at (k l : ℕ) : ((ins R).D b h).V k l = R.vv b k h l := by
  show (if 1024 + h * 128 + l < 1024 then _ else R.VV (b * 2176 + k) (1024 + h * 128 + l - 1024)) = _
  rw [if_neg (by omega), show 1024 + h * 128 + l - 1024 = h * 128 + l by omega]
  rfl

theorem DO_at (q l : ℕ) : ((ins R).D b h).DO q l = R.go b q h l := rfl

theorem O_at (hq : q < 2176) (hl : l < 128) : ((ins R).D b h).O q l = R.out b q h l := by
  show R.out ((b * 2176 + q) / 2176) ((b * 2176 + q) % 2176) ((h * 128 + l) / 128) ((h * 128 + l) % 128) = _
  rw [row_div b hq, row_mod b hq, col_div h hl, col_mod h hl]

theorem L_at (hq : q < 2176) : ((ins R).D b h).L q = R.M b h q + Real.log (R.l b h q) := by
  show R.M ((b * 2176 + q) / 2176) (h * 128 / 128) ((b * 2176 + q) % 2176) + Real.log (R.l ((b * 2176 + q) / 2176) (h * 128 / 128) ((b * 2176 + q) % 2176)) = _
  rw [row_div b hq, row_mod b hq, Nat.mul_div_cancel _ (by norm_num)]

/-- The scores agree. -/
theorem sr_eq (hh : h < 8) (hq : q < 2176) (k : ℕ) : ((ins R).D b h).sr k q = R.s0 b h q k := by
  unfold Data.sr Reals.s0
  rw [Fin.sum_univ_add (a := 128) (b := 128) (f := fun l : Fin 256 => ((ins R).D b h).K k l * ((ins R).D b h).Q q l)]
  refine congrArg₂ (· + ·) (Finset.sum_congr rfl fun d _ => ?_) (Finset.sum_congr rfl fun d _ => ?_)
  · show ((ins R).D b h).K k d.val * ((ins R).D b h).Q q d.val = _
    rw [Q_lo R d.2, K_lo R hh d.2, mul_comm]
  · show ((ins R).D b h).K k (128 + d.val) * ((ins R).D b h).Q q (128 + d.val) = _
    rw [Q_hi R hq d.2, K_hi R]

/-- The probabilities agree. -/
theorem pr_eq (hh : h < 8) (hq : q < 2176) (k : ℕ) : ((ins R).D b h).pr k q = R.ex b h q k / R.l b h q := by
  unfold Data.pr Reals.ex
  by_cases hk : k ≤ q
  · rw [if_pos hk, if_pos hk, sr_eq R hh hq, L_at R hq, ← sub_sub, Real.exp_sub, Real.exp_log (R.l_pos b h q)]
    rfl
  · rw [if_neg hk, if_neg hk, zero_div]

theorem dp_eq (k q : ℕ) : ((ins R).D b h).dp k q = R.dp b h q k := by
  unfold Data.dp Reals.dp
  refine Finset.sum_congr rfl fun d _ => ?_
  rw [V_at, DO_at, mul_comm]

/-- The row's product of output and gradient is the reference's row sum, both divided by the sum of the exponentials. -/
theorem D_eq (hq : q < 2176) : ((ins R).D b h).D q = R.ro b h q * R.l b h q := by
  have hl := (R.l_pos b h q).ne'
  have e : ((ins R).D b h).D q = ∑ k : Fin 2176, R.dp b h q k * (R.ex b h q k / R.l b h q) := by
    unfold Data.D
    calc _ = ∑ d : Fin 128, ∑ k : Fin 2176, R.go b q h d * R.vv b k h d * (R.ex b h q k / R.l b h q) := by
          refine Finset.sum_congr rfl fun d _ => ?_
          rw [DO_at, O_at R hq d.2, Reals.out, Finset.mul_sum]
          exact Finset.sum_congr rfl fun k _ => by ring
      _ = _ := by
          rw [Finset.sum_comm]
          refine Finset.sum_congr rfl fun k _ => ?_
          rw [Reals.dp, Finset.sum_mul]
  rw [e, Reals.ro, Finset.sum_mul]
  refine Finset.sum_congr rfl fun k _ => ?_
  field_simp

/-- The gradients of the raw scores agree. -/
theorem ds_eq (hh : h < 8) (hq : q < 2176) (k : ℕ) : ((ins R).D b h).ds k q = R.ds b h q k := by
  have hl := (R.l_pos b h q).ne'
  unfold Data.ds Reals.ds
  rw [pr_eq R hh hq, dp_eq R, D_eq R hq]
  by_cases hk : k ≤ q
  · rw [if_pos hk]
    show _ = _ * scale
    field_simp
    ring
  · rw [if_neg hk, Reals.ex, if_neg hk, zero_div, zero_mul, zero_mul, zero_mul]

theorem dq_lo (hh : h < 8) (hq : q < 2176) (hl : l < 128) : ((ins R).D b h).dq q l = R.dqn b q h l :=
  Finset.sum_congr rfl fun k _ => by rw [K_lo R hh hl, ds_eq R hh hq, mul_comm]

theorem dq_hi (hh : h < 8) (hq : q < 2176) (l : ℕ) : ((ins R).D b h).dq q (128 + l) = R.dpe b q h l :=
  Finset.sum_congr rfl fun k _ => by rw [K_hi R, ds_eq R hh hq, mul_comm]

theorem dk_lo (hh : h < 8) (k : ℕ) (hl : l < 128) : ((ins R).D b h).dk k l = R.dkn b k h l :=
  Finset.sum_congr rfl fun q _ => by rw [Q_lo R hl, ds_eq R hh q.2]

theorem dk_hi (hh : h < 8) (k : ℕ) (hl : l < 128) : ((ins R).D b h).dk k (128 + l) = ∑ q : Fin 2176, R.ds b h q k * R.pe b q h l :=
  Finset.sum_congr rfl fun q _ => by rw [Q_hi R q.2 hl, ds_eq R hh q.2]

theorem dv_eq (hh : h < 8) (k l : ℕ) : ((ins R).D b h).dv k l = R.dv b k h l :=
  Finset.sum_congr rfl fun q _ => by rw [DO_at, pr_eq R hh q.2, mul_comm]

theorem dkp_eq {r : ℕ} (hl : l < 128) : (ins R).dkp r l = R.dkp (r / 2176) (r % 2176) l := by
  unfold Ins.dkp Reals.dkp
  rw [Finset.sum_range fun h => ((ins R).D (r / 2176) h).dk (r % 2176) (128 + l), Finset.sum_comm]
  exact Finset.sum_congr rfl fun h _ => dk_hi R h.2 _ hl

end Cert.KernelIdeal.Val
-- ==== Proof.Alg.lean ====
/- The six gradients the call leaves are those of the reference, whenever every argument is finite. -/
module
public import proofs.«01_k».proof.Proof.Eq
public import proofs.«01_k».proof.Defs
public import proofs.«01_k».proof.Proof.Gen.Pre_finite
public import proofs.«01_k».proof.Proof.Gen.ReferenceIdeal.Run

@[expose] public section

noncomputable section

set_option maxRecDepth 16384

namespace Cert.KernelIdeal.Val
open Idealize.ShloMosaic Idealize.ShloMosaic.TcCoe Idealize.SL.Sem
open Cert.KernelIdeal Cert.KernelIdeal.Gen
open Cert.ReferenceIdeal.Real (Reals Args Max)

/-- An extended real of finite absolute value is a real. -/
theorem real_of_abs (x : EReal) (h : max x (-x) < ⊤) : x = ((x.toReal : ℝ) : EReal) := by
  refine (EReal.coe_toReal ?_ ?_).symm
  · rintro rfl
    simp at h
  · rintro rfl
    simp at h

theorem inf_top : Ideal.ofBits .f32 0x7F800000#32 = ⊤ := by
  simp [Ideal.ofBits, Ideal.ieee]

theorem real_of_mask {S : Shape} (x : FVec Ideal S .f32) (hb : (⟨0, ![]⟩ : Shape).BroadcastsInDim S (![] : Fin 0 → Fin S.rank))
    (h : cmpf .olt (Host.absf x) (broadcastInDim S ![] hb (constant ⟨0, ![]⟩ .f32 0x7F800000#32 : FVec Ideal ⟨0, ![]⟩ .f32)) = fun _ => 1#1) (i : S.Idx) :
    x i = (((x i).toReal : ℝ) : EReal) := by
  refine real_of_abs _ ?_
  have e := congrFun h i
  have e2 : BitVec.ofBool (decide (max (x i) (-(x i)) < Ideal.ofBits .f32 0x7F800000#32)) = 1#1 := e
  rw [inf_top] at e2
  by_contra hn
  rw [decide_eq_false hn] at e2
  exact absurd e2 (by decide)

/-- The real entries of an array, zero outside it. -/
def toR {a b : ℕ} (x : (⟨2, ![a, b]⟩ : Shape).Idx → EReal) (r l : ℕ) : ℝ := if h : r < a ∧ l < b then (x (ix2 ⟨r, h.1⟩ ⟨l, h.2⟩)).toReal else 0

theorem is_toR {a b : ℕ} (x : (⟨2, ![a, b]⟩ : Shape).Idx → EReal) (h : ∀ i, x i = (((x i).toReal : ℝ) : EReal)) : Is x (toR x) := fun i j => by
  rw [toR, dif_pos ⟨i.2, j.2⟩]
  exact h _

theorem Is.eq_of {a b : ℕ} {x y : (⟨2, ![a, b]⟩ : Shape).Idx → EReal} {f g : ℕ → ℕ → ℝ} (hx : Is x f) (hy : Is y g) (h : ∀ i j, i < a → j < b → f i j = g i j) : x = y := by
  funext i
  rw [eq_ix2 i]
  exact (hx _ _).trans ((congrArg (fun r : ℝ => (r : EReal)) (h _ _ (i 0).2 (i 1).2)).trans (hy _ _).symm)

variable {m : (ℓ : Loc nD τ sig) → Buf (Elt Ideal) ℓ}

/-- Finite arguments and their greatest scores are reals. -/
theorem reals_of (hp : Cert.Pre_KernelIdeal_finite m) (c : Dev nD) : ∃ R : Reals, ArgsOf m c R ∧ MaxOf m c R := by
  obtain ⟨h0, h1, h2, h3, h4, h5, h6, h7, h8⟩ := hp c
  let R0 : Reals := ⟨toR (a := 8704) (b := 1024) (ar0 m c), toR (a := 8704) (b := 1024) (ar1 m c), toR (a := 8704) (b := 1024) (ar2 m c), toR (a := 8704) (b := 1024) (ar3 m c), toR (a := 8704) (b := 128) (ar4 m c), toR (a := 8704) (b := 1024) (ar5 m c), toR (a := 8704) (b := 1024) (ar6 m c), toR (a := 2176) (b := 128) (ar7 m c), toR (a := 2176) (b := 128) (ar8 m c), fun _ _ _ => 0⟩
  have H0 : ArgsOf m c R0 :=
    ⟨is_toR _ (real_of_mask _ _ h0), is_toR _ (real_of_mask _ _ h1), is_toR _ (real_of_mask _ _ h2), is_toR _ (real_of_mask _ _ h3), is_toR _ (real_of_mask _ _ h4),
     is_toR _ (real_of_mask _ _ h5), is_toR _ (real_of_mask _ _ h6), is_toR _ (real_of_mask _ _ h7), is_toR _ (real_of_mask _ _ h8)⟩
  let X : S4x8x2176.Idx → EReal := Cert.ReferenceIdeal.Read.val_main_v32 (F := Ideal) (ar0 m c) (ar1 m c) (ar2 m c) (ar3 m c) (ar4 m c) (ar7 m c) (ar8 m c)
  let R : Reals := { R0 with M := fun b h q => if hb : b < 4 ∧ h < 8 ∧ q < 2176 then (X (ix3 ⟨b, hb.1⟩ ⟨h, hb.2.1⟩ ⟨q, hb.2.2⟩)).toReal else 0 }
  refine ⟨R, ⟨H0.a0, H0.a1, H0.a2, H0.a3, H0.a4, H0.a5, H0.a6, H0.a7, H0.a8⟩, fun j => ?_⟩
  obtain ⟨r, hr⟩ := Cert.ReferenceIdeal.Real.max_real H0 j
  have hr' : X j = (r : EReal) := hr
  show X j = ((if hb : (j 0).val < 4 ∧ (j 1).val < 8 ∧ (j 2).val < 2176 then (X (ix3 ⟨(j 0).val, hb.1⟩ ⟨(j 1).val, hb.2.1⟩ ⟨(j 2).val, hb.2.2⟩)).toReal else 0 : ℝ) : EReal)
  rw [dif_pos ⟨(j 0).2, (j 1).2, (j 2).2⟩]
  have e : (ix3 ⟨(j 0).val, (j 0).2⟩ ⟨(j 1).val, (j 1).2⟩ ⟨(j 2).val, (j 2).2⟩ : S4x8x2176.Idx) = j := (eq_ix3 j).symm
  show X j = (((X (ix3 ⟨(j 0).val, (j 0).2⟩ ⟨(j 1).val, (j 1).2⟩ ⟨(j 2).val, (j 2).2⟩)).toReal : ℝ) : EReal)
  rw [e, hr', EReal.toReal_coe]

variable {c : Dev nD} {R : Reals}

theorem hd {l : ℕ} (hl : l < 1024) : l / 128 < 8 := by omega
theorem rw_lt (r : ℕ) : r % 2176 < 2176 := Nat.mod_lt _ (by norm_num)
theorem ln_lt (l : ℕ) : l % 128 < 128 := Nat.mod_lt _ (by norm_num)

theorem out0 (H : ArgsOf m c R) (hM : MaxOf m c R) : ((dats m 0 c).arrAt 9 cfg0.N : S8704x1024.Idx → EReal) = Cert.ReferenceIdeal.Read.val_main_v95 (F := Ideal) (ar0 m c) (ar1 m c) (ar2 m c) (ar3 m c) (ar4 m c) (ar5 m c) (ar6 m c) (ar7 m c) (ar8 m c) :=
  (fin9 (holds H hM)).eq_of (Cert.ReferenceIdeal.Real.r95 H hM) fun _ _ _ hl => dq_lo R (hd hl) (rw_lt _) (ln_lt _)

theorem out1 (H : ArgsOf m c R) (hM : MaxOf m c R) : ((dats m 0 c).arrAt 10 cfg0.N : S8704x1024.Idx → EReal) = Cert.ReferenceIdeal.Read.val_main_v97 (F := Ideal) (ar0 m c) (ar1 m c) (ar2 m c) (ar3 m c) (ar4 m c) (ar5 m c) (ar6 m c) (ar7 m c) (ar8 m c) :=
  (fin10 (holds H hM)).eq_of (Cert.ReferenceIdeal.Real.r97 H hM) fun _ _ _ hl => congrArg (· * R.C _ _) (dq_hi R (hd hl) (rw_lt _) _)

theorem out2 (H : ArgsOf m c R) (hM : MaxOf m c R) : ((dats m 0 c).arrAt 11 cfg0.N : S8704x1024.Idx → EReal) = Cert.ReferenceIdeal.Read.val_main_v99 (F := Ideal) (ar0 m c) (ar1 m c) (ar2 m c) (ar3 m c) (ar4 m c) (ar5 m c) (ar6 m c) (ar7 m c) (ar8 m c) :=
  (fin11 (holds H hM)).eq_of (Cert.ReferenceIdeal.Real.r99 H hM) fun _ _ _ hl => congrArg (· * R.S _ _) (dq_hi R (hd hl) (rw_lt _) _)

theorem out3 (H : ArgsOf m c R) (hM : MaxOf m c R) : ((dats m 0 c).arrAt 12 cfg0.N : S8704x1024.Idx → EReal) = Cert.ReferenceIdeal.Read.val_main_v101 (F := Ideal) (ar0 m c) (ar1 m c) (ar2 m c) (ar3 m c) (ar4 m c) (ar5 m c) (ar6 m c) (ar7 m c) (ar8 m c) :=
  (fin12 (holds H hM)).eq_of (Cert.ReferenceIdeal.Real.r101 H hM) fun _ _ _ hl => dk_lo R (hd hl) _ (ln_lt _)

theorem out4 (H : ArgsOf m c R) (hM : MaxOf m c R) : ((dats m 0 c).arrAt 13 cfg0.N : S8704x128.Idx → EReal) = Cert.ReferenceIdeal.Read.val_main_v102 (F := Ideal) (ar0 m c) (ar1 m c) (ar2 m c) (ar3 m c) (ar4 m c) (ar5 m c) (ar6 m c) (ar7 m c) (ar8 m c) :=
  (fin13 (holds H hM)).eq_of (Cert.ReferenceIdeal.Real.r102 H hM) fun _ _ _ hl => dkp_eq R hl

theorem out5 (H : ArgsOf m c R) (hM : MaxOf m c R) : ((dats m 0 c).arrAt 14 cfg0.N : S8704x1024.Idx → EReal) = Cert.ReferenceIdeal.Read.val_main_v104 (F := Ideal) (ar0 m c) (ar1 m c) (ar2 m c) (ar3 m c) (ar4 m c) (ar6 m c) (ar7 m c) (ar8 m c) :=
  (fin14 (holds H hM)).eq_of (Cert.ReferenceIdeal.Real.r104 H hM) fun _ _ _ hl => dv_eq R (hd hl) _ _

theorem congr9 {A B C D E G H I J K : Sort*} (f : A → B → C → D → E → G → H → I → J → K) {a a' b b' c c' d d' e e' g g' h h' i i' j j'}
    (p0 : a = a') (p1 : b = b') (p2 : c = c') (p3 : d = d') (p4 : e = e') (p5 : g = g') (p6 : h = h') (p7 : i = i') (p8 : j = j') :
    f a b c d e g h i j = f a' b' c' d' e' g' h' i' j' := by
  subst p0 p1 p2 p3 p4 p5 p6 p7 p8
  rfl

theorem congr8 {A B C D E G H I K : Sort*} (f : A → B → C → D → E → G → H → I → K) {a a' b b' c c' d d' e e' g g' h h' i i'}
    (p0 : a = a') (p1 : b = b') (p2 : c = c') (p3 : d = d') (p4 : e = e') (p5 : g = g') (p6 : h = h') (p7 : i = i') :
    f a b c d e g h i = f a' b' c' d' e' g' h' i' := by
  subst p0 p1 p2 p3 p4 p5 p6 p7
  rfl

set_option maxHeartbeats 1000000 in
/-- Finite arguments: the call's six results are the reference's. -/
theorem algebraic : Cert.algebraic_KernelIdeal_ReferenceIdeal_pre_finite := by
  intro m g m' g' hp ha
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, Cert.KernelIdeal.Value.run_blocks m g, ?_⟩
  refine (θ_run _ _ _).mono (fun r h c => ?_) (Cert.ReferenceIdeal.Value.run m' g')
  obtain ⟨R, H, hM⟩ := reals_of hp c
  obtain ⟨e0, e1, e2, e3, e4, e5, k⟩ := h c
  obtain ⟨a0, a1, a2, a3, a4, a5, a6, a7, a8⟩ := ha c
  exact ⟨e0.trans ((Cert.ReferenceIdeal.Read.val_main_v95_eq m' c).trans ((congr9 (Cert.ReferenceIdeal.Read.val_main_v95 (F := Ideal)) a0 a1 a2 a3 a4 a5 a6 a7 a8).trans (out0 H hM).symm)),
    e1.trans ((Cert.ReferenceIdeal.Read.val_main_v97_eq m' c).trans ((congr9 (Cert.ReferenceIdeal.Read.val_main_v97 (F := Ideal)) a0 a1 a2 a3 a4 a5 a6 a7 a8).trans (out1 H hM).symm)),
    e2.trans ((Cert.ReferenceIdeal.Read.val_main_v99_eq m' c).trans ((congr9 (Cert.ReferenceIdeal.Read.val_main_v99 (F := Ideal)) a0 a1 a2 a3 a4 a5 a6 a7 a8).trans (out2 H hM).symm)),
    e3.trans ((Cert.ReferenceIdeal.Read.val_main_v101_eq m' c).trans ((congr9 (Cert.ReferenceIdeal.Read.val_main_v101 (F := Ideal)) a0 a1 a2 a3 a4 a5 a6 a7 a8).trans (out3 H hM).symm)),
    e4.trans ((Cert.ReferenceIdeal.Read.val_main_v102_eq m' c).trans ((congr9 (Cert.ReferenceIdeal.Read.val_main_v102 (F := Ideal)) a0 a1 a2 a3 a4 a5 a6 a7 a8).trans (out4 H hM).symm)),
    e5.trans ((Cert.ReferenceIdeal.Read.val_main_v104_eq m' c).trans ((congr8 (Cert.ReferenceIdeal.Read.val_main_v104 (F := Ideal)) a0 a1 a2 a3 a4 a6 a7 a8).trans (out5 H hM).symm)), k⟩

end Cert.KernelIdeal.Val
-- ==== Proof.Mat.lean ====
/- Products of matrices of extended reals taken tile by tile. -/
module

public import Idealize.ShloMosaic.Lib.Pointwise
public import Idealize.ShloMosaic.Lib.Pipeline.ValueKit
public import Idealize.ShloMosaic.Lib.IdealHost
public import Idealize.ShloMosaic.Lib.WholeRead
public import Idealize.ShloMosaic.PureOps.Ideal

@[expose] public section

noncomputable section

namespace Cert.Prod

open Idealize.ShloMosaic

/-- The entries of a matrix by row and column number, zero outside it. -/
def ent {a b : ℕ} (x : (⟨2, ![a, b]⟩ : Shape).Idx → EReal) (r l : ℕ) : EReal := if h : r < a ∧ l < b then x (ix2 ⟨r, h.1⟩ ⟨l, h.2⟩) else 0

theorem ent_at {a b : ℕ} (x : (⟨2, ![a, b]⟩ : Shape).Idx → EReal) (i : Fin a) (j : Fin b) : ent x i j = x (ix2 i j) := by
  rw [ent, dif_pos ⟨i.2, j.2⟩]

/-- A matrix at an index, by the row and column number of the index. -/
theorem at_ent {a b : ℕ} (x : (⟨2, ![a, b]⟩ : Shape).Idx → EReal) (y : (⟨2, ![a, b]⟩ : Shape).Idx) {p q : ℕ} (e : (y 0 : ℕ) = p ∧ (y 1 : ℕ) = q) : x y = ent x p q := by
  conv_lhs => rw [eq_ix2 y]
  rw [← e.1, ← e.2]
  exact (ent_at x _ _).symm

/-- The matrix of a function of row and column number. -/
def fill {a b : ℕ} (f : ℕ → ℕ → EReal) : (⟨2, ![a, b]⟩ : Shape).Idx → EReal := fun y => f (y 0 : ℕ) (y 1 : ℕ)
theorem fill_at {a b : ℕ} (f : ℕ → ℕ → EReal) {y : (⟨2, ![a, b]⟩ : Shape).Idx} {p q : ℕ} (e : (y 0 : ℕ) = p ∧ (y 1 : ℕ) = q) : fill f y = f p q := congrArg₂ f e.1 e.2

/-- One tile more of a sum. -/
theorem tile (f : ℕ → EReal) (j T : ℕ) : ∑ k ∈ Finset.range ((j + 1) * T), f k = ∑ k ∈ Finset.range (j * T), f k + ∑ k : Fin T, f (j * T + k) := by
  rw [Nat.succ_mul, Finset.sum_range_add, Finset.sum_range (fun x => f (j * T + x))]

/-- The first `n` terms of the product of the transpose of `X` with `Y`. -/
def tn (X Y : ℕ → ℕ → EReal) (n i l : ℕ) : EReal := ∑ k ∈ Finset.range n, X k i * Y k l

theorem tn_zero (X Y : ℕ → ℕ → EReal) (i l : ℕ) : tn X Y 0 i l = 0 := Finset.sum_range_zero _

theorem tn_tile (X Y : ℕ → ℕ → EReal) (j T i l : ℕ) : tn X Y (j * T) i l + ∑ k : Fin T, X (j * T + k) i * Y (j * T + k) l = tn X Y ((j + 1) * T) i l :=
  (tile _ _ _).symm

/-- A reference's product, read at row and column numbers. -/
theorem tn_full {r a b : ℕ} (x : (⟨2, ![r, a]⟩ : Shape).Idx → EReal) (y : (⟨2, ![r, b]⟩ : Shape).Idx → EReal) (i : Fin a) (l : Fin b) :
    tn (ent x) (ent y) r i l = ∑ k : Fin r, x (ix2 k i) * y (ix2 k l) := by
  rw [tn, Finset.sum_range]
  exact Finset.sum_congr rfl fun k _ => by rw [ent_at x k i, ent_at y k l]

/-- The first `n` terms of the product of `X` with `W`, and of `X` with the transpose of `W`. -/
def nn (X W : ℕ → ℕ → EReal) (n i l : ℕ) : EReal := ∑ k ∈ Finset.range n, X i k * W k l
def nt (X W : ℕ → ℕ → EReal) (n i l : ℕ) : EReal := ∑ k ∈ Finset.range n, X i k * W l k

theorem nn_full {r a b : ℕ} (x : (⟨2, ![a, r]⟩ : Shape).Idx → EReal) (y : (⟨2, ![r, b]⟩ : Shape).Idx → EReal) (i : Fin a) (l : Fin b) :
    nn (ent x) (ent y) r i l = ∑ k : Fin r, x (ix2 i k) * y (ix2 k l) := by
  rw [nn, Finset.sum_range]
  exact Finset.sum_congr rfl fun k _ => by rw [ent_at x i k, ent_at y k l]

theorem nt_full {r a b : ℕ} (x : (⟨2, ![a, r]⟩ : Shape).Idx → EReal) (y : (⟨2, ![b, r]⟩ : Shape).Idx → EReal) (i : Fin a) (l : Fin b) :
    nt (ent x) (ent y) r i l = ∑ k : Fin r, x (ix2 i k) * y (ix2 l k) := by
  rw [nt, Finset.sum_range]
  exact Finset.sum_congr rfl fun k _ => by rw [ent_at x i k, ent_at y l k]

/-! ## Extended reals that are reals -/

def Rl (x : EReal) : Prop := ∃ r : ℝ, x = (r : EReal)

theorem Rl.coe (r : ℝ) : Rl (r : EReal) := ⟨r, rfl⟩
theorem Rl.zero : Rl 0 := ⟨0, rfl⟩

theorem Rl.add {x y : EReal} : Rl x → Rl y → Rl (x + y)
  | ⟨r, hr⟩, ⟨s, hs⟩ => ⟨r + s, by rw [hr, hs, EReal.coe_add]⟩

theorem Rl.sub {x y : EReal} : Rl x → Rl y → Rl (x - y)
  | ⟨r, hr⟩, ⟨s, hs⟩ => ⟨r - s, by rw [hr, hs, EReal.coe_sub]⟩

theorem Rl.mul {x y : EReal} : Rl x → Rl y → Rl (x * y)
  | ⟨r, hr⟩, ⟨s, hs⟩ => ⟨r * s, by rw [hr, hs, EReal.coe_mul]⟩

theorem Rl.sum {ι : Type} (s : Finset ι) (f : ι → EReal) (h : ∀ k ∈ s, Rl (f k)) : Rl (∑ k ∈ s, f k) := by
  induction s using Finset.cons_induction with
  | empty => exact Rl.zero
  | cons a s ha ih =>
    rw [Finset.sum_cons]
    exact (h a (Finset.mem_cons_self a s)).add (ih fun k hk => h k (Finset.mem_cons_of_mem hk))

/-- A finite array's entries, and zero outside it, are reals. -/
theorem Rl.ent {a b : ℕ} {x : (⟨2, ![a, b]⟩ : Shape).Idx → EReal} (h : ∀ i, Rl (x i)) (r l : ℕ) : Rl (ent x r l) := by
  unfold Prod.ent
  split
  · exact h _
  · exact Rl.zero

theorem Rl.nn {X W : ℕ → ℕ → EReal} (hX : ∀ i k, Rl (X i k)) (hW : ∀ i k, Rl (W i k)) (n i l : ℕ) : Rl (nn X W n i l) :=
  Rl.sum _ _ fun k _ => (hX i k).mul (hW k l)

theorem Rl.nt {X W : ℕ → ℕ → EReal} (hX : ∀ i k, Rl (X i k)) (hW : ∀ i k, Rl (W i k)) (n i l : ℕ) : Rl (nt X W n i l) :=
  Rl.sum _ _ fun k _ => (hX i k).mul (hW l k)

/-- An extended real of finite absolute value is a real. -/
theorem Rl.of_abs {x : EReal} (h : max x (-x) < ⊤) : Rl x := by
  induction x using EReal.rec with
  | bot => exact absurd h (by simp)
  | top => exact absurd h (by simp)
  | coe r => exact ⟨r, rfl⟩

theorem top_bits : Ideal.ofBits .f32 0x7F800000#32 = ⊤ := by
  simp [Ideal.ofBits, Ideal.ieee]

theorem Rl.of_mask {S : Shape} {x : FVec Ideal S .f32} {hb : (⟨0, ![]⟩ : Shape).BroadcastsInDim S (![] : Fin 0 → Fin S.rank)}
    (h : cmpf .olt (Host.absf x) (broadcastInDim S ![] hb (constant ⟨0, ![]⟩ .f32 0x7F800000#32 : FVec Ideal ⟨0, ![]⟩ .f32)) = fun _ => 1#1) (i : S.Idx) : Rl (x i) := by
  refine Rl.of_abs ?_
  have e2 : BitVec.ofBool (decide (max (x i) (-(x i)) < Ideal.ofBits .f32 0x7F800000#32)) = 1#1 := congrFun h i
  rw [top_bits] at e2
  by_contra hn
  rw [decide_eq_false hn] at e2
  exact absurd e2 (by decide)

theorem logistic_eq (x : EReal) : Ideal.div 1 (1 + Ideal.exp (-x)) = Ideal.logistic x := rfl

/-- The gradient of `g · σ(g)` in closed form and by the product rule, times `d`. -/
theorem silu_grad {g d : EReal} (hg : Rl g) (hd : Rl d) :
    d * (Ideal.logistic g * (1 + g * (1 - Ideal.logistic g))) = d * Ideal.logistic g + g * d * (Ideal.logistic g * (1 - Ideal.logistic g)) := by
  obtain ⟨g, rfl⟩ := hg
  obtain ⟨d, rfl⟩ := hd
  rw [Ideal.logistic_coe]
  generalize (1 + Real.exp (-g))⁻¹ = s
  rw [← EReal.coe_one]
  simp only [← EReal.coe_mul, ← EReal.coe_add, ← EReal.coe_sub]
  congr 1
  ring

end Cert.Prod
-- ==== Proof.K2.lean ====
/- The gradient of the gated network's activation through its output product. -/
module

public import proofs.«01_k».proof.Proof.Mat
public import proofs.«01_k».proof.Defs
public import proofs.«01_k».proof.Proof.Gen.Kernel2Ideal.Value
public import proofs.«01_k».proof.Proof.Gen.Reference2Ideal.Read
public import Idealize.ShloMosaic.Lib.StableHlo.RunRead
public import proofs.«01_k».proof.Proof.Gen.Pre_finite2

@[expose] public section

set_option maxRecDepth 16384

noncomputable section

namespace Cert.Kernel2Ideal.Val

open Idealize.ShloMosaic Idealize.ShloMosaic.TcCoe Idealize.SL.Sem
open Cert.Kernel2Ideal Cert.Kernel2Ideal.Gen Cert.Prod

variable {m : (ℓ : Loc nD τ sig) → Buf (Elt Ideal) ℓ} {c : Dev nD}

/-- The activation's derivatives by the gate and by the other factor, entry by entry. -/
def dgs (G U : ℕ → ℕ → EReal) (i l : ℕ) : EReal := U i l * (Ideal.logistic (G i l) * (1 + G i l * (1 - Ideal.logistic (G i l))))
def dus (G : ℕ → ℕ → EReal) (i l : ℕ) : EReal := G i l * Ideal.logistic (G i l)

theorem pay2_at (x : Vec Ideal S1088x1024 .bf16) (w : Vec Ideal S1408x1024 .bf16) (v : Vec Ideal S1088x1408 .bf16) (i : Fin 1088) (j : Fin 1408) :
    k0_pay2 (F := Ideal) x w v (ix2 i j) = (∑ k : Fin 1024, x (ix2 i k) * w (ix2 j k)) * v (ix2 i j) := by
  unfold k0_pay2 k0_pay1
  pointwise

theorem pay3_at (x : Vec Ideal S1088x1024 .bf16) (w : Vec Ideal S1408x1024 .bf16) (v : Vec Ideal S1088x1408 .bf16) (i : Fin 1088) (j : Fin 1408) :
    k0_pay3 (F := Ideal) x w v (ix2 i j) = (∑ k : Fin 1024, x (ix2 i k) * w (ix2 j k)) * v (ix2 i j) := by
  unfold k0_pay3 k0_pay1
  pointwise

theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

theorem emb2 (t : Fin cfg0.N) (i : Fin 1088) (j : Fin 1408) :
    ((((cfg0.win 2).blk t).view.emb (ix2 i j) 0 : Fin _) : ℕ) = t.val % 8 * 1088 + i.val ∧ ((((cfg0.win 2).blk t).view.emb (ix2 i j) 1 : Fin _) : ℕ) = t.val / 8 * 1408 + j.val := by
  constructor <;> blk_simp [(idx t)]

theorem emb3 (t : Fin cfg0.N) (i : Fin 1088) (j : Fin 1408) :
    ((((cfg0.win 3).blk t).view.emb (ix2 i j) 0 : Fin _) : ℕ) = t.val % 8 * 1088 + i.val ∧ ((((cfg0.win 3).blk t).view.emb (ix2 i j) 1 : Fin _) : ℕ) = t.val / 8 * 1408 + j.val := by
  constructor <;> blk_simp [(idx t)]

section
variable (m c)
/-- The entries of the call's arguments: the gate, the other factor, the weights and the incoming gradient. -/
def G : ℕ → ℕ → EReal := ent (a := 8704) (b := 2816) (m ((c : Thread nD τ).loc main_arg0))
def U : ℕ → ℕ → EReal := ent (a := 8704) (b := 2816) (m ((c : Thread nD τ).loc main_arg1))
def W : ℕ → ℕ → EReal := ent (a := 2816) (b := 1024) (m ((c : Thread nD τ).loc main_arg2))
def Y : ℕ → ℕ → EReal := ent (a := 8704) (b := 1024) (m ((c : Thread nD τ).loc main_arg3))
end

/-! ## The two derivatives the host prepares -/

section
variable {F : FTy → Type} [FloatOps F]

def sigT (g : FVec F S8704x2816 .f32) : FVec F S8704x2816 .f32 :=
  Host.divf (broadcastInDim S8704x2816 ![] bcast_S_S8704x2816 (constant S_ .f32 0x3F800000#32))
    (addf (broadcastInDim S8704x2816 ![] bcast_S_S8704x2816 (constant S_ .f32 0x3F800000#32)) (Host.exp (Host.negf g)))

def dgT (g u : FVec F S8704x2816 .f32) : FVec F S8704x2816 .bf16 :=
  truncf .bf16 (mulf u (mulf (sigT g) (addf (broadcastInDim S8704x2816 ![] bcast_S_S8704x2816 (constant S_ .f32 0x3F800000#32))
    (mulf g (subf (broadcastInDim S8704x2816 ![] bcast_S_S8704x2816 (constant S_ .f32 0x3F800000#32)) (sigT g)))))) bitsLt_bf16_f32

def duT (g : FVec F S8704x2816 .f32) : FVec F S8704x2816 .bf16 := truncf .bf16 (mulf g (sigT g)) bitsLt_bf16_f32

variable (m : (ℓ : Loc nD τ sig) → Buf (Elt F) ℓ) (c : Dev nD)

theorem v13 : V m c main_v13 = dgT (m ((c : Thread nD τ).loc main_arg0)) (m ((c : Thread nD τ).loc main_arg1)) := by
  show StableHlo.after hostOps0 (fun b => m (c, b)) _ = _
  simp only [hostOps0, List.flatten_cons, List.flatten_nil, List.append_nil, List.cons_append, List.nil_append]
  after_reads_simp
  rfl

theorem v15 : V m c main_v15 = duT (m ((c : Thread nD τ).loc main_arg0)) := by
  show StableHlo.after hostOps0 (fun b => m (c, b)) _ = _
  simp only [hostOps0, List.flatten_cons, List.flatten_nil, List.append_nil, List.cons_append, List.nil_append]
  after_reads_simp
  rfl

end

theorem sigT_at (g : FVec Ideal S8704x2816 .f32) (z : S8704x2816.Idx) : sigT g z = Ideal.logistic (g z) := by
  show Ideal.div (Ideal.ofBits .f32 0x3F800000#32) (Ideal.ofBits .f32 0x3F800000#32 + Ideal.exp (-(g z))) = _
  rw [Ideal.ofBits_one_f32]
  exact logistic_eq _

theorem dgT_at (g u : FVec Ideal S8704x2816 .f32) (z : S8704x2816.Idx) : dgT g u z = u z * (Ideal.logistic (g z) * (1 + g z * (1 - Ideal.logistic (g z)))) := by
  show u z * (sigT g z * (Ideal.ofBits .f32 0x3F800000#32 + g z * (Ideal.ofBits .f32 0x3F800000#32 - sigT g z))) = _
  rw [sigT_at, Ideal.ofBits_one_f32]

theorem duT_at (g : FVec Ideal S8704x2816 .f32) (z : S8704x2816.Idx) : duT g z = g z * Ideal.logistic (g z) := by
  show g z * sigT g z = _
  rw [sigT_at]

/-! ## The blocks -/

theorem ib0 (t : Fin cfg0.N) (i : Fin 1088) (j : Fin 1024) : iblk m c 0 t (ix2 i j) = Y m c (t.val % 8 * 1088 + i) (0 * 1024 + j) :=
  (congrFun (V_main_arg3 m c) (((cfg0.win 0).blk t).view.emb (ix2 i j))).trans (at_ent _ _ (by constructor <;> blk_simp [(idx t)]))

theorem ib1 (t : Fin cfg0.N) (i : Fin 1408) (j : Fin 1024) : iblk m c 1 t (ix2 i j) = W m c (t.val / 8 * 1408 + i) (0 * 1024 + j) :=
  (congrFun (V_main_arg2 m c) (((cfg0.win 1).blk t).view.emb (ix2 i j))).trans (at_ent _ _ (by constructor <;> blk_simp [(idx t)]))

theorem ib2 (t : Fin cfg0.N) (i : Fin 1088) (j : Fin 1408) : iblk m c 2 t (ix2 i j) = dgs (G m c) (U m c) (t.val % 8 * 1088 + i) (t.val / 8 * 1408 + j) := by
  show V m c main_v13 (((cfg0.win 2).blk t).view.emb (ix2 i j)) = _
  rw [v13, dgT_at, at_ent (m ((c : Thread nD τ).loc main_arg0)) _ (emb2 t i j), at_ent (m ((c : Thread nD τ).loc main_arg1)) _ (emb2 t i j)]
  rfl

theorem ib3 (t : Fin cfg0.N) (i : Fin 1088) (j : Fin 1408) : iblk m c 3 t (ix2 i j) = dus (G m c) (t.val % 8 * 1088 + i) (t.val / 8 * 1408 + j) := by
  show V m c main_v15 (((cfg0.win 3).blk t).view.emb (ix2 i j)) = _
  rw [v15, duT_at, at_ent (m ((c : Thread nD τ).loc main_arg0)) _ (emb3 t i j)]
  rfl

theorem da_at (t : Fin cfg0.N) (i : Fin 1088) (j : Fin 1408) :
    ∑ k : Fin 1024, HMul.hMul (α := EReal) (β := EReal) (γ := EReal) (iblk m c 0 t (ix2 i k)) (iblk m c 1 t (ix2 j k)) = nt (Y m c) (W m c) 1024 (t.val % 8 * 1088 + i) (t.val / 8 * 1408 + j) := by
  rw [nt, Finset.sum_range]
  exact Finset.sum_congr rfl fun k _ => by rw [ib0, ib1, Nat.zero_mul, Nat.zero_add]

/-- One result: the gradient through the product times a derivative. -/
def res (f : ℕ → ℕ → EReal) (Y W : ℕ → ℕ → EReal) (i l : ℕ) : EReal := nt Y W 1024 i l * f i l

theorem fin4 : (dats m 0 c).arrAt 4 cfg0.N = (fill (res (dgs (G m c) (U m c)) (Y m c) (W m c)) : S8704x2816.Idx → EReal) := by
  refine (dats m 0 c).arrAt_eq_of_covers 4 _ (by decide +kernel) fun t hf y => ?_
  blk_simp
  obtain ⟨i, j, rfl⟩ : ∃ (i : Fin 1088) (j : Fin 1408), y = ix2 i j := ⟨y 0, y 1, eq_ix2 y⟩
  refine Eq.trans ?_ (fill_at (p := t.val % 8 * 1088 + i.val) (q := t.val / 8 * 1408 + j.val) _ (by constructor <;> blk_simp [(idx t)])).symm
  show (dats m 0 c).after 4 t (ix2 i j) = _
  rw [after0_4]
  frame_out
  exact (pay2_at _ _ _ i j).trans (congrArg₂ (fun a b : EReal => a * b) (da_at t i j) (ib2 t i j))

theorem fin5 : (dats m 0 c).arrAt 5 cfg0.N = (fill (res (dus (G m c)) (Y m c) (W m c)) : S8704x2816.Idx → EReal) := by
  refine (dats m 0 c).arrAt_eq_of_covers 5 _ (by decide +kernel) fun t hf y => ?_
  blk_simp
  obtain ⟨i, j, rfl⟩ : ∃ (i : Fin 1088) (j : Fin 1408), y = ix2 i j := ⟨y 0, y 1, eq_ix2 y⟩
  refine Eq.trans ?_ (fill_at (p := t.val % 8 * 1088 + i.val) (q := t.val / 8 * 1408 + j.val) _ (by constructor <;> blk_simp [(idx t)])).symm
  show (dats m 0 c).after 5 t (ix2 i j) = _
  rw [after0_5]
  frame_out
  exact (pay3_at _ _ _ i j).trans (congrArg₂ (fun a b : EReal => a * b) (da_at t i j) (ib3 t i j))

/-! ## The reference -/

section
open Cert.Reference2Ideal.Read

variable (g u : FVec Ideal S8704x2816 .f32) (w : Vec Ideal S2816x1024 .bf16) (y : Vec Ideal S8704x1024 .bf16)

theorem da_ref (z : S8704x2816.Idx) : val_main_v5 (F := Ideal) w y z = nt (ent (a := 8704) (b := 1024) y) (ent (a := 2816) (b := 1024) w) 1024 (z 0 : Fin 8704).val (z 1 : Fin 2816).val := by
  rw [val_main_v5_apply, nt, Finset.sum_range]
  exact Finset.sum_congr rfl fun k _ => congrArg₂ (fun a b : EReal => a * b) (at_ent y _ ⟨rfl, rfl⟩) (at_ent w _ ⟨rfl, rfl⟩)

theorem sig_ref (z : S8704x2816.Idx) : val_main_v2_2 (F := Ideal) g z = Ideal.logistic (g z) := by
  show Ideal.div (Ideal.ofBits .f32 0x3F800000#32) (Ideal.ofBits .f32 0x3F800000#32 + Ideal.exp (-(g z))) = _
  rw [Ideal.ofBits_one_f32]
  exact logistic_eq _

theorem du_ref : val_main_v10 (F := Ideal) g w y = fill (res (dus (ent (a := 8704) (b := 2816) g)) (ent (a := 8704) (b := 1024) y) (ent (a := 2816) (b := 1024) w)) := by
  funext z
  show g z * val_main_v2_2 (F := Ideal) g z * val_main_v5 (F := Ideal) w y z = res _ _ _ (z 0 : Fin 8704).val (z 1 : Fin 2816).val
  rw [sig_ref, da_ref, at_ent g z ⟨rfl, rfl⟩, mul_comm]
  rfl

theorem dg_ref (hg : ∀ i, Rl (g i)) (hu : ∀ i, Rl (u i)) (hw : ∀ i, Rl (w i)) (hy : ∀ i, Rl (y i)) :
    val_main_v9 (F := Ideal) g u w y = fill (res (dgs (ent (a := 8704) (b := 2816) g) (ent (a := 8704) (b := 2816) u)) (ent (a := 8704) (b := 1024) y) (ent (a := 2816) (b := 1024) w)) := by
  funext z
  show val_main_v5 (F := Ideal) w y z * u z * val_main_v2_2 (F := Ideal) g z
    + g z * (val_main_v5 (F := Ideal) w y z * u z) * (val_main_v2_2 (F := Ideal) g z * (Ideal.ofBits .f32 0x3F800000#32 - val_main_v2_2 (F := Ideal) g z)) = res _ _ _ (z 0 : Fin 8704).val (z 1 : Fin 2816).val
  rw [sig_ref, da_ref, Ideal.ofBits_one_f32, ← silu_grad (hg z) ((Rl.nt (Rl.ent hy) (Rl.ent hw) _ _ _).mul (hu z)), mul_assoc, at_ent g z ⟨rfl, rfl⟩, at_ent u z ⟨rfl, rfl⟩]
  rfl

end

/-- The call's two gradients are the reference's for finite arguments. -/
theorem algebraic : Cert.algebraic_Kernel2Ideal_Reference2Ideal_pre_finite2 := by
  intro m g m' g' hp ha
  refine ⟨fun c => (dats m 0 c).arrAt 4 cfg0.N, fun c => (dats m 0 c).arrAt 5 cfg0.N, Value.run_blocks m g, ?_⟩
  refine (θ_run _ _ _).mono (fun r h c => ?_) (Cert.Reference2Ideal.Value.run m' g')
  obtain ⟨e0, e1, k⟩ := h c
  obtain ⟨a0, a1, a2, a3⟩ := ha c
  obtain ⟨h0, h1, h2, h3⟩ := hp c
  refine ⟨e0.trans ?_, e1.trans ?_, k⟩
  · refine (dg_ref _ _ _ _ ?_ ?_ ?_ ?_).trans (Eq.trans ?_ fin4.symm)
    · rw [a0]; exact Rl.of_mask h0
    · rw [a1]; exact Rl.of_mask h1
    · rw [a2]; exact Rl.of_mask h2
    · rw [a3]; exact Rl.of_mask h3
    · rw [a0, a1, a2, a3]; rfl
  · refine (du_ref _ _ _).trans (Eq.trans ?_ fin5.symm)
    rw [a0, a2, a3]; rfl

end Cert.Kernel2Ideal.Val
-- ==== Proof.K3.lean ====
/- The two input products of the gated network with their gated activation and its two derivatives. -/
module

public import proofs.«01_k».proof.Proof.Mat
public import proofs.«01_k».proof.Defs
public import proofs.«01_k».proof.Proof.Gen.Kernel3Ideal.Value
public import proofs.«01_k».proof.Proof.Gen.Reference3Ideal.Read
public import proofs.«01_k».proof.Proof.Gen.Pre_finite3

@[expose] public section

set_option maxRecDepth 16384

noncomputable section

namespace Cert.Kernel3Ideal.Val

open Idealize.ShloMosaic Idealize.ShloMosaic.TcCoe Idealize.SL.Sem
open Cert.Kernel3Ideal Cert.Kernel3Ideal.Gen Cert.Prod

variable {m : (ℓ : Loc nD τ sig) → Buf (Elt Ideal) ℓ} {c : Dev nD}

/-- The activation, its derivative by the gate and its derivative by the other factor. -/
def act (g u : EReal) : EReal := g * Ideal.logistic g * u
def dg (g u : EReal) : EReal := u * (Ideal.logistic g * (1 + g * (1 - Ideal.logistic g)))
def du (g u : EReal) : EReal := g * Ideal.logistic g

theorem pay5_at (x : Vec Ideal S1088x1024 .bf16) (w v : Vec Ideal S1024x1408 .bf16) (i : Fin 1088) (j : Fin 1408) :
    k0_pay5 (F := Ideal) x w v (ix2 i j) = act (∑ k : Fin 1024, x (ix2 i k) * w (ix2 k j)) (∑ k : Fin 1024, x (ix2 i k) * v (ix2 k j)) := by
  unfold k0_pay5 k0_pay4 k0_pay3 k0_pay2 k0_pay1 act
  pointwise

theorem pay6_at (x : Vec Ideal S1088x1024 .bf16) (w v : Vec Ideal S1024x1408 .bf16) (i : Fin 1088) (j : Fin 1408) :
    k0_pay6 (F := Ideal) x w v (ix2 i j) = dg (∑ k : Fin 1024, x (ix2 i k) * w (ix2 k j)) (∑ k : Fin 1024, x (ix2 i k) * v (ix2 k j)) := by
  unfold k0_pay6 k0_pay3 k0_pay2 k0_pay1 dg
  pointwise

theorem pay7_at (x : Vec Ideal S1088x1024 .bf16) (w v : Vec Ideal S1024x1408 .bf16) (i : Fin 1088) (j : Fin 1408) :
    k0_pay7 (F := Ideal) x w (ix2 i j) = du (∑ k : Fin 1024, x (ix2 i k) * w (ix2 k j)) (∑ k : Fin 1024, x (ix2 i k) * v (ix2 k j)) := by
  unfold k0_pay7 k0_pay4 k0_pay3 k0_pay1 du
  pointwise

theorem idx : ∀ t : Fin cfg0.N, win0_0.index t = ![t.val % 8, 0] ∧ win0_1.index t = ![0, t.val / 8] ∧ win0_2.index t = ![0, 2 + t.val / 8]
    ∧ win0_3.index t = ![t.val % 8, t.val / 8] ∧ win0_4.index t = ![t.val % 8, t.val / 8] ∧ win0_5.index t = ![t.val % 8, t.val / 8] :=
  (by decide +kernel : ∀ t : Fin grid0.N, _)

section
variable (m c)
/-- The entries of the call's two arguments. -/
def X : ℕ → ℕ → EReal := ent (a := 8704) (b := 1024) (m ((c : Thread nD τ).loc main_arg0))
def W : ℕ → ℕ → EReal := ent (a := 1024) (b := 5632) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1024) (j : Fin 1408) : iblk m c 1 t (ix2 i j) = W m c (0 * 1024 + i) (t.val / 8 * 1408 + j) :=
  (congrFun (V_main_arg1 m c) (((cfg0.win 1).blk t).view.emb (ix2 i j))).trans (at_ent _ _ (by constructor <;> blk_simp [(idx t)]))

theorem ib2 (t : Fin cfg0.N) (i : Fin 1024) (j : Fin 1408) : iblk m c 2 t (ix2 i j) = W m c (0 * 1024 + i) ((2 + t.val / 8) * 1408 + j) :=
  (congrFun (V_main_arg1 m c) (((cfg0.win 2).blk t).view.emb (ix2 i j))).trans (at_ent _ _ (by constructor <;> blk_simp [(idx t)]))

/-- The two products of a point's blocks are entries of the product of the whole arguments. -/
theorem gate_at (t : Fin cfg0.N) (i : Fin 1088) (j : Fin 1408) :
    ∑ k : Fin 1024, HMul.hMul (α := EReal) (β := EReal) (γ := EReal) (iblk m c 0 t (ix2 i k)) (iblk m c 1 t (ix2 k j)) = nn (X m c) (W m c) 1024 (t.val % 8 * 1088 + i) (t.val / 8 * 1408 + j) := by
  rw [nn, Finset.sum_range]
  exact Finset.sum_congr rfl fun k _ => by rw [ib0, ib1, Nat.zero_mul, Nat.zero_add]

theorem up_at (t : Fin cfg0.N) (i : Fin 1088) (j : Fin 1408) :
    ∑ k : Fin 1024, HMul.hMul (α := EReal) (β := EReal) (γ := EReal) (iblk m c 0 t (ix2 i k)) (iblk m c 2 t (ix2 k j)) = nn (X m c) (W m c) 1024 (t.val % 8 * 1088 + i) (2816 + (t.val / 8 * 1408 + j)) := by
  rw [nn, Finset.sum_range, show 2816 + (t.val / 8 * 1408 + j.val) = (2 + t.val / 8) * 1408 + j by ring]
  exact Finset.sum_congr rfl fun k _ => by rw [ib0, ib2, Nat.zero_mul, Nat.zero_add]

/-- One result of the whole arguments. -/
def res (f : EReal → EReal → EReal) (X W : ℕ → ℕ → EReal) (i l : ℕ) : EReal := f (nn X W 1024 i l) (nn X W 1024 i (2816 + l))

theorem fin3 : (dats m 0 c).arrAt 3 cfg0.N = (fill (res act (X m c) (W m c)) : S8704x2816.Idx → EReal) := by
  refine (dats m 0 c).arrAt_eq_of_covers 3 _ (by decide +kernel) fun t hf y => ?_
  blk_simp
  obtain ⟨i, j, rfl⟩ : ∃ (i : Fin 1088) (j : Fin 1408), y = ix2 i j := ⟨y 0, y 1, eq_ix2 y⟩
  refine Eq.trans ?_ (fill_at (p := t.val % 8 * 1088 + i.val) (q := t.val / 8 * 1408 + j.val) _ (by constructor <;> blk_simp [(idx t)])).symm
  show (dats m 0 c).after 3 t (ix2 i j) = _
  rw [after0_3]
  frame_out
  exact (pay5_at _ _ _ i j).trans (congrArg₂ act (gate_at t i j) (up_at t i j))

theorem fin4 : (dats m 0 c).arrAt 4 cfg0.N = (fill (res dg (X m c) (W m c)) : S8704x2816.Idx → EReal) := by
  refine (dats m 0 c).arrAt_eq_of_covers 4 _ (by decide +kernel) fun t hf y => ?_
  blk_simp
  obtain ⟨i, j, rfl⟩ : ∃ (i : Fin 1088) (j : Fin 1408), y = ix2 i j := ⟨y 0, y 1, eq_ix2 y⟩
  refine Eq.trans ?_ (fill_at (p := t.val % 8 * 1088 + i.val) (q := t.val / 8 * 1408 + j.val) _ (by constructor <;> blk_simp [(idx t)])).symm
  show (dats m 0 c).after 4 t (ix2 i j) = _
  rw [after0_4]
  frame_out
  exact (pay6_at _ _ _ i j).trans (congrArg₂ dg (gate_at t i j) (up_at t i j))

theorem fin5 : (dats m 0 c).arrAt 5 cfg0.N = (fill (res du (X m c) (W m c)) : S8704x2816.Idx → EReal) := by
  refine (dats m 0 c).arrAt_eq_of_covers 5 _ (by decide +kernel) fun t hf y => ?_
  blk_simp
  obtain ⟨i, j, rfl⟩ : ∃ (i : Fin 1088) (j : Fin 1408), y = ix2 i j := ⟨y 0, y 1, eq_ix2 y⟩
  refine Eq.trans ?_ (fill_at (p := t.val % 8 * 1088 + i.val) (q := t.val / 8 * 1408 + j.val) _ (by constructor <;> blk_simp [(idx t)])).symm
  show (dats m 0 c).after 5 t (ix2 i j) = _
  rw [after0_5]
  frame_out
  exact (pay7_at (v := iblk m c 2 t) _ _ i j).trans (congrArg₂ du (gate_at t i j) (up_at t i j))

/-! ## The reference -/

section
open Cert.Reference3Ideal.Read

variable (x : Vec Ideal S8704x1024 .bf16) (w : Vec Ideal S1024x5632 .bf16)

theorem gate_ref (z : S8704x2816.Idx) : val_main_v3 (F := Ideal) x w z = nn (ent (a := 8704) (b := 1024) x) (ent (a := 1024) (b := 5632) w) 1024 (z 0 : Fin 8704).val (z 1 : Fin 2816).val := by
  rw [val_main_v3_apply, val_main_v2_apply, nn, Finset.sum_range]
  exact Finset.sum_congr rfl fun k _ => congrArg₂ (fun a b : EReal => a * b) (at_ent x _ ⟨rfl, rfl⟩) (at_ent w _ ⟨rfl, rfl⟩)

theorem up_ref (z : S8704x2816.Idx) : val_main_v4 (F := Ideal) x w z = nn (ent (a := 8704) (b := 1024) x) (ent (a := 1024) (b := 5632) w) 1024 (z 0 : Fin 8704).val (2816 + (z 1 : Fin 2816).val) := by
  rw [val_main_v4_apply, val_main_v2_apply, nn, Finset.sum_range]
  exact Finset.sum_congr rfl fun k _ => congrArg₂ (fun a b : EReal => a * b) (at_ent x _ ⟨rfl, rfl⟩) (at_ent w _ ⟨rfl, rfl⟩)

theorem sig_ref (z : S8704x2816.Idx) : val_main_v5_2 (F := Ideal) x w z = Ideal.logistic (val_main_v3 (F := Ideal) x w z) := by
  show Ideal.div (Ideal.ofBits .f32 0x3F800000#32) (Ideal.ofBits .f32 0x3F800000#32 + Ideal.exp (-(val_main_v3 (F := Ideal) x w z))) = _
  rw [Ideal.ofBits_one_f32]
  exact logistic_eq _

theorem act_ref : val_main_v11 (F := Ideal) x w = fill (res act (ent (a := 8704) (b := 1024) x) (ent (a := 1024) (b := 5632) w)) := by
  funext z
  show val_main_v3 (F := Ideal) x w z * val_main_v5_2 (F := Ideal) x w z * val_main_v4 (F := Ideal) x w z = act _ _
  rw [sig_ref, gate_ref, up_ref]
  rfl

theorem du_ref : val_main_v13 (F := Ideal) x w = fill (res du (ent (a := 8704) (b := 1024) x) (ent (a := 1024) (b := 5632) w)) := by
  funext z
  show val_main_v3 (F := Ideal) x w z * val_main_v5_2 (F := Ideal) x w z * Ideal.ofBits .f32 0x3F800000#32 = res du _ _ _ _
  rw [sig_ref, gate_ref, Ideal.ofBits_one_f32, mul_one]
  rfl

theorem dg_ref (hx : ∀ i, Rl (x i)) (hw : ∀ i, Rl (w i)) : val_main_v12 (F := Ideal) x w = fill (res dg (ent (a := 8704) (b := 1024) x) (ent (a := 1024) (b := 5632) w)) := by
  funext z
  show (Ideal.ofBits .f32 0x3F800000#32 * val_main_v4 (F := Ideal) x w z) * val_main_v5_2 (F := Ideal) x w z
    + val_main_v3 (F := Ideal) x w z * (Ideal.ofBits .f32 0x3F800000#32 * val_main_v4 (F := Ideal) x w z)
      * (val_main_v5_2 (F := Ideal) x w z * (Ideal.ofBits .f32 0x3F800000#32 - val_main_v5_2 (F := Ideal) x w z)) = dg _ _
  rw [sig_ref, gate_ref, up_ref, Ideal.ofBits_one_f32, one_mul]
  exact (silu_grad (Rl.nn (Rl.ent hx) (Rl.ent hw) _ _ _) (Rl.nn (Rl.ent hx) (Rl.ent hw) _ _ _)).symm

end

/-- The call's three results are the reference's: the activation and its derivative by the second factor whatever the
    arguments, the derivative by the first for finite ones. -/
theorem algebraic : Cert.algebraic_Kernel3Ideal_Reference3Ideal_pre_finite3 := by
  intro m g m' g' hp ha
  refine ⟨fun c => (dats m 0 c).arrAt 3 cfg0.N, fun c => (dats m 0 c).arrAt 4 cfg0.N, fun c => (dats m 0 c).arrAt 5 cfg0.N, Value.run_blocks m g, ?_⟩
  refine (θ_run _ _ _).mono (fun r h c => ?_) (Cert.Reference3Ideal.Value.run m' g')
  obtain ⟨e0, e1, e2, k⟩ := h c
  obtain ⟨a0, a1⟩ := ha c
  obtain ⟨h0, h1⟩ := hp c
  have q : ∀ f, (fill (res f (ent (a := 8704) (b := 1024) (m' ((c.tc : Thread nD τ).loc Cert.Reference3Ideal.main_arg0))) (ent (a := 1024) (b := 5632) (m' ((c.tc : Thread nD τ).loc Cert.Reference3Ideal.main_arg1)))) : S8704x2816.Idx → EReal)
      = fill (res f (X m c) (W m c)) := fun f => congrArg₂ (fun x w => fill (res f (ent (a := 8704) (b := 1024) x) (ent (a := 1024) (b := 5632) w))) a0 a1
  refine ⟨e0.trans ?_, e1.trans ?_, e2.trans ?_, k⟩
  · exact (act_ref _ _).trans ((q act).trans fin3.symm)
  · refine (dg_ref _ _ ?_ ?_).trans ((q dg).trans fin4.symm)
    · rw [a0]; exact Rl.of_mask h0
    · rw [a1]; exact Rl.of_mask h1
  · exact (du_ref _ _).trans ((q du).trans fin5.symm)

end Cert.Kernel3Ideal.Val
-- ==== Proof.K4.lean ====
/- A weight gradient: the transpose of a 8704 by 1024 matrix times a 8704 by 2816 one, 8 row blocks summed one after the other. -/
module

public import proofs.«01_k».proof.Proof.Mat
public import proofs.«01_k».proof.Defs
public import proofs.«01_k».proof.Proof.Gen.Kernel4Ideal.Value
public import proofs.«01_k».proof.Proof.Gen.Reference4Ideal.Run

@[expose] public section

set_option maxRecDepth 16384

noncomputable section

namespace Cert.Kernel4Ideal.Val

open Idealize.ShloMosaic Idealize.ShloMosaic.TcCoe Idealize.SL.Sem
open Cert.Kernel4Ideal Cert.Kernel4Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1024) (l : Fin 2816) : k0_pay1 (F := Ideal) (ix2 i l) = 0 := by
  unfold k0_pay1
  pointwise

theorem pay2_at (a : Vec Ideal S1024x2816 .f32) (x : Vec Ideal S1088x1024 .bf16) (y : Vec Ideal S1088x2816 .bf16) (i : Fin 1024) (l : Fin 2816) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, 0] ∧ win0_1.index t = ![t.val % 8, 0] ∧ win0_2.index t = ![0, 0] :=
  (by decide +kernel : ∀ t : Fin grid0.N, _)

section
variable (m c)
/-- The entries of the call's two arguments. -/
def X : ℕ → ℕ → EReal := ent (a := 8704) (b := 1024) (m ((c : Thread nD τ).loc main_arg0))
def Y : ℕ → ℕ → EReal := ent (a := 8704) (b := 2816) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1088) (j : Fin 2816) : iblk m c 1 t (ix2 i j) = Y m c (t.val % 8 * 1088 + i) (0 * 2816 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S1024x2816 .f32) (i : Fin 1024) (l : Fin 2816)
    (h : a (ix2 i l) = tn (X m c) (Y m c) (t.val % 8 * 1088) (0 * 1024 + i) (0 * 2816 + l)) :
    k0_pay2 a (iblk m c 0 t) (iblk m c 1 t) (ix2 i l) = tn (X m c) (Y m c) ((t.val % 8 + 1) * 1088) (0 * 1024 + i) (0 * 2816 + l) := by
  rw [pay2_at, h, ← tn_tile]
  exact congrArg _ (Finset.sum_congr rfl fun k _ => by rw [ib0, ib1])

theorem first (t : Fin cfg0.N) (h0 : t.val % 8 = 0) (i : Fin 1024) (l : Fin 2816) :
    k0_pay1 (F := Ideal) (ix2 i l) = tn (X m c) (Y m c) (t.val % 8 * 1088) (0 * 1024 + i) (0 * 2816 + l) := by
  rw [pay1_at, h0, Nat.zero_mul, tn_zero]

/-- After a point the output's buffer holds the sum of the row blocks up to it. -/
theorem outs : ∀ (n : ℕ) (h : n < cfg0.N) (i : Fin 1024) (l : Fin 2816),
    outsAt0 m c n h (ix2 i l) = tn (X m c) (Y m c) ((n % 8 + 1) * 1088) (0 * 1024 + i) (0 * 2816 + l) := by
  intro n
  induction n with
  | zero =>
    intro h i l
    rw [outsAt0_A m c ⟨0, h⟩ rfl, Value.out_A_2_eq]
    exact more ⟨0, h⟩ _ i l (first ⟨0, h⟩ rfl i l)
  | succ n ih =>
    intro h i l
    by_cases h0 : (n + 1) % 8 = 0
    · rw [outsAt0_A m c ⟨n + 1, h⟩ h0, Value.out_A_2_eq]
      exact more ⟨n + 1, h⟩ _ i l (first ⟨n + 1, h⟩ h0 i l)
    · rw [outsAt0_B m c ⟨n + 1, h⟩ h0, Value.out_B_2_eq]
      refine more ⟨n + 1, h⟩ _ i l ?_
      have q : (n + 1) % 8 = n % 8 + 1 := by omega
      have e : (n + 1) / 8 = n / 8 := by omega
      show outsAt0 m c n _ (ix2 i l) = tn (X m c) (Y m c) ((n + 1) % 8 * 1088) (0 * 1024 + i) (0 * 2816 + l)
      rw [q]
      exact ih _ i l

theorem wb (t : Fin cfg0.N) (hf : (cfg0.win 2).flush t = true) (i : Fin 1024) (l : Fin 2816) :
    (dats m 0 c).after 2 t (ix2 i l) = tn (X m c) (Y m c) 8704 (0 * 1024 + i) (0 * 2816 + l) := by
  have h7 : t.val % 8 = 7 := (flush0_2 t).mp hf
  rw [after0_2, outs, h7]

theorem fin : (dats m 0 c).arrAt 2 cfg0.N = (fill (tn (X m c) (Y m c) 8704) : S1024x2816.Idx → EReal) := by
  refine (dats m 0 c).arrAt_eq_of_covers 2 _ (by decide +kernel) fun t hf y => ?_
  blk_simp
  obtain ⟨i, j, rfl⟩ : ∃ (i : Fin 1024) (j : Fin 2816), y = ix2 i j := ⟨y 0, y 1, eq_ix2 y⟩
  refine (wb t hf i j).trans ?_
  exact (fill_at (p := 0 * 1024 + i.val) (q := 0 * 2816 + j.val) _ (by constructor <;> blk_simp [(idx t)])).symm

/-- The reference's gradient. -/
theorem ref (x : Vec Ideal S8704x1024 .bf16) (y : Vec Ideal S8704x2816 .bf16) :
    (transpose Cert.Reference4Ideal.S1024x2816 [1, 0] (Host.dotGeneral (F := Ideal) Cert.Reference4Ideal.dot_S8704x2816_S8704x1024_S2816x1024_0_0_1_1_n_n none (extf .f32 y Cert.Reference4Ideal.Gen.bitsLt_bf16_f32) (extf .f32 x Cert.Reference4Ideal.Gen.bitsLt_bf16_f32)) Cert.Reference4Ideal.Gen.transposes_S2816x1024_S1024x2816_1_0 : Vec Ideal S1024x2816 .f32) = fill (tn (ent (a := 8704) (b := 1024) x) (ent (a := 8704) (b := 2816) y) 8704) := by
  funext z
  obtain ⟨i, l, rfl⟩ : ∃ (i : Fin 1024) (l : Fin 2816), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel4Ideal_Reference4Ideal := by
  intro m g m' g' _ ha
  refine ⟨fun c => (dats m 0 c).arrAt 2 cfg0.N, Value.run_blocks m g, ?_⟩
  refine (θ_run _ _ _).mono (fun r h c => ?_) (Cert.Reference4Ideal.Value.run m' g')
  obtain ⟨e0, k⟩ := h c
  obtain ⟨a0, a1⟩ := ha c
  refine ⟨e0.trans ((ref _ _).trans ?_), k⟩
  exact (congrArg₂ (fun x y => fill (tn (ent (a := 8704) (b := 1024) x) (ent (a := 8704) (b := 2816) y) 8704)) a0 a1).trans fin.symm

end Cert.Kernel4Ideal.Val
-- ==== Proof.K5.lean ====
/- A weight gradient: the transpose of a 8704 by 2816 matrix times a 8704 by 1024 one, 8 row blocks summed one after the other. -/
module

public import proofs.«01_k».proof.Proof.Mat
public import proofs.«01_k».proof.Defs
public import proofs.«01_k».proof.Proof.Gen.Kernel5Ideal.Value
public import proofs.«01_k».proof.Proof.Gen.Reference5Ideal.Run

@[expose] public section

set_option maxRecDepth 16384

noncomputable section

namespace Cert.Kernel5Ideal.Val

open Idealize.ShloMosaic Idealize.ShloMosaic.TcCoe Idealize.SL.Sem
open Cert.Kernel5Ideal Cert.Kernel5Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1408) (l : Fin 1024) : k0_pay1 (F := Ideal) (ix2 i l) = 0 := by
  unfold k0_pay1
  pointwise

theorem pay2_at (a : Vec Ideal S1408x1024 .f32) (x : Vec Ideal S1088x1408 .bf16) (y : Vec Ideal S1088x1024 .bf16) (i : Fin 1408) (l : Fin 1024) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, (t.val / 8)] ∧ win0_1.index t = ![t.val % 8, 0] ∧ win0_2.index t = ![(t.val / 8), 0] :=
  (by decide +kernel : ∀ t : Fin grid0.N, _)

section
variable (m c)
/-- The entries of the call's two arguments. -/
def X : ℕ → ℕ → EReal := ent (a := 8704) (b := 2816) (m ((c : Thread nD τ).loc main_arg0))
def Y : ℕ → ℕ → EReal := ent (a := 8704) (b := 1024) (m ((c : Thread nD τ).loc main_arg1))
end

theorem ib0 (t : Fin cfg0.N) (i : Fin 1088) (j : Fin 1408) : iblk m c 0 t (ix2 i j) = X m c (t.val % 8 * 1088 + i) ((t.val / 8) * 1408 + j) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = Y m c (t.val % 8 * 1088 + i) (0 * 1024 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S1408x1024 .f32) (i : Fin 1408) (l : Fin 1024)
    (h : a (ix2 i l) = tn (X m c) (Y m c) (t.val % 8 * 1088) ((t.val / 8) * 1408 + i) (0 * 1024 + l)) :
    k0_pay2 a (iblk m c 0 t) (iblk m c 1 t) (ix2 i l) = tn (X m c) (Y m c) ((t.val % 8 + 1) * 1088) ((t.val / 8) * 1408 + i) (0 * 1024 + l) := by
  rw [pay2_at, h, ← tn_tile]
  exact congrArg _ (Finset.sum_congr rfl fun k _ => by rw [ib0, ib1])

theorem first (t : Fin cfg0.N) (h0 : t.val % 8 = 0) (i : Fin 1408) (l : Fin 1024) :
    k0_pay1 (F := Ideal) (ix2 i l) = tn (X m c) (Y m c) (t.val % 8 * 1088) ((t.val / 8) * 1408 + i) (0 * 1024 + l) := by
  rw [pay1_at, h0, Nat.zero_mul, tn_zero]

theorem pay3_eq (a : Vec Ideal S1408x1024 .f32) : (k0_pay3 (F := Ideal) a : S1408x1024.Idx → EReal) = a := rfl

variable (i : grid0.Coords) (b3 : Memref sig .tc .vmem S1088x1408 .bf16) (k3 : b3.IsWhole) (b4 : Memref sig .tc .vmem S1088x1024 .bf16) (k4 : b4.IsWhole) (b5 : Memref sig .tc .vmem S1408x1024 .bf16) (k5 : b5.IsWhole) (b6 : Memref sig .tc .vmem S1408x1024 .f32) (k6 : b6.IsWhole)
  (x0 : Vec Ideal S1088x1408 .bf16) (x1 : Vec Ideal S1088x1024 .bf16) (a : Vec Ideal S1408x1024 .f32)

theorem soutA (hc0 : cond0_0 i) (hc1 : ¬cond0_1 i) :
    sout0_A_0 c i b3 k3 b4 k4 b5 k5 b6 k6 hc0 hc1 x0 x1 = k0_pay2 (F := Ideal) (k0_pay1 (F := Ideal)) x0 x1 := by
  unfold sout0_A_0
  refine Eq.trans (View.read_writes_eq_canon _ _ _ fun _ => scover0_A_0 ..) ?_
  unfold kernelRun0_A
  dsimp only
  try sl_unfold_words
  rw [View.canon_cons_unit_zero (S := S1408x1024) zz, View.readCov_unit_zero (S := S1408x1024) _ zz]
  simp only [View.readAt_eq_ld, Memref.IsWhole.read_unread, View.ld_unit_zero (S := S1408x1024) zz, View.ld_unit_zero (S := S1088x1408) zz, View.ld_unit_zero (S := S1088x1024) zz, shapeCast_self]

theorem soutB (hc0 : ¬cond0_0 i) (hc1 : ¬cond0_1 i) :
    sout0_B_0 c i b3 k3 b4 k4 b5 k5 b6 k6 hc0 hc1 x0 x1 a = k0_pay2 (F := Ideal) a x0 x1 := by
  unfold sout0_B_0
  refine Eq.trans (View.read_writes_eq_canon _ _ _ fun _ => scover0_B_0 ..) ?_
  unfold kernelRun0_B
  dsimp only
  try sl_unfold_words
  rw [View.canon_unit_zero zz]
  simp only [View.readAt_eq_ld, Memref.IsWhole.read_unread, View.ld_unit_zero (S := S1408x1024) zz, View.ld_unit_zero (S := S1088x1408) zz, View.ld_unit_zero (S := S1088x1024) zz, shapeCast_self]

theorem outC (hc0 : ¬cond0_0 i) (hc1 : cond0_1 i) :
    out0_C_2 c i b3 k3 b4 k4 b5 k5 b6 k6 hc0 hc1 x0 x1 a = k0_pay3 (F := Ideal) (k0_pay2 (F := Ideal) a x0 x1) := by
  unfold out0_C_2
  refine Eq.trans (View.read_writes_eq_canon _ _ _ fun _ => cover0_C_2 ..) ?_
  unfold kernelRun0_C
  dsimp only
  try sl_unfold_words
  rw [View.canon_unit_zero zz, View.readCov_unit_zero (S := S1408x1024) _ zz]
  simp only [View.readAt_eq_ld, Memref.IsWhole.read_unread, View.ld_unit_zero (S := S1408x1024) zz, View.ld_unit_zero (S := S1088x1408) zz, View.ld_unit_zero (S := S1088x1024) zz, shapeCast_self]

/-- Before the last row block the scratch holds the sum of the row blocks so far. -/
theorem outs : ∀ (n : ℕ) (h : n < cfg0.N) (i : Fin 1408) (l : Fin 1024), n % 8 ≠ 7 →
    (outsAt0 m c n h).2 (ix2 i l) = tn (X m c) (Y m c) ((n % 8 + 1) * 1088) ((n / 8) * 1408 + i) (0 * 1024 + l) := by
  intro n
  induction n with
  | zero =>
    intro h i l h7
    rw [outsAt0_A m c ⟨0, h⟩ rfl h7, soutA]
    exact more ⟨0, h⟩ _ i l (first ⟨0, h⟩ rfl i l)
  | succ n ih =>
    intro h i l h7
    by_cases h0 : (n + 1) % 8 = 0
    · rw [outsAt0_A m c ⟨n + 1, h⟩ h0 h7, soutA]
      exact more ⟨n + 1, h⟩ _ i l (first ⟨n + 1, h⟩ h0 i l)
    · rw [outsAt0_B m c ⟨n + 1, h⟩ h0 h7, soutB]
      refine more ⟨n + 1, h⟩ _ i l ?_
      have q : (n + 1) % 8 = n % 8 + 1 := by omega
      have e : (n + 1) / 8 = n / 8 := by omega
      show (outsAt0 m c n _).2 (ix2 i l) = tn (X m c) (Y m c) ((n + 1) % 8 * 1088) (((n + 1) / 8) * 1408 + i) (0 * 1024 + l)
      rw [e, q]
      exact ih _ i l (by omega)

theorem wb (t : Fin cfg0.N) (hf : (cfg0.win 2).flush t = true) (i : Fin 1408) (l : Fin 1024) :
    (dats m 0 c).after 2 t (ix2 i l) = tn (X m c) (Y m c) 8704 ((t.val / 8) * 1408 + i) (0 * 1024 + l) := by
  have h7 : t.val % 8 = 7 := (flush0_2 t).mp hf
  have h0 : ¬t.val % 8 = 0 := by omega
  have q : t.val % 8 = (t.val - 1) % 8 + 1 := by omega
  have e : t.val / 8 = (t.val - 1) / 8 := by omega
  rw [after0_2, outsAt0_C m c t h0 h7, outC]
  refine (congrFun (pay3_eq _) _).trans ((more t _ i l ?_).trans (by rw [h7]))
  rw [outs (t.val - 1) _ i l (by omega), e, ← q]

theorem fin : (dats m 0 c).arrAt 2 cfg0.N = (fill (tn (X m c) (Y m c) 8704) : S2816x1024.Idx → EReal) := by
  refine (dats m 0 c).arrAt_eq_of_covers 2 _ (by decide +kernel) fun t hf y => ?_
  blk_simp
  obtain ⟨i, j, rfl⟩ : ∃ (i : Fin 1408) (j : Fin 1024), y = ix2 i j := ⟨y 0, y 1, eq_ix2 y⟩
  refine (wb t hf i j).trans ?_
  exact (fill_at (p := (t.val / 8) * 1408 + i.val) (q := 0 * 1024 + j.val) _ (by constructor <;> blk_simp [(idx t)])).symm

/-- The reference's gradient. -/
theorem ref (x : Vec Ideal S8704x2816 .bf16) (y : Vec Ideal S8704x1024 .bf16) :
    (truncf .bf16 (transpose Cert.Reference5Ideal.S2816x1024 [1, 0] (Host.dotGeneral (F := Ideal) Cert.Reference5Ideal.dot_S8704x1024_S8704x2816_S1024x2816_0_0_1_1_n_n none (extf .f32 y Cert.Reference5Ideal.Gen.bitsLt_bf16_f32) (extf .f32 x Cert.Reference5Ideal.Gen.bitsLt_bf16_f32)) Cert.Reference5Ideal.Gen.transposes_S1024x2816_S2816x1024_1_0) Cert.Reference5Ideal.Gen.bitsLt_bf16_f32 : Vec Ideal S2816x1024 .bf16) = fill (tn (ent (a := 8704) (b := 2816) x) (ent (a := 8704) (b := 1024) y) 8704) := by
  funext z
  obtain ⟨i, l, rfl⟩ : ∃ (i : Fin 2816) (l : Fin 1024), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel5Ideal_Reference5Ideal := by
  intro m g m' g' _ ha
  refine ⟨fun c => (dats m 0 c).arrAt 2 cfg0.N, Value.run_blocks m g, ?_⟩
  refine (θ_run _ _ _).mono (fun r h c => ?_) (Cert.Reference5Ideal.Value.run m' g')
  obtain ⟨e0, k⟩ := h c
  obtain ⟨a0, a1⟩ := ha c
  refine ⟨e0.trans ((ref _ _).trans ?_), k⟩
  exact (congrArg₂ (fun x y => fill (tn (ent (a := 8704) (b := 2816) x) (ent (a := 8704) (b := 1024) y) 8704)) a0 a1).trans fin.symm

end Cert.Kernel5Ideal.Val
-- ==== Proof.K6.lean ====
/- A plain product: a 8704 by 1024 matrix times a 1024 by 7168 one, tile by tile. -/
module

public import proofs.«01_k».proof.Proof.Mat
public import proofs.«01_k».proof.Defs
public import proofs.«01_k».proof.Proof.Gen.Kernel6Ideal.Value
public import proofs.«01_k».proof.Proof.Gen.Reference6Ideal.Read

@[expose] public section

set_option maxRecDepth 16384

noncomputable section

namespace Cert.Kernel6Ideal.Val

open Idealize.ShloMosaic Idealize.ShloMosaic.TcCoe Idealize.SL.Sem
open Cert.Kernel6Ideal Cert.Kernel6Ideal.Gen Cert.Prod

variable {m : (ℓ : Loc nD τ sig) → Buf (Elt Ideal) ℓ} {c : Dev nD}

theorem pay1_at (x : Vec Ideal S1088x1024 .bf16) (w : Vec Ideal S1024x1024 .bf16) (i : Fin 1088) (j : Fin 1024) :
    k0_pay1 (F := Ideal) x w (ix2 i j) = ∑ k : Fin 1024, x (ix2 i k) * w (ix2 k j) := by
  unfold k0_pay1
  pointwise

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

section
variable (m c)
/-- The entries of the call's two arguments. -/
def X : ℕ → ℕ → EReal := ent (a := 8704) (b := 1024) (m ((c : Thread nD τ).loc main_arg0))
def W : ℕ → ℕ → EReal := ent (a := 1024) (b := 7168) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1024) (j : Fin 1024) : iblk m c 1 t (ix2 i j) = W m c (0 * 1024 + i) (t.val / 8 * 1024 + j) :=
  (congrFun (V_main_arg1 m c) (((cfg0.win 1).blk t).view.emb (ix2 i j))).trans (at_ent _ _ (by constructor <;> blk_simp [(idx t)]))

/-- The product of a point's blocks is a block of the product of the whole arguments. -/
theorem prod_at (t : Fin cfg0.N) (i : Fin 1088) (j : Fin 1024) :
    ∑ k : Fin 1024, HMul.hMul (α := EReal) (β := EReal) (γ := EReal) (iblk m c 0 t (ix2 i k)) (iblk m c 1 t (ix2 k j)) = nn (X m c) (W m c) 1024 (t.val % 8 * 1088 + i) (t.val / 8 * 1024 + j) := by
  rw [nn, Finset.sum_range]
  exact Finset.sum_congr rfl fun k _ => by rw [ib0, ib1, Nat.zero_mul, Nat.zero_add]

theorem fin : (dats m 0 c).arrAt 2 cfg0.N = (fill (nn (X m c) (W m c) 1024) : S8704x7168.Idx → EReal) := by
  refine (dats m 0 c).arrAt_eq_of_covers 2 _ (by decide +kernel) fun t hf y => ?_
  blk_simp
  obtain ⟨i, j, rfl⟩ : ∃ (i : Fin 1088) (j : Fin 1024), y = ix2 i j := ⟨y 0, y 1, eq_ix2 y⟩
  refine Eq.trans ?_ (fill_at (p := t.val % 8 * 1088 + i.val) (q := t.val / 8 * 1024 + j.val) _ (by constructor <;> blk_simp [(idx t)])).symm
  show (dats m 0 c).after 2 t (ix2 i j) = _
  rw [after0_2]
  frame_out
  exact (pay1_at _ _ i j).trans (prod_at t i j)

/-- The reference's product. -/
theorem ref (x : Vec Ideal S8704x1024 .bf16) (w : Vec Ideal S1024x7168 .bf16) :
    Cert.Reference6Ideal.Read.val_main_v2 (F := Ideal) x w = fill (nn (ent (a := 8704) (b := 1024) x) (ent (a := 1024) (b := 7168) w) 1024) := by
  funext z
  refine (Cert.Reference6Ideal.Read.val_main_v2_apply x w z).trans ?_
  show _ = nn _ _ 1024 (z 0 : Fin 8704).val (z 1 : Fin 7168).val
  rw [nn, Finset.sum_range]
  exact Finset.sum_congr rfl fun k _ => congrArg₂ (fun a b : EReal => a * b) (at_ent x _ ⟨rfl, rfl⟩) (at_ent w _ ⟨rfl, rfl⟩)

/-- The call's result is the reference's, whatever its arguments. -/
theorem algebraic : Cert.algebraic_Kernel6Ideal_Reference6Ideal := by
  intro m g m' g' _ ha
  refine ⟨fun c => (dats m 0 c).arrAt 2 cfg0.N, Value.run_blocks m g, ?_⟩
  refine (θ_run _ _ _).mono (fun r h c => ?_) (Cert.Reference6Ideal.Value.run m' g')
  obtain ⟨e0, k⟩ := h c
  obtain ⟨a0, a1⟩ := ha c
  refine ⟨e0.trans ((ref _ _).trans ?_), k⟩
  exact (congrArg₂ (fun x w => fill (nn (ent (a := 8704) (b := 1024) x) (ent (a := 1024) (b := 7168) w) 1024)) a0 a1).trans fin.symm

end Cert.Kernel6Ideal.Val
-- ==== Proof.K7.lean ====
/- A plain product: a 8704 by 1024 matrix times a 1024 by 1024 one, tile by tile. -/
module

public import proofs.«01_k».proof.Proof.Mat
public import proofs.«01_k».proof.Defs
public import proofs.«01_k».proof.Proof.Gen.Kernel7Ideal.Value
public import proofs.«01_k».proof.Proof.Gen.Reference7Ideal.Read

@[expose] public section

set_option maxRecDepth 16384

noncomputable section

namespace Cert.Kernel7Ideal.Val

open Idealize.ShloMosaic Idealize.ShloMosaic.TcCoe Idealize.SL.Sem
open Cert.Kernel7Ideal Cert.Kernel7Ideal.Gen Cert.Prod

variable {m : (ℓ : Loc nD τ sig) → Buf (Elt Ideal) ℓ} {c : Dev nD}

theorem pay1_at (x : Vec Ideal S1088x1024 .bf16) (w : Vec Ideal S1024x1024 .bf16) (i : Fin 1088) (j : Fin 1024) :
    k0_pay1 (F := Ideal) x w (ix2 i j) = ∑ k : Fin 1024, x (ix2 i k) * w (ix2 k j) := by
  unfold k0_pay1
  pointwise

theorem idx : ∀ t : Fin cfg0.N, win0_0.index t = ![t.val % 8, 0] ∧ win0_1.index t = ![0, 0] ∧ win0_2.index t = ![t.val % 8, 0] :=
  (by decide +kernel : ∀ t : Fin grid0.N, _)

section
variable (m c)
/-- The entries of the call's two arguments. -/
def X : ℕ → ℕ → EReal := ent (a := 8704) (b := 1024) (m ((c : Thread nD τ).loc main_arg0))
def W : ℕ → ℕ → EReal := ent (a := 1024) (b := 1024) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1024) (j : Fin 1024) : iblk m c 1 t (ix2 i j) = W m c (0 * 1024 + i) (0 * 1024 + j) :=
  (congrFun (V_main_arg1 m c) (((cfg0.win 1).blk t).view.emb (ix2 i j))).trans (at_ent _ _ (by constructor <;> blk_simp [(idx t)]))

/-- The product of a point's blocks is a block of the product of the whole arguments. -/
theorem prod_at (t : Fin cfg0.N) (i : Fin 1088) (j : Fin 1024) :
    ∑ k : Fin 1024, HMul.hMul (α := EReal) (β := EReal) (γ := EReal) (iblk m c 0 t (ix2 i k)) (iblk m c 1 t (ix2 k j)) = nn (X m c) (W m c) 1024 (t.val % 8 * 1088 + i) (0 * 1024 + j) := by
  rw [nn, Finset.sum_range]
  exact Finset.sum_congr rfl fun k _ => by rw [ib0, ib1, Nat.zero_mul, Nat.zero_add]

theorem fin : (dats m 0 c).arrAt 2 cfg0.N = (fill (nn (X m c) (W m c) 1024) : S8704x1024.Idx → EReal) := by
  refine (dats m 0 c).arrAt_eq_of_covers 2 _ (by decide +kernel) fun t hf y => ?_
  blk_simp
  obtain ⟨i, j, rfl⟩ : ∃ (i : Fin 1088) (j : Fin 1024), y = ix2 i j := ⟨y 0, y 1, eq_ix2 y⟩
  refine Eq.trans ?_ (fill_at (p := t.val % 8 * 1088 + i.val) (q := 0 * 1024 + j.val) _ (by constructor <;> blk_simp [(idx t)])).symm
  show (dats m 0 c).after 2 t (ix2 i j) = _
  rw [after0_2]
  frame_out
  exact (pay1_at _ _ i j).trans (prod_at t i j)

/-- The reference's product. -/
theorem ref (x : Vec Ideal S8704x1024 .bf16) (w : Vec Ideal S1024x1024 .bf16) :
    Cert.Reference7Ideal.Read.val_main_v2 (F := Ideal) x w = fill (nn (ent (a := 8704) (b := 1024) x) (ent (a := 1024) (b := 1024) w) 1024) := by
  funext z
  refine (Cert.Reference7Ideal.Read.val_main_v2_apply x w z).trans ?_
  show _ = nn _ _ 1024 (z 0 : Fin 8704).val (z 1 : Fin 1024).val
  rw [nn, Finset.sum_range]
  exact Finset.sum_congr rfl fun k _ => congrArg₂ (fun a b : EReal => a * b) (at_ent x _ ⟨rfl, rfl⟩) (at_ent w _ ⟨rfl, rfl⟩)

/-- The call's result is the reference's, whatever its arguments. -/
theorem algebraic : Cert.algebraic_Kernel7Ideal_Reference7Ideal := by
  intro m g m' g' _ ha
  refine ⟨fun c => (dats m 0 c).arrAt 2 cfg0.N, Value.run_blocks m g, ?_⟩
  refine (θ_run _ _ _).mono (fun r h c => ?_) (Cert.Reference7Ideal.Value.run m' g')
  obtain ⟨e0, k⟩ := h c
  obtain ⟨a0, a1⟩ := ha c
  refine ⟨e0.trans ((ref _ _).trans ?_), k⟩
  exact (congrArg₂ (fun x w => fill (nn (ent (a := 8704) (b := 1024) x) (ent (a := 1024) (b := 1024) w) 1024)) a0 a1).trans fin.symm

end Cert.Kernel7Ideal.Val
-- ==== Proof.K8.lean ====
/- A plain product: a 8704 by 256 matrix times a 256 by 2048 one, tile by tile. -/
module

public import proofs.«01_k».proof.Proof.Mat
public import proofs.«01_k».proof.Defs
public import proofs.«01_k».proof.Proof.Gen.Kernel8Ideal.Value
public import proofs.«01_k».proof.Proof.Gen.Reference8Ideal.Read

@[expose] public section

set_option maxRecDepth 16384

noncomputable section

namespace Cert.Kernel8Ideal.Val

open Idealize.ShloMosaic Idealize.ShloMosaic.TcCoe Idealize.SL.Sem
open Cert.Kernel8Ideal Cert.Kernel8Ideal.Gen Cert.Prod

variable {m : (ℓ : Loc nD τ sig) → Buf (Elt Ideal) ℓ} {c : Dev nD}

theorem pay1_at (x : Vec Ideal S1088x256 .bf16) (w : Vec Ideal S256x1024 .bf16) (i : Fin 1088) (j : Fin 1024) :
    k0_pay1 (F := Ideal) x w (ix2 i j) = ∑ k : Fin 256, x (ix2 i k) * w (ix2 k j) := by
  unfold k0_pay1
  pointwise

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

section
variable (m c)
/-- The entries of the call's two arguments. -/
def X : ℕ → ℕ → EReal := ent (a := 8704) (b := 256) (m ((c : Thread nD τ).loc main_arg0))
def W : ℕ → ℕ → EReal := ent (a := 256) (b := 2048) (m ((c : Thread nD τ).loc main_arg1))
end

theorem ib0 (t : Fin cfg0.N) (i : Fin 1088) (j : Fin 256) : iblk m c 0 t (ix2 i j) = X m c (t.val % 8 * 1088 + i) (0 * 256 + j) :=
  (congrFun (V_main_arg0 m c) (((cfg0.win 0).blk t).view.emb (ix2 i j))).trans (at_ent _ _ (by constructor <;> blk_simp [(idx t)]))

theorem ib1 (t : Fin cfg0.N) (i : Fin 256) (j : Fin 1024) : iblk m c 1 t (ix2 i j) = W m c (0 * 256 + i) (t.val / 8 * 1024 + j) :=
  (congrFun (V_main_arg1 m c) (((cfg0.win 1).blk t).view.emb (ix2 i j))).trans (at_ent _ _ (by constructor <;> blk_simp [(idx t)]))

/-- The product of a point's blocks is a block of the product of the whole arguments. -/
theorem prod_at (t : Fin cfg0.N) (i : Fin 1088) (j : Fin 1024) :
    ∑ k : Fin 256, HMul.hMul (α := EReal) (β := EReal) (γ := EReal) (iblk m c 0 t (ix2 i k)) (iblk m c 1 t (ix2 k j)) = nn (X m c) (W m c) 256 (t.val % 8 * 1088 + i) (t.val / 8 * 1024 + j) := by
  rw [nn, Finset.sum_range]
  exact Finset.sum_congr rfl fun k _ => by rw [ib0, ib1, Nat.zero_mul, Nat.zero_add]

theorem fin : (dats m 0 c).arrAt 2 cfg0.N = (fill (nn (X m c) (W m c) 256) : S8704x2048.Idx → EReal) := by
  refine (dats m 0 c).arrAt_eq_of_covers 2 _ (by decide +kernel) fun t hf y => ?_
  blk_simp
  obtain ⟨i, j, rfl⟩ : ∃ (i : Fin 1088) (j : Fin 1024), y = ix2 i j := ⟨y 0, y 1, eq_ix2 y⟩
  refine Eq.trans ?_ (fill_at (p := t.val % 8 * 1088 + i.val) (q := t.val / 8 * 1024 + j.val) _ (by constructor <;> blk_simp [(idx t)])).symm
  show (dats m 0 c).after 2 t (ix2 i j) = _
  rw [after0_2]
  frame_out
  exact (pay1_at _ _ i j).trans (prod_at t i j)

/-- The reference's product. -/
theorem ref (x : Vec Ideal S8704x256 .bf16) (w : Vec Ideal S256x2048 .bf16) :
    Cert.Reference8Ideal.Read.val_main_v3 (F := Ideal) x w = fill (nn (ent (a := 8704) (b := 256) x) (ent (a := 256) (b := 2048) w) 256) := by
  funext z
  refine (Cert.Reference8Ideal.Read.val_main_v2_apply x w z).trans ?_
  show _ = nn _ _ 256 (z 0 : Fin 8704).val (z 1 : Fin 2048).val
  rw [nn, Finset.sum_range]
  exact Finset.sum_congr rfl fun k _ => congrArg₂ (fun a b : EReal => a * b) (at_ent x _ ⟨rfl, rfl⟩) (at_ent w _ ⟨rfl, rfl⟩)

/-- The call's result is the reference's, whatever its arguments. -/
theorem algebraic : Cert.algebraic_Kernel8Ideal_Reference8Ideal := by
  intro m g m' g' _ ha
  refine ⟨fun c => (dats m 0 c).arrAt 2 cfg0.N, Value.run_blocks m g, ?_⟩
  refine (θ_run _ _ _).mono (fun r h c => ?_) (Cert.Reference8Ideal.Value.run m' g')
  obtain ⟨e0, k⟩ := h c
  obtain ⟨a0, a1⟩ := ha c
  refine ⟨e0.trans ((ref _ _).trans ?_), k⟩
  exact (congrArg₂ (fun x w => fill (nn (ent (a := 8704) (b := 256) x) (ent (a := 256) (b := 2048) w) 256)) a0 a1).trans fin.symm

end Cert.Kernel8Ideal.Val
-- ==== Proof.K9.lean ====
/- A plain product: a 8704 by 1024 matrix times the transpose of a 1024 by 1024 one, tile by tile. -/
module

public import proofs.«01_k».proof.Proof.Mat
public import proofs.«01_k».proof.Defs
public import proofs.«01_k».proof.Proof.Gen.Kernel9Ideal.Value
public import proofs.«01_k».proof.Proof.Gen.Reference9Ideal.Read

@[expose] public section

set_option maxRecDepth 16384

noncomputable section

namespace Cert.Kernel9Ideal.Val

open Idealize.ShloMosaic Idealize.ShloMosaic.TcCoe Idealize.SL.Sem
open Cert.Kernel9Ideal Cert.Kernel9Ideal.Gen Cert.Prod

variable {m : (ℓ : Loc nD τ sig) → Buf (Elt Ideal) ℓ} {c : Dev nD}

theorem pay1_at (x : Vec Ideal S1088x1024 .bf16) (w : Vec Ideal S1024x1024 .bf16) (i : Fin 1088) (j : Fin 1024) :
    k0_pay1 (F := Ideal) x w (ix2 i j) = ∑ k : Fin 1024, x (ix2 i k) * w (ix2 j k) := by
  unfold k0_pay1
  pointwise

theorem idx : ∀ t : Fin cfg0.N, win0_0.index t = ![t.val % 8, 0] ∧ win0_1.index t = ![0, 0] ∧ win0_2.index t = ![t.val % 8, 0] :=
  (by decide +kernel : ∀ t : Fin grid0.N, _)

section
variable (m c)
/-- The entries of the call's two arguments. -/
def X : ℕ → ℕ → EReal := ent (a := 8704) (b := 1024) (m ((c : Thread nD τ).loc main_arg0))
def W : ℕ → ℕ → EReal := ent (a := 1024) (b := 1024) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1024) (j : Fin 1024) : iblk m c 1 t (ix2 i j) = W m c (0 * 1024 + i) (0 * 1024 + j) :=
  (congrFun (V_main_arg1 m c) (((cfg0.win 1).blk t).view.emb (ix2 i j))).trans (at_ent _ _ (by constructor <;> blk_simp [(idx t)]))

/-- The product of a point's blocks is a block of the product of the whole arguments. -/
theorem prod_at (t : Fin cfg0.N) (i : Fin 1088) (j : Fin 1024) :
    ∑ k : Fin 1024, HMul.hMul (α := EReal) (β := EReal) (γ := EReal) (iblk m c 0 t (ix2 i k)) (iblk m c 1 t (ix2 j k)) = nt (X m c) (W m c) 1024 (t.val % 8 * 1088 + i) (0 * 1024 + j) := by
  rw [nt, Finset.sum_range]
  exact Finset.sum_congr rfl fun k _ => by rw [ib0, ib1, Nat.zero_mul, Nat.zero_add]

theorem fin : (dats m 0 c).arrAt 2 cfg0.N = (fill (nt (X m c) (W m c) 1024) : S8704x1024.Idx → EReal) := by
  refine (dats m 0 c).arrAt_eq_of_covers 2 _ (by decide +kernel) fun t hf y => ?_
  blk_simp
  obtain ⟨i, j, rfl⟩ : ∃ (i : Fin 1088) (j : Fin 1024), y = ix2 i j := ⟨y 0, y 1, eq_ix2 y⟩
  refine Eq.trans ?_ (fill_at (p := t.val % 8 * 1088 + i.val) (q := 0 * 1024 + j.val) _ (by constructor <;> blk_simp [(idx t)])).symm
  show (dats m 0 c).after 2 t (ix2 i j) = _
  rw [after0_2]
  frame_out
  exact (pay1_at _ _ i j).trans (prod_at t i j)

/-- The reference's product. -/
theorem ref (x : Vec Ideal S8704x1024 .bf16) (w : Vec Ideal S1024x1024 .bf16) :
    Cert.Reference9Ideal.Read.val_main_v4 (F := Ideal) x w = fill (nt (ent (a := 8704) (b := 1024) x) (ent (a := 1024) (b := 1024) w) 1024) := by
  funext z
  refine (Cert.Reference9Ideal.Read.val_main_v4_apply x w z).trans ?_
  show _ = nt _ _ 1024 (z 0 : Fin 8704).val (z 1 : Fin 1024).val
  rw [nt, Finset.sum_range]
  exact Finset.sum_congr rfl fun k _ => congrArg₂ (fun a b : EReal => a * b) (at_ent x _ ⟨rfl, rfl⟩) (at_ent w _ ⟨rfl, rfl⟩)

/-- The call's result is the reference's, whatever its arguments. -/
theorem algebraic : Cert.algebraic_Kernel9Ideal_Reference9Ideal := by
  intro m g m' g' _ ha
  refine ⟨fun c => (dats m 0 c).arrAt 2 cfg0.N, Value.run_blocks m g, ?_⟩
  refine (θ_run _ _ _).mono (fun r h c => ?_) (Cert.Reference9Ideal.Value.run m' g')
  obtain ⟨e0, k⟩ := h c
  obtain ⟨a0, a1⟩ := ha c
  refine ⟨e0.trans ((ref _ _).trans ?_), k⟩
  exact (congrArg₂ (fun x w => fill (nt (ent (a := 8704) (b := 1024) x) (ent (a := 1024) (b := 1024) w) 1024)) a0 a1).trans fin.symm

end Cert.Kernel9Ideal.Val
-- ==== Proof.K10.lean ====
/- A plain product: a 8704 by 1024 matrix times the transpose of a 1024 by 1024 one, tile by tile. -/
module

public import proofs.«01_k».proof.Proof.Mat
public import proofs.«01_k».proof.Defs
public import proofs.«01_k».proof.Proof.Gen.Kernel10Ideal.Value
public import proofs.«01_k».proof.Proof.Gen.Reference10Ideal.Read

@[expose] public section

set_option maxRecDepth 16384

noncomputable section

namespace Cert.Kernel10Ideal.Val

open Idealize.ShloMosaic Idealize.ShloMosaic.TcCoe Idealize.SL.Sem
open Cert.Kernel10Ideal Cert.Kernel10Ideal.Gen Cert.Prod

variable {m : (ℓ : Loc nD τ sig) → Buf (Elt Ideal) ℓ} {c : Dev nD}

theorem pay1_at (x : Vec Ideal S1088x1024 .bf16) (w : Vec Ideal S1024x1024 .bf16) (i : Fin 1088) (j : Fin 1024) :
    k0_pay1 (F := Ideal) x w (ix2 i j) = ∑ k : Fin 1024, x (ix2 i k) * w (ix2 j k) := by
  unfold k0_pay1
  pointwise

theorem idx : ∀ t : Fin cfg0.N, win0_0.index t = ![t.val % 8, 0] ∧ win0_1.index t = ![0, 0] ∧ win0_2.index t = ![t.val % 8, 0] :=
  (by decide +kernel : ∀ t : Fin grid0.N, _)

section
variable (m c)
/-- The entries of the call's two arguments. -/
def X : ℕ → ℕ → EReal := ent (a := 8704) (b := 1024) (m ((c : Thread nD τ).loc main_arg0))
def W : ℕ → ℕ → EReal := ent (a := 1024) (b := 1024) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1024) (j : Fin 1024) : iblk m c 1 t (ix2 i j) = W m c (0 * 1024 + i) (0 * 1024 + j) :=
  (congrFun (V_main_arg1 m c) (((cfg0.win 1).blk t).view.emb (ix2 i j))).trans (at_ent _ _ (by constructor <;> blk_simp [(idx t)]))

/-- The product of a point's blocks is a block of the product of the whole arguments. -/
theorem prod_at (t : Fin cfg0.N) (i : Fin 1088) (j : Fin 1024) :
    ∑ k : Fin 1024, HMul.hMul (α := EReal) (β := EReal) (γ := EReal) (iblk m c 0 t (ix2 i k)) (iblk m c 1 t (ix2 j k)) = nt (X m c) (W m c) 1024 (t.val % 8 * 1088 + i) (0 * 1024 + j) := by
  rw [nt, Finset.sum_range]
  exact Finset.sum_congr rfl fun k _ => by rw [ib0, ib1, Nat.zero_mul, Nat.zero_add]

theorem fin : (dats m 0 c).arrAt 2 cfg0.N = (fill (nt (X m c) (W m c) 1024) : S8704x1024.Idx → EReal) := by
  refine (dats m 0 c).arrAt_eq_of_covers 2 _ (by decide +kernel) fun t hf y => ?_
  blk_simp
  obtain ⟨i, j, rfl⟩ : ∃ (i : Fin 1088) (j : Fin 1024), y = ix2 i j := ⟨y 0, y 1, eq_ix2 y⟩
  refine Eq.trans ?_ (fill_at (p := t.val % 8 * 1088 + i.val) (q := 0 * 1024 + j.val) _ (by constructor <;> blk_simp [(idx t)])).symm
  show (dats m 0 c).after 2 t (ix2 i j) = _
  rw [after0_2]
  frame_out
  exact (pay1_at _ _ i j).trans (prod_at t i j)

/-- The reference's product. -/
theorem ref (x : Vec Ideal S8704x1024 .bf16) (w : Vec Ideal S1024x1024 .bf16) :
    Cert.Reference10Ideal.Read.val_main_v5 (F := Ideal) x w = fill (nt (ent (a := 8704) (b := 1024) x) (ent (a := 1024) (b := 1024) w) 1024) := by
  funext z
  refine (Cert.Reference10Ideal.Read.val_main_v4_apply x w z).trans ?_
  show _ = nt _ _ 1024 (z 0 : Fin 8704).val (z 1 : Fin 1024).val
  rw [nt, Finset.sum_range]
  exact Finset.sum_congr rfl fun k _ => congrArg₂ (fun a b : EReal => a * b) (at_ent x _ ⟨rfl, rfl⟩) (at_ent w _ ⟨rfl, rfl⟩)

/-- The call's result is the reference's, whatever its arguments. -/
theorem algebraic : Cert.algebraic_Kernel10Ideal_Reference10Ideal := by
  intro m g m' g' _ ha
  refine ⟨fun c => (dats m 0 c).arrAt 2 cfg0.N, Value.run_blocks m g, ?_⟩
  refine (θ_run _ _ _).mono (fun r h c => ?_) (Cert.Reference10Ideal.Value.run m' g')
  obtain ⟨e0, k⟩ := h c
  obtain ⟨a0, a1⟩ := ha c
  refine ⟨e0.trans ((ref _ _).trans ?_), k⟩
  exact (congrArg₂ (fun x w => fill (nt (ent (a := 8704) (b := 1024) x) (ent (a := 1024) (b := 1024) w) 1024)) a0 a1).trans fin.symm

end Cert.Kernel10Ideal.Val
-- ==== Proof.K11.lean ====
/- A weight gradient: the transpose of a 8704 by 1024 matrix times a 8704 by 4096 one, 8 row blocks summed one after the other. -/
module

public import proofs.«01_k».proof.Proof.Mat
public import proofs.«01_k».proof.Defs
public import proofs.«01_k».proof.Proof.Gen.Kernel11Ideal.Value
public import proofs.«01_k».proof.Proof.Gen.Reference11Ideal.Run

@[expose] public section

set_option maxRecDepth 16384

noncomputable section

namespace Cert.Kernel11Ideal.Val

open Idealize.ShloMosaic Idealize.ShloMosaic.TcCoe Idealize.SL.Sem
open Cert.Kernel11Ideal Cert.Kernel11Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1024) (l : Fin 1024) : k0_pay1 (F := Ideal) (ix2 i l) = 0 := by
  unfold k0_pay1
  pointwise

theorem pay2_at (a : Vec Ideal S1024x1024 .f32) (x : Vec Ideal S1088x1024 .bf16) (y : Vec Ideal S1088x1024 .bf16) (i : Fin 1024) (l : Fin 1024) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, 0] ∧ win0_1.index t = ![t.val % 8, (t.val / 8)] ∧ win0_2.index t = ![0, (t.val / 8)] :=
  (by decide +kernel : ∀ t : Fin grid0.N, _)

section
variable (m c)
/-- The entries of the call's two arguments. -/
def X : ℕ → ℕ → EReal := ent (a := 8704) (b := 1024) (m ((c : Thread nD τ).loc main_arg0))
def Y : ℕ → ℕ → EReal := ent (a := 8704) (b := 4096) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = Y m c (t.val % 8 * 1088 + i) ((t.val / 8) * 1024 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S1024x1024 .f32) (i : Fin 1024) (l : Fin 1024)
    (h : a (ix2 i l) = tn (X m c) (Y m c) (t.val % 8 * 1088) (0 * 1024 + i) ((t.val / 8) * 1024 + l)) :
    k0_pay2 a (iblk m c 0 t) (iblk m c 1 t) (ix2 i l) = tn (X m c) (Y m c) ((t.val % 8 + 1) * 1088) (0 * 1024 + i) ((t.val / 8) * 1024 + l) := by
  rw [pay2_at, h, ← tn_tile]
  exact congrArg _ (Finset.sum_congr rfl fun k _ => by rw [ib0, ib1])

theorem first (t : Fin cfg0.N) (h0 : t.val % 8 = 0) (i : Fin 1024) (l : Fin 1024) :
    k0_pay1 (F := Ideal) (ix2 i l) = tn (X m c) (Y m c) (t.val % 8 * 1088) (0 * 1024 + i) ((t.val / 8) * 1024 + l) := by
  rw [pay1_at, h0, Nat.zero_mul, tn_zero]

/-- After a point the output's buffer holds the sum of the row blocks up to it. -/
theorem outs : ∀ (n : ℕ) (h : n < cfg0.N) (i : Fin 1024) (l : Fin 1024),
    outsAt0 m c n h (ix2 i l) = tn (X m c) (Y m c) ((n % 8 + 1) * 1088) (0 * 1024 + i) ((n / 8) * 1024 + l) := by
  intro n
  induction n with
  | zero =>
    intro h i l
    rw [outsAt0_A m c ⟨0, h⟩ rfl, Value.out_A_2_eq]
    exact more ⟨0, h⟩ _ i l (first ⟨0, h⟩ rfl i l)
  | succ n ih =>
    intro h i l
    by_cases h0 : (n + 1) % 8 = 0
    · rw [outsAt0_A m c ⟨n + 1, h⟩ h0, Value.out_A_2_eq]
      exact more ⟨n + 1, h⟩ _ i l (first ⟨n + 1, h⟩ h0 i l)
    · rw [outsAt0_B m c ⟨n + 1, h⟩ h0, Value.out_B_2_eq]
      refine more ⟨n + 1, h⟩ _ i l ?_
      have q : (n + 1) % 8 = n % 8 + 1 := by omega
      have e : (n + 1) / 8 = n / 8 := by omega
      show outsAt0 m c n _ (ix2 i l) = tn (X m c) (Y m c) ((n + 1) % 8 * 1088) (0 * 1024 + i) (((n + 1) / 8) * 1024 + l)
      rw [e, q]
      exact ih _ i l

theorem wb (t : Fin cfg0.N) (hf : (cfg0.win 2).flush t = true) (i : Fin 1024) (l : Fin 1024) :
    (dats m 0 c).after 2 t (ix2 i l) = tn (X m c) (Y m c) 8704 (0 * 1024 + i) ((t.val / 8) * 1024 + l) := by
  have h7 : t.val % 8 = 7 := (flush0_2 t).mp hf
  rw [after0_2, outs, h7]

theorem fin : (dats m 0 c).arrAt 2 cfg0.N = (fill (tn (X m c) (Y m c) 8704) : S1024x4096.Idx → EReal) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  refine (wb t hf i j).trans ?_
  exact (fill_at (p := 0 * 1024 + i.val) (q := (t.val / 8) * 1024 + j.val) _ (by constructor <;> blk_simp [(idx t)])).symm

/-- The reference's gradient. -/
theorem ref (x : Vec Ideal S8704x1024 .bf16) (y : Vec Ideal S8704x4096 .bf16) :
    (transpose Cert.Reference11Ideal.S1024x4096 [1, 0] (Host.dotGeneral (F := Ideal) Cert.Reference11Ideal.dot_S8704x4096_S8704x1024_S4096x1024_0_0_1_1_n_n none (extf .f32 y Cert.Reference11Ideal.Gen.bitsLt_bf16_f32) (extf .f32 x Cert.Reference11Ideal.Gen.bitsLt_bf16_f32)) Cert.Reference11Ideal.Gen.transposes_S4096x1024_S1024x4096_1_0 : Vec Ideal S1024x4096 .f32) = fill (tn (ent (a := 8704) (b := 1024) x) (ent (a := 8704) (b := 4096) y) 8704) := by
  funext z
  obtain ⟨i, l, rfl⟩ : ∃ (i : Fin 1024) (l : Fin 4096), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel11Ideal_Reference11Ideal := by
  intro m g m' g' _ ha
  refine ⟨fun c => (dats m 0 c).arrAt 2 cfg0.N, Value.run_blocks m g, ?_⟩
  refine (θ_run _ _ _).mono (fun r h c => ?_) (Cert.Reference11Ideal.Value.run m' g')
  obtain ⟨e0, k⟩ := h c
  obtain ⟨a0, a1⟩ := ha c
  refine ⟨e0.trans ((ref _ _).trans ?_), k⟩
  exact (congrArg₂ (fun x y => fill (tn (ent (a := 8704) (b := 1024) x) (ent (a := 8704) (b := 4096) y) 8704)) a0 a1).trans fin.symm

end Cert.Kernel11Ideal.Val
-- ==== Proof.K12.lean ====
/- A weight gradient: the transpose of a 8704 by 1024 matrix times a 8704 by 1024 one, 8 row blocks summed one after the other. -/
module

public import proofs.«01_k».proof.Proof.Mat
public import proofs.«01_k».proof.Defs
public import proofs.«01_k».proof.Proof.Gen.Kernel12Ideal.Value
public import proofs.«01_k».proof.Proof.Gen.Reference12Ideal.Run

@[expose] public section

set_option maxRecDepth 16384

noncomputable section

namespace Cert.Kernel12Ideal.Val

open Idealize.ShloMosaic Idealize.ShloMosaic.TcCoe Idealize.SL.Sem
open Cert.Kernel12Ideal Cert.Kernel12Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1024) (l : Fin 1024) : k0_pay1 (F := Ideal) (ix2 i l) = 0 := by
  unfold k0_pay1
  pointwise

theorem pay2_at (a : Vec Ideal S1024x1024 .f32) (x : Vec Ideal S1088x1024 .bf16) (y : Vec Ideal S1088x1024 .bf16) (i : Fin 1024) (l : Fin 1024) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, 0] ∧ win0_1.index t = ![t.val % 8, 0] ∧ win0_2.index t = ![0, 0] :=
  (by decide +kernel : ∀ t : Fin grid0.N, _)

section
variable (m c)
/-- The entries of the call's two arguments. -/
def X : ℕ → ℕ → EReal := ent (a := 8704) (b := 1024) (m ((c : Thread nD τ).loc main_arg0))
def Y : ℕ → ℕ → EReal := ent (a := 8704) (b := 1024) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = Y m c (t.val % 8 * 1088 + i) (0 * 1024 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S1024x1024 .f32) (i : Fin 1024) (l : Fin 1024)
    (h : a (ix2 i l) = tn (X m c) (Y m c) (t.val % 8 * 1088) (0 * 1024 + i) (0 * 1024 + l)) :
    k0_pay2 a (iblk m c 0 t) (iblk m c 1 t) (ix2 i l) = tn (X m c) (Y m c) ((t.val % 8 + 1) * 1088) (0 * 1024 + i) (0 * 1024 + l) := by
  rw [pay2_at, h, ← tn_tile]
  exact congrArg _ (Finset.sum_congr rfl fun k _ => by rw [ib0, ib1])

theorem first (t : Fin cfg0.N) (h0 : t.val % 8 = 0) (i : Fin 1024) (l : Fin 1024) :
    k0_pay1 (F := Ideal) (ix2 i l) = tn (X m c) (Y m c) (t.val % 8 * 1088) (0 * 1024 + i) (0 * 1024 + l) := by
  rw [pay1_at, h0, Nat.zero_mul, tn_zero]

/-- After a point the output's buffer holds the sum of the row blocks up to it. -/
theorem outs : ∀ (n : ℕ) (h : n < cfg0.N) (i : Fin 1024) (l : Fin 1024),
    outsAt0 m c n h (ix2 i l) = tn (X m c) (Y m c) ((n % 8 + 1) * 1088) (0 * 1024 + i) (0 * 1024 + l) := by
  intro n
  induction n with
  | zero =>
    intro h i l
    rw [outsAt0_A m c ⟨0, h⟩ rfl, Value.out_A_2_eq]
    exact more ⟨0, h⟩ _ i l (first ⟨0, h⟩ rfl i l)
  | succ n ih =>
    intro h i l
    by_cases h0 : (n + 1) % 8 = 0
    · rw [outsAt0_A m c ⟨n + 1, h⟩ h0, Value.out_A_2_eq]
      exact more ⟨n + 1, h⟩ _ i l (first ⟨n + 1, h⟩ h0 i l)
    · rw [outsAt0_B m c ⟨n + 1, h⟩ h0, Value.out_B_2_eq]
      refine more ⟨n + 1, h⟩ _ i l ?_
      have q : (n + 1) % 8 = n % 8 + 1 := by omega
      have e : (n + 1) / 8 = n / 8 := by omega
      show outsAt0 m c n _ (ix2 i l) = tn (X m c) (Y m c) ((n + 1) % 8 * 1088) (0 * 1024 + i) (0 * 1024 + l)
      rw [q]
      exact ih _ i l

theorem wb (t : Fin cfg0.N) (hf : (cfg0.win 2).flush t = true) (i : Fin 1024) (l : Fin 1024) :
    (dats m 0 c).after 2 t (ix2 i l) = tn (X m c) (Y m c) 8704 (0 * 1024 + i) (0 * 1024 + l) := by
  have h7 : t.val % 8 = 7 := (flush0_2 t).mp hf
  rw [after0_2, outs, h7]

theorem fin : (dats m 0 c).arrAt 2 cfg0.N = (fill (tn (X m c) (Y m c) 8704) : S1024x1024.Idx → EReal) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  refine (wb t hf i j).trans ?_
  exact (fill_at (p := 0 * 1024 + i.val) (q := 0 * 1024 + j.val) _ (by constructor <;> blk_simp [(idx t)])).symm

/-- The reference's gradient. -/
theorem ref (x : Vec Ideal S8704x1024 .bf16) (y : Vec Ideal S8704x1024 .bf16) :
    (transpose Cert.Reference12Ideal.S1024x1024 [1, 0] (Host.dotGeneral (F := Ideal) Cert.Reference12Ideal.dot_S8704x1024_S8704x1024_S1024x1024_0_0_1_1_n_n none (extf .f32 y Cert.Reference12Ideal.Gen.bitsLt_bf16_f32) (extf .f32 x Cert.Reference12Ideal.Gen.bitsLt_bf16_f32)) Cert.Reference12Ideal.Gen.transposes_S1024x1024_S1024x1024_1_0 : Vec Ideal S1024x1024 .f32) = fill (tn (ent (a := 8704) (b := 1024) x) (ent (a := 8704) (b := 1024) y) 8704) := by
  funext z
  obtain ⟨i, l, rfl⟩ : ∃ (i : Fin 1024) (l : Fin 1024), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel12Ideal_Reference12Ideal := by
  intro m g m' g' _ ha
  refine ⟨fun c => (dats m 0 c).arrAt 2 cfg0.N, Value.run_blocks m g, ?_⟩
  refine (θ_run _ _ _).mono (fun r h c => ?_) (Cert.Reference12Ideal.Value.run m' g')
  obtain ⟨e0, k⟩ := h c
  obtain ⟨a0, a1⟩ := ha c
  refine ⟨e0.trans ((ref _ _).trans ?_), k⟩
  exact (congrArg₂ (fun x y => fill (tn (ent (a := 8704) (b := 1024) x) (ent (a := 8704) (b := 1024) y) 8704)) a0 a1).trans fin.symm

end Cert.Kernel12Ideal.Val
-- ==== Proof.K13.lean ====
/- A weight gradient: the transpose of a 8704 by 1024 matrix times a 8704 by 2048 one, 8 row blocks summed one after the other. -/
module

public import proofs.«01_k».proof.Proof.Mat
public import proofs.«01_k».proof.Defs
public import proofs.«01_k».proof.Proof.Gen.Kernel13Ideal.Value
public import proofs.«01_k».proof.Proof.Gen.Reference13Ideal.Run

@[expose] public section

set_option maxRecDepth 16384

noncomputable section

namespace Cert.Kernel13Ideal.Val

open Idealize.ShloMosaic Idealize.ShloMosaic.TcCoe Idealize.SL.Sem
open Cert.Kernel13Ideal Cert.Kernel13Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1024) (l : Fin 1024) : k0_pay1 (F := Ideal) (ix2 i l) = 0 := by
  unfold k0_pay1
  pointwise

theorem pay2_at (a : Vec Ideal S1024x1024 .f32) (x : Vec Ideal S1088x1024 .bf16) (y : Vec Ideal S1088x1024 .bf16) (i : Fin 1024) (l : Fin 1024) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, 0] ∧ win0_1.index t = ![t.val % 8, (t.val / 8)] ∧ win0_2.index t = ![0, (t.val / 8)] :=
  (by decide +kernel : ∀ t : Fin grid0.N, _)

section
variable (m c)
/-- The entries of the call's two arguments. -/
def X : ℕ → ℕ → EReal := ent (a := 8704) (b := 1024) (m ((c : Thread nD τ).loc main_arg0))
def Y : ℕ → ℕ → EReal := ent (a := 8704) (b := 2048) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = Y m c (t.val % 8 * 1088 + i) ((t.val / 8) * 1024 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S1024x1024 .f32) (i : Fin 1024) (l : Fin 1024)
    (h : a (ix2 i l) = tn (X m c) (Y m c) (t.val % 8 * 1088) (0 * 1024 + i) ((t.val / 8) * 1024 + l)) :
    k0_pay2 a (iblk m c 0 t) (iblk m c 1 t) (ix2 i l) = tn (X m c) (Y m c) ((t.val % 8 + 1) * 1088) (0 * 1024 + i) ((t.val / 8) * 1024 + l) := by
  rw [pay2_at, h, ← tn_tile]
  exact congrArg _ (Finset.sum_congr rfl fun k _ => by rw [ib0, ib1])

theorem first (t : Fin cfg0.N) (h0 : t.val % 8 = 0) (i : Fin 1024) (l : Fin 1024) :
    k0_pay1 (F := Ideal) (ix2 i l) = tn (X m c) (Y m c) (t.val % 8 * 1088) (0 * 1024 + i) ((t.val / 8) * 1024 + l) := by
  rw [pay1_at, h0, Nat.zero_mul, tn_zero]

/-- After a point the output's buffer holds the sum of the row blocks up to it. -/
theorem outs : ∀ (n : ℕ) (h : n < cfg0.N) (i : Fin 1024) (l : Fin 1024),
    outsAt0 m c n h (ix2 i l) = tn (X m c) (Y m c) ((n % 8 + 1) * 1088) (0 * 1024 + i) ((n / 8) * 1024 + l) := by
  intro n
  induction n with
  | zero =>
    intro h i l
    rw [outsAt0_A m c ⟨0, h⟩ rfl, Value.out_A_2_eq]
    exact more ⟨0, h⟩ _ i l (first ⟨0, h⟩ rfl i l)
  | succ n ih =>
    intro h i l
    by_cases h0 : (n + 1) % 8 = 0
    · rw [outsAt0_A m c ⟨n + 1, h⟩ h0, Value.out_A_2_eq]
      exact more ⟨n + 1, h⟩ _ i l (first ⟨n + 1, h⟩ h0 i l)
    · rw [outsAt0_B m c ⟨n + 1, h⟩ h0, Value.out_B_2_eq]
      refine more ⟨n + 1, h⟩ _ i l ?_
      have q : (n + 1) % 8 = n % 8 + 1 := by omega
      have e : (n + 1) / 8 = n / 8 := by omega
      show outsAt0 m c n _ (ix2 i l) = tn (X m c) (Y m c) ((n + 1) % 8 * 1088) (0 * 1024 + i) (((n + 1) / 8) * 1024 + l)
      rw [e, q]
      exact ih _ i l

theorem wb (t : Fin cfg0.N) (hf : (cfg0.win 2).flush t = true) (i : Fin 1024) (l : Fin 1024) :
    (dats m 0 c).after 2 t (ix2 i l) = tn (X m c) (Y m c) 8704 (0 * 1024 + i) ((t.val / 8) * 1024 + l) := by
  have h7 : t.val % 8 = 7 := (flush0_2 t).mp hf
  rw [after0_2, outs, h7]

theorem fin : (dats m 0 c).arrAt 2 cfg0.N = (fill (tn (X m c) (Y m c) 8704) : S1024x2048.Idx → EReal) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  refine (wb t hf i j).trans ?_
  exact (fill_at (p := 0 * 1024 + i.val) (q := (t.val / 8) * 1024 + j.val) _ (by constructor <;> blk_simp [(idx t)])).symm

/-- The reference's gradient. -/
theorem ref (x : Vec Ideal S8704x1024 .bf16) (y : Vec Ideal S8704x2048 .bf16) :
    (transpose Cert.Reference13Ideal.S1024x2048 [1, 0] (Host.dotGeneral (F := Ideal) Cert.Reference13Ideal.dot_S8704x2048_S8704x1024_S2048x1024_0_0_1_1_n_n none (extf .f32 y Cert.Reference13Ideal.Gen.bitsLt_bf16_f32) (extf .f32 x Cert.Reference13Ideal.Gen.bitsLt_bf16_f32)) Cert.Reference13Ideal.Gen.transposes_S2048x1024_S1024x2048_1_0 : Vec Ideal S1024x2048 .f32) = fill (tn (ent (a := 8704) (b := 1024) x) (ent (a := 8704) (b := 2048) y) 8704) := by
  funext z
  obtain ⟨i, l, rfl⟩ : ∃ (i : Fin 1024) (l : Fin 2048), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel13Ideal_Reference13Ideal := by
  intro m g m' g' _ ha
  refine ⟨fun c => (dats m 0 c).arrAt 2 cfg0.N, Value.run_blocks m g, ?_⟩
  refine (θ_run _ _ _).mono (fun r h c => ?_) (Cert.Reference13Ideal.Value.run m' g')
  obtain ⟨e0, k⟩ := h c
  obtain ⟨a0, a1⟩ := ha c
  refine ⟨e0.trans ((ref _ _).trans ?_), k⟩
  exact (congrArg₂ (fun x y => fill (tn (ent (a := 8704) (b := 1024) x) (ent (a := 8704) (b := 2048) y) 8704)) a0 a1).trans fin.symm

end Cert.Kernel13Ideal.Val
-- ==== Proof.K14.lean ====
/- A weight gradient: the transpose of a 8704 by 1024 matrix times a 8704 by 1024 one, 8 row blocks summed one after the other. -/
module

public import proofs.«01_k».proof.Proof.Mat
public import proofs.«01_k».proof.Defs
public import proofs.«01_k».proof.Proof.Gen.Kernel14Ideal.Value
public import proofs.«01_k».proof.Proof.Gen.Reference14Ideal.Run

@[expose] public section

set_option maxRecDepth 16384

noncomputable section

namespace Cert.Kernel14Ideal.Val

open Idealize.ShloMosaic Idealize.ShloMosaic.TcCoe Idealize.SL.Sem
open Cert.Kernel14Ideal Cert.Kernel14Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1024) (l : Fin 1024) : k0_pay1 (F := Ideal) (ix2 i l) = 0 := by
  unfold k0_pay1
  pointwise

theorem pay2_at (a : Vec Ideal S1024x1024 .f32) (x : Vec Ideal S1088x1024 .bf16) (y : Vec Ideal S1088x1024 .bf16) (i : Fin 1024) (l : Fin 1024) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, 0] ∧ win0_1.index t = ![t.val % 8, 0] ∧ win0_2.index t = ![0, 0] :=
  (by decide +kernel : ∀ t : Fin grid0.N, _)

section
variable (m c)
/-- The entries of the call's two arguments. -/
def X : ℕ → ℕ → EReal := ent (a := 8704) (b := 1024) (m ((c : Thread nD τ).loc main_arg0))
def Y : ℕ → ℕ → EReal := ent (a := 8704) (b := 1024) (m ((c : Thread nD τ).loc main_arg1))
end

theorem ib0 (t : Fin cfg0.N) (i : Fin 1088) (j : Fin 1024) : iblk m c 0 t (ix2 i j) = X m c (t.val % 8 * 1088 + i) (0 * 1024 + j) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = Y m c (t.val % 8 * 1088 + i) (0 * 1024 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S1024x1024 .f32) (i : Fin 1024) (l : Fin 1024)
    (h : a (ix2 i l) = tn (X m c) (Y m c) (t.val % 8 * 1088) (0 * 1024 + i) (0 * 1024 + l)) :
    k0_pay2 a (iblk m c 0 t) (iblk m c 1 t) (ix2 i l) = tn (X m c) (Y m c) ((t.val % 8 + 1) * 1088) (0 * 1024 + i) (0 * 1024 + l) := by
  rw [pay2_at, h, ← tn_tile]
  exact congrArg _ (Finset.sum_congr rfl fun k _ => by rw [ib0, ib1])

theorem first (t : Fin cfg0.N) (h0 : t.val % 8 = 0) (i : Fin 1024) (l : Fin 1024) :
    k0_pay1 (F := Ideal) (ix2 i l) = tn (X m c) (Y m c) (t.val % 8 * 1088) (0 * 1024 + i) (0 * 1024 + l) := by
  rw [pay1_at, h0, Nat.zero_mul, tn_zero]

theorem pay3_eq (a : Vec Ideal S1024x1024 .f32) : (k0_pay3 (F := Ideal) a : S1024x1024.Idx → EReal) = a := rfl

variable (i : grid0.Coords) (b3 : Memref sig .tc .vmem S1088x1024 .bf16) (k3 : b3.IsWhole) (b4 : Memref sig .tc .vmem S1088x1024 .bf16) (k4 : b4.IsWhole) (b5 : Memref sig .tc .vmem S1024x1024 .bf16) (k5 : b5.IsWhole) (b6 : Memref sig .tc .vmem S1024x1024 .f32) (k6 : b6.IsWhole)
  (x0 x1 : Vec Ideal S1088x1024 .bf16) (a : Vec Ideal S1024x1024 .f32)

theorem soutA (hc0 : cond0_0 i) (hc1 : ¬cond0_1 i) :
    sout0_A_0 c i b3 k3 b4 k4 b5 k5 b6 k6 hc0 hc1 x0 x1 = k0_pay2 (F := Ideal) (k0_pay1 (F := Ideal)) x0 x1 := by
  unfold sout0_A_0
  refine Eq.trans (View.read_writes_eq_canon _ _ _ fun _ => scover0_A_0 ..) ?_
  unfold kernelRun0_A
  dsimp only
  try sl_unfold_words
  rw [View.canon_cons_unit_zero (S := S1024x1024) zz, View.readCov_unit_zero (S := S1024x1024) _ zz]
  simp only [View.readAt_eq_ld, Memref.IsWhole.read_unread, View.ld_unit_zero (S := S1024x1024) zz, View.ld_unit_zero (S := S1088x1024) zz, View.ld_unit_zero (S := S1088x1024) zz, shapeCast_self]

theorem soutB (hc0 : ¬cond0_0 i) (hc1 : ¬cond0_1 i) :
    sout0_B_0 c i b3 k3 b4 k4 b5 k5 b6 k6 hc0 hc1 x0 x1 a = k0_pay2 (F := Ideal) a x0 x1 := by
  unfold sout0_B_0
  refine Eq.trans (View.read_writes_eq_canon _ _ _ fun _ => scover0_B_0 ..) ?_
  unfold kernelRun0_B
  dsimp only
  try sl_unfold_words
  rw [View.canon_unit_zero zz]
  simp only [View.readAt_eq_ld, Memref.IsWhole.read_unread, View.ld_unit_zero (S := S1024x1024) zz, View.ld_unit_zero (S := S1088x1024) zz, View.ld_unit_zero (S := S1088x1024) zz, shapeCast_self]

theorem outC (hc0 : ¬cond0_0 i) (hc1 : cond0_1 i) :
    out0_C_2 c i b3 k3 b4 k4 b5 k5 b6 k6 hc0 hc1 x0 x1 a = k0_pay3 (F := Ideal) (k0_pay2 (F := Ideal) a x0 x1) := by
  unfold out0_C_2
  refine Eq.trans (View.read_writes_eq_canon _ _ _ fun _ => cover0_C_2 ..) ?_
  unfold kernelRun0_C
  dsimp only
  try sl_unfold_words
  rw [View.canon_unit_zero zz, View.readCov_unit_zero (S := S1024x1024) _ zz]
  simp only [View.readAt_eq_ld, Memref.IsWhole.read_unread, View.ld_unit_zero (S := S1024x1024) zz, View.ld_unit_zero (S := S1088x1024) zz, View.ld_unit_zero (S := S1088x1024) zz, shapeCast_self]

/-- Before the last row block the scratch holds the sum of the row blocks so far. -/
theorem outs : ∀ (n : ℕ) (h : n < cfg0.N) (i : Fin 1024) (l : Fin 1024), n % 8 ≠ 7 →
    (outsAt0 m c n h).2 (ix2 i l) = tn (X m c) (Y m c) ((n % 8 + 1) * 1088) (0 * 1024 + i) (0 * 1024 + l) := by
  intro n
  induction n with
  | zero =>
    intro h i l h7
    rw [outsAt0_A m c ⟨0, h⟩ rfl h7, soutA]
    exact more ⟨0, h⟩ _ i l (first ⟨0, h⟩ rfl i l)
  | succ n ih =>
    intro h i l h7
    by_cases h0 : (n + 1) % 8 = 0
    · rw [outsAt0_A m c ⟨n + 1, h⟩ h0 h7, soutA]
      exact more ⟨n + 1, h⟩ _ i l (first ⟨n + 1, h⟩ h0 i l)
    · rw [outsAt0_B m c ⟨n + 1, h⟩ h0 h7, soutB]
      refine more ⟨n + 1, h⟩ _ i l ?_
      have q : (n + 1) % 8 = n % 8 + 1 := by omega
      have e : (n + 1) / 8 = n / 8 := by omega
      show (outsAt0 m c n _).2 (ix2 i l) = tn (X m c) (Y m c) ((n + 1) % 8 * 1088) (0 * 1024 + i) (0 * 1024 + l)
      rw [q]
      exact ih _ i l (by omega)

theorem wb (t : Fin cfg0.N) (hf : (cfg0.win 2).flush t = true) (i : Fin 1024) (l : Fin 1024) :
    (dats m 0 c).after 2 t (ix2 i l) = tn (X m c) (Y m c) 8704 (0 * 1024 + i) (0 * 1024 + l) := by
  have h7 : t.val % 8 = 7 := (flush0_2 t).mp hf
  have h0 : ¬t.val % 8 = 0 := by omega
  have q : t.val % 8 = (t.val - 1) % 8 + 1 := by omega
  have e : t.val / 8 = (t.val - 1) / 8 := by omega
  rw [after0_2, outsAt0_C m c t h0 h7, outC]
  refine (congrFun (pay3_eq _) _).trans ((more t _ i l ?_).trans (by rw [h7]))
  rw [outs (t.val - 1) _ i l (by omega), ← q]

theorem fin : (dats m 0 c).arrAt 2 cfg0.N = (fill (tn (X m c) (Y m c) 8704) : S1024x1024.Idx → EReal) := by
  refine (dats m 0 c).arrAt_eq_of_covers 2 _ (by decide +kernel) fun t hf y => ?_
  blk_simp
  obtain ⟨i, j, rfl⟩ : ∃ (i : Fin 1024) (j : Fin 1024), y = ix2 i j := ⟨y 0, y 1, eq_ix2 y⟩
  refine (wb t hf i j).trans ?_
  exact (fill_at (p := 0 * 1024 + i.val) (q := 0 * 1024 + j.val) _ (by constructor <;> blk_simp [(idx t)])).symm

/-- The reference's gradient. -/
theorem ref (x : Vec Ideal S8704x1024 .bf16) (y : Vec Ideal S8704x1024 .bf16) :
    (truncf .bf16 (transpose Cert.Reference14Ideal.S1024x1024 [1, 0] (Host.dotGeneral (F := Ideal) Cert.Reference14Ideal.dot_S8704x1024_S8704x1024_S1024x1024_0_0_1_1_n_n none (extf .f32 y Cert.Reference14Ideal.Gen.bitsLt_bf16_f32) (extf .f32 x Cert.Reference14Ideal.Gen.bitsLt_bf16_f32)) Cert.Reference14Ideal.Gen.transposes_S1024x1024_S1024x1024_1_0) Cert.Reference14Ideal.Gen.bitsLt_bf16_f32 : Vec Ideal S1024x1024 .bf16) = fill (tn (ent (a := 8704) (b := 1024) x) (ent (a := 8704) (b := 1024) y) 8704) := by
  funext z
  obtain ⟨i, l, rfl⟩ : ∃ (i : Fin 1024) (l : Fin 1024), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel14Ideal_Reference14Ideal := by
  intro m g m' g' _ ha
  refine ⟨fun c => (dats m 0 c).arrAt 2 cfg0.N, Value.run_blocks m g, ?_⟩
  refine (θ_run _ _ _).mono (fun r h c => ?_) (Cert.Reference14Ideal.Value.run m' g')
  obtain ⟨e0, k⟩ := h c
  obtain ⟨a0, a1⟩ := ha c
  refine ⟨e0.trans ((ref _ _).trans ?_), k⟩
  exact (congrArg₂ (fun x y => fill (tn (ent (a := 8704) (b := 1024) x) (ent (a := 8704) (b := 1024) y) 8704)) a0 a1).trans fin.symm

end Cert.Kernel14Ideal.Val
-- ==== Proof.K15.lean ====
/- A weight gradient: the transpose of a 8704 by 256 matrix times a 8704 by 1024 one, 8 row blocks summed one after the other. -/
module

public import proofs.«01_k».proof.Proof.Mat
public import proofs.«01_k».proof.Defs
public import proofs.«01_k».proof.Proof.Gen.Kernel15Ideal.Value
public import proofs.«01_k».proof.Proof.Gen.Reference15Ideal.Run

@[expose] public section

set_option maxRecDepth 16384

noncomputable section

namespace Cert.Kernel15Ideal.Val

open Idealize.ShloMosaic Idealize.ShloMosaic.TcCoe Idealize.SL.Sem
open Cert.Kernel15Ideal Cert.Kernel15Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 256) (l : Fin 1024) : k0_pay1 (F := Ideal) (ix2 i l) = 0 := by
  unfold k0_pay1
  pointwise

theorem pay2_at (a : Vec Ideal S256x1024 .f32) (x : Vec Ideal S1088x256 .bf16) (y : Vec Ideal S1088x1024 .bf16) (i : Fin 256) (l : Fin 1024) :
    k0_pay2 (F := Ideal) a x y (ix2 i l) = a (ix2 i l) + ∑ k : Fin 1088, x (ix2 k i) * y (ix2 k l) := by
  unfold k0_pay2
  pointwise

theorem idx : ∀ t : Fin cfg0.N, win0_0.index t = ![t.val % 8, 0] ∧ win0_1.index t = ![t.val % 8, 0] ∧ win0_2.index t = ![0, 0] :=
  (by decide +kernel : ∀ t : Fin grid0.N, _)

section
variable (m c)
/-- The entries of the call's two arguments. -/
def X : ℕ → ℕ → EReal := ent (a := 8704) (b := 256) (m ((c : Thread nD τ).loc main_arg0))
def Y : ℕ → ℕ → EReal := ent (a := 8704) (b := 1024) (m ((c : Thread nD τ).loc main_arg1))
end

theorem ib0 (t : Fin cfg0.N) (i : Fin 1088) (j : Fin 256) : iblk m c 0 t (ix2 i j) = X m c (t.val % 8 * 1088 + i) (0 * 256 + j) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = Y m c (t.val % 8 * 1088 + i) (0 * 1024 + j) :=
  (congrFun (V_main_arg1 m c) (((cfg0.win 1).blk t).view.emb (ix2 i j))).trans (at_ent _ _ (by constructor <;> blk_simp [(idx t)]))

/-- One row block more. -/
theorem more (t : Fin cfg0.N) (a : Vec Ideal S256x1024 .f32) (i : Fin 256) (l : Fin 1024)
    (h : a (ix2 i l) = tn (X m c) (Y m c) (t.val % 8 * 1088) (0 * 256 + i) (0 * 1024 + l)) :
    k0_pay2 a (iblk m c 0 t) (iblk m c 1 t) (ix2 i l) = tn (X m c) (Y m c) ((t.val % 8 + 1) * 1088) (0 * 256 + i) (0 * 1024 + l) := by
  rw [pay2_at, h, ← tn_tile]
  exact congrArg _ (Finset.sum_congr rfl fun k _ => by rw [ib0, ib1])

theorem first (t : Fin cfg0.N) (h0 : t.val % 8 = 0) (i : Fin 256) (l : Fin 1024) :
    k0_pay1 (F := Ideal) (ix2 i l) = tn (X m c) (Y m c) (t.val % 8 * 1088) (0 * 256 + i) (0 * 1024 + l) := by
  rw [pay1_at, h0, Nat.zero_mul, tn_zero]

/-- After a point the output's buffer holds the sum of the row blocks up to it. -/
theorem outs : ∀ (n : ℕ) (h : n < cfg0.N) (i : Fin 256) (l : Fin 1024),
    outsAt0 m c n h (ix2 i l) = tn (X m c) (Y m c) ((n % 8 + 1) * 1088) (0 * 256 + i) (0 * 1024 + l) := by
  intro n
  induction n with
  | zero =>
    intro h i l
    rw [outsAt0_A m c ⟨0, h⟩ rfl, Value.out_A_2_eq]
    exact more ⟨0, h⟩ _ i l (first ⟨0, h⟩ rfl i l)
  | succ n ih =>
    intro h i l
    by_cases h0 : (n + 1) % 8 = 0
    · rw [outsAt0_A m c ⟨n + 1, h⟩ h0, Value.out_A_2_eq]
      exact more ⟨n + 1, h⟩ _ i l (first ⟨n + 1, h⟩ h0 i l)
    · rw [outsAt0_B m c ⟨n + 1, h⟩ h0, Value.out_B_2_eq]
      refine more ⟨n + 1, h⟩ _ i l ?_
      have q : (n + 1) % 8 = n % 8 + 1 := by omega
      have e : (n + 1) / 8 = n / 8 := by omega
      show outsAt0 m c n _ (ix2 i l) = tn (X m c) (Y m c) ((n + 1) % 8 * 1088) (0 * 256 + i) (0 * 1024 + l)
      rw [q]
      exact ih _ i l

theorem wb (t : Fin cfg0.N) (hf : (cfg0.win 2).flush t = true) (i : Fin 256) (l : Fin 1024) :
    (dats m 0 c).after 2 t (ix2 i l) = tn (X m c) (Y m c) 8704 (0 * 256 + i) (0 * 1024 + l) := by
  have h7 : t.val % 8 = 7 := (flush0_2 t).mp hf
  rw [after0_2, outs, h7]

theorem fin : (dats m 0 c).arrAt 2 cfg0.N = (fill (tn (X m c) (Y m c) 8704) : S256x1024.Idx → EReal) := by
  refine (dats m 0 c).arrAt_eq_of_covers 2 _ (by decide +kernel) fun t hf y => ?_
  blk_simp
  obtain ⟨i, j, rfl⟩ : ∃ (i : Fin 256) (j : Fin 1024), y = ix2 i j := ⟨y 0, y 1, eq_ix2 y⟩
  refine (wb t hf i j).trans ?_
  exact (fill_at (p := 0 * 256 + i.val) (q := 0 * 1024 + j.val) _ (by constructor <;> blk_simp [(idx t)])).symm

/-- The reference's gradient. -/
theorem ref (x : Vec Ideal S8704x256 .bf16) (y : Vec Ideal S8704x1024 .bf16) :
    (transpose Cert.Reference15Ideal.S256x1024 [1, 0] (Host.dotGeneral (F := Ideal) Cert.Reference15Ideal.dot_S8704x1024_S8704x256_S1024x256_0_0_1_1_n_n none (extf .f32 y Cert.Reference15Ideal.Gen.bitsLt_bf16_f32) (extf .f32 x Cert.Reference15Ideal.Gen.bitsLt_bf16_f32)) Cert.Reference15Ideal.Gen.transposes_S1024x256_S256x1024_1_0 : Vec Ideal S256x1024 .f32) = fill (tn (ent (a := 8704) (b := 256) x) (ent (a := 8704) (b := 1024) y) 8704) := by
  funext z
  obtain ⟨i, l, rfl⟩ : ∃ (i : Fin 256) (l : Fin 1024), z = ix2 i l := ⟨z 0, z 1, eq_ix2 z⟩
  refine Eq.trans ?_ (tn_full x y i l).symm
  refine Eq.trans (b := ∑ k : Fin 8704, y (ix2 k l) * x (ix2 k i)) ?_ ?_
  · pointwise
  exact Finset.sum_congr rfl fun k _ => mul_comm _ _

/-- The call's gradient is the reference's, whatever its arguments. -/
theorem algebraic : Cert.algebraic_Kernel15Ideal_Reference15Ideal := by
  intro m g m' g' _ ha
  refine ⟨fun c => (dats m 0 c).arrAt 2 cfg0.N, Value.run_blocks m g, ?_⟩
  refine (θ_run _ _ _).mono (fun r h c => ?_) (Cert.Reference15Ideal.Value.run m' g')
  obtain ⟨e0, k⟩ := h c
  obtain ⟨a0, a1⟩ := ha c
  refine ⟨e0.trans ((ref _ _).trans ?_), k⟩
  exact (congrArg₂ (fun x y => fill (tn (ent (a := 8704) (b := 256) x) (ent (a := 8704) (b := 1024) y) 8704)) a0 a1).trans fin.symm

end Cert.Kernel15Ideal.Val
-- ==== Proof.Seg.lean ====
/- Matrices side by side, and their products with a transpose. -/
module

public import proofs.«01_k».proof.Proof.Mat

@[expose] public section

noncomputable section

namespace Cert.Prod

open Idealize.ShloMosaic

/-- Two matrices side by side, the left one `n` columns wide. -/
def join (n : ℕ) (X Y : ℕ → ℕ → EReal) (i k : ℕ) : EReal := if k < n then X i k else Y i (k - n)

theorem join_lt {n : ℕ} (X Y : ℕ → ℕ → EReal) {i k : ℕ} (h : k < n) : join n X Y i k = X i k := if_pos h
theorem join_ge {n : ℕ} (X Y : ℕ → ℕ → EReal) {i k : ℕ} (h : ¬k < n) : join n X Y i k = Y i (k - n) := if_neg h

theorem nt_zero (X W : ℕ → ℕ → EReal) (i l : ℕ) : nt X W 0 i l = 0 := Finset.sum_range_zero _

theorem nt_tile (X W : ℕ → ℕ → EReal) (j T i l : ℕ) : nt X W (j * T) i l + ∑ k : Fin T, X i (j * T + k) * W l (j * T + k) = nt X W ((j + 1) * T) i l :=
  (tile _ _ _).symm

/-- A product with the transpose of an array, term by term. -/
theorem nt_half {r b : ℕ} (X : ℕ → ℕ → EReal) (y : (⟨2, ![b, r]⟩ : Shape).Idx → EReal) (i : ℕ) (l : Fin b) :
    nt X (ent y) r i l = ∑ k : Fin r, X i k * y (ix2 l k) := by
  rw [nt, Finset.sum_range]
  exact Finset.sum_congr rfl fun k _ => by rw [ent_at y l k]

theorem Rl.join {n : ℕ} {X Y : ℕ → ℕ → EReal} (hX : ∀ i k, Rl (X i k)) (hY : ∀ i k, Rl (Y i k)) (i k : ℕ) : Rl (join n X Y i k) := by
  unfold Prod.join
  split
  · exact hX _ _
  · exact hY _ _

/-- Joined arrays at an index. -/
theorem join_cat2 {r a b n : ℕ} (x : (⟨2, ![r, a]⟩ : Shape).Idx → EReal) (y : (⟨2, ![r, b]⟩ : Shape).Idx → EReal) (i : Fin r) (k : Fin n) (hn : n = a + b) :
    join a (ent x) (ent y) i k = if h : (k : ℕ) < a then x (ix2 i ⟨k, h⟩) else y (ix2 i ⟨k - a, by omega⟩) := by
  unfold Prod.join
  split
  · next h => exact ent_at x i ⟨k, h⟩
  · next h => exact ent_at y i ⟨k - a, by omega⟩

theorem join_cat3 {r a b d n : ℕ} (x : (⟨2, ![r, a]⟩ : Shape).Idx → EReal) (y : (⟨2, ![r, b]⟩ : Shape).Idx → EReal) (z : (⟨2, ![r, d]⟩ : Shape).Idx → EReal) (i : Fin r) (k : Fin n) (hn : n = a + b + d) :
    join a (ent x) (join b (ent y) (ent z)) i k = if h : (k : ℕ) < a then x (ix2 i ⟨k, h⟩) else if h' : (k : ℕ) - a < b then y (ix2 i ⟨k - a, h'⟩) else z (ix2 i ⟨k - a - b, by omega⟩) := by
  unfold Prod.join
  split
  · next h => exact ent_at x i ⟨k, h⟩
  · split
    · next h => exact ent_at y i ⟨k - a, h⟩
    · next h => exact ent_at z i ⟨k - a - b, by omega⟩

end Cert.Prod
-- ==== Proof.EN.lean ====
/- The gradient of the norm of a row: in closed form, and as the product and chain rules leave it. -/
module

public import proofs.«01_k».proof.Proof.Mat

@[expose] public section

noncomputable section

namespace Cert.Prod

open Idealize.ShloMosaic

/-- The norm's small constant, the row length, and minus one half, as the programs write them. -/
def eps : EReal := Ideal.ofBits .f32 0x358637BD#32
def big : EReal := Ideal.ofBits .f32 0x44800000#32
def mhalf : EReal := Ideal.ofBits .f32 0xBF000000#32

theorem eps_pos : ∃ r : ℝ, 0 < r ∧ eps = (r : EReal) := by
  refine ⟨(8796093 : ℝ) * 2 ^ (-43 : ℤ), by positivity, ?_⟩
  simp [eps, Ideal.ofBits, Ideal.ieee]

theorem big_eq : big = ((1024 : ℝ) : EReal) := by
  have h : big = (((8388608 : ℝ) * 2 ^ (-13 : ℤ) : ℝ) : EReal) := by simp [big, Ideal.ofBits, Ideal.ieee]
  rw [h]
  norm_num

theorem mhalf_eq : mhalf = ((-(1 / 2) : ℝ) : EReal) := by
  have h : mhalf = ((-((8388608 : ℝ) * 2 ^ (-24 : ℤ)) : ℝ) : EReal) := by simp [mhalf, Ideal.ofBits, Ideal.ieee]
  rw [h]
  norm_num

/-- Mean square of a row plus the small constant, and its inverse root. -/
def ms (x : Fin 1024 → EReal) : EReal := Ideal.div (∑ k, x k * x k) big + eps
def rs (x : Fin 1024 → EReal) : EReal := Ideal.rsqrt (ms x)

/-- The gradient in closed form. -/
def rb (x g d : Fin 1024 → EReal) (l : Fin 1024) : EReal :=
  rs x * (d l * g l - x l * rs x * Ideal.div (∑ k, x k * rs x * (d k * g k)) big)

/-- The gradient through the inverse root, and the whole gradient as the rules leave it. -/
def rt (x g d : Fin 1024 → EReal) : EReal := Ideal.div ((∑ k, x k * (d k * g k)) * (mhalf * Ideal.div (rs x) (ms x))) big
def rv (x g d : Fin 1024 → EReal) (l : Fin 1024) : EReal := (d l * g l * rs x + x l * rt x g d) + rt x g d * x l

theorem coe_sum (f : Fin 1024 → ℝ) : ∑ k, (f k : EReal) = ((∑ k, f k : ℝ) : EReal) := by
  induction (Finset.univ : Finset (Fin 1024)) using Finset.cons_induction with
  | empty => rfl
  | cons a s ha ih => rw [Finset.sum_cons, Finset.sum_cons, EReal.coe_add, ih]

theorem ms_coe (x : Fin 1024 → ℝ) : ∃ v : ℝ, 0 < v ∧ ms (fun k => (x k : EReal)) = (v : EReal) := by
  obtain ⟨e, he, h⟩ := eps_pos
  refine ⟨(∑ k, x k * x k) * (1 / 1024) + e, ?_, ?_⟩
  · have : 0 ≤ ∑ k, x k * x k := Finset.sum_nonneg fun k _ => mul_self_nonneg _
    positivity
  · simp only [ms, h, big_eq, ← EReal.coe_mul, coe_sum]
    rw [Ideal.div_coe (by norm_num), ← EReal.coe_mul, ← EReal.coe_add]

theorem rs_coe (x : Fin 1024 → ℝ) : ∃ v r : ℝ, ms (fun k => (x k : EReal)) = (v : EReal) ∧ rs (fun k => (x k : EReal)) = (r : EReal) ∧ v ≠ 0 ∧ r / v = r * r * r := by
  obtain ⟨v, hv, h⟩ := ms_coe x
  refine ⟨v, (Real.sqrt v)⁻¹, h, ?_, hv.ne', ?_⟩
  · rw [rs, h, Ideal.rsqrt_coe, if_neg hv.le.not_gt, if_neg hv.ne']
  · have hs : Real.sqrt v * Real.sqrt v = v := Real.mul_self_sqrt hv.le
    have h0 : Real.sqrt v ≠ 0 := (Real.sqrt_pos.mpr hv).ne'
    generalize Real.sqrt v = w at hs h0
    subst hs
    field_simp

theorem rows (x : Fin 1024 → EReal) (h : ∀ k, Rl (x k)) : ∃ y : Fin 1024 → ℝ, x = fun k => (y k : EReal) :=
  ⟨fun k => (h k).choose, funext fun k => (h k).choose_spec⟩

theorem Rl.rs {x : Fin 1024 → EReal} (h : ∀ k, Rl (x k)) : Rl (rs x) := by
  obtain ⟨y, rfl⟩ := rows x h
  obtain ⟨v, r, -, e, -⟩ := rs_coe y
  exact ⟨r, e⟩

theorem Rl.rb {x g d : Fin 1024 → EReal} (hx : ∀ k, Rl (x k)) (hg : ∀ k, Rl (g k)) (hd : ∀ k, Rl (d k)) (l : Fin 1024) : Rl (rb x g d l) := by
  have h : Rl (∑ k, x k * Prod.rs x * (d k * g k)) := Rl.sum _ _ fun k _ => ((hx k).mul (Rl.rs hx)).mul ((hd k).mul (hg k))
  refine (Rl.rs hx).mul (((hd l).mul (hg l)).sub (((hx l).mul (Rl.rs hx)).mul ?_))
  rw [big_eq, Ideal.div_coe (by norm_num)]
  exact h.mul (Rl.coe _)

/-- The two gradients are the same. -/
theorem rv_eq {x g d : Fin 1024 → EReal} (hx : ∀ k, Rl (x k)) (hg : ∀ k, Rl (g k)) (hd : ∀ k, Rl (d k)) (l : Fin 1024) : rv x g d l = rb x g d l := by
  obtain ⟨x, rfl⟩ := rows x hx
  obtain ⟨g, rfl⟩ := rows g hg
  obtain ⟨d, rfl⟩ := rows d hd
  obtain ⟨v, r, e1, e2, hv, hr⟩ := rs_coe x
  simp only [rv, rt, rb, e1, e2, big_eq, mhalf_eq]
  rw [Ideal.div_coe hv, Ideal.div_coe (by norm_num), Ideal.div_coe (by norm_num)]
  simp only [← EReal.coe_mul, coe_sum, ← EReal.coe_add, ← EReal.coe_sub]
  congr 1
  have hr' : r * (1 / v) = r * r * r := by rw [← hr]; ring
  have hs : ∑ k, x k * r * (d k * g k) = r * ∑ k, x k * (d k * g k) := by
    rw [Finset.mul_sum]
    exact Finset.sum_congr rfl fun k _ => by ring
  rw [hr', hs]
  ring

/-! ## The weight's gradient: rows of the same number modulo eight are summed -/

/-- The sum over the first `n` groups of eight rows. -/
def grp (f : ℕ → ℕ → EReal) (n j l : ℕ) : EReal := ∑ q ∈ Finset.range n, f (q * 8 + j) l

theorem grp_zero (f : ℕ → ℕ → EReal) (j l : ℕ) : grp f 0 j l = 0 := Finset.sum_range_zero _

theorem grp_more (f : ℕ → ℕ → EReal) (n T j l : ℕ) : grp f n j l + ∑ q : Fin T, f ((n + q) * 8 + j) l = grp f (n + T) j l := by
  rw [grp, grp, Finset.sum_range_add, Finset.sum_range (fun x => f ((n + x) * 8 + j) l)]

end Cert.Prod

end
-- ==== Proof.K16.lean ====
/- The gradient of the feed-forward input's joined product carried back through two norms, one after the other: two blocks of a 8704 by 5632 matrix, kept as two
   arguments, times the transpose of a 1024 by 5632 one; the last step of each row block forms both norms' gradients and sums both weights'. -/
module

public import proofs.«01_k».proof.Proof.Seg
public import proofs.«01_k».proof.Proof.EN
public import proofs.«01_k».proof.Defs
public import proofs.«01_k».proof.Proof.Gen.Kernel16Ideal.Value
public import proofs.«01_k».proof.Proof.Gen.Reference16Ideal.Read
public import proofs.«01_k».proof.Proof.Gen.Pre_finite16
public import Idealize.ShloMosaic.Lib.Pipeline.ReadBack

@[expose] public section

set_option maxRecDepth 16384

noncomputable section

namespace Cert.Reference16Ideal.Val

open Idealize.ShloMosaic Idealize.ShloMosaic.TcCoe Idealize.SL.Sem
open Cert.Reference16Ideal Cert.Reference16Ideal.Gen Cert.Reference16Ideal.Read Cert.Prod

variable (x0 x1 : FVec Ideal S8704x2816 .bf16) (x2 : FVec Ideal S1024x5632 .bf16) (x3 x4 x5 : FVec Ideal S8704x1024 .f32) (x6 x7 : FVec Ideal S1x1024 .f32)

/-- Row `j` of block `q` of eight rows. -/
abbrev rw (q : Fin 1088) (j : Fin 8) : Fin 8704 := ⟨q * 8 + j, by omega⟩

theorem v6_at (q : Fin 1088) (j : Fin 8) (l : Fin 1024) : val_main_v6 (F := Ideal) x3 (ix3 q j l) = x3 (ix2 (rw q j) l) := by
  unfold val_main_v6
  pointwise

theorem v13_at (q : Fin 1088) (j : Fin 8) (z : Fin 1) : val_main_v13 (F := Ideal) x3 (ix3 q j z) = ms (fun k => x3 (ix2 (rw q j) k)) := by
  unfold val_main_v13 val_main_v12 val_main_v11 val_main_v10 val_main_v9 val_main_v8 val_main_v7 val_main_v6 val_main_cst val_main_cst_0 val_main_cst_1
  pointwise
  rfl

theorem v20_at (j : Fin 8) (l : Fin 1024) : val_main_v20 (F := Ideal) x6 (ix3 0 j l) = x6 (ix2 0 l) := by
  unfold val_main_v20 val_main_v5 val_main_v4 val_main_v3
  pointwise

theorem v47_at (q : Fin 1088) (j : Fin 8) (l : Fin 1024) : val_main_v47 (F := Ideal) x0 x1 x2 x3 x6 (ix3 q j l) = rv (fun k => x3 (ix2 (rw q j) k)) (fun k => x6 (ix2 0 k)) (fun k => val_main_v26 (F := Ideal) x0 x1 x2 (ix2 (rw q j) k)) l := by
  unfold val_main_v47 val_main_v46 val_main_v45 val_main_v44 val_main_v43 val_main_v42 val_main_v41 val_main_v40 val_main_v39 val_main_v38 val_main_v37 val_main_v36 val_main_v35 val_main_v34 val_main_v32 val_main_v31 val_main_v27 val_main_v17 val_main_v16 val_main_v15 val_main_v14 val_main_cst_2 val_main_cst_5 val_main_cst_6 val_main_cst_7
  have h14 := fun z => v13_at x3 q j z
  have h7 := fun k => v6_at x3 q j k
  have h21 := fun k => v20_at x6 j k
  generalize val_main_v26 (F := Ideal) x0 x1 x2 = du
  generalize val_main_v13 (F := Ideal) x3 = a at h14 ⊢
  generalize val_main_v6 (F := Ideal) x3 = b at h7 ⊢
  generalize val_main_v20 (F := Ideal) x6 = g at h21 ⊢
  pointwise
  simp only [h14, h7, h21, Finset.univ_unique, Finset.sum_singleton]
  rfl

theorem v33_at (j : Fin 8) (l : Fin 1024) : val_main_v33 (F := Ideal) x0 x1 x2 x3 (ix2 j l) = ∑ q : Fin 1088, val_main_v26 (F := Ideal) x0 x1 x2 (ix2 (rw q j) l) * HMul.hMul (α := EReal) (β := EReal) (γ := EReal) (x3 (ix2 (rw q j) l)) (rs (fun k => x3 (ix2 (rw q j) k))) := by
  unfold val_main_v33 val_main_v30 val_main_v29 val_main_v28 val_main_v19 val_main_v18 val_main_v14 val_main_v27 val_main_cst_3 val_main_cst_4
  have h14 := fun q => v13_at x3 q j 0
  have h7 := fun q => v6_at x3 q j l
  generalize val_main_v26 (F := Ideal) x0 x1 x2 = du
  generalize val_main_v13 (F := Ideal) x3 = a at h14 ⊢
  generalize val_main_v6 (F := Ideal) x3 = b at h7 ⊢
  pointwise
  simp only [h14, h7, Finset.univ_unique, Finset.sum_singleton]
  exact Finset.sum_congr rfl fun q _ => @mul_comm EReal _ _ _

theorem v49_at (i : Fin 8704) (l : Fin 1024) : val_main_v49 (F := Ideal) x0 x1 x2 x3 x4 x6 (ix2 i l) = HAdd.hAdd (α := EReal) (β := EReal) (γ := EReal) (x4 (ix2 i l)) (rv (fun k => x3 (ix2 i k)) (fun k => x6 (ix2 0 k)) (fun k => val_main_v26 (F := Ideal) x0 x1 x2 (ix2 i k)) l) := by
  have h : rw ⟨(i : ℕ) / 8, by omega⟩ ⟨(i : ℕ) % 8, by omega⟩ = i := Fin.ext (by show (i : ℕ) / 8 * 8 + i % 8 = i; omega)
  have e := v47_at x0 x1 x2 x3 x6 ⟨(i : ℕ) / 8, by omega⟩ ⟨(i : ℕ) % 8, by omega⟩ l
  rw [h] at e
  rw [← e]
  unfold val_main_v49 val_main_v48
  generalize val_main_v47 (F := Ideal) x0 x1 x2 x3 x6 = a
  pointwise

theorem v53_at (q : Fin 1088) (j : Fin 8) (l : Fin 1024) : val_main_v53 (F := Ideal) x5 (ix3 q j l) = x5 (ix2 (rw q j) l) := by
  unfold val_main_v53
  pointwise

theorem v60_at (q : Fin 1088) (j : Fin 8) (z : Fin 1) : val_main_v60 (F := Ideal) x5 (ix3 q j z) = ms (fun k => x5 (ix2 (rw q j) k)) := by
  unfold val_main_v60 val_main_v59 val_main_v58 val_main_v57 val_main_v56 val_main_v55 val_main_v54 val_main_v53 val_main_cst_8 val_main_cst_9 val_main_cst_10
  pointwise
  rfl

theorem v67_at (j : Fin 8) (l : Fin 1024) : val_main_v67 (F := Ideal) x7 (ix3 0 j l) = x7 (ix2 0 l) := by
  unfold val_main_v67 val_main_v52 val_main_v51 val_main_v50
  pointwise

theorem v91_at (q : Fin 1088) (j : Fin 8) (l : Fin 1024) : val_main_v91 (F := Ideal) x0 x1 x2 x3 x4 x5 x6 x7 (ix3 q j l) = rv (fun k => x5 (ix2 (rw q j) k)) (fun k => x7 (ix2 0 k)) (fun k => val_main_v49 (F := Ideal) x0 x1 x2 x3 x4 x6 (ix2 (rw q j) k)) l := by
  unfold val_main_v91 val_main_v90 val_main_v89 val_main_v88 val_main_v87 val_main_v86 val_main_v85 val_main_v84 val_main_v83 val_main_v82 val_main_v81 val_main_v80 val_main_v79 val_main_v78 val_main_v76 val_main_v75 val_main_v71 val_main_v64 val_main_v63 val_main_v62 val_main_v61 val_main_cst_11 val_main_cst_14 val_main_cst_15 val_main_cst_16
  have h14 := fun z => v60_at x5 q j z
  have h7 := fun k => v53_at x5 q j k
  have h21 := fun k => v67_at x7 j k
  generalize val_main_v49 (F := Ideal) x0 x1 x2 x3 x4 x6 = du
  generalize val_main_v60 (F := Ideal) x5 = a at h14 ⊢
  generalize val_main_v53 (F := Ideal) x5 = b at h7 ⊢
  generalize val_main_v67 (F := Ideal) x7 = g at h21 ⊢
  pointwise
  simp only [h14, h7, h21, Finset.univ_unique, Finset.sum_singleton]
  rfl

theorem v77_at (j : Fin 8) (l : Fin 1024) : val_main_v77 (F := Ideal) x0 x1 x2 x3 x4 x5 x6 (ix2 j l) = ∑ q : Fin 1088, val_main_v49 (F := Ideal) x0 x1 x2 x3 x4 x6 (ix2 (rw q j) l) * HMul.hMul (α := EReal) (β := EReal) (γ := EReal) (x5 (ix2 (rw q j) l)) (rs (fun k => x5 (ix2 (rw q j) k))) := by
  unfold val_main_v77 val_main_v74 val_main_v73 val_main_v72 val_main_v66 val_main_v65 val_main_v61 val_main_v71 val_main_cst_12 val_main_cst_13
  have h14 := fun q => v60_at x5 q j 0
  have h7 := fun q => v53_at x5 q j l
  generalize val_main_v49 (F := Ideal) x0 x1 x2 x3 x4 x6 = du
  generalize val_main_v60 (F := Ideal) x5 = a at h14 ⊢
  generalize val_main_v53 (F := Ideal) x5 = b at h7 ⊢
  pointwise
  simp only [h14, h7, Finset.univ_unique, Finset.sum_singleton]
  exact Finset.sum_congr rfl fun q _ => @mul_comm EReal _ _ _

theorem v93_at (i : Fin 8704) (l : Fin 1024) : val_main_v93 (F := Ideal) x0 x1 x2 x3 x4 x5 x6 x7 (ix2 i l) = rv (fun k => x5 (ix2 i k)) (fun k => x7 (ix2 0 k)) (fun k => val_main_v49 (F := Ideal) x0 x1 x2 x3 x4 x6 (ix2 i k)) l := by
  have h : rw ⟨(i : ℕ) / 8, by omega⟩ ⟨(i : ℕ) % 8, by omega⟩ = i := Fin.ext (by show (i : ℕ) / 8 * 8 + i % 8 = i; omega)
  have e := v91_at x0 x1 x2 x3 x4 x5 x6 x7 ⟨(i : ℕ) / 8, by omega⟩ ⟨(i : ℕ) % 8, by omega⟩ l
  rw [h] at e
  rw [← e]
  unfold val_main_v93 val_main_v92
  generalize val_main_v91 (F := Ideal) x0 x1 x2 x3 x4 x5 x6 x7 = a
  pointwise

theorem v25_at (i : Fin 8704) (k : Fin 5632) : val_main_v25 (F := Ideal) x0 x1 (ix2 i k) = (join 2816 (ent (a := 8704) (b := 2816) x0) (ent (a := 8704) (b := 2816) x1)) i k := by
  refine Eq.trans ?_ (join_cat2 x0 x1 i k rfl).symm
  unfold val_main_v25 val_main_v0 val_main_v1
  pointwise

theorem v26_at (i : Fin 8704) (l : Fin 1024) : val_main_v26 (F := Ideal) x0 x1 x2 (ix2 i l) = nt (join 2816 (ent (a := 8704) (b := 2816) x0) (ent (a := 8704) (b := 2816) x1)) (ent (a := 1024) (b := 5632) x2) 5632 i l := by
  refine Eq.trans ?_ (nt_half _ x2 i l).symm
  have h := v25_at x0 x1 i
  unfold val_main_v26 val_main_v2
  generalize val_main_v25 (F := Ideal) x0 x1 = a at h ⊢
  pointwise
  exact Finset.sum_congr rfl fun k _ => congrArg (HMul.hMul (α := EReal) · _) (h k)

end Cert.Reference16Ideal.Val

namespace Cert.Kernel16Ideal.Val

open Idealize.ShloMosaic Idealize.ShloMosaic.TcCoe Idealize.SL.Sem
open Cert.Kernel16Ideal Cert.Kernel16Ideal.Gen Cert.Prod

variable {m : (ℓ : Loc nD τ sig) → Buf (Elt Ideal) ℓ} {c : Dev nD}

theorem zz : (![0, 0] : Fin 2 → Nat) = fun _ => 0 := funext fun a => by fin_cases a <;> rfl
theorem z2 : ∀ a : Fin 2, (![0, 0] : Fin 2 → Nat) a = 0 := fun a => congrFun zz a

theorem pay1_at (i : Fin 544) (l : Fin 1024) : k0_pay1 (F := Ideal) (ix2 i l) = 0 := by
  unfold k0_pay1
  pointwise

theorem pay4_at (i : Fin 8) (l : Fin 1024) : k0_pay4 (F := Ideal) (ix2 i l) = 0 := by
  unfold k0_pay4
  pointwise

theorem pay2_at (a : Vec Ideal S544x1024 .f32) (x : Vec Ideal S544x1408 .bf16) (y : Vec Ideal S1024x1408 .bf16) (i : Fin 544) (l : Fin 1024) :
    k0_pay2 (F := Ideal) a x y (ix2 i l) = a (ix2 i l) + ∑ k : Fin 1408, x (ix2 i k) * y (ix2 l k) := by
  unfold k0_pay2
  pointwise

/-- A slice of rows of each norm's gradient, and of the sums for the weights. -/
theorem pay12_at (x d u : Vec Ideal S272x1024 .f32) (g : Vec Ideal S1x1024 .f32) (i : Fin 272) (l : Fin 1024) :
    k0_pay12 (F := Ideal) x d g u (ix2 i l) = d (ix2 i l) + rb (fun k => x (ix2 i k)) (fun k => g (ix2 0 k)) (fun k => u (ix2 i k)) l := by
  unfold k0_pay12 k0_pay10 k0_pay9
  pointwise
  rfl

theorem pay15_at (x d : Vec Ideal S272x1024 .f32) (g : Vec Ideal S1x1024 .f32) (i : Fin 272) (l : Fin 1024) :
    k0_pay15 (F := Ideal) g d (k0_pay13 x) (k0_pay14 x) (ix2 i l) = rb (fun k => x (ix2 i k)) (fun k => g (ix2 0 k)) (fun k => d (ix2 i k)) l := by
  unfold k0_pay15 k0_pay14 k0_pay13
  pointwise
  rfl

theorem pay16_at (x u : Vec Ideal S272x1024 .f32) (a : Vec Ideal S8x1024 .f32) (j : Fin 8) (l : Fin 1024) :
    k0_pay16 (F := Ideal) (k0_pay11 x u) a (ix2 j l) = a (ix2 j l) + ∑ q : Fin 34, u (ix2 ⟨q * 8 + j, by omega⟩ l) * (x (ix2 ⟨q * 8 + j, by omega⟩ l) * rs (fun k => x (ix2 ⟨q * 8 + j, by omega⟩ k))) := by
  unfold k0_pay16 k0_pay11 k0_pay10 k0_pay9
  pointwise
  rfl

/-- A load of a slice of rows. -/
abbrev sl (o : ℕ) (b : ∀ a, (![o, 0] : Fin 2 → ℕ) a + S272x1024.size a ≤ S544x1024.size a) (Z : Vec Ideal S544x1024 .f32) : Vec Ideal S272x1024 .f32 :=
  View.ld Z (Rect.unit (s := S544x1024) ![o, 0] S272x1024.size b)

variable {o T : ℕ} {b : ∀ a, (![o, 0] : Fin 2 → ℕ) a + S272x1024.size a ≤ S544x1024.size a}

theorem sl_at (Z : Vec Ideal S544x1024 .f32) (f : ℕ → ℕ → EReal) (h : ∀ (i : Fin 544) (k : Fin 1024), Z (ix2 i k) = f (T * 544 + i) k) (p : Fin 272) (k : Fin 1024) : sl o b Z (ix2 p k) = f (T * 544 + (o + p)) k := by
  have hb : o + 272 ≤ 544 := b 0
  refine (View.ld_unit_apply_of Z _ _ b (ix2 p k) (ix2 ⟨o + p, by omega⟩ k) fun a => ?_).trans (h _ k)
  fin_cases a
  · exact rfl
  · exact (Nat.zero_add _).symm

theorem slS {f : ℕ → ℕ → EReal} (n : ℕ) (ho : o = n * 8) (x d : Vec Ideal S272x1024 .f32)
    (hf : ∀ (p : Fin 272) (l : Fin 1024), d (ix2 p l) * (x (ix2 p l) * rs (fun k => x (ix2 p k))) = f (T * 544 + (o + p)) l) (a : Vec Ideal S8x1024 .f32) (j : Fin 8) (l : Fin 1024) (ha : a (ix2 j l) = grp f (T * 68 + n) j l) :
    k0_pay16 (F := Ideal) (k0_pay11 x d) a (ix2 j l) = grp f (T * 68 + (n + 34)) j l := by
  rw [pay16_at, ha, ← Nat.add_assoc]
  refine Eq.trans ?_ (grp_more f (T * 68 + n) 34 j l)
  refine congrArg (HAdd.hAdd (α := EReal) _) (Finset.sum_congr rfl fun q _ => (hf ⟨q * 8 + j, by omega⟩ l).trans (congrArg (fun r => f r l) ?_))
  show T * 544 + (o + (q * 8 + j)) = (T * 68 + n + q) * 8 + j
  omega

theorem idx : ∀ t : Fin cfg0.N, win0_0.index t = ![t.val / 4, min (t.val % 4) 1] ∧ win0_1.index t = ![t.val / 4, t.val % 4 - 2] ∧ win0_2.index t = ![0, t.val % 4] ∧ win0_3.index t = ![t.val / 4, 0] ∧ win0_4.index t = ![t.val / 4, 0] ∧ win0_5.index t = ![t.val / 4, 0] ∧ win0_6.index t = ![0, 0] ∧ win0_7.index t = ![0, 0] ∧ win0_8.index t = ![t.val / 4, 0] ∧ win0_9.index t = ![t.val / 4, 0] ∧ win0_10.index t = ![0, 0] ∧ win0_11.index t = ![0, 0] :=
  (by decide +kernel : ∀ t : Fin grid0.N, _)

/-- A norm's gradient, and a term of its weight's, row by row. -/
def dn (x g u : ℕ → ℕ → EReal) (r l : ℕ) : EReal := if h : l < 1024 then rb (fun k => x r k) (fun k => g 0 k) (fun k => u r k) ⟨l, h⟩ else 0
theorem dn_at (x g u : ℕ → ℕ → EReal) (r : ℕ) (l : Fin 1024) : dn x g u r l = rb (fun k => x r k) (fun k => g 0 k) (fun k => u r k) l := dif_pos l.2
def qn (x u : ℕ → ℕ → EReal) (r l : ℕ) : EReal := u r l * (x r l * rs (fun k => x r k))

section
variable (m c)
/-- The entries of the call's arguments; the gradient's blocks side by side, their product, and what follows from it. -/
def A0 : ℕ → ℕ → EReal := ent (a := 8704) (b := 2816) (m ((c : Thread nD τ).loc main_arg0))
def A1 : ℕ → ℕ → EReal := ent (a := 8704) (b := 2816) (m ((c : Thread nD τ).loc main_arg1))
def W : ℕ → ℕ → EReal := ent (a := 1024) (b := 5632) (m ((c : Thread nD τ).loc main_arg2))
def H : ℕ → ℕ → EReal := ent (a := 8704) (b := 1024) (m ((c : Thread nD τ).loc main_arg3))
def D : ℕ → ℕ → EReal := ent (a := 8704) (b := 1024) (m ((c : Thread nD τ).loc main_arg4))
def M : ℕ → ℕ → EReal := ent (a := 8704) (b := 1024) (m ((c : Thread nD τ).loc main_arg5))
def G : ℕ → ℕ → EReal := ent (a := 1) (b := 1024) (m ((c : Thread nD τ).loc main_arg6))
def K : ℕ → ℕ → EReal := ent (a := 1) (b := 1024) (m ((c : Thread nD τ).loc main_arg7))
def J : ℕ → ℕ → EReal := join 2816 (A0 m c) (A1 m c)
def U : ℕ → ℕ → EReal := nt (J m c) (W m c) 5632
def P (r l : ℕ) : EReal := D m c r l + dn (H m c) (G m c) (U m c) r l
def E : ℕ → ℕ → EReal := dn (M m c) (K m c) (P m c)
def Q3 : ℕ → ℕ → EReal := qn (H m c) (U m c)
def Q2 : ℕ → ℕ → EReal := qn (M m c) (P m c)
end

theorem ib0 (t : Fin cfg0.N) (i : Fin 544) (j : Fin 1408) : iblk m c 0 t (ix2 i j) = A0 m c (t.val / 4 * 544 + i.val) (min (t.val % 4) 1 * 1408 + j.val) :=
  (congrFun (V_main_arg0 m c) (((cfg0.win 0).blk t).view.emb (ix2 i j))).trans (at_ent _ _ (by constructor <;> blk_simp [(idx t)]))

theorem ib1 (t : Fin cfg0.N) (i : Fin 544) (j : Fin 1408) : iblk m c 1 t (ix2 i j) = A1 m c (t.val / 4 * 544 + i.val) ((t.val % 4 - 2) * 1408 + j.val) :=
  (congrFun (V_main_arg1 m c) (((cfg0.win 1).blk t).view.emb (ix2 i j))).trans (at_ent _ _ (by constructor <;> blk_simp [(idx t)]))

theorem ib2 (t : Fin cfg0.N) (i : Fin 1024) (j : Fin 1408) : iblk m c 2 t (ix2 i j) = W m c (0 * 1024 + i.val) (t.val % 4 * 1408 + j.val) :=
  (congrFun (V_main_arg2 m c) (((cfg0.win 2).blk t).view.emb (ix2 i j))).trans (at_ent _ _ (by constructor <;> blk_simp [(idx t)]))

theorem ib3 (t : Fin cfg0.N) (i : Fin 544) (j : Fin 1024) : iblk m c 3 t (ix2 i j) = H m c (t.val / 4 * 544 + i.val) (0 * 1024 + j.val) :=
  (congrFun (V_main_arg3 m c) (((cfg0.win 3).blk t).view.emb (ix2 i j))).trans (at_ent _ _ (by constructor <;> blk_simp [(idx t)]))

theorem ib4 (t : Fin cfg0.N) (i : Fin 544) (j : Fin 1024) : iblk m c 4 t (ix2 i j) = D m c (t.val / 4 * 544 + i.val) (0 * 1024 + j.val) :=
  (congrFun (V_main_arg4 m c) (((cfg0.win 4).blk t).view.emb (ix2 i j))).trans (at_ent _ _ (by constructor <;> blk_simp [(idx t)]))

theorem ib5 (t : Fin cfg0.N) (i : Fin 544) (j : Fin 1024) : iblk m c 5 t (ix2 i j) = M m c (t.val / 4 * 544 + i.val) (0 * 1024 + j.val) :=
  (congrFun (V_main_arg5 m c) (((cfg0.win 5).blk t).view.emb (ix2 i j))).trans (at_ent _ _ (by constructor <;> blk_simp [(idx t)]))

theorem ib6 (t : Fin cfg0.N) (i : Fin 1) (j : Fin 1024) : iblk m c 6 t (ix2 i j) = G m c (0 * 1 + i.val) (0 * 1024 + j.val) :=
  (congrFun (V_main_arg6 m c) (((cfg0.win 6).blk t).view.emb (ix2 i j))).trans (at_ent _ _ (by constructor <;> blk_simp [(idx t)]))

theorem ib7 (t : Fin cfg0.N) (i : Fin 1) (j : Fin 1024) : iblk m c 7 t (ix2 i j) = K m c (0 * 1 + i.val) (0 * 1024 + j.val) :=
  (congrFun (V_main_arg7 m c) (((cfg0.win 7).blk t).view.emb (ix2 i j))).trans (at_ent _ _ (by constructor <;> blk_simp [(idx t)]))

theorem j0 (t : Fin cfg0.N) (h : t.val % 4 ≤ 1) (i : Fin 544) (k : Fin 1408) : iblk m c 0 t (ix2 i k) = J m c (t.val / 4 * 544 + i.val) (t.val % 4 * 1408 + k.val) := by
  rw [ib0]
  rw [J, join_lt _ _ (by omega), Nat.min_eq_left h]

theorem j1 (t : Fin cfg0.N) (h : 2 ≤ t.val % 4) (i : Fin 544) (k : Fin 1408) : iblk m c 1 t (ix2 i k) = J m c (t.val / 4 * 544 + i.val) (t.val % 4 * 1408 + k.val) := by
  rw [ib1]
  rw [J, join_ge _ _ (by omega)]
  exact congrArg _ (by omega)

/-- One block of columns more. -/
theorem more (t : Fin cfg0.N) (x : Vec Ideal S544x1408 .bf16) (hx : ∀ (i : Fin 544) (k : Fin 1408), x (ix2 i k) = J m c (t.val / 4 * 544 + i.val) (t.val % 4 * 1408 + k.val)) (a : Vec Ideal S544x1024 .f32) (i : Fin 544) (l : Fin 1024)
    (h : a (ix2 i l) = nt (J m c) (W m c) (t.val % 4 * 1408) (t.val / 4 * 544 + i) (0 * 1024 + l)) :
    k0_pay2 a x (iblk m c 2 t) (ix2 i l) = nt (J m c) (W m c) ((t.val % 4 + 1) * 1408) (t.val / 4 * 544 + i) (0 * 1024 + l) := by
  rw [pay2_at, h, ← nt_tile]
  exact congrArg _ (Finset.sum_congr rfl fun k _ => by rw [hx i k, ib2])

theorem first (t : Fin cfg0.N) (h0 : t.val % 4 = 0) (i : Fin 544) (l : Fin 1024) :
    k0_pay1 (F := Ideal) (ix2 i l) = nt (J m c) (W m c) (t.val % 4 * 1408) (t.val / 4 * 544 + i) (0 * 1024 + l) := by
  rw [pay1_at, h0, Nat.zero_mul, nt_zero]

variable (i : grid0.Coords) (b3 : Memref sig .tc .vmem S544x1408 .bf16) (k3 : b3.IsWhole) (b4 : Memref sig .tc .vmem S544x1408 .bf16) (k4 : b4.IsWhole) (b5 : Memref sig .tc .vmem S1024x1408 .bf16) (k5 : b5.IsWhole) (b6 : Memref sig .tc .vmem S544x1024 .f32) (k6 : b6.IsWhole) (b7 : Memref sig .tc .vmem S544x1024 .f32) (k7 : b7.IsWhole) (b8 : Memref sig .tc .vmem S544x1024 .f32) (k8 : b8.IsWhole) (b9 : Memref sig .tc .vmem S1x1024 .f32) (k9 : b9.IsWhole) (b10 : Memref sig .tc .vmem S1x1024 .f32) (k10 : b10.IsWhole) (b11 : Memref sig .tc .vmem S544x1024 .f32) (k11 : b11.IsWhole) (b12 : Memref sig .tc .vmem S544x1024 .bf16) (k12 : b12.IsWhole) (b13 : Memref sig .tc .vmem S8x1024 .f32) (k13 : b13.IsWhole) (b14 : Memref sig .tc .vmem S8x1024 .f32) (k14 : b14.IsWhole) (b15 : Memref sig .tc .vmem S544x1024 .f32) (k15 : b15.IsWhole)
  (x0 x1 : Vec Ideal S544x1408 .bf16) (x2 : Vec Ideal S1024x1408 .bf16) (x3 x4 x5 : Vec Ideal S544x1024 .f32) (x6 x7 : Vec Ideal S1x1024 .f32) (xo10 xo11 : Vec Ideal S8x1024 .f32) (xs0 : Vec Ideal S544x1024 .f32)

theorem sA (hc0 : cond0_0 i) (hc1 : cond0_1 i) (hc2 : ¬cond0_2 i) (hc3 : cond0_3 i) (hc4 : ¬cond0_4 i) :
    sout0_A_0 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 = k0_pay2 (F := Ideal) (k0_pay1 (F := Ideal)) x0 x2 := by
  unfold sout0_A_0
  refine Eq.trans (View.read_writes_eq_canon _ _ _ fun _ => scover0_A_0 ..) ?_
  unfold kernelRun0_A
  dsimp only
  try sl_unfold_words
  rw [View.canon_cons_unit_zero (S := S544x1024) zz]
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  try rfl

theorem sE (hc0 : cond0_0 i) (hc1 : cond0_1 i) (hc2 : ¬cond0_2 i) (hc3 : ¬cond0_3 i) (hc4 : ¬cond0_4 i) :
    sout0_E_0 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 = k0_pay2 (F := Ideal) (k0_pay1 (F := Ideal)) x0 x2 := by
  unfold sout0_E_0
  refine Eq.trans (View.read_writes_eq_canon _ _ _ fun _ => scover0_E_0 ..) ?_
  unfold kernelRun0_E
  dsimp only
  try sl_unfold_words
  rw [View.canon_cons_unit_zero (S := S544x1024) zz]
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  try rfl

theorem sB (hc0 : ¬cond0_0 i) (hc1 : cond0_1 i) (hc2 : ¬cond0_2 i) (hc3 : ¬cond0_3 i) (hc4 : ¬cond0_4 i) :
    sout0_B_0 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 xs0 = k0_pay2 (F := Ideal) xs0 x0 x2 := by
  unfold sout0_B_0
  refine Eq.trans (View.read_writes_eq_canon _ _ _ fun _ => scover0_B_0 ..) ?_
  unfold kernelRun0_B
  dsimp only
  try sl_unfold_words
  rw [View.canon_unit_zero zz]
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  try rfl

theorem sC (hc0 : ¬cond0_0 i) (hc1 : ¬cond0_1 i) (hc2 : cond0_2 i) (hc3 : ¬cond0_3 i) (hc4 : ¬cond0_4 i) :
    sout0_C_0 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 xs0 = k0_pay2 (F := Ideal) xs0 x1 x2 := by
  unfold sout0_C_0
  refine Eq.trans (View.read_writes_eq_canon _ _ _ fun _ => scover0_C_0 ..) ?_
  unfold kernelRun0_C
  dsimp only
  try sl_unfold_words
  rw [View.canon_unit_zero zz]
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  try rfl

theorem oA10 (hc0 : cond0_0 i) (hc1 : cond0_1 i) (hc2 : ¬cond0_2 i) (hc3 : cond0_3 i) (hc4 : ¬cond0_4 i) :
    out0_A_10 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 = k0_pay4 (F := Ideal) := by
  unfold out0_A_10
  refine Eq.trans (View.read_writes_eq_canon _ _ _ fun _ => cover0_A_10 ..) ?_
  unfold kernelRun0_A
  dsimp only
  try sl_unfold_words
  rw [View.canon_unit_zero zz]
  try rfl

theorem oA11 (hc0 : cond0_0 i) (hc1 : cond0_1 i) (hc2 : ¬cond0_2 i) (hc3 : cond0_3 i) (hc4 : ¬cond0_4 i) :
    out0_A_11 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 = k0_pay4 (F := Ideal) := by
  unfold out0_A_11
  refine Eq.trans (View.read_writes_eq_canon _ _ _ fun _ => cover0_A_11 ..) ?_
  unfold kernelRun0_A
  dsimp only
  try sl_unfold_words
  rw [View.canon_unit_zero zz]
  try rfl

variable (m c T) in
/-- What the last step of a row block is given. -/
structure Ok (x d x' u : Vec Ideal S544x1024 .f32) (g g' : Vec Ideal S1x1024 .f32) : Prop where
  x : ∀ (i : Fin 544) (k : Fin 1024), x (ix2 i k) = H m c (T * 544 + i) k
  d : ∀ (i : Fin 544) (k : Fin 1024), d (ix2 i k) = D m c (T * 544 + i) k
  x' : ∀ (i : Fin 544) (k : Fin 1024), x' (ix2 i k) = M m c (T * 544 + i) k
  u : ∀ (i : Fin 544) (k : Fin 1024), u (ix2 i k) = U m c (T * 544 + i) k
  g : ∀ k : Fin 1024, g (ix2 0 k) = G m c 0 k
  g' : ∀ k : Fin 1024, g' (ix2 0 k) = K m c 0 k

section
variable {x d x' u : Vec Ideal S544x1024 .f32} {g g' : Vec Ideal S1x1024 .f32} (k : Ok m c T x d x' u g g')
include k

theorem pd (p : Fin 272) (l : Fin 1024) : k0_pay12 (F := Ideal) (sl o b x) (sl o b d) g (sl o b u) (ix2 p l) = P m c (T * 544 + (o + p)) l := by
  rw [pay12_at, P, dn_at]
  simp only [sl_at (b := b) x _ k.x, sl_at (b := b) d _ k.d, sl_at (b := b) u _ k.u, k.g]

theorem pe (p : Fin 272) (l : Fin 1024) : k0_pay15 (F := Ideal) g' (k0_pay12 (sl o b x) (sl o b d) g (sl o b u)) (k0_pay13 (sl o b x')) (k0_pay14 (sl o b x')) (ix2 p l) = E m c (T * 544 + (o + p)) l := by
  rw [pay15_at, E, dn_at]
  simp only [sl_at (b := b) x' _ k.x', pd k, k.g']

theorem q3 (n : ℕ) (ho : o = n * 8) (a : Vec Ideal S8x1024 .f32) (j : Fin 8) (l : Fin 1024) (ha : a (ix2 j l) = grp (Q3 m c) (T * 68 + n) j l) :
    k0_pay16 (F := Ideal) (k0_pay11 (sl o b x) (sl o b u)) a (ix2 j l) = grp (Q3 m c) (T * 68 + (n + 34)) j l :=
  slS n ho _ _ (fun p l => by
    simp only [sl_at (b := b) x _ k.x, sl_at (b := b) u _ k.u]
    rfl) a j l ha

theorem q2 (n : ℕ) (ho : o = n * 8) (a : Vec Ideal S8x1024 .f32) (j : Fin 8) (l : Fin 1024) (ha : a (ix2 j l) = grp (Q2 m c) (T * 68 + n) j l) :
    k0_pay16 (F := Ideal) (k0_pay11 (sl o b x') (k0_pay12 (sl o b x) (sl o b d) g (sl o b u))) a (ix2 j l) = grp (Q2 m c) (T * 68 + (n + 34)) j l :=
  slS n ho _ _ (fun p l => by
    simp only [sl_at (b := b) x' _ k.x', pd k]
    rfl) a j l ha

end

theorem tile {e : EltTy} (w : Vec Ideal S272x1024 e) (f : ℕ → ℕ → Elt Ideal e) (h : ∀ (p : Fin 272) (l : Fin 1024), w (ix2 p l) = f (T * 544 + (o + p)) l) (i : Fin 544) (l : Fin 1024) :
    View.TileAt (Val := Elt Ideal) (e := e) (S := S544x1024) (ix2 i l) ![o, 0] S272x1024.size w (f (T * 544 + i) l) := by
  intro x hx
  obtain ⟨p, q, rfl⟩ : ∃ (p : Fin 272) (q : Fin 1024), x = ix2 p q := ⟨x 0, x 1, eq_ix2 x⟩
  have h0 : (i : ℕ) = o + p := hx 0
  obtain rfl : l = q := Fin.ext ((hx 1).trans (Nat.zero_add _))
  rw [h p l, h0]

theorem oD8 (hc0 : ¬cond0_0 i) (hc1 : ¬cond0_1 i) (hc2 : cond0_2 i) (hc3 : ¬cond0_3 i) (hc4 : cond0_4 i) (k : Ok m c T x3 x4 x5 (k0_pay2 (F := Ideal) xs0 x1 x2) x6 x7) (p : Fin 544) (l : Fin 1024) :
    out0_D_8 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 xo10 xo11 xs0 (ix2 p l) = P m c (T * 544 + p) l := by
  unfold out0_D_8
  refine Eq.trans (congrFun (View.read_writes_eq_canon _ _ _ fun _ => cover0_D_8 ..) _) ?_
  refine View.canon_eq_of_allAt _ _ _ (cover0_D_8 ..) ?_
  unfold kernelRun0_D
  dsimp only
  try sl_unfold_words
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  exact View.allAt_cons_unit _ _ _ _ _ (tile (e := .f32) _ (P m c) (pd (b := inb_S544x1024_S272x1024_272_0) k) p l) (View.allAt_cons_unit _ _ _ _ _ (tile (e := .f32) _ (P m c) (pd (b := inb_S544x1024_S272x1024_0_0) k) p l) (View.allAt_nil _ _))

theorem oD9 (hc0 : ¬cond0_0 i) (hc1 : ¬cond0_1 i) (hc2 : cond0_2 i) (hc3 : ¬cond0_3 i) (hc4 : cond0_4 i) (k : Ok m c T x3 x4 x5 (k0_pay2 (F := Ideal) xs0 x1 x2) x6 x7) (p : Fin 544) (l : Fin 1024) :
    out0_D_9 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 xo10 xo11 xs0 (ix2 p l) = E m c (T * 544 + p) l := by
  unfold out0_D_9
  refine Eq.trans (congrFun (View.read_writes_eq_canon _ _ _ fun _ => cover0_D_9 ..) _) ?_
  refine View.canon_eq_of_allAt _ _ _ (cover0_D_9 ..) ?_
  unfold kernelRun0_D
  dsimp only
  try sl_unfold_words
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  exact View.allAt_cons_unit _ _ _ _ _ (tile (e := .bf16) _ (E m c) (pe (b := inb_S544x1024_S272x1024_272_0) k) p l) (View.allAt_cons_unit _ _ _ _ _ (tile (e := .bf16) _ (E m c) (pe (b := inb_S544x1024_S272x1024_0_0) k) p l) (View.allAt_nil _ _))

theorem oD10 (hc0 : ¬cond0_0 i) (hc1 : ¬cond0_1 i) (hc2 : cond0_2 i) (hc3 : ¬cond0_3 i) (hc4 : cond0_4 i) (k : Ok m c T x3 x4 x5 (k0_pay2 (F := Ideal) xs0 x1 x2) x6 x7) (j : Fin 8) (l : Fin 1024) (h : xo10 (ix2 j l) = grp (Q3 m c) (T * 68 + 0) j l) :
    out0_D_10 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 xo10 xo11 xs0 (ix2 j l) = grp (Q3 m c) (T * 68 + (34 + 34)) j l := by
  unfold out0_D_10
  refine Eq.trans (congrFun (View.read_writes_eq_canon _ _ _ fun _ => cover0_D_10 ..) _) ?_
  unfold kernelRun0_D
  dsimp only
  try sl_unfold_words
  rw [View.canon_cons_unit_zero (S := S8x1024) zz]
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  exact q3 (b := inb_S544x1024_S272x1024_272_0) k 34 rfl _ j l (q3 (b := inb_S544x1024_S272x1024_0_0) k 0 rfl _ j l h)

theorem oD11 (hc0 : ¬cond0_0 i) (hc1 : ¬cond0_1 i) (hc2 : cond0_2 i) (hc3 : ¬cond0_3 i) (hc4 : cond0_4 i) (k : Ok m c T x3 x4 x5 (k0_pay2 (F := Ideal) xs0 x1 x2) x6 x7) (j : Fin 8) (l : Fin 1024) (h : xo11 (ix2 j l) = grp (Q2 m c) (T * 68 + 0) j l) :
    out0_D_11 c i b3 k3 b4 k4 b5 k5 b6 k6 b7 k7 b8 k8 b9 k9 b10 k10 b11 k11 b12 k12 b13 k13 b14 k14 b15 k15 hc0 hc1 hc2 hc3 hc4 x0 x1 x2 x3 x4 x5 x6 x7 xo10 xo11 xs0 (ix2 j l) = grp (Q2 m c) (T * 68 + (34 + 34)) j l := by
  unfold out0_D_11
  refine Eq.trans (congrFun (View.read_writes_eq_canon _ _ _ fun _ => cover0_D_11 ..) _) ?_
  unfold kernelRun0_D
  dsimp only
  try sl_unfold_words
  rw [View.canon_cons_unit_zero (S := S8x1024) zz]
  simp only [View.readAt_eq_ld, Memref.IsWhole.read_unread, View.readCov_fill (s := S544x1024) (off := ![0, 0]) _ _ _ _ _ z2, View.readCov_fill (s := S8x1024) (off := ![0, 0]) _ _ _ _ _ z2, View.ld_unit_zero (S := S544x1024) zz, View.ld_unit_zero (S := S544x1408) zz, View.ld_unit_zero (S := S1024x1408) zz, View.ld_unit_zero (S := S1x1024) zz, View.ld_unit_zero (S := S8x1024) zz, shapeCast_self]
  exact q2 (b := inb_S544x1024_S272x1024_272_0) k 34 rfl _ j l (q2 (b := inb_S544x1024_S272x1024_0_0) k 0 rfl _ j l h)

/-- The scratch after each of the steps before the last. -/
theorem stA (t : Fin cfg0.N) (h : t.val % 4 = 0) (h' : t.val % 64 = 0) (i : Fin 544) (l : Fin 1024) :
    (outsAt0 m c t.val t.isLt).2.2.2.2 (ix2 i l) = nt (J m c) (W m c) ((t.val % 4 + 1) * 1408) (t.val / 4 * 544 + i) (0 * 1024 + l) := by
  rw [outsAt0_A m c t h (by omega) (by omega) h' (by omega)]
  dsimp only
  rw [sA]
  exact more t _ (j0 t (by omega)) _ i l (first t h i l)

theorem stE (t : Fin cfg0.N) (h : t.val % 4 = 0) (h' : ¬t.val % 64 = 0) (i : Fin 544) (l : Fin 1024) :
    (outsAt0 m c t.val t.isLt).2.2.2.2 (ix2 i l) = nt (J m c) (W m c) ((t.val % 4 + 1) * 1408) (t.val / 4 * 544 + i) (0 * 1024 + l) := by
  rw [outsAt0_E m c t h (by omega) (by omega) h' (by omega)]
  dsimp only
  rw [sE]
  exact more t _ (j0 t (by omega)) _ i l (first t h i l)

theorem stB (t : Fin cfg0.N) (h : t.val % 4 = 1) (i : Fin 544) (l : Fin 1024)
    (p : (outsAt0 m c (t.val - 1) (Nat.lt_of_le_of_lt (Nat.sub_le _ _) t.isLt)).2.2.2.2 (ix2 i l) = nt (J m c) (W m c) (((t.val - 1) % 4 + 1) * 1408) ((t.val - 1) / 4 * 544 + i) (0 * 1024 + l)) :
    (outsAt0 m c t.val t.isLt).2.2.2.2 (ix2 i l) = nt (J m c) (W m c) ((t.val % 4 + 1) * 1408) (t.val / 4 * 544 + i) (0 * 1024 + l) := by
  rw [outsAt0_B m c t (by omega) (by omega) (by omega) (by omega) (by omega)]
  dsimp only
  rw [sB]
  refine more t _ (j0 t (by omega)) _ i l (p.trans ?_)
  rw [show (t.val - 1) % 4 + 1 = t.val % 4 by omega, show (t.val - 1) / 4 = t.val / 4 by omega]

theorem stC (t : Fin cfg0.N) (h : t.val % 4 = 2) (i : Fin 544) (l : Fin 1024)
    (p : (outsAt0 m c (t.val - 1) (Nat.lt_of_le_of_lt (Nat.sub_le _ _) t.isLt)).2.2.2.2 (ix2 i l) = nt (J m c) (W m c) (((t.val - 1) % 4 + 1) * 1408) ((t.val - 1) / 4 * 544 + i) (0 * 1024 + l)) :
    (outsAt0 m c t.val t.isLt).2.2.2.2 (ix2 i l) = nt (J m c) (W m c) ((t.val % 4 + 1) * 1408) (t.val / 4 * 544 + i) (0 * 1024 + l) := by
  rw [outsAt0_C m c t (by omega) (by omega) (by omega) (by omega) (by omega)]
  dsimp only
  rw [sC]
  refine more t _ (j1 t (by omega)) _ i l (p.trans ?_)
  rw [show (t.val - 1) % 4 + 1 = t.val % 4 by omega, show (t.val - 1) / 4 = t.val / 4 by omega]

theorem outs : ∀ (n : ℕ) (h : n < cfg0.N) (i : Fin 544) (l : Fin 1024), n % 4 ≠ 3 →
    (outsAt0 m c n h).2.2.2.2 (ix2 i l) = nt (J m c) (W m c) ((n % 4 + 1) * 1408) (n / 4 * 544 + i) (0 * 1024 + l) := by
  intro n
  induction n with
  | zero => exact fun h i l _ => stA ⟨0, h⟩ rfl rfl i l
  | succ n ih =>
    intro h i l h3
    by_cases h0 : (n + 1) % 4 = 0
    · by_cases h64 : (n + 1) % 64 = 0
      · exact stA ⟨n + 1, h⟩ h0 h64 i l
      · exact stE ⟨n + 1, h⟩ h0 h64 i l
    · have p := ih (by omega) i l (by omega)
      by_cases h1 : (n + 1) % 4 = 1
      · exact stB ⟨n + 1, h⟩ h1 i l p
      · exact stC ⟨n + 1, h⟩ (by show (n + 1) % 4 = 2; omega) i l p

/-- The last step of a row block has the whole product. -/
theorem ok (t : Fin cfg0.N) (h : t.val % 4 = 3) :
    Ok m c (t.val / 4) (iblk m c 3 t) (iblk m c 4 t) (iblk m c 5 t) (k0_pay2 (F := Ideal) (outsAt0 m c (t.val - 1) (Nat.lt_of_le_of_lt (Nat.sub_le _ _) t.isLt)).2.2.2.2 (iblk m c 1 t) (iblk m c 2 t)) (iblk m c 6 t) (iblk m c 7 t) := by
  refine ⟨fun i k => ?_, fun i k => ?_, fun i k => ?_, fun i l => ?_, fun k => ?_, fun k => ?_⟩
  · rw [ib3, Nat.zero_mul, Nat.zero_add]
  · rw [ib4, Nat.zero_mul, Nat.zero_add]
  · rw [ib5, Nat.zero_mul, Nat.zero_add]
  · refine (more t _ (j1 t (by omega)) _ i l ?_).trans ?_
    · rw [outs (t.val - 1) _ i l (by omega), show (t.val - 1) % 4 + 1 = t.val % 4 by omega, show (t.val - 1) / 4 = t.val / 4 by omega]
    · rw [h, Nat.zero_mul, Nat.zero_add]
      rfl
  · exact (ib6 t 0 k).trans (by simp only [Nat.zero_mul, Nat.zero_add]; rfl)
  · exact (ib7 t 0 k).trans (by simp only [Nat.zero_mul, Nat.zero_add]; rfl)

theorem acc : ∀ (n : ℕ) (h : n < cfg0.N) (j : Fin 8) (l : Fin 1024), (outsAt0 m c n h).2.2.1 (ix2 j l) = grp (Q3 m c) ((n + 1) / 4 * 68) j l ∧ (outsAt0 m c n h).2.2.2.1 (ix2 j l) = grp (Q2 m c) ((n + 1) / 4 * 68) j l := by
  intro n
  induction n with
  | zero =>
    intro h j l
    rw [outsAt0_A m c ⟨0, h⟩ rfl (by show 0 % 4 ≤ 1; decide) (by show ¬2 ≤ 0 % 4; decide) rfl (by show ¬0 % 4 = 3; decide)]
    dsimp only
    rw [oA10, oA11]
    exact ⟨(pay4_at j l).trans (grp_zero _ _ _).symm, (pay4_at j l).trans (grp_zero _ _ _).symm⟩
  | succ n ih =>
    intro h j l
    have p := ih (by omega) j l
    have hN : cfg0.N = 64 := N_0
    generalize ht : (⟨n + 1, h⟩ : Fin cfg0.N) = t
    have hv : t.val = n + 1 := by rw [← ht]
    have p' : (outsAt0 m c (t.val - 1) (Nat.lt_of_le_of_lt (Nat.sub_le _ _) t.isLt)).2.2.1 (ix2 j l) = grp (Q3 m c) ((n + 1) / 4 * 68) j l ∧ (outsAt0 m c (t.val - 1) (Nat.lt_of_le_of_lt (Nat.sub_le _ _) t.isLt)).2.2.2.1 (ix2 j l) = grp (Q2 m c) ((n + 1) / 4 * 68) j l := by
      subst ht
      exact p
    have goal : (outsAt0 m c t.val t.isLt).2.2.1 (ix2 j l) = grp (Q3 m c) ((t.val + 1) / 4 * 68) j l ∧ (outsAt0 m c t.val t.isLt).2.2.2.1 (ix2 j l) = grp (Q2 m c) ((t.val + 1) / 4 * 68) j l := by
      by_cases h3 : t.val % 4 = 3
      · rw [outsAt0_D m c t (by omega) (by omega) (by omega) (by omega) h3]
        dsimp only
        rw [← hv] at p'
        have e : (t.val + 1) / 4 * 68 = t.val / 4 * 68 + (34 + 34) := by omega
        exact ⟨e ▸ oD10 (T := t.val / 4) (k := ok t h3) (j := j) (l := l) (h := p'.1) .., e ▸ oD11 (T := t.val / 4) (k := ok t h3) (j := j) (l := l) (h := p'.2) ..⟩
      · have e : (t.val + 1) / 4 = (n + 1) / 4 := by omega
        rw [e]
        by_cases h0 : t.val % 4 = 0
        · rw [outsAt0_E m c t h0 (by omega) (by omega) (by omega) h3]
          exact p'
        · by_cases h1 : t.val % 4 ≤ 1
          · rw [outsAt0_B m c t h0 h1 (by omega) (by omega) h3]
            exact p'
          · rw [outsAt0_C m c t h0 h1 (by omega) (by omega) h3]
            exact p'
    subst ht
    exact goal

theorem fin8 : (dats m 0 c).arrAt 8 cfg0.N = (fill (P m c) : S8704x1024.Idx → EReal) := by
  refine (dats m 0 c).arrAt_eq_of_covers 8 _ (by decide +kernel) fun t hf y => ?_
  blk_simp
  obtain ⟨i, j, rfl⟩ : ∃ (i : Fin 544) (j : Fin 1024), y = ix2 i j := ⟨y 0, y 1, eq_ix2 y⟩
  have h : t.val % 4 = 3 := (flush0_8 t).mp hf
  rw [after0_8, outsAt0_D m c t (by omega) (by omega) (by omega) (by omega) h]
  dsimp only
  rw [oD8 (T := t.val / 4) (k := ok t h)]
  refine Eq.trans ?_ (fill_at (p := t.val / 4 * 544 + i.val) (q := 0 * 1024 + j.val) _ (by constructor <;> blk_simp [(idx t)])).symm
  rw [Nat.zero_mul, Nat.zero_add]

theorem fin9 : (dats m 0 c).arrAt 9 cfg0.N = (fill (E m c) : S8704x1024.Idx → EReal) := by
  refine (dats m 0 c).arrAt_eq_of_covers 9 _ (by decide +kernel) fun t hf y => ?_
  blk_simp
  obtain ⟨i, j, rfl⟩ : ∃ (i : Fin 544) (j : Fin 1024), y = ix2 i j := ⟨y 0, y 1, eq_ix2 y⟩
  have h : t.val % 4 = 3 := (flush0_9 t).mp hf
  rw [after0_9, outsAt0_D m c t (by omega) (by omega) (by omega) (by omega) h]
  dsimp only
  rw [oD9 (T := t.val / 4) (k := ok t h)]
  refine Eq.trans ?_ (fill_at (p := t.val / 4 * 544 + i.val) (q := 0 * 1024 + j.val) _ (by constructor <;> blk_simp [(idx t)])).symm
  rw [Nat.zero_mul, Nat.zero_add]

theorem fin10 : (dats m 0 c).arrAt 10 cfg0.N = (fill (grp (Q3 m c) 1088) : S8x1024.Idx → EReal) := by
  refine (dats m 0 c).arrAt_eq_of_covers 10 _ (by decide +kernel) fun t hf y => ?_
  blk_simp
  obtain ⟨i, j, rfl⟩ : ∃ (i : Fin 8) (j : Fin 1024), y = ix2 i j := ⟨y 0, y 1, eq_ix2 y⟩
  have h : t.val % 64 = 63 := (flush0_10 t).mp hf
  have ht : t.val = 63 := by have := lt_of_lt_of_eq t.isLt (N_0 : cfg0.grid.N = 64); omega
  rw [after0_10]
  refine ((acc t.val t.isLt i j).1).trans ?_
  refine Eq.trans ?_ (fill_at (p := 0 * 8 + i.val) (q := 0 * 1024 + j.val) _ (by constructor <;> blk_simp [(idx t)])).symm
  rw [Nat.zero_mul, Nat.zero_add, Nat.zero_add, ht]

theorem fin11 : (dats m 0 c).arrAt 11 cfg0.N = (fill (grp (Q2 m c) 1088) : S8x1024.Idx → EReal) := by
  refine (dats m 0 c).arrAt_eq_of_covers 11 _ (by decide +kernel) fun t hf y => ?_
  blk_simp
  obtain ⟨i, j, rfl⟩ : ∃ (i : Fin 8) (j : Fin 1024), y = ix2 i j := ⟨y 0, y 1, eq_ix2 y⟩
  have h : t.val % 64 = 63 := (flush0_11 t).mp hf
  have ht : t.val = 63 := by have := lt_of_lt_of_eq t.isLt (N_0 : cfg0.grid.N = 64); omega
  rw [after0_11]
  refine ((acc t.val t.isLt i j).2).trans ?_
  refine Eq.trans ?_ (fill_at (p := 0 * 8 + i.val) (q := 0 * 1024 + j.val) _ (by constructor <;> blk_simp [(idx t)])).symm
  rw [Nat.zero_mul, Nat.zero_add, Nat.zero_add, ht]

section
variable (h : ∀ i, Rl (m ((c : Thread nD τ).loc main_arg0) i)) (h1 : ∀ i, Rl (m ((c : Thread nD τ).loc main_arg1) i)) (h2 : ∀ i, Rl (m ((c : Thread nD τ).loc main_arg2) i)) (h3 : ∀ i, Rl (m ((c : Thread nD τ).loc main_arg3) i)) (h6 : ∀ i, Rl (m ((c : Thread nD τ).loc main_arg6) i))
include h h1 h2

theorem rl_u (i l : ℕ) : Rl (U m c i l) := Rl.nt (Rl.join (Rl.ent h) (Rl.ent h1)) (Rl.ent h2) _ _ _

include h3 h6

theorem ref8 (i : Fin 8704) (l : Fin 1024) : Cert.Reference16Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 i l) = P m c i l := by
  refine (Cert.Reference16Ideal.Val.v49_at _ _ _ _ _ _ i l).trans ?_
  rw [P, dn_at]
  refine congrArg₂ (HAdd.hAdd (α := EReal)) (ent_at (a := 8704) (b := 1024) _ i l).symm (Eq.trans ?_ (rv_eq (fun k => Rl.ent h3 _ _) (fun k => Rl.ent h6 _ _) (fun k => rl_u h h1 h2 _ _) l))
  exact congrFun (congr (congrArg₂ rv (funext fun k => (ent_at (a := 8704) (b := 1024) _ i k).symm) (funext fun k => (ent_at (a := 1) (b := 1024) _ 0 k).symm)) (funext fun k => Cert.Reference16Ideal.Val.v26_at _ _ _ i k)) l

theorem ref11 (j : Fin 8) (l : Fin 1024) : Cert.Reference16Ideal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 j l) = grp (Q2 m c) 1088 j l := by
  refine (Cert.Reference16Ideal.Val.v77_at _ _ _ _ _ _ _ j l).trans (Eq.trans ?_ (Finset.sum_range fun q => Q2 m c (q * 8 + j) l).symm)
  exact Finset.sum_congr rfl fun q _ => congrArg₂ (HMul.hMul (α := EReal)) (ref8 h h1 h2 h3 h6 _ l) (congrArg₂ (HMul.hMul (α := EReal)) (ent_at (a := 8704) (b := 1024) _ (Cert.Reference16Ideal.Val.rw q j) l).symm (congrArg rs (funext fun k => (ent_at (a := 8704) (b := 1024) _ (Cert.Reference16Ideal.Val.rw q j) k).symm)))

variable (h4 : ∀ i, Rl (m ((c : Thread nD τ).loc main_arg4) i)) (h5 : ∀ i, Rl (m ((c : Thread nD τ).loc main_arg5) i)) (h7 : ∀ i, Rl (m ((c : Thread nD τ).loc main_arg7) i))
include h4 h5 h7

theorem ref9 (i : Fin 8704) (l : Fin 1024) : Cert.Reference16Ideal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i l) = E m c i l := by
  have hp (k : Fin 1024) : Rl (P m c i k) := by
    rw [P, dn_at]
    exact (Rl.ent h4 _ _).add (Rl.rb (fun k => Rl.ent h3 _ _) (fun k => Rl.ent h6 _ _) (fun k => rl_u h h1 h2 _ _) k)
  refine (Cert.Reference16Ideal.Val.v93_at _ _ _ _ _ _ _ _ i l).trans ?_
  rw [E, dn_at]
  refine Eq.trans ?_ (rv_eq (fun k => Rl.ent h5 _ _) (fun k => Rl.ent h7 _ _) hp l)
  exact congrFun (congr (congrArg₂ rv (funext fun k => (ent_at (a := 8704) (b := 1024) _ i k).symm) (funext fun k => (ent_at (a := 1) (b := 1024) _ 0 k).symm)) (funext fun k => ref8 h h1 h2 h3 h6 i k)) l

end

theorem ref10 (j : Fin 8) (l : Fin 1024) : Cert.Reference16Ideal.Read.val_main_v33 (F := Ideal) (m ((c : Thread nD τ).loc main_arg0)) (m ((c : Thread nD τ).loc main_arg1)) (m ((c : Thread nD τ).loc main_arg2)) (m ((c : Thread nD τ).loc main_arg3)) (ix2 j l) = grp (Q3 m c) 1088 j l := by
  refine (Cert.Reference16Ideal.Val.v33_at _ _ _ _ j l).trans (Eq.trans ?_ (Finset.sum_range fun q => Q3 m c (q * 8 + j) l).symm)
  exact Finset.sum_congr rfl fun q _ => congrArg₂ (HMul.hMul (α := EReal)) (Cert.Reference16Ideal.Val.v26_at _ _ _ _ l) (congrArg₂ (HMul.hMul (α := EReal)) (ent_at (a := 8704) (b := 1024) _ (Cert.Reference16Ideal.Val.rw q j) l).symm (congrArg rs (funext fun k => (ent_at (a := 8704) (b := 1024) _ (Cert.Reference16Ideal.Val.rw q j) k).symm)))

/-- The call's four results are the gradients of both norms and the product. -/
theorem algebraic : Cert.algebraic_Kernel16Ideal_Reference16Ideal_pre_finite16 := by
  intro m g m' g' hp ha
  refine ⟨fun c => (dats m 0 c).arrAt 8 cfg0.N, fun c => (dats m 0 c).arrAt 9 cfg0.N, fun c => (dats m 0 c).arrAt 10 cfg0.N, fun c => (dats m 0 c).arrAt 11 cfg0.N, Value.run_blocks m g, ?_⟩
  refine (θ_run _ _ _).mono (fun r h c => ?_) (Cert.Reference16Ideal.Value.run m' g')
  obtain ⟨e0, e1, e2, e3, k⟩ := h c
  obtain ⟨a0, a1, a2, a3, a4, a5, a6, a7⟩ := ha c
  obtain ⟨h0, h1, h2, h3, h4, h5, h6, h7⟩ := hp c
  have r0 := Rl.of_mask h0
  have r1 := Rl.of_mask h1
  have r2 := Rl.of_mask h2
  have r3 := Rl.of_mask h3
  have r6 := Rl.of_mask h6
  rw [Cert.Reference16Ideal.Read.val_main_v49_eq, a0, a1, a2, a3, a4, a6] at e0
  rw [Cert.Reference16Ideal.Read.val_main_v93_eq, a0, a1, a2, a3, a4, a5, a6, a7] at e1
  rw [Cert.Reference16Ideal.Read.val_main_v33_eq, a0, a1, a2, a3] at e2
  rw [Cert.Reference16Ideal.Read.val_main_v77_eq, a0, a1, a2, a3, a4, a5, a6] at e3
  refine ⟨e0.trans (Eq.trans ?_ fin8.symm), e1.trans (Eq.trans ?_ fin9.symm), e2.trans (Eq.trans ?_ fin10.symm), e3.trans (Eq.trans ?_ fin11.symm), k⟩
  · exact funext fun (z : S8704x1024.Idx) => (congrArg _ (eq_ix2 z)).trans (ref8 r0 r1 r2 r3 r6 (z 0) (z 1))
  · exact funext fun (z : S8704x1024.Idx) => (congrArg _ (eq_ix2 z)).trans (ref9 r0 r1 r2 r3 r6 (Rl.of_mask h4) (Rl.of_mask h5) (Rl.of_mask h7) (z 0) (z 1))
  · exact funext fun (z : S8x1024.Idx) => (congrArg _ (eq_ix2 z)).trans (ref10 (z 0) (z 1))
  · exact funext fun (z : S8x1024.Idx) => (congrArg _ (eq_ix2 z)).trans (ref11 r0 r1 r2 r3 r6 (z 0) (z 1))

end Cert.Kernel16Ideal.Val
-- ==== Proof.K17.lean ====
/- The gradient of the joined projections' product carried back through the norm: three blocks of a 8704 by 7168 matrix, kept as three arguments, times the
   transpose of a 1024 by 7168 one; the last step of each row block forms the norm's gradient, adds the other branch's, and sums the weight's. -/
module

public import proofs.«01_k».proof.Proof.Seg
public import proofs.«01_k».proof.Proof.EN
public import proofs.«01_k».proof.Defs
public import proofs.«01_k».proof.Proof.Gen.Kernel17Ideal.Value
public import proofs.«01_k».proof.Proof.Gen.Reference17Ideal.Read
public import proofs.«01_k».proof.Proof.Gen.Pre_finite17
public import Idealize.ShloMosaic.Lib.Pipeline.ReadBack

@[expose] public section

set_option maxRecDepth 16384

noncomputable section

namespace Cert.Reference17Ideal.Val

open Idealize.ShloMosaic Idealize.ShloMosaic.TcCoe Idealize.SL.Sem
open Cert.Reference17Ideal Cert.Reference17Ideal.Gen Cert.Reference17Ideal.Read Cert.Prod

variable (x0 : FVec Ideal S8704x4096 .bf16) (x1 : FVec Ideal S8704x1024 .bf16) (x2 : FVec Ideal S8704x2048 .bf16) (x3 : FVec Ideal S1024x7168 .bf16) (x4 x5 : FVec Ideal S8704x1024 .f32) (x6 : FVec Ideal S1x1024 .f32)

/-- Row `j` of block `q` of eight rows. -/
abbrev rw (q : Fin 1088) (j : Fin 8) : Fin 8704 := ⟨q * 8 + j, by omega⟩

theorem v7_at (q : Fin 1088) (j : Fin 8) (l : Fin 1024) : val_main_v7 (F := Ideal) x4 (ix3 q j l) = x4 (ix2 (rw q j) l) := by
  unfold val_main_v7
  pointwise

theorem v14_at (q : Fin 1088) (j : Fin 8) (z : Fin 1) : val_main_v14 (F := Ideal) x4 (ix3 q j z) = ms (fun k => x4 (ix2 (rw q j) k)) := by
  unfold val_main_v14 val_main_v13 val_main_v12 val_main_v11 val_main_v10 val_main_v9 val_main_v8 val_main_cst val_main_cst_0 val_main_cst_1 val_main_v7
  pointwise
  rfl

theorem v21_at (j : Fin 8) (l : Fin 1024) : val_main_v21 (F := Ideal) x6 (ix3 0 j l) = x6 (ix2 0 l) := by
  unfold val_main_v21 val_main_v6 val_main_v5 val_main_v4
  pointwise

theorem v48_at (q : Fin 1088) (j : Fin 8) (l : Fin 1024) : val_main_v48 (F := Ideal) x0 x1 x2 x3 x4 x6 (ix3 q j l) = rv (fun k => x4 (ix2 (rw q j) k)) (fun k => x6 (ix2 0 k)) (fun k => val_main_v27 (F := Ideal) x0 x1 x2 x3 (ix2 (rw q j) k)) l := by
  unfold val_main_v48 val_main_v47 val_main_v46 val_main_v45 val_main_v44 val_main_v43 val_main_v42 val_main_v41 val_main_v40 val_main_v39 val_main_v38 val_main_v37 val_main_v36 val_main_v35 val_main_v33 val_main_v32 val_main_v28 val_main_v18 val_main_v17 val_main_v16 val_main_v15 val_main_cst_2 val_main_cst_5 val_main_cst_6 val_main_cst_7
  have h14 := fun z => v14_at x4 q j z
  have h7 := fun k => v7_at x4 q j k
  have h21 := fun k => v21_at x6 j k
  generalize val_main_v27 (F := Ideal) x0 x1 x2 x3 = du
  generalize val_main_v14 (F := Ideal) x4 = a at h14 ⊢
  generalize val_main_v7 (F := Ideal) x4 = b at h7 ⊢
  generalize val_main_v21 (F := Ideal) x6 = g at h21 ⊢
  pointwise
  simp only [h14, h7, h21, Finset.univ_unique, Finset.sum_singleton]
  rfl

theorem v34_at (j : Fin 8) (l : Fin 1024) : val_main_v34 (F := Ideal) x0 x1 x2 x3 x4 (ix2 j l) = ∑ q : Fin 1088, val_main_v27 (F := Ideal) x0 x1 x2 x3 (ix2 (rw q j) l) * HMul.hMul (α := EReal) (β := EReal) (γ := EReal) (x4 (ix2 (rw q j) l)) (rs (fun k => x4 (ix2 (rw q j) k))) := by
  unfold val_main_v34 val_main_v31 val_main_v30 val_main_v29 val_main_v20 val_main_v19 val_main_v15 val_main_v28 val_main_cst_3 val_main_cst_4
  have h14 := fun q => v14_at x4 q j 0
  have h7 := fun q => v7_at x4 q j l
  generalize val_main_v27 (F := Ideal) x0 x1 x2 x3 = du
  generalize val_main_v14 (F := Ideal) x4 = a at h14 ⊢
  generalize val_main_v7 (F := Ideal) x4 = b at h7 ⊢
  pointwise
  simp only [h14, h7, Finset.univ_unique, Finset.sum_singleton]
  exact Finset.sum_congr rfl fun q _ => @mul_comm EReal _ _ _

theorem v50_at (i : Fin 8704) (l : Fin 1024) : val_main_v50 (F := Ideal) x0 x1 x2 x3 x4 x5 x6 (ix2 i l) = HAdd.hAdd (α := EReal) (β := EReal) (γ := EReal) (x5 (ix2 i l)) (rv (fun k => x4 (ix2 i k)) (fun k => x6 (ix2 0 k)) (fun k => val_main_v27 (F := Ideal) x0 x1 x2 x3 (ix2 i k)) l) := by
  have h : rw ⟨(i : ℕ) / 8, by omega⟩ ⟨(i : ℕ) % 8, by omega⟩ = i := Fin.ext (by show (i : ℕ) / 8 * 8 + i % 8 = i; omega)
  have e := v48_at x0 x1 x2 x3 x4 x6 ⟨(i : ℕ) / 8, by omega⟩ ⟨(i : ℕ) % 8, by omega⟩ l
  rw [h] at e
  rw [← e]
  unfold val_main_v50 val_main_v49
  generalize val_main_v48 (F := Ideal) x0 x1 x2 x3 x4 x6 = a
  pointwise

theorem v26_at (i : Fin 8704) (k : Fin 7168) : val_main_v26 (F := Ideal) x0 x1 x2 (ix2 i k) = join 4096 (ent (a := 8704) (b := 4096) x0) (join 1024 (ent (a := 8704) (b := 1024) x1) (ent (a := 8704) (b := 2048) x2)) i k := by
  refine Eq.trans ?_ (join_cat3 x0 x1 x2 i k rfl).symm
  unfold val_main_v26 val_main_v0 val_main_v1 val_main_v2
  pointwise

theorem v27_at (i : Fin 8704) (l : Fin 1024) : val_main_v27 (F := Ideal) x0 x1 x2 x3 (ix2 i l) = nt (join 4096 (ent (a := 8704) (b := 4096) x0) (join 1024 (ent (a := 8704) (b := 1024) x1) (ent (a := 8704) (b := 2048) x2))) (ent (a := 1024) (b := 7168) x3) 7168 i l := by
  refine Eq.trans ?_ (nt_half _ x3 i l).symm
  have h := v26_at x0 x1 x2 i
  unfold val_main_v27 val_main_v3
  generalize val_main_v26 (F := Ideal) x0 x1 x2 = a at h ⊢
  pointwise
  exact Finset.sum_congr rfl fun k _ => congrArg (HMul.hMul (α := EReal) · _) (h k)

end Cert.Reference17Ideal.Val

namespace Cert.Kernel17Ideal.Val

open Idealize.ShloMosaic Idealize.ShloMosaic.TcCoe Idealize.SL.Sem
open Cert.Kernel17Ideal Cert.Kernel17Ideal.Gen Cert.Prod

variable {m : (ℓ : Loc nD τ sig) → Buf (Elt Ideal) ℓ} {c : Dev nD}

theorem zz : (![0, 0] : Fin 2 → Nat) = fun _ => 0 := funext fun a => by fin_cases a <;> rfl
theorem z2 : ∀ a : Fin 2, (![0, 0] : Fin 2 → Nat) a = 0 := fun a => congrFun zz a

theorem pay1_at (i : Fin 1088) (l : Fin 1024) : k0_pay1 (F := Ideal) (ix2 i l) = 0 := by
  unfold k0_pay1
  pointwise

theorem pay5_at (i : Fin 8) (l : Fin 1024) : k0_pay5 (F := Ideal) (ix2 i l) = 0 := by
  unfold k0_pay5
  pointwise

theorem pay2_at (a : Vec Ideal S1088x1024 .f32) (x : Vec Ideal S1088x1024 .bf16) (y : Vec Ideal S1024x1024 .bf16) (i : Fin 1088) (l : Fin 1024) :
    k0_pay2 (F := Ideal) a x y (ix2 i l) = a (ix2 i l) + ∑ k : Fin 1024, x (ix2 i k) * y (ix2 l k) := by
  unfold k0_pay2
  pointwise

/-- A slice of rows of the norm's gradient, and of the sums for the weight. -/
theorem pay12_at (x d du : Vec Ideal S272x1024 .f32) (g : Vec Ideal S1x1024 .f32) (i : Fin 272) (l : Fin 1024) :
    k0_pay12 (F := Ideal) x d g du (ix2 i l) = d (ix2 i l) + rb (fun k => x (ix2 i k)) (fun k => g (ix2 0 k)) (fun k => du (ix2 i k)) l := by
  unfold k0_pay12 k0_pay11 k0_pay10
  pointwise
  rfl

theorem pay13_at (x du : Vec Ideal S272x1024 .f32) (a : Vec Ideal S8x1024 .f32) (j : Fin 8) (l : Fin 1024) :
    k0_pay13 (F := Ideal) x du a (ix2 j l) = a (ix2 j l) + ∑ q : Fin 34, du (ix2 ⟨q * 8 + j, by omega⟩ l) * (x (ix2 ⟨q * 8 + j, by omega⟩ l) * rs (fun k => x (ix2 ⟨q * 8 + j, by omega⟩ k))) := by
  unfold k0_pay13 k0_pay11 k0_pay10
  pointwise
  rfl

/-- A load of a slice of rows. -/
theorem ld_at (o : ℕ) (inb : ∀ a, (![o, 0] : Fin 2 → ℕ) a + S272x1024.size a ≤ S1088x1024.size a) (Z : Vec Ideal S1088x1024 .f32) (p : Fin 272) (k : Fin 1024) (i : Fin 1088) (h : (i : ℕ) = o + p) :
    View.ld Z (Rect.unit (s := S1088x1024) ![o, 0] S272x1024.size inb) (ix2 p k) = Z (ix2 i k) :=
  View.ld_unit_apply_of Z _ _ inb (ix2 p k) (ix2 i k) fun a => by
    fin_cases a
    · exact h
    · exact (Nat.zero_add _).symm

theorem sl7 (o : ℕ) (inb : ∀ a, (![o, 0] : Fin 2 → ℕ) a + S272x1024.size a ≤ S1088x1024.size a) (X D A : Vec Ideal S1088x1024 .f32) (g : Vec Ideal S1x1024 .f32) (i : Fin 1088) (l : Fin 1024) :
    View.TileAt (Val := Elt Ideal) (e := .f32) (S := S1088x1024) (ix2 i l) ![o, 0] S272x1024.size
      (k0_pay12 (F := Ideal) (View.ld X (Rect.unit (s := S1088x1024) ![o, 0] S272x1024.size inb)) (View.ld D (Rect.unit (s := S1088x1024) ![o, 0] S272x1024.size inb)) g (View.ld A (Rect.unit (s := S1088x1024) ![o, 0] S272x1024.size inb)))
      (D (ix2 i l) + rb (fun k => X (ix2 i k)) (fun k => g (ix2 0 k)) (fun k => A (ix2 i k)) l) := by
  intro x hx
  obtain ⟨p, q, rfl⟩ : ∃ (p : Fin 272) (q : Fin 1024), x = ix2 p q := ⟨x 0, x 1, eq_ix2 x⟩
  have h0 : (i : ℕ) = o + p := hx 0
  obtain rfl : l = q := Fin.ext ((hx 1).trans (Nat.zero_add _))
  refine (pay12_at _ _ _ _ p l).trans ?_
  have e : ∀ (Z : Vec Ideal S1088x1024 .f32) (k : Fin 1024), View.ld Z (Rect.unit (s := S1088x1024) ![o, 0] S272x1024.size inb) (ix2 p k) = Z (ix2 i k) := fun Z k => ld_at o inb Z p k i h0
  exact congrArg₂ (HAdd.hAdd (α := EReal)) (e D l) (congrFun (congrArg₂ (fun x d => rb x _ d) (funext fun k => e X k) (funext fun k => e A k)) l)

theorem sl8 (o T b : ℕ) (ho : o = b * 8) (hb : o + 272 ≤ 1088) (inb : ∀ a, (![o, 0] : Fin 2 → ℕ) a + S272x1024.size a ≤ S1088x1024.size a) (X A : Vec Ideal S1088x1024 .f32) (f : ℕ → ℕ → EReal)
    (hf : ∀ (p : Fin 1088) (l : Fin 1024), A (ix2 p l) * (X (ix2 p l) * rs (fun k => X (ix2 p k))) = f (T * 1088 + p) l) (a : Vec Ideal S8x1024 .f32) (j : Fin 8) (l : Fin 1024)
    (ha : a (ix2 j l) = grp f (T * 136 + b) j l) :
    k0_pay13 (F := Ideal) (View.ld X (Rect.unit (s := S1088x1024) ![o, 0] S272x1024.size inb)) (View.ld A (Rect.unit (s := S1088x1024) ![o, 0] S272x1024.size inb)) a (ix2 j l) = grp f (T * 136 + (b + 34)) j l := by
  refine (pay13_at _ _ _ j l).trans ?_
  rw [ha, ← Nat.add_assoc]
  refine Eq.trans ?_ (grp_more f (T * 136 + b) 34 j l)
  refine congrArg (HAdd.hAdd (α := EReal) _) (Finset.sum_congr rfl fun q _ => ?_)
  have hp : o + ((q : ℕ) * 8 + j) < 1088 := by omega
  have e : ∀ (Z : Vec Ideal S1088x1024 .f32) (k : Fin 1024), View.ld Z (Rect.unit (s := S1088x1024) ![o, 0] S272x1024.size inb) (ix2 ⟨q * 8 + j, by omega⟩ k) = Z (ix2 ⟨_, hp⟩ k) := fun Z k => ld_at o inb Z _ k _ rfl
  refine Eq.trans ?_ ((hf ⟨_, hp⟩ l).trans (congrArg (fun r => f r l) ?_))
  · exact congrArg₂ (HMul.hMul (α := EReal)) (e A l) (congrArg₂ (HMul.hMul (α := EReal)) (e X l) (congrArg rs (funext fun k => e X k)))
  · show T * 1088 + (o + (q * 8 + j)) = (T * 136 + b + q) * 8 + j
    omega

theorem idx : ∀ t : Fin cfg0.N, win0_0.index t = ![t.val / 7, min (t.val % 7) 3] ∧ win0_1.index t = ![t.val / 7, 0] ∧ win0_2.index t = ![t.val / 7, t.val % 7 - 5] ∧ win0_3.index t = ![0, t.val % 7] ∧ win0_4.index t = ![t.val / 7, 0] ∧ win0_5.index t = ![t.val / 7, 0] ∧ win0_6.index t = ![0, 0] ∧ win0_7.index t = ![t.val / 7, 0] ∧ win0_8.index t = ![0, 0] :=
  (by decide +kernel : ∀ t : Fin grid0.N, _)

section
variable (m c)
/-- The entries of the call's arguments; the gradient's blocks side by side, their product, and the terms of the weight's gradient. -/
def A0 : ℕ → ℕ → EReal := ent (a := 8704) (b := 4096) (m ((c : Thread nD τ).loc main_arg0))
def A1 : ℕ → ℕ → EReal := ent (a := 8704) (b := 1024) (m ((c : Thread nD τ).loc main_arg1))
def A2 : ℕ → ℕ → EReal := ent (a := 8704) (b := 2048) (m ((c : Thread nD τ).loc main_arg2))
def W : ℕ → ℕ → EReal := ent (a := 1024) (b := 7168) (m ((c : Thread nD τ).loc main_arg3))
def H : ℕ → ℕ → EReal := ent (a := 8704) (b := 1024) (m ((c : Thread nD τ).loc main_arg4))
def D : ℕ → ℕ → EReal := ent (a := 8704) (b := 1024) (m ((c : Thread nD τ).loc main_arg5))
def G : ℕ → ℕ → EReal := ent (a := 1) (b := 1024) (m ((c : Thread nD τ).loc main_arg6))
def J : ℕ → ℕ → EReal := join 4096 (A0 m c) (join 1024 (A1 m c) (A2 m c))
def U : ℕ → ℕ → EReal := nt (J m c) (W m c) 7168
def Q (r : ℕ) (l : ℕ) : EReal := U m c r l * (H m c r l * rs (fun k => H m c r k))
def P (r : ℕ) (l : ℕ) : EReal := if h : l < 1024 then D m c r l + rb (fun k => H m c r k) (fun k => G m c 0 k) (fun k => U m c r k) ⟨l, h⟩ else 0
end

theorem P_at (r : ℕ) (l : Fin 1024) : P m c r l = D m c r l + rb (fun k => H m c r k) (fun k => G m c 0 k) (fun k => U m c r k) l := dif_pos l.2

theorem ib0 (t : Fin cfg0.N) (i : Fin 1088) (j : Fin 1024) : iblk m c 0 t (ix2 i j) = A0 m c (t.val / 7 * 1088 + i.val) (min (t.val % 7) 3 * 1024 + j.val) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = A1 m c (t.val / 7 * 1088 + i.val) (0 * 1024 + j.val) :=
  (congrFun (V_main_arg1 m c) (((cfg0.win 1).blk t).view.emb (ix2 i j))).trans (at_ent _ _ (by constructor <;> blk_simp [(idx t)]))

theorem ib2 (t : Fin cfg0.N) (i : Fin 1088) (j : Fin 1024) : iblk m c 2 t (ix2 i j) = A2 m c (t.val / 7 * 1088 + i.val) ((t.val % 7 - 5) * 1024 + j.val) :=
  (congrFun (V_main_arg2 m c) (((cfg0.win 2).blk t).view.emb (ix2 i j))).trans (at_ent _ _ (by constructor <;> blk_simp [(idx t)]))

theorem ib3 (t : Fin cfg0.N) (i : Fin 1024) (j : Fin 1024) : iblk m c 3 t (ix2 i j) = W m c (0 * 1024 + i.val) (t.val % 7 * 1024 + j.val) :=
  (congrFun (V_main_arg3 m c) (((cfg0.win 3).blk t).view.emb (ix2 i j))).trans (at_ent _ _ (by constructor <;> blk_simp [(idx t)]))

theorem ib4 (t : Fin cfg0.N) (i : Fin 1088) (j : Fin 1024) : iblk m c 4 t (ix2 i j) = H m c (t.val / 7 * 1088 + i.val) (0 * 1024 + j.val) :=
  (congrFun (V_main_arg4 m c) (((cfg0.win 4).blk t).view.emb (ix2 i j))).trans (at_ent _ _ (by constructor <;> blk_simp [(idx t)]))

theorem ib5 (t : Fin cfg0.N) (i : Fin 1088) (j : Fin 1024) : iblk m c 5 t (ix2 i j) = D m c (t.val / 7 * 1088 + i.val) (0 * 1024 + j.val) :=
  (congrFun (V_main_arg5 m c) (((cfg0.win 5).blk t).view.emb (ix2 i j))).trans (at_ent _ _ (by constructor <;> blk_simp [(idx t)]))

theorem ib6 (t : Fin cfg0.N) (i : Fin 1) (j : Fin 1024) : iblk m c 6 t (ix2 i j) = G m c (0 * 1 + i.val) (0 * 1024 + j.val) :=
  (congrFun (V_main_arg6 m c) (((cfg0.win 6).blk t).view.emb (ix2 i j))).trans (at_ent _ _ (by constructor <;> blk_simp [(idx t)]))

theorem j0 (t : Fin cfg0.N) (h : t.val % 7 ≤ 3) (i : Fin 1088) (k : Fin 1024) : iblk m c 0 t (ix2 i k) = J m c (t.val / 7 * 1088 + i.val) (t.val % 7 * 1024 + k.val) := by
  rw [ib0]
  rw [J, join_lt _ _ (by omega), Nat.min_eq_left h]

theorem j1 (t : Fin cfg0.N) (h : t.val % 7 = 4) (i : Fin 1088) (k : Fin 1024) : iblk m c 1 t (ix2 i k) = J m c (t.val / 7 * 1088 + i.val) (t.val % 7 * 1024 + k.val) := by
  rw [ib1]
  rw [J, join_ge _ _ (by omega), join_lt _ _ (by omega)]
  exact congrArg _ (by omega)

theorem j2 (t : Fin cfg0.N) (h : 5 ≤ t.val % 7) (i : Fin 1088) (k : Fin 1024) : iblk m c 2 t (ix2 i k) = J m c (t.val / 7 * 1088 + i.val) (t.val % 7 * 1024 + k.val) := by
  rw [ib2]
  rw [J, join_ge _ _ (by omega), join_ge _ _ (by omega)]
  exact congrArg _ (by omega)

/-- One block of columns more. -/
theorem more (t : Fin cfg0.N) (x : Vec Ideal S1088x1024 .bf16) (hx : ∀ (i : Fin 1088) (k : Fin 1024), x (ix2 i k) = J m c (t.val / 7 * 1088 + i.val) (t.val % 7 * 1024 + k.val)) (a : Vec Ideal S1088x1024 .f32) (i : Fin 1088) (l : Fin 1024)
    (h : a (ix2 i l) = nt (J m c) (W m c) (t.val % 7 * 1024) (t.val / 7 * 1088 + i) (0 * 1024 + l)) :
    k0_pay2 a x (iblk m c 3 t) (ix2 i l) = nt (J m c) (W m c) ((t.val % 7 + 1) * 1024) (t.val / 7 * 1088 + i) (0 * 1024 + l) := by
  rw [pay2_at, h, ← nt_tile]
  exact congrArg _ (Finset.sum_congr rfl fun k _ => by rw [hx i k, ib3])

theorem first (t : Fin cfg0.N) (h0 : t.val % 7 = 0) (i : Fin 1088) (l : Fin 1024) :
    k0_pay1 (F := Ideal) (ix2 i l) = nt (J m c) (W m c) (t.val % 7 * 1024) (t.val / 7 * 1088 + i) (0 * 1024 + l) := by
  rw [pay1_at, h0, Nat.zero_mul, nt_zero]

variable (i : grid0.Coords) (b3 : Memref sig .tc .vmem S1088x1024 .bf16) (k3 : b3.IsWhole) (b4 : Memref sig .tc .vmem S1088x1024 .bf16) (k4 : b4.IsWhole) (b5 : Memref sig .tc .vmem S1088x1024 .bf16) (k5 : b5.IsWhole) (b6 : Memref sig .tc .vmem S1024x1024 .bf16) (k6 : b6.IsWhole) (b7 : Memref sig .tc .vmem S1088x1024 .f32) (k7 : b7.IsWhole) (b8 : Memref sig .tc .vmem S1088x1024 .f32) (k8 : b8.IsWhole) (b9 : Memref sig .tc .vmem S1x1024 .f32) (k9 : b9.IsWhole) (b10 : Memref sig .tc .vmem S1088x1024 .f32) (k10 : b10.IsWhole) (b11 : Memref sig .tc .vmem S8x1024 .f32) (k11 : b11.IsWhole) (b12 : Memref sig .tc .vmem S1088x1024 .f32) (k12 : b12.IsWhole)
  (x0 x1 x2 : Vec Ideal S1088x1024 .bf16) (x3 : Vec Ideal S1024x1024 .bf16) (x4 x5 : Vec Ideal S1088x1024 .f32) (x6 : Vec Ideal S1x1024 .f32) (xs0 : Vec Ideal S1088x1024 .f32) (xo8 : Vec Ideal S8x1024 .f32)

theorem sA (hc0 : cond0_0 i) (hc1 : cond0_1 i) (hc2 : ¬cond0_2 i) (hc3 : ¬cond0_3 i) (hc4 : cond0_4 i) (hc5 : ¬cond0_5 i) :
    sout0_A_0 c i b3 k3 b4 k4 b5 k5 b6 k6 b7 k7 b8 k8 b9 k9 b10 k10 b11 k11 b12 k12 hc0 hc1 hc2 hc3 hc4 hc5 x0 x1 x2 x3 x4 x5 x6 = k0_pay2 (F := Ideal) (k0_pay1 (F := Ideal)) x0 x3 := by
  unfold sout0_A_0
  refine Eq.trans (View.read_writes_eq_canon _ _ _ fun _ => scover0_A_0 ..) ?_
  unfold kernelRun0_A
  dsimp only
  try sl_unfold_words
  rw [View.canon_cons_unit_zero (S := S1088x1024) zz]
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  try rfl

theorem sF (hc0 : cond0_0 i) (hc1 : cond0_1 i) (hc2 : ¬cond0_2 i) (hc3 : ¬cond0_3 i) (hc4 : ¬cond0_4 i) (hc5 : ¬cond0_5 i) :
    sout0_F_0 c i b3 k3 b4 k4 b5 k5 b6 k6 b7 k7 b8 k8 b9 k9 b10 k10 b11 k11 b12 k12 hc0 hc1 hc2 hc3 hc4 hc5 x0 x1 x2 x3 x4 x5 x6 = k0_pay2 (F := Ideal) (k0_pay1 (F := Ideal)) x0 x3 := by
  unfold sout0_F_0
  refine Eq.trans (View.read_writes_eq_canon _ _ _ fun _ => scover0_F_0 ..) ?_
  unfold kernelRun0_F
  dsimp only
  try sl_unfold_words
  rw [View.canon_cons_unit_zero (S := S1088x1024) zz]
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  try rfl

theorem sB (hc0 : ¬cond0_0 i) (hc1 : cond0_1 i) (hc2 : ¬cond0_2 i) (hc3 : ¬cond0_3 i) (hc4 : ¬cond0_4 i) (hc5 : ¬cond0_5 i) :
    sout0_B_0 c i b3 k3 b4 k4 b5 k5 b6 k6 b7 k7 b8 k8 b9 k9 b10 k10 b11 k11 b12 k12 hc0 hc1 hc2 hc3 hc4 hc5 x0 x1 x2 x3 x4 x5 x6 xs0 = k0_pay2 (F := Ideal) xs0 x0 x3 := by
  unfold sout0_B_0
  refine Eq.trans (View.read_writes_eq_canon _ _ _ fun _ => scover0_B_0 ..) ?_
  unfold kernelRun0_B
  dsimp only
  try sl_unfold_words
  rw [View.canon_unit_zero zz]
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  try rfl

theorem sC (hc0 : ¬cond0_0 i) (hc1 : ¬cond0_1 i) (hc2 : cond0_2 i) (hc3 : ¬cond0_3 i) (hc4 : ¬cond0_4 i) (hc5 : ¬cond0_5 i) :
    sout0_C_0 c i b3 k3 b4 k4 b5 k5 b6 k6 b7 k7 b8 k8 b9 k9 b10 k10 b11 k11 b12 k12 hc0 hc1 hc2 hc3 hc4 hc5 x0 x1 x2 x3 x4 x5 x6 xs0 = k0_pay2 (F := Ideal) xs0 x1 x3 := by
  unfold sout0_C_0
  refine Eq.trans (View.read_writes_eq_canon _ _ _ fun _ => scover0_C_0 ..) ?_
  unfold kernelRun0_C
  dsimp only
  try sl_unfold_words
  rw [View.canon_unit_zero zz]
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  try rfl

theorem sD (hc0 : ¬cond0_0 i) (hc1 : ¬cond0_1 i) (hc2 : ¬cond0_2 i) (hc3 : cond0_3 i) (hc4 : ¬cond0_4 i) (hc5 : ¬cond0_5 i) :
    sout0_D_0 c i b3 k3 b4 k4 b5 k5 b6 k6 b7 k7 b8 k8 b9 k9 b10 k10 b11 k11 b12 k12 hc0 hc1 hc2 hc3 hc4 hc5 x0 x1 x2 x3 x4 x5 x6 xs0 = k0_pay2 (F := Ideal) xs0 x2 x3 := by
  unfold sout0_D_0
  refine Eq.trans (View.read_writes_eq_canon _ _ _ fun _ => scover0_D_0 ..) ?_
  unfold kernelRun0_D
  dsimp only
  try sl_unfold_words
  rw [View.canon_unit_zero zz]
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  try rfl

theorem oA8 (hc0 : cond0_0 i) (hc1 : cond0_1 i) (hc2 : ¬cond0_2 i) (hc3 : ¬cond0_3 i) (hc4 : cond0_4 i) (hc5 : ¬cond0_5 i) :
    out0_A_8 c i b3 k3 b4 k4 b5 k5 b6 k6 b7 k7 b8 k8 b9 k9 b10 k10 b11 k11 b12 k12 hc0 hc1 hc2 hc3 hc4 hc5 x0 x1 x2 x3 x4 x5 x6 = k0_pay5 (F := Ideal) := by
  unfold out0_A_8
  refine Eq.trans (View.read_writes_eq_canon _ _ _ fun _ => cover0_A_8 ..) ?_
  unfold kernelRun0_A
  dsimp only
  try sl_unfold_words
  rw [View.canon_unit_zero zz]

theorem oE8 (hc0 : ¬cond0_0 i) (hc1 : ¬cond0_1 i) (hc2 : ¬cond0_2 i) (hc3 : cond0_3 i) (hc4 : ¬cond0_4 i) (hc5 : cond0_5 i) :
    out0_E_8 c i b3 k3 b4 k4 b5 k5 b6 k6 b7 k7 b8 k8 b9 k9 b10 k10 b11 k11 b12 k12 hc0 hc1 hc2 hc3 hc4 hc5 x0 x1 x2 x3 x4 x5 x6 xo8 xs0 = k0_pay13 (F := Ideal) (View.ld x4 (Rect.unit (s := S1088x1024) ![816, 0] S272x1024.size inb_S1088x1024_S272x1024_816_0)) (View.ld (k0_pay2 (F := Ideal) xs0 x2 x3) (Rect.unit (s := S1088x1024) ![816, 0] S272x1024.size inb_S1088x1024_S272x1024_816_0)) (k0_pay13 (F := Ideal) (View.ld x4 (Rect.unit (s := S1088x1024) ![544, 0] S272x1024.size inb_S1088x1024_S272x1024_544_0)) (View.ld (k0_pay2 (F := Ideal) xs0 x2 x3) (Rect.unit (s := S1088x1024) ![544, 0] S272x1024.size inb_S1088x1024_S272x1024_544_0)) (k0_pay13 (F := Ideal) (View.ld x4 (Rect.unit (s := S1088x1024) ![272, 0] S272x1024.size inb_S1088x1024_S272x1024_272_0)) (View.ld (k0_pay2 (F := Ideal) xs0 x2 x3) (Rect.unit (s := S1088x1024) ![272, 0] S272x1024.size inb_S1088x1024_S272x1024_272_0)) (k0_pay13 (F := Ideal) (View.ld x4 (Rect.unit (s := S1088x1024) ![0, 0] S272x1024.size inb_S1088x1024_S272x1024_0_0)) (View.ld (k0_pay2 (F := Ideal) xs0 x2 x3) (Rect.unit (s := S1088x1024) ![0, 0] S272x1024.size inb_S1088x1024_S272x1024_0_0)) xo8))) := by
  unfold out0_E_8
  refine Eq.trans (View.read_writes_eq_canon _ _ _ fun _ => cover0_E_8 ..) ?_
  unfold kernelRun0_E
  dsimp only
  try sl_unfold_words
  rw [View.canon_cons_unit_zero (S := S8x1024) zz]
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  rfl

theorem oE7 (hc0 : ¬cond0_0 i) (hc1 : ¬cond0_1 i) (hc2 : ¬cond0_2 i) (hc3 : cond0_3 i) (hc4 : ¬cond0_4 i) (hc5 : cond0_5 i) (p : Fin 1088) (l : Fin 1024) :
    out0_E_7 c i b3 k3 b4 k4 b5 k5 b6 k6 b7 k7 b8 k8 b9 k9 b10 k10 b11 k11 b12 k12 hc0 hc1 hc2 hc3 hc4 hc5 x0 x1 x2 x3 x4 x5 x6 xo8 xs0 (ix2 p l) = x5 (ix2 p l) + rb (fun k => x4 (ix2 p k)) (fun k => x6 (ix2 0 k)) (fun k => (k0_pay2 (F := Ideal) xs0 x2 x3) (ix2 p k)) l := by
  unfold out0_E_7
  refine Eq.trans (congrFun (View.read_writes_eq_canon _ _ _ fun _ => cover0_E_7 ..) _) ?_
  refine View.canon_eq_of_allAt _ _ _ (cover0_E_7 ..) ?_
  unfold kernelRun0_E
  dsimp only
  try sl_unfold_words
  simp only [View.readAt_eq_ld, Memref.IsWhole.read_unread, View.readCov_fill (s := S1088x1024) (off := ![0, 0]) _ _ _ _ _ z2, View.readCov_fill (s := S8x1024) (off := ![0, 0]) _ _ _ _ _ z2, View.ld_unit_zero (S := S1088x1024) zz, View.ld_unit_zero (S := S1024x1024) zz, View.ld_unit_zero (S := S1x1024) zz, View.ld_unit_zero (S := S8x1024) zz, shapeCast_self]
  exact View.allAt_cons_unit _ _ _ _ _ (sl7 816 _ x4 x5 (k0_pay2 (F := Ideal) xs0 x2 x3) x6 p l) (View.allAt_cons_unit _ _ _ _ _ (sl7 544 _ x4 x5 (k0_pay2 (F := Ideal) xs0 x2 x3) x6 p l)
    (View.allAt_cons_unit _ _ _ _ _ (sl7 272 _ x4 x5 (k0_pay2 (F := Ideal) xs0 x2 x3) x6 p l) (View.allAt_cons_unit _ _ _ _ _ (sl7 0 _ x4 x5 (k0_pay2 (F := Ideal) xs0 x2 x3) x6 p l) (View.allAt_nil _ _))))

/-- The scratch after each of the steps before the last, and the sums for the weight. -/
theorem stA (t : Fin cfg0.N) (h : t.val % 7 = 0) (h' : t.val % 56 = 0) (i : Fin 1088) (l : Fin 1024) :
    (outsAt0 m c t.val t.isLt).2.2 (ix2 i l) = nt (J m c) (W m c) ((t.val % 7 + 1) * 1024) (t.val / 7 * 1088 + i) (0 * 1024 + l) := by
  rw [outsAt0_A m c t h (by omega) (by omega) (by omega) h' (by omega), sA]
  exact more t _ (j0 t (by omega)) _ i l (first t h i l)

theorem stF (t : Fin cfg0.N) (h : t.val % 7 = 0) (h' : ¬t.val % 56 = 0) (i : Fin 1088) (l : Fin 1024) :
    (outsAt0 m c t.val t.isLt).2.2 (ix2 i l) = nt (J m c) (W m c) ((t.val % 7 + 1) * 1024) (t.val / 7 * 1088 + i) (0 * 1024 + l) := by
  rw [outsAt0_F m c t h (by omega) (by omega) (by omega) h' (by omega), sF]
  exact more t _ (j0 t (by omega)) _ i l (first t h i l)

theorem stB (t : Fin cfg0.N) (h : ¬t.val % 7 = 0) (h' : t.val % 7 ≤ 3) (i : Fin 1088) (l : Fin 1024)
    (p : (outsAt0 m c (t.val - 1) (Nat.lt_of_le_of_lt (Nat.sub_le _ _) t.isLt)).2.2 (ix2 i l) = nt (J m c) (W m c) (((t.val - 1) % 7 + 1) * 1024) ((t.val - 1) / 7 * 1088 + i) (0 * 1024 + l)) :
    (outsAt0 m c t.val t.isLt).2.2 (ix2 i l) = nt (J m c) (W m c) ((t.val % 7 + 1) * 1024) (t.val / 7 * 1088 + i) (0 * 1024 + l) := by
  rw [outsAt0_B m c t (by omega) h' (by omega) (by omega) (by omega) (by omega), sB]
  refine more t _ (j0 t h') _ i l (p.trans ?_)
  rw [show (t.val - 1) % 7 + 1 = t.val % 7 by omega, show (t.val - 1) / 7 = t.val / 7 by omega]

theorem stC (t : Fin cfg0.N) (h : t.val % 7 = 4) (i : Fin 1088) (l : Fin 1024)
    (p : (outsAt0 m c (t.val - 1) (Nat.lt_of_le_of_lt (Nat.sub_le _ _) t.isLt)).2.2 (ix2 i l) = nt (J m c) (W m c) (((t.val - 1) % 7 + 1) * 1024) ((t.val - 1) / 7 * 1088 + i) (0 * 1024 + l)) :
    (outsAt0 m c t.val t.isLt).2.2 (ix2 i l) = nt (J m c) (W m c) ((t.val % 7 + 1) * 1024) (t.val / 7 * 1088 + i) (0 * 1024 + l) := by
  rw [outsAt0_C m c t (by omega) (by omega) h (by omega) (by omega) (by omega), sC]
  refine more t _ (j1 t h) _ i l (p.trans ?_)
  rw [show (t.val - 1) % 7 + 1 = t.val % 7 by omega, show (t.val - 1) / 7 = t.val / 7 by omega]

theorem stD (t : Fin cfg0.N) (h : 5 ≤ t.val % 7) (h' : ¬t.val % 7 = 6) (i : Fin 1088) (l : Fin 1024)
    (p : (outsAt0 m c (t.val - 1) (Nat.lt_of_le_of_lt (Nat.sub_le _ _) t.isLt)).2.2 (ix2 i l) = nt (J m c) (W m c) (((t.val - 1) % 7 + 1) * 1024) ((t.val - 1) / 7 * 1088 + i) (0 * 1024 + l)) :
    (outsAt0 m c t.val t.isLt).2.2 (ix2 i l) = nt (J m c) (W m c) ((t.val % 7 + 1) * 1024) (t.val / 7 * 1088 + i) (0 * 1024 + l) := by
  rw [outsAt0_D m c t (by omega) (by omega) (by omega) h (by omega) (by omega), sD]
  refine more t _ (j2 t h) _ i l (p.trans ?_)
  rw [show (t.val - 1) % 7 + 1 = t.val % 7 by omega, show (t.val - 1) / 7 = t.val / 7 by omega]

theorem outs : ∀ (n : ℕ) (h : n < cfg0.N) (i : Fin 1088) (l : Fin 1024), n % 7 ≠ 6 →
    (outsAt0 m c n h).2.2 (ix2 i l) = nt (J m c) (W m c) ((n % 7 + 1) * 1024) (n / 7 * 1088 + i) (0 * 1024 + l) := by
  intro n
  induction n with
  | zero => exact fun h i l _ => stA ⟨0, h⟩ rfl rfl i l
  | succ n ih =>
    intro h i l h6
    by_cases h0 : (n + 1) % 7 = 0
    · by_cases h56 : (n + 1) % 56 = 0
      · exact stA ⟨n + 1, h⟩ h0 h56 i l
      · exact stF ⟨n + 1, h⟩ h0 h56 i l
    · have p := ih (by omega) i l (by omega)
      by_cases h3 : (n + 1) % 7 ≤ 3
      · exact stB ⟨n + 1, h⟩ h0 h3 i l p
      · by_cases h4 : (n + 1) % 7 = 4
        · exact stC ⟨n + 1, h⟩ h4 i l p
        · exact stD ⟨n + 1, h⟩ (by show 5 ≤ (n + 1) % 7; omega) h6 i l p

/-- The last step of a row block has the whole product. -/
theorem whole (t : Fin cfg0.N) (h : t.val % 7 = 6) (i : Fin 1088) (l : Fin 1024) :
    k0_pay2 (F := Ideal) (outsAt0 m c (t.val - 1) (Nat.lt_of_le_of_lt (Nat.sub_le _ _) t.isLt)).2.2 (iblk m c 2 t) (iblk m c 3 t) (ix2 i l) = U m c (t.val / 7 * 1088 + i) l := by
  refine (more t _ (j2 t (by omega)) _ i l ?_).trans ?_
  · rw [outs (t.val - 1) _ i l (by omega), show (t.val - 1) % 7 + 1 = t.val % 7 by omega, show (t.val - 1) / 7 = t.val / 7 by omega]
  · rw [h, Nat.zero_mul, Nat.zero_add]
    rfl

theorem h4 (t : Fin cfg0.N) (i : Fin 1088) (k : Fin 1024) : iblk m c 4 t (ix2 i k) = H m c (t.val / 7 * 1088 + i) k := by
  rw [ib4, Nat.zero_mul, Nat.zero_add]

theorem acc : ∀ (n : ℕ) (h : n < cfg0.N) (j : Fin 8) (l : Fin 1024), (outsAt0 m c n h).2.1 (ix2 j l) = grp (Q m c) ((n + 1) / 7 * 136) j l := by
  intro n
  induction n with
  | zero =>
    intro h j l
    rw [outsAt0_A m c ⟨0, h⟩ rfl (by show 0 % 7 ≤ 3; decide) (by show ¬0 % 7 = 4; decide) (by show ¬5 ≤ 0 % 7; decide) rfl (by show ¬0 % 7 = 6; decide), oA8]
    exact (pay5_at j l).trans (grp_zero _ _ _).symm
  | succ n ih =>
    intro h j l
    have p := ih (by omega) j l
    have hN : cfg0.N = 56 := N_0
    generalize ht : (⟨n + 1, h⟩ : Fin cfg0.N) = t
    have hv : t.val = n + 1 := by rw [← ht]
    have p' : (outsAt0 m c (t.val - 1) (Nat.lt_of_le_of_lt (Nat.sub_le _ _) t.isLt)).2.1 (ix2 j l) = grp (Q m c) ((n + 1) / 7 * 136) j l := by
      subst ht
      exact p
    have goal : (outsAt0 m c t.val t.isLt).2.1 (ix2 j l) = grp (Q m c) ((t.val + 1) / 7 * 136) j l := by
      by_cases h6 : t.val % 7 = 6
      · rw [outsAt0_E m c t (by omega) (by omega) (by omega) (by omega) (by omega) h6, oE8]
        have hf : ∀ (p : Fin 1088) (l : Fin 1024), k0_pay2 (F := Ideal) (outsAt0 m c (t.val - 1) (Nat.lt_of_le_of_lt (Nat.sub_le _ _) t.isLt)).2.2 (iblk m c 2 t) (iblk m c 3 t) (ix2 p l) * HMul.hMul (α := EReal) (β := EReal) (γ := EReal) (iblk m c 4 t (ix2 p l)) (rs (fun k => iblk m c 4 t (ix2 p k))) = Q m c (t.val / 7 * 1088 + p) l := fun p l => by
          rw [whole t h6, Q]
          exact congrArg _ (congrArg₂ (HMul.hMul (α := EReal)) (h4 t p l) (congrArg rs (funext fun k => h4 t p k)))
        refine (sl8 816 (t.val / 7) 102 rfl (by decide) _ _ _ _ hf _ j l (sl8 544 (t.val / 7) 68 rfl (by decide) _ _ _ _ hf _ j l (sl8 272 (t.val / 7) 34 rfl (by decide) _ _ _ _ hf _ j l
          (sl8 0 (t.val / 7) 0 rfl (by decide) _ _ _ _ hf _ j l (p'.trans ?_))))).trans ?_
        · rw [← hv, Nat.add_zero]
        · rw [show (t.val + 1) / 7 * 136 = t.val / 7 * 136 + (102 + 34) by omega]
      · have e : (t.val + 1) / 7 = (n + 1) / 7 := by omega
        rw [e]
        by_cases h0 : t.val % 7 = 0
        · rw [outsAt0_F m c t h0 (by omega) (by omega) (by omega) (by omega) h6]
          exact p'
        · by_cases h3 : t.val % 7 ≤ 3
          · rw [outsAt0_B m c t h0 h3 (by omega) (by omega) (by omega) h6]
            exact p'
          · by_cases h4 : t.val % 7 = 4
            · rw [outsAt0_C m c t h0 h3 h4 (by omega) (by omega) h6]
              exact p'
            · rw [outsAt0_D m c t h0 h3 h4 (by omega) (by omega) h6]
              exact p'
    subst ht
    exact goal

theorem wb7 (t : Fin cfg0.N) (hf : (cfg0.win 7).flush t = true) (i : Fin 1088) (l : Fin 1024) : (dats m 0 c).after 7 t (ix2 i l) = P m c (t.val / 7 * 1088 + i) l := by
  have h6 : t.val % 7 = 6 := (flush0_7 t).mp hf
  rw [after0_7, outsAt0_E m c t (by omega) (by omega) (by omega) (by omega) (by omega) h6]
  dsimp only
  rw [oE7]
  refine Eq.trans ?_ (P_at _ l).symm
  refine congrArg₂ (HAdd.hAdd (α := EReal)) ?_ (congrFun (congr (congrArg₂ rb (funext fun k => h4 t i k) (funext fun k => ?_)) (funext fun k => whole t h6 i k)) l)
  · exact (ib5 t i l).trans (by rw [Nat.zero_mul, Nat.zero_add])
  · exact (ib6 t 0 k).trans (by simp only [Nat.zero_mul, Nat.zero_add]; rfl)

theorem fin7 : (dats m 0 c).arrAt 7 cfg0.N = (fill (P m c) : S8704x1024.Idx → EReal) := by
  refine (dats m 0 c).arrAt_eq_of_covers 7 _ (by decide +kernel) fun t hf y => ?_
  blk_simp
  obtain ⟨i, j, rfl⟩ : ∃ (i : Fin 1088) (j : Fin 1024), y = ix2 i j := ⟨y 0, y 1, eq_ix2 y⟩
  refine (wb7 t hf i j).trans ?_
  refine Eq.trans ?_ (fill_at (p := t.val / 7 * 1088 + i.val) (q := 0 * 1024 + j.val) _ (by constructor <;> blk_simp [(idx t)])).symm
  rw [Nat.zero_mul, Nat.zero_add]

theorem fin8 : (dats m 0 c).arrAt 8 cfg0.N = (fill (grp (Q m c) 1088) : S8x1024.Idx → EReal) := by
  refine (dats m 0 c).arrAt_eq_of_covers 8 _ (by decide +kernel) fun t hf y => ?_
  blk_simp
  obtain ⟨i, j, rfl⟩ : ∃ (i : Fin 8) (j : Fin 1024), y = ix2 i j := ⟨y 0, y 1, eq_ix2 y⟩
  have h : t.val % 56 = 55 := (flush0_8 t).mp hf
  have ht : t.val = 55 := by have := lt_of_lt_of_eq t.isLt (N_0 : cfg0.grid.N = 56); omega
  rw [after0_8]
  refine (acc t.val t.isLt i j).trans ?_
  refine Eq.trans ?_ (fill_at (p := 0 * 8 + i.val) (q := 0 * 1024 + j.val) _ (by constructor <;> blk_simp [(idx t)])).symm
  rw [Nat.zero_mul, Nat.zero_add, Nat.zero_add, ht]

theorem ref7 (c : Dev nD) (h0 : ∀ i, Rl (m ((c : Thread nD τ).loc main_arg0) i)) (h1 : ∀ i, Rl (m ((c : Thread nD τ).loc main_arg1) i)) (h2 : ∀ i, Rl (m ((c : Thread nD τ).loc main_arg2) i)) (h3 : ∀ i, Rl (m ((c : Thread nD τ).loc main_arg3) i))
    (h4 : ∀ i, Rl (m ((c : Thread nD τ).loc main_arg4) i)) (h6 : ∀ i, Rl (m ((c : Thread nD τ).loc main_arg6) i)) :
    Cert.Reference17Ideal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fill (P m c) := by
  funext z
  obtain ⟨i, l, rfl⟩ : ∃ (i : Fin 8704) (l : Fin 1024), z = ix2 i l := ⟨z 0, z 1, eq_ix2 z⟩
  refine (Cert.Reference17Ideal.Val.v50_at _ _ _ _ _ _ _ i l).trans (Eq.trans ?_ (P_at (i : ℕ) l).symm)
  have u : ∀ k : Fin 1024, Rl (U m c i k) := fun k => Rl.nt (Rl.join (Rl.ent h0) (Rl.join (Rl.ent h1) (Rl.ent h2))) (Rl.ent h3) _ _ _
  refine congrArg₂ (HAdd.hAdd (α := EReal)) (ent_at (a := 8704) (b := 1024) _ i l).symm (Eq.trans ?_ (rv_eq (fun k => Rl.ent h4 _ _) (fun k => Rl.ent h6 _ _) u l))
  exact congrFun (congr (congrArg₂ rv (funext fun k => (ent_at (a := 8704) (b := 1024) _ i k).symm) (funext fun k => (ent_at (a := 1) (b := 1024) _ 0 k).symm)) (funext fun k => Cert.Reference17Ideal.Val.v27_at _ _ _ _ i k)) l

theorem ref8 (c : Dev nD) :
    Cert.Reference17Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fill (grp (Q m c) 1088) := by
  funext z
  obtain ⟨j, l, rfl⟩ : ∃ (j : Fin 8) (l : Fin 1024), z = ix2 j l := ⟨z 0, z 1, eq_ix2 z⟩
  refine (Cert.Reference17Ideal.Val.v34_at _ _ _ _ _ j l).trans (Eq.trans ?_ (Finset.sum_range fun q => Q m c (q * 8 + j) l).symm)
  refine Finset.sum_congr rfl fun q _ => congrArg₂ (HMul.hMul (α := EReal)) (Cert.Reference17Ideal.Val.v27_at _ _ _ _ _ l) (congrArg₂ (HMul.hMul (α := EReal)) (ent_at (a := 8704) (b := 1024) _ (Cert.Reference17Ideal.Val.rw q j) l).symm (congrArg rs (funext fun k => (ent_at (a := 8704) (b := 1024) _ (Cert.Reference17Ideal.Val.rw q j) k).symm)))

/-- The call's two results are the gradients of the norm and the product. -/
theorem algebraic : Cert.algebraic_Kernel17Ideal_Reference17Ideal_pre_finite17 := by
  intro m g m' g' hp ha
  refine ⟨fun c => (dats m 0 c).arrAt 7 cfg0.N, fun c => (dats m 0 c).arrAt 8 cfg0.N, Value.run_blocks m g, ?_⟩
  refine (θ_run _ _ _).mono (fun r h c => ?_) (Cert.Reference17Ideal.Value.run m' g')
  obtain ⟨e0, e1, k⟩ := h c
  obtain ⟨a0, a1, a2, a3, a4, a5, a6⟩ := ha c
  obtain ⟨h0, h1, h2, h3, h4, h6⟩ := hp c
  rw [Cert.Reference17Ideal.Read.val_main_v50_eq, a0, a1, a2, a3, a4, a5, a6] at e0
  rw [Cert.Reference17Ideal.Read.val_main_v34_eq, a0, a1, a2, a3, a4] at e1
  refine ⟨e0.trans ?_, e1.trans ?_, k⟩
  · refine Eq.trans ?_ fin7.symm
    exact ref7 c (Rl.of_mask h0) (Rl.of_mask h1) (Rl.of_mask h2) (Rl.of_mask h3) (Rl.of_mask h4) (Rl.of_mask h6)
  · refine Eq.trans ?_ fin8.symm
    exact ref8 c

end Cert.Kernel17Ideal.Val
-- ==== Proof.K19.lean ====
/- The gradient of a joined product's left factor: 3 blocks of a 8704 by 3072 matrix, kept as 3 arguments, times the transpose of a 256 by 3072 one. -/
module

public import proofs.«01_k».proof.Proof.Seg
public import proofs.«01_k».proof.Defs
public import proofs.«01_k».proof.Proof.Gen.Kernel19Ideal.Value
public import proofs.«01_k».proof.Proof.Gen.Reference19Ideal.Run

@[expose] public section

set_option maxRecDepth 16384

noncomputable section

namespace Cert.Kernel19Ideal.Val

open Idealize.ShloMosaic Idealize.ShloMosaic.TcCoe Idealize.SL.Sem
open Cert.Kernel19Ideal Cert.Kernel19Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1088) (l : Fin 256) : k0_pay1 (F := Ideal) (ix2 i l) = 0 := by
  unfold k0_pay1
  pointwise

theorem pay2_at (a : Vec Ideal S1088x256 .f32) (x : Vec Ideal S1088x1024 .bf16) (y : Vec Ideal S256x1024 .bf16) (i : Fin 1088) (l : Fin 256) :
    k0_pay2 (F := Ideal) a x y (ix2 i l) = a (ix2 i l) + ∑ k : Fin 1024, x (ix2 i k) * y (ix2 l k) := by
  unfold k0_pay2
  pointwise

theorem idx : ∀ t : Fin cfg0.N, win0_0.index t = ![t.val / 3, 0] ∧ win0_1.index t = ![t.val / 3, 0] ∧ win0_2.index t = ![t.val / 3, 0] ∧ win0_3.index t = ![0, t.val % 3] ∧ win0_4.index t = ![t.val / 3, 0] :=
  (by decide +kernel : ∀ t : Fin grid0.N, _)

section
variable (m c)
/-- The entries of the call's arguments, and of the gradient's blocks side by side. -/
def A0 : ℕ → ℕ → EReal := ent (a := 8704) (b := 1024) (m ((c : Thread nD τ).loc main_arg0))
def A1 : ℕ → ℕ → EReal := ent (a := 8704) (b := 1024) (m ((c : Thread nD τ).loc main_arg1))
def A2 : ℕ → ℕ → EReal := ent (a := 8704) (b := 1024) (m ((c : Thread nD τ).loc main_arg2))
def W : ℕ → ℕ → EReal := ent (a := 256) (b := 3072) (m ((c : Thread nD τ).loc main_arg3))
def J : ℕ → ℕ → EReal := join 1024 (A0 m c) (join 1024 (A1 m c) (A2 m c))
end

theorem ib0 (t : Fin cfg0.N) (i : Fin 1088) (j : Fin 1024) : iblk m c 0 t (ix2 i j) = A0 m c (t.val / 3 * 1088 + i.val) (0 * 1024 + j.val) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = A1 m c (t.val / 3 * 1088 + i.val) (0 * 1024 + j.val) :=
  (congrFun (V_main_arg1 m c) (((cfg0.win 1).blk t).view.emb (ix2 i j))).trans (at_ent _ _ (by constructor <;> blk_simp [(idx t)]))

theorem ib2 (t : Fin cfg0.N) (i : Fin 1088) (j : Fin 1024) : iblk m c 2 t (ix2 i j) = A2 m c (t.val / 3 * 1088 + i.val) (0 * 1024 + j.val) :=
  (congrFun (V_main_arg2 m c) (((cfg0.win 2).blk t).view.emb (ix2 i j))).trans (at_ent _ _ (by constructor <;> blk_simp [(idx t)]))

theorem ib3 (t : Fin cfg0.N) (i : Fin 256) (j : Fin 1024) : iblk m c 3 t (ix2 i j) = W m c (0 * 256 + i.val) (t.val % 3 * 1024 + j.val) :=
  (congrFun (V_main_arg3 m c) (((cfg0.win 3).blk t).view.emb (ix2 i j))).trans (at_ent _ _ (by constructor <;> blk_simp [(idx t)]))

/-- One block of columns more. -/
theorem j0 (t : Fin cfg0.N) (h : t.val % 3 = 0) (i : Fin 1088) (k : Fin 1024) : iblk m c 0 t (ix2 i k) = J m c (t.val / 3 * 1088 + i.val) (t.val % 3 * 1024 + k.val) := by
  rw [ib0, h]
  rw [J, join_lt _ _ (by omega)]

theorem more0 (t : Fin cfg0.N) (h0 : t.val % 3 = 0) (a : Vec Ideal S1088x256 .f32) (i : Fin 1088) (l : Fin 256)
    (h : a (ix2 i l) = nt (J m c) (W m c) (t.val % 3 * 1024) (t.val / 3 * 1088 + i) (0 * 256 + l)) :
    k0_pay2 a (iblk m c 0 t) (iblk m c 3 t) (ix2 i l) = nt (J m c) (W m c) ((t.val % 3 + 1) * 1024) (t.val / 3 * 1088 + i) (0 * 256 + l) := by
  rw [pay2_at, h, ← nt_tile]
  exact congrArg _ (Finset.sum_congr rfl fun k _ => by rw [j0 t h0, ib3])

theorem j1 (t : Fin cfg0.N) (h : t.val % 3 = 1) (i : Fin 1088) (k : Fin 1024) : iblk m c 1 t (ix2 i k) = J m c (t.val / 3 * 1088 + i.val) (t.val % 3 * 1024 + k.val) := by
  rw [ib1, h]
  rw [J, join_ge _ _ (by omega), join_lt _ _ (by omega)]
  exact congrArg _ (by omega)

theorem more1 (t : Fin cfg0.N) (h0 : t.val % 3 = 1) (a : Vec Ideal S1088x256 .f32) (i : Fin 1088) (l : Fin 256)
    (h : a (ix2 i l) = nt (J m c) (W m c) (t.val % 3 * 1024) (t.val / 3 * 1088 + i) (0 * 256 + l)) :
    k0_pay2 a (iblk m c 1 t) (iblk m c 3 t) (ix2 i l) = nt (J m c) (W m c) ((t.val % 3 + 1) * 1024) (t.val / 3 * 1088 + i) (0 * 256 + l) := by
  rw [pay2_at, h, ← nt_tile]
  exact congrArg _ (Finset.sum_congr rfl fun k _ => by rw [j1 t h0, ib3])

theorem j2 (t : Fin cfg0.N) (h : t.val % 3 = 2) (i : Fin 1088) (k : Fin 1024) : iblk m c 2 t (ix2 i k) = J m c (t.val / 3 * 1088 + i.val) (t.val % 3 * 1024 + k.val) := by
  rw [ib2, h]
  rw [J, join_ge _ _ (by omega), join_ge _ _ (by omega)]
  exact congrArg _ (by omega)

theorem more2 (t : Fin cfg0.N) (h0 : t.val % 3 = 2) (a : Vec Ideal S1088x256 .f32) (i : Fin 1088) (l : Fin 256)
    (h : a (ix2 i l) = nt (J m c) (W m c) (t.val % 3 * 1024) (t.val / 3 * 1088 + i) (0 * 256 + l)) :
    k0_pay2 a (iblk m c 2 t) (iblk m c 3 t) (ix2 i l) = nt (J m c) (W m c) ((t.val % 3 + 1) * 1024) (t.val / 3 * 1088 + i) (0 * 256 + l) := by
  rw [pay2_at, h, ← nt_tile]
  exact congrArg _ (Finset.sum_congr rfl fun k _ => by rw [j2 t h0, ib3])

variable (i : grid0.Coords) (b3 : Memref sig .tc .vmem S1088x1024 .bf16) (k3 : b3.IsWhole) (b4 : Memref sig .tc .vmem S1088x1024 .bf16) (k4 : b4.IsWhole) (b5 : Memref sig .tc .vmem S1088x1024 .bf16) (k5 : b5.IsWhole) (b6 : Memref sig .tc .vmem S256x1024 .bf16) (k6 : b6.IsWhole) (b7 : Memref sig .tc .vmem S1088x256 .f32) (k7 : b7.IsWhole) (b8 : Memref sig .tc .vmem S1088x256 .f32) (k8 : b8.IsWhole)
  (x0 x1 x2 : Vec Ideal S1088x1024 .bf16) (x3 : Vec Ideal S256x1024 .bf16) (a : Vec Ideal S1088x256 .f32)

theorem sA (hc0 : cond0_0 i) (hc1 : cond0_1 i) (hc2 : ¬cond0_2 i) (hc3 : ¬cond0_3 i) (hc4 : ¬cond0_4 i) :
    sout0_A_0 c i b3 k3 b4 k4 b5 k5 b6 k6 b7 k7 b8 k8 hc0 hc1 hc2 hc3 hc4 x0 x1 x2 x3 = k0_pay2 (F := Ideal) (k0_pay1 (F := Ideal)) x0 x3 := by
  unfold sout0_A_0
  refine Eq.trans (View.read_writes_eq_canon _ _ _ fun _ => scover0_A_0 ..) ?_
  unfold kernelRun0_A
  dsimp only
  try sl_unfold_words
  rw [View.canon_cons_unit_zero (S := S1088x256) zz, View.readCov_unit_zero (S := S1088x256) _ zz]
  simp only [View.readAt_eq_ld, Memref.IsWhole.read_unread, View.ld_unit_zero (S := S1088x1024) zz, View.ld_unit_zero (S := S256x1024) zz, View.ld_unit_zero (S := S1088x256) zz, shapeCast_self]
  try rfl

theorem sB (hc0 : ¬cond0_0 i) (hc1 : ¬cond0_1 i) (hc2 : cond0_2 i) (hc3 : ¬cond0_3 i) (hc4 : ¬cond0_4 i) :
    sout0_B_0 c i b3 k3 b4 k4 b5 k5 b6 k6 b7 k7 b8 k8 hc0 hc1 hc2 hc3 hc4 x0 x1 x2 x3 a = k0_pay2 (F := Ideal) a x1 x3 := by
  unfold sout0_B_0
  refine Eq.trans (View.read_writes_eq_canon _ _ _ fun _ => scover0_B_0 ..) ?_
  unfold kernelRun0_B
  dsimp only
  try sl_unfold_words
  rw [View.canon_unit_zero zz]
  simp only [View.readAt_eq_ld, Memref.IsWhole.read_unread, View.ld_unit_zero (S := S1088x1024) zz, View.ld_unit_zero (S := S256x1024) zz, View.ld_unit_zero (S := S1088x256) zz, shapeCast_self]
  try rfl

theorem oC (hc0 : ¬cond0_0 i) (hc1 : ¬cond0_1 i) (hc2 : ¬cond0_2 i) (hc3 : cond0_3 i) (hc4 : cond0_4 i) :
    out0_C_4 c i b3 k3 b4 k4 b5 k5 b6 k6 b7 k7 b8 k8 hc0 hc1 hc2 hc3 hc4 x0 x1 x2 x3 a = k0_pay2 (F := Ideal) a x2 x3 := by
  unfold out0_C_4
  refine Eq.trans (View.read_writes_eq_canon _ _ _ fun _ => cover0_C_4 ..) ?_
  unfold kernelRun0_C
  dsimp only
  try sl_unfold_words
  rw [View.canon_unit_zero zz, View.readCov_unit_zero (S := S1088x256) _ zz]
  simp only [View.readAt_eq_ld, Memref.IsWhole.read_unread, View.ld_unit_zero (S := S1088x1024) zz, View.ld_unit_zero (S := S256x1024) zz, View.ld_unit_zero (S := S1088x256) zz, shapeCast_self]
  try rfl

theorem outsA (n : ℕ) (h : n < cfg0.N) (h0 : n % 3 = 0) (i : Fin 1088) (l : Fin 256) :
    (outsAt0 m c n h).2 (ix2 i l) = nt (J m c) (W m c) ((n % 3 + 1) * 1024) (n / 3 * 1088 + i) (0 * 256 + l) := by
  rw [outsAt0_A m c ⟨n, h⟩ h0 h0 (by show ¬n % 3 = _; omega) (by show ¬n % 3 = _; omega) (by show ¬n % 3 = _; omega), sA]
  refine more0 ⟨n, h⟩ h0 _ i l ?_
  show _ = nt (J m c) (W m c) (n % 3 * 1024) _ _
  rw [pay1_at, h0, Nat.zero_mul, nt_zero]

theorem outsB (n : ℕ) (h : n < cfg0.N) (h1 : n % 3 = 1) (i : Fin 1088) (l : Fin 256) :
    (outsAt0 m c n h).2 (ix2 i l) = nt (J m c) (W m c) ((n % 3 + 1) * 1024) (n / 3 * 1088 + i) (0 * 256 + l) := by
  rw [outsAt0_B m c ⟨n, h⟩ (by show ¬n % 3 = _; omega) (by show ¬n % 3 = _; omega) h1 (by show ¬n % 3 = _; omega) (by show ¬n % 3 = _; omega), sB]
  refine more1 ⟨n, h⟩ h1 _ i l ?_
  have q : n % 3 = (n - 1) % 3 + 1 := by omega
  have e : n / 3 = (n - 1) / 3 := by omega
  show (outsAt0 m c (n - 1) _).2 (ix2 i l) = nt (J m c) (W m c) (n % 3 * 1024) (n / 3 * 1088 + i) _
  rw [outsA (n - 1) _ (by omega), e, ← q]

theorem wb (t : Fin cfg0.N) (hf : (cfg0.win 4).flush t = true) (i : Fin 1088) (l : Fin 256) :
    (dats m 0 c).after 4 t (ix2 i l) = nt (J m c) (W m c) 3072 (t.val / 3 * 1088 + i) (0 * 256 + l) := by
  have h1 : t.val % 3 = 2 := (flush0_4 t).mp hf
  have q : t.val % 3 = (t.val - 1) % 3 + 1 := by omega
  have e : t.val / 3 = (t.val - 1) / 3 := by omega
  rw [after0_4, outsAt0_C m c t (by omega) (by omega) (by omega) h1 h1, oC]
  refine (more2 t h1 _ i l ?_).trans (by rw [h1])
  rw [outsB (t.val - 1) _ (by omega), e, ← q]

theorem fin : (dats m 0 c).arrAt 4 cfg0.N = (fill (nt (J m c) (W m c) 3072) : S8704x256.Idx → EReal) := by
  refine (dats m 0 c).arrAt_eq_of_covers 4 _ (by decide +kernel) fun t hf y => ?_
  blk_simp
  obtain ⟨i, j, rfl⟩ : ∃ (i : Fin 1088) (j : Fin 256), y = ix2 i j := ⟨y 0, y 1, eq_ix2 y⟩
  refine (wb t hf i j).trans ?_
  exact (fill_at (p := t.val / 3 * 1088 + i.val) (q := 0 * 256 + j.val) _ (by constructor <;> blk_simp [(idx t)])).symm

/-- The reference's gradient. -/
theorem ref (x0 : FVec Ideal Cert.Reference19Ideal.S8704x1024 .bf16) (x1 : FVec Ideal Cert.Reference19Ideal.S8704x1024 .bf16) (x2 : FVec Ideal Cert.Reference19Ideal.S8704x1024 .bf16) (y : FVec Ideal Cert.Reference19Ideal.S256x3072 .bf16) :
    (Host.dotGeneral (F := Ideal) Cert.Reference19Ideal.dot_S8704x3072_S256x3072_S8704x256_1_1_0_0_n_n none (concatenate Cert.Reference19Ideal.S8704x3072 1 [⟨Cert.Reference19Ideal.S8704x1024, (extf .f32 x0 Cert.Reference19Ideal.Gen.bitsLt_bf16_f32 : FVec Ideal Cert.Reference19Ideal.S8704x1024 .f32)⟩, ⟨Cert.Reference19Ideal.S8704x1024, (extf .f32 x1 Cert.Reference19Ideal.Gen.bitsLt_bf16_f32 : FVec Ideal Cert.Reference19Ideal.S8704x1024 .f32)⟩, ⟨Cert.Reference19Ideal.S8704x1024, (extf .f32 x2 Cert.Reference19Ideal.Gen.bitsLt_bf16_f32 : FVec Ideal Cert.Reference19Ideal.S8704x1024 .f32)⟩] Cert.Reference19Ideal.Gen.concatenates_S8704x1024_S8704x1024_S8704x1024_S8704x3072_d1) (extf .f32 y Cert.Reference19Ideal.Gen.bitsLt_bf16_f32) : Vec Ideal Cert.Reference19Ideal.S8704x256 .f32) = fill (nt (join 1024 (ent (a := 8704) (b := 1024) x0) (join 1024 (ent (a := 8704) (b := 1024) x1) (ent (a := 8704) (b := 1024) x2))) (ent (a := 256) (b := 3072) y) 3072) := by
  funext z
  obtain ⟨i, l, rfl⟩ : ∃ (i : Fin 8704) (l : Fin 256), z = ix2 i l := ⟨z 0, z 1, eq_ix2 z⟩
  refine Eq.trans ?_ (nt_half (join 1024 (ent (a := 8704) (b := 1024) x0) (join 1024 (ent (a := 8704) (b := 1024) x1) (ent (a := 8704) (b := 1024) x2))) y i l).symm
  refine Eq.trans (b := ∑ k : Fin 3072, (concatenate Cert.Reference19Ideal.S8704x3072 1 [⟨Cert.Reference19Ideal.S8704x1024, (extf .f32 x0 Cert.Reference19Ideal.Gen.bitsLt_bf16_f32 : FVec Ideal Cert.Reference19Ideal.S8704x1024 .f32)⟩, ⟨Cert.Reference19Ideal.S8704x1024, (extf .f32 x1 Cert.Reference19Ideal.Gen.bitsLt_bf16_f32 : FVec Ideal Cert.Reference19Ideal.S8704x1024 .f32)⟩, ⟨Cert.Reference19Ideal.S8704x1024, (extf .f32 x2 Cert.Reference19Ideal.Gen.bitsLt_bf16_f32 : FVec Ideal Cert.Reference19Ideal.S8704x1024 .f32)⟩] Cert.Reference19Ideal.Gen.concatenates_S8704x1024_S8704x1024_S8704x1024_S8704x3072_d1 : Vec Ideal Cert.Reference19Ideal.S8704x3072 .f32) (ix2 i k) * y (ix2 l k)) ?_ ?_
  · pointwise
  refine Finset.sum_congr rfl fun k _ => congrArg (HMul.hMul (α := EReal) · _) ?_
  refine Eq.trans ?_ (join_cat3 x0 x1 x2 i k rfl).symm
  pointwise

/-- The call's gradient is the reference's, whatever its arguments. -/
theorem algebraic : Cert.algebraic_Kernel19Ideal_Reference19Ideal := by
  intro m g m' g' _ ha
  refine ⟨fun c => (dats m 0 c).arrAt 4 cfg0.N, Value.run_blocks m g, ?_⟩
  refine (θ_run _ _ _).mono (fun r h c => ?_) (Cert.Reference19Ideal.Value.run m' g')
  obtain ⟨e0, k⟩ := h c
  obtain ⟨a0, a1, a2, a3⟩ := ha c
  refine ⟨e0.trans ((ref _ _ _ _ ).trans ?_), k⟩
  refine Eq.trans ?_ fin.symm
  refine congrArg₂ (fun x y => fill (nt x y 3072)) (congrArg₂ (join 1024) (congrArg (ent (a := 8704) (b := 1024)) a0) ?_) (congrArg (ent (a := 256) (b := 3072)) a3)
  exact congrArg₂ (join 1024) (congrArg (ent (a := 8704) (b := 1024)) a1) (congrArg (ent (a := 8704) (b := 1024)) a2)

end Cert.Kernel19Ideal.Val
-- ==== Proof.K20.lean ====
/- The gradient of a joined product's left factor: 2 blocks of a 8704 by 2048 matrix, kept as 2 arguments, times the transpose of a 256 by 2048 one. -/
module

public import proofs.«01_k».proof.Proof.Seg
public import proofs.«01_k».proof.Defs
public import proofs.«01_k».proof.Proof.Gen.Kernel20Ideal.Value
public import proofs.«01_k».proof.Proof.Gen.Reference20Ideal.Run

@[expose] public section

set_option maxRecDepth 16384

noncomputable section

namespace Cert.Kernel20Ideal.Val

open Idealize.ShloMosaic Idealize.ShloMosaic.TcCoe Idealize.SL.Sem
open Cert.Kernel20Ideal Cert.Kernel20Ideal.Gen Cert.Prod

variable {m : (ℓ : Loc nD τ sig) → Buf (Elt Ideal) ℓ} {c : Dev nD}

theorem zz : (![0, 0] : Fin 2 → Nat) = fun _ => 0 := funext fun a => by fin_cases a <;> rfl

theorem pay1_at (i : Fin 1088) (l : Fin 256) : k0_pay1 (F := Ideal) (ix2 i l) = 0 := by
  unfold k0_pay1
  pointwise

theorem pay2_at (a : Vec Ideal S1088x256 .f32) (x : Vec Ideal S1088x1024 .bf16) (y : Vec Ideal S256x1024 .bf16) (i : Fin 1088) (l : Fin 256) :
    k0_pay2 (F := Ideal) a x y (ix2 i l) = a (ix2 i l) + ∑ k : Fin 1024, x (ix2 i k) * y (ix2 l k) := by
  unfold k0_pay2
  pointwise

theorem idx : ∀ t : Fin cfg0.N, win0_0.index t = ![t.val / 2, 0] ∧ win0_1.index t = ![t.val / 2, 0] ∧ win0_2.index t = ![0, t.val % 2] ∧ win0_3.index t = ![t.val / 2, 0] :=
  (by decide +kernel : ∀ t : Fin grid0.N, _)

section
variable (m c)
/-- The entries of the call's arguments, and of the gradient's blocks side by side. -/
def A0 : ℕ → ℕ → EReal := ent (a := 8704) (b := 1024) (m ((c : Thread nD τ).loc main_arg0))
def A1 : ℕ → ℕ → EReal := ent (a := 8704) (b := 1024) (m ((c : Thread nD τ).loc main_arg1))
def W : ℕ → ℕ → EReal := ent (a := 256) (b := 2048) (m ((c : Thread nD τ).loc main_arg2))
def J : ℕ → ℕ → EReal := join 1024 (A0 m c) (A1 m c)
end

theorem ib0 (t : Fin cfg0.N) (i : Fin 1088) (j : Fin 1024) : iblk m c 0 t (ix2 i j) = A0 m c (t.val / 2 * 1088 + i.val) (0 * 1024 + j.val) :=
  (congrFun (V_main_arg0 m c) (((cfg0.win 0).blk t).view.emb (ix2 i j))).trans (at_ent _ _ (by constructor <;> blk_simp [(idx t)]))

theorem ib1 (t : Fin cfg0.N) (i : Fin 1088) (j : Fin 1024) : iblk m c 1 t (ix2 i j) = A1 m c (t.val / 2 * 1088 + i.val) (0 * 1024 + j.val) :=
  (congrFun (V_main_arg1 m c) (((cfg0.win 1).blk t).view.emb (ix2 i j))).trans (at_ent _ _ (by constructor <;> blk_simp [(idx t)]))

theorem ib2 (t : Fin cfg0.N) (i : Fin 256) (j : Fin 1024) : iblk m c 2 t (ix2 i j) = W m c (0 * 256 + i.val) (t.val % 2 * 1024 + j.val) :=
  (congrFun (V_main_arg2 m c) (((cfg0.win 2).blk t).view.emb (ix2 i j))).trans (at_ent _ _ (by constructor <;> blk_simp [(idx t)]))

/-- One block of columns more. -/
theorem j0 (t : Fin cfg0.N) (h : t.val % 2 = 0) (i : Fin 1088) (k : Fin 1024) : iblk m c 0 t (ix2 i k) = J m c (t.val / 2 * 1088 + i.val) (t.val % 2 * 1024 + k.val) := by
  rw [ib0, h]
  rw [J, join_lt _ _ (by omega)]

theorem more0 (t : Fin cfg0.N) (h0 : t.val % 2 = 0) (a : Vec Ideal S1088x256 .f32) (i : Fin 1088) (l : Fin 256)
    (h : a (ix2 i l) = nt (J m c) (W m c) (t.val % 2 * 1024) (t.val / 2 * 1088 + i) (0 * 256 + l)) :
    k0_pay2 a (iblk m c 0 t) (iblk m c 2 t) (ix2 i l) = nt (J m c) (W m c) ((t.val % 2 + 1) * 1024) (t.val / 2 * 1088 + i) (0 * 256 + l) := by
  rw [pay2_at, h, ← nt_tile]
  exact congrArg _ (Finset.sum_congr rfl fun k _ => by rw [j0 t h0, ib2])

theorem j1 (t : Fin cfg0.N) (h : t.val % 2 = 1) (i : Fin 1088) (k : Fin 1024) : iblk m c 1 t (ix2 i k) = J m c (t.val / 2 * 1088 + i.val) (t.val % 2 * 1024 + k.val) := by
  rw [ib1, h]
  rw [J, join_ge _ _ (by omega)]
  exact congrArg _ (by omega)

theorem more1 (t : Fin cfg0.N) (h0 : t.val % 2 = 1) (a : Vec Ideal S1088x256 .f32) (i : Fin 1088) (l : Fin 256)
    (h : a (ix2 i l) = nt (J m c) (W m c) (t.val % 2 * 1024) (t.val / 2 * 1088 + i) (0 * 256 + l)) :
    k0_pay2 a (iblk m c 1 t) (iblk m c 2 t) (ix2 i l) = nt (J m c) (W m c) ((t.val % 2 + 1) * 1024) (t.val / 2 * 1088 + i) (0 * 256 + l) := by
  rw [pay2_at, h, ← nt_tile]
  exact congrArg _ (Finset.sum_congr rfl fun k _ => by rw [j1 t h0, ib2])

variable (i : grid0.Coords) (b3 : Memref sig .tc .vmem S1088x1024 .bf16) (k3 : b3.IsWhole) (b4 : Memref sig .tc .vmem S1088x1024 .bf16) (k4 : b4.IsWhole) (b5 : Memref sig .tc .vmem S256x1024 .bf16) (k5 : b5.IsWhole) (b6 : Memref sig .tc .vmem S1088x256 .f32) (k6 : b6.IsWhole) (b7 : Memref sig .tc .vmem S1088x256 .f32) (k7 : b7.IsWhole)
  (x0 x1 : Vec Ideal S1088x1024 .bf16) (x2 : Vec Ideal S256x1024 .bf16) (a : Vec Ideal S1088x256 .f32)

theorem sA (hc0 : cond0_0 i) (hc1 : cond0_1 i) (hc2 : ¬cond0_2 i) (hc3 : ¬cond0_3 i) :
    sout0_A_0 c i b3 k3 b4 k4 b5 k5 b6 k6 b7 k7 hc0 hc1 hc2 hc3 x0 x1 x2 = k0_pay2 (F := Ideal) (k0_pay1 (F := Ideal)) x0 x2 := by
  unfold sout0_A_0
  refine Eq.trans (View.read_writes_eq_canon _ _ _ fun _ => scover0_A_0 ..) ?_
  unfold kernelRun0_A
  dsimp only
  try sl_unfold_words
  rw [View.canon_cons_unit_zero (S := S1088x256) zz, View.readCov_unit_zero (S := S1088x256) _ zz]
  simp only [View.readAt_eq_ld, Memref.IsWhole.read_unread, View.ld_unit_zero (S := S1088x1024) zz, View.ld_unit_zero (S := S256x1024) zz, View.ld_unit_zero (S := S1088x256) zz, shapeCast_self]
  try rfl

theorem oB (hc0 : ¬cond0_0 i) (hc1 : ¬cond0_1 i) (hc2 : cond0_2 i) (hc3 : cond0_3 i) :
    out0_B_3 c i b3 k3 b4 k4 b5 k5 b6 k6 b7 k7 hc0 hc1 hc2 hc3 x0 x1 x2 a = k0_pay2 (F := Ideal) a x1 x2 := by
  unfold out0_B_3
  refine Eq.trans (View.read_writes_eq_canon _ _ _ fun _ => cover0_B_3 ..) ?_
  unfold kernelRun0_B
  dsimp only
  try sl_unfold_words
  rw [View.canon_unit_zero zz, View.readCov_unit_zero (S := S1088x256) _ zz]
  simp only [View.readAt_eq_ld, Memref.IsWhole.read_unread, View.ld_unit_zero (S := S1088x1024) zz, View.ld_unit_zero (S := S256x1024) zz, View.ld_unit_zero (S := S1088x256) zz, shapeCast_self]
  try rfl

theorem outsA (n : ℕ) (h : n < cfg0.N) (h0 : n % 2 = 0) (i : Fin 1088) (l : Fin 256) :
    (outsAt0 m c n h).2 (ix2 i l) = nt (J m c) (W m c) ((n % 2 + 1) * 1024) (n / 2 * 1088 + i) (0 * 256 + l) := by
  rw [outsAt0_A m c ⟨n, h⟩ h0 h0 (by show ¬n % 2 = _; omega) (by show ¬n % 2 = _; omega), sA]
  refine more0 ⟨n, h⟩ h0 _ i l ?_
  show _ = nt (J m c) (W m c) (n % 2 * 1024) _ _
  rw [pay1_at, h0, Nat.zero_mul, nt_zero]

theorem wb (t : Fin cfg0.N) (hf : (cfg0.win 3).flush t = true) (i : Fin 1088) (l : Fin 256) :
    (dats m 0 c).after 3 t (ix2 i l) = nt (J m c) (W m c) 2048 (t.val / 2 * 1088 + i) (0 * 256 + l) := by
  have h1 : t.val % 2 = 1 := (flush0_3 t).mp hf
  have q : t.val % 2 = (t.val - 1) % 2 + 1 := by omega
  have e : t.val / 2 = (t.val - 1) / 2 := by omega
  rw [after0_3, outsAt0_B m c t (by omega) (by omega) h1 h1, oB]
  refine (more1 t h1 _ i l ?_).trans (by rw [h1])
  rw [outsA (t.val - 1) _ (by omega), e, ← q]

theorem fin : (dats m 0 c).arrAt 3 cfg0.N = (fill (nt (J m c) (W m c) 2048) : S8704x256.Idx → EReal) := by
  refine (dats m 0 c).arrAt_eq_of_covers 3 _ (by decide +kernel) fun t hf y => ?_
  blk_simp
  obtain ⟨i, j, rfl⟩ : ∃ (i : Fin 1088) (j : Fin 256), y = ix2 i j := ⟨y 0, y 1, eq_ix2 y⟩
  refine (wb t hf i j).trans ?_
  exact (fill_at (p := t.val / 2 * 1088 + i.val) (q := 0 * 256 + j.val) _ (by constructor <;> blk_simp [(idx t)])).symm

/-- The reference's gradient. -/
theorem ref (x0 : FVec Ideal Cert.Reference20Ideal.S8704x1024 .bf16) (x1 : FVec Ideal Cert.Reference20Ideal.S8704x1024 .bf16) (y : FVec Ideal Cert.Reference20Ideal.S256x2048 .bf16) :
    (Host.dotGeneral (F := Ideal) Cert.Reference20Ideal.dot_S8704x2048_S256x2048_S8704x256_1_1_0_0_n_n none (concatenate Cert.Reference20Ideal.S8704x2048 1 [⟨Cert.Reference20Ideal.S8704x1024, (extf .f32 x0 Cert.Reference20Ideal.Gen.bitsLt_bf16_f32 : FVec Ideal Cert.Reference20Ideal.S8704x1024 .f32)⟩, ⟨Cert.Reference20Ideal.S8704x1024, (extf .f32 x1 Cert.Reference20Ideal.Gen.bitsLt_bf16_f32 : FVec Ideal Cert.Reference20Ideal.S8704x1024 .f32)⟩] Cert.Reference20Ideal.Gen.concatenates_S8704x1024_S8704x1024_S8704x2048_d1) (extf .f32 y Cert.Reference20Ideal.Gen.bitsLt_bf16_f32) : Vec Ideal Cert.Reference20Ideal.S8704x256 .f32) = fill (nt (join 1024 (ent (a := 8704) (b := 1024) x0) (ent (a := 8704) (b := 1024) x1)) (ent (a := 256) (b := 2048) y) 2048) := by
  funext z
  obtain ⟨i, l, rfl⟩ : ∃ (i : Fin 8704) (l : Fin 256), z = ix2 i l := ⟨z 0, z 1, eq_ix2 z⟩
  refine Eq.trans ?_ (nt_half (join 1024 (ent (a := 8704) (b := 1024) x0) (ent (a := 8704) (b := 1024) x1)) y i l).symm
  refine Eq.trans (b := ∑ k : Fin 2048, (concatenate Cert.Reference20Ideal.S8704x2048 1 [⟨Cert.Reference20Ideal.S8704x1024, (extf .f32 x0 Cert.Reference20Ideal.Gen.bitsLt_bf16_f32 : FVec Ideal Cert.Reference20Ideal.S8704x1024 .f32)⟩, ⟨Cert.Reference20Ideal.S8704x1024, (extf .f32 x1 Cert.Reference20Ideal.Gen.bitsLt_bf16_f32 : FVec Ideal Cert.Reference20Ideal.S8704x1024 .f32)⟩] Cert.Reference20Ideal.Gen.concatenates_S8704x1024_S8704x1024_S8704x2048_d1 : Vec Ideal Cert.Reference20Ideal.S8704x2048 .f32) (ix2 i k) * y (ix2 l k)) ?_ ?_
  · pointwise
  refine Finset.sum_congr rfl fun k _ => congrArg (HMul.hMul (α := EReal) · _) ?_
  refine Eq.trans ?_ (join_cat2 x0 x1 i k rfl).symm
  pointwise

/-- The call's gradient is the reference's, whatever its arguments. -/
theorem algebraic : Cert.algebraic_Kernel20Ideal_Reference20Ideal := by
  intro m g m' g' _ ha
  refine ⟨fun c => (dats m 0 c).arrAt 3 cfg0.N, Value.run_blocks m g, ?_⟩
  refine (θ_run _ _ _).mono (fun r h c => ?_) (Cert.Reference20Ideal.Value.run m' g')
  obtain ⟨e0, k⟩ := h c
  obtain ⟨a0, a1, a2⟩ := ha c
  refine ⟨e0.trans ((ref _ _ _ ).trans ?_), k⟩
  refine Eq.trans ?_ fin.symm
  refine congrArg₂ (fun x y => fill (nt x y 2048)) (congrArg₂ (join 1024) (congrArg (ent (a := 8704) (b := 1024)) a0) ?_) (congrArg (ent (a := 256) (b := 2048)) a2)
  exact congrArg (ent (a := 8704) (b := 1024)) a1

end Cert.Kernel20Ideal.Val
-- ==== Proof.Row.lean ====
/- Slices of rows of a block, loaded and stored. -/
module

public import proofs.«01_k».proof.Proof.Seg

@[expose] public section

noncomputable section

namespace Cert.Prod

open Idealize.ShloMosaic

/-- A load of a slice of rows, and a store of one, at an entry. -/
theorem ld_rows {a b n : ℕ} {e : EltTy} (o : ℕ) (inb : ∀ d, (![o, 0] : Fin 2 → ℕ) d + (⟨2, ![b, n]⟩ : Shape).size d ≤ (⟨2, ![a, n]⟩ : Shape).size d) (Z : Vec Ideal ⟨2, ![a, n]⟩ e) (p : Fin b) (k : Fin n) (i : Fin a) (h : (i : ℕ) = o + p) :
    View.ld Z (Rect.unit (s := ⟨2, ![a, n]⟩) ![o, 0] (⟨2, ![b, n]⟩ : Shape).size inb) (ix2 p k) = Z (ix2 i k) :=
  View.ld_unit_apply_of Z _ _ inb (ix2 p k) (ix2 i k) fun d => by
    fin_cases d
    · exact h
    · exact (Nat.zero_add _).symm

theorem st_rows {a b n : ℕ} {e : EltTy} (o : ℕ) (v : Vec Ideal ⟨2, ![b, n]⟩ e) (r : Elt Ideal e) (i : Fin a) (l : Fin n) (h : ∀ p : Fin b, (i : ℕ) = o + p → v (ix2 p l) = r) :
    View.TileAt (Val := Elt Ideal) (e := e) (S := ⟨2, ![a, n]⟩) (ix2 i l) ![o, 0] (⟨2, ![b, n]⟩ : Shape).size v r := by
  intro x hx
  obtain ⟨p, q, rfl⟩ : ∃ (p : Fin b) (q : Fin n), x = ix2 p q := ⟨x 0, x 1, eq_ix2 x⟩
  obtain rfl : l = q := Fin.ext ((hx 1).trans (Nat.zero_add _))
  exact h p (hx 0)

end Cert.Prod
-- ==== Proof.K21.lean ====
/- The input gradient of the output product, carried back through the gates that merge the two branches. -/
module

public import proofs.«01_k».proof.Proof.Row
public import proofs.«01_k».proof.Proof.EN
public import proofs.«01_k».proof.Defs
public import proofs.«01_k».proof.Proof.Gen.Kernel21Ideal.Value
public import proofs.«01_k».proof.Proof.Gen.Reference21Ideal.Read
public import Idealize.ShloMosaic.Lib.Pipeline.ReadBack
public import Idealize.ShloMosaic.Lib.IdealHost

@[expose] public section

set_option maxRecDepth 16384

noncomputable section

namespace Cert.Kernel21Ideal.Val

open Idealize.ShloMosaic Idealize.ShloMosaic.TcCoe Idealize.SL.Sem
open Cert.Kernel21Ideal Cert.Kernel21Ideal.Gen Cert.Prod

variable {m : (ℓ : Loc nD τ sig) → Buf (Elt Ideal) ℓ} {c : Dev nD}

theorem zz : (![0, 0] : Fin 2 → Nat) = fun _ => 0 := funext fun a => by fin_cases a <;> rfl
theorem z2 : ∀ a : Fin 2, (![0, 0] : Fin 2 → Nat) a = 0 := fun a => congrFun zz a

theorem pay2_at (x : Vec Ideal S544x1024 .bf16) (y : Vec Ideal S1024x1024 .bf16) (i : Fin 544) (l : Fin 1024) :
    k0_pay2 (F := Ideal) (k0_pay1 (F := Ideal)) x y (ix2 i l) = ∑ k : Fin 1024, x (ix2 i k) * y (ix2 l k) := by
  unfold k0_pay2 k0_pay1
  pointwise

/-- The gradient of a gate's argument, the gate being `g`; and the gradients of both gates' arguments, side by side. -/
abbrev gg (d y g : EReal) : EReal := d * y * g * (1 - g)
def gs {n : ℕ} (a b y z d : Vec Ideal ⟨2, ![n, 1024]⟩ .f32) (g : Vec Ideal S1x2048 .f32) (p : Fin n) (l : Fin 2048) : EReal :=
  if h : (l : ℕ) < 1024 then gg (d (ix2 p ⟨l, h⟩)) (y (ix2 p ⟨l, h⟩)) (Ideal.logistic (a (ix2 p ⟨l, h⟩) + g (ix2 0 l)))
  else gg (d (ix2 p ⟨l - 1024, by omega⟩)) (z (ix2 p ⟨l - 1024, by omega⟩)) (Ideal.logistic (b (ix2 p ⟨l - 1024, by omega⟩) + g (ix2 0 l)))

theorem pay7_at (a b y z d : Vec Ideal S272x1024 .f32) (g : Vec Ideal S1x2048 .f32) (i : Fin 272) (l : Fin 2048) :
    k0_pay7 (F := Ideal) a b y z g d (ix2 i l) = gs (n := 272) a b y z d g i l := by
  unfold k0_pay7 k0_pay5 k0_pay6 gs
  pointwise
  split
  · rfl
  · next h =>
    have e : (⟨1024 + (l.val - 1024), by omega⟩ : Fin 2048) = l := Fin.ext (by show 1024 + (l.val - 1024) = l.val; omega)
    rw [e]

theorem pay9_at (a d : Vec Ideal S272x1024 .f32) (g : Vec Ideal S1x2048 .f32) (i : Fin 272) (l : Fin 1024) :
    k0_pay9 (F := Ideal) a g d (ix2 i l) = d (ix2 i l) * Ideal.logistic (a (ix2 i l) + g (ix2 0 ⟨l, by omega⟩)) := by
  unfold k0_pay9 k0_pay5
  pointwise

theorem pay10_at (a d : Vec Ideal S272x1024 .f32) (g : Vec Ideal S1x2048 .f32) (i : Fin 272) (l : Fin 1024) :
    k0_pay10 (F := Ideal) a g d (ix2 i l) = d (ix2 i l) * Ideal.logistic (a (ix2 i l) + g (ix2 0 ⟨1024 + l, by omega⟩)) := by
  unfold k0_pay10 k0_pay6
  pointwise

theorem pay4_at (x : Vec Ideal S272x2048 .f32) (a : Vec Ideal S8x2048 .f32) (j : Fin 8) (l : Fin 2048) :
    k0_pay4 (F := Ideal) x a (ix2 j l) = a (ix2 j l) + ∑ q : Fin 34, x (ix2 ⟨q * 8 + j, by omega⟩ l) := by
  unfold k0_pay4
  pointwise

theorem idx : ∀ t : Fin cfg0.N, win0_0.index t = ![t.val, 0] ∧ win0_1.index t = ![0, 0] ∧ win0_2.index t = ![t.val, 5] ∧ win0_3.index t = ![t.val, 6] ∧ win0_4.index t = ![t.val, 0] ∧ win0_5.index t = ![t.val, 0] ∧ win0_6.index t = ![0, 0] ∧ win0_7.index t = ![t.val, 0] ∧ win0_8.index t = ![t.val, 0] ∧ win0_9.index t = ![t.val, 0] ∧ win0_10.index t = ![0, 0] :=
  (by decide +kernel : ∀ t : Fin grid0.N, _)

section
variable (m c)
/-- The entries of the call's arguments; the product, and its gradients through the gates. -/
def A : ℕ → ℕ → EReal := ent (a := 8704) (b := 1024) (m ((c : Thread nD τ).loc main_arg0))
def W : ℕ → ℕ → EReal := ent (a := 1024) (b := 1024) (m ((c : Thread nD τ).loc main_arg1))
def P : ℕ → ℕ → EReal := ent (a := 8704) (b := 7168) (m ((c : Thread nD τ).loc main_arg2))
def Y : ℕ → ℕ → EReal := ent (a := 8704) (b := 1024) (m ((c : Thread nD τ).loc main_arg3))
def Z : ℕ → ℕ → EReal := ent (a := 8704) (b := 1024) (m ((c : Thread nD τ).loc main_arg4))
def B : ℕ → ℕ → EReal := ent (a := 1) (b := 2048) (m ((c : Thread nD τ).loc main_arg5))
def U : ℕ → ℕ → EReal := nt (A m c) (W m c) 1024
def L (r l : ℕ) : EReal := Ideal.logistic (P m c r (5 * 1024 + l) + B m c 0 l)
def G (r l : ℕ) : EReal := if l < 1024 then gg (U m c r l) (Y m c r l) (L m c r l) else gg (U m c r (l - 1024)) (Z m c r (l - 1024)) (L m c r l)
def DY (r l : ℕ) : EReal := U m c r l * L m c r l
def DZ (r l : ℕ) : EReal := U m c r l * L m c r (1024 + l)
end

theorem ib0 (t : Fin cfg0.N) (i : Fin 544) (j : Fin 1024) : iblk m c 0 t (ix2 i j) = A m c (t.val * 544 + i.val) j.val :=
  (congrFun (V_main_arg0 m c) (((cfg0.win 0).blk t).view.emb (ix2 i j))).trans (at_ent _ _ (by constructor <;> blk_simp [(idx t)]))

theorem ib1 (t : Fin cfg0.N) (i : Fin 1024) (j : Fin 1024) : iblk m c 1 t (ix2 i j) = W m c i.val j.val :=
  (congrFun (V_main_arg1 m c) (((cfg0.win 1).blk t).view.emb (ix2 i j))).trans (at_ent _ _ (by constructor <;> blk_simp [(idx t)]))

theorem ib2 (t : Fin cfg0.N) (i : Fin 544) (j : Fin 1024) : iblk m c 2 t (ix2 i j) = P m c (t.val * 544 + i.val) (5 * 1024 + j.val) :=
  (congrFun (V_main_arg2 m c) (((cfg0.win 2).blk t).view.emb (ix2 i j))).trans (at_ent _ _ (by constructor <;> blk_simp [(idx t)]))

theorem ib3 (t : Fin cfg0.N) (i : Fin 544) (j : Fin 1024) : iblk m c 3 t (ix2 i j) = P m c (t.val * 544 + i.val) (6 * 1024 + j.val) :=
  (congrFun (V_main_arg2 m c) (((cfg0.win 3).blk t).view.emb (ix2 i j))).trans (at_ent _ _ (by constructor <;> blk_simp [(idx t)]))

theorem ib4 (t : Fin cfg0.N) (i : Fin 544) (j : Fin 1024) : iblk m c 4 t (ix2 i j) = Y m c (t.val * 544 + i.val) j.val :=
  (congrFun (V_main_arg3 m c) (((cfg0.win 4).blk t).view.emb (ix2 i j))).trans (at_ent _ _ (by constructor <;> blk_simp [(idx t)]))

theorem ib5 (t : Fin cfg0.N) (i : Fin 544) (j : Fin 1024) : iblk m c 5 t (ix2 i j) = Z m c (t.val * 544 + i.val) j.val :=
  (congrFun (V_main_arg4 m c) (((cfg0.win 5).blk t).view.emb (ix2 i j))).trans (at_ent _ _ (by constructor <;> blk_simp [(idx t)]))

theorem ib6 (t : Fin cfg0.N) (j : Fin 2048) : iblk m c 6 t (ix2 0 j) = B m c 0 j.val :=
  (congrFun (V_main_arg5 m c) (((cfg0.win 6).blk t).view.emb (ix2 0 j))).trans (at_ent _ _ (by constructor <;> blk_simp [(idx t)]; rfl))

abbrev pr (x0 : Vec Ideal S544x1024 .bf16) (x1 : Vec Ideal S1024x1024 .bf16) : Vec Ideal S544x1024 .f32 := k0_pay2 (F := Ideal) (k0_pay1 (F := Ideal)) x0 x1

theorem prod_at (t : Fin cfg0.N) (i : Fin 544) (l : Fin 1024) : pr (iblk m c 0 t) (iblk m c 1 t) (ix2 i l) = U m c (t.val * 544 + i) l := by
  rw [pr, pay2_at, U, nt, Finset.sum_range]
  exact Finset.sum_congr rfl fun k _ => by rw [ib0, ib1]

theorem gs_at (t : Fin cfg0.N) (i : Fin 544) (l : Fin 2048) :
    gs (n := 544) (iblk m c 2 t) (iblk m c 3 t) (iblk m c 4 t) (iblk m c 5 t) (pr (iblk m c 0 t) (iblk m c 1 t)) (iblk m c 6 t) i l = G m c (t.val * 544 + i) l := by
  unfold gs G L
  split
  · rw [prod_at, ib2, ib4, ib6]
  · rw [prod_at, ib3, ib5, ib6, show 6 * 1024 + (l.val - 1024) = 5 * 1024 + l.val by omega]

/-- A slice of rows. -/
abbrev sl (o : ℕ) (inb : ∀ a, (![o, 0] : Fin 2 → ℕ) a + S272x1024.size a ≤ S544x1024.size a) (X : Vec Ideal S544x1024 .f32) := View.ld X (Rect.unit (s := S544x1024) ![o, 0] S272x1024.size inb)

theorem h9 (o : ℕ) (inb : ∀ a, (![o, 0] : Fin 2 → ℕ) a + S272x1024.size a ≤ S544x1024.size a) (x d : Vec Ideal S544x1024 .f32) (g : Vec Ideal S1x2048 .f32) (q : Fin 272) (l : Fin 1024) (p : Fin 544) (h : (p : ℕ) = o + q) :
    k0_pay9 (F := Ideal) (sl o inb x) g (sl o inb d) (ix2 q l) = d (ix2 p l) * Ideal.logistic (x (ix2 p l) + g (ix2 0 ⟨l, by omega⟩)) :=
  (pay9_at _ _ g q l).trans (congrArg₂ (fun d s => d * Ideal.logistic (s + _)) (ld_rows (e := .f32) o inb d q l p h) (ld_rows (e := .f32) o inb x q l p h))

theorem h10 (o : ℕ) (inb : ∀ a, (![o, 0] : Fin 2 → ℕ) a + S272x1024.size a ≤ S544x1024.size a) (x d : Vec Ideal S544x1024 .f32) (g : Vec Ideal S1x2048 .f32) (q : Fin 272) (l : Fin 1024) (p : Fin 544) (h : (p : ℕ) = o + q) :
    k0_pay10 (F := Ideal) (sl o inb x) g (sl o inb d) (ix2 q l) = d (ix2 p l) * Ideal.logistic (x (ix2 p l) + g (ix2 0 ⟨1024 + l, by omega⟩)) :=
  (pay10_at _ _ g q l).trans (congrArg₂ (fun d s => d * Ideal.logistic (s + _)) (ld_rows (e := .f32) o inb d q l p h) (ld_rows (e := .f32) o inb x q l p h))

theorem gs_ld (o : ℕ) (inb : ∀ a, (![o, 0] : Fin 2 → ℕ) a + S272x1024.size a ≤ S544x1024.size a) (a b y z d : Vec Ideal S544x1024 .f32) (g : Vec Ideal S1x2048 .f32) (q : Fin 272) (p : Fin 544) (l : Fin 2048) (h : (p : ℕ) = o + q) :
    k0_pay7 (F := Ideal) (sl o inb a) (sl o inb b) (sl o inb y) (sl o inb z) g (sl o inb d) (ix2 q l)
      = gs (n := 544) a b y z d g p l := by
  refine (pay7_at _ _ _ _ _ _ q l).trans ?_
  have e := fun (X : Vec Ideal S544x1024 .f32) k => ld_rows (e := .f32) o inb X q k p h
  unfold gs
  split <;> exact congr (congrArg₂ gg (e _ _) (e _ _)) (congrArg (fun s => Ideal.logistic (s + _)) (e _ _))

theorem s10 (o T b' : ℕ) (ho : o = b' * 8) (ho' : o + 272 ≤ 544) (inb : ∀ a, (![o, 0] : Fin 2 → ℕ) a + S272x1024.size a ≤ S544x1024.size a) (a b y z d : Vec Ideal S544x1024 .f32) (g : Vec Ideal S1x2048 .f32) (f : ℕ → ℕ → EReal)
    (hf : ∀ (p : Fin 544) (l : Fin 2048), gs (n := 544) a b y z d g p l = f (T * 544 + p) l) (x : Vec Ideal S8x2048 .f32) (j : Fin 8) (l : Fin 2048) (hx : x (ix2 j l) = grp f (T * 68 + b') j l) :
    k0_pay4 (F := Ideal) (k0_pay7 (F := Ideal) (sl o inb a) (sl o inb b) (sl o inb y) (sl o inb z) g (sl o inb d)) x (ix2 j l) = grp f (T * 68 + (b' + 34)) j l := by
  refine (pay4_at _ _ j l).trans ?_
  rw [hx, ← Nat.add_assoc]
  refine Eq.trans ?_ (grp_more f (T * 68 + b') 34 j l)
  refine congrArg (HAdd.hAdd (α := EReal) _) (Finset.sum_congr rfl fun q _ => ?_)
  refine (gs_ld o inb a b y z d g ⟨q * 8 + j, by omega⟩ ⟨o + (q * 8 + j), by omega⟩ l rfl).trans ((hf _ l).trans (congrArg (fun r => f r l) ?_))
  show T * 544 + (o + (q * 8 + j)) = (T * 68 + b' + q) * 8 + j
  omega

variable (i : grid0.Coords) (b3 : Memref sig .tc .vmem S544x1024 .bf16) (k3 : b3.IsWhole) (b4 : Memref sig .tc .vmem S1024x1024 .bf16) (k4 : b4.IsWhole) (b5 : Memref sig .tc .vmem S544x1024 .f32) (k5 : b5.IsWhole) (b6 : Memref sig .tc .vmem S544x1024 .f32) (k6 : b6.IsWhole) (b7 : Memref sig .tc .vmem S544x1024 .f32) (k7 : b7.IsWhole) (b8 : Memref sig .tc .vmem S544x1024 .f32) (k8 : b8.IsWhole) (b9 : Memref sig .tc .vmem S1x2048 .f32) (k9 : b9.IsWhole) (b10 : Memref sig .tc .vmem S544x2048 .bf16) (k10 : b10.IsWhole) (b11 : Memref sig .tc .vmem S544x1024 .bf16) (k11 : b11.IsWhole) (b12 : Memref sig .tc .vmem S544x1024 .bf16) (k12 : b12.IsWhole) (b13 : Memref sig .tc .vmem S8x2048 .f32) (k13 : b13.IsWhole) (b14 : Memref sig .tc .vmem S544x1024 .f32) (k14 : b14.IsWhole)
  (hc0 : cond0_0 i) (hc1 : cond0_1 i) (hc3 : cond0_3 i) (x0 : Vec Ideal S544x1024 .bf16) (x1 : Vec Ideal S1024x1024 .bf16) (x2 x3 x4 x5 : Vec Ideal S544x1024 .f32) (x6 : Vec Ideal S1x2048 .f32) (xo : Vec Ideal S8x2048 .f32) (p : Fin 544)

theorem oA7 (hc2 : cond0_2 i) (l : Fin 2048) : out0_A_7 c i b3 k3 b4 k4 b5 k5 b6 k6 b7 k7 b8 k8 b9 k9 b10 k10 b11 k11 b12 k12 b13 k13 b14 k14 hc0 hc1 hc2 hc3 x0 x1 x2 x3 x4 x5 x6 (ix2 p l) = gs (n := 544) x2 x3 x4 x5 (pr x0 x1) x6 p l := by
  unfold out0_A_7
  refine Eq.trans (congrFun (View.read_writes_eq_canon _ _ _ fun _ => cover0_A_7 ..) _) ?_
  refine View.canon_eq_of_allAt _ _ _ (cover0_A_7 ..) ?_
  unfold kernelRun0_A
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => gs_ld 272 _ x2 x3 x4 x5 (pr x0 x1) x6 q p l h) (View.allAt_cons_unit _ _ _ _ _ (st_rows 0 _ _ p l fun q h => gs_ld 0 _ x2 x3 x4 x5 (pr x0 x1) x6 q p l h) (View.allAt_nil _ _))

theorem oA8 (hc2 : cond0_2 i) (l : Fin 1024) : out0_A_8 c i b3 k3 b4 k4 b5 k5 b6 k6 b7 k7 b8 k8 b9 k9 b10 k10 b11 k11 b12 k12 b13 k13 b14 k14 hc0 hc1 hc2 hc3 x0 x1 x2 x3 x4 x5 x6 (ix2 p l) = pr x0 x1 (ix2 p l) * Ideal.logistic (x2 (ix2 p l) + x6 (ix2 0 ⟨l, by omega⟩)) := by
  unfold out0_A_8
  refine Eq.trans (congrFun (View.read_writes_eq_canon _ _ _ fun _ => cover0_A_8 ..) _) ?_
  refine View.canon_eq_of_allAt _ _ _ (cover0_A_8 ..) ?_
  unfold kernelRun0_A
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => h9 272 _ x2 (pr x0 x1) x6 q l p h) (View.allAt_cons_unit _ _ _ _ _ (st_rows 0 _ _ p l fun q h => h9 0 _ x2 (pr x0 x1) x6 q l p h) (View.allAt_nil _ _))

theorem oA9 (hc2 : cond0_2 i) (l : Fin 1024) : out0_A_9 c i b3 k3 b4 k4 b5 k5 b6 k6 b7 k7 b8 k8 b9 k9 b10 k10 b11 k11 b12 k12 b13 k13 b14 k14 hc0 hc1 hc2 hc3 x0 x1 x2 x3 x4 x5 x6 (ix2 p l) = pr x0 x1 (ix2 p l) * Ideal.logistic (x3 (ix2 p l) + x6 (ix2 0 ⟨1024 + l, by omega⟩)) := by
  unfold out0_A_9
  refine Eq.trans (congrFun (View.read_writes_eq_canon _ _ _ fun _ => cover0_A_9 ..) _) ?_
  refine View.canon_eq_of_allAt _ _ _ (cover0_A_9 ..) ?_
  unfold kernelRun0_A
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => h10 272 _ x3 (pr x0 x1) x6 q l p h) (View.allAt_cons_unit _ _ _ _ _ (st_rows 0 _ _ p l fun q h => h10 0 _ x3 (pr x0 x1) x6 q l p h) (View.allAt_nil _ _))

theorem oA10 (hc2 : cond0_2 i) : out0_A_10 c i b3 k3 b4 k4 b5 k5 b6 k6 b7 k7 b8 k8 b9 k9 b10 k10 b11 k11 b12 k12 b13 k13 b14 k14 hc0 hc1 hc2 hc3 x0 x1 x2 x3 x4 x5 x6 = k0_pay4 (F := Ideal) (k0_pay7 (F := Ideal) (sl 272 inb_S544x1024_S272x1024_272_0 x2) (sl 272 inb_S544x1024_S272x1024_272_0 x3) (sl 272 inb_S544x1024_S272x1024_272_0 x4) (sl 272 inb_S544x1024_S272x1024_272_0 x5) x6 (sl 272 inb_S544x1024_S272x1024_272_0 (pr x0 x1))) (k0_pay4 (F := Ideal) (k0_pay7 (F := Ideal) (sl 0 inb_S544x1024_S272x1024_0_0 x2) (sl 0 inb_S544x1024_S272x1024_0_0 x3) (sl 0 inb_S544x1024_S272x1024_0_0 x4) (sl 0 inb_S544x1024_S272x1024_0_0 x5) x6 (sl 0 inb_S544x1024_S272x1024_0_0 (pr x0 x1))) (k0_pay3 (F := Ideal))) := by
  unfold out0_A_10
  refine Eq.trans (View.read_writes_eq_canon _ _ _ fun _ => cover0_A_10 ..) ?_
  unfold kernelRun0_A
  dsimp only
  try sl_unfold_words
  rw [View.canon_cons_unit_zero (S := S8x2048) zz]
  simp only [View.readAt_eq_ld, Memref.IsWhole.read_unread, View.readCov_fill (s := S544x1024) (off := ![0, 0]) _ _ _ _ _ z2, View.readCov_fill (s := S8x2048) (off := ![0, 0]) _ _ _ _ _ z2, View.ld_unit_zero (S := S544x1024) zz, View.ld_unit_zero (S := S1024x1024) zz, View.ld_unit_zero (S := S1x2048) zz, View.ld_unit_zero (S := S8x2048) zz, shapeCast_self]
  rfl

theorem oB7 (hc2 : ¬cond0_2 i) (l : Fin 2048) : out0_B_7 c i b3 k3 b4 k4 b5 k5 b6 k6 b7 k7 b8 k8 b9 k9 b10 k10 b11 k11 b12 k12 b13 k13 b14 k14 hc0 hc1 hc2 hc3 x0 x1 x2 x3 x4 x5 x6 xo (ix2 p l) = gs (n := 544) x2 x3 x4 x5 (pr x0 x1) x6 p l := by
  unfold out0_B_7
  refine Eq.trans (congrFun (View.read_writes_eq_canon _ _ _ fun _ => cover0_B_7 ..) _) ?_
  refine View.canon_eq_of_allAt _ _ _ (cover0_B_7 ..) ?_
  unfold kernelRun0_B
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => gs_ld 272 _ x2 x3 x4 x5 (pr x0 x1) x6 q p l h) (View.allAt_cons_unit _ _ _ _ _ (st_rows 0 _ _ p l fun q h => gs_ld 0 _ x2 x3 x4 x5 (pr x0 x1) x6 q p l h) (View.allAt_nil _ _))

theorem oB8 (hc2 : ¬cond0_2 i) (l : Fin 1024) : out0_B_8 c i b3 k3 b4 k4 b5 k5 b6 k6 b7 k7 b8 k8 b9 k9 b10 k10 b11 k11 b12 k12 b13 k13 b14 k14 hc0 hc1 hc2 hc3 x0 x1 x2 x3 x4 x5 x6 xo (ix2 p l) = pr x0 x1 (ix2 p l) * Ideal.logistic (x2 (ix2 p l) + x6 (ix2 0 ⟨l, by omega⟩)) := by
  unfold out0_B_8
  refine Eq.trans (congrFun (View.read_writes_eq_canon _ _ _ fun _ => cover0_B_8 ..) _) ?_
  refine View.canon_eq_of_allAt _ _ _ (cover0_B_8 ..) ?_
  unfold kernelRun0_B
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => h9 272 _ x2 (pr x0 x1) x6 q l p h) (View.allAt_cons_unit _ _ _ _ _ (st_rows 0 _ _ p l fun q h => h9 0 _ x2 (pr x0 x1) x6 q l p h) (View.allAt_nil _ _))

theorem oB9 (hc2 : ¬cond0_2 i) (l : Fin 1024) : out0_B_9 c i b3 k3 b4 k4 b5 k5 b6 k6 b7 k7 b8 k8 b9 k9 b10 k10 b11 k11 b12 k12 b13 k13 b14 k14 hc0 hc1 hc2 hc3 x0 x1 x2 x3 x4 x5 x6 xo (ix2 p l) = pr x0 x1 (ix2 p l) * Ideal.logistic (x3 (ix2 p l) + x6 (ix2 0 ⟨1024 + l, by omega⟩)) := by
  unfold out0_B_9
  refine Eq.trans (congrFun (View.read_writes_eq_canon _ _ _ fun _ => cover0_B_9 ..) _) ?_
  refine View.canon_eq_of_allAt _ _ _ (cover0_B_9 ..) ?_
  unfold kernelRun0_B
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => h10 272 _ x3 (pr x0 x1) x6 q l p h) (View.allAt_cons_unit _ _ _ _ _ (st_rows 0 _ _ p l fun q h => h10 0 _ x3 (pr x0 x1) x6 q l p h) (View.allAt_nil _ _))

theorem oB10 (hc2 : ¬cond0_2 i) : out0_B_10 c i b3 k3 b4 k4 b5 k5 b6 k6 b7 k7 b8 k8 b9 k9 b10 k10 b11 k11 b12 k12 b13 k13 b14 k14 hc0 hc1 hc2 hc3 x0 x1 x2 x3 x4 x5 x6 xo = k0_pay4 (F := Ideal) (k0_pay7 (F := Ideal) (sl 272 inb_S544x1024_S272x1024_272_0 x2) (sl 272 inb_S544x1024_S272x1024_272_0 x3) (sl 272 inb_S544x1024_S272x1024_272_0 x4) (sl 272 inb_S544x1024_S272x1024_272_0 x5) x6 (sl 272 inb_S544x1024_S272x1024_272_0 (pr x0 x1))) (k0_pay4 (F := Ideal) (k0_pay7 (F := Ideal) (sl 0 inb_S544x1024_S272x1024_0_0 x2) (sl 0 inb_S544x1024_S272x1024_0_0 x3) (sl 0 inb_S544x1024_S272x1024_0_0 x4) (sl 0 inb_S544x1024_S272x1024_0_0 x5) x6 (sl 0 inb_S544x1024_S272x1024_0_0 (pr x0 x1))) xo) := by
  unfold out0_B_10
  refine Eq.trans (View.read_writes_eq_canon _ _ _ fun _ => cover0_B_10 ..) ?_
  unfold kernelRun0_B
  dsimp only
  try sl_unfold_words
  rw [View.canon_cons_unit_zero (S := S8x2048) zz]
  simp only [View.readAt_eq_ld, Memref.IsWhole.read_unread, View.readCov_fill (s := S544x1024) (off := ![0, 0]) _ _ _ _ _ z2, View.readCov_fill (s := S8x2048) (off := ![0, 0]) _ _ _ _ _ z2, View.ld_unit_zero (S := S544x1024) zz, View.ld_unit_zero (S := S1024x1024) zz, View.ld_unit_zero (S := S1x2048) zz, View.ld_unit_zero (S := S8x2048) zz, shapeCast_self]
  rfl

theorem acc : ∀ (n : ℕ) (h : n < cfg0.N) (j : Fin 8) (l : Fin 2048), (outsAt0 m c n h).2.2.2 (ix2 j l) = grp (G m c) ((n + 1) * 68) j l := by
  intro n
  induction n with
  | zero =>
    intro h j l
    rw [outsAt0_A m c ⟨0, h⟩ rfl]
    dsimp only
    rw [oA10]
    refine (s10 272 0 34 rfl (by decide) _ _ _ _ _ _ _ _ (gs_at ⟨0, h⟩) _ j l (s10 0 0 0 rfl (by decide) _ _ _ _ _ _ _ _ (gs_at ⟨0, h⟩) _ j l ?_)).trans rfl
    refine Eq.trans ?_ (grp_zero _ _ _).symm
    unfold k0_pay3
    pointwise
  | succ n ih =>
    intro h j l
    have hN : cfg0.N = 16 := N_0
    rw [outsAt0_B m c ⟨n + 1, h⟩ (by show ¬(n + 1) % 16 = 0; omega)]
    dsimp only
    rw [oB10]
    refine (s10 272 (n + 1) 34 rfl (by decide) _ _ _ _ _ _ _ _ (gs_at ⟨n + 1, h⟩) _ j l (s10 0 (n + 1) 0 rfl (by decide) _ _ _ _ _ _ _ _ (gs_at ⟨n + 1, h⟩) _ j l (ih (by omega) j l))).trans ?_
    rw [show (n + 1 + 1) * 68 = (n + 1) * 68 + (34 + 34) by omega]

theorem wb7 (t : Fin cfg0.N) (i : Fin 544) (j : Fin 2048) : (dats m 0 c).after 7 t (ix2 i j) = G m c (t.val * 544 + i) j := by
  rw [after0_7]
  by_cases h : t.val % 16 = 0
  · rw [outsAt0_A m c t h]
    dsimp only
    rw [oA7, gs_at]
  · rw [outsAt0_B m c t h]
    dsimp only
    rw [oB7, gs_at]

theorem wb8 (t : Fin cfg0.N) (i : Fin 544) (j : Fin 1024) : (dats m 0 c).after 8 t (ix2 i j) = DY m c (t.val * 544 + i) j := by
  rw [after0_8]
  by_cases h : t.val % 16 = 0
  · rw [outsAt0_A m c t h]
    dsimp only
    rw [oA8, prod_at, ib2, ib6]
    rfl
  · rw [outsAt0_B m c t h]
    dsimp only
    rw [oB8, prod_at, ib2, ib6]
    rfl

theorem wb9 (t : Fin cfg0.N) (i : Fin 544) (j : Fin 1024) : (dats m 0 c).after 9 t (ix2 i j) = DZ m c (t.val * 544 + i) j := by
  rw [after0_9, DZ, L, show 5 * 1024 + (1024 + j.val) = 6 * 1024 + j.val by omega]
  by_cases h : t.val % 16 = 0
  · rw [outsAt0_A m c t h]
    dsimp only
    rw [oA9, prod_at, ib3, ib6]
  · rw [outsAt0_B m c t h]
    dsimp only
    rw [oB9, prod_at, ib3, ib6]

theorem fin7 : (dats m 0 c).arrAt 7 cfg0.N = (fill (G m c) : S8704x2048.Idx → EReal) := by
  refine (dats m 0 c).arrAt_eq_of_covers 7 _ (by decide +kernel) fun t hf y => ?_
  blk_simp
  obtain ⟨i, j, rfl⟩ : ∃ (i : Fin 544) (j : Fin 2048), y = ix2 i j := ⟨y 0, y 1, eq_ix2 y⟩
  refine (wb7 t i j).trans ?_
  exact (fill_at (p := t.val * 544 + i.val) (q := j.val) (G m c) (by constructor <;> blk_simp [(idx t)])).symm

theorem fin8 : (dats m 0 c).arrAt 8 cfg0.N = (fill (DY m c) : S8704x1024.Idx → EReal) := by
  refine (dats m 0 c).arrAt_eq_of_covers 8 _ (by decide +kernel) fun t hf y => ?_
  blk_simp
  obtain ⟨i, j, rfl⟩ : ∃ (i : Fin 544) (j : Fin 1024), y = ix2 i j := ⟨y 0, y 1, eq_ix2 y⟩
  refine (wb8 t i j).trans ?_
  exact (fill_at (p := t.val * 544 + i.val) (q := j.val) (DY m c) (by constructor <;> blk_simp [(idx t)])).symm

theorem fin9 : (dats m 0 c).arrAt 9 cfg0.N = (fill (DZ m c) : S8704x1024.Idx → EReal) := by
  refine (dats m 0 c).arrAt_eq_of_covers 9 _ (by decide +kernel) fun t hf y => ?_
  blk_simp
  obtain ⟨i, j, rfl⟩ : ∃ (i : Fin 544) (j : Fin 1024), y = ix2 i j := ⟨y 0, y 1, eq_ix2 y⟩
  refine (wb9 t i j).trans ?_
  exact (fill_at (p := t.val * 544 + i.val) (q := j.val) (DZ m c) (by constructor <;> blk_simp [(idx t)])).symm

theorem fin10 : (dats m 0 c).arrAt 10 cfg0.N = (fill (grp (G m c) 1088) : S8x2048.Idx → EReal) := by
  refine (dats m 0 c).arrAt_eq_of_covers 10 _ (by decide +kernel) fun t hf y => ?_
  blk_simp
  obtain ⟨i, j, rfl⟩ : ∃ (i : Fin 8) (j : Fin 2048), y = ix2 i j := ⟨y 0, y 1, eq_ix2 y⟩
  have h : t.val % 16 = 15 := (flush0_10 t).mp hf
  have ht : t.val = 15 := by have := lt_of_lt_of_eq t.isLt (N_0 : cfg0.grid.N = 16); omega
  rw [after0_10]
  refine (acc t.val t.isLt i j).trans ?_
  refine Eq.trans ?_ (fill_at (p := i.val) (q := j.val) (grp (G m c) 1088) (by constructor <;> blk_simp [(idx t)])).symm
  rw [ht]

end Cert.Kernel21Ideal.Val

namespace Cert.Reference21Ideal.Val

open Idealize.ShloMosaic Cert.Reference21Ideal Cert.Reference21Ideal.Gen Cert.Reference21Ideal.Read Cert.Prod

variable (x0 : FVec Ideal S8704x1024 .bf16) (x1 : FVec Ideal S1024x1024 .bf16) (x2 : FVec Ideal S8704x7168 .f32) (x3 x4 : FVec Ideal S8704x1024 .f32) (x5 : FVec Ideal S1x2048 .f32) (i : Fin 8704)

/-- The product, and a gate, at an entry. -/
abbrev u (i : Fin 8704) (l : ℕ) : EReal := nt (ent x0) (ent x1) 1024 i l
abbrev g (i : Fin 8704) (l : ℕ) : EReal := Ideal.logistic (ent x2 i (5 * 1024 + l) + ent x5 0 l)

theorem v25_at (l : Fin 1024) : val_main_v25 (F := Ideal) x0 x1 (ix2 i l) = u x0 x1 i l := by
  refine Eq.trans ?_ (nt_full x0 x1 i l).symm
  unfold val_main_v25 val_main_v1 val_main_v0
  pointwise

theorem v15_at (l : Fin 2048) : val_main_v15 (F := Ideal) x2 x5 (ix2 i l) = g x2 x5 i l := by
  have h : ent x5 0 l = x5 (ix2 0 l) := ent_at x5 0 l
  rw [g, ← logistic_eq, ent_at x2 i ⟨5 * 1024 + l, by omega⟩, h]
  unfold val_main_v15 val_main_v14 val_main_v13 val_main_v12 val_main_v11 val_main_v10 val_main_v9 val_main_v8 val_main_v7 val_main_v6 val_main_v5 val_main_v4 val_main_v3 val_main_v2 val_main_cst val_main_cst_0
  pointwise

theorem v35_at (l : Fin 1024) : val_main_v35 (F := Ideal) x0 x1 x2 x5 (ix2 i l) = u x0 x1 i l * g x2 x5 i l := by
  have a := v15_at x2 x5 i ⟨l, by omega⟩
  rw [mul_comm, ← v25_at]
  refine Eq.trans ?_ (congrArg (fun s => HMul.hMul (α := EReal) (β := EReal) s (val_main_v25 (F := Ideal) x0 x1 (ix2 i l))) a)
  unfold val_main_v35 val_main_v28 val_main_v19
  generalize val_main_v15 (F := Ideal) x2 x5 = s
  generalize val_main_v25 (F := Ideal) x0 x1 = d
  pointwise

theorem v36_at (l : Fin 1024) : val_main_v36 (F := Ideal) x0 x1 x2 x5 (ix2 i l) = u x0 x1 i l * g x2 x5 i (1024 + l) := by
  have a := v15_at x2 x5 i ⟨1024 + l, by omega⟩
  rw [mul_comm, ← v25_at]
  refine Eq.trans ?_ (congrArg (fun s => HMul.hMul (α := EReal) (β := EReal) s (val_main_v25 (F := Ideal) x0 x1 (ix2 i l))) a)
  unfold val_main_v36 val_main_v26 val_main_v20
  generalize val_main_v15 (F := Ideal) x2 x5 = s
  generalize val_main_v25 (F := Ideal) x0 x1 = d
  pointwise

theorem v31_at (l : Fin 2048) : val_main_v31 (F := Ideal) x0 x1 x2 x3 x4 x5 (ix2 i l) = if (l : ℕ) < 1024 then Cert.Kernel21Ideal.Val.gg (u x0 x1 i l) (ent x3 i l) (g x2 x5 i l) else Cert.Kernel21Ideal.Val.gg (u x0 x1 i (l - 1024)) (ent x4 i (l - 1024)) (g x2 x5 i l) := by
  have a := v15_at x2 x5 i l
  have d := v25_at x0 x1 i
  unfold val_main_v31 val_main_v30 val_main_v29 val_main_v27 val_main_v18 val_main_v17 val_main_v16 val_main_cst_1
  generalize val_main_v15 (F := Ideal) x2 x5 = s at a ⊢
  generalize val_main_v25 (F := Ideal) x0 x1 = e at d ⊢
  pointwise
  rw [a]
  split
  · next h =>
    rw [d, ← ent_at x3 i ⟨l, h⟩]
    simp only [mul_assoc]
  · next h =>
    rw [d, ← ent_at x4 i ⟨l - 1024, by omega⟩]
    simp only [mul_assoc]

theorem v34_at (l : Fin 2048) : val_main_v34 (F := Ideal) x0 x1 x2 x3 x4 x5 (ix2 i l) = val_main_v31 (F := Ideal) x0 x1 x2 x3 x4 x5 (ix2 i l) := by
  unfold val_main_v34
  generalize val_main_v31 (F := Ideal) x0 x1 x2 x3 x4 x5 = s
  pointwise

theorem v33_at (j : Fin 8) (l : Fin 2048) : val_main_v33 (F := Ideal) x0 x1 x2 x3 x4 x5 (ix2 j l) = ∑ q : Fin 1088, val_main_v31 (F := Ideal) x0 x1 x2 x3 x4 x5 (ix2 ⟨q * 8 + j, by omega⟩ l) := by
  have z : val_main_cst_2 (F := Ideal) (Shape.Idx.first h_S_) = 0 := Ideal.ofBits_zero_f32
  unfold val_main_v33
  rw [ValueIdx.hostReduceAdd_apply]
  unfold Ideal.hostReduceAdd
  rw [z, zero_add]
  refine Finset.sum_nbij' (fun a => a 0) (fun q => (fun d => match d with | ⟨0, _⟩ => q | ⟨1, _⟩ => j | ⟨2, _⟩ => (0 : Fin 1) | ⟨3, _⟩ => l : S1088x8x1x2048.Idx)) (fun _ _ => Finset.mem_univ _) (fun q _ => ?_) (fun a h => ?_) (fun _ _ => rfl) fun a h => ?_
  · refine Finset.mem_filter.2 ⟨Finset.mem_univ _, funext fun d => ?_⟩
    fin_cases d <;> rfl
  · have e := (Finset.mem_filter.1 h).2
    have e1 : a 1 = j := congrFun e 0
    have e3 : a 3 = l := congrFun e 1
    funext d
    fin_cases d
    · rfl
    · exact e1.symm
    · exact Subsingleton.elim (α := Fin 1) _ _
    · exact e3.symm
  · have e := (Finset.mem_filter.1 h).2
    have e1 : a 1 = j := congrFun e 0
    have e3 : a 3 = l := congrFun e 1
    have e2 : ((a 2 : Fin 1) : ℕ) = 0 := Nat.lt_one_iff.1 (a 2).isLt
    rw [val_main_v32_apply]
    refine congrArg _ (funext fun d => Fin.ext ?_)
    have h1 : ((a 1 : Fin 8) : ℕ) = j := congrArg Fin.val e1
    have h3 : ((a 3 : Fin 2048) : ℕ) = l := congrArg Fin.val e3
    fin_cases d
    · show ((((a 0).val * 8 + (a 1).val) * 1 + (a 2).val) * 2048 + (a 3).val) / 2048 = (a 0).val * 8 + j
      omega
    · show ((((a 0).val * 8 + (a 1).val) * 1 + (a 2).val) * 2048 + (a 3).val) % 2048 = l
      omega

end Cert.Reference21Ideal.Val

namespace Cert.Kernel21Ideal.Val

open Idealize.ShloMosaic Idealize.ShloMosaic.TcCoe Idealize.SL.Sem
open Cert.Kernel21Ideal Cert.Kernel21Ideal.Gen Cert.Prod

/-- The call's four results are the reference's, whatever its arguments. -/
theorem algebraic : Cert.algebraic_Kernel21Ideal_Reference21Ideal := by
  intro m g m' g' _ ha
  refine ⟨fun c => (dats m 0 c).arrAt 7 cfg0.N, fun c => (dats m 0 c).arrAt 8 cfg0.N, fun c => (dats m 0 c).arrAt 9 cfg0.N, fun c => (dats m 0 c).arrAt 10 cfg0.N, Value.run_blocks m g, ?_⟩
  refine (θ_run _ _ _).mono (fun r h c => ?_) (Cert.Reference21Ideal.Value.run m' g')
  obtain ⟨e0, e1, e2, e3, k⟩ := h c
  obtain ⟨a0, a1, a2, a3, a4, a5⟩ := ha c
  rw [Cert.Reference21Ideal.Read.val_main_v34_eq, a0, a1, a2, a3, a4, a5] at e0
  rw [Cert.Reference21Ideal.Read.val_main_v35_eq, a0, a1, a2, a5] at e1
  rw [Cert.Reference21Ideal.Read.val_main_v36_eq, a0, a1, a2, a5] at e2
  rw [Cert.Reference21Ideal.Read.val_main_v33_eq, a0, a1, a2, a3, a4, a5] at e3
  refine ⟨e0.trans (Eq.trans (funext fun z => ?_) fin7.symm), e1.trans (Eq.trans (funext fun z => ?_) fin8.symm), e2.trans (Eq.trans (funext fun z => ?_) fin9.symm), e3.trans (Eq.trans (funext fun z => ?_) fin10.symm), k⟩
  · obtain ⟨i, l, rfl⟩ : ∃ (i : Fin 8704) (l : Fin 2048), z = ix2 i l := ⟨z 0, z 1, eq_ix2 z⟩
    exact (Cert.Reference21Ideal.Val.v34_at _ _ _ _ _ _ i l).trans (Cert.Reference21Ideal.Val.v31_at _ _ _ _ _ _ i l)
  · obtain ⟨i, l, rfl⟩ : ∃ (i : Fin 8704) (l : Fin 1024), z = ix2 i l := ⟨z 0, z 1, eq_ix2 z⟩
    exact Cert.Reference21Ideal.Val.v35_at _ _ _ _ i l
  · obtain ⟨i, l, rfl⟩ : ∃ (i : Fin 8704) (l : Fin 1024), z = ix2 i l := ⟨z 0, z 1, eq_ix2 z⟩
    exact Cert.Reference21Ideal.Val.v36_at _ _ _ _ i l
  · obtain ⟨j, l, rfl⟩ : ∃ (j : Fin 8) (l : Fin 2048), z = ix2 j l := ⟨z 0, z 1, eq_ix2 z⟩
    refine (Cert.Reference21Ideal.Val.v33_at _ _ _ _ _ _ j l).trans (Eq.trans ?_ (Finset.sum_range fun q => G m c (q * 8 + j) l).symm)
    exact Finset.sum_congr rfl fun q _ => Cert.Reference21Ideal.Val.v31_at _ _ _ _ _ _ _ l

end Cert.Kernel21Ideal.Val
-- ==== Proof.K22.lean ====
/- The attention branch's output product, and both branches merged by their gates: a 8704 by 1024 matrix times a 1024 by 1024 one, one row block a step. -/
module

public import proofs.«01_k».proof.Proof.Row
public import proofs.«01_k».proof.Defs
public import proofs.«01_k».proof.Proof.Gen.Kernel22Ideal.Value
public import proofs.«01_k».proof.Proof.Gen.Reference22Ideal.Read
public import Idealize.ShloMosaic.Lib.Pipeline.ReadBack

@[expose] public section

set_option maxRecDepth 16384

noncomputable section

namespace Cert.Kernel22Ideal.Val

open Idealize.ShloMosaic Idealize.ShloMosaic.TcCoe Idealize.SL.Sem
open Cert.Kernel22Ideal Cert.Kernel22Ideal.Gen Cert.Prod

variable {m : (ℓ : Loc nD τ sig) → Buf (Elt Ideal) ℓ} {c : Dev nD}

theorem zz : (![0, 0] : Fin 2 → Nat) = fun _ => 0 := funext fun a => by fin_cases a <;> rfl
theorem z2 : ∀ a : Fin 2, (![0, 0] : Fin 2 → Nat) a = 0 := fun a => congrFun zz a

theorem pay2_at (x : Vec Ideal S544x1024 .bf16) (y : Vec Ideal S1024x1024 .bf16) (i : Fin 544) (l : Fin 1024) :
    k0_pay2 (F := Ideal) (k0_pay1 (F := Ideal)) x y (ix2 i l) = ∑ k : Fin 1024, x (ix2 i k) * y (ix2 k l) := by
  unfold k0_pay2 k0_pay1
  pointwise

/-- Both branches of an entry, merged. -/
abbrev mg (pa pb ya yb ba bb : EReal) : EReal := Ideal.logistic (pa + ba) * ya + Ideal.logistic (pb + bb) * yb

theorem pay4_at (pa pb ya yb : Vec Ideal S272x1024 .f32) (g : Vec Ideal S1x2048 .f32) (i : Fin 272) (l : Fin 1024) :
    k0_pay4 (F := Ideal) pa pb ya g yb (ix2 i l) = mg (pa (ix2 i l)) (pb (ix2 i l)) (ya (ix2 i l)) (yb (ix2 i l)) (g (ix2 0 ⟨l, by omega⟩)) (g (ix2 0 ⟨1024 + l, by omega⟩)) := by
  unfold k0_pay4
  pointwise

theorem idx : ∀ t : Fin cfg0.N, win0_0.index t = ![t.val, 0] ∧ win0_1.index t = ![0, 0] ∧ win0_2.index t = ![t.val, 5] ∧ win0_3.index t = ![t.val, 6] ∧ win0_4.index t = ![t.val, 0] ∧ win0_5.index t = ![0, 0] ∧ win0_6.index t = ![t.val, 0] ∧ win0_7.index t = ![t.val, 0] :=
  (by decide +kernel : ∀ t : Fin grid0.N, _)

section
variable (m c)
/-- The entries of the call's arguments; the product and the merged branches. -/
def A : ℕ → ℕ → EReal := ent (a := 8704) (b := 1024) (m ((c : Thread nD τ).loc main_arg0))
def W : ℕ → ℕ → EReal := ent (a := 1024) (b := 1024) (m ((c : Thread nD τ).loc main_arg1))
def P : ℕ → ℕ → EReal := ent (a := 8704) (b := 7168) (m ((c : Thread nD τ).loc main_arg2))
def Y : ℕ → ℕ → EReal := ent (a := 8704) (b := 1024) (m ((c : Thread nD τ).loc main_arg3))
def B : ℕ → ℕ → EReal := ent (a := 1) (b := 2048) (m ((c : Thread nD τ).loc main_arg4))
def U : ℕ → ℕ → EReal := nn (A m c) (W m c) 1024
def M (r l : ℕ) : EReal := mg (P m c r (5 * 1024 + l)) (P m c r (6 * 1024 + l)) (Y m c r l) (U m c r l) (B m c 0 l) (B m c 0 (1024 + l))
end

theorem ib0 (t : Fin cfg0.N) (i : Fin 544) (j : Fin 1024) : iblk m c 0 t (ix2 i j) = A m c (t.val * 544 + i.val) j.val :=
  (congrFun (V_main_arg0 m c) (((cfg0.win 0).blk t).view.emb (ix2 i j))).trans (at_ent _ _ (by constructor <;> blk_simp [(idx t)]))

theorem ib1 (t : Fin cfg0.N) (i : Fin 1024) (j : Fin 1024) : iblk m c 1 t (ix2 i j) = W m c i.val j.val :=
  (congrFun (V_main_arg1 m c) (((cfg0.win 1).blk t).view.emb (ix2 i j))).trans (at_ent _ _ (by constructor <;> blk_simp [(idx t)]))

theorem ib2 (t : Fin cfg0.N) (i : Fin 544) (j : Fin 1024) : iblk m c 2 t (ix2 i j) = P m c (t.val * 544 + i.val) (5 * 1024 + j.val) :=
  (congrFun (V_main_arg2 m c) (((cfg0.win 2).blk t).view.emb (ix2 i j))).trans (at_ent _ _ (by constructor <;> blk_simp [(idx t)]))

theorem ib3 (t : Fin cfg0.N) (i : Fin 544) (j : Fin 1024) : iblk m c 3 t (ix2 i j) = P m c (t.val * 544 + i.val) (6 * 1024 + j.val) :=
  (congrFun (V_main_arg2 m c) (((cfg0.win 3).blk t).view.emb (ix2 i j))).trans (at_ent _ _ (by constructor <;> blk_simp [(idx t)]))

theorem ib4 (t : Fin cfg0.N) (i : Fin 544) (j : Fin 1024) : iblk m c 4 t (ix2 i j) = Y m c (t.val * 544 + i.val) j.val :=
  (congrFun (V_main_arg3 m c) (((cfg0.win 4).blk t).view.emb (ix2 i j))).trans (at_ent _ _ (by constructor <;> blk_simp [(idx t)]))

theorem ib5 (t : Fin cfg0.N) (j : Fin 2048) : iblk m c 5 t (ix2 0 j) = B m c 0 j.val :=
  (congrFun (V_main_arg4 m c) (((cfg0.win 5).blk t).view.emb (ix2 0 j))).trans (at_ent _ _ (by constructor <;> blk_simp [(idx t)]; rfl))

theorem prod_at (t : Fin cfg0.N) (i : Fin 544) (l : Fin 1024) :
    k0_pay2 (F := Ideal) (k0_pay1 (F := Ideal)) (iblk m c 0 t) (iblk m c 1 t) (ix2 i l) = U m c (t.val * 544 + i) l := by
  rw [pay2_at, U, nn, Finset.sum_range]
  exact Finset.sum_congr rfl fun k _ => by rw [ib0, ib1]

variable (i : grid0.Coords) (b3 : Memref sig .tc .vmem S544x1024 .bf16) (k3 : b3.IsWhole) (b4 : Memref sig .tc .vmem S1024x1024 .bf16) (k4 : b4.IsWhole) (b5 : Memref sig .tc .vmem S544x1024 .f32) (k5 : b5.IsWhole) (b6 : Memref sig .tc .vmem S544x1024 .f32) (k6 : b6.IsWhole) (b7 : Memref sig .tc .vmem S544x1024 .f32) (k7 : b7.IsWhole) (b8 : Memref sig .tc .vmem S1x2048 .f32) (k8 : b8.IsWhole) (b9 : Memref sig .tc .vmem S544x1024 .f32) (k9 : b9.IsWhole) (b10 : Memref sig .tc .vmem S544x1024 .bf16) (k10 : b10.IsWhole) (b11 : Memref sig .tc .vmem S544x1024 .f32) (k11 : b11.IsWhole)
  (hc0 : cond0_0 i) (hc1 : cond0_1 i) (hc2 : cond0_2 i) (x0 : Vec Ideal S544x1024 .bf16) (x1 : Vec Ideal S1024x1024 .bf16) (x2 x3 x4 : Vec Ideal S544x1024 .f32) (x5 : Vec Ideal S1x2048 .f32) (p : Fin 544) (l : Fin 1024)

theorem o6 : out0_A_6 c i b3 k3 b4 k4 b5 k5 b6 k6 b7 k7 b8 k8 b9 k9 b10 k10 b11 k11 hc0 hc1 hc2 x0 x1 x2 x3 x4 x5 (ix2 p l) = k0_pay2 (F := Ideal) (k0_pay1 (F := Ideal)) x0 x1 (ix2 p l) := by
  unfold out0_A_6
  refine Eq.trans (congrFun (View.read_writes_eq_canon _ _ _ fun _ => cover0_A_6 ..) _) ?_
  refine View.canon_eq_of_allAt _ _ _ (cover0_A_6 ..) ?_
  unfold kernelRun0_A
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (st_rows 272 _ _ p l fun q h => ld_rows 272 _ _ q l p h) (View.allAt_cons_unit _ _ _ _ _ (st_rows 0 _ _ p l fun q h => ld_rows 0 _ _ q l p h) (View.allAt_nil _ _))

theorem s7 (o : ℕ) (inb : ∀ a, (![o, 0] : Fin 2 → ℕ) a + S272x1024.size a ≤ S544x1024.size a) (a b y u : Vec Ideal S544x1024 .f32) :
    View.TileAt (Val := Elt Ideal) (e := .bf16) (S := S544x1024) (ix2 p l) ![o, 0] S272x1024.size
      (k0_pay4 (F := Ideal) (View.ld a (Rect.unit (s := S544x1024) ![o, 0] S272x1024.size inb)) (View.ld b (Rect.unit (s := S544x1024) ![o, 0] S272x1024.size inb)) (View.ld y (Rect.unit (s := S544x1024) ![o, 0] S272x1024.size inb)) x5 (View.ld u (Rect.unit (s := S544x1024) ![o, 0] S272x1024.size inb)))
      (mg (a (ix2 p l)) (b (ix2 p l)) (y (ix2 p l)) (u (ix2 p l)) (x5 (ix2 0 ⟨l, by omega⟩)) (x5 (ix2 0 ⟨1024 + l, by omega⟩))) :=
  st_rows o _ _ p l fun q h => (pay4_at _ _ _ _ _ q l).trans (by
    have e := fun Z => ld_rows (e := .f32) o inb Z q l p h
    exact congrArg₂ (HAdd.hAdd (α := EReal)) (congrArg₂ (fun x y => Ideal.logistic (x + _) * y) (e a) (e y)) (congrArg₂ (fun x y => Ideal.logistic (x + _) * y) (e b) (e u)))

theorem o7 : out0_A_7 c i b3 k3 b4 k4 b5 k5 b6 k6 b7 k7 b8 k8 b9 k9 b10 k10 b11 k11 hc0 hc1 hc2 x0 x1 x2 x3 x4 x5 (ix2 p l) = mg (x2 (ix2 p l)) (x3 (ix2 p l)) (x4 (ix2 p l)) (k0_pay2 (F := Ideal) (k0_pay1 (F := Ideal)) x0 x1 (ix2 p l)) (x5 (ix2 0 ⟨l, by omega⟩)) (x5 (ix2 0 ⟨1024 + l, by omega⟩)) := by
  unfold out0_A_7
  refine Eq.trans (congrFun (View.read_writes_eq_canon _ _ _ fun _ => cover0_A_7 ..) _) ?_
  refine View.canon_eq_of_allAt _ _ _ (cover0_A_7 ..) ?_
  unfold kernelRun0_A
  dsimp only
  try sl_unfold_words
  simp only [View.readAt_eq_ld, Memref.IsWhole.read_unread, View.readCov_fill (s := S544x1024) (off := ![0, 0]) _ _ _ _ _ z2, View.ld_unit_zero (S := S544x1024) zz, View.ld_unit_zero (S := S1024x1024) zz, View.ld_unit_zero (S := S1x2048) zz, shapeCast_self]
  exact View.allAt_cons_unit _ _ _ _ _ (s7 x5 p l 272 _ x2 x3 x4 _) (View.allAt_cons_unit _ _ _ _ _ (s7 x5 p l 0 _ x2 x3 x4 _) (View.allAt_nil _ _))

theorem wb6 (t : Fin cfg0.N) (i : Fin 544) (j : Fin 1024) : (dats m 0 c).after 6 t (ix2 i j) = U m c (t.val * 544 + i) j := by
  rw [after0_6, outsAt0]
  dsimp only
  rw [o6, prod_at]

theorem wb7 (t : Fin cfg0.N) (i : Fin 544) (j : Fin 1024) : (dats m 0 c).after 7 t (ix2 i j) = M m c (t.val * 544 + i) j := by
  rw [after0_7, outsAt0]
  dsimp only
  rw [o7, prod_at, ib2, ib3, ib4, ib5, ib5]
  rfl

theorem fin6 : (dats m 0 c).arrAt 6 cfg0.N = (fill (U m c) : S8704x1024.Idx → EReal) := by
  refine (dats m 0 c).arrAt_eq_of_covers 6 _ (by decide +kernel) fun t hf y => ?_
  blk_simp
  obtain ⟨i, j, rfl⟩ : ∃ (i : Fin 544) (j : Fin 1024), y = ix2 i j := ⟨y 0, y 1, eq_ix2 y⟩
  refine (wb6 t i j).trans ?_
  exact (fill_at (p := t.val * 544 + i.val) (q := j.val) _ (by constructor <;> blk_simp [(idx t)])).symm

theorem fin7 : (dats m 0 c).arrAt 7 cfg0.N = (fill (M m c) : S8704x1024.Idx → EReal) := by
  refine (dats m 0 c).arrAt_eq_of_covers 7 _ (by decide +kernel) fun t hf y => ?_
  blk_simp
  obtain ⟨i, j, rfl⟩ : ∃ (i : Fin 544) (j : Fin 1024), y = ix2 i j := ⟨y 0, y 1, eq_ix2 y⟩
  refine (wb7 t i j).trans ?_
  exact (fill_at (p := t.val * 544 + i.val) (q := j.val) (M m c) (by constructor <;> blk_simp [(idx t)])).symm

end Cert.Kernel22Ideal.Val

namespace Cert.Reference22Ideal.Val

open Idealize.ShloMosaic Cert.Reference22Ideal Cert.Reference22Ideal.Gen Cert.Reference22Ideal.Read Cert.Prod

variable (x0 : FVec Ideal S8704x1024 .bf16) (x1 : FVec Ideal S1024x1024 .bf16) (x2 : FVec Ideal S8704x7168 .f32) (x3 : FVec Ideal S8704x1024 .f32) (x4 : FVec Ideal S1x2048 .f32) (i : Fin 8704)

theorem v2_at (l : Fin 1024) : val_main_v2 (F := Ideal) x0 x1 (ix2 i l) = nn (ent x0) (ent x1) 1024 i l := by
  refine Eq.trans ?_ (nn_full x0 x1 i l).symm
  unfold val_main_v2 val_main_v1 val_main_v0
  pointwise

theorem v11_at (l : Fin 2048) : val_main_v11 (F := Ideal) x2 x4 (ix2 i l) = Ideal.logistic (ent x2 i (5 * 1024 + l) + ent x4 0 l) := by
  have h : ent x4 0 l = x4 (ix2 0 l) := ent_at x4 0 l
  rw [← logistic_eq, ent_at x2 i ⟨5 * 1024 + l, by omega⟩, h]
  unfold val_main_v11 val_main_v10 val_main_v9 val_main_v8 val_main_v7 val_main_v6 val_main_v5 val_main_v4 val_main_v3 val_main_cst val_main_cst_0
  pointwise

theorem v17_at (l : Fin 1024) : val_main_v17 (F := Ideal) x0 x1 x2 x3 x4 (ix2 i l) = Ideal.logistic (ent x2 i (5 * 1024 + l) + ent x4 0 l) * ent x3 i l + Ideal.logistic (ent x2 i (6 * 1024 + l) + ent x4 0 (1024 + l)) * nn (ent x0) (ent x1) 1024 i l := by
  have a := v11_at x2 x4 i ⟨l, by omega⟩
  have b := v11_at x2 x4 i ⟨1024 + l, by omega⟩
  rw [← v2_at, ent_at x3 i l]
  rw [show 6 * 1024 + (l : ℕ) = 5 * 1024 + (1024 + l) by omega]
  refine Eq.trans ?_ (congrArg₂ (fun s t => s * x3 (ix2 i l) + HMul.hMul (α := EReal) (β := EReal) t (val_main_v2 (F := Ideal) x0 x1 (ix2 i l))) a b)
  unfold val_main_v17 val_main_v16 val_main_v15 val_main_v14 val_main_v13 val_main_v12
  generalize val_main_v11 (F := Ideal) x2 x4 = s
  generalize val_main_v2 (F := Ideal) x0 x1 = u
  pointwise

end Cert.Reference22Ideal.Val

namespace Cert.Kernel22Ideal.Val

open Idealize.ShloMosaic Idealize.ShloMosaic.TcCoe Idealize.SL.Sem
open Cert.Kernel22Ideal Cert.Kernel22Ideal.Gen Cert.Prod

/-- The call's two results are the reference's, whatever its arguments. -/
theorem algebraic : Cert.algebraic_Kernel22Ideal_Reference22Ideal := by
  intro m g m' g' _ ha
  refine ⟨fun c => (dats m 0 c).arrAt 6 cfg0.N, fun c => (dats m 0 c).arrAt 7 cfg0.N, Value.run_blocks m g, ?_⟩
  refine (θ_run _ _ _).mono (fun r h c => ?_) (Cert.Reference22Ideal.Value.run m' g')
  obtain ⟨e0, e1, k⟩ := h c
  obtain ⟨a0, a1, a2, a3, a4⟩ := ha c
  rw [Cert.Reference22Ideal.Read.val_main_v2_eq, a0, a1] at e0
  rw [Cert.Reference22Ideal.Read.val_main_v17_eq, a0, a1, a2, a3, a4] at e1
  refine ⟨e0.trans (Eq.trans (funext fun z => ?_) fin6.symm), e1.trans (Eq.trans (funext fun z => ?_) fin7.symm), k⟩
  all_goals obtain ⟨i, l, rfl⟩ : ∃ (i : Fin 8704) (l : Fin 1024), z = ix2 i l := ⟨z 0, z 1, eq_ix2 z⟩
  · exact Cert.Reference22Ideal.Val.v2_at _ _ i l
  · exact Cert.Reference22Ideal.Val.v17_at _ _ _ _ _ i l

end Cert.Kernel22Ideal.Val
-- ==== Proof.lean ====
/- The frames of the calls and of their references, the idealization steps, and the equality of their results. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Alg
public import proofs.«01_k».proof.Proof.K2
public import proofs.«01_k».proof.Proof.K3
public import proofs.«01_k».proof.Proof.K4
public import proofs.«01_k».proof.Proof.K5
public import proofs.«01_k».proof.Proof.K6
public import proofs.«01_k».proof.Proof.K7
public import proofs.«01_k».proof.Proof.K8
public import proofs.«01_k».proof.Proof.K9
public import proofs.«01_k».proof.Proof.K10
public import proofs.«01_k».proof.Proof.K11
public import proofs.«01_k».proof.Proof.K12
public import proofs.«01_k».proof.Proof.K13
public import proofs.«01_k».proof.Proof.K14
public import proofs.«01_k».proof.Proof.K15
public import proofs.«01_k».proof.Proof.K16
public import proofs.«01_k».proof.Proof.K17
public import proofs.«01_k».proof.Proof.K19
public import proofs.«01_k».proof.Proof.K20
public import proofs.«01_k».proof.Proof.K21
public import proofs.«01_k».proof.Proof.K22
public import Idealize.ShloMosaic.Lib.Claim
public import Idealize.ShloMosaic.Adequacy
public import Idealize.ShloMosaic.Init

@[expose] public section

noncomputable section

namespace Cert.Proof

open Idealize.ShloMosaic Idealize.SL.Sem Cert.Kernel

/-! The references launch no kernel: each runs, keeps its arguments and leaves every counter at zero. -/

theorem reference_frame : Cert.quiescent_ReferenceIdeal := by
  intro m g _
  hlo_run
  · simp
  exact sem_eq_zero_of_no_sems (by decide) _

theorem reference2_frame : Cert.quiescent_Reference2Ideal := by
  intro m g _
  hlo_run
  · simp
  exact sem_eq_zero_of_no_sems (by decide) _

theorem reference3_frame : Cert.quiescent_Reference3Ideal := by
  intro m g _
  hlo_run
  · simp
  exact sem_eq_zero_of_no_sems (by decide) _

theorem reference4_frame : Cert.quiescent_Reference4Ideal := by
  intro m g _
  hlo_run
  · simp
  exact sem_eq_zero_of_no_sems (by decide) _

theorem reference5_frame : Cert.quiescent_Reference5Ideal := by
  intro m g _
  hlo_run
  · simp
  exact sem_eq_zero_of_no_sems (by decide) _

theorem reference6_frame : Cert.quiescent_Reference6Ideal := by
  intro m g _
  hlo_run
  · simp
  exact sem_eq_zero_of_no_sems (by decide) _

theorem reference7_frame : Cert.quiescent_Reference7Ideal := by
  intro m g _
  hlo_run
  · simp
  exact sem_eq_zero_of_no_sems (by decide) _

theorem reference8_frame : Cert.quiescent_Reference8Ideal := by
  intro m g _
  hlo_run
  · simp
  exact sem_eq_zero_of_no_sems (by decide) _

theorem reference9_frame : Cert.quiescent_Reference9Ideal := by
  intro m g _
  hlo_run
  · simp
  exact sem_eq_zero_of_no_sems (by decide) _

theorem reference10_frame : Cert.quiescent_Reference10Ideal := by
  intro m g _
  hlo_run
  · simp
  exact sem_eq_zero_of_no_sems (by decide) _

theorem reference11_frame : Cert.quiescent_Reference11Ideal := by
  intro m g _
  hlo_run
  · simp
  exact sem_eq_zero_of_no_sems (by decide) _

theorem reference12_frame : Cert.quiescent_Reference12Ideal := by
  intro m g _
  hlo_run
  · simp
  exact sem_eq_zero_of_no_sems (by decide) _

theorem reference13_frame : Cert.quiescent_Reference13Ideal := by
  intro m g _
  hlo_run
  · simp
  exact sem_eq_zero_of_no_sems (by decide) _

theorem reference14_frame : Cert.quiescent_Reference14Ideal := by
  intro m g _
  hlo_run
  · simp
  exact sem_eq_zero_of_no_sems (by decide) _

theorem reference15_frame : Cert.quiescent_Reference15Ideal := by
  intro m g _
  hlo_run
  · simp
  exact sem_eq_zero_of_no_sems (by decide) _

theorem reference16_frame : Cert.quiescent_Reference16Ideal := by
  intro m g _
  hlo_run
  · simp
  exact sem_eq_zero_of_no_sems (by decide) _

theorem reference17_frame : Cert.quiescent_Reference17Ideal := by
  intro m g _
  hlo_run
  · simp
  exact sem_eq_zero_of_no_sems (by decide) _

theorem reference19_frame : Cert.quiescent_Reference19Ideal := by
  intro m g _
  hlo_run
  · simp
  exact sem_eq_zero_of_no_sems (by decide) _

theorem reference20_frame : Cert.quiescent_Reference20Ideal := by
  intro m g _
  hlo_run
  · simp
  exact sem_eq_zero_of_no_sems (by decide) _

theorem reference21_frame : Cert.quiescent_Reference21Ideal := by
  intro m g _
  hlo_run
  · simp
  exact sem_eq_zero_of_no_sems (by decide) _

theorem reference22_frame : Cert.quiescent_Reference22Ideal := by
  intro m g _
  hlo_run
  · simp
  exact sem_eq_zero_of_no_sems (by decide) _

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Pre_finite.Gen.facts, Pre_finite2.Gen.facts, Pre_finite3.Gen.facts, Pre_finite16.Gen.facts, Pre_finite17.Gen.facts,
  fun m g _ => Kernel.Gen.frame m g,
  fun m g _ => KernelIdeal.Gen.frame m g,
  fun m g _ => KernelIdeal.Gen.frame m g,
  reference_frame,
  fun m g _ => reference_frame m g trivial,
  fun m g _ => Kernel2.Gen.frame m g,
  fun m g _ => Kernel2Ideal.Gen.frame m g,
  fun m g _ => Kernel2Ideal.Gen.frame m g,
  reference2_frame,
  fun m g _ => reference2_frame m g trivial,
  fun m g _ => Kernel3.Gen.frame m g,
  fun m g _ => Kernel3Ideal.Gen.frame m g,
  fun m g _ => Kernel3Ideal.Gen.frame m g,
  reference3_frame,
  fun m g _ => reference3_frame m g trivial,
  fun m g _ => Kernel4.Gen.frame m g,
  fun m g _ => Kernel4Ideal.Gen.frame m g,
  reference4_frame,
  fun m g _ => Kernel5.Gen.frame m g,
  fun m g _ => Kernel5Ideal.Gen.frame m g,
  reference5_frame,
  fun m g _ => Kernel6.Gen.frame m g,
  fun m g _ => Kernel6Ideal.Gen.frame m g,
  reference6_frame,
  fun m g _ => Kernel7.Gen.frame m g,
  fun m g _ => Kernel7Ideal.Gen.frame m g,
  reference7_frame,
  fun m g _ => Kernel8.Gen.frame m g,
  fun m g _ => Kernel8Ideal.Gen.frame m g,
  reference8_frame,
  fun m g _ => Kernel9.Gen.frame m g,
  fun m g _ => Kernel9Ideal.Gen.frame m g,
  reference9_frame,
  fun m g _ => Kernel10.Gen.frame m g,
  fun m g _ => Kernel10Ideal.Gen.frame m g,
  reference10_frame,
  fun m g _ => Kernel11.Gen.frame m g,
  fun m g _ => Kernel11Ideal.Gen.frame m g,
  reference11_frame,
  fun m g _ => Kernel12.Gen.frame m g,
  fun m g _ => Kernel12Ideal.Gen.frame m g,
  reference12_frame,
  fun m g _ => Kernel13.Gen.frame m g,
  fun m g _ => Kernel13Ideal.Gen.frame m g,
  reference13_frame,
  fun m g _ => Kernel14.Gen.frame m g,
  fun m g _ => Kernel14Ideal.Gen.frame m g,
  reference14_frame,
  fun m g _ => Kernel15.Gen.frame m g,
  fun m g _ => Kernel15Ideal.Gen.frame m g,
  reference15_frame,
  fun m g _ => Kernel16.Gen.frame m g,
  fun m g _ => Kernel16Ideal.Gen.frame m g,
  fun m g _ => Kernel16Ideal.Gen.frame m g,
  reference16_frame,
  fun m g _ => reference16_frame m g trivial,
  fun m g _ => Kernel17.Gen.frame m g,
  fun m g _ => Kernel17Ideal.Gen.frame m g,
  fun m g _ => Kernel17Ideal.Gen.frame m g,
  reference17_frame,
  fun m g _ => reference17_frame m g trivial,
  fun m g _ => Kernel19.Gen.frame m g,
  fun m g _ => Kernel19Ideal.Gen.frame m g,
  reference19_frame,
  fun m g _ => Kernel20.Gen.frame m g,
  fun m g _ => Kernel20Ideal.Gen.frame m g,
  reference20_frame,
  fun m g _ => Kernel21.Gen.frame m g,
  fun m g _ => Kernel21Ideal.Gen.frame m g,
  reference21_frame,
  fun m g _ => Kernel22.Gen.frame m g,
  fun m g _ => Kernel22Ideal.Gen.frame m g,
  reference22_frame,
  IdealRules.named_const.statement KernelIdeal.κ "mask" .f32 0xF149F2CA#32 ⊥ rfl,
  KernelIdeal.Val.algebraic,
  trivial,
  Kernel2Ideal.Val.algebraic,
  trivial,
  Kernel3Ideal.Val.algebraic,
  trivial,
  Kernel4Ideal.Val.algebraic,
  trivial,
  Kernel5Ideal.Val.algebraic,
  trivial,
  Kernel6Ideal.Val.algebraic,
  trivial,
  Kernel7Ideal.Val.algebraic,
  trivial,
  Kernel8Ideal.Val.algebraic,
  trivial,
  Kernel9Ideal.Val.algebraic,
  trivial,
  Kernel10Ideal.Val.algebraic,
  trivial,
  Kernel11Ideal.Val.algebraic,
  trivial,
  Kernel12Ideal.Val.algebraic,
  trivial,
  Kernel13Ideal.Val.algebraic,
  trivial,
  Kernel14Ideal.Val.algebraic,
  trivial,
  Kernel15Ideal.Val.algebraic,
  trivial,
  Kernel16Ideal.Val.algebraic,
  trivial,
  Kernel17Ideal.Val.algebraic,
  trivial,
  Kernel19Ideal.Val.algebraic,
  trivial,
  Kernel20Ideal.Val.algebraic,
  trivial,
  Kernel21Ideal.Val.algebraic,
  trivial,
  Kernel22Ideal.Val.algebraic⟩

end Cert.Proof

end
